-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_Br (m : (ℓ : Loc Cert.Br.nD Cert.Br.τ Cert.Br.sig) → Buf (Elt Bits) ℓ) : Prop :=
  True

def Pre_BrIdeal (m : (ℓ : Loc Cert.BrIdeal.nD Cert.BrIdeal.τ Cert.BrIdeal.sig) → Buf (Elt Ideal) ℓ) : Prop :=
  True

def Pre_BrRefIdeal (m : (ℓ : Loc Cert.BrRefIdeal.nD Cert.BrRefIdeal.τ Cert.BrRefIdeal.sig) → Buf (Elt Ideal) ℓ) : Prop :=
  True

def Pre_BrDw (m : (ℓ : Loc Cert.BrDw.nD Cert.BrDw.τ Cert.BrDw.sig) → Buf (Elt Bits) ℓ) : Prop :=
  True

def Pre_BrDwIdeal (m : (ℓ : Loc Cert.BrDwIdeal.nD Cert.BrDwIdeal.τ Cert.BrDwIdeal.sig) → Buf (Elt Ideal) ℓ) : Prop :=
  True

def Pre_BrDwRefIdeal (m : (ℓ : Loc Cert.BrDwRefIdeal.nD Cert.BrDwRefIdeal.τ Cert.BrDwRefIdeal.sig) → Buf (Elt Ideal) ℓ) : Prop :=
  True

def Pre_BrDx (m : (ℓ : Loc Cert.BrDx.nD Cert.BrDx.τ Cert.BrDx.sig) → Buf (Elt Bits) ℓ) : Prop :=
  True

def Pre_BrDxIdeal (m : (ℓ : Loc Cert.BrDxIdeal.nD Cert.BrDxIdeal.τ Cert.BrDxIdeal.sig) → Buf (Elt Ideal) ℓ) : Prop :=
  True

def Pre_BrDxRefIdeal (m : (ℓ : Loc Cert.BrDxRefIdeal.nD Cert.BrDxRefIdeal.τ Cert.BrDxRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdRefIdeal (m : (ℓ : Loc Cert.LnBwdRefIdeal.nD Cert.LnBwdRefIdeal.τ Cert.LnBwdRefIdeal.sig) → Buf (Elt Ideal) ℓ) : Prop :=
  True

def Pre_SsdConv (m : (ℓ : Loc Cert.SsdConv.nD Cert.SsdConv.τ Cert.SsdConv.sig) → Buf (Elt Bits) ℓ) : Prop :=
  True

def Pre_SsdConvIdeal (m : (ℓ : Loc Cert.SsdConvIdeal.nD Cert.SsdConvIdeal.τ Cert.SsdConvIdeal.sig) → Buf (Elt Ideal) ℓ) : Prop :=
  True

def Pre_SsdConvRefIdeal (m : (ℓ : Loc Cert.SsdConvRefIdeal.nD Cert.SsdConvRefIdeal.τ Cert.SsdConvRefIdeal.sig) → Buf (Elt Ideal) ℓ) : Prop :=
  True

def Pre_GdnConv (m : (ℓ : Loc Cert.GdnConv.nD Cert.GdnConv.τ Cert.GdnConv.sig) → Buf (Elt Bits) ℓ) : Prop :=
  True

def Pre_GdnConvIdeal (m : (ℓ : Loc Cert.GdnConvIdeal.nD Cert.GdnConvIdeal.τ Cert.GdnConvIdeal.sig) → Buf (Elt Ideal) ℓ) : Prop :=
  True

def Pre_GdnConvRefIdeal (m : (ℓ : Loc Cert.GdnConvRefIdeal.nD Cert.GdnConvRefIdeal.τ Cert.GdnConvRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1)
      ∧ r.2.mem ((c.tc : Thread Cert.FfnUpDx.nD Cert.FfnUpDx.τ).loc Cert.FfnUpDx.main_arg2) = m ((c.tc : Thread Cert.FfnUpDx.nD Cert.FfnUpDx.τ).loc Cert.FfnUpDx.main_arg2))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
      ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1)
      ∧ r.2.mem ((c.tc : Thread Cert.FfnUpDxRefIdeal.nD Cert.FfnUpDxRefIdeal.τ).loc Cert.FfnUpDxRefIdeal.main_arg2) = m ((c.tc : Thread Cert.FfnUpDxRefIdeal.nD Cert.FfnUpDxRefIdeal.τ).loc Cert.FfnUpDxRefIdeal.main_arg2))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_Br [hBr : Cert.Br.Facts] : Prop :=
  ∀ (m : (ℓ : Loc Cert.Br.nD Cert.Br.τ Cert.Br.sig) → Buf (Elt Bits) ℓ) (g : Dev Cert.Br.nD → PrngReg), Pre_Br m →
    θ_run (Cert.Br.defs (F := Bits)) (onTc (τ := Cert.Br.τ) (Cert.Br.main (F := Bits))) ⟨m, fun _ => 0, g⟩ (fun r => (∀ c : Dev Cert.Br.nD,
      r.2.mem ((c.tc : Thread Cert.Br.nD Cert.Br.τ).loc Cert.Br.main_arg0) = m ((c.tc : Thread Cert.Br.nD Cert.Br.τ).loc Cert.Br.main_arg0)
      ∧ r.2.mem ((c.tc : Thread Cert.Br.nD Cert.Br.τ).loc Cert.Br.main_arg1) = m ((c.tc : Thread Cert.Br.nD Cert.Br.τ).loc Cert.Br.main_arg1))
      ∧ r.2.sem = fun _ => 0)

def quiescent_BrIdeal [hBrIdeal : Cert.BrIdeal.Facts] : Prop :=
  ∀ (m : (ℓ : Loc Cert.BrIdeal.nD Cert.BrIdeal.τ Cert.BrIdeal.sig) → Buf (Elt Ideal) ℓ) (g : Dev Cert.BrIdeal.nD → PrngReg), Pre_BrIdeal m →
    θ_run (Cert.BrIdeal.defs (F := Ideal)) (onTc (τ := Cert.BrIdeal.τ) (Cert.BrIdeal.main (F := Ideal))) ⟨m, fun _ => 0, g⟩ (fun r => (∀ c : Dev Cert.BrIdeal.nD,
      r.2.mem ((c.tc : Thread Cert.BrIdeal.nD Cert.BrIdeal.τ).loc Cert.BrIdeal.main_arg0) = m ((c.tc : Thread Cert.BrIdeal.nD Cert.BrIdeal.τ).loc Cert.BrIdeal.main_arg0)
      ∧ r.2.mem ((c.tc : Thread Cert.BrIdeal.nD Cert.BrIdeal.τ).loc Cert.BrIdeal.main_arg1) = m ((c.tc : Thread Cert.BrIdeal.nD Cert.BrIdeal.τ).loc Cert.BrIdeal.main_arg1))
      ∧ r.2.sem = fun _ => 0)

def quiescent_BrRefIdeal [hBrRefIdeal : Cert.BrRefIdeal.Facts] : Prop :=
  ∀ (m : (ℓ : Loc Cert.BrRefIdeal.nD Cert.BrRefIdeal.τ Cert.BrRefIdeal.sig) → Buf (Elt Ideal) ℓ) (g : Dev Cert.BrRefIdeal.nD → PrngReg), Pre_BrRefIdeal m →
    θ_run (Cert.BrRefIdeal.defs (F := Ideal)) (onTc (τ := Cert.BrRefIdeal.τ) (Cert.BrRefIdeal.main (F := Ideal))) ⟨m, fun _ => 0, g⟩ (fun r => (∀ c : Dev Cert.BrRefIdeal.nD,
      r.2.mem ((c.tc : Thread Cert.BrRefIdeal.nD Cert.BrRefIdeal.τ).loc Cert.BrRefIdeal.main_arg0) = m ((c.tc : Thread Cert.BrRefIdeal.nD Cert.BrRefIdeal.τ).loc Cert.BrRefIdeal.main_arg0)
      ∧ r.2.mem ((c.tc : Thread Cert.BrRefIdeal.nD Cert.BrRefIdeal.τ).loc Cert.BrRefIdeal.main_arg1) = m ((c.tc : Thread Cert.BrRefIdeal.nD Cert.BrRefIdeal.τ).loc Cert.BrRefIdeal.main_arg1))
      ∧ r.2.sem = fun _ => 0)

def quiescent_BrDw [hBrDw : Cert.BrDw.Facts] : Prop :=
  ∀ (m : (ℓ : Loc Cert.BrDw.nD Cert.BrDw.τ Cert.BrDw.sig) → Buf (Elt Bits) ℓ) (g : Dev Cert.BrDw.nD → PrngReg), Pre_BrDw m →
    θ_run (Cert.BrDw.defs (F := Bits)) (onTc (τ := Cert.BrDw.τ) (Cert.BrDw.main (F := Bits))) ⟨m, fun _ => 0, g⟩ (fun r => (∀ c : Dev Cert.BrDw.nD,
      r.2.mem ((c.tc : Thread Cert.BrDw.nD Cert.BrDw.τ).loc Cert.BrDw.main_arg0) = m ((c.tc : Thread Cert.BrDw.nD Cert.BrDw.τ).loc Cert.BrDw.main_arg0)
      ∧ r.2.mem ((c.tc : Thread Cert.BrDw.nD Cert.BrDw.τ).loc Cert.BrDw.main_arg1) = m ((c.tc : Thread Cert.BrDw.nD Cert.BrDw.τ).loc Cert.BrDw.main_arg1))
      ∧ r.2.sem = fun _ => 0)

def quiescent_BrDwIdeal [hBrDwIdeal : Cert.BrDwIdeal.Facts] : Prop :=
  ∀ (m : (ℓ : Loc Cert.BrDwIdeal.nD Cert.BrDwIdeal.τ Cert.BrDwIdeal.sig) → Buf (Elt Ideal) ℓ) (g : Dev Cert.BrDwIdeal.nD → PrngReg), Pre_BrDwIdeal m →
    θ_run (Cert.BrDwIdeal.defs (F := Ideal)) (onTc (τ := Cert.BrDwIdeal.τ) (Cert.BrDwIdeal.main (F := Ideal))) ⟨m, fun _ => 0, g⟩ (fun r => (∀ c : Dev Cert.BrDwIdeal.nD,
      r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
      ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ r.2.sem = fun _ => 0)

def quiescent_BrDwRefIdeal [hBrDwRefIdeal : Cert.BrDwRefIdeal.Facts] : Prop :=
  ∀ (m : (ℓ : Loc Cert.BrDwRefIdeal.nD Cert.BrDwRefIdeal.τ Cert.BrDwRefIdeal.sig) → Buf (Elt Ideal) ℓ) (g : Dev Cert.BrDwRefIdeal.nD → PrngReg), Pre_BrDwRefIdeal m →
    θ_run (Cert.BrDwRefIdeal.defs (F := Ideal)) (onTc (τ := Cert.BrDwRefIdeal.τ) (Cert.BrDwRefIdeal.main (F := Ideal))) ⟨m, fun _ => 0, g⟩ (fun r => (∀ c : Dev Cert.BrDwRefIdeal.nD,
      r.2.mem ((c.tc : Thread Cert.BrDwRefIdeal.nD Cert.BrDwRefIdeal.τ).loc Cert.BrDwRefIdeal.main_arg0) = m ((c.tc : Thread Cert.BrDwRefIdeal.nD Cert.BrDwRefIdeal.τ).loc Cert.BrDwRefIdeal.main_arg0)
      ∧ r.2.mem ((c.tc : Thread Cert.BrDwRefIdeal.nD Cert.BrDwRefIdeal.τ).loc Cert.BrDwRefIdeal.main_arg1) = m ((c.tc : Thread Cert.BrDwRefIdeal.nD Cert.BrDwRefIdeal.τ).loc Cert.BrDwRefIdeal.main_arg1))
      ∧ r.2.sem = fun _ => 0)

def quiescent_BrDx [hBrDx : Cert.BrDx.Facts] : Prop :=
  ∀ (m : (ℓ : Loc Cert.BrDx.nD Cert.BrDx.τ Cert.BrDx.sig) → Buf (Elt Bits) ℓ) (g : Dev Cert.BrDx.nD → PrngReg), Pre_BrDx m →
    θ_run (Cert.BrDx.defs (F := Bits)) (onTc (τ := Cert.BrDx.τ) (Cert.BrDx.main (F := Bits))) ⟨m, fun _ => 0, g⟩ (fun r => (∀ c : Dev Cert.BrDx.nD,
      r.2.mem ((c.tc : Thread Cert.BrDx.nD Cert.BrDx.τ).loc Cert.BrDx.main_arg0) = m ((c.tc : Thread Cert.BrDx.nD Cert.BrDx.τ).loc Cert.BrDx.main_arg0)
      ∧ r.2.mem ((c.tc : Thread Cert.BrDx.nD Cert.BrDx.τ).loc Cert.BrDx.main_arg1) = m ((c.tc : Thread Cert.BrDx.nD Cert.BrDx.τ).loc Cert.BrDx.main_arg1))
      ∧ r.2.sem = fun _ => 0)

def quiescent_BrDxIdeal [hBrDxIdeal : Cert.BrDxIdeal.Facts] : Prop :=
  ∀ (m : (ℓ : Loc Cert.BrDxIdeal.nD Cert.BrDxIdeal.τ Cert.BrDxIdeal.sig) → Buf (Elt Ideal) ℓ) (g : Dev Cert.BrDxIdeal.nD → PrngReg), Pre_BrDxIdeal m →
    θ_run (Cert.BrDxIdeal.defs (F := Ideal)) (onTc (τ := Cert.BrDxIdeal.τ) (Cert.BrDxIdeal.main (F := Ideal))) ⟨m, fun _ => 0, g⟩ (fun r => (∀ c : Dev Cert.BrDxIdeal.nD,
      r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
      ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ r.2.sem = fun _ => 0)

def quiescent_BrDxRefIdeal [hBrDxRefIdeal : Cert.BrDxRefIdeal.Facts] : Prop :=
  ∀ (m : (ℓ : Loc Cert.BrDxRefIdeal.nD Cert.BrDxRefIdeal.τ Cert.BrDxRefIdeal.sig) → Buf (Elt Ideal) ℓ) (g : Dev Cert.BrDxRefIdeal.nD → PrngReg), Pre_BrDxRefIdeal m →
    θ_run (Cert.BrDxRefIdeal.defs (F := Ideal)) (onTc (τ := Cert.BrDxRefIdeal.τ) (Cert.BrDxRefIdeal.main (F := Ideal))) ⟨m, fun _ => 0, g⟩ (fun r => (∀ c : Dev Cert.BrDxRefIdeal.nD,
      r.2.mem ((c.tc : Thread Cert.BrDxRefIdeal.nD Cert.BrDxRefIdeal.τ).loc Cert.BrDxRefIdeal.main_arg0) = m ((c.tc : Thread Cert.BrDxRefIdeal.nD Cert.BrDxRefIdeal.τ).loc Cert.BrDxRefIdeal.main_arg0)
      ∧ r.2.mem ((c.tc : Thread Cert.BrDxRefIdeal.nD Cert.BrDxRefIdeal.τ).loc Cert.BrDxRefIdeal.main_arg1) = m ((c.tc : Thread Cert.BrDxRefIdeal.nD Cert.BrDxRefIdeal.τ).loc Cert.BrDxRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_SsdConv [hSsdConv : Cert.SsdConv.Facts] : Prop :=
  ∀ (m : (ℓ : Loc Cert.SsdConv.nD Cert.SsdConv.τ Cert.SsdConv.sig) → Buf (Elt Bits) ℓ) (g : Dev Cert.SsdConv.nD → PrngReg), Pre_SsdConv m →
    θ_run (Cert.SsdConv.defs (F := Bits)) (onTc (τ := Cert.SsdConv.τ) (Cert.SsdConv.main (F := Bits))) ⟨m, fun _ => 0, g⟩ (fun r => (∀ c : Dev Cert.SsdConv.nD,
      r.2.mem ((c.tc : Thread Cert.SsdConv.nD Cert.SsdConv.τ).loc Cert.SsdConv.main_arg0) = m ((c.tc : Thread Cert.SsdConv.nD Cert.SsdConv.τ).loc Cert.SsdConv.main_arg0)
      ∧ r.2.mem ((c.tc : Thread Cert.SsdConv.nD Cert.SsdConv.τ).loc Cert.SsdConv.main_arg1) = m ((c.tc : Thread Cert.SsdConv.nD Cert.SsdConv.τ).loc Cert.SsdConv.main_arg1)
      ∧ r.2.mem ((c.tc : Thread Cert.SsdConv.nD Cert.SsdConv.τ).loc Cert.SsdConv.main_arg2) = m ((c.tc : Thread Cert.SsdConv.nD Cert.SsdConv.τ).loc Cert.SsdConv.main_arg2))
      ∧ r.2.sem = fun _ => 0)

def quiescent_SsdConvIdeal [hSsdConvIdeal : Cert.SsdConvIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg), Pre_SsdConvIdeal m →
    θ_run (Cert.SsdConvIdeal.defs (F := Ideal)) (onTc (τ := Cert.SsdConvIdeal.τ) (Cert.SsdConvIdeal.main (F := Ideal))) ⟨m, fun _ => 0, g⟩ (fun r => (∀ c : Dev Cert.SsdConvIdeal.nD,
      r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
      ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
      ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2))
      ∧ r.2.sem = fun _ => 0)

def quiescent_SsdConvRefIdeal [hSsdConvRefIdeal : Cert.SsdConvRefIdeal.Facts] : Prop :=
  ∀ (m : (ℓ : Loc Cert.SsdConvRefIdeal.nD Cert.SsdConvRefIdeal.τ Cert.SsdConvRefIdeal.sig) → Buf (Elt Ideal) ℓ) (g : Dev Cert.SsdConvRefIdeal.nD → PrngReg), Pre_SsdConvRefIdeal m →
    θ_run (Cert.SsdConvRefIdeal.defs (F := Ideal)) (onTc (τ := Cert.SsdConvRefIdeal.τ) (Cert.SsdConvRefIdeal.main (F := Ideal))) ⟨m, fun _ => 0, g⟩ (fun r => (∀ c : Dev Cert.SsdConvRefIdeal.nD,
      r.2.mem ((c.tc : Thread Cert.SsdConvRefIdeal.nD Cert.SsdConvRefIdeal.τ).loc Cert.SsdConvRefIdeal.main_arg0) = m ((c.tc : Thread Cert.SsdConvRefIdeal.nD Cert.SsdConvRefIdeal.τ).loc Cert.SsdConvRefIdeal.main_arg0)
      ∧ r.2.mem ((c.tc : Thread Cert.SsdConvRefIdeal.nD Cert.SsdConvRefIdeal.τ).loc Cert.SsdConvRefIdeal.main_arg1) = m ((c.tc : Thread Cert.SsdConvRefIdeal.nD Cert.SsdConvRefIdeal.τ).loc Cert.SsdConvRefIdeal.main_arg1)
      ∧ r.2.mem ((c.tc : Thread Cert.SsdConvRefIdeal.nD Cert.SsdConvRefIdeal.τ).loc Cert.SsdConvRefIdeal.main_arg2) = m ((c.tc : Thread Cert.SsdConvRefIdeal.nD Cert.SsdConvRefIdeal.τ).loc Cert.SsdConvRefIdeal.main_arg2))
      ∧ r.2.sem = fun _ => 0)

def quiescent_GdnConv [hGdnConv : Cert.GdnConv.Facts] : Prop :=
  ∀ (m : (ℓ : Loc Cert.GdnConv.nD Cert.GdnConv.τ Cert.GdnConv.sig) → Buf (Elt Bits) ℓ) (g : Dev Cert.GdnConv.nD → PrngReg), Pre_GdnConv m →
    θ_run (Cert.GdnConv.defs (F := Bits)) (onTc (τ := Cert.GdnConv.τ) (Cert.GdnConv.main (F := Bits))) ⟨m, fun _ => 0, g⟩ (fun r => (∀ c : Dev Cert.GdnConv.nD,
      r.2.mem ((c.tc : Thread Cert.GdnConv.nD Cert.GdnConv.τ).loc Cert.GdnConv.main_arg0) = m ((c.tc : Thread Cert.GdnConv.nD Cert.GdnConv.τ).loc Cert.GdnConv.main_arg0)
      ∧ r.2.mem ((c.tc : Thread Cert.GdnConv.nD Cert.GdnConv.τ).loc Cert.GdnConv.main_arg1) = m ((c.tc : Thread Cert.GdnConv.nD Cert.GdnConv.τ).loc Cert.GdnConv.main_arg1))
      ∧ r.2.sem = fun _ => 0)

def quiescent_GdnConvIdeal [hGdnConvIdeal : Cert.GdnConvIdeal.Facts] : Prop :=
  ∀ (m : (ℓ : Loc Cert.GdnConvIdeal.nD Cert.GdnConvIdeal.τ Cert.GdnConvIdeal.sig) → Buf (Elt Ideal) ℓ) (g : Dev Cert.GdnConvIdeal.nD → PrngReg), Pre_GdnConvIdeal m →
    θ_run (Cert.GdnConvIdeal.defs (F := Ideal)) (onTc (τ := Cert.GdnConvIdeal.τ) (Cert.GdnConvIdeal.main (F := Ideal))) ⟨m, fun _ => 0, g⟩ (fun r => (∀ c : Dev Cert.GdnConvIdeal.nD,
      r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
      ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1))
      ∧ r.2.sem = fun _ => 0)

def quiescent_GdnConvRefIdeal [hGdnConvRefIdeal : Cert.GdnConvRefIdeal.Facts] : Prop :=
  ∀ (m : (ℓ : Loc Cert.GdnConvRefIdeal.nD Cert.GdnConvRefIdeal.τ Cert.GdnConvRefIdeal.sig) → Buf (Elt Ideal) ℓ) (g : Dev Cert.GdnConvRefIdeal.nD → PrngReg), Pre_GdnConvRefIdeal m →
    θ_run (Cert.GdnConvRefIdeal.defs (F := Ideal)) (onTc (τ := Cert.GdnConvRefIdeal.τ) (Cert.GdnConvRefIdeal.main (F := Ideal))) ⟨m, fun _ => 0, g⟩ (fun r => (∀ c : Dev Cert.GdnConvRefIdeal.nD,
      r.2.mem ((c.tc : Thread Cert.GdnConvRefIdeal.nD Cert.GdnConvRefIdeal.τ).loc Cert.GdnConvRefIdeal.main_arg0) = m ((c.tc : Thread Cert.GdnConvRefIdeal.nD Cert.GdnConvRefIdeal.τ).loc Cert.GdnConvRefIdeal.main_arg0)
      ∧ r.2.mem ((c.tc : Thread Cert.GdnConvRefIdeal.nD Cert.GdnConvRefIdeal.τ).loc Cert.GdnConvRefIdeal.main_arg1) = m ((c.tc : Thread Cert.GdnConvRefIdeal.nD Cert.GdnConvRefIdeal.τ).loc Cert.GdnConvRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)) (v7 : (c : Dev Cert.KernelIdeal.nD) → Buf (Elt Ideal) ((c.tc : Thread Cert.KernelIdeal.nD Cert.KernelIdeal.τ).loc Cert.KernelIdeal.main_v1_6)) (v8 : (c : Dev Cert.KernelIdeal.nD) → Buf (Elt Ideal) ((c.tc : Thread Cert.KernelIdeal.nD Cert.KernelIdeal.τ).loc Cert.KernelIdeal.main_v1_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_v1_6) = v7 c
          ∧ r.2.mem ((c.tc : Thread Cert.KernelIdeal.nD Cert.KernelIdeal.τ).loc Cert.KernelIdeal.main_v1_7) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_v88) = v5 c
          ∧ r.2.mem ((c.tc : Thread Cert.ReferenceIdeal.nD Cert.ReferenceIdeal.τ).loc Cert.ReferenceIdeal.main_v102) = v6 c
          ∧ r.2.mem ((c.tc : Thread Cert.ReferenceIdeal.nD Cert.ReferenceIdeal.τ).loc Cert.ReferenceIdeal.main_v104) = v7 c
          ∧ r.2.mem ((c.tc : Thread Cert.ReferenceIdeal.nD Cert.ReferenceIdeal.τ).loc Cert.ReferenceIdeal.main_v76) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v5) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v1)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v1) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v3) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v31)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v31) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v4) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)) →
    ∃ (v0 : (c : Dev Cert.InProjDxIdeal.nD) → Buf (Elt Ideal) ((c.tc : Thread Cert.InProjDxIdeal.nD Cert.InProjDxIdeal.τ).loc Cert.InProjDxIdeal.main_v34)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v34) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v4) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v8)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v8) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v4) = v0 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1))

def preserves_FfnUpDx_FfnUpDxIdeal : Prop :=
  True

def algebraic_FfnUpDxIdeal_FfnUpDxRefIdeal [hFfnUpDxIdeal : Cert.FfnUpDxIdeal.Facts] [hFfnUpDxRefIdeal : Cert.FfnUpDxRefIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)
      ∧ m' ((c.tc : Thread Cert.FfnUpDxRefIdeal.nD Cert.FfnUpDxRefIdeal.τ).loc Cert.FfnUpDxRefIdeal.main_arg2) = m ((c.tc : Thread Cert.FfnUpDxIdeal.nD Cert.FfnUpDxIdeal.τ).loc Cert.FfnUpDxIdeal.main_arg2)) →
    ∃ (v0 : (c : Dev Cert.FfnUpDxIdeal.nD) → Buf (Elt Ideal) ((c.tc : Thread Cert.FfnUpDxIdeal.nD Cert.FfnUpDxIdeal.τ).loc Cert.FfnUpDxIdeal.main_v8)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v8) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
          ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v4) = v0 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1)
          ∧ r.2.mem ((c.tc : Thread Cert.FfnUpDxRefIdeal.nD Cert.FfnUpDxRefIdeal.τ).loc Cert.FfnUpDxRefIdeal.main_arg2) = m' ((c.tc : Thread Cert.FfnUpDxRefIdeal.nD Cert.FfnUpDxRefIdeal.τ).loc Cert.FfnUpDxRefIdeal.main_arg2))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v6)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v6) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v5) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v7)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v7) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v3) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_Br_BrIdeal : Prop :=
  True

def algebraic_BrIdeal_BrRefIdeal [hBrIdeal : Cert.BrIdeal.Facts] [hBrRefIdeal : Cert.BrRefIdeal.Facts] : Prop :=
  ∀ (m : (ℓ : Loc Cert.BrIdeal.nD Cert.BrIdeal.τ Cert.BrIdeal.sig) → Buf (Elt Ideal) ℓ) (g : Dev Cert.BrIdeal.nD → PrngReg)
    (m' : (ℓ : Loc Cert.BrRefIdeal.nD Cert.BrRefIdeal.τ Cert.BrRefIdeal.sig) → Buf (Elt Ideal) ℓ) (g' : Dev Cert.BrRefIdeal.nD → PrngReg), Pre_BrIdeal m →
    (∀ c : Dev Cert.BrIdeal.nD,
      m' ((c.tc : Thread Cert.BrRefIdeal.nD Cert.BrRefIdeal.τ).loc Cert.BrRefIdeal.main_arg0) = m ((c.tc : Thread Cert.BrIdeal.nD Cert.BrIdeal.τ).loc Cert.BrIdeal.main_arg0)
      ∧ m' ((c.tc : Thread Cert.BrRefIdeal.nD Cert.BrRefIdeal.τ).loc Cert.BrRefIdeal.main_arg1) = m ((c.tc : Thread Cert.BrIdeal.nD Cert.BrIdeal.τ).loc Cert.BrIdeal.main_arg1)) →
    ∃ (v0 : (c : Dev Cert.BrIdeal.nD) → Buf (Elt Ideal) ((c.tc : Thread Cert.BrIdeal.nD Cert.BrIdeal.τ).loc Cert.BrIdeal.main_v2)),
      θ_run (Cert.BrIdeal.defs (F := Ideal)) (onTc (τ := Cert.BrIdeal.τ) (Cert.BrIdeal.main (F := Ideal))) ⟨m, fun _ => 0, g⟩ (fun r => ∀ c : Dev Cert.BrIdeal.nD,
          r.2.mem ((c.tc : Thread Cert.BrIdeal.nD Cert.BrIdeal.τ).loc Cert.BrIdeal.main_v2) = v0 c
          ∧ r.2.mem ((c.tc : Thread Cert.BrIdeal.nD Cert.BrIdeal.τ).loc Cert.BrIdeal.main_arg0) = m ((c.tc : Thread Cert.BrIdeal.nD Cert.BrIdeal.τ).loc Cert.BrIdeal.main_arg0)
          ∧ r.2.mem ((c.tc : Thread Cert.BrIdeal.nD Cert.BrIdeal.τ).loc Cert.BrIdeal.main_arg1) = m ((c.tc : Thread Cert.BrIdeal.nD Cert.BrIdeal.τ).loc Cert.BrIdeal.main_arg1))
      ∧ θ_run (Cert.BrRefIdeal.defs (F := Ideal)) (onTc (τ := Cert.BrRefIdeal.τ) (Cert.BrRefIdeal.main (F := Ideal))) ⟨m', fun _ => 0, g'⟩ (fun r => ∀ c : Dev Cert.BrRefIdeal.nD,
          r.2.mem ((c.tc : Thread Cert.BrRefIdeal.nD Cert.BrRefIdeal.τ).loc Cert.BrRefIdeal.main_v1) = v0 c
          ∧ r.2.mem ((c.tc : Thread Cert.BrRefIdeal.nD Cert.BrRefIdeal.τ).loc Cert.BrRefIdeal.main_arg0) = m' ((c.tc : Thread Cert.BrRefIdeal.nD Cert.BrRefIdeal.τ).loc Cert.BrRefIdeal.main_arg0)
          ∧ r.2.mem ((c.tc : Thread Cert.BrRefIdeal.nD Cert.BrRefIdeal.τ).loc Cert.BrRefIdeal.main_arg1) = m' ((c.tc : Thread Cert.BrRefIdeal.nD Cert.BrRefIdeal.τ).loc Cert.BrRefIdeal.main_arg1))

def preserves_BrDw_BrDwIdeal : Prop :=
  True

def algebraic_BrDwIdeal_BrDwRefIdeal [hBrDwIdeal : Cert.BrDwIdeal.Facts] [hBrDwRefIdeal : Cert.BrDwRefIdeal.Facts] : Prop :=
  ∀ (m : (ℓ : Loc Cert.BrDwIdeal.nD Cert.BrDwIdeal.τ Cert.BrDwIdeal.sig) → Buf (Elt Ideal) ℓ) (g : Dev Cert.BrDwIdeal.nD → PrngReg)
    (m' : (ℓ : Loc Cert.BrDwRefIdeal.nD Cert.BrDwRefIdeal.τ Cert.BrDwRefIdeal.sig) → Buf (Elt Ideal) ℓ) (g' : Dev Cert.BrDwRefIdeal.nD → PrngReg), Pre_BrDwIdeal m →
    (∀ c : Dev Cert.BrDwIdeal.nD,
      m' ((c.tc : Thread Cert.BrDwRefIdeal.nD Cert.BrDwRefIdeal.τ).loc Cert.BrDwRefIdeal.main_arg0) = m ((c.tc : Thread Cert.BrDwIdeal.nD Cert.BrDwIdeal.τ).loc Cert.BrDwIdeal.main_arg0)
      ∧ m' ((c.tc : Thread Cert.BrDwRefIdeal.nD Cert.BrDwRefIdeal.τ).loc Cert.BrDwRefIdeal.main_arg1) = m ((c.tc : Thread Cert.BrDwIdeal.nD Cert.BrDwIdeal.τ).loc Cert.BrDwIdeal.main_arg1)) →
    ∃ (v0 : (c : Dev Cert.BrDwIdeal.nD) → Buf (Elt Ideal) ((c.tc : Thread Cert.BrDwIdeal.nD Cert.BrDwIdeal.τ).loc Cert.BrDwIdeal.main_v1)),
      θ_run (Cert.BrDwIdeal.defs (F := Ideal)) (onTc (τ := Cert.BrDwIdeal.τ) (Cert.BrDwIdeal.main (F := Ideal))) ⟨m, fun _ => 0, g⟩ (fun r => ∀ c : Dev Cert.BrDwIdeal.nD,
          r.2.mem ((c.tc : Thread Cert.BrDwIdeal.nD Cert.BrDwIdeal.τ).loc Cert.BrDwIdeal.main_v1) = v0 c
          ∧ r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
          ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ θ_run (Cert.BrDwRefIdeal.defs (F := Ideal)) (onTc (τ := Cert.BrDwRefIdeal.τ) (Cert.BrDwRefIdeal.main (F := Ideal))) ⟨m', fun _ => 0, g'⟩ (fun r => ∀ c : Dev Cert.BrDwRefIdeal.nD,
          r.2.mem ((c.tc : Thread Cert.BrDwRefIdeal.nD Cert.BrDwRefIdeal.τ).loc Cert.BrDwRefIdeal.main_v5) = v0 c
          ∧ r.2.mem ((c.tc : Thread Cert.BrDwRefIdeal.nD Cert.BrDwRefIdeal.τ).loc Cert.BrDwRefIdeal.main_arg0) = m' ((c.tc : Thread Cert.BrDwRefIdeal.nD Cert.BrDwRefIdeal.τ).loc Cert.BrDwRefIdeal.main_arg0)
          ∧ r.2.mem ((c.tc : Thread Cert.BrDwRefIdeal.nD Cert.BrDwRefIdeal.τ).loc Cert.BrDwRefIdeal.main_arg1) = m' ((c.tc : Thread Cert.BrDwRefIdeal.nD Cert.BrDwRefIdeal.τ).loc Cert.BrDwRefIdeal.main_arg1))

def preserves_BrDx_BrDxIdeal : Prop :=
  True

def algebraic_BrDxIdeal_BrDxRefIdeal [hBrDxIdeal : Cert.BrDxIdeal.Facts] [hBrDxRefIdeal : Cert.BrDxRefIdeal.Facts] : Prop :=
  ∀ (m : (ℓ : Loc Cert.BrDxIdeal.nD Cert.BrDxIdeal.τ Cert.BrDxIdeal.sig) → Buf (Elt Ideal) ℓ) (g : Dev Cert.BrDxIdeal.nD → PrngReg)
    (m' : (ℓ : Loc Cert.BrDxRefIdeal.nD Cert.BrDxRefIdeal.τ Cert.BrDxRefIdeal.sig) → Buf (Elt Ideal) ℓ) (g' : Dev Cert.BrDxRefIdeal.nD → PrngReg), Pre_BrDxIdeal m →
    (∀ c : Dev Cert.BrDxIdeal.nD,
      m' ((c.tc : Thread Cert.BrDxRefIdeal.nD Cert.BrDxRefIdeal.τ).loc Cert.BrDxRefIdeal.main_arg0) = m ((c.tc : Thread Cert.BrDxIdeal.nD Cert.BrDxIdeal.τ).loc Cert.BrDxIdeal.main_arg0)
      ∧ m' ((c.tc : Thread Cert.BrDxRefIdeal.nD Cert.BrDxRefIdeal.τ).loc Cert.BrDxRefIdeal.main_arg1) = m ((c.tc : Thread Cert.BrDxIdeal.nD Cert.BrDxIdeal.τ).loc Cert.BrDxIdeal.main_arg1)) →
    ∃ (v0 : (c : Dev Cert.BrDxIdeal.nD) → Buf (Elt Ideal) ((c.tc : Thread Cert.BrDxIdeal.nD Cert.BrDxIdeal.τ).loc Cert.BrDxIdeal.main_v2)),
      θ_run (Cert.BrDxIdeal.defs (F := Ideal)) (onTc (τ := Cert.BrDxIdeal.τ) (Cert.BrDxIdeal.main (F := Ideal))) ⟨m, fun _ => 0, g⟩ (fun r => ∀ c : Dev Cert.BrDxIdeal.nD,
          r.2.mem ((c.tc : Thread Cert.BrDxIdeal.nD Cert.BrDxIdeal.τ).loc Cert.BrDxIdeal.main_v2) = v0 c
          ∧ r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
          ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ θ_run (Cert.BrDxRefIdeal.defs (F := Ideal)) (onTc (τ := Cert.BrDxRefIdeal.τ) (Cert.BrDxRefIdeal.main (F := Ideal))) ⟨m', fun _ => 0, g'⟩ (fun r => ∀ c : Dev Cert.BrDxRefIdeal.nD,
          r.2.mem ((c.tc : Thread Cert.BrDxRefIdeal.nD Cert.BrDxRefIdeal.τ).loc Cert.BrDxRefIdeal.main_v3) = v0 c
          ∧ r.2.mem ((c.tc : Thread Cert.BrDxRefIdeal.nD Cert.BrDxRefIdeal.τ).loc Cert.BrDxRefIdeal.main_arg0) = m' ((c.tc : Thread Cert.BrDxRefIdeal.nD Cert.BrDxRefIdeal.τ).loc Cert.BrDxRefIdeal.main_arg0)
          ∧ r.2.mem ((c.tc : Thread Cert.BrDxRefIdeal.nD Cert.BrDxRefIdeal.τ).loc Cert.BrDxRefIdeal.main_arg1) = m' ((c.tc : Thread Cert.BrDxRefIdeal.nD Cert.BrDxRefIdeal.τ).loc Cert.BrDxRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v32)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v32) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v9)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v9) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v0) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v7)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v7) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v40) = v0 c
          ∧ r.2.mem ((c.tc : Thread Cert.MergeBwdRefIdeal.nD Cert.MergeBwdRefIdeal.τ).loc Cert.MergeBwdRefIdeal.main_v41) = v1 c
          ∧ r.2.mem ((c.tc : Thread Cert.MergeBwdRefIdeal.nD Cert.MergeBwdRefIdeal.τ).loc Cert.MergeBwdRefIdeal.main_v42) = v2 c
          ∧ r.2.mem ((c.tc : Thread Cert.MergeBwdRefIdeal.nD Cert.MergeBwdRefIdeal.τ).loc Cert.MergeBwdRefIdeal.main_v43) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v0_0)) (v1 : (c : Dev Cert.LnIdeal.nD) → Buf (Elt Ideal) ((c.tc : Thread Cert.LnIdeal.nD Cert.LnIdeal.τ).loc Cert.LnIdeal.main_v0_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0_0) = v0 c
          ∧ r.2.mem ((c.tc : Thread Cert.LnIdeal.nD Cert.LnIdeal.τ).loc Cert.LnIdeal.main_v0_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v28) = v0 c
          ∧ r.2.mem ((c.tc : Thread Cert.LnRefIdeal.nD Cert.LnRefIdeal.τ).loc Cert.LnRefIdeal.main_v29) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_LnBwd_LnBwdIdeal : Prop :=
  True

def algebraic_LnBwdIdeal_LnBwdRefIdeal [hLnBwdIdeal : Cert.LnBwdIdeal.Facts] [hLnBwdRefIdeal : Cert.LnBwdRefIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)) (v3 : (c : Dev Cert.LnBwdIdeal.nD) → Buf (Elt Ideal) ((c.tc : Thread Cert.LnBwdIdeal.nD Cert.LnBwdIdeal.τ).loc Cert.LnBwdIdeal.main_v0_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_v0_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v71) = v0 c
          ∧ r.2.mem ((c.tc : Thread Cert.LnBwdRefIdeal.nD Cert.LnBwdRefIdeal.τ).loc Cert.LnBwdRefIdeal.main_v72) = v1 c
          ∧ r.2.mem ((c.tc : Thread Cert.LnBwdRefIdeal.nD Cert.LnBwdRefIdeal.τ).loc Cert.LnBwdRefIdeal.main_v69) = v2 c
          ∧ r.2.mem ((c.tc : Thread Cert.LnBwdRefIdeal.nD Cert.LnBwdRefIdeal.τ).loc Cert.LnBwdRefIdeal.main_v68) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4))

def preserves_SsdConv_SsdConvIdeal : Prop :=
  True

def algebraic_SsdConvIdeal_SsdConvRefIdeal [hSsdConvIdeal : Cert.SsdConvIdeal.Facts] [hSsdConvRefIdeal : Cert.SsdConvRefIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg)
    (m' : (ℓ : Loc Cert.SsdConvRefIdeal.nD Cert.SsdConvRefIdeal.τ Cert.SsdConvRefIdeal.sig) → Buf (Elt Ideal) ℓ) (g' : Dev Cert.SsdConvRefIdeal.nD → PrngReg), Pre_SsdConvIdeal m →
    (∀ c : Dev Cert.SsdConvIdeal.nD,
      m' ((c.tc : Thread Cert.SsdConvRefIdeal.nD Cert.SsdConvRefIdeal.τ).loc Cert.SsdConvRefIdeal.main_arg0) = m ((c.tc : Thread Cert.SsdConvIdeal.nD Cert.SsdConvIdeal.τ).loc Cert.SsdConvIdeal.main_arg0)
      ∧ m' ((c.tc : Thread Cert.SsdConvRefIdeal.nD Cert.SsdConvRefIdeal.τ).loc Cert.SsdConvRefIdeal.main_arg1) = m ((c.tc : Thread Cert.SsdConvIdeal.nD Cert.SsdConvIdeal.τ).loc Cert.SsdConvIdeal.main_arg1)
      ∧ m' ((c.tc : Thread Cert.SsdConvRefIdeal.nD Cert.SsdConvRefIdeal.τ).loc Cert.SsdConvRefIdeal.main_arg2) = m ((c.tc : Thread Cert.SsdConvIdeal.nD Cert.SsdConvIdeal.τ).loc Cert.SsdConvIdeal.main_arg2)) →
    ∃ (v0 : (c : Dev Cert.SsdConvIdeal.nD) → Buf (Elt Ideal) ((c.tc : Thread Cert.SsdConvIdeal.nD Cert.SsdConvIdeal.τ).loc Cert.SsdConvIdeal.main_v0)),
      θ_run (Cert.SsdConvIdeal.defs (F := Ideal)) (onTc (τ := Cert.SsdConvIdeal.τ) (Cert.SsdConvIdeal.main (F := Ideal))) ⟨m, fun _ => 0, g⟩ (fun r => ∀ c : Dev Cert.SsdConvIdeal.nD,
          r.2.mem ((c.tc : Thread Cert.SsdConvIdeal.nD Cert.SsdConvIdeal.τ).loc Cert.SsdConvIdeal.main_v0) = v0 c
          ∧ r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
          ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
          ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2))
      ∧ θ_run (Cert.SsdConvRefIdeal.defs (F := Ideal)) (onTc (τ := Cert.SsdConvRefIdeal.τ) (Cert.SsdConvRefIdeal.main (F := Ideal))) ⟨m', fun _ => 0, g'⟩ (fun r => ∀ c : Dev Cert.SsdConvRefIdeal.nD,
          r.2.mem ((c.tc : Thread Cert.SsdConvRefIdeal.nD Cert.SsdConvRefIdeal.τ).loc Cert.SsdConvRefIdeal.main_v33) = v0 c
          ∧ r.2.mem ((c.tc : Thread Cert.SsdConvRefIdeal.nD Cert.SsdConvRefIdeal.τ).loc Cert.SsdConvRefIdeal.main_arg0) = m' ((c.tc : Thread Cert.SsdConvRefIdeal.nD Cert.SsdConvRefIdeal.τ).loc Cert.SsdConvRefIdeal.main_arg0)
          ∧ r.2.mem ((c.tc : Thread Cert.SsdConvRefIdeal.nD Cert.SsdConvRefIdeal.τ).loc Cert.SsdConvRefIdeal.main_arg1) = m' ((c.tc : Thread Cert.SsdConvRefIdeal.nD Cert.SsdConvRefIdeal.τ).loc Cert.SsdConvRefIdeal.main_arg1)
          ∧ r.2.mem ((c.tc : Thread Cert.SsdConvRefIdeal.nD Cert.SsdConvRefIdeal.τ).loc Cert.SsdConvRefIdeal.main_arg2) = m' ((c.tc : Thread Cert.SsdConvRefIdeal.nD Cert.SsdConvRefIdeal.τ).loc Cert.SsdConvRefIdeal.main_arg2))

def preserves_GdnConv_GdnConvIdeal : Prop :=
  True

def algebraic_GdnConvIdeal_GdnConvRefIdeal [hGdnConvIdeal : Cert.GdnConvIdeal.Facts] [hGdnConvRefIdeal : Cert.GdnConvRefIdeal.Facts] : Prop :=
  ∀ (m : (ℓ : Loc Cert.GdnConvIdeal.nD Cert.GdnConvIdeal.τ Cert.GdnConvIdeal.sig) → Buf (Elt Ideal) ℓ) (g : Dev Cert.GdnConvIdeal.nD → PrngReg)
    (m' : (ℓ : Loc Cert.GdnConvRefIdeal.nD Cert.GdnConvRefIdeal.τ Cert.GdnConvRefIdeal.sig) → Buf (Elt Ideal) ℓ) (g' : Dev Cert.GdnConvRefIdeal.nD → PrngReg), Pre_GdnConvIdeal m →
    (∀ c : Dev Cert.GdnConvIdeal.nD,
      m' ((c.tc : Thread Cert.GdnConvRefIdeal.nD Cert.GdnConvRefIdeal.τ).loc Cert.GdnConvRefIdeal.main_arg0) = m ((c.tc : Thread Cert.GdnConvIdeal.nD Cert.GdnConvIdeal.τ).loc Cert.GdnConvIdeal.main_arg0)
      ∧ m' ((c.tc : Thread Cert.GdnConvRefIdeal.nD Cert.GdnConvRefIdeal.τ).loc Cert.GdnConvRefIdeal.main_arg1) = m ((c.tc : Thread Cert.GdnConvIdeal.nD Cert.GdnConvIdeal.τ).loc Cert.GdnConvIdeal.main_arg1)) →
    ∃ (v0 : (c : Dev Cert.GdnConvIdeal.nD) → Buf (Elt Ideal) ((c.tc : Thread Cert.GdnConvIdeal.nD Cert.GdnConvIdeal.τ).loc Cert.GdnConvIdeal.main_v0)),
      θ_run (Cert.GdnConvIdeal.defs (F := Ideal)) (onTc (τ := Cert.GdnConvIdeal.τ) (Cert.GdnConvIdeal.main (F := Ideal))) ⟨m, fun _ => 0, g⟩ (fun r => ∀ c : Dev Cert.GdnConvIdeal.nD,
          r.2.mem ((c.tc : Thread Cert.GdnConvIdeal.nD Cert.GdnConvIdeal.τ).loc Cert.GdnConvIdeal.main_v0) = v0 c
          ∧ r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
          ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1))
      ∧ θ_run (Cert.GdnConvRefIdeal.defs (F := Ideal)) (onTc (τ := Cert.GdnConvRefIdeal.τ) (Cert.GdnConvRefIdeal.main (F := Ideal))) ⟨m', fun _ => 0, g'⟩ (fun r => ∀ c : Dev Cert.GdnConvRefIdeal.nD,
          r.2.mem ((c.tc : Thread Cert.GdnConvRefIdeal.nD Cert.GdnConvRefIdeal.τ).loc Cert.GdnConvRefIdeal.main_v29) = v0 c
          ∧ r.2.mem ((c.tc : Thread Cert.GdnConvRefIdeal.nD Cert.GdnConvRefIdeal.τ).loc Cert.GdnConvRefIdeal.main_arg0) = m' ((c.tc : Thread Cert.GdnConvRefIdeal.nD Cert.GdnConvRefIdeal.τ).loc Cert.GdnConvRefIdeal.main_arg0)
          ∧ r.2.mem ((c.tc : Thread Cert.GdnConvRefIdeal.nD Cert.GdnConvRefIdeal.τ).loc Cert.GdnConvRefIdeal.main_arg1) = m' ((c.tc : Thread Cert.GdnConvRefIdeal.nD Cert.GdnConvRefIdeal.τ).loc Cert.GdnConvRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v12)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v12) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v29) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def Claim : Prop :=
  ∃ (hKernel : Cert.Kernel.Facts) (hKernelIdeal : Cert.KernelIdeal.Facts) (hReferenceIdeal : Cert.ReferenceIdeal.Facts) (hOutProjDw : Cert.OutProjDw.Facts) (hOutProjDwIdeal : Cert.OutProjDwIdeal.Facts) (hOutProjDwRefIdeal : Cert.OutProjDwRefIdeal.Facts) (hOutProjDx : Cert.OutProjDx.Facts) (hOutProjDxIdeal : Cert.OutProjDxIdeal.Facts) (hOutProjDxRefIdeal : Cert.OutProjDxRefIdeal.Facts) (hInProjDw : Cert.InProjDw.Facts) (hInProjDwIdeal : Cert.InProjDwIdeal.Facts) (hInProjDwRefIdeal : Cert.InProjDwRefIdeal.Facts) (hInProjDx : Cert.InProjDx.Facts) (hInProjDxIdeal : Cert.InProjDxIdeal.Facts) (hInProjDxRefIdeal : Cert.InProjDxRefIdeal.Facts) (hFfnUpDw : Cert.FfnUpDw.Facts) (hFfnUpDwIdeal : Cert.FfnUpDwIdeal.Facts) (hFfnUpDwRefIdeal : Cert.FfnUpDwRefIdeal.Facts) (hFfnUpDx : Cert.FfnUpDx.Facts) (hFfnUpDxIdeal : Cert.FfnUpDxIdeal.Facts) (hFfnUpDxRefIdeal : Cert.FfnUpDxRefIdeal.Facts) (hFfnDownDw : Cert.FfnDownDw.Facts) (hFfnDownDwIdeal : Cert.FfnDownDwIdeal.Facts) (hFfnDownDwRefIdeal : Cert.FfnDownDwRefIdeal.Facts) (hFfnDownDx : Cert.FfnDownDx.Facts) (hFfnDownDxIdeal : Cert.FfnDownDxIdeal.Facts) (hFfnDownDxRefIdeal : Cert.FfnDownDxRefIdeal.Facts) (hBr : Cert.Br.Facts) (hBrIdeal : Cert.BrIdeal.Facts) (hBrRefIdeal : Cert.BrRefIdeal.Facts) (hBrDw : Cert.BrDw.Facts) (hBrDwIdeal : Cert.BrDwIdeal.Facts) (hBrDwRefIdeal : Cert.BrDwRefIdeal.Facts) (hBrDx : Cert.BrDx.Facts) (hBrDxIdeal : Cert.BrDxIdeal.Facts) (hBrDxRefIdeal : Cert.BrDxRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hLn : Cert.Ln.Facts) (hLnIdeal : Cert.LnIdeal.Facts) (hLnRefIdeal : Cert.LnRefIdeal.Facts) (hLnBwd : Cert.LnBwd.Facts) (hLnBwdIdeal : Cert.LnBwdIdeal.Facts) (hLnBwdRefIdeal : Cert.LnBwdRefIdeal.Facts) (hSsdConv : Cert.SsdConv.Facts) (hSsdConvIdeal : Cert.SsdConvIdeal.Facts) (hSsdConvRefIdeal : Cert.SsdConvRefIdeal.Facts) (hGdnConv : Cert.GdnConv.Facts) (hGdnConvIdeal : Cert.GdnConvIdeal.Facts) (hGdnConvRefIdeal : Cert.GdnConvRefIdeal.Facts) (hGlu : Cert.Glu.Facts) (hGluIdeal : Cert.GluIdeal.Facts) (hGluRefIdeal : Cert.GluRefIdeal.Facts),
    quiescent_Kernel (hKernel := hKernel)
    ∧ quiescent_KernelIdeal (hKernelIdeal := hKernelIdeal)
    ∧ quiescent_ReferenceIdeal (hReferenceIdeal := hReferenceIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ quiescent_FfnUpDx (hFfnUpDx := hFfnUpDx)
    ∧ quiescent_FfnUpDxIdeal (hFfnUpDxIdeal := hFfnUpDxIdeal)
    ∧ quiescent_FfnUpDxRefIdeal (hFfnUpDxRefIdeal := hFfnUpDxRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_Br (hBr := hBr)
    ∧ quiescent_BrIdeal (hBrIdeal := hBrIdeal)
    ∧ quiescent_BrRefIdeal (hBrRefIdeal := hBrRefIdeal)
    ∧ quiescent_BrDw (hBrDw := hBrDw)
    ∧ quiescent_BrDwIdeal (hBrDwIdeal := hBrDwIdeal)
    ∧ quiescent_BrDwRefIdeal (hBrDwRefIdeal := hBrDwRefIdeal)
    ∧ quiescent_BrDx (hBrDx := hBrDx)
    ∧ quiescent_BrDxIdeal (hBrDxIdeal := hBrDxIdeal)
    ∧ quiescent_BrDxRefIdeal (hBrDxRefIdeal := hBrDxRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Ln (hLn := hLn)
    ∧ quiescent_LnIdeal (hLnIdeal := hLnIdeal)
    ∧ quiescent_LnRefIdeal (hLnRefIdeal := hLnRefIdeal)
    ∧ quiescent_LnBwd (hLnBwd := hLnBwd)
    ∧ quiescent_LnBwdIdeal (hLnBwdIdeal := hLnBwdIdeal)
    ∧ quiescent_LnBwdRefIdeal (hLnBwdRefIdeal := hLnBwdRefIdeal)
    ∧ quiescent_SsdConv (hSsdConv := hSsdConv)
    ∧ quiescent_SsdConvIdeal (hSsdConvIdeal := hSsdConvIdeal)
    ∧ quiescent_SsdConvRefIdeal (hSsdConvRefIdeal := hSsdConvRefIdeal)
    ∧ quiescent_GdnConv (hGdnConv := hGdnConv)
    ∧ quiescent_GdnConvIdeal (hGdnConvIdeal := hGdnConvIdeal)
    ∧ quiescent_GdnConvRefIdeal (hGdnConvRefIdeal := hGdnConvRefIdeal)
    ∧ quiescent_Glu (hGlu := hGlu)
    ∧ quiescent_GluIdeal (hGluIdeal := hGluIdeal)
    ∧ quiescent_GluRefIdeal (hGluRefIdeal := hGluRefIdeal)
    ∧ preserves_Kernel_KernelIdeal
    ∧ algebraic_KernelIdeal_ReferenceIdeal (hKernelIdeal := hKernelIdeal) (hReferenceIdeal := hReferenceIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_InProjDw_InProjDwIdeal
    ∧ algebraic_InProjDwIdeal_InProjDwRefIdeal (hInProjDwIdeal := hInProjDwIdeal) (hInProjDwRefIdeal := hInProjDwRefIdeal)
    ∧ preserves_InProjDx_InProjDxIdeal
    ∧ algebraic_InProjDxIdeal_InProjDxRefIdeal (hInProjDxIdeal := hInProjDxIdeal) (hInProjDxRefIdeal := hInProjDxRefIdeal)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
    ∧ preserves_FfnUpDx_FfnUpDxIdeal
    ∧ algebraic_FfnUpDxIdeal_FfnUpDxRefIdeal (hFfnUpDxIdeal := hFfnUpDxIdeal) (hFfnUpDxRefIdeal := hFfnUpDxRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_Br_BrIdeal
    ∧ algebraic_BrIdeal_BrRefIdeal (hBrIdeal := hBrIdeal) (hBrRefIdeal := hBrRefIdeal)
    ∧ preserves_BrDw_BrDwIdeal
    ∧ algebraic_BrDwIdeal_BrDwRefIdeal (hBrDwIdeal := hBrDwIdeal) (hBrDwRefIdeal := hBrDwRefIdeal)
    ∧ preserves_BrDx_BrDxIdeal
    ∧ algebraic_BrDxIdeal_BrDxRefIdeal (hBrDxIdeal := hBrDxIdeal) (hBrDxRefIdeal := hBrDxRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Ln_LnIdeal
    ∧ algebraic_LnIdeal_LnRefIdeal (hLnIdeal := hLnIdeal) (hLnRefIdeal := hLnRefIdeal)
    ∧ preserves_LnBwd_LnBwdIdeal
    ∧ algebraic_LnBwdIdeal_LnBwdRefIdeal (hLnBwdIdeal := hLnBwdIdeal) (hLnBwdRefIdeal := hLnBwdRefIdeal)
    ∧ preserves_SsdConv_SsdConvIdeal
    ∧ algebraic_SsdConvIdeal_SsdConvRefIdeal (hSsdConvIdeal := hSsdConvIdeal) (hSsdConvRefIdeal := hSsdConvRefIdeal)
    ∧ preserves_GdnConv_GdnConvIdeal
    ∧ algebraic_GdnConvIdeal_GdnConvRefIdeal (hGdnConvIdeal := hGdnConvIdeal) (hGdnConvRefIdeal := hGdnConvRefIdeal)
    ∧ preserves_Glu_GluIdeal
    ∧ algebraic_GluIdeal_GluRefIdeal (hGluIdeal := hGluIdeal) (hGluRefIdeal := hGluRefIdeal)
-- ==== Kernel.lean ====
abbrev S2048x512 : Shape := ⟨2, ![2048, 512]⟩
abbrev S2048x256 : Shape := ⟨2, ![2048, 256]⟩
abbrev S2048x128 : Shape := ⟨2, ![2048, 128]⟩
abbrev S2048x9728 : Shape := ⟨2, ![2048, 9728]⟩
abbrev S1x128 : Shape := ⟨2, ![1, 128]⟩
abbrev S32x512x128 : Shape := ⟨3, ![32, 512, 128]⟩
abbrev S64x512 : Shape := ⟨2, ![64, 512]⟩
abbrev S64x256 : Shape := ⟨2, ![64, 256]⟩
abbrev S64x128 : Shape := ⟨2, ![64, 128]⟩
abbrev S1x512x128 : Shape := ⟨3, ![1, 512, 128]⟩
abbrev S512x128 : Shape := ⟨2, ![512, 128]⟩
abbrev S128x128 : Shape := ⟨2, ![128, 128]⟩
abbrev S64x64 : Shape := ⟨2, ![64, 64]⟩
abbrev S1x1 : Shape := ⟨2, ![1, 1]⟩
abbrev S64 : Shape := ⟨1, ![64]⟩
abbrev S64x1 : Shape := ⟨2, ![64, 1]⟩
abbrev S64x384 : Shape := ⟨2, ![64, 384]⟩
abbrev S128 : Shape := ⟨1, ![128]⟩
abbrev S128x64 : Shape := ⟨2, ![128, 64]⟩
abbrev S1x128x128 : Shape := ⟨3, ![1, 128, 128]⟩
abbrev S1 : Shape := ⟨1, ![1]⟩
abbrev S1x1x1 : Shape := ⟨3, ![1, 1, 1]⟩
abbrev S63x1 : Shape := ⟨2, ![63, 1]⟩
abbrev S64x3 : Shape := ⟨2, ![64, 3]⟩
abbrev S64x4 : Shape := ⟨2, ![64, 4]⟩
abbrev S64x124 : Shape := ⟨2, ![64, 124]⟩
abbrev S64x2 : Shape := ⟨2, ![64, 2]⟩
abbrev S64x125 : Shape := ⟨2, ![64, 125]⟩
abbrev S64x126 : Shape := ⟨2, ![64, 126]⟩
abbrev S64x127 : Shape := ⟨2, ![64, 127]⟩
abbrev S64x192 : Shape := ⟨2, ![64, 192]⟩
abbrev S384x128 : Shape := ⟨2, ![384, 128]⟩
abbrev S256x128 : Shape := ⟨2, ![256, 128]⟩

abbrev nBuf : Space → Nat
  | .hbm => 19
  | .vmem => 55
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x256, .bf16⟩
  | .hbm, ⟨5, _⟩ => ⟨S2048x128, .f32⟩
  | .hbm, ⟨6, _⟩ => ⟨S2048x9728, .f32⟩
  | .hbm, ⟨7, _⟩ => ⟨S1x128, .f32⟩
  | .hbm, ⟨8, _⟩ => ⟨S2048x512, .f32⟩
  | .hbm, ⟨9, _⟩ => ⟨S2048x512, .bf16⟩
  | .hbm, ⟨10, _⟩ => ⟨S32x512x128, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x256, .f32⟩
  | .hbm, ⟨16, _⟩ => ⟨S2048x128, .f32⟩
  | .hbm, ⟨17, _⟩ => ⟨S2048x512, .bf16⟩
  | .hbm, ⟨18, _⟩ => ⟨S1x128, .f32⟩
  | .local _ .vmem, ⟨0, _⟩ => ⟨S64x512, .f32⟩
  | .local _ .vmem, ⟨1, _⟩ => ⟨S64x512, .f32⟩
  | .local _ .vmem, ⟨2, _⟩ => ⟨S64x512, .bf16⟩
  | .local _ .vmem, ⟨3, _⟩ => ⟨S64x512, .bf16⟩
  | .local _ .vmem, ⟨4, _⟩ => ⟨S64x512, .bf16⟩
  | .local _ .vmem, ⟨5, _⟩ => ⟨S64x512, .bf16⟩
  | .local _ .vmem, ⟨6, _⟩ => ⟨S64x512, .bf16⟩
  | .local _ .vmem, ⟨7, _⟩ => ⟨S64x512, .bf16⟩
  | .local _ .vmem, ⟨8, _⟩ => ⟨S64x256, .bf16⟩
  | .local _ .vmem, ⟨9, _⟩ => ⟨S64x256, .bf16⟩
  | .local _ .vmem, ⟨10, _⟩ => ⟨S64x128, .f32⟩
  | .local _ .vmem, ⟨11, _⟩ => ⟨S64x128, .f32⟩
  | .local _ .vmem, ⟨12, _⟩ => ⟨S64x512, .f32⟩
  | .local _ .vmem, ⟨13, _⟩ => ⟨S64x512, .f32⟩
  | .local _ .vmem, ⟨14, _⟩ => ⟨S1x128, .f32⟩
  | .local _ .vmem, ⟨15, _⟩ => ⟨S64x512, .bf16⟩
  | .local _ .vmem, ⟨16, _⟩ => ⟨S64x512, .bf16⟩
  | .local _ .vmem, ⟨17, _⟩ => ⟨S1x512x128, .f32⟩
  | .local _ .vmem, ⟨18, _⟩ => ⟨S1x512x128, .f32⟩
  | .local _ .vmem, ⟨19, _⟩ => ⟨S512x128, .f32⟩
  | .local _ .vmem, ⟨20, _⟩ => ⟨S64x512, .f32⟩
  | .local _ .vmem, ⟨21, _⟩ => ⟨S64x512, .f32⟩
  | .local _ .vmem, ⟨22, _⟩ => ⟨S64x512, .bf16⟩
  | .local _ .vmem, ⟨23, _⟩ => ⟨S64x512, .bf16⟩
  | .local _ .vmem, ⟨24, _⟩ => ⟨S64x512, .bf16⟩
  | .local _ .vmem, ⟨25, _⟩ => ⟨S64x512, .bf16⟩
  | .local _ .vmem, ⟨26, _⟩ => ⟨S64x512, .bf16⟩
  | .local _ .vmem, ⟨27, _⟩ => ⟨S64x512, .bf16⟩
  | .local _ .vmem, ⟨28, _⟩ => ⟨S64x256, .bf16⟩
  | .local _ .vmem, ⟨29, _⟩ => ⟨S64x256, .bf16⟩
  | .local _ .vmem, ⟨30, _⟩ => ⟨S64x128, .f32⟩
  | .local _ .vmem, ⟨31, _⟩ => ⟨S64x128, .f32⟩
  | .local _ .vmem, ⟨32, _⟩ => ⟨S64x512, .f32⟩
  | .local _ .vmem, ⟨33, _⟩ => ⟨S64x512, .f32⟩
  | .local _ .vmem, ⟨34, _⟩ => ⟨S1x128, .f32⟩
  | .local _ .vmem, ⟨35, _⟩ => ⟨S64x512, .f32⟩
  | .local _ .vmem, ⟨36, _⟩ => ⟨S64x512, .f32⟩
  | .local _ .vmem, ⟨37, _⟩ => ⟨S1x512x128, .f32⟩
  | .local _ .vmem, ⟨38, _⟩ => ⟨S1x512x128, .f32⟩
  | .local _ .vmem, ⟨39, _⟩ => ⟨S64x512, .f32⟩
  | .local _ .vmem, ⟨40, _⟩ => ⟨S64x512, .f32⟩
  | .local _ .vmem, ⟨41, _⟩ => ⟨S64x512, .f32⟩
  | .local _ .vmem, ⟨42, _⟩ => ⟨S64x512, .f32⟩
  | .local _ .vmem, ⟨43, _⟩ => ⟨S64x512, .f32⟩
  | .local _ .vmem, ⟨44, _⟩ => ⟨S64x512, .f32⟩
  | .local _ .vmem, ⟨45, _⟩ => ⟨S64x512, .f32⟩
  | .local _ .vmem, ⟨46, _⟩ => ⟨S64x512, .f32⟩
  | .local _ .vmem, ⟨47, _⟩ => ⟨S64x256, .f32⟩
  | .local _ .vmem, ⟨48, _⟩ => ⟨S64x256, .f32⟩
  | .local _ .vmem, ⟨49, _⟩ => ⟨S64x128, .f32⟩
  | .local _ .vmem, ⟨50, _⟩ => ⟨S64x128, .f32⟩
  | .local _ .vmem, ⟨51, _⟩ => ⟨S64x512, .bf16⟩
  | .local _ .vmem, ⟨52, _⟩ => ⟨S64x512, .bf16⟩
  | .local _ .vmem, ⟨53, _⟩ => ⟨S1x128, .f32⟩
  | .local _ .vmem, ⟨54, _⟩ => ⟨S512x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_stg14_0 : Ref sig .tc := ⟨.vmem, 47, rfl⟩
abbrev cc1_stg14_1 : Ref sig .tc := ⟨.vmem, 48, rfl⟩
abbrev cc1_stg15_0 : Ref sig .tc := ⟨.vmem, 49, rfl⟩
abbrev cc1_stg15_1 : Ref sig .tc := ⟨.vmem, 50, rfl⟩
abbrev cc1_stg16_0 : Ref sig .tc := ⟨.vmem, 51, rfl⟩
abbrev cc1_stg16_1 : Ref sig .tc := ⟨.vmem, 52, rfl⟩
abbrev cc1_stg17_0 : Ref sig .tc := ⟨.vmem, 53, rfl⟩
abbrev cc1_scratch0 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc1_sem14_1 : DmaSem sig := 47
abbrev cc1_sem15_0 : DmaSem sig := 48
abbrev cc1_sem15_1 : DmaSem sig := 49
abbrev cc1_sem16_0 : DmaSem sig := 50
abbrev cc1_sem16_1 : DmaSem sig := 51
abbrev cc1_sem17_0 : DmaSem sig := 52

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let c0_i32 : BitVec 32 := 0#32
  ![v0.toNat, c16_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_9 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc1_transform_10 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_13 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_14 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_15 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_16 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S64x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S64x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S64x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S64x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S64x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S64x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S64x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S64x512 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]
-- ==== ReferenceIdeal.lean ====
abbrev S2048x512 : Shape := ⟨2, ![2048, 512]⟩
abbrev S2048x256 : Shape := ⟨2, ![2048, 256]⟩
abbrev S2048x128 : Shape := ⟨2, ![2048, 128]⟩
abbrev S2048x9728 : Shape := ⟨2, ![2048, 9728]⟩
abbrev S1x128 : Shape := ⟨2, ![1, 128]⟩
abbrev S2048x4 : Shape := ⟨2, ![2048, 4]⟩
abbrev S32x64x4 : Shape := ⟨3, ![32, 64, 4]⟩
abbrev S32x4x64 : Shape := ⟨3, ![32, 4, 64]⟩
abbrev S32x4x1 : Shape := ⟨3, ![32, 4, 1]⟩
abbrev S32x4 : Shape := ⟨2, ![32, 4]⟩
abbrev S32x64x4x128 : Shape := ⟨4, ![32, 64, 4, 128]⟩
abbrev S32x4x64x128 : Shape := ⟨4, ![32, 4, 64, 128]⟩
abbrev S32x64x4x64 : Shape := ⟨4, ![32, 64, 4, 64]⟩
abbrev S32x4x64x64 : Shape := ⟨4, ![32, 4, 64, 64]⟩
abbrev S_ : Shape := ⟨0, ![]⟩
abbrev S4x128x128 : Shape := ⟨3, ![4, 128, 128]⟩
abbrev S32x4x128x128 : Shape := ⟨4, ![32, 4, 128, 128]⟩
abbrev S32x4x1x1 : Shape := ⟨4, ![32, 4, 1, 1]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4 : Shape := ⟨2, ![1, 4]⟩
abbrev S4 : Shape := ⟨1, ![4]⟩
abbrev S4x1x1 : Shape := ⟨3, ![4, 1, 1]⟩
abbrev S1x4x128x128 : Shape := ⟨4, ![1, 4, 128, 128]⟩
abbrev S1x4x1x1 : Shape := ⟨4, ![1, 4, 1, 1]⟩
abbrev S2048x4x128 : Shape := ⟨3, ![2048, 4, 128]⟩
abbrev S128 : Shape := ⟨1, ![128]⟩
abbrev S2048x4x1 : Shape := ⟨3, ![2048, 4, 1]⟩
abbrev S1x1x128 : Shape := ⟨3, ![1, 1, 128]⟩
abbrev S4x128x64 : Shape := ⟨3, ![4, 128, 64]⟩

abbrev nBuf : Space → Nat
  | .hbm => 344
  | .vmem => 0
  | .smem => 0
  | _ => 0

abbrev hbmTy0_0 (i : Nat) : BufTy := match i % 128 with
  | 0 => ⟨S2048x512, .f32⟩
  | 1 => ⟨S2048x512, .bf16⟩
  | 2 => ⟨S2048x512, .bf16⟩
  | 3 => ⟨S2048x512, .bf16⟩
  | 4 => ⟨S2048x256, .bf16⟩
  | 5 => ⟨S2048x128, .f32⟩
  | 6 => ⟨S2048x9728, .f32⟩
  | 7 => ⟨S1x128, .f32⟩
  | 8 => ⟨S2048x512, .f32⟩
  | 9 => ⟨S2048x512, .f32⟩
  | 10 => ⟨S2048x512, .f32⟩
  | 11 => ⟨S2048x512, .f32⟩
  | 12 => ⟨S2048x512, .f32⟩
  | 13 => ⟨S2048x256, .f32⟩
  | 14 => ⟨S2048x4, .f32⟩
  | 15 => ⟨S32x64x4, .f32⟩
  | 16 => ⟨S32x4x64, .f32⟩
  | 17 => ⟨S32x4x1, .f32⟩
  | 18 => ⟨S32x4, .f32⟩
  | 19 => ⟨S32x4, .f32⟩
  | 20 => ⟨S32x64x4x128, .f32⟩
  | 21 => ⟨S32x4x64x128, .f32⟩
  | 22 => ⟨S32x64x4x128, .f32⟩
  | 23 => ⟨S32x4x64x128, .f32⟩
  | 24 => ⟨S32x64x4x128, .f32⟩
  | 25 => ⟨S32x4x64x128, .f32⟩
  | 26 => ⟨S32x64x4x128, .f32⟩
  | 27 => ⟨S32x4x64x128, .f32⟩
  | 28 => ⟨S32x64x4x64, .f32⟩
  | 29 => ⟨S32x4x64x64, .f32⟩
  | 30 => ⟨S_, .f32⟩
  | 31 => ⟨S4x128x128, .f32⟩
  | 32 => ⟨S_, .f32⟩
  | 33 => ⟨S32x4x64x128, .f32⟩
  | 34 => ⟨S_, .f32⟩
  | 35 => ⟨S32x4x128x128, .f32⟩
  | 36 => ⟨S_, .f32⟩
  | 37 => ⟨S32x4x64x128, .f32⟩
  | 38 => ⟨S_, .f32⟩
  | 39 => ⟨S32x4x1x1, .f32⟩
  | 40 => ⟨S_, .i32⟩
  | 41 => ⟨S32x4x64x128, .f32⟩
  | 42 => ⟨S32x4x64x128, .f32⟩
  | 43 => ⟨S32x4x64x128, .f32⟩
  | 44 => ⟨S32x4x64x128, .f32⟩
  | 45 => ⟨S32x4x64x64, .f32⟩
  | 46 => ⟨S32x4, .f32⟩
  | 47 => ⟨S_, .i32⟩
  | 48 => ⟨S4x128x128, .f32⟩
  | 49 => ⟨S32x4x64x128, .f32⟩
  | 50 => ⟨S32x4x128x128, .f32⟩
  | 51 => ⟨S32x4x64x128, .f32⟩
  | 52 => ⟨S32x4x1x1, .f32⟩
  | 53 => ⟨S_, .i32⟩
  | 54 => ⟨S_, .i1⟩
  | 55 => ⟨S_, .i32⟩
  | 56 => ⟨S_, .i32⟩
  | 57 => ⟨S_, .i32⟩
  | 58 => ⟨S1x4x64x128, .f32⟩
  | 59 => ⟨S4x64x128, .f32⟩
  | 60 => ⟨S_, .i32⟩
  | 61 => ⟨S_, .i32⟩
  | 62 => ⟨S_, .i32⟩
  | 63 => ⟨S1x4x64x128, .f32⟩
  | 64 => ⟨S4x64x128, .f32⟩
  | 65 => ⟨S_, .i32⟩
  | 66 => ⟨S_, .i32⟩
  | 67 => ⟨S_, .i32⟩
  | 68 => ⟨S1x4x64x128, .f32⟩
  | 69 => ⟨S4x64x128, .f32⟩
  | 70 => ⟨S_, .i32⟩
  | 71 => ⟨S_, .i32⟩
  | 72 => ⟨S_, .i32⟩
  | 73 => ⟨S1x4x64x128, .f32⟩
  | 74 => ⟨S4x64x128, .f32⟩
  | 75 => ⟨S_, .i32⟩
  | 76 => ⟨S_, .i32⟩
  | 77 => ⟨S_, .i32⟩
  | 78 => ⟨S1x4x64x64, .f32⟩
  | 79 => ⟨S4x64x64, .f32⟩
  | 80 => ⟨S_, .i32⟩
  | 81 => ⟨S1x4, .f32⟩
  | 82 => ⟨S4, .f32⟩
  | 83 => ⟨S4x64x128, .f32⟩
  | 84 => ⟨S4x64x128, .f32⟩
  | 85 => ⟨S4x64x128, .f32⟩
  | 86 => ⟨S4x64x128, .f32⟩
  | 87 => ⟨S4x64x128, .f32⟩
  | 88 => ⟨S4x1x1, .f32⟩
  | 89 => ⟨S4x128x128, .f32⟩
  | 90 => ⟨S4x128x128, .f32⟩
  | 91 => ⟨S4x128x128, .f32⟩
  | 92 => ⟨S4x128x128, .f32⟩
  | 93 => ⟨S1x4x64x128, .f32⟩
  | 94 => ⟨S_, .i32⟩
  | 95 => ⟨S_, .i32⟩
  | 96 => ⟨S_, .i32⟩
  | 97 => ⟨S32x4x64x128, .f32⟩
  | 98 => ⟨S1x4x128x128, .f32⟩
  | 99 => ⟨S_, .i32⟩
  | 100 => ⟨S_, .i32⟩
  | 101 => ⟨S_, .i32⟩
  | 102 => ⟨S32x4x128x128, .f32⟩
  | 103 => ⟨S1x4x64x128, .f32⟩
  | 104 => ⟨S_, .i32⟩
  | 105 => ⟨S_, .i32⟩
  | 106 => ⟨S_, .i32⟩
  | 107 => ⟨S32x4x64x128, .f32⟩
  | 108 => ⟨S1x4x1x1, .f32⟩
  | 109 => ⟨S_, .i32⟩
  | 110 => ⟨S_, .i32⟩
  | 111 => ⟨S_, .i32⟩
  | 112 => ⟨S32x4x1x1, .f32⟩
  | 113 => ⟨S_, .i32⟩
  | 114 => ⟨S_, .i32⟩
  | 115 => ⟨S32x64x4x128, .f32⟩
  | 116 => ⟨S2048x4x128, .f32⟩
  | 117 => ⟨S128, .f32⟩
  | 118 => ⟨S2048x4x128, .f32⟩
  | 119 => ⟨S_, .f32⟩
  | 120 => ⟨S2048x4, .f32⟩
  | 121 => ⟨S2048x4x1, .f32⟩
  | 122 => ⟨S_, .f32⟩
  | 123 => ⟨S2048x4x1, .f32⟩
  | 124 => ⟨S2048x4x1, .f32⟩
  | 125 => ⟨S_, .f32⟩
  | 126 => ⟨S2048x4x1, .f32⟩
  | 127 => ⟨S2048x4x1, .f32⟩
  | _ => ⟨S2048x512, .f32⟩

abbrev hbmTy0_1 (i : Nat) : BufTy := match i % 128 with
  | 0 => ⟨S2048x4x1, .f32⟩
  | 1 => ⟨S2048x4x1, .f32⟩
  | 2 => ⟨S_, .f32⟩
  | 3 => ⟨S2048x4x1, .f32⟩
  | 4 => ⟨S2048x4x1, .f32⟩
  | 5 => ⟨S2048x4x128, .f32⟩
  | 6 => ⟨S2048x4x128, .f32⟩
  | 7 => ⟨S1x1x128, .f32⟩
  | 8 => ⟨S2048x4x128, .f32⟩
  | 9 => ⟨S2048x4x128, .f32⟩
  | 10 => ⟨S2048x4x128, .f32⟩
  | 11 => ⟨S2048x4x128, .f32⟩
  | 12 => ⟨S2048x4x128, .f32⟩
  | 13 => ⟨S_, .f32⟩
  | 14 => ⟨S2048x4x128, .f32⟩
  | 15 => ⟨S2048x4x128, .f32⟩
  | 16 => ⟨S_, .f32⟩
  | 17 => ⟨S2048x4x128, .f32⟩
  | 18 => ⟨S2048x4x128, .f32⟩
  | 19 => ⟨S_, .f32⟩
  | 20 => ⟨S2048x4x128, .f32⟩
  | 21 => ⟨S2048x4x128, .f32⟩
  | 22 => ⟨S2048x4x128, .f32⟩
  | 23 => ⟨S2048x4x128, .f32⟩
  | 24 => ⟨S2048x4x128, .f32⟩
  | 25 => ⟨S2048x512, .f32⟩
  | 26 => ⟨S_, .f32⟩
  | 27 => ⟨S4x128x128, .f32⟩
  | 28 => ⟨S2048x4x128, .f32⟩
  | 29 => ⟨S2048x4x128, .f32⟩
  | 30 => ⟨S2048x4x128, .f32⟩
  | 31 => ⟨S2048x4x128, .f32⟩
  | 32 => ⟨S2048x4x128, .f32⟩
  | 33 => ⟨S2048x4x128, .f32⟩
  | 34 => ⟨S2048x4x128, .f32⟩
  | 35 => ⟨S2048x512, .f32⟩
  | 36 => ⟨S2048x4x128, .f32⟩
  | 37 => ⟨S_, .f32⟩
  | 38 => ⟨S128, .f32⟩
  | 39 => ⟨S1x1x128, .f32⟩
  | 40 => ⟨S2048x4x128, .f32⟩
  | 41 => ⟨S2048x4x128, .f32⟩
  | 42 => ⟨S_, .f32⟩
  | 43 => ⟨S128, .f32⟩
  | 44 => ⟨S2048x4x128, .f32⟩
  | 45 => ⟨S_, .f32⟩
  | 46 => ⟨S2048x4, .f32⟩
  | 47 => ⟨S2048x4x1, .f32⟩
  | 48 => ⟨S2048x4x128, .f32⟩
  | 49 => ⟨S2048x4x128, .f32⟩
  | 50 => ⟨S2048x4x1, .f32⟩
  | 51 => ⟨S_, .f32⟩
  | 52 => ⟨S2048x4x1, .f32⟩
  | 53 => ⟨S2048x4x1, .f32⟩
  | 54 => ⟨S_, .f32⟩
  | 55 => ⟨S2048x4, .f32⟩
  | 56 => ⟨S2048x4x128, .f32⟩
  | 57 => ⟨S2048x4x128, .f32⟩
  | 58 => ⟨S2048x4x128, .f32⟩
  | 59 => ⟨S2048x4x128, .f32⟩
  | 60 => ⟨S2048x4x128, .f32⟩
  | 61 => ⟨S1x128, .f32⟩
  | 62 => ⟨S32x64x4x128, .f32⟩
  | 63 => ⟨S32x4x64x128, .f32⟩
  | 64 => ⟨S_, .f32⟩
  | 65 => ⟨S4x128x128, .f32⟩
  | 66 => ⟨S_, .f32⟩
  | 67 => ⟨S32x4x64x128, .f32⟩
  | 68 => ⟨S_, .f32⟩
  | 69 => ⟨S32x4x64x128, .f32⟩
  | 70 => ⟨S_, .f32⟩
  | 71 => ⟨S32x4x64x128, .f32⟩
  | 72 => ⟨S_, .f32⟩
  | 73 => ⟨S32x4x64x128, .f32⟩
  | 74 => ⟨S_, .f32⟩
  | 75 => ⟨S32x4x64x64, .f32⟩
  | 76 => ⟨S_, .f32⟩
  | 77 => ⟨S32x4, .f32⟩
  | 78 => ⟨S_, .i32⟩
  | 79 => ⟨S32x4x64x128, .f32⟩
  | 80 => ⟨S32x4x128x128, .f32⟩
  | 81 => ⟨S32x4x64x128, .f32⟩
  | 82 => ⟨S32x4x64x128, .f32⟩
  | 83 => ⟨S32x4x64x128, .f32⟩
  | 84 => ⟨S32x4x64x64, .f32⟩
  | 85 => ⟨S32x4x1x1, .f32⟩
  | 86 => ⟨S32x4x64x128, .f32⟩
  | 87 => ⟨S_, .i32⟩
  | 88 => ⟨S4x128x128, .f32⟩
  | 89 => ⟨S32x4x64x128, .f32⟩
  | 90 => ⟨S32x4x64x128, .f32⟩
  | 91 => ⟨S32x4x64x128, .f32⟩
  | 92 => ⟨S32x4x64x128, .f32⟩
  | 93 => ⟨S32x4x64x64, .f32⟩
  | 94 => ⟨S32x4, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S1x4x64x128, .f32⟩
  | 105 => ⟨S4x64x128, .f32⟩
  | 106 => ⟨S_, .i32⟩
  | 107 => ⟨S_, .i32⟩
  | 108 => ⟨S_, .i32⟩
  | 109 => ⟨S1x4x128x128, .f32⟩
  | 110 => ⟨S4x128x128, .f32⟩
  | 111 => ⟨S_, .i32⟩
  | 112 => ⟨S_, .i32⟩
  | 113 => ⟨S_, .i32⟩
  | 114 => ⟨S1x4x64x128, .f32⟩
  | 115 => ⟨S4x64x128, .f32⟩
  | 116 => ⟨S_, .i32⟩
  | 117 => ⟨S_, .i32⟩
  | 118 => ⟨S_, .i32⟩
  | 119 => ⟨S1x4x64x128, .f32⟩
  | 120 => ⟨S4x64x128, .f32⟩
  | 121 => ⟨S_, .i32⟩
  | 122 => ⟨S_, .i32⟩
  | 123 => ⟨S_, .i32⟩
  | 124 => ⟨S1x4x64x128, .f32⟩
  | 125 => ⟨S4x64x128, .f32⟩
  | 126 => ⟨S_, .i32⟩
  | 127 => ⟨S_, .i32⟩
  | _ => ⟨S2048x512, .f32⟩

abbrev hbmTy0_2 (i : Nat) : BufTy := match i % 128 with
  | 0 => ⟨S_, .i32⟩
  | 1 => ⟨S1x4x64x64, .f32⟩
  | 2 => ⟨S4x64x64, .f32⟩
  | 3 => ⟨S_, .i32⟩
  | 4 => ⟨S_, .i32⟩
  | 5 => ⟨S_, .i32⟩
  | 6 => ⟨S1x4x1x1, .f32⟩
  | 7 => ⟨S4x1x1, .f32⟩
  | 8 => ⟨S_, .i32⟩
  | 9 => ⟨S_, .i32⟩
  | 10 => ⟨S_, .i32⟩
  | 11 => ⟨S1x4x64x128, .f32⟩
  | 12 => ⟨S4x64x128, .f32⟩
  | 13 => ⟨S4x128x64, .f32⟩
  | 14 => ⟨S4x64x128, .f32⟩
  | 15 => ⟨S4x128x64, .f32⟩
  | 16 => ⟨S4x64x128, .f32⟩
  | 17 => ⟨S4x128x128, .f32⟩
  | 18 => ⟨S_, .f32⟩
  | 19 => ⟨S4, .f32⟩
  | 20 => ⟨S4x1x1, .f32⟩
  | 21 => ⟨S4x128x128, .f32⟩
  | 22 => ⟨S4x128x128, .f32⟩
  | 23 => ⟨S_, .f32⟩
  | 24 => ⟨S4, .f32⟩
  | 25 => ⟨S4x128x64, .f32⟩
  | 26 => ⟨S4x64x128, .f32⟩
  | 27 => ⟨S4x64x128, .f32⟩
  | 28 => ⟨S4x64x64, .f32⟩
  | 29 => ⟨S4x128x128, .f32⟩
  | 30 => ⟨S4x128x128, .f32⟩
  | 31 => ⟨S4x128x128, .f32⟩
  | 32 => ⟨S4x64x128, .f32⟩
  | 33 => ⟨S4x64x128, .f32⟩
  | 34 => ⟨S4x128x128, .f32⟩
  | 35 => ⟨S4x128x128, .f32⟩
  | 36 => ⟨S4x128x128, .f32⟩
  | 37 => ⟨S4x64x128, .f32⟩
  | 38 => ⟨S1x4x64x128, .f32⟩
  | 39 => ⟨S_, .i32⟩
  | 40 => ⟨S_, .i32⟩
  | 41 => ⟨S_, .i32⟩
  | 42 => ⟨S32x4x64x128, .f32⟩
  | 43 => ⟨S1x4x64x128, .f32⟩
  | 44 => ⟨S_, .i32⟩
  | 45 => ⟨S_, .i32⟩
  | 46 => ⟨S_, .i32⟩
  | 47 => ⟨S32x4x64x128, .f32⟩
  | 48 => ⟨S1x4x64x128, .f32⟩
  | 49 => ⟨S_, .i32⟩
  | 50 => ⟨S_, .i32⟩
  | 51 => ⟨S_, .i32⟩
  | 52 => ⟨S32x4x64x128, .f32⟩
  | 53 => ⟨S1x4x64x128, .f32⟩
  | 54 => ⟨S_, .i32⟩
  | 55 => ⟨S_, .i32⟩
  | 56 => ⟨S_, .i32⟩
  | 57 => ⟨S32x4x64x128, .f32⟩
  | 58 => ⟨S1x4x64x64, .f32⟩
  | 59 => ⟨S_, .i32⟩
  | 60 => ⟨S_, .i32⟩
  | 61 => ⟨S_, .i32⟩
  | 62 => ⟨S32x4x64x64, .f32⟩
  | 63 => ⟨S1x4, .f32⟩
  | 64 => ⟨S_, .i32⟩
  | 65 => ⟨S32x4, .f32⟩
  | 66 => ⟨S_, .i32⟩
  | 67 => ⟨S_, .i32⟩
  | 68 => ⟨S32x64x4x64, .f32⟩
  | 69 => ⟨S2048x256, .f32⟩
  | 70 => ⟨S32x64x4x128, .f32⟩
  | 71 => ⟨S2048x512, .f32⟩
  | 72 => ⟨S32x64x4x128, .f32⟩
  | 73 => ⟨S2048x512, .f32⟩
  | 74 => ⟨S32x64x4x128, .f32⟩
  | 75 => ⟨S2048x512, .f32⟩
  | 76 => ⟨S32x64x4x128, .f32⟩
  | 77 => ⟨S2048x512, .f32⟩
  | 78 => ⟨S32x4, .f32⟩
  | 79 => ⟨S32x4x1, .f32⟩
  | 80 => ⟨S_, .f32⟩
  | 81 => ⟨S32x4x64, .f32⟩
  | 82 => ⟨S32x64x4, .f32⟩
  | 83 => ⟨S2048x4, .f32⟩
  | 84 => ⟨S_, .f32⟩
  | 85 => ⟨S2048x128, .f32⟩
  | 86 => ⟨S2048x512, .bf16⟩
  | 87 => ⟨S2048x512, .bf16⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_c : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v26_3 : Ref sig .tc := ⟨.hbm, 44, rfl⟩
abbrev main_v26_4 : Ref sig .tc := ⟨.hbm, 45, rfl⟩
abbrev main_v26_5 : Ref sig .tc := ⟨.hbm, 46, rfl⟩
abbrev main_v26_6 : Ref sig .tc := ⟨.hbm, 47, rfl⟩
abbrev main_v26_7 : Ref sig .tc := ⟨.hbm, 48, rfl⟩
abbrev main_v26_8 : Ref sig .tc := ⟨.hbm, 49, rfl⟩
abbrev main_v26_9 : Ref sig .tc := ⟨.hbm, 50, rfl⟩
abbrev main_v26_10 : Ref sig .tc := ⟨.hbm, 51, rfl⟩
abbrev main_v26_11 : Ref sig .tc := ⟨.hbm, 52, rfl⟩
abbrev main_while0c_c_35 : Ref sig .tc := ⟨.hbm, 53, rfl⟩
abbrev main_while0c_v105 : Ref sig .tc := ⟨.hbm, 54, rfl⟩
abbrev main_while0b_call0_c : Ref sig .tc := ⟨.hbm, 55, rfl⟩
abbrev main_while0b_call0_c_0 : Ref sig .tc := ⟨.hbm, 56, rfl⟩
abbrev main_while0b_call0_c_1 : Ref sig .tc := ⟨.hbm, 57, rfl⟩
abbrev main_while0b_call0_v0 : Ref sig .tc := ⟨.hbm, 58, rfl⟩
abbrev main_while0b_v105 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_v0 : Ref sig .tc := ⟨.hbm, 63, rfl⟩
abbrev main_while0b_v106 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_v0 : Ref sig .tc := ⟨.hbm, 68, rfl⟩
abbrev main_while0b_v107 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_v0 : Ref sig .tc := ⟨.hbm, 73, rfl⟩
abbrev main_while0b_v108 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_c_1 : Ref sig .tc := ⟨.hbm, 77, rfl⟩
abbrev main_while0b_call4_v0 : Ref sig .tc := ⟨.hbm, 78, rfl⟩
abbrev main_while0b_v109 : Ref sig .tc := ⟨.hbm, 79, rfl⟩
abbrev main_while0b_call5_c : Ref sig .tc := ⟨.hbm, 80, rfl⟩
abbrev main_while0b_call5_v0 : Ref sig .tc := ⟨.hbm, 81, rfl⟩
abbrev main_while0b_v110 : Ref sig .tc := ⟨.hbm, 82, rfl⟩
abbrev main_while0b_v111 : Ref sig .tc := ⟨.hbm, 83, rfl⟩
abbrev main_while0b_v112 : Ref sig .tc := ⟨.hbm, 84, rfl⟩
abbrev main_while0b_v113 : Ref sig .tc := ⟨.hbm, 85, rfl⟩
abbrev main_while0b_v114 : Ref sig .tc := ⟨.hbm, 86, rfl⟩
abbrev main_while0b_v115 : Ref sig .tc := ⟨.hbm, 87, rfl⟩
abbrev main_while0b_v116 : Ref sig .tc := ⟨.hbm, 88, rfl⟩
abbrev main_while0b_v117 : Ref sig .tc := ⟨.hbm, 89, rfl⟩
abbrev main_while0b_v118 : Ref sig .tc := ⟨.hbm, 90, rfl⟩
abbrev main_while0b_v119 : Ref sig .tc := ⟨.hbm, 91, rfl⟩
abbrev main_while0b_v120 : Ref sig .tc := ⟨.hbm, 92, rfl⟩
abbrev main_while0b_call6_v0 : Ref sig .tc := ⟨.hbm, 93, rfl⟩
abbrev main_while0b_call6_c : Ref sig .tc := ⟨.hbm, 94, rfl⟩
abbrev main_while0b_call6_c_0 : Ref sig .tc := ⟨.hbm, 95, rfl⟩
abbrev main_while0b_call6_c_1 : Ref sig .tc := ⟨.hbm, 96, rfl⟩
abbrev main_while0b_v121 : Ref sig .tc := ⟨.hbm, 97, rfl⟩
abbrev main_while0b_call7_v0 : Ref sig .tc := ⟨.hbm, 98, rfl⟩
abbrev main_while0b_call7_c : Ref sig .tc := ⟨.hbm, 99, rfl⟩
abbrev main_while0b_call7_c_0 : Ref sig .tc := ⟨.hbm, 100, rfl⟩
abbrev main_while0b_call7_c_1 : Ref sig .tc := ⟨.hbm, 101, rfl⟩
abbrev main_while0b_v122 : Ref sig .tc := ⟨.hbm, 102, rfl⟩
abbrev main_while0b_call8_v0 : Ref sig .tc := ⟨.hbm, 103, rfl⟩
abbrev main_while0b_call8_c : Ref sig .tc := ⟨.hbm, 104, rfl⟩
abbrev main_while0b_call8_c_0 : Ref sig .tc := ⟨.hbm, 105, rfl⟩
abbrev main_while0b_call8_c_1 : Ref sig .tc := ⟨.hbm, 106, rfl⟩
abbrev main_while0b_v123 : Ref sig .tc := ⟨.hbm, 107, rfl⟩
abbrev main_while0b_call9_v0 : Ref sig .tc := ⟨.hbm, 108, rfl⟩
abbrev main_while0b_call9_c : Ref sig .tc := ⟨.hbm, 109, rfl⟩
abbrev main_while0b_call9_c_0 : Ref sig .tc := ⟨.hbm, 110, rfl⟩
abbrev main_while0b_call9_c_1 : Ref sig .tc := ⟨.hbm, 111, rfl⟩
abbrev main_while0b_v124 : Ref sig .tc := ⟨.hbm, 112, rfl⟩
abbrev main_while0b_c_35 : Ref sig .tc := ⟨.hbm, 113, rfl⟩
abbrev main_while0b_v125 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_cst_4 : Ref sig .tc := ⟨.hbm, 119, rfl⟩
abbrev main_v31 : Ref sig .tc := ⟨.hbm, 120, rfl⟩
abbrev main_v32 : Ref sig .tc := ⟨.hbm, 121, rfl⟩
abbrev main_cst_5 : Ref sig .tc := ⟨.hbm, 122, rfl⟩
abbrev main_v33 : Ref sig .tc := ⟨.hbm, 123, rfl⟩
abbrev main_v34 : Ref sig .tc := ⟨.hbm, 124, rfl⟩
abbrev main_cst_6 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_cst_7 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_call10_v0 : Ref sig .tc := ⟨.hbm, 139, rfl⟩
abbrev main_call10_v1 : Ref sig .tc := ⟨.hbm, 140, rfl⟩
abbrev main_call10_cst : Ref sig .tc := ⟨.hbm, 141, rfl⟩
abbrev main_call10_v2 : Ref sig .tc := ⟨.hbm, 142, rfl⟩
abbrev main_call10_v3 : Ref sig .tc := ⟨.hbm, 143, rfl⟩
abbrev main_call10_cst_0 : Ref sig .tc := ⟨.hbm, 144, rfl⟩
abbrev main_call10_v4 : Ref sig .tc := ⟨.hbm, 145, rfl⟩
abbrev main_v47_2 : Ref sig .tc := ⟨.hbm, 146, rfl⟩
abbrev main_call10_cst_1 : Ref sig .tc := ⟨.hbm, 147, rfl⟩
abbrev main_call10_v6 : Ref sig .tc := ⟨.hbm, 148, rfl⟩
abbrev main_call10_v7 : Ref sig .tc := ⟨.hbm, 149, rfl⟩
abbrev main_v47_1 : Ref sig .tc := ⟨.hbm, 150, rfl⟩
abbrev main_v47_0 : Ref sig .tc := ⟨.hbm, 151, rfl⟩
abbrev main_v48 : Ref sig .tc := ⟨.hbm, 152, rfl⟩
abbrev main_v49 : Ref sig .tc := ⟨.hbm, 153, rfl⟩
abbrev main_cst_8 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_call11_v0 : Ref sig .tc := ⟨.hbm, 159, rfl⟩
abbrev main_call11_v1 : Ref sig .tc := ⟨.hbm, 160, rfl⟩
abbrev main_call11_v2 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_cst_9 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_cst_10 : Ref sig .tc := ⟨.hbm, 170, rfl⟩
abbrev main_v61 : Ref sig .tc := ⟨.hbm, 171, rfl⟩
abbrev main_v62 : Ref sig .tc := ⟨.hbm, 172, rfl⟩
abbrev main_cst_11 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_cst_12 : Ref sig .tc := ⟨.hbm, 179, rfl⟩
abbrev main_v68 : Ref sig .tc := ⟨.hbm, 180, rfl⟩
abbrev main_v69 : Ref sig .tc := ⟨.hbm, 181, rfl⟩
abbrev main_cst_13 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_cst_14 : Ref sig .tc := ⟨.hbm, 192, rfl⟩
abbrev main_v79 : Ref sig .tc := ⟨.hbm, 193, rfl⟩
abbrev main_cst_15 : Ref sig .tc := ⟨.hbm, 194, rfl⟩
abbrev main_v80 : Ref sig .tc := ⟨.hbm, 195, rfl⟩
abbrev main_cst_16 : Ref sig .tc := ⟨.hbm, 196, rfl⟩
abbrev main_v81 : Ref sig .tc := ⟨.hbm, 197, rfl⟩
abbrev main_cst_17 : Ref sig .tc := ⟨.hbm, 198, rfl⟩
abbrev main_v82 : Ref sig .tc := ⟨.hbm, 199, rfl⟩
abbrev main_cst_18 : Ref sig .tc := ⟨.hbm, 200, rfl⟩
abbrev main_v83 : Ref sig .tc := ⟨.hbm, 201, rfl⟩
abbrev main_cst_19 : Ref sig .tc := ⟨.hbm, 202, rfl⟩
abbrev main_v84 : Ref sig .tc := ⟨.hbm, 203, rfl⟩
abbrev main_cst_20 : Ref sig .tc := ⟨.hbm, 204, rfl⟩
abbrev main_v85 : Ref sig .tc := ⟨.hbm, 205, rfl⟩
abbrev main_c_21 : Ref sig .tc := ⟨.hbm, 206, rfl⟩
abbrev main_v86_0 : Ref sig .tc := ⟨.hbm, 207, rfl⟩
abbrev main_v86_1 : Ref sig .tc := ⟨.hbm, 208, rfl⟩
abbrev main_v86_2 : Ref sig .tc := ⟨.hbm, 209, rfl⟩
abbrev main_v86_3 : Ref sig .tc := ⟨.hbm, 210, rfl⟩
abbrev main_v86_4 : Ref sig .tc := ⟨.hbm, 211, rfl⟩
abbrev main_v86_5 : Ref sig .tc := ⟨.hbm, 212, rfl⟩
abbrev main_v86_6 : Ref sig .tc := ⟨.hbm, 213, rfl⟩
abbrev main_v86_7 : Ref sig .tc := ⟨.hbm, 214, rfl⟩
abbrev main_v86_8 : Ref sig .tc := ⟨.hbm, 215, rfl⟩
abbrev main_v86_9 : Ref sig .tc := ⟨.hbm, 216, rfl⟩
abbrev main_v86_10 : Ref sig .tc := ⟨.hbm, 217, rfl⟩
abbrev main_v86_11 : Ref sig .tc := ⟨.hbm, 218, rfl⟩
abbrev main_v86_12 : Ref sig .tc := ⟨.hbm, 219, rfl⟩
abbrev main_v86_13 : Ref sig .tc := ⟨.hbm, 220, rfl⟩
abbrev main_v86_14 : Ref sig .tc := ⟨.hbm, 221, rfl⟩
abbrev main_v86_15 : Ref sig .tc := ⟨.hbm, 222, rfl⟩
abbrev main_while1c_c_39 : Ref sig .tc := ⟨.hbm, 223, rfl⟩
abbrev main_while1c_v105 : Ref sig .tc := ⟨.hbm, 224, rfl⟩
abbrev main_while1b_c_39 : Ref sig .tc := ⟨.hbm, 225, rfl⟩
abbrev main_while1b_v105 : Ref sig .tc := ⟨.hbm, 226, rfl⟩
abbrev main_while1b_c_40 : Ref sig .tc := ⟨.hbm, 227, rfl⟩
abbrev main_while1b_v106 : Ref sig .tc := ⟨.hbm, 228, rfl⟩
abbrev main_while1b_call12_c : Ref sig .tc := ⟨.hbm, 229, rfl⟩
abbrev main_while1b_call12_c_0 : Ref sig .tc := ⟨.hbm, 230, rfl⟩
abbrev main_while1b_call12_c_1 : Ref sig .tc := ⟨.hbm, 231, rfl⟩
abbrev main_while1b_call12_v0 : Ref sig .tc := ⟨.hbm, 232, rfl⟩
abbrev main_while1b_v107 : Ref sig .tc := ⟨.hbm, 233, rfl⟩
abbrev main_while1b_call13_c : Ref sig .tc := ⟨.hbm, 234, rfl⟩
abbrev main_while1b_call13_c_0 : Ref sig .tc := ⟨.hbm, 235, rfl⟩
abbrev main_while1b_call13_c_1 : Ref sig .tc := ⟨.hbm, 236, rfl⟩
abbrev main_while1b_call13_v0 : Ref sig .tc := ⟨.hbm, 237, rfl⟩
abbrev main_while1b_v108 : Ref sig .tc := ⟨.hbm, 238, rfl⟩
abbrev main_while1b_call14_c : Ref sig .tc := ⟨.hbm, 239, rfl⟩
abbrev main_while1b_call14_c_0 : Ref sig .tc := ⟨.hbm, 240, rfl⟩
abbrev main_while1b_call14_c_1 : Ref sig .tc := ⟨.hbm, 241, rfl⟩
abbrev main_while1b_call14_v0 : Ref sig .tc := ⟨.hbm, 242, rfl⟩
abbrev main_while1b_v109 : Ref sig .tc := ⟨.hbm, 243, rfl⟩
abbrev main_while1b_call15_c : Ref sig .tc := ⟨.hbm, 244, rfl⟩
abbrev main_while1b_call15_c_0 : Ref sig .tc := ⟨.hbm, 245, rfl⟩
abbrev main_while1b_call15_c_1 : Ref sig .tc := ⟨.hbm, 246, rfl⟩
abbrev main_while1b_call15_v0 : Ref sig .tc := ⟨.hbm, 247, rfl⟩
abbrev main_while1b_v110 : Ref sig .tc := ⟨.hbm, 248, rfl⟩
abbrev main_while1b_call16_c : Ref sig .tc := ⟨.hbm, 249, rfl⟩
abbrev main_while1b_call16_c_0 : Ref sig .tc := ⟨.hbm, 250, rfl⟩
abbrev main_while1b_call16_c_1 : Ref sig .tc := ⟨.hbm, 251, rfl⟩
abbrev main_while1b_call16_v0 : Ref sig .tc := ⟨.hbm, 252, rfl⟩
abbrev main_while1b_v111 : Ref sig .tc := ⟨.hbm, 253, rfl⟩
abbrev main_while1b_call17_c : Ref sig .tc := ⟨.hbm, 254, rfl⟩
abbrev main_while1b_call17_c_0 : Ref sig .tc := ⟨.hbm, 255, rfl⟩
abbrev main_while1b_call17_c_1 : Ref sig .tc := ⟨.hbm, 256, rfl⟩
abbrev main_while1b_call17_v0 : Ref sig .tc := ⟨.hbm, 257, rfl⟩
abbrev main_while1b_v112 : Ref sig .tc := ⟨.hbm, 258, rfl⟩
abbrev main_while1b_call18_c : Ref sig .tc := ⟨.hbm, 259, rfl⟩
abbrev main_while1b_call18_c_0 : Ref sig .tc := ⟨.hbm, 260, rfl⟩
abbrev main_while1b_call18_c_1 : Ref sig .tc := ⟨.hbm, 261, rfl⟩
abbrev main_while1b_call18_v0 : Ref sig .tc := ⟨.hbm, 262, rfl⟩
abbrev main_while1b_v113 : Ref sig .tc := ⟨.hbm, 263, rfl⟩
abbrev main_while1b_call19_c : Ref sig .tc := ⟨.hbm, 264, rfl⟩
abbrev main_while1b_call19_c_0 : Ref sig .tc := ⟨.hbm, 265, rfl⟩
abbrev main_while1b_call19_c_1 : Ref sig .tc := ⟨.hbm, 266, rfl⟩
abbrev main_while1b_call19_v0 : Ref sig .tc := ⟨.hbm, 267, rfl⟩
abbrev main_while1b_v114 : Ref sig .tc := ⟨.hbm, 268, rfl⟩
abbrev main_while1b_v115 : Ref sig .tc := ⟨.hbm, 269, rfl⟩
abbrev main_while1b_v116 : Ref sig .tc := ⟨.hbm, 270, rfl⟩
abbrev main_while1b_v117 : Ref sig .tc := ⟨.hbm, 271, rfl⟩
abbrev main_while1b_v118 : Ref sig .tc := ⟨.hbm, 272, rfl⟩
abbrev main_while1b_v119 : Ref sig .tc := ⟨.hbm, 273, rfl⟩
abbrev main_while1b_cst_41 : Ref sig .tc := ⟨.hbm, 274, rfl⟩
abbrev main_while1b_v120 : Ref sig .tc := ⟨.hbm, 275, rfl⟩
abbrev main_while1b_v121 : Ref sig .tc := ⟨.hbm, 276, rfl⟩
abbrev main_while1b_v122 : Ref sig .tc := ⟨.hbm, 277, rfl⟩
abbrev main_while1b_v123 : Ref sig .tc := ⟨.hbm, 278, rfl⟩
abbrev main_while1b_cst_42 : Ref sig .tc := ⟨.hbm, 279, rfl⟩
abbrev main_while1b_v124 : Ref sig .tc := ⟨.hbm, 280, rfl⟩
abbrev main_while1b_v125 : Ref sig .tc := ⟨.hbm, 281, rfl⟩
abbrev main_while1b_v126 : Ref sig .tc := ⟨.hbm, 282, rfl⟩
abbrev main_while1b_v127 : Ref sig .tc := ⟨.hbm, 283, rfl⟩
abbrev main_while1b_v128 : Ref sig .tc := ⟨.hbm, 284, rfl⟩
abbrev main_while1b_v129 : Ref sig .tc := ⟨.hbm, 285, rfl⟩
abbrev main_while1b_v130 : Ref sig .tc := ⟨.hbm, 286, rfl⟩
abbrev main_while1b_v131 : Ref sig .tc := ⟨.hbm, 287, rfl⟩
abbrev main_while1b_v132 : Ref sig .tc := ⟨.hbm, 288, rfl⟩
abbrev main_while1b_v133 : Ref sig .tc := ⟨.hbm, 289, rfl⟩
abbrev main_while1b_v134 : Ref sig .tc := ⟨.hbm, 290, rfl⟩
abbrev main_while1b_v135 : Ref sig .tc := ⟨.hbm, 291, rfl⟩
abbrev main_while1b_v136 : Ref sig .tc := ⟨.hbm, 292, rfl⟩
abbrev main_while1b_v137 : Ref sig .tc := ⟨.hbm, 293, rfl⟩
abbrev main_while1b_call20_v0 : Ref sig .tc := ⟨.hbm, 294, rfl⟩
abbrev main_while1b_call20_c : Ref sig .tc := ⟨.hbm, 295, rfl⟩
abbrev main_while1b_call20_c_0 : Ref sig .tc := ⟨.hbm, 296, rfl⟩
abbrev main_while1b_call20_c_1 : Ref sig .tc := ⟨.hbm, 297, rfl⟩
abbrev main_while1b_v138 : Ref sig .tc := ⟨.hbm, 298, rfl⟩
abbrev main_while1b_call21_v0 : Ref sig .tc := ⟨.hbm, 299, rfl⟩
abbrev main_while1b_call21_c : Ref sig .tc := ⟨.hbm, 300, rfl⟩
abbrev main_while1b_call21_c_0 : Ref sig .tc := ⟨.hbm, 301, rfl⟩
abbrev main_while1b_call21_c_1 : Ref sig .tc := ⟨.hbm, 302, rfl⟩
abbrev main_while1b_v139 : Ref sig .tc := ⟨.hbm, 303, rfl⟩
abbrev main_while1b_call22_v0 : Ref sig .tc := ⟨.hbm, 304, rfl⟩
abbrev main_while1b_call22_c : Ref sig .tc := ⟨.hbm, 305, rfl⟩
abbrev main_while1b_call22_c_0 : Ref sig .tc := ⟨.hbm, 306, rfl⟩
abbrev main_while1b_call22_c_1 : Ref sig .tc := ⟨.hbm, 307, rfl⟩
abbrev main_while1b_v140 : Ref sig .tc := ⟨.hbm, 308, rfl⟩
abbrev main_while1b_call23_v0 : Ref sig .tc := ⟨.hbm, 309, rfl⟩
abbrev main_while1b_call23_c : Ref sig .tc := ⟨.hbm, 310, rfl⟩
abbrev main_while1b_call23_c_0 : Ref sig .tc := ⟨.hbm, 311, rfl⟩
abbrev main_while1b_call23_c_1 : Ref sig .tc := ⟨.hbm, 312, rfl⟩
abbrev main_while1b_v141 : Ref sig .tc := ⟨.hbm, 313, rfl⟩
abbrev main_while1b_call24_v0 : Ref sig .tc := ⟨.hbm, 314, rfl⟩
abbrev main_while1b_call24_c : Ref sig .tc := ⟨.hbm, 315, rfl⟩
abbrev main_while1b_call24_c_0 : Ref sig .tc := ⟨.hbm, 316, rfl⟩
abbrev main_while1b_call24_c_1 : Ref sig .tc := ⟨.hbm, 317, rfl⟩
abbrev main_while1b_v142 : Ref sig .tc := ⟨.hbm, 318, rfl⟩
abbrev main_while1b_call25_v0 : Ref sig .tc := ⟨.hbm, 319, rfl⟩
abbrev main_while1b_call25_c : Ref sig .tc := ⟨.hbm, 320, rfl⟩
abbrev main_while1b_v143 : Ref sig .tc := ⟨.hbm, 321, rfl⟩
abbrev main_while1b_c_43 : Ref sig .tc := ⟨.hbm, 322, rfl⟩
abbrev main_while1b_v144 : Ref sig .tc := ⟨.hbm, 323, rfl⟩
abbrev main_v87 : Ref sig .tc := ⟨.hbm, 324, rfl⟩
abbrev main_v88 : Ref sig .tc := ⟨.hbm, 325, rfl⟩
abbrev main_v89 : Ref sig .tc := ⟨.hbm, 326, rfl⟩
abbrev main_v90 : Ref sig .tc := ⟨.hbm, 327, rfl⟩
abbrev main_v91 : Ref sig .tc := ⟨.hbm, 328, rfl⟩
abbrev main_v92 : Ref sig .tc := ⟨.hbm, 329, rfl⟩
abbrev main_v93 : Ref sig .tc := ⟨.hbm, 330, rfl⟩
abbrev main_v94 : Ref sig .tc := ⟨.hbm, 331, rfl⟩
abbrev main_v95 : Ref sig .tc := ⟨.hbm, 332, rfl⟩
abbrev main_v96 : Ref sig .tc := ⟨.hbm, 333, rfl⟩
abbrev main_v97 : Ref sig .tc := ⟨.hbm, 334, rfl⟩
abbrev main_v98 : Ref sig .tc := ⟨.hbm, 335, rfl⟩
abbrev main_cst_22 : Ref sig .tc := ⟨.hbm, 336, rfl⟩
abbrev main_v99 : Ref sig .tc := ⟨.hbm, 337, rfl⟩
abbrev main_v100 : Ref sig .tc := ⟨.hbm, 338, rfl⟩
abbrev main_v101 : Ref sig .tc := ⟨.hbm, 339, rfl⟩
abbrev main_cst_23 : Ref sig .tc := ⟨.hbm, 340, rfl⟩
abbrev main_v102 : Ref sig .tc := ⟨.hbm, 341, rfl⟩
abbrev main_v103 : Ref sig .tc := ⟨.hbm, 342, rfl⟩
abbrev main_v104 : Ref sig .tc := ⟨.hbm, 343, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== OutProjDw.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProjDx.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProjDw.lean ====
abbrev S2048x1024 : Shape := ⟨2, ![2048, 1024]⟩
abbrev S2048x9256 : Shape := ⟨2, ![2048, 9256]⟩
abbrev S2048x1536 : Shape := ⟨2, ![2048, 1536]⟩
abbrev S2048x16 : Shape := ⟨2, ![2048, 16]⟩
abbrev S2048x4 : Shape := ⟨2, ![2048, 4]⟩
abbrev S2048x512 : Shape := ⟨2, ![2048, 512]⟩
abbrev S2048x3072 : Shape := ⟨2, ![2048, 3072]⟩
abbrev S2048x8 : Shape := ⟨2, ![2048, 8]⟩
abbrev S_ : Shape := ⟨0, ![]⟩
abbrev S2048x128 : Shape := ⟨2, ![2048, 128]⟩
abbrev S2048x9728 : Shape := ⟨2, ![2048, 9728]⟩
abbrev S9728x1024 : Shape := ⟨2, ![9728, 1024]⟩
abbrev S512x1024 : Shape := ⟨2, ![512, 1024]⟩
abbrev S8x128 : Shape := ⟨2, ![8, 128]⟩
abbrev S1024x1024 : Shape := ⟨2, ![1024, 1024]⟩
abbrev S1536x1024 : Shape := ⟨2, ![1536, 1024]⟩
abbrev S16x1024 : Shape := ⟨2, ![16, 1024]⟩
abbrev S4x1024 : Shape := ⟨2, ![4, 1024]⟩
abbrev S3072x1024 : Shape := ⟨2, ![3072, 1024]⟩
abbrev S9256x1024 : Shape := ⟨2, ![9256, 1024]⟩
abbrev S1024x9256 : Shape := ⟨2, ![1024, 9256]⟩

abbrev nBuf : Space → Nat
  | .hbm => 41
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x9256, .bf16⟩
  | .hbm, ⟨2, _⟩ => ⟨S2048x1024, .bf16⟩
  | .hbm, ⟨3, _⟩ => ⟨S2048x1536, .bf16⟩
  | .hbm, ⟨4, _⟩ => ⟨S2048x16, .bf16⟩
  | .hbm, ⟨5, _⟩ => ⟨S2048x1536, .bf16⟩
  | .hbm, ⟨6, _⟩ => ⟨S2048x4, .bf16⟩
  | .hbm, ⟨7, _⟩ => ⟨S2048x4, .bf16⟩
  | .hbm, ⟨8, _⟩ => ⟨S2048x512, .bf16⟩
  | .hbm, ⟨9, _⟩ => ⟨S2048x1024, .bf16⟩
  | .hbm, ⟨10, _⟩ => ⟨S2048x16, .bf16⟩
  | .hbm, ⟨11, _⟩ => ⟨S2048x512, .bf16⟩
  | .hbm, ⟨12, _⟩ => ⟨S2048x3072, .bf16⟩
  | .hbm, ⟨13, _⟩ => ⟨S2048x8, .bf16⟩
  | .hbm, ⟨14, _⟩ => ⟨S_, .i32⟩
  | .hbm, ⟨15, _⟩ => ⟨S_, .bf16⟩
  | .hbm, ⟨16, _⟩ => ⟨S2048x128, .bf16⟩
  | .hbm, ⟨17, _⟩ => ⟨S_, .i32⟩
  | .hbm, ⟨18, _⟩ => ⟨S_, .bf16⟩
  | .hbm, ⟨19, _⟩ => ⟨S2048x128, .bf16⟩
  | .hbm, ⟨20, _⟩ => ⟨S_, .i32⟩
  | .hbm, ⟨21, _⟩ => ⟨S_, .bf16⟩
  | .hbm, ⟨22, _⟩ => ⟨S2048x128, .bf16⟩
  | .hbm, ⟨23, _⟩ => ⟨S_, .bf16⟩
  | .hbm, ⟨24, _⟩ => ⟨S2048x128, .bf16⟩
  | .hbm, ⟨25, _⟩ => ⟨S2048x9728, .bf16⟩
  | .hbm, ⟨26, _⟩ => ⟨S2048x1024, .bf16⟩
  | .hbm, ⟨27, _⟩ => ⟨S9728x1024, .f32⟩
  | .hbm, ⟨28, _⟩ => ⟨S1024x1024, .f32⟩
  | .hbm, ⟨29, _⟩ => ⟨S1536x1024, .f32⟩
  | .hbm, ⟨30, _⟩ => ⟨S16x1024, .f32⟩
  | .hbm, ⟨31, _⟩ => ⟨S1536x1024, .f32⟩
  | .hbm, ⟨32, _⟩ => ⟨S4x1024, .f32⟩
  | .hbm, ⟨33, _⟩ => ⟨S4x1024, .f32⟩
  | .hbm, ⟨34, _⟩ => ⟨S512x1024, .f32⟩
  | .hbm, ⟨35, _⟩ => ⟨S1024x1024, .f32⟩
  | .hbm, ⟨36, _⟩ => ⟨S16x1024, .f32⟩
  | .hbm, ⟨37, _⟩ => ⟨S512x1024, .f32⟩
  | .hbm, ⟨38, _⟩ => ⟨S3072x1024, .f32⟩
  | .hbm, ⟨39, _⟩ => ⟨S9256x1024, .f32⟩
  | .hbm, ⟨40, _⟩ => ⟨S1024x9256, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_c_1 : Ref sig .tc := ⟨.hbm, 20, rfl⟩
abbrev main_call2_v0 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwRefIdeal.lean ====
abbrev S2048x1024 : Shape := ⟨2, ![2048, 1024]⟩
abbrev S2048x9256 : Shape := ⟨2, ![2048, 9256]⟩
abbrev S_ : Shape := ⟨0, ![]⟩
abbrev S1024x9256 : Shape := ⟨2, ![1024, 9256]⟩
abbrev S9256x1024 : Shape := ⟨2, ![9256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x9256, .bf16⟩
  | .hbm, ⟨2, _⟩ => ⟨S_, .f32⟩
  | .hbm, ⟨3, _⟩ => ⟨S1024x9256, .f32⟩
  | .hbm, ⟨4, _⟩ => ⟨S2048x9256, .f32⟩
  | .hbm, ⟨5, _⟩ => ⟨S2048x9256, .f32⟩
  | .hbm, ⟨6, _⟩ => ⟨S9256x1024, .f32⟩
  | .hbm, ⟨7, _⟩ => ⟨S1024x9256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProjDx.lean ====
abbrev S2048x9256 : Shape := ⟨2, ![2048, 9256]⟩
abbrev S1024x9256 : Shape := ⟨2, ![1024, 9256]⟩
abbrev S2048x1024 : Shape := ⟨2, ![2048, 1024]⟩
abbrev S2048x1536 : Shape := ⟨2, ![2048, 1536]⟩
abbrev S2048x16 : Shape := ⟨2, ![2048, 16]⟩
abbrev S2048x4 : Shape := ⟨2, ![2048, 4]⟩
abbrev S2048x512 : Shape := ⟨2, ![2048, 512]⟩
abbrev S2048x3072 : Shape := ⟨2, ![2048, 3072]⟩
abbrev S2048x8 : Shape := ⟨2, ![2048, 8]⟩
abbrev S_ : Shape := ⟨0, ![]⟩
abbrev S2048x128 : Shape := ⟨2, ![2048, 128]⟩
abbrev S2048x9728 : Shape := ⟨2, ![2048, 9728]⟩
abbrev S9256x1024 : Shape := ⟨2, ![9256, 1024]⟩
abbrev S3072x1024 : Shape := ⟨2, ![3072, 1024]⟩
abbrev S1536x1024 : Shape := ⟨2, ![1536, 1024]⟩
abbrev S1024x1024 : Shape := ⟨2, ![1024, 1024]⟩
abbrev S512x1024 : Shape := ⟨2, ![512, 1024]⟩
abbrev S16x1024 : Shape := ⟨2, ![16, 1024]⟩
abbrev S112x1024 : Shape := ⟨2, ![112, 1024]⟩
abbrev S4x1024 : Shape := ⟨2, ![4, 1024]⟩
abbrev S120x1024 : Shape := ⟨2, ![120, 1024]⟩
abbrev S240x1024 : Shape := ⟨2, ![240, 1024]⟩
abbrev S9728x1024 : Shape := ⟨2, ![9728, 1024]⟩
abbrev S1024x2432 : Shape := ⟨2, ![1024, 2432]⟩
abbrev S2432x1024 : Shape := ⟨2, ![2432, 1024]⟩

abbrev nBuf : Space → Nat
  | .hbm => 48
  | .vmem => 9
  | .smem => 0
  | _ => 0

abbrev bufTy : (tb : Table) → Fin (tcTables nBuf tb) → BufTy
  | .hbm, ⟨0, _⟩ => ⟨S2048x9256, .bf16⟩
  | .hbm, ⟨1, _⟩ => ⟨S1024x9256, .f32⟩
  | .hbm, ⟨2, _⟩ => ⟨S2048x1024, .f32⟩
  | .hbm, ⟨3, _⟩ => ⟨S2048x1024, .bf16⟩
  | .hbm, ⟨4, _⟩ => ⟨S2048x1536, .bf16⟩
  | .hbm, ⟨5, _⟩ => ⟨S2048x16, .bf16⟩
  | .hbm, ⟨6, _⟩ => ⟨S2048x1536, .bf16⟩
  | .hbm, ⟨7, _⟩ => ⟨S2048x4, .bf16⟩
  | .hbm, ⟨8, _⟩ => ⟨S2048x4, .bf16⟩
  | .hbm, ⟨9, _⟩ => ⟨S2048x512, .bf16⟩
  | .hbm, ⟨10, _⟩ => ⟨S2048x1024, .bf16⟩
  | .hbm, ⟨11, _⟩ => ⟨S2048x16, .bf16⟩
  | .hbm, ⟨12, _⟩ => ⟨S2048x512, .bf16⟩
  | .hbm, ⟨13, _⟩ => ⟨S2048x3072, .bf16⟩
  | .hbm, ⟨14, _⟩ => ⟨S2048x8, .bf16⟩
  | .hbm, ⟨15, _⟩ => ⟨S_, .i32⟩
  | .hbm, ⟨16, _⟩ => ⟨S_, .bf16⟩
  | .hbm, ⟨17, _⟩ => ⟨S2048x128, .bf16⟩
  | .hbm, ⟨18, _⟩ => ⟨S_, .i32⟩
  | .hbm, ⟨19, _⟩ => ⟨S_, .bf16⟩
  | .hbm, ⟨20, _⟩ => ⟨S2048x128, .bf16⟩
  | .hbm, ⟨21, _⟩ => ⟨S_, .i32⟩
  | .hbm, ⟨22, _⟩ => ⟨S_, .bf16⟩
  | .hbm, ⟨23, _⟩ => ⟨S2048x128, .bf16⟩
  | .hbm, ⟨24, _⟩ => ⟨S_, .bf16⟩
  | .hbm, ⟨25, _⟩ => ⟨S2048x128, .bf16⟩
  | .hbm, ⟨26, _⟩ => ⟨S2048x9728, .bf16⟩
  | .hbm, ⟨27, _⟩ => ⟨S9256x1024, .f32⟩
  | .hbm, ⟨28, _⟩ => ⟨S9256x1024, .bf16⟩
  | .hbm, ⟨29, _⟩ => ⟨S3072x1024, .bf16⟩
  | .hbm, ⟨30, _⟩ => ⟨S1536x1024, .bf16⟩
  | .hbm, ⟨31, _⟩ => ⟨S1536x1024, .bf16⟩
  | .hbm, ⟨32, _⟩ => ⟨S1024x1024, .bf16⟩
  | .hbm, ⟨33, _⟩ => ⟨S1024x1024, .bf16⟩
  | .hbm, ⟨34, _⟩ => ⟨S512x1024, .bf16⟩
  | .hbm, ⟨35, _⟩ => ⟨S512x1024, .bf16⟩
  | .hbm, ⟨36, _⟩ => ⟨S16x1024, .bf16⟩
  | .hbm, ⟨37, _⟩ => ⟨S_, .bf16⟩
  | .hbm, ⟨38, _⟩ => ⟨S112x1024, .bf16⟩
  | .hbm, ⟨39, _⟩ => ⟨S4x1024, .bf16⟩
  | .hbm, ⟨40, _⟩ => ⟨S4x1024, .bf16⟩
  | .hbm, ⟨41, _⟩ => ⟨S_, .bf16⟩
  | .hbm, ⟨42, _⟩ => ⟨S120x1024, .bf16⟩
  | .hbm, ⟨43, _⟩ => ⟨S16x1024, .bf16⟩
  | .hbm, ⟨44, _⟩ => ⟨S_, .bf16⟩
  | .hbm, ⟨45, _⟩ => ⟨S240x1024, .bf16⟩
  | .hbm, ⟨46, _⟩ => ⟨S9728x1024, .bf16⟩
  | .hbm, ⟨47, _⟩ => ⟨S2048x1024, .f32⟩
  | .local _ .vmem, ⟨0, _⟩ => ⟨S1024x2432, .bf16⟩
  | .local _ .vmem, ⟨1, _⟩ => ⟨S1024x2432, .bf16⟩
  | .local _ .vmem, ⟨2, _⟩ => ⟨S2432x1024, .bf16⟩
  | .local _ .vmem, ⟨3, _⟩ => ⟨S2432x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x9256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_c_1 : Ref sig .tc := ⟨.hbm, 21, rfl⟩
abbrev main_call2_v0 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjDxRefIdeal.lean ====
abbrev S2048x9256 : Shape := ⟨2, ![2048, 9256]⟩
abbrev S1024x9256 : Shape := ⟨2, ![1024, 9256]⟩
abbrev S2048x1024 : Shape := ⟨2, ![2048, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x9256, .bf16⟩
  | .hbm, ⟨1, _⟩ => ⟨S1024x9256, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S2048x9256, .f32⟩
  | .hbm, ⟨6, _⟩ => ⟨S2048x9256, .f32⟩
  | .hbm, ⟨7, _⟩ => ⟨S2048x1024, .f32⟩
  | .hbm, ⟨8, _⟩ => ⟨S2048x1024, .f32⟩
  | _, _ => ⟨S2048x9256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== FfnUpDw.lean ====
abbrev S2048x1024 : Shape := ⟨2, ![2048, 1024]⟩
abbrev S2048x5632 : Shape := ⟨2, ![2048, 5632]⟩
abbrev S2048x16x352 : Shape := ⟨3, ![2048, 16, 352]⟩
abbrev S_ : Shape := ⟨0, ![]⟩
abbrev S2048x16x384 : Shape := ⟨3, ![2048, 16, 384]⟩
abbrev S2048x6144 : Shape := ⟨2, ![2048, 6144]⟩
abbrev S6144x1024 : Shape := ⟨2, ![6144, 1024]⟩
abbrev S2048x2048 : Shape := ⟨2, ![2048, 2048]⟩
abbrev S8x128 : Shape := ⟨2, ![8, 128]⟩
abbrev S16x384x1024 : Shape := ⟨3, ![16, 384, 1024]⟩
abbrev S16x352x1024 : Shape := ⟨3, ![16, 352, 1024]⟩
abbrev S5632x1024 : Shape := ⟨2, ![5632, 1024]⟩
abbrev S1024x5632 : Shape := ⟨2, ![1024, 5632]⟩

abbrev nBuf : Space → Nat
  | .hbm => 13
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x5632, .bf16⟩
  | .hbm, ⟨2, _⟩ => ⟨S2048x16x352, .bf16⟩
  | .hbm, ⟨3, _⟩ => ⟨S_, .i32⟩
  | .hbm, ⟨4, _⟩ => ⟨S_, .bf16⟩
  | .hbm, ⟨5, _⟩ => ⟨S2048x16x384, .bf16⟩
  | .hbm, ⟨6, _⟩ => ⟨S2048x6144, .bf16⟩
  | .hbm, ⟨7, _⟩ => ⟨S2048x1024, .bf16⟩
  | .hbm, ⟨8, _⟩ => ⟨S6144x1024, .f32⟩
  | .hbm, ⟨9, _⟩ => ⟨S16x384x1024, .f32⟩
  | .hbm, ⟨10, _⟩ => ⟨S16x352x1024, .f32⟩
  | .hbm, ⟨11, _⟩ => ⟨S5632x1024, .f32⟩
  | .hbm, ⟨12, _⟩ => ⟨S1024x5632, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .f32⟩
  | .local _ .vmem, ⟨4, _⟩ => ⟨S2048x1024, .f32⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDwRefIdeal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .bf16⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S2048x5632, .f32⟩
  | .hbm, ⟨6, _⟩ => ⟨S5632x1024, .f32⟩
  | .hbm, ⟨7, _⟩ => ⟨S1024x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUpDx.lean ====
abbrev S2048x5632 : Shape := ⟨2, ![2048, 5632]⟩
abbrev S1024x5632 : Shape := ⟨2, ![1024, 5632]⟩
abbrev S2048x1024 : Shape := ⟨2, ![2048, 1024]⟩
abbrev S2048x16x352 : Shape := ⟨3, ![2048, 16, 352]⟩
abbrev S_ : Shape := ⟨0, ![]⟩
abbrev S2048x16x384 : Shape := ⟨3, ![2048, 16, 384]⟩
abbrev S2048x6144 : Shape := ⟨2, ![2048, 6144]⟩
abbrev S5632x1024 : Shape := ⟨2, ![5632, 1024]⟩
abbrev S16x352x1024 : Shape := ⟨3, ![16, 352, 1024]⟩
abbrev S16x384x1024 : Shape := ⟨3, ![16, 384, 1024]⟩
abbrev S6144x1024 : Shape := ⟨2, ![6144, 1024]⟩
abbrev S1024x1024 : Shape := ⟨2, ![1024, 1024]⟩

abbrev nBuf : Space → Nat
  | .hbm => 16
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .f32⟩
  | .hbm, ⟨2, _⟩ => ⟨S2048x1024, .f32⟩
  | .hbm, ⟨3, _⟩ => ⟨S2048x16x352, .bf16⟩
  | .hbm, ⟨4, _⟩ => ⟨S_, .i32⟩
  | .hbm, ⟨5, _⟩ => ⟨S_, .bf16⟩
  | .hbm, ⟨6, _⟩ => ⟨S2048x16x384, .bf16⟩
  | .hbm, ⟨7, _⟩ => ⟨S2048x6144, .bf16⟩
  | .hbm, ⟨8, _⟩ => ⟨S5632x1024, .f32⟩
  | .hbm, ⟨9, _⟩ => ⟨S16x352x1024, .f32⟩
  | .hbm, ⟨10, _⟩ => ⟨S_, .i32⟩
  | .hbm, ⟨11, _⟩ => ⟨S_, .f32⟩
  | .hbm, ⟨12, _⟩ => ⟨S16x384x1024, .f32⟩
  | .hbm, ⟨13, _⟩ => ⟨S6144x1024, .f32⟩
  | .hbm, ⟨14, _⟩ => ⟨S6144x1024, .bf16⟩
  | .hbm, ⟨15, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32_6 : BitVec 32 := 5#32
  let v13 : BitVec 1 := Scalar.cmpi .eq arg2 c5_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpDxRefIdeal.lean ====
abbrev S2048x5632 : Shape := ⟨2, ![2048, 5632]⟩
abbrev S1024x5632 : Shape := ⟨2, ![1024, 5632]⟩
abbrev S2048x1024 : Shape := ⟨2, ![2048, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S2048x5632, .f32⟩
  | .hbm, ⟨6, _⟩ => ⟨S2048x5632, .f32⟩
  | .hbm, ⟨7, _⟩ => ⟨S2048x1024, .f32⟩
  | .hbm, ⟨8, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== FfnDownDw.lean ====
abbrev S2048x2816 : Shape := ⟨2, ![2048, 2816]⟩
abbrev S2048x1024 : Shape := ⟨2, ![2048, 1024]⟩
abbrev S2048x8x352 : Shape := ⟨3, ![2048, 8, 352]⟩
abbrev S_ : Shape := ⟨0, ![]⟩
abbrev S2048x8x384 : Shape := ⟨3, ![2048, 8, 384]⟩
abbrev S2048x3072 : Shape := ⟨2, ![2048, 3072]⟩
abbrev S3072x1024 : Shape := ⟨2, ![3072, 1024]⟩
abbrev S2048x1536 : Shape := ⟨2, ![2048, 1536]⟩
abbrev S1536x1024 : Shape := ⟨2, ![1536, 1024]⟩
abbrev S8x128 : Shape := ⟨2, ![8, 128]⟩
abbrev S8x384x1024 : Shape := ⟨3, ![8, 384, 1024]⟩
abbrev S8x352x1024 : Shape := ⟨3, ![8, 352, 1024]⟩
abbrev S2816x1024 : Shape := ⟨2, ![2816, 1024]⟩

abbrev nBuf : Space → Nat
  | .hbm => 11
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x8x352, .bf16⟩
  | .hbm, ⟨3, _⟩ => ⟨S_, .i32⟩
  | .hbm, ⟨4, _⟩ => ⟨S_, .bf16⟩
  | .hbm, ⟨5, _⟩ => ⟨S2048x8x384, .bf16⟩
  | .hbm, ⟨6, _⟩ => ⟨S2048x3072, .bf16⟩
  | .hbm, ⟨7, _⟩ => ⟨S3072x1024, .f32⟩
  | .hbm, ⟨8, _⟩ => ⟨S8x384x1024, .f32⟩
  | .hbm, ⟨9, _⟩ => ⟨S8x352x1024, .f32⟩
  | .hbm, ⟨10, _⟩ => ⟨S2816x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S1536x1024, .f32⟩
  | .local _ .vmem, ⟨4, _⟩ => ⟨S1536x1024, .f32⟩
  | .local _ .vmem, ⟨5, _⟩ => ⟨S8x128, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDownDx.lean ====
abbrev S2048x1024 : Shape := ⟨2, ![2048, 1024]⟩
abbrev S2816x1024 : Shape := ⟨2, ![2816, 1024]⟩
abbrev S8x352x1024 : Shape := ⟨3, ![8, 352, 1024]⟩
abbrev S_ : Shape := ⟨0, ![]⟩
abbrev S8x384x1024 : Shape := ⟨3, ![8, 384, 1024]⟩
abbrev S3072x1024 : Shape := ⟨2, ![3072, 1024]⟩
abbrev S2048x3072 : Shape := ⟨2, ![2048, 3072]⟩
abbrev S512x1024 : Shape := ⟨2, ![512, 1024]⟩
abbrev S2048x512 : Shape := ⟨2, ![2048, 512]⟩
abbrev S8x128 : Shape := ⟨2, ![8, 128]⟩
abbrev S2048x8x384 : Shape := ⟨3, ![2048, 8, 384]⟩
abbrev S2048x8x352 : Shape := ⟨3, ![2048, 8, 352]⟩
abbrev S2048x2816 : Shape := ⟨2, ![2048, 2816]⟩

abbrev nBuf : Space → Nat
  | .hbm => 12
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .f32⟩
  | .hbm, ⟨2, _⟩ => ⟨S8x352x1024, .f32⟩
  | .hbm, ⟨3, _⟩ => ⟨S_, .i32⟩
  | .hbm, ⟨4, _⟩ => ⟨S_, .f32⟩
  | .hbm, ⟨5, _⟩ => ⟨S8x384x1024, .f32⟩
  | .hbm, ⟨6, _⟩ => ⟨S3072x1024, .f32⟩
  | .hbm, ⟨7, _⟩ => ⟨S3072x1024, .bf16⟩
  | .hbm, ⟨8, _⟩ => ⟨S2048x3072, .f32⟩
  | .hbm, ⟨9, _⟩ => ⟨S2048x8x384, .f32⟩
  | .hbm, ⟨10, _⟩ => ⟨S2048x8x352, .f32⟩
  | .hbm, ⟨11, _⟩ => ⟨S2048x2816, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxRefIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .f32⟩
  | .hbm, ⟨2, _⟩ => ⟨S_, .f32⟩
  | .hbm, ⟨3, _⟩ => ⟨S2048x2816, .f32⟩
  | .hbm, ⟨4, _⟩ => ⟨S2048x1024, .f32⟩
  | .hbm, ⟨5, _⟩ => ⟨S2048x1024, .f32⟩
  | .hbm, ⟨6, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Br.lean ====
abbrev S2048x512 : Shape := ⟨2, ![2048, 512]⟩
abbrev S512x1024 : Shape := ⟨2, ![512, 1024]⟩
abbrev S1024x512 : Shape := ⟨2, ![1024, 512]⟩
abbrev S2048x1024 : Shape := ⟨2, ![2048, 1024]⟩
abbrev S512x512 : Shape := ⟨2, ![512, 512]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x1024, .f32⟩
  | .hbm, ⟨2, _⟩ => ⟨S1024x512, .f32⟩
  | .hbm, ⟨3, _⟩ => ⟨S1024x512, .bf16⟩
  | .hbm, ⟨4, _⟩ => ⟨S2048x1024, .f32⟩
  | .local _ .vmem, ⟨0, _⟩ => ⟨S2048x512, .bf16⟩
  | .local _ .vmem, ⟨1, _⟩ => ⟨S512x512, .bf16⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | .local _ .vmem, ⟨5, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrRefIdeal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x1024, .f32⟩
  | .hbm, ⟨2, _⟩ => ⟨S2048x512, .f32⟩
  | .hbm, ⟨3, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BrDw.lean ====
abbrev S2048x512 : Shape := ⟨2, ![2048, 512]⟩
abbrev S2048x1024 : Shape := ⟨2, ![2048, 1024]⟩
abbrev S1024x512 : Shape := ⟨2, ![1024, 512]⟩
abbrev S8x128 : Shape := ⟨2, ![8, 128]⟩
abbrev S512x1024 : Shape := ⟨2, ![512, 1024]⟩

abbrev nBuf : Space → Nat
  | .hbm => 4
  | .vmem => 4
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S1024x512, .f32⟩
  | .hbm, ⟨3, _⟩ => ⟨S512x1024, .f32⟩
  | .local _ .vmem, ⟨0, _⟩ => ⟨S2048x1024, .bf16⟩
  | .local _ .vmem, ⟨1, _⟩ => ⟨S2048x512, .bf16⟩
  | .local _ .vmem, ⟨2, _⟩ => ⟨S1024x512, .f32⟩
  | .local _ .vmem, ⟨3, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BrDwRefIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BrDx.lean ====
abbrev S2048x1024 : Shape := ⟨2, ![2048, 1024]⟩
abbrev S512x1024 : Shape := ⟨2, ![512, 1024]⟩
abbrev S1024x512 : Shape := ⟨2, ![1024, 512]⟩
abbrev S2048x512 : Shape := ⟨2, ![2048, 512]⟩
abbrev S8x128 : Shape := ⟨2, ![8, 128]⟩

abbrev nBuf : Space → Nat
  | .hbm => 5
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S512x1024, .f32⟩
  | .hbm, ⟨2, _⟩ => ⟨S1024x512, .f32⟩
  | .hbm, ⟨3, _⟩ => ⟨S1024x512, .bf16⟩
  | .hbm, ⟨4, _⟩ => ⟨S2048x512, .f32⟩
  | .local _ .vmem, ⟨0, _⟩ => ⟨S2048x1024, .bf16⟩
  | .local _ .vmem, ⟨1, _⟩ => ⟨S1024x512, .bf16⟩
  | .local _ .vmem, ⟨2, _⟩ => ⟨S2048x512, .f32⟩
  | .local _ .vmem, ⟨3, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BrDxRefIdeal.lean ====
abbrev S2048x1024 : Shape := ⟨2, ![2048, 1024]⟩
abbrev S512x1024 : Shape := ⟨2, ![512, 1024]⟩
abbrev S_ : Shape := ⟨0, ![]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S512x1024, .f32⟩
  | .hbm, ⟨2, _⟩ => ⟨S_, .f32⟩
  | .hbm, ⟨3, _⟩ => ⟨S2048x512, .f32⟩
  | .hbm, ⟨4, _⟩ => ⟨S2048x1024, .f32⟩
  | .hbm, ⟨5, _⟩ => ⟨S2048x1024, .f32⟩
  | .hbm, ⟨6, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProj.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InProj.lean ====
abbrev S2048x1024 : Shape := ⟨2, ![2048, 1024]⟩
abbrev S1024x9256 : Shape := ⟨2, ![1024, 9256]⟩
abbrev S9256x1024 : Shape := ⟨2, ![9256, 1024]⟩
abbrev S3072x1024 : Shape := ⟨2, ![3072, 1024]⟩
abbrev S1536x1024 : Shape := ⟨2, ![1536, 1024]⟩
abbrev S1024x1024 : Shape := ⟨2, ![1024, 1024]⟩
abbrev S512x1024 : Shape := ⟨2, ![512, 1024]⟩
abbrev S16x1024 : Shape := ⟨2, ![16, 1024]⟩
abbrev S_ : Shape := ⟨0, ![]⟩
abbrev S112x1024 : Shape := ⟨2, ![112, 1024]⟩
abbrev S4x1024 : Shape := ⟨2, ![4, 1024]⟩
abbrev S120x1024 : Shape := ⟨2, ![120, 1024]⟩
abbrev S240x1024 : Shape := ⟨2, ![240, 1024]⟩
abbrev S9728x1024 : Shape := ⟨2, ![9728, 1024]⟩
abbrev S2048x9728 : Shape := ⟨2, ![2048, 9728]⟩
abbrev S2048x512 : Shape := ⟨2, ![2048, 512]⟩
abbrev S8x128 : Shape := ⟨2, ![8, 128]⟩
abbrev S9728x2048 : Shape := ⟨2, ![9728, 2048]⟩
abbrev S1024x2048 : Shape := ⟨2, ![1024, 2048]⟩
abbrev S1536x2048 : Shape := ⟨2, ![1536, 2048]⟩
abbrev S16x2048 : Shape := ⟨2, ![16, 2048]⟩
abbrev S4x2048 : Shape := ⟨2, ![4, 2048]⟩
abbrev S512x2048 : Shape := ⟨2, ![512, 2048]⟩
abbrev S3072x2048 : Shape := ⟨2, ![3072, 2048]⟩
abbrev S9256x2048 : Shape := ⟨2, ![9256, 2048]⟩
abbrev S2048x9256 : Shape := ⟨2, ![2048, 9256]⟩

abbrev nBuf : Space → Nat
  | .hbm => 38
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x9256, .f32⟩
  | .hbm, ⟨2, _⟩ => ⟨S2048x1024, .bf16⟩
  | .hbm, ⟨3, _⟩ => ⟨S9256x1024, .f32⟩
  | .hbm, ⟨4, _⟩ => ⟨S9256x1024, .bf16⟩
  | .hbm, ⟨5, _⟩ => ⟨S3072x1024, .bf16⟩
  | .hbm, ⟨6, _⟩ => ⟨S1536x1024, .bf16⟩
  | .hbm, ⟨7, _⟩ => ⟨S1536x1024, .bf16⟩
  | .hbm, ⟨8, _⟩ => ⟨S1024x1024, .bf16⟩
  | .hbm, ⟨9, _⟩ => ⟨S1024x1024, .bf16⟩
  | .hbm, ⟨10, _⟩ => ⟨S512x1024, .bf16⟩
  | .hbm, ⟨11, _⟩ => ⟨S512x1024, .bf16⟩
  | .hbm, ⟨12, _⟩ => ⟨S16x1024, .bf16⟩
  | .hbm, ⟨13, _⟩ => ⟨S_, .bf16⟩
  | .hbm, ⟨14, _⟩ => ⟨S112x1024, .bf16⟩
  | .hbm, ⟨15, _⟩ => ⟨S4x1024, .bf16⟩
  | .hbm, ⟨16, _⟩ => ⟨S4x1024, .bf16⟩
  | .hbm, ⟨17, _⟩ => ⟨S_, .bf16⟩
  | .hbm, ⟨18, _⟩ => ⟨S120x1024, .bf16⟩
  | .hbm, ⟨19, _⟩ => ⟨S16x1024, .bf16⟩
  | .hbm, ⟨20, _⟩ => ⟨S_, .bf16⟩
  | .hbm, ⟨21, _⟩ => ⟨S240x1024, .bf16⟩
  | .hbm, ⟨22, _⟩ => ⟨S9728x1024, .bf16⟩
  | .hbm, ⟨23, _⟩ => ⟨S2048x9728, .f32⟩
  | .hbm, ⟨24, _⟩ => ⟨S9728x2048, .f32⟩
  | .hbm, ⟨25, _⟩ => ⟨S1024x2048, .f32⟩
  | .hbm, ⟨26, _⟩ => ⟨S1536x2048, .f32⟩
  | .hbm, ⟨27, _⟩ => ⟨S16x2048, .f32⟩
  | .hbm, ⟨28, _⟩ => ⟨S1536x2048, .f32⟩
  | .hbm, ⟨29, _⟩ => ⟨S4x2048, .f32⟩
  | .hbm, ⟨30, _⟩ => ⟨S4x2048, .f32⟩
  | .hbm, ⟨31, _⟩ => ⟨S512x2048, .f32⟩
  | .hbm, ⟨32, _⟩ => ⟨S1024x2048, .f32⟩
  | .hbm, ⟨33, _⟩ => ⟨S16x2048, .f32⟩
  | .hbm, ⟨34, _⟩ => ⟨S512x2048, .f32⟩
  | .hbm, ⟨35, _⟩ => ⟨S3072x2048, .f32⟩
  | .hbm, ⟨36, _⟩ => ⟨S9256x2048, .f32⟩
  | .hbm, ⟨37, _⟩ => ⟨S2048x9256, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![19, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S2048x1024 : Shape := ⟨2, ![2048, 1024]⟩
abbrev S1024x9256 : Shape := ⟨2, ![1024, 9256]⟩
abbrev S2048x9256 : Shape := ⟨2, ![2048, 9256]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x9256, .f32⟩
  | .hbm, ⟨2, _⟩ => ⟨S2048x9256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnUp.lean ====
abbrev S2048x1024 : Shape := ⟨2, ![2048, 1024]⟩
abbrev S1024x5632 : Shape := ⟨2, ![1024, 5632]⟩
abbrev S5632x1024 : Shape := ⟨2, ![5632, 1024]⟩
abbrev S16x352x1024 : Shape := ⟨3, ![16, 352, 1024]⟩
abbrev S_ : Shape := ⟨0, ![]⟩
abbrev S16x384x1024 : Shape := ⟨3, ![16, 384, 1024]⟩
abbrev S6144x1024 : Shape := ⟨2, ![6144, 1024]⟩
abbrev S2048x6144 : Shape := ⟨2, ![2048, 6144]⟩
abbrev S512x1024 : Shape := ⟨2, ![512, 1024]⟩
abbrev S2048x512 : Shape := ⟨2, ![2048, 512]⟩
abbrev S8x128 : Shape := ⟨2, ![8, 128]⟩
abbrev S2048x16x384 : Shape := ⟨3, ![2048, 16, 384]⟩
abbrev S2048x16x352 : Shape := ⟨3, ![2048, 16, 352]⟩
abbrev S2048x5632 : Shape := ⟨2, ![2048, 5632]⟩

abbrev nBuf : Space → Nat
  | .hbm => 14
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S5632x1024, .f32⟩
  | .hbm, ⟨4, _⟩ => ⟨S16x352x1024, .f32⟩
  | .hbm, ⟨5, _⟩ => ⟨S_, .i32⟩
  | .hbm, ⟨6, _⟩ => ⟨S_, .f32⟩
  | .hbm, ⟨7, _⟩ => ⟨S16x384x1024, .f32⟩
  | .hbm, ⟨8, _⟩ => ⟨S6144x1024, .f32⟩
  | .hbm, ⟨9, _⟩ => ⟨S6144x1024, .bf16⟩
  | .hbm, ⟨10, _⟩ => ⟨S2048x6144, .f32⟩
  | .hbm, ⟨11, _⟩ => ⟨S2048x16x384, .f32⟩
  | .hbm, ⟨12, _⟩ => ⟨S2048x16x352, .f32⟩
  | .hbm, ⟨13, _⟩ => ⟨S2048x5632, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![12, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnDown.lean ====
abbrev S2048x2816 : Shape := ⟨2, ![2048, 2816]⟩
abbrev S2816x1024 : Shape := ⟨2, ![2816, 1024]⟩
abbrev S2048x8x352 : Shape := ⟨3, ![2048, 8, 352]⟩
abbrev S_ : Shape := ⟨0, ![]⟩
abbrev S2048x8x384 : Shape := ⟨3, ![2048, 8, 384]⟩
abbrev S2048x3072 : Shape := ⟨2, ![2048, 3072]⟩
abbrev S8x352x1024 : Shape := ⟨3, ![8, 352, 1024]⟩
abbrev S8x384x1024 : Shape := ⟨3, ![8, 384, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x8x352, .bf16⟩
  | .hbm, ⟨3, _⟩ => ⟨S_, .i32⟩
  | .hbm, ⟨4, _⟩ => ⟨S_, .bf16⟩
  | .hbm, ⟨5, _⟩ => ⟨S2048x8x384, .bf16⟩
  | .hbm, ⟨6, _⟩ => ⟨S2048x3072, .bf16⟩
  | .hbm, ⟨7, _⟩ => ⟨S8x352x1024, .f32⟩
  | .hbm, ⟨8, _⟩ => ⟨S_, .i32⟩
  | .hbm, ⟨9, _⟩ => ⟨S_, .f32⟩
  | .hbm, ⟨10, _⟩ => ⟨S8x384x1024, .f32⟩
  | .hbm, ⟨11, _⟩ => ⟨S3072x1024, .f32⟩
  | .hbm, ⟨12, _⟩ => ⟨S3072x1024, .bf16⟩
  | .hbm, ⟨13, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== FfnDownRefIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x2816, .f32⟩
  | .hbm, ⟨3, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Merge.lean ====
abbrev S2048x9728 : Shape := ⟨2, ![2048, 9728]⟩
abbrev S2048x1024 : Shape := ⟨2, ![2048, 1024]⟩
abbrev S256x3072 : Shape := ⟨2, ![256, 3072]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x9728, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S2048x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S2048x9728 : Shape := ⟨2, ![2048, 9728]⟩
abbrev S2048x1024 : Shape := ⟨2, ![2048, 1024]⟩
abbrev S2048x3072 : Shape := ⟨2, ![2048, 3072]⟩
abbrev S_ : Shape := ⟨0, ![]⟩
abbrev S2048x3x1024 : Shape := ⟨3, ![2048, 3, 1024]⟩
abbrev S2048x1x1024 : Shape := ⟨3, ![2048, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x9728, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S_, .f32⟩
  | .hbm, ⟨11, _⟩ => ⟨S2048x3072, .f32⟩
  | .hbm, ⟨12, _⟩ => ⟨S2048x3072, .f32⟩
  | .hbm, ⟨13, _⟩ => ⟨S2048x3x1024, .f32⟩
  | .hbm, ⟨14, _⟩ => ⟨S2048x1x1024, .f32⟩
  | .hbm, ⟨15, _⟩ => ⟨S2048x1024, .f32⟩
  | .hbm, ⟨16, _⟩ => ⟨S2048x1024, .f32⟩
  | .hbm, ⟨17, _⟩ => ⟨S2048x1x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== MergeBwd.lean ====
abbrev S2048x9728 : Shape := ⟨2, ![2048, 9728]⟩
abbrev S2048x1024 : Shape := ⟨2, ![2048, 1024]⟩
abbrev S2048x3072 : Shape := ⟨2, ![2048, 3072]⟩
abbrev S256x3072 : Shape := ⟨2, ![256, 3072]⟩
abbrev S256x1024 : Shape := ⟨2, ![256, 1024]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2048x9728, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x3072, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x3072, .bf16⟩
  | .local _ .vmem, ⟨11, _⟩ => ⟨S256x3072, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S2048x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdRefIdeal.lean ====
abbrev S2048x9728 : Shape := ⟨2, ![2048, 9728]⟩
abbrev S2048x1024 : Shape := ⟨2, ![2048, 1024]⟩
abbrev S2048x3072 : Shape := ⟨2, ![2048, 3072]⟩
abbrev S_ : Shape := ⟨0, ![]⟩
abbrev S2048x3x1024 : Shape := ⟨3, ![2048, 3, 1024]⟩
abbrev S2048x1x1024 : Shape := ⟨3, ![2048, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x9728, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S_, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S_, .f32⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S2048x3x1024, .f32⟩
  | .hbm, ⟨19, _⟩ => ⟨S2048x1x1024, .f32⟩
  | .hbm, ⟨20, _⟩ => ⟨S2048x1024, .f32⟩
  | .hbm, ⟨21, _⟩ => ⟨S2048x1024, .f32⟩
  | .hbm, ⟨22, _⟩ => ⟨S2048x1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1x1024, .f32⟩
  | .hbm, ⟨35, _⟩ => ⟨S_, .f32⟩
  | .hbm, ⟨36, _⟩ => ⟨S2048x3x1024, .f32⟩
  | .hbm, ⟨37, _⟩ => ⟨S2048x1024, .f32⟩
  | .hbm, ⟨38, _⟩ => ⟨S2048x1024, .f32⟩
  | .hbm, ⟨39, _⟩ => ⟨S2048x1x1024, .f32⟩
  | .hbm, ⟨40, _⟩ => ⟨S_, .f32⟩
  | .hbm, ⟨41, _⟩ => ⟨S2048x3x1024, .f32⟩
  | .hbm, ⟨42, _⟩ => ⟨S2048x3x1024, .f32⟩
  | .hbm, ⟨43, _⟩ => ⟨S2048x1024, .f32⟩
  | .hbm, ⟨44, _⟩ => ⟨S2048x1024, .f32⟩
  | .hbm, ⟨45, _⟩ => ⟨S2048x1x1024, .f32⟩
  | .hbm, ⟨46, _⟩ => ⟨S_, .f32⟩
  | .hbm, ⟨47, _⟩ => ⟨S2048x3x1024, .f32⟩
  | .hbm, ⟨48, _⟩ => ⟨S2048x3x1024, .f32⟩
  | .hbm, ⟨49, _⟩ => ⟨S2048x3072, .f32⟩
  | .hbm, ⟨50, _⟩ => ⟨S2048x3072, .f32⟩
  | .hbm, ⟨51, _⟩ => ⟨S2048x3072, .bf16⟩
  | .hbm, ⟨52, _⟩ => ⟨S2048x1024, .bf16⟩
  | .hbm, ⟨53, _⟩ => ⟨S2048x1024, .bf16⟩
  | .hbm, ⟨54, _⟩ => ⟨S2048x1024, .bf16⟩
  | _, _ => ⟨S2048x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Ln.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnRefIdeal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== LnBwd.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnBwdRefIdeal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩
abbrev S2048 : Shape := ⟨1, ![2048]⟩
abbrev S2048x1 : Shape := ⟨2, ![2048, 1]⟩

abbrev nBuf : Space → Nat
  | .hbm => 98
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S2048x1024, .f32⟩
  | .hbm, ⟨69, _⟩ => ⟨S_, .f32⟩
  | .hbm, ⟨70, _⟩ => ⟨S2048, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S2048, .f32⟩
  | .hbm, ⟨82, _⟩ => ⟨S2048x1, .f32⟩
  | .hbm, ⟨83, _⟩ => ⟨S2048x1024, .f32⟩
  | .hbm, ⟨84, _⟩ => ⟨S2048x1, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S_, .f32⟩
  | .hbm, ⟨89, _⟩ => ⟨S2048, .f32⟩
  | .hbm, ⟨90, _⟩ => ⟨S2048x1024, .f32⟩
  | .hbm, ⟨91, _⟩ => ⟨S2048x1024, .f32⟩
  | .hbm, ⟨92, _⟩ => ⟨S1x1024, .f32⟩
  | .hbm, ⟨93, _⟩ => ⟨S1x1024, .f32⟩
  | .hbm, ⟨94, _⟩ => ⟨S_, .f32⟩
  | .hbm, ⟨95, _⟩ => ⟨S2048x1024, .f32⟩
  | .hbm, ⟨96, _⟩ => ⟨S2048x1024, .f32⟩
  | .hbm, ⟨97, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_18 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== SsdConv.lean ====
abbrev S2048x9728 : Shape := ⟨2, ![2048, 9728]⟩
abbrev S4x1536 : Shape := ⟨2, ![4, 1536]⟩
abbrev S1x1536 : Shape := ⟨2, ![1, 1536]⟩
abbrev S2048x1536 : Shape := ⟨2, ![2048, 1536]⟩
abbrev S2048x256 : Shape := ⟨2, ![2048, 256]⟩
abbrev S4x256 : Shape := ⟨2, ![4, 256]⟩
abbrev S1x256 : Shape := ⟨2, ![1, 256]⟩
abbrev S16x256 : Shape := ⟨2, ![16, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x9728, .f32⟩
  | .hbm, ⟨1, _⟩ => ⟨S4x1536, .f32⟩
  | .hbm, ⟨2, _⟩ => ⟨S1x1536, .f32⟩
  | .hbm, ⟨3, _⟩ => ⟨S2048x1536, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S2048x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SsdConvRefIdeal.lean ====
abbrev S2048x9728 : Shape := ⟨2, ![2048, 9728]⟩
abbrev S4x1536 : Shape := ⟨2, ![4, 1536]⟩
abbrev S1x1536 : Shape := ⟨2, ![1, 1536]⟩
abbrev S2048x1536 : Shape := ⟨2, ![2048, 1536]⟩
abbrev S1536 : Shape := ⟨1, ![1536]⟩
abbrev S_ : Shape := ⟨0, ![]⟩
abbrev S2051x1536 : Shape := ⟨2, ![2051, 1536]⟩

abbrev nBuf : Space → Nat
  | .hbm => 47
  | .vmem => 0
  | .smem => 0
  | _ => 0

abbrev bufTy : (tb : Table) → Fin (tcTables nBuf tb) → BufTy
  | .hbm, ⟨0, _⟩ => ⟨S2048x9728, .f32⟩
  | .hbm, ⟨1, _⟩ => ⟨S4x1536, .f32⟩
  | .hbm, ⟨2, _⟩ => ⟨S1x1536, .f32⟩
  | .hbm, ⟨3, _⟩ => ⟨S2048x1536, .f32⟩
  | .hbm, ⟨4, _⟩ => ⟨S1536, .f32⟩
  | .hbm, ⟨5, _⟩ => ⟨S_, .i32⟩
  | .hbm, ⟨6, _⟩ => ⟨S_, .f32⟩
  | .hbm, ⟨7, _⟩ => ⟨S2051x1536, .f32⟩
  | .hbm, ⟨8, _⟩ => ⟨S2048x1536, .f32⟩
  | .hbm, ⟨9, _⟩ => ⟨S1x1536, .f32⟩
  | .hbm, ⟨10, _⟩ => ⟨S1536, .f32⟩
  | .hbm, ⟨11, _⟩ => ⟨S1x1536, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S1x1536, .f32⟩
  | .hbm, ⟨23, _⟩ => ⟨S1536, .f32⟩
  | .hbm, ⟨24, _⟩ => ⟨S1x1536, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S1x1536, .f32⟩
  | .hbm, ⟨30, _⟩ => ⟨S1536, .f32⟩
  | .hbm, ⟨31, _⟩ => ⟨S1x1536, .f32⟩
  | .hbm, ⟨32, _⟩ => ⟨S2048x1536, .f32⟩
  | .hbm, ⟨33, _⟩ => ⟨S2048x1536, .f32⟩
  | .hbm, ⟨34, _⟩ => ⟨S2048x1536, .f32⟩
  | .hbm, ⟨35, _⟩ => ⟨S1x1536, .f32⟩
  | .hbm, ⟨36, _⟩ => ⟨S2048x1536, .f32⟩
  | .hbm, ⟨37, _⟩ => ⟨S2048x1536, .f32⟩
  | .hbm, ⟨38, _⟩ => ⟨S2048x1536, .f32⟩
  | .hbm, ⟨39, _⟩ => ⟨S2048x1536, .f32⟩
  | .hbm, ⟨40, _⟩ => ⟨S_, .f32⟩
  | .hbm, ⟨41, _⟩ => ⟨S2048x1536, .f32⟩
  | .hbm, ⟨42, _⟩ => ⟨S2048x1536, .f32⟩
  | .hbm, ⟨43, _⟩ => ⟨S_, .f32⟩
  | .hbm, ⟨44, _⟩ => ⟨S2048x1536, .f32⟩
  | .hbm, ⟨45, _⟩ => ⟨S2048x1536, .f32⟩
  | .hbm, ⟨46, _⟩ => ⟨S2048x1536, .f32⟩
  | _, _ => ⟨S2048x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== GdnConv.lean ====
abbrev S2048x9728 : Shape := ⟨2, ![2048, 9728]⟩
abbrev S4x1536 : Shape := ⟨2, ![4, 1536]⟩
abbrev S2048x1536 : Shape := ⟨2, ![2048, 1536]⟩
abbrev S2048x256 : Shape := ⟨2, ![2048, 256]⟩
abbrev S4x256 : Shape := ⟨2, ![4, 256]⟩
abbrev S1x256 : Shape := ⟨2, ![1, 256]⟩
abbrev S16x256 : Shape := ⟨2, ![16, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x9728, .f32⟩
  | .hbm, ⟨1, _⟩ => ⟨S4x1536, .f32⟩
  | .hbm, ⟨2, _⟩ => ⟨S2048x1536, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | _, _ => ⟨S2048x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GdnConvRefIdeal.lean ====
abbrev S2048x9728 : Shape := ⟨2, ![2048, 9728]⟩
abbrev S4x1536 : Shape := ⟨2, ![4, 1536]⟩
abbrev S2048x1536 : Shape := ⟨2, ![2048, 1536]⟩
abbrev S_ : Shape := ⟨0, ![]⟩
abbrev S2051x1536 : Shape := ⟨2, ![2051, 1536]⟩
abbrev S1x1536 : Shape := ⟨2, ![1, 1536]⟩
abbrev S1536 : Shape := ⟨1, ![1536]⟩

abbrev nBuf : Space → Nat
  | .hbm => 42
  | .vmem => 0
  | .smem => 0
  | _ => 0

abbrev bufTy : (tb : Table) → Fin (tcTables nBuf tb) → BufTy
  | .hbm, ⟨0, _⟩ => ⟨S2048x9728, .f32⟩
  | .hbm, ⟨1, _⟩ => ⟨S4x1536, .f32⟩
  | .hbm, ⟨2, _⟩ => ⟨S2048x1536, .f32⟩
  | .hbm, ⟨3, _⟩ => ⟨S_, .i32⟩
  | .hbm, ⟨4, _⟩ => ⟨S_, .f32⟩
  | .hbm, ⟨5, _⟩ => ⟨S2051x1536, .f32⟩
  | .hbm, ⟨6, _⟩ => ⟨S2048x1536, .f32⟩
  | .hbm, ⟨7, _⟩ => ⟨S1x1536, .f32⟩
  | .hbm, ⟨8, _⟩ => ⟨S1536, .f32⟩
  | .hbm, ⟨9, _⟩ => ⟨S1x1536, .f32⟩
  | .hbm, ⟨10, _⟩ => ⟨S2048x1536, .f32⟩
  | .hbm, ⟨11, _⟩ => ⟨S2048x1536, .f32⟩
  | .hbm, ⟨12, _⟩ => ⟨S2048x1536, .f32⟩
  | .hbm, ⟨13, _⟩ => ⟨S1x1536, .f32⟩
  | .hbm, ⟨14, _⟩ => ⟨S1536, .f32⟩
  | .hbm, ⟨15, _⟩ => ⟨S1x1536, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S2048x1536, .f32⟩
  | .hbm, ⟨20, _⟩ => ⟨S1x1536, .f32⟩
  | .hbm, ⟨21, _⟩ => ⟨S1536, .f32⟩
  | .hbm, ⟨22, _⟩ => ⟨S1x1536, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S2048x1536, .f32⟩
  | .hbm, ⟨27, _⟩ => ⟨S1x1536, .f32⟩
  | .hbm, ⟨28, _⟩ => ⟨S1536, .f32⟩
  | .hbm, ⟨29, _⟩ => ⟨S1x1536, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S2048x1536, .f32⟩
  | .hbm, ⟨35, _⟩ => ⟨S_, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | .hbm, ⟨41, _⟩ => ⟨S2048x1536, .f32⟩
  | _, _ => ⟨S2048x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Glu.lean ====
abbrev S2048x5632 : Shape := ⟨2, ![2048, 5632]⟩
abbrev S3x5632 : Shape := ⟨2, ![3, 5632]⟩
abbrev S1x5632 : Shape := ⟨2, ![1, 5632]⟩
abbrev S2048x16x352 : Shape := ⟨3, ![2048, 16, 352]⟩
abbrev S_ : Shape := ⟨0, ![]⟩
abbrev S2048x16x384 : Shape := ⟨3, ![2048, 16, 384]⟩
abbrev S2048x6144 : Shape := ⟨2, ![2048, 6144]⟩
abbrev S3x16x352 : Shape := ⟨3, ![3, 16, 352]⟩
abbrev S3x16x384 : Shape := ⟨3, ![3, 16, 384]⟩
abbrev S3x6144 : Shape := ⟨2, ![3, 6144]⟩
abbrev S1x16x352 : Shape := ⟨3, ![1, 16, 352]⟩
abbrev S1x16x384 : Shape := ⟨3, ![1, 16, 384]⟩
abbrev S1x6144 : Shape := ⟨2, ![1, 6144]⟩
abbrev S2048x3072 : Shape := ⟨2, ![2048, 3072]⟩
abbrev S2048x256 : Shape := ⟨2, ![2048, 256]⟩
abbrev S3x256 : Shape := ⟨2, ![3, 256]⟩
abbrev S1x256 : Shape := ⟨2, ![1, 256]⟩
abbrev S16x256 : Shape := ⟨2, ![16, 256]⟩
abbrev S2048x8x384 : Shape := ⟨3, ![2048, 8, 384]⟩
abbrev S2048x8x352 : Shape := ⟨3, ![2048, 8, 352]⟩
abbrev S2048x2816 : Shape := ⟨2, ![2048, 2816]⟩

abbrev nBuf : Space → Nat
  | .hbm => 22
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x16x352, .f32⟩
  | .hbm, ⟨4, _⟩ => ⟨S_, .i32⟩
  | .hbm, ⟨5, _⟩ => ⟨S_, .f32⟩
  | .hbm, ⟨6, _⟩ => ⟨S2048x16x384, .f32⟩
  | .hbm, ⟨7, _⟩ => ⟨S2048x6144, .f32⟩
  | .hbm, ⟨8, _⟩ => ⟨S3x16x352, .f32⟩
  | .hbm, ⟨9, _⟩ => ⟨S_, .i32⟩
  | .hbm, ⟨10, _⟩ => ⟨S_, .f32⟩
  | .hbm, ⟨11, _⟩ => ⟨S3x16x384, .f32⟩
  | .hbm, ⟨12, _⟩ => ⟨S3x6144, .f32⟩
  | .hbm, ⟨13, _⟩ => ⟨S1x16x352, .f32⟩
  | .hbm, ⟨14, _⟩ => ⟨S_, .i32⟩
  | .hbm, ⟨15, _⟩ => ⟨S_, .f32⟩
  | .hbm, ⟨16, _⟩ => ⟨S1x16x384, .f32⟩
  | .hbm, ⟨17, _⟩ => ⟨S1x6144, .f32⟩
  | .hbm, ⟨18, _⟩ => ⟨S2048x3072, .bf16⟩
  | .hbm, ⟨19, _⟩ => ⟨S2048x8x384, .bf16⟩
  | .hbm, ⟨20, _⟩ => ⟨S2048x8x352, .bf16⟩
  | .hbm, ⟨21, _⟩ => ⟨S2048x2816, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call2_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GluRefIdeal.lean ====
abbrev S2048x5632 : Shape := ⟨2, ![2048, 5632]⟩
abbrev S3x5632 : Shape := ⟨2, ![3, 5632]⟩
abbrev S1x5632 : Shape := ⟨2, ![1, 5632]⟩
abbrev S5632 : Shape := ⟨1, ![5632]⟩
abbrev S_ : Shape := ⟨0, ![]⟩
abbrev S2050x5632 : Shape := ⟨2, ![2050, 5632]⟩
abbrev S2048x2816 : Shape := ⟨2, ![2048, 2816]⟩

abbrev nBuf : Space → Nat
  | .hbm => 43
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S5632, .f32⟩
  | .hbm, ⟨4, _⟩ => ⟨S_, .i32⟩
  | .hbm, ⟨5, _⟩ => ⟨S_, .f32⟩
  | .hbm, ⟨6, _⟩ => ⟨S2050x5632, .f32⟩
  | .hbm, ⟨7, _⟩ => ⟨S2048x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S1x5632, .f32⟩
  | .hbm, ⟨28, _⟩ => ⟨S2048x5632, .f32⟩
  | .hbm, ⟨29, _⟩ => ⟨S2048x5632, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Proof.Point.lean ====
module

public import proofs.«01_k».proof.Proof.Gen.KernelIdeal.Skeleton

@[expose] public section

set_option maxRecDepth 16384

noncomputable section

/-! # What one grid point of each call computes

The two calls' bodies store every result whole, so a point is a function of the blocks it loads and of the carried
scratch: the composition of the bodies' named payloads, in the order the bodies compute them. -/

namespace Cert.KernelIdeal.Point

open Idealize.ShloMosaic Cert.KernelIdeal Cert.KernelIdeal.Gen

variable {F : FTy → Type} [FloatOps F]

/-- What a point of the forward call leaves: its block of the output, and the state it carries on. -/
structure Fwd (F : FTy → Type) [FloatOps F] where
  /-- the block of the gated, normed output -/
  o : Vec F S64x512 .bf16
  /-- the four heads' states after the chunk -/
  s : Vec F S512x128 .f32

/-- One point of the forward call on the blocks `u … n` and the carried state `s`. -/
def fwd (u : Vec F S64x512 .f32) (w q k : Vec F S64x512 .bf16) (a : Vec F S64x256 .bf16) (g : Vec F S64x128 .f32)
    (h : Vec F S64x512 .f32) (n : Vec F S1x128 .f32) (s : Vec F S512x128 .f32) : Fwd F :=
  let v2 := k0_pay3 w
  let v4 := k0_pay4 q
  let v6 := k0_pay5 k
  let v8 := k0_pay6 a
  let v19 := k0_pay9 s
  let v20 := k0_pay10 s
  let v21 := k0_pay11 s
  let v22 := k0_pay12 s
  let v28 := k0_pay13 u w s
  let v29 := k0_pay14 u
  let v31 := k0_pay15 w
  let v32 := k0_pay16 s
  let v34 := k0_pay17 v29 v31 v32
  let v40 := k0_pay18 u v2 v21
  let v46 := k0_pay19 u v2 v22
  let v55 := k0_pay20 v4 v8 v19 v28
  let v64 := k0_pay21 v4 v8 v20 v29 v31 v32
  let v73 := k0_pay22 u v2 v4 v8 v21
  let v77 := k0_pay23 v4 v22
  let v81 := k0_pay24 u v2 v8 v22
  let v82 := k0_pay25 v77 v81
  let v97 := k0_pay26 v6 g v19 v28
  let v104 := k0_pay27 v6 g v20 v34
  let v111 := k0_pay28 v6 g v21 v40
  let v118 := k0_pay29 v6 g v22 v46
  let v134 := k0_pay30 h n v55
  let v183 := k0_pay31 h n v64 v73 v82 v134
  let v184 := k0_pay32 v97 v104 v111 v118
  ⟨(k0_pay2 v183), (k0_pay1 v184)⟩

/-- What a point of the backward call leaves: the cotangents' blocks, the norm weight's share of the point, and the state's
    cotangent it carries on. -/
structure Bwd (F : FTy → Type) [FloatOps F] where
  /-- of `u` -/
  u : Vec F S64x512 .f32
  /-- of `w` -/
  w : Vec F S64x512 .f32
  /-- of the decayed queries -/
  q : Vec F S64x512 .f32
  /-- of the decayed keys -/
  k : Vec F S64x512 .f32
  /-- of the within-chunk attention -/
  a : Vec F S64x256 .f32
  /-- of the cumulative log decay -/
  g : Vec F S64x128 .f32
  /-- of the gate -/
  h : Vec F S64x512 .bf16
  /-- of the norm weight: what this point adds -/
  n : Vec F S1x128 .f32
  /-- of the state before the chunk -/
  s : Vec F S512x128 .f32

/-- One point of the backward call on the blocks `u … n`, the output's cotangent `d`, the saved state `p` and the carried
    cotangent `s` of the state after the chunk. -/
def bwd (u : Vec F S64x512 .f32) (w q k : Vec F S64x512 .bf16) (a : Vec F S64x256 .bf16) (g : Vec F S64x128 .f32)
    (h : Vec F S64x512 .f32) (n : Vec F S1x128 .f32)
    (d : Vec F S64x512 .f32) (p : Vec F S1x512x128 .f32) (s : Vec F S512x128 .f32) : Bwd F :=
  let v5 := k1_pay5 w
  let v7 := k1_pay6 q
  let v9 := k1_pay7 k
  let v11 := k1_pay8 a
  let v18 := k1_pay10 p
  let v19 := k1_pay11 p
  let v20 := k1_pay12 p
  let v21 := k1_pay13 p
  let v24 := k1_pay14 w
  let v25 := k1_pay15 p
  let v27 := k1_pay16 u w p
  let v28 := k1_pay17 u
  let v30 := k1_pay18 w
  let v31 := k1_pay19 p
  let v32 := k1_pay20 w p
  let v33 := k1_pay21 v28 v32
  let v36 := k1_pay22 v5
  let v37 := k1_pay23 v20
  let v39 := k1_pay24 u v5 v20
  let v42 := k1_pay25 v5
  let v43 := k1_pay26 v21
  let v45 := k1_pay27 u v5 v21
  let v47 := k1_pay28 v7
  let v48 := k1_pay29 v18
  let v51 := k1_pay30 v11
  let v52 := k1_pay31 v27
  let v54 := k1_pay32 v7 v11 v18 v27
  let v56 := k1_pay33 v7
  let v57 := k1_pay34 v19
  let v60 := k1_pay35 v11
  let v61 := k1_pay36 v28 v32
  let v63 := k1_pay37 v7 v11 v19 v28 v32
  let v65 := k1_pay38 v7
  let v66 := k1_pay39 v20
  let v69 := k1_pay40 v11
  let v70 := k1_pay41 u v5 v20
  let v72 := k1_pay42 u v5 v7 v11 v20
  let v74 := k1_pay43 v7
  let v75 := k1_pay44 v21
  let v78 := k1_pay45 v11
  let v79 := k1_pay46 u v5 v21
  let v81 := k1_pay47 u v5 v7 v11 v21
  let v82 := k1_pay48 g
  let v83 := k1_pay49 v82
  let v85 := k1_pay50 g
  let v87 := k1_pay51 g
  let v89 := k1_pay52 g
  let v91 := k1_pay53 v9
  let v92 := k1_pay54 v27
  let v94 := k1_pay55 v9
  let v95 := k1_pay56 v33
  let v97 := k1_pay57 v9
  let v98 := k1_pay58 v39
  let v100 := k1_pay59 v9
  let v101 := k1_pay60 v45
  let v109 := k1_pay62 v54
  let v112 := k1_pay63 v54
  let v114 := k1_pay64 v54
  let v116 := k1_pay65 n v54
  let v117 := k1_pay66 h
  let v118 := k1_pay67 h
  let v121 := k1_pay68 h
  let v122 := k1_pay69 h
  let v130 := k1_pay71 v63
  let v133 := k1_pay72 v63
  let v135 := k1_pay73 v63 v130
  let v137 := k1_pay74 n v63 v130
  let v138 := k1_pay75 h
  let v139 := k1_pay76 h
  let v142 := k1_pay77 h
  let v143 := k1_pay78 h
  let v151 := k1_pay80 v72
  let v154 := k1_pay81 v72
  let v156 := k1_pay82 v72
  let v158 := k1_pay83 n v72
  let v159 := k1_pay84 h
  let v160 := k1_pay85 h
  let v163 := k1_pay86 h
  let v164 := k1_pay87 h
  let v172 := k1_pay89 v81
  let v175 := k1_pay90 v81
  let v177 := k1_pay91 v81
  let v179 := k1_pay92 n v81
  let v180 := k1_pay93 h
  let v181 := k1_pay94 h
  let v182 := k1_pay95 (F := F)
  let v187 := k1_pay96 s
  let v188 := k1_pay97 s
  let v189 := k1_pay98 s
  let v190 := k1_pay99 s
  let v191 := k1_pay100 d
  let v192 := k1_pay101 d
  let v205 := k1_pay105 d v177 v180 v181
  let v222 := k1_pay106 n d v81 v172 v175 v180 v181
  let v224 := k1_pay107 d v164
  let v233 := k1_pay108 d v158 v159 v160 v163 v179 v180 v181 v182
  let v234 := k1_pay109 d v156 v164
  let v254 := k1_pay110 n v72 v151 v154 v224
  let v265 := k1_pay112 v137 v138 v139 v142 v192 v233
  let v269 := k1_pay113 v135 v143 v192 v205 v234
  let v284 := k1_pay116 n v63 v130 v133 v143 v192
  let v285 := k1_pay117 n v63 v133 v143 v192
  let v286 := k1_pay118 v284 v285
  let v295 := k1_pay120 v116 v117 v118 v121 v191 v265
  let v299 := k1_pay121 v114 v122 v191 v269
  let v316 := k1_pay122 n v54 v109 v112 v122 v191
  let v323 := k1_pay123 v100 v190
  let v326 := k1_pay124 v101 v190
  let v332 := k1_pay125 v21 v190
  let v334 := k1_pay126 v89 v190
  let v335 := k1_pay127 v97 v189
  let v341 := k1_pay128 v335
  let v353 := k1_pay129 v20 v189
  let v355 := k1_pay130 v87 v189
  let v362 := k1_pay131 v94 v188
  let v368 := k1_pay132 v95 v98 v188 v189 v326
  let v374 := k1_pay133 v19 v188
  let v376 := k1_pay134 v85 v188
  let v383 := k1_pay135 v91 v187
  let v384 := k1_pay136 v92 v187
  let v385 := k1_pay137 (F := F)
  let v387 := k1_pay138 v368 v384 v385
  let v395 := k1_pay139 v83 v187
  let v424 := k1_pay140 v18 v83 v85 v87 v89 v187 v332 v353 v374
  let v431 := k1_pay141 v78 v222 v323
  let v434 := k1_pay142 v79 v222
  let v436 := k1_pay143 v74 v222
  let v441 := k1_pay144 v334 v436
  let v451 := k1_pay145 v69 v254 v341
  let v464 := k1_pay146 v65 v254 v355
  let v470 := k1_pay147 v66 v75 v222 v254
  let v477 := k1_pay148 v60 v286 v362
  let v483 := k1_pay149 v61 v70 v254 v286 v434
  let v484 := k1_pay150 v56 v286
  let v490 := k1_pay151 v376 v484
  let v503 := k1_pay152 v51 v316 v383
  let v507 := k1_pay153 v52 v316 v483
  let v514 := k1_pay154 v47 v316 v395
  let v518 := k1_pay155 v48 v57 v286 v316 v470
  let v527 := k1_pay157 v42 v431 v441
  let v530 := k1_pay158 v43 v431
  let v531 := k1_pay159 (F := F)
  let v541 := k1_pay161 v36 v451 v464
  let v561 := k1_pay163 v30 v477 v490
  let v567 := k1_pay164 v31 v37 v451 v477 v530
  let v572 := k1_pay165 v431 v451 v477 v531
  let v577 := k1_pay167 v24 v503
  let v578 := k1_pay168 v25 v503
  ⟨(k1_pay170 v503 v572), (k1_pay169 v567 v578), v518, v387, v507, v424, (k1_pay1 v295), v299, (k1_pay171 v514 v527 v541 v561 v577)⟩

end Cert.KernelIdeal.Point

end

end
-- ==== Proof.Loads.lean ====
module

public import Idealize.ShloMosaic.Lib.VecWindow

@[expose] public section

noncomputable section

/-! # Whole loads and stores, whatever their sizes are spelt as

A body's load or store of a whole buffer is printed at literal sizes; these restate the library's facts on full-size
accesses so that `simp` finds them there. -/

namespace Cert.Whole

open Idealize.ShloMosaic

variable {sig : RefSig} {κ : Kind} {sp : Space} {s : Shape} {e : EltTy} {Val : EltTy → Type}

/-- A load of everything reads what the view reads. -/
theorem load (v : View sig κ sp s e) (f : v.ty.Contents Val) {off : Fin s.rank → ℕ} (inb : ∀ a, off a + s.size a ≤ s.size a) :
    v.readAt Val (Rect.unit off (no_index s.size) inb).toLoadRect f = v.read Val f := View.readAt_full v f inb

/-- A load of everything after a store of everything reads what was stored. -/
theorem load_store [∀ e, Nonempty (Val e)] (v : View sig κ sp s e) {off off' : Fin s.rank → ℕ}
    (inb : ∀ a, off a + s.size a ≤ s.size a) (inb' : ∀ a, off' a + s.size a ≤ s.size a) (w : s.Idx → Val e)
    (L : List (View.Piece Val s e)) :
    v.readCov ((⟨Rect.unit off' (no_index s.size) inb', w⟩ : View.Piece Val s e) :: L) (Rect.unit off (no_index s.size) inb).toLoadRect = w :=
  View.readCov_full v inb inb' w L

/-- A buffer whose last store was of everything holds what was stored. -/
theorem stored (v : View sig κ sp s e) (f : v.ty.Contents Val) {off : Fin s.rank → ℕ} (inb : ∀ a, off a + s.size a ≤ s.size a)
    (w : s.Idx → Val e) (L : List (View.Piece Val s e)) :
    v.read Val (v.writes Val f ((⟨Rect.unit off (no_index s.size) inb, w⟩ : View.Piece Val s e) :: L)) = w :=
  View.read_writes_full v f inb w L

end Cert.Whole

end

end
-- ==== Proof.FwdRun.lean ====
module

public import proofs.«01_k».proof.Proof.Point
public import proofs.«01_k».proof.Proof.Loads
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! # The forward call's body, run at one grid point

The body's triple over whole staging memrefs, at the first point (which fills the carried state with zeros) and at any
other: the inputs stay, and each result's buffer holds what `Point.fwd` computes from them. -/

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Point

variable {F : FTy → Type} [FloatOps F]

local notation "𝕄" => MT nD τ sig Unit (Elt F) ℕ (UR sig nD τ × Counters) ℕ

/-- The body's branch: taken at the first grid point. -/
abbrev cond (i : grid0.Coords) : Prop :=
  Scalar.cmpi .ne (Scalar.extui (Scalar.cmpi .eq (BitVec.ofNat 32 (i 0).val) 0#32)) 0#32 = 1#1

set_option maxHeartbeats 2000000 in
/-- The first point: whatever the carried buffers held, the point runs from zeros. -/
theorem run_first (c : Dev nD) (i : grid0.Coords)
    (arg1 : Memref sig .tc .vmem S64x512 .f32) (harg1 : arg1.IsWhole)
    (arg2 : Memref sig .tc .vmem S64x512 .bf16) (harg2 : arg2.IsWhole)
    (arg3 : Memref sig .tc .vmem S64x512 .bf16) (harg3 : arg3.IsWhole)
    (arg4 : Memref sig .tc .vmem S64x512 .bf16) (harg4 : arg4.IsWhole)
    (arg5 : Memref sig .tc .vmem S64x256 .bf16) (harg5 : arg5.IsWhole)
    (arg6 : Memref sig .tc .vmem S64x128 .f32) (harg6 : arg6.IsWhole)
    (arg7 : Memref sig .tc .vmem S64x512 .f32) (harg7 : arg7.IsWhole)
    (arg8 : Memref sig .tc .vmem S1x128 .f32) (harg8 : arg8.IsWhole)
    (arg9 : Memref sig .tc .vmem S64x512 .bf16) (harg9 : arg9.IsWhole)
    (arg10 : Memref sig .tc .vmem S1x512x128 .f32) (harg10 : arg10.IsWhole)
    (arg11 : Memref sig .tc .vmem S512x128 .f32) (harg11 : arg11.IsWhole)
    (hc : cond i) (u : Vec F S64x512 .f32) (w : Vec F S64x512 .bf16) (q : Vec F S64x512 .bf16) (k : Vec F S64x512 .bf16) (a : Vec F S64x256 .bf16) (g : Vec F S64x128 .f32) (h : Vec F S64x512 .f32) (n : Vec F S1x128 .f32) (E : Set ℕ) (K : PUnit → sProp 𝕄) :
    iprop(owns (c : Thread nD τ) arg1 fullShare u ∗ owns (c : Thread nD τ) arg2 fullShare w ∗ owns (c : Thread nD τ) arg3 fullShare q ∗ owns (c : Thread nD τ) arg4 fullShare k ∗ owns (c : Thread nD τ) arg5 fullShare a ∗ owns (c : Thread nD τ) arg6 fullShare g ∗ owns (c : Thread nD τ) arg7 fullShare h ∗ owns (c : Thread nD τ) arg8 fullShare n
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare u ∗ owns (c : Thread nD τ) arg2 fullShare w ∗ owns (c : Thread nD τ) arg3 fullShare q ∗ owns (c : Thread nD τ) arg4 fullShare k ∗ owns (c : Thread nD τ) arg5 fullShare a ∗ owns (c : Thread nD τ) arg6 fullShare g ∗ owns (c : Thread nD τ) arg7 fullShare h ∗ owns (c : Thread nD τ) arg8 fullShare n
            ∗ owns (c : Thread nD τ) arg9 fullShare ((fwd u w q k a g h n (k0_pay7 (F := F))).o) ∗ owns (c : Thread nD τ) arg10 fullShare (k0_pay8 (k0_pay7 (F := F))) ∗ owns (c : Thread nD τ) arg11 fullShare ((fwd u w q k a g h n (k0_pay7 (F := F))).s)) -∗ K ⟨⟩))
      ⊢ wp frame (wpE (defs₀ (F := F)) Variants.none c none) E (cc0_gdn_scan_0 i arg1 harg1 arg2 harg2 arg3 harg3 arg4 harg4 arg5 harg5 arg6 harg6 arg7 harg7 arg8 harg8 arg9 harg9 arg10 harg10 arg11 harg11) K := by
  simp only [cc0_gdn_scan_0_eq_skeleton]; unfold cc0_gdn_scan_0_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    refine (Whole.stored _ _ _ _ _).trans ?_
    sl_unfold_run_names; (try simp only [Whole.load, Whole.load_store, hf0, hf1, hf2, hf3, hf4, hf5, hf6, hf7]); (try rfl)
  isplitl [H9]
  · iexists _; isplitr
    swap; · iexact H9
    ipureintro
    refine (Whole.stored _ _ _ _ _).trans ?_
    sl_unfold_run_names; (try simp only [Whole.load, Whole.load_store, hf0, hf1, hf2, hf3, hf4, hf5, hf6, hf7]); (try rfl)
  iexists _; isplitr
  swap; · iexact H10
  ipureintro
  refine (Whole.stored _ _ _ _ _).trans ?_
  sl_unfold_run_names; (try simp only [Whole.load, Whole.load_store, hf0, hf1, hf2, hf3, hf4, hf5, hf6, hf7]); (try rfl)

set_option maxHeartbeats 2000000 in
/-- Any later point: it runs from what the carried buffers hold. -/
theorem run_later (c : Dev nD) (i : grid0.Coords)
    (arg1 : Memref sig .tc .vmem S64x512 .f32) (harg1 : arg1.IsWhole)
    (arg2 : Memref sig .tc .vmem S64x512 .bf16) (harg2 : arg2.IsWhole)
    (arg3 : Memref sig .tc .vmem S64x512 .bf16) (harg3 : arg3.IsWhole)
    (arg4 : Memref sig .tc .vmem S64x512 .bf16) (harg4 : arg4.IsWhole)
    (arg5 : Memref sig .tc .vmem S64x256 .bf16) (harg5 : arg5.IsWhole)
    (arg6 : Memref sig .tc .vmem S64x128 .f32) (harg6 : arg6.IsWhole)
    (arg7 : Memref sig .tc .vmem S64x512 .f32) (harg7 : arg7.IsWhole)
    (arg8 : Memref sig .tc .vmem S1x128 .f32) (harg8 : arg8.IsWhole)
    (arg9 : Memref sig .tc .vmem S64x512 .bf16) (harg9 : arg9.IsWhole)
    (arg10 : Memref sig .tc .vmem S1x512x128 .f32) (harg10 : arg10.IsWhole)
    (arg11 : Memref sig .tc .vmem S512x128 .f32) (harg11 : arg11.IsWhole)
    (hc : ¬ cond i) (u : Vec F S64x512 .f32) (w : Vec F S64x512 .bf16) (q : Vec F S64x512 .bf16) (k : Vec F S64x512 .bf16) (a : Vec F S64x256 .bf16) (g : Vec F S64x128 .f32) (h : Vec F S64x512 .f32) (n : Vec F S1x128 .f32) (s : Vec F S512x128 .f32) (E : Set ℕ) (K : PUnit → sProp 𝕄) :
    iprop(owns (c : Thread nD τ) arg1 fullShare u ∗ owns (c : Thread nD τ) arg2 fullShare w ∗ owns (c : Thread nD τ) arg3 fullShare q ∗ owns (c : Thread nD τ) arg4 fullShare k ∗ owns (c : Thread nD τ) arg5 fullShare a ∗ owns (c : Thread nD τ) arg6 fullShare g ∗ owns (c : Thread nD τ) arg7 fullShare h ∗ owns (c : Thread nD τ) arg8 fullShare n
        ∗ (∃ d, owns (c : Thread nD τ) arg9 fullShare d) ∗ (∃ d, owns (c : Thread nD τ) arg10 fullShare d) ∗ owns (c : Thread nD τ) arg11 fullShare s
        ∗ (iprop(owns (c : Thread nD τ) arg1 fullShare u ∗ owns (c : Thread nD τ) arg2 fullShare w ∗ owns (c : Thread nD τ) arg3 fullShare q ∗ owns (c : Thread nD τ) arg4 fullShare k ∗ owns (c : Thread nD τ) arg5 fullShare a ∗ owns (c : Thread nD τ) arg6 fullShare g ∗ owns (c : Thread nD τ) arg7 fullShare h ∗ owns (c : Thread nD τ) arg8 fullShare n
            ∗ owns (c : Thread nD τ) arg9 fullShare ((fwd u w q k a g h n s).o) ∗ owns (c : Thread nD τ) arg10 fullShare (k0_pay8 s) ∗ owns (c : Thread nD τ) arg11 fullShare ((fwd u w q k a g h n s).s)) -∗ K ⟨⟩))
      ⊢ wp frame (wpE (defs₀ (F := F)) Variants.none c none) E (cc0_gdn_scan_0 i arg1 harg1 arg2 harg2 arg3 harg3 arg4 harg4 arg5 harg5 arg6 harg6 arg7 harg7 arg8 harg8 arg9 harg9 arg10 harg10 arg11 harg11) K := by
  simp only [cc0_gdn_scan_0_eq_skeleton]; unfold cc0_gdn_scan_0_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    refine (Whole.stored _ _ _ _ _).trans ?_
    sl_unfold_run_names; (try simp only [Whole.load, Whole.load_store, hf0, hf1, hf2, hf3, hf4, hf5, hf6, hf7, hf10]); (try rfl)
  isplitl [H9]
  · iexists _; isplitr
    swap; · iexact H9
    ipureintro
    refine (Whole.stored _ _ _ _ _).trans ?_
    sl_unfold_run_names; (try simp only [Whole.load, Whole.load_store, hf0, hf1, hf2, hf3, hf4, hf5, hf6, hf7, hf10]); (try rfl)
  iexists _; isplitr
  swap; · iexact H10
  ipureintro
  refine (Whole.stored _ _ _ _ _).trans ?_
  sl_unfold_run_names; (try simp only [Whole.load, Whole.load_store, hf0, hf1, hf2, hf3, hf4, hf5, hf6, hf7, hf10]); (try rfl)

end Cert.KernelIdeal.Fwd

end

end
-- ==== Proof.FwdRegion.lean ====
module

public import proofs.«01_k».proof.Proof.FwdRun

@[expose] public section

set_option maxRecDepth 16384

noncomputable section

/-! # The forward call as a region

The proof data of the forward call's pipeline over any contents `V` it is entered with: what each point leaves in its
windows' buffers and in the carried state, and the body obligation. -/

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Point

variable {F : FTy → Type} [FloatOps F]

local notation "𝕄" => MT nD τ sig Unit (Elt F) ℕ (UR sig nD τ × Counters) ℕ

/-- The branch is taken at the first point only. -/
theorem cond_iff (t : Fin cfg0.N) : cond (grid0.coords t) ↔ t.val = 0 := by
  have ht : t.val < 32 := Nat.lt_of_lt_of_eq t.isLt N_0
  have e0 : (grid0.coords t 0).val = t.val / 1 % 32 := Pipeline.Grid.coords_val t 0 (by decide) rfl
  have h : cond (grid0.coords t) ↔ t.val % 32 = 0 := by
    simp only [cond, e0]
    word_cmp
  rw [h, Nat.mod_eq_of_lt ht]

/-- A natural number as a grid point (past the last one, wrapped). -/
def pt (n : ℕ) : Fin cfg0.N := ⟨n % 32, lt_of_lt_of_eq (Nat.mod_lt _ (by omega)) N_0.symm⟩

theorem pt_val (t : Fin cfg0.N) : pt t.val = t :=
  Fin.ext (Nat.mod_eq_of_lt (Nat.lt_of_lt_of_eq t.isLt N_0))

/-- The scratch that carries the state between points. -/
abbrev scM : Memref sig .tc .vmem S512x128 .f32 := Memref.whole cc0_scratch0

variable (V : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What point `t` computes from the carried state `s`. -/
def at_ (c : Dev nD) (t : Fin cfg0.N) (s : Vec F S512x128 .f32) : Fwd F :=
  fwd (iblk V c 0 t) (iblk V c 1 t) (iblk V c 2 t) (iblk V c 3 t) (iblk V c 4 t) (iblk V c 5 t) (iblk V c 6 t) (iblk V c 7 t) s

/-- The carried state before point `n`: zeros, then what each point leaves. -/
def state (c : Dev nD) : ℕ → Vec F S512x128 .f32
  | 0 => k0_pay7 (F := F)
  | n + 1 => (at_ V c (pt n) (state c n)).s

/-- What point `t` computes in the run. -/
abbrev res (c : Dev nD) (t : Fin cfg0.N) : Fwd F := at_ V c t (state V c t.val)

theorem state_succ (c : Dev nD) (t : Fin cfg0.N) : state V c (t.val + 1) = (res V c t).s := by
  show (at_ V c (pt t.val) _).s = _
  rw [pt_val]

/-- The invariant between points: the carried scratch at `state` (at anything before the first point), the other scoped
    buffers and the generator register at something. -/
def inv (c : Dev nD) : ℕ → sProp 𝕄
  | 0 => Pipeline.ΦA spec0 c
  | n + 1 => iprop(owns (c : Thread nD τ) scM fullShare (state V c (n + 1))
      ∗ Pipeline.scopedRestBut (Ix := Unit) (Name := ℕ) (U := UR sig nD τ × Counters) (Lvl := ℕ) (Val := Elt F) spec0 c [cc0_scratch0]
      ∗ (∃ r, prngReg c r))

/-- The invariant before the first point, with the carried scratch apart. -/
theorem inv_zero (c : Dev nD) : (Pipeline.ΦA spec0 c : sProp 𝕄)
    = iprop(iprop((∃ d, owns (c : Thread nD τ) scM fullShare d)
      ∗ Pipeline.scopedRestBut (Ix := Unit) (Name := ℕ) (U := UR sig nD τ × Counters) (Lvl := ℕ) (Val := Elt F) spec0 c [cc0_scratch0])
      ∗ (∃ r, prngReg c r)) := by
  unfold Pipeline.ΦA
  rw [Pipeline.scopedRest_split_of_list spec0 c [cc0_scratch0] (by decide) (by decide)]
  simp only [scM, owns_whole]
  rfl

theorem inv_pos (c : Dev nD) (n : ℕ) (h : n ≠ 0) : inv V c n = iprop(owns (c : Thread nD τ) scM fullShare (state V c n)
      ∗ Pipeline.scopedRestBut (Ix := Unit) (Name := ℕ) (U := UR sig nD τ × Counters) (Lvl := ℕ) (Val := Elt F) spec0 c [cc0_scratch0]
      ∗ (∃ r, prngReg c r)) := by
  obtain ⟨n, rfl⟩ := Nat.exists_eq_succ_of_ne_zero h
  rfl

/-- The proof data: the arrays as the region finds them; after the body at a point each input's buffer at its block, each
    result's at what the point computes; nothing owed; full shares. -/
def dat (c : Dev nD) : Dat τ (Elt F) Unit ℕ (UR sig nD τ × Counters) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (res V c t).o
    | ⟨9, _⟩ => k0_pay8 (state V c t.val)
    | ⟨_ + 10, h⟩ => absurd h (Nat.not_lt.2 (Nat.le_add_left _ _))
  Φ t := inv V c t.val
  q _ := fullShare
  owed _ := 0

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = (res V c t).o := by dsimp only [dat]
theorem after_9 (c : Dev nD) (t : Fin cfg0.N) : (dat V c).after 9 t = k0_pay8 (state V c t.val) := by dsimp only [dat]

/-- An input's current staging buffer holds its block at every point, fetched there or not. -/
theorem before_in (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dat V c).after w t) = (dat V c).blockOf w t)
    (t : Fin cfg0.N) (d) : (dat V c).before w t d = (dat V c).fetched w t d :=
  (dat V c).before_in_eq_fetched w hw hlive hclip hkeep t d
theorem before_0 (c : Dev nD) (t : Fin cfg0.N) (d) : (dat V c).before 0 t d = iblk V c 0 t :=
  before_in V c 0 rfl (fun _ => rfl) (fun _ _ _ => rfl) (fun _ => rfl) t d
theorem before_1 (c : Dev nD) (t : Fin cfg0.N) (d) : (dat V c).before 1 t d = iblk V c 1 t :=
  before_in V c 1 rfl (fun _ => rfl) (fun _ _ _ => rfl) (fun _ => rfl) t d
theorem before_2 (c : Dev nD) (t : Fin cfg0.N) (d) : (dat V c).before 2 t d = iblk V c 2 t :=
  before_in V c 2 rfl (fun _ => rfl) (fun _ _ _ => rfl) (fun _ => rfl) t d
theorem before_3 (c : Dev nD) (t : Fin cfg0.N) (d) : (dat V c).before 3 t d = iblk V c 3 t :=
  before_in V c 3 rfl (fun _ => rfl) (fun _ _ _ => rfl) (fun _ => rfl) t d
theorem before_4 (c : Dev nD) (t : Fin cfg0.N) (d) : (dat V c).before 4 t d = iblk V c 4 t :=
  before_in V c 4 rfl (fun _ => rfl) (fun _ _ _ => rfl) (fun _ => rfl) t d
theorem before_5 (c : Dev nD) (t : Fin cfg0.N) (d) : (dat V c).before 5 t d = iblk V c 5 t :=
  before_in V c 5 rfl (fun _ => rfl) (fun _ _ _ => rfl) (fun _ => rfl) t d
theorem before_6 (c : Dev nD) (t : Fin cfg0.N) (d) : (dat V c).before 6 t d = iblk V c 6 t :=
  before_in V c 6 rfl (fun _ => rfl) (fun _ _ _ => rfl) (fun _ => rfl) t d
theorem before_7 (c : Dev nD) (t : Fin cfg0.N) (d) : (dat V c).before 7 t d = iblk V c 7 t :=
  before_in V c 7 rfl (fun _ => rfl) (fun _ _ _ => rfl) (fun _ => rfl) t d

set_option maxHeartbeats 6400000 in
/-- The body at any point: the inputs' buffers hold their blocks; the first point runs from anything in the carried buffers,
    a later one from what the point before left there. -/
theorem sound_body (c : Dev nD) (t : Fin cfg0.N) :
    iprop((dat V c).Φ t.castSucc ∗ (dat V c).owesAt () t.castSucc ∗ (∃ d, owns (c : Thread nD τ) ((cfg0.win 0).stage (cfg0.slots t 0)) fullShare ((dat V c).before 0 t d)) ∗ (∃ d, owns (c : Thread nD τ) ((cfg0.win 1).stage (cfg0.slots t 1)) fullShare ((dat V c).before 1 t d)) ∗ (∃ d, owns (c : Thread nD τ) ((cfg0.win 2).stage (cfg0.slots t 2)) fullShare ((dat V c).before 2 t d)) ∗ (∃ d, owns (c : Thread nD τ) ((cfg0.win 3).stage (cfg0.slots t 3)) fullShare ((dat V c).before 3 t d)) ∗ (∃ d, owns (c : Thread nD τ) ((cfg0.win 4).stage (cfg0.slots t 4)) fullShare ((dat V c).before 4 t d)) ∗ (∃ d, owns (c : Thread nD τ) ((cfg0.win 5).stage (cfg0.slots t 5)) fullShare ((dat V c).before 5 t d)) ∗ (∃ d, owns (c : Thread nD τ) ((cfg0.win 6).stage (cfg0.slots t 6)) fullShare ((dat V c).before 6 t d)) ∗ (∃ d, owns (c : Thread nD τ) ((cfg0.win 7).stage (cfg0.slots t 7)) fullShare ((dat V c).before 7 t d)) ∗ (∃ d, owns (c : Thread nD τ) ((cfg0.win 8).stage (cfg0.slots t 8)) fullShare ((dat V c).before 8 t d)) ∗ (∃ d, owns (c : Thread nD τ) ((cfg0.win 9).stage (cfg0.slots t 9)) fullShare ((dat V c).before 9 t d)))
      ⊢ wp frame (wpE (defs₀ (F := F)) Variants.none c none) Set.univ (bodyAt0 t)
        (fun _ => iprop((dat V c).Φ t.succ ∗ (dat V c).owesAt () t.succ ∗ owns (c : Thread nD τ) ((cfg0.win 0).stage (cfg0.slots t 0)) fullShare ((dat V c).after 0 t) ∗ owns (c : Thread nD τ) ((cfg0.win 1).stage (cfg0.slots t 1)) fullShare ((dat V c).after 1 t) ∗ owns (c : Thread nD τ) ((cfg0.win 2).stage (cfg0.slots t 2)) fullShare ((dat V c).after 2 t) ∗ owns (c : Thread nD τ) ((cfg0.win 3).stage (cfg0.slots t 3)) fullShare ((dat V c).after 3 t) ∗ owns (c : Thread nD τ) ((cfg0.win 4).stage (cfg0.slots t 4)) fullShare ((dat V c).after 4 t) ∗ owns (c : Thread nD τ) ((cfg0.win 5).stage (cfg0.slots t 5)) fullShare ((dat V c).after 5 t) ∗ owns (c : Thread nD τ) ((cfg0.win 6).stage (cfg0.slots t 6)) fullShare ((dat V c).after 6 t) ∗ owns (c : Thread nD τ) ((cfg0.win 7).stage (cfg0.slots t 7)) fullShare ((dat V c).after 7 t) ∗ owns (c : Thread nD τ) ((cfg0.win 8).stage (cfg0.slots t 8)) fullShare ((dat V c).after 8 t) ∗ owns (c : Thread nD τ) ((cfg0.win 9).stage (cfg0.slots t 9)) fullShare ((dat V c).after 9 t))) := by
  unfold bodyAt0
  simp only [before_0, before_1, before_2, before_3, before_4, before_5, before_6, before_7]
  rw [show (dat V c).owesAt () t.succ = (dat V c).owesAt () t.castSucc from rfl, after_0, after_1, after_2, after_3, after_4, after_5, after_6, after_7, after_8, after_9]
  rw [show (dat V c).Φ t.succ = inv V c (t.val + 1) from rfl, inv_pos V c _ (Nat.succ_ne_zero _), state_succ]
  rw [show (dat V c).Φ t.castSucc = inv V c t.val from rfl]
  unfold res at_
  by_cases hz : t.val = 0
  · rw [show inv V c t.val = Pipeline.ΦA spec0 c by rw [hz]; rfl, inv_zero]
    rw [show state V c t.val = k0_pay7 (F := F) by rw [hz]; rfl]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ ((cond_iff t).mpr hz) (iblk V c 0 t) (iblk V c 1 t) (iblk V c 2 t) (iblk V c 3 t) (iblk V c 4 t) (iblk V c 5 t) (iblk V c 6 t) (iblk V c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [inv_pos V c _ hz]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_later c (grid0.coords t) _ _ _ _ _ _ _ _ _ _ _ _ _ _ _ _ _ _ _ _ _ _ (fun h => hz ((cond_iff t).mp h)) (iblk V c 0 t) (iblk V c 1 t) (iblk V c 2 t) (iblk V c 3 t) (iblk V c 4 t) (iblk V c 5 t) (iblk V c 6 t) (iblk V c 7 t) (state V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body. -/
theorem row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dat V c) (defs₀ (F := F)) Variants.none () Set.univ := fun t => by
  rw [bigSep_W0, bigSep_W0, row]
  exact triple_restated (sound_body V c t) rfl .rfl fun _ => .rfl

/-- What the region hands the invariant at its start, -/
theorem hin (c : Dev nD) : (iprop(Pipeline.scopedRest spec0 c ∗ (∃ r, prngReg c r)) : sProp 𝕄) ⊢ (dat V c).Φ 0 := by
  rw [show (dat V c).Φ 0 = Pipeline.ΦA spec0 c from rfl]
  exact .rfl

/-- and what it takes back at its end: the carried state is forgotten. -/
theorem hout (c : Dev nD) : (dat V c).Φ (Fin.last cfg0.N) ⊢ (iprop(Pipeline.scopedRest spec0 c ∗ (∃ r, prngReg c r)) : sProp 𝕄) := by
  rw [show (dat V c).Φ (Fin.last cfg0.N) = inv V c cfg0.N from rfl, inv_pos V c _ (by rw [show cfg0.N = 32 from N_0]; omega)]
  refine .trans ?_ (Entails.of_eq (show (Pipeline.ΦA spec0 c : sProp 𝕄) = _ from rfl))
  rw [inv_zero]
  iintro ⟨HS, Hr, Hg⟩
  isplitl [HS Hr]
  · isplitl [HS]; · iexists _; iexact HS
    iexact Hr
  iexact Hg

end Cert.KernelIdeal.Fwd

end

end
-- ==== Proof.BwdRun.lean ====
module

public import proofs.«01_k».proof.Proof.Point
public import proofs.«01_k».proof.Proof.Loads
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! # The backward call's body, run at one grid point

The body's triple over whole staging memrefs, at the first point (which fills the norm weight's cotangent and the state's
with zeros) and at any other: the inputs stay, and each result's buffer holds what `Point.bwd` computes from them, the
norm weight's cotangent added to what its buffer held. -/

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Point

variable {F : FTy → Type} [FloatOps F]

local notation "𝕄" => MT nD τ sig Unit (Elt F) ℕ (UR sig nD τ × Counters) ℕ

/-- The body's branch: taken at the first grid point. -/
abbrev cond (i : grid1.Coords) : Prop :=
  Scalar.cmpi .ne (Scalar.extui (Scalar.cmpi .eq (BitVec.ofNat 32 (i 0).val) 0#32)) 0#32 = 1#1

set_option maxHeartbeats 2000000 in
/-- The first point: whatever the carried buffers held, the point runs from zeros. -/
theorem run_first (c : Dev nD) (i : grid1.Coords)
    (arg1 : Memref sig .tc .vmem S64x512 .f32) (harg1 : arg1.IsWhole)
    (arg2 : Memref sig .tc .vmem S64x512 .bf16) (harg2 : arg2.IsWhole)
    (arg3 : Memref sig .tc .vmem S64x512 .bf16) (harg3 : arg3.IsWhole)
    (arg4 : Memref sig .tc .vmem S64x512 .bf16) (harg4 : arg4.IsWhole)
    (arg5 : Memref sig .tc .vmem S64x256 .bf16) (harg5 : arg5.IsWhole)
    (arg6 : Memref sig .tc .vmem S64x128 .f32) (harg6 : arg6.IsWhole)
    (arg7 : Memref sig .tc .vmem S64x512 .f32) (harg7 : arg7.IsWhole)
    (arg8 : Memref sig .tc .vmem S1x128 .f32) (harg8 : arg8.IsWhole)
    (arg9 : Memref sig .tc .vmem S64x512 .f32) (harg9 : arg9.IsWhole)
    (arg10 : Memref sig .tc .vmem S1x512x128 .f32) (harg10 : arg10.IsWhole)
    (arg11 : Memref sig .tc .vmem S64x512 .f32) (harg11 : arg11.IsWhole)
    (arg12 : Memref sig .tc .vmem S64x512 .f32) (harg12 : arg12.IsWhole)
    (arg13 : Memref sig .tc .vmem S64x512 .f32) (harg13 : arg13.IsWhole)
    (arg14 : Memref sig .tc .vmem S64x512 .f32) (harg14 : arg14.IsWhole)
    (arg15 : Memref sig .tc .vmem S64x256 .f32) (harg15 : arg15.IsWhole)
    (arg16 : Memref sig .tc .vmem S64x128 .f32) (harg16 : arg16.IsWhole)
    (arg17 : Memref sig .tc .vmem S64x512 .bf16) (harg17 : arg17.IsWhole)
    (arg18 : Memref sig .tc .vmem S1x128 .f32) (harg18 : arg18.IsWhole)
    (arg19 : Memref sig .tc .vmem S512x128 .f32) (harg19 : arg19.IsWhole)
    (hc : cond i) (u : Vec F S64x512 .f32) (w : Vec F S64x512 .bf16) (q : Vec F S64x512 .bf16) (k : Vec F S64x512 .bf16) (a : Vec F S64x256 .bf16) (g : Vec F S64x128 .f32) (h : Vec F S64x512 .f32) (n : Vec F S1x128 .f32) (d : Vec F S64x512 .f32) (p : Vec F S1x512x128 .f32) (E : Set ℕ) (K : PUnit → sProp 𝕄) :
    iprop(owns (c : Thread nD τ) arg1 fullShare u ∗ owns (c : Thread nD τ) arg2 fullShare w ∗ owns (c : Thread nD τ) arg3 fullShare q ∗ owns (c : Thread nD τ) arg4 fullShare k ∗ owns (c : Thread nD τ) arg5 fullShare a ∗ owns (c : Thread nD τ) arg6 fullShare g ∗ owns (c : Thread nD τ) arg7 fullShare h ∗ owns (c : Thread nD τ) arg8 fullShare n ∗ owns (c : Thread nD τ) arg9 fullShare d ∗ owns (c : Thread nD τ) arg10 fullShare p
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare u ∗ owns (c : Thread nD τ) arg2 fullShare w ∗ owns (c : Thread nD τ) arg3 fullShare q ∗ owns (c : Thread nD τ) arg4 fullShare k ∗ owns (c : Thread nD τ) arg5 fullShare a ∗ owns (c : Thread nD τ) arg6 fullShare g ∗ owns (c : Thread nD τ) arg7 fullShare h ∗ owns (c : Thread nD τ) arg8 fullShare n ∗ owns (c : Thread nD τ) arg9 fullShare d ∗ owns (c : Thread nD τ) arg10 fullShare p
            ∗ owns (c : Thread nD τ) arg11 fullShare ((bwd u w q k a g h n d p (k1_pay4 (F := F))).u) ∗ owns (c : Thread nD τ) arg12 fullShare ((bwd u w q k a g h n d p (k1_pay4 (F := F))).w) ∗ owns (c : Thread nD τ) arg13 fullShare ((bwd u w q k a g h n d p (k1_pay4 (F := F))).q) ∗ owns (c : Thread nD τ) arg14 fullShare ((bwd u w q k a g h n d p (k1_pay4 (F := F))).k) ∗ owns (c : Thread nD τ) arg15 fullShare ((bwd u w q k a g h n d p (k1_pay4 (F := F))).a) ∗ owns (c : Thread nD τ) arg16 fullShare ((bwd u w q k a g h n d p (k1_pay4 (F := F))).g) ∗ owns (c : Thread nD τ) arg17 fullShare ((bwd u w q k a g h n d p (k1_pay4 (F := F))).h) ∗ owns (c : Thread nD τ) arg18 fullShare (k1_pay2 (bwd u w q k a g h n d p (k1_pay4 (F := F))).n (k1_pay3 (F := F))) ∗ owns (c : Thread nD τ) arg19 fullShare ((bwd u w q k a g h n d p (k1_pay4 (F := F))).s)) -∗ K ⟨⟩))
      ⊢ wp frame (wpE (defs₀ (F := F)) Variants.none c none) E (cc1_gdn_scan_bwd_0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_gdn_scan_bwd_0_eq_skeleton]; unfold cc1_gdn_scan_bwd_0_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    refine (Whole.stored _ _ _ _ _).trans ?_
    sl_unfold_run_names; (try simp only [Whole.load, Whole.load_store, hf0, hf1, hf2, hf3, hf4, hf5, hf6, hf7, hf8, hf9]); (try rfl)
  isplitl [H11]
  · iexists _; isplitr
    swap; · iexact H11
    ipureintro
    refine (Whole.stored _ _ _ _ _).trans ?_
    sl_unfold_run_names; (try simp only [Whole.load, Whole.load_store, hf0, hf1, hf2, hf3, hf4, hf5, hf6, hf7, hf8, hf9]); (try rfl)
  isplitl [H12]
  · iexists _; isplitr
    swap; · iexact H12
    ipureintro
    refine (Whole.stored _ _ _ _ _).trans ?_
    sl_unfold_run_names; (try simp only [Whole.load, Whole.load_store, hf0, hf1, hf2, hf3, hf4, hf5, hf6, hf7, hf8, hf9]); (try rfl)
  isplitl [H13]
  · iexists _; isplitr
    swap; · iexact H13
    ipureintro
    refine (Whole.stored _ _ _ _ _).trans ?_
    sl_unfold_run_names; (try simp only [Whole.load, Whole.load_store, hf0, hf1, hf2, hf3, hf4, hf5, hf6, hf7, hf8, hf9]); (try rfl)
  isplitl [H14]
  · iexists _; isplitr
    swap; · iexact H14
    ipureintro
    refine (Whole.stored _ _ _ _ _).trans ?_
    sl_unfold_run_names; (try simp only [Whole.load, Whole.load_store, hf0, hf1, hf2, hf3, hf4, hf5, hf6, hf7, hf8, hf9]); (try rfl)
  isplitl [H15]
  · iexists _; isplitr
    swap; · iexact H15
    ipureintro
    refine (Whole.stored _ _ _ _ _).trans ?_
    sl_unfold_run_names; (try simp only [Whole.load, Whole.load_store, hf0, hf1, hf2, hf3, hf4, hf5, hf6, hf7, hf8, hf9]); (try rfl)
  isplitl [H16]
  · iexists _; isplitr
    swap; · iexact H16
    ipureintro
    refine (Whole.stored _ _ _ _ _).trans ?_
    sl_unfold_run_names; (try simp only [Whole.load, Whole.load_store, hf0, hf1, hf2, hf3, hf4, hf5, hf6, hf7, hf8, hf9]); (try rfl)
  isplitl [H17]
  · iexists _; isplitr
    swap; · iexact H17
    ipureintro
    refine (Whole.stored _ _ _ _ _).trans ?_
    sl_unfold_run_names; (try simp only [Whole.load, Whole.load_store, hf0, hf1, hf2, hf3, hf4, hf5, hf6, hf7, hf8, hf9]); (try rfl)
  iexists _; isplitr
  swap; · iexact H18
  ipureintro
  refine (Whole.stored _ _ _ _ _).trans ?_
  sl_unfold_run_names; (try simp only [Whole.load, Whole.load_store, hf0, hf1, hf2, hf3, hf4, hf5, hf6, hf7, hf8, hf9]); (try rfl)

set_option maxHeartbeats 2000000 in
/-- Any later point: it runs from what the carried buffers hold. -/
theorem run_later (c : Dev nD) (i : grid1.Coords)
    (arg1 : Memref sig .tc .vmem S64x512 .f32) (harg1 : arg1.IsWhole)
    (arg2 : Memref sig .tc .vmem S64x512 .bf16) (harg2 : arg2.IsWhole)
    (arg3 : Memref sig .tc .vmem S64x512 .bf16) (harg3 : arg3.IsWhole)
    (arg4 : Memref sig .tc .vmem S64x512 .bf16) (harg4 : arg4.IsWhole)
    (arg5 : Memref sig .tc .vmem S64x256 .bf16) (harg5 : arg5.IsWhole)
    (arg6 : Memref sig .tc .vmem S64x128 .f32) (harg6 : arg6.IsWhole)
    (arg7 : Memref sig .tc .vmem S64x512 .f32) (harg7 : arg7.IsWhole)
    (arg8 : Memref sig .tc .vmem S1x128 .f32) (harg8 : arg8.IsWhole)
    (arg9 : Memref sig .tc .vmem S64x512 .f32) (harg9 : arg9.IsWhole)
    (arg10 : Memref sig .tc .vmem S1x512x128 .f32) (harg10 : arg10.IsWhole)
    (arg11 : Memref sig .tc .vmem S64x512 .f32) (harg11 : arg11.IsWhole)
    (arg12 : Memref sig .tc .vmem S64x512 .f32) (harg12 : arg12.IsWhole)
    (arg13 : Memref sig .tc .vmem S64x512 .f32) (harg13 : arg13.IsWhole)
    (arg14 : Memref sig .tc .vmem S64x512 .f32) (harg14 : arg14.IsWhole)
    (arg15 : Memref sig .tc .vmem S64x256 .f32) (harg15 : arg15.IsWhole)
    (arg16 : Memref sig .tc .vmem S64x128 .f32) (harg16 : arg16.IsWhole)
    (arg17 : Memref sig .tc .vmem S64x512 .bf16) (harg17 : arg17.IsWhole)
    (arg18 : Memref sig .tc .vmem S1x128 .f32) (harg18 : arg18.IsWhole)
    (arg19 : Memref sig .tc .vmem S512x128 .f32) (harg19 : arg19.IsWhole)
    (hc : ¬ cond i) (u : Vec F S64x512 .f32) (w : Vec F S64x512 .bf16) (q : Vec F S64x512 .bf16) (k : Vec F S64x512 .bf16) (a : Vec F S64x256 .bf16) (g : Vec F S64x128 .f32) (h : Vec F S64x512 .f32) (n : Vec F S1x128 .f32) (d : Vec F S64x512 .f32) (p : Vec F S1x512x128 .f32) (z : Vec F S1x128 .f32) (s : Vec F S512x128 .f32) (E : Set ℕ) (K : PUnit → sProp 𝕄) :
    iprop(owns (c : Thread nD τ) arg1 fullShare u ∗ owns (c : Thread nD τ) arg2 fullShare w ∗ owns (c : Thread nD τ) arg3 fullShare q ∗ owns (c : Thread nD τ) arg4 fullShare k ∗ owns (c : Thread nD τ) arg5 fullShare a ∗ owns (c : Thread nD τ) arg6 fullShare g ∗ owns (c : Thread nD τ) arg7 fullShare h ∗ owns (c : Thread nD τ) arg8 fullShare n ∗ owns (c : Thread nD τ) arg9 fullShare d ∗ owns (c : Thread nD τ) arg10 fullShare p
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare z ∗ owns (c : Thread nD τ) arg19 fullShare s
        ∗ (iprop(owns (c : Thread nD τ) arg1 fullShare u ∗ owns (c : Thread nD τ) arg2 fullShare w ∗ owns (c : Thread nD τ) arg3 fullShare q ∗ owns (c : Thread nD τ) arg4 fullShare k ∗ owns (c : Thread nD τ) arg5 fullShare a ∗ owns (c : Thread nD τ) arg6 fullShare g ∗ owns (c : Thread nD τ) arg7 fullShare h ∗ owns (c : Thread nD τ) arg8 fullShare n ∗ owns (c : Thread nD τ) arg9 fullShare d ∗ owns (c : Thread nD τ) arg10 fullShare p
            ∗ owns (c : Thread nD τ) arg11 fullShare ((bwd u w q k a g h n d p s).u) ∗ owns (c : Thread nD τ) arg12 fullShare ((bwd u w q k a g h n d p s).w) ∗ owns (c : Thread nD τ) arg13 fullShare ((bwd u w q k a g h n d p s).q) ∗ owns (c : Thread nD τ) arg14 fullShare ((bwd u w q k a g h n d p s).k) ∗ owns (c : Thread nD τ) arg15 fullShare ((bwd u w q k a g h n d p s).a) ∗ owns (c : Thread nD τ) arg16 fullShare ((bwd u w q k a g h n d p s).g) ∗ owns (c : Thread nD τ) arg17 fullShare ((bwd u w q k a g h n d p s).h) ∗ owns (c : Thread nD τ) arg18 fullShare (k1_pay2 (bwd u w q k a g h n d p s).n z) ∗ owns (c : Thread nD τ) arg19 fullShare ((bwd u w q k a g h n d p s).s)) -∗ K ⟨⟩))
      ⊢ wp frame (wpE (defs₀ (F := F)) Variants.none c none) E (cc1_gdn_scan_bwd_0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_gdn_scan_bwd_0_eq_skeleton]; unfold cc1_gdn_scan_bwd_0_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg18.eq_unread hf17; obtain rfl := harg19.eq_unread hf18
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    refine (Whole.stored _ _ _ _ _).trans ?_
    sl_unfold_run_names; (try simp only [Whole.load, Whole.load_store, hf0, hf1, hf2, hf3, hf4, hf5, hf6, hf7, hf8, hf9, hf17, hf18]); (try rfl)
  isplitl [H11]
  · iexists _; isplitr
    swap; · iexact H11
    ipureintro
    refine (Whole.stored _ _ _ _ _).trans ?_
    sl_unfold_run_names; (try simp only [Whole.load, Whole.load_store, hf0, hf1, hf2, hf3, hf4, hf5, hf6, hf7, hf8, hf9, hf17, hf18]); (try rfl)
  isplitl [H12]
  · iexists _; isplitr
    swap; · iexact H12
    ipureintro
    refine (Whole.stored _ _ _ _ _).trans ?_
    sl_unfold_run_names; (try simp only [Whole.load, Whole.load_store, hf0, hf1, hf2, hf3, hf4, hf5, hf6, hf7, hf8, hf9, hf17, hf18]); (try rfl)
  isplitl [H13]
  · iexists _; isplitr
    swap; · iexact H13
    ipureintro
    refine (Whole.stored _ _ _ _ _).trans ?_
    sl_unfold_run_names; (try simp only [Whole.load, Whole.load_store, hf0, hf1, hf2, hf3, hf4, hf5, hf6, hf7, hf8, hf9, hf17, hf18]); (try rfl)
  isplitl [H14]
  · iexists _; isplitr
    swap; · iexact H14
    ipureintro
    refine (Whole.stored _ _ _ _ _).trans ?_
    sl_unfold_run_names; (try simp only [Whole.load, Whole.load_store, hf0, hf1, hf2, hf3, hf4, hf5, hf6, hf7, hf8, hf9, hf17, hf18]); (try rfl)
  isplitl [H15]
  · iexists _; isplitr
    swap; · iexact H15
    ipureintro
    refine (Whole.stored _ _ _ _ _).trans ?_
    sl_unfold_run_names; (try simp only [Whole.load, Whole.load_store, hf0, hf1, hf2, hf3, hf4, hf5, hf6, hf7, hf8, hf9, hf17, hf18]); (try rfl)
  isplitl [H16]
  · iexists _; isplitr
    swap; · iexact H16
    ipureintro
    refine (Whole.stored _ _ _ _ _).trans ?_
    sl_unfold_run_names; (try simp only [Whole.load, Whole.load_store, hf0, hf1, hf2, hf3, hf4, hf5, hf6, hf7, hf8, hf9, hf17, hf18]); (try rfl)
  isplitl [H17]
  · iexists _; isplitr
    swap; · iexact H17
    ipureintro
    refine (Whole.stored _ _ _ _ _).trans ?_
    sl_unfold_run_names; (try simp only [Whole.load, Whole.load_store, hf0, hf1, hf2, hf3, hf4, hf5, hf6, hf7, hf8, hf9, hf17, hf18]); (try rfl)
  iexists _; isplitr
  swap; · iexact H18
  ipureintro
  refine (Whole.stored _ _ _ _ _).trans ?_
  sl_unfold_run_names; (try simp only [Whole.load, Whole.load_store, hf0, hf1, hf2, hf3, hf4, hf5, hf6, hf7, hf8, hf9, hf17, hf18]); (try rfl)

end Cert.KernelIdeal.Bwd

end

end
-- ==== Proof.BwdRegion.lean ====
module

public import proofs.«01_k».proof.Proof.BwdRun

@[expose] public section

set_option maxRecDepth 16384

noncomputable section

/-! # The backward call as a region

The proof data of the backward call's pipeline over any contents `V` it is entered with: what each point leaves in its
windows' buffers, in the accumulated cotangent of the norm weight and in the carried state, and the body obligation. -/

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Point

variable {F : FTy → Type} [FloatOps F]

local notation "𝕄" => MT nD τ sig Unit (Elt F) ℕ (UR sig nD τ × Counters) ℕ

/-- The branch is taken at the first point only. -/
theorem cond_iff (t : Fin cfg1.N) : cond (grid1.coords t) ↔ t.val = 0 := by
  have ht : t.val < 32 := Nat.lt_of_lt_of_eq t.isLt N_1
  have e0 : (grid1.coords t 0).val = t.val / 1 % 32 := Pipeline.Grid.coords_val t 0 (by decide) rfl
  have h : cond (grid1.coords t) ↔ t.val % 32 = 0 := by
    simp only [cond, e0]
    word_cmp
  rw [h, Nat.mod_eq_of_lt ht]

/-- A natural number as a grid point (past the last one, wrapped). -/
def pt (n : ℕ) : Fin cfg1.N := ⟨n % 32, lt_of_lt_of_eq (Nat.mod_lt _ (by omega)) N_1.symm⟩

theorem pt_val (t : Fin cfg1.N) : pt t.val = t :=
  Fin.ext (Nat.mod_eq_of_lt (Nat.lt_of_lt_of_eq t.isLt N_1))

/-- The scratch that carries the state between points. -/
abbrev scM : Memref sig .tc .vmem S512x128 .f32 := Memref.whole cc1_scratch0

variable (V : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- What point `t` computes from the carried state `s`. -/
def at_ (c : Dev nD) (t : Fin cfg1.N) (s : Vec F S512x128 .f32) : Bwd F :=
  bwd (iblk V c 0 t) (iblk V c 1 t) (iblk V c 2 t) (iblk V c 3 t) (iblk V c 4 t) (iblk V c 5 t) (iblk V c 6 t) (iblk V c 7 t) (iblk V c 8 t) (iblk V c 9 t) s

/-- The carried state before point `n`: zeros, then what each point leaves. -/
def state (c : Dev nD) : ℕ → Vec F S512x128 .f32
  | 0 => k1_pay4 (F := F)
  | n + 1 => (at_ V c (pt n) (state c n)).s

/-- What point `t` computes in the run. -/
abbrev res (c : Dev nD) (t : Fin cfg1.N) : Bwd F := at_ V c t (state V c t.val)

theorem state_succ (c : Dev nD) (t : Fin cfg1.N) : state V c (t.val + 1) = (res V c t).s := by
  show (at_ V c (pt t.val) _).s = _
  rw [pt_val]

/-- The accumulated result before point `n`: zeros, then each point's share added. -/
def accum (c : Dev nD) : ℕ → Vec F S1x128 .f32
  | 0 => k1_pay3 (F := F)
  | n + 1 => k1_pay2 (res V c (pt n)).n (accum c n)

theorem accum_succ (c : Dev nD) (t : Fin cfg1.N) : accum V c (t.val + 1) = k1_pay2 (res V c t).n (accum V c t.val) := by
  show k1_pay2 (res V c (pt t.val)).n _ = _
  rw [pt_val]

/-- The invariant between points: the carried scratch at `state` (at anything before the first point), the other scoped
    buffers and the generator register at something. -/
def inv (c : Dev nD) : ℕ → sProp 𝕄
  | 0 => Pipeline.ΦA spec1 c
  | n + 1 => iprop(owns (c : Thread nD τ) scM fullShare (state V c (n + 1))
      ∗ Pipeline.scopedRestBut (Ix := Unit) (Name := ℕ) (U := UR sig nD τ × Counters) (Lvl := ℕ) (Val := Elt F) spec1 c [cc1_scratch0]
      ∗ (∃ r, prngReg c r))

/-- The invariant before the first point, with the carried scratch apart. -/
theorem inv_zero (c : Dev nD) : (Pipeline.ΦA spec1 c : sProp 𝕄)
    = iprop(iprop((∃ d, owns (c : Thread nD τ) scM fullShare d)
      ∗ Pipeline.scopedRestBut (Ix := Unit) (Name := ℕ) (U := UR sig nD τ × Counters) (Lvl := ℕ) (Val := Elt F) spec1 c [cc1_scratch0])
      ∗ (∃ r, prngReg c r)) := by
  unfold Pipeline.ΦA
  rw [Pipeline.scopedRest_split_of_list spec1 c [cc1_scratch0] (by decide) (by decide)]
  simp only [scM, owns_whole]
  rfl

theorem inv_pos (c : Dev nD) (n : ℕ) (h : n ≠ 0) : inv V c n = iprop(owns (c : Thread nD τ) scM fullShare (state V c n)
      ∗ Pipeline.scopedRestBut (Ix := Unit) (Name := ℕ) (U := UR sig nD τ × Counters) (Lvl := ℕ) (Val := Elt F) spec1 c [cc1_scratch0]
      ∗ (∃ r, prngReg c r)) := by
  obtain ⟨n, rfl⟩ := Nat.exists_eq_succ_of_ne_zero h
  rfl

/-- The proof data: the arrays as the region finds them; after the body at a point each input's buffer at its block, each
    result's at what the point computes; nothing owed; full shares. -/
def dat (c : Dev nD) : Dat τ (Elt F) Unit ℕ (UR sig nD τ × Counters) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (res V c t).u
    | ⟨11, _⟩ => (res V c t).w
    | ⟨12, _⟩ => (res V c t).q
    | ⟨13, _⟩ => (res V c t).k
    | ⟨14, _⟩ => (res V c t).a
    | ⟨15, _⟩ => (res V c t).g
    | ⟨16, _⟩ => (res V c t).h
    | ⟨17, _⟩ => accum V c (t.val + 1)
    | ⟨_ + 18, h⟩ => absurd h (Nat.not_lt.2 (Nat.le_add_left _ _))
  Φ t := inv V c t.val
  q _ := fullShare
  owed _ := 0

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = (res V c t).u := by dsimp only [dat]
theorem after_11 (c : Dev nD) (t : Fin cfg1.N) : (dat V c).after 11 t = (res V c t).w := by dsimp only [dat]
theorem after_12 (c : Dev nD) (t : Fin cfg1.N) : (dat V c).after 12 t = (res V c t).q := by dsimp only [dat]
theorem after_13 (c : Dev nD) (t : Fin cfg1.N) : (dat V c).after 13 t = (res V c t).k := by dsimp only [dat]
theorem after_14 (c : Dev nD) (t : Fin cfg1.N) : (dat V c).after 14 t = (res V c t).a := by dsimp only [dat]
theorem after_15 (c : Dev nD) (t : Fin cfg1.N) : (dat V c).after 15 t = (res V c t).g := by dsimp only [dat]
theorem after_16 (c : Dev nD) (t : Fin cfg1.N) : (dat V c).after 16 t = (res V c t).h := by dsimp only [dat]
theorem after_17 (c : Dev nD) (t : Fin cfg1.N) : (dat V c).after 17 t = accum V c (t.val + 1) := by dsimp only [dat]

/-- An input's current staging buffer holds its block at every point, fetched there or not. -/
theorem before_in (c : Dev nD) (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat V c).after w t) = (dat V c).blockOf w t)
    (t : Fin cfg1.N) (d) : (dat V c).before w t d = (dat V c).fetched w t d :=
  (dat V c).before_in_eq_fetched w hw hlive hclip hkeep t d
theorem before_0 (c : Dev nD) (t : Fin cfg1.N) (d) : (dat V c).before 0 t d = iblk V c 0 t :=
  before_in V c 0 rfl (fun _ => rfl) (fun _ _ _ => rfl) (fun _ => rfl) t d
theorem before_1 (c : Dev nD) (t : Fin cfg1.N) (d) : (dat V c).before 1 t d = iblk V c 1 t :=
  before_in V c 1 rfl (fun _ => rfl) (fun _ _ _ => rfl) (fun _ => rfl) t d
theorem before_2 (c : Dev nD) (t : Fin cfg1.N) (d) : (dat V c).before 2 t d = iblk V c 2 t :=
  before_in V c 2 rfl (fun _ => rfl) (fun _ _ _ => rfl) (fun _ => rfl) t d
theorem before_3 (c : Dev nD) (t : Fin cfg1.N) (d) : (dat V c).before 3 t d = iblk V c 3 t :=
  before_in V c 3 rfl (fun _ => rfl) (fun _ _ _ => rfl) (fun _ => rfl) t d
theorem before_4 (c : Dev nD) (t : Fin cfg1.N) (d) : (dat V c).before 4 t d = iblk V c 4 t :=
  before_in V c 4 rfl (fun _ => rfl) (fun _ _ _ => rfl) (fun _ => rfl) t d
theorem before_5 (c : Dev nD) (t : Fin cfg1.N) (d) : (dat V c).before 5 t d = iblk V c 5 t :=
  before_in V c 5 rfl (fun _ => rfl) (fun _ _ _ => rfl) (fun _ => rfl) t d
theorem before_6 (c : Dev nD) (t : Fin cfg1.N) (d) : (dat V c).before 6 t d = iblk V c 6 t :=
  before_in V c 6 rfl (fun _ => rfl) (fun _ _ _ => rfl) (fun _ => rfl) t d
theorem before_7 (c : Dev nD) (t : Fin cfg1.N) (d) : (dat V c).before 7 t d = iblk V c 7 t :=
  before_in V c 7 rfl (fun _ => rfl) (fun _ _ _ => rfl) (fun _ => rfl) t d
theorem before_8 (c : Dev nD) (t : Fin cfg1.N) (d) : (dat V c).before 8 t d = iblk V c 8 t :=
  before_in V c 8 rfl (fun _ => rfl) (fun _ _ _ => rfl) (fun _ => rfl) t d
theorem before_9 (c : Dev nD) (t : Fin cfg1.N) (d) : (dat V c).before 9 t d = iblk V c 9 t :=
  before_in V c 9 rfl (fun _ => rfl) (fun _ _ _ => rfl) (fun _ => rfl) t d

/-- Past the first point the accumulated result's buffer holds what the point before left. -/
theorem before_17 (c : Dev nD) (t : Fin cfg1.N) (h0 : t.val ≠ 0) (d) : (dat V c).before 17 t d = accum V c t.val := by
  have hN : t.val < 32 := lt_of_lt_of_eq t.isLt (show cfg1.N = 32 from N_1)
  rw [Dat.before_out_kept _ 17 rfl t (by omega) (Bool.eq_false_iff.mpr fun h => by have := (flush1_17 _).mp h; dsimp only at this; omega)
    (fun _ => rfl) (fun _ _ => rfl), after_17]
  congr 1; dsimp only; omega

set_option maxHeartbeats 6400000 in
/-- The body at any point: the inputs' buffers hold their blocks; the first point runs from anything in the carried buffers,
    a later one from what the point before left there. -/
theorem sound_body (c : Dev nD) (t : Fin cfg1.N) :
    iprop((dat V c).Φ t.castSucc ∗ (dat V c).owesAt () t.castSucc ∗ (∃ d, owns (c : Thread nD τ) ((cfg1.win 0).stage (cfg1.slots t 0)) fullShare ((dat V c).before 0 t d)) ∗ (∃ d, owns (c : Thread nD τ) ((cfg1.win 1).stage (cfg1.slots t 1)) fullShare ((dat V c).before 1 t d)) ∗ (∃ d, owns (c : Thread nD τ) ((cfg1.win 2).stage (cfg1.slots t 2)) fullShare ((dat V c).before 2 t d)) ∗ (∃ d, owns (c : Thread nD τ) ((cfg1.win 3).stage (cfg1.slots t 3)) fullShare ((dat V c).before 3 t d)) ∗ (∃ d, owns (c : Thread nD τ) ((cfg1.win 4).stage (cfg1.slots t 4)) fullShare ((dat V c).before 4 t d)) ∗ (∃ d, owns (c : Thread nD τ) ((cfg1.win 5).stage (cfg1.slots t 5)) fullShare ((dat V c).before 5 t d)) ∗ (∃ d, owns (c : Thread nD τ) ((cfg1.win 6).stage (cfg1.slots t 6)) fullShare ((dat V c).before 6 t d)) ∗ (∃ d, owns (c : Thread nD τ) ((cfg1.win 7).stage (cfg1.slots t 7)) fullShare ((dat V c).before 7 t d)) ∗ (∃ d, owns (c : Thread nD τ) ((cfg1.win 8).stage (cfg1.slots t 8)) fullShare ((dat V c).before 8 t d)) ∗ (∃ d, owns (c : Thread nD τ) ((cfg1.win 9).stage (cfg1.slots t 9)) fullShare ((dat V c).before 9 t d)) ∗ (∃ d, owns (c : Thread nD τ) ((cfg1.win 10).stage (cfg1.slots t 10)) fullShare ((dat V c).before 10 t d)) ∗ (∃ d, owns (c : Thread nD τ) ((cfg1.win 11).stage (cfg1.slots t 11)) fullShare ((dat V c).before 11 t d)) ∗ (∃ d, owns (c : Thread nD τ) ((cfg1.win 12).stage (cfg1.slots t 12)) fullShare ((dat V c).before 12 t d)) ∗ (∃ d, owns (c : Thread nD τ) ((cfg1.win 13).stage (cfg1.slots t 13)) fullShare ((dat V c).before 13 t d)) ∗ (∃ d, owns (c : Thread nD τ) ((cfg1.win 14).stage (cfg1.slots t 14)) fullShare ((dat V c).before 14 t d)) ∗ (∃ d, owns (c : Thread nD τ) ((cfg1.win 15).stage (cfg1.slots t 15)) fullShare ((dat V c).before 15 t d)) ∗ (∃ d, owns (c : Thread nD τ) ((cfg1.win 16).stage (cfg1.slots t 16)) fullShare ((dat V c).before 16 t d)) ∗ (∃ d, owns (c : Thread nD τ) ((cfg1.win 17).stage (cfg1.slots t 17)) fullShare ((dat V c).before 17 t d)))
      ⊢ wp frame (wpE (defs₀ (F := F)) Variants.none c none) Set.univ (bodyAt1 t)
        (fun _ => iprop((dat V c).Φ t.succ ∗ (dat V c).owesAt () t.succ ∗ owns (c : Thread nD τ) ((cfg1.win 0).stage (cfg1.slots t 0)) fullShare ((dat V c).after 0 t) ∗ owns (c : Thread nD τ) ((cfg1.win 1).stage (cfg1.slots t 1)) fullShare ((dat V c).after 1 t) ∗ owns (c : Thread nD τ) ((cfg1.win 2).stage (cfg1.slots t 2)) fullShare ((dat V c).after 2 t) ∗ owns (c : Thread nD τ) ((cfg1.win 3).stage (cfg1.slots t 3)) fullShare ((dat V c).after 3 t) ∗ owns (c : Thread nD τ) ((cfg1.win 4).stage (cfg1.slots t 4)) fullShare ((dat V c).after 4 t) ∗ owns (c : Thread nD τ) ((cfg1.win 5).stage (cfg1.slots t 5)) fullShare ((dat V c).after 5 t) ∗ owns (c : Thread nD τ) ((cfg1.win 6).stage (cfg1.slots t 6)) fullShare ((dat V c).after 6 t) ∗ owns (c : Thread nD τ) ((cfg1.win 7).stage (cfg1.slots t 7)) fullShare ((dat V c).after 7 t) ∗ owns (c : Thread nD τ) ((cfg1.win 8).stage (cfg1.slots t 8)) fullShare ((dat V c).after 8 t) ∗ owns (c : Thread nD τ) ((cfg1.win 9).stage (cfg1.slots t 9)) fullShare ((dat V c).after 9 t) ∗ owns (c : Thread nD τ) ((cfg1.win 10).stage (cfg1.slots t 10)) fullShare ((dat V c).after 10 t) ∗ owns (c : Thread nD τ) ((cfg1.win 11).stage (cfg1.slots t 11)) fullShare ((dat V c).after 11 t) ∗ owns (c : Thread nD τ) ((cfg1.win 12).stage (cfg1.slots t 12)) fullShare ((dat V c).after 12 t) ∗ owns (c : Thread nD τ) ((cfg1.win 13).stage (cfg1.slots t 13)) fullShare ((dat V c).after 13 t) ∗ owns (c : Thread nD τ) ((cfg1.win 14).stage (cfg1.slots t 14)) fullShare ((dat V c).after 14 t) ∗ owns (c : Thread nD τ) ((cfg1.win 15).stage (cfg1.slots t 15)) fullShare ((dat V c).after 15 t) ∗ owns (c : Thread nD τ) ((cfg1.win 16).stage (cfg1.slots t 16)) fullShare ((dat V c).after 16 t) ∗ owns (c : Thread nD τ) ((cfg1.win 17).stage (cfg1.slots t 17)) fullShare ((dat V c).after 17 t))) := by
  unfold bodyAt1
  simp only [before_0, before_1, before_2, before_3, before_4, before_5, before_6, before_7, before_8, before_9]
  rw [show (dat V c).owesAt () t.succ = (dat V c).owesAt () t.castSucc from rfl, after_0, after_1, after_2, after_3, after_4, after_5, after_6, after_7, after_8, after_9, after_10, after_11, after_12, after_13, after_14, after_15, after_16, after_17]
  rw [show (dat V c).Φ t.succ = inv V c (t.val + 1) from rfl, inv_pos V c _ (Nat.succ_ne_zero _), state_succ]
  rw [show (dat V c).Φ t.castSucc = inv V c t.val from rfl]
  rw [accum_succ]
  unfold res at_
  by_cases hz : t.val = 0
  · rw [show inv V c t.val = Pipeline.ΦA spec1 c by rw [hz]; rfl, inv_zero]
    rw [show state V c t.val = k1_pay4 (F := F) by rw [hz]; rfl, show accum V c t.val = k1_pay3 (F := F) by rw [hz]; rfl]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (run_first c (grid1.coords t) _ _ _ _ _ _ _ _ _ _ _ _ _ _ _ _ _ _ _ _ _ _ _ _ _ _ _ _ _ _ _ _ _ _ _ _ _ _ ((cond_iff t).mpr hz) (iblk V c 0 t) (iblk V c 1 t) (iblk V c 2 t) (iblk V c 3 t) (iblk V c 4 t) (iblk V c 5 t) (iblk V c 6 t) (iblk V c 7 t) (iblk V c 8 t) (iblk V c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS]; · iexact HS
    iintro ⟨H0, H1, H2, H3, H4, H5, H6, H7, H8, H9, H10, H11, H12, H13, H14, H15, H16, H17, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · rw [inv_pos V c _ hz]
    simp only [before_17 V c t hz]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (run_later c (grid1.coords t) _ _ _ _ _ _ _ _ _ _ _ _ _ _ _ _ _ _ _ _ _ _ _ _ _ _ _ _ _ _ _ _ _ _ _ _ _ _ (fun h => hz ((cond_iff t).mp h)) (iblk V c 0 t) (iblk V c 1 t) (iblk V c 2 t) (iblk V c 3 t) (iblk V c 4 t) (iblk V c 5 t) (iblk V c 6 t) (iblk V c 7 t) (iblk V c 8 t) (iblk V c 9 t) (accum V c t.val) (state V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexact H17
    isplitl [HS]; · iexact HS
    iintro ⟨H0, H1, H2, H3, H4, H5, H6, H7, H8, H9, H10, H11, H12, H13, H14, H15, H16, H17, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-- The body table's row at point `t`'s slots is the body. -/
theorem row (t : Fin cfg1.N) : defs₀ (F := F) .tc cfg1.body (cfg1.bodyArgs t (cfg1.slots t)) = bodyAt1 t := by
  unfold defs₀; rw [Defs.onTc_tc]

/-- The library's body obligation, at every point. -/
theorem body_obligation (c : Dev nD) : BodyObligation (dat V c) (defs₀ (F := F)) Variants.none () Set.univ := fun t => by
  rw [bigSep_W1, bigSep_W1, row]
  exact triple_restated (sound_body V c t) rfl .rfl fun _ => .rfl

/-- What the region hands the invariant at its start, -/
theorem hin (c : Dev nD) : (iprop(Pipeline.scopedRest spec1 c ∗ (∃ r, prngReg c r)) : sProp 𝕄) ⊢ (dat V c).Φ 0 := by
  rw [show (dat V c).Φ 0 = Pipeline.ΦA spec1 c from rfl]
  exact .rfl

/-- and what it takes back at its end: the carried state is forgotten. -/
theorem hout (c : Dev nD) : (dat V c).Φ (Fin.last cfg1.N) ⊢ (iprop(Pipeline.scopedRest spec1 c ∗ (∃ r, prngReg c r)) : sProp 𝕄) := by
  rw [show (dat V c).Φ (Fin.last cfg1.N) = inv V c cfg1.N from rfl, inv_pos V c _ (by rw [show cfg1.N = 32 from N_1]; omega)]
  refine .trans ?_ (Entails.of_eq (show (Pipeline.ΦA spec1 c : sProp 𝕄) = _ from rfl))
  rw [inv_zero]
  iintro ⟨HS, Hr, Hg⟩
  isplitl [HS Hr]
  · isplitl [HS]; · iexists _; iexact HS
    iexact Hr
  iexact Hg

end Cert.KernelIdeal.Bwd

end

end
-- ==== Proof.KernelRun.lean ====
module

public import proofs.«01_k».proof.Proof.FwdRegion
public import proofs.«01_k».proof.Proof.BwdRegion
public import proofs.«01_k».proof.Proof.Gen.KernelIdeal.Regions
public import Idealize.ShloMosaic.Lib.Pipeline.RegionArraysS

@[expose] public section

set_option maxRecDepth 16384

noncomputable section
/-! # The kernel program's run

The two calls in their order, launched: every fair execution ends, nothing faults, and at the end every unscoped buffer
holds what the two regions' proof data compute from the launch contents. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Rounds
open Idealize.ShloMosaic.Pipeline (Seg RegionSeg)

variable {F : FTy → Type} [FloatOps F]

local notation "𝕄" => MT nD τ sig Unit (Elt F) ℕ (UR sig nD τ × Counters) ℕ

variable (m : (ℓ : Loc nD τ sig) → Buf (Elt F) ℓ) (ρ : Dev nD → PrngReg)

/-- The contents the forward call is entered with: the launch's. -/
def V₀ (c : Dev nD) : Valuation τ sig (Elt F) := fun b => m (c, b)
/-- The contents between the two calls. -/
def V₁ (c : Dev nD) : Valuation τ sig (Elt F) := Pipeline.afterRegion (Fwd.dat (V₀ m) c) (V₀ m c)
/-- The contents at the end. -/
def V₂ (c : Dev nD) : Valuation τ sig (Elt F) := Pipeline.afterRegion (Bwd.dat (V₁ m) c) (V₁ m c)

/-- The two regions' proof data. -/
def pdats : (p : Fin 2) → (c : Dev nD) → Dat τ (Elt F) Unit ℕ (UR sig nD τ × Counters) ℕ (cfgs p) c
  | ⟨0, _⟩ => fun c => Fwd.dat (V₀ m) c
  | ⟨1, _⟩ => fun c => Bwd.dat (V₁ m) c

/-- The pipelines' own ghost algebra is the left component. -/
abbrev EP : Emb (UR sig nD τ) (MT nD τ sig Unit (Elt F) ℕ (UR sig nD τ × Counters) ℕ) := embL

/-- The launch element: every pipeline's cells and transfers. -/
def u₀ : UR sig nD τ × Counters := (initOf (Pipeline.cells cfgs cellOf_inj) (Pipeline.launchToks cfgs cellOf_inj), 1)

/-- Every semaphore of the TensorCore may be waited on, all at one level. -/
def L : GSem nD τ sig → Finset Unit := fun g => match g.1.2 with
  | .tc => {()}
  | _ => ∅
abbrev lv : GSem nD τ sig → Unit → ℕ := fun _ _ => 0

/-- Beside the buffers a core holds its generator register and owes nothing. -/
abbrev rest (c : Dev nD) : sProp 𝕄 := iprop((∃ W, owes (c : Thread nD τ) (0 : CellTallies nD τ sig Unit) W) ∗ (∃ r, prngReg c r) ∗ BI.emp)

theorem cut (p : Fin 2) : Pipeline.LevelCut (pcfgs (F := F)) adm () L lv p (fun _ => 0) (fun _ => 0) :=
  ⟨fun _ _ _ => by simp [L], fun _ _ _ => le_refl _, fun _ _ _ h => absurd h (by simp)⟩

set_option backward.isDefEq.respectTransparency.types false in
/-- The forward call's region. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (Fwd.body_obligation (V₀ m) c).loose) (fun _ _ => rfl) (fun _ => rfl) (fun c => (Fwd.dat (V₀ m) c).share_full fun _ => rfl)
    (fun c => Fwd.hin (V₀ m) c) (fun c => Fwd.hout (V₀ m) c) (fun _ => 0) (cut 0) (fun _ => BI.emp) (V₀ m) (fun _ _ => rfl)

set_option backward.isDefEq.respectTransparency.types false in
/-- The backward call's region. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (Bwd.body_obligation (V₁ m) c).loose) (fun _ _ => rfl) (fun _ => rfl) (fun c => (Bwd.dat (V₁ m) c).share_full fun _ => rfl)
    (fun c => Bwd.hin (V₁ m) c) (fun c => Bwd.hout (V₁ m) c) (fun _ => 0) (cut 1) (fun _ => BI.emp) (V₁ m) (fun _ _ => rfl)

theorem arrays0 : Pipeline.arrRefs (τ := τ) spec0 ⊆ Pipeline.ucRefs τ sig := by decide
theorem arrays1 : Pipeline.arrRefs (τ := τ) spec1 ⊆ Pipeline.ucRefs τ sig := by decide

set_option backward.isDefEq.respectTransparency.types false in
theorem pre0 (c : Dev nD) : iprop(StableHlo.held (c : Thread nD τ) (Pipeline.ucRefs τ sig) (V₀ m c) ∗ rest c) ⊢ (reg0 m).pre c := by
  unfold reg0
  exact RegionSeg.ofHeldIn_pre (pcs := pcfgs (F := F)) (a := adm) (p := 0) (pdats := pdats m) (S := Pipeline.ucRefs τ sig)
    (D := fun _ => 0) (R := fun _ => BI.emp) (W := V₀ m) (X := fun c => iprop(∃ r, prngReg c r)) (Y := fun c => iprop(∃ r, prngReg c r)) arrays0 c
set_option backward.isDefEq.respectTransparency.types false in
theorem post0 (c : Dev nD) : (reg0 m).post c ⊢ iprop(StableHlo.held (c : Thread nD τ) (Pipeline.ucRefs τ sig) (V₁ m c) ∗ rest c) := by
  unfold reg0
  exact RegionSeg.ofHeldIn_post (pcs := pcfgs (F := F)) (a := adm) (p := 0) (pdats := pdats m) (S := Pipeline.ucRefs τ sig)
    (D := fun _ => 0) (R := fun _ => BI.emp) (W := V₀ m) (X := fun c => iprop(∃ r, prngReg c r)) (Y := fun c => iprop(∃ r, prngReg c r)) arrays0 c
set_option backward.isDefEq.respectTransparency.types false in
theorem pre1 (c : Dev nD) : iprop(StableHlo.held (c : Thread nD τ) (Pipeline.ucRefs τ sig) (V₁ m c) ∗ rest c) ⊢ (reg1 m).pre c := by
  unfold reg1
  exact RegionSeg.ofHeldIn_pre (pcs := pcfgs (F := F)) (a := adm) (p := 1) (pdats := pdats m) (S := Pipeline.ucRefs τ sig)
    (D := fun _ => 0) (R := fun _ => BI.emp) (W := V₁ m) (X := fun c => iprop(∃ r, prngReg c r)) (Y := fun c => iprop(∃ r, prngReg c r)) arrays1 c
set_option backward.isDefEq.respectTransparency.types false in
theorem post1 (c : Dev nD) : (reg1 m).post c ⊢ iprop(StableHlo.held (c : Thread nD τ) (Pipeline.ucRefs τ sig) (V₂ m c) ∗ rest c) := by
  unfold reg1
  exact RegionSeg.ofHeldIn_post (pcs := pcfgs (F := F)) (a := adm) (p := 1) (pdats := pdats m) (S := Pipeline.ucRefs τ sig)
    (D := fun _ => 0) (R := fun _ => BI.emp) (W := V₁ m) (X := fun c => iprop(∃ r, prngReg c r)) (Y := fun c => iprop(∃ r, prngReg c r)) arrays1 c

set_option backward.isDefEq.respectTransparency.types false in
/-- From any memory with zero counters every fair execution of the program ends, with every unscoped buffer at its computed
    contents and every counter at zero. -/
theorem run_main : θ_run defs (onTc (τ := τ) (main (F := F))) ⟨m, fun _ => 0, ρ⟩ (fun r =>
    (∀ (c : Dev nD), ∀ b ∈ Pipeline.ucRefs τ sig, r.2.mem (c, b) = V₂ m c b) ∧ r.2.sem = fun _ => 0) :=
  Pipeline.θ_run_regions_kit_dev_sems (pcfgs (F := F)) adm (pdats m) () cellOf_inj EP defs₀ Variants.none L lv m ρ main
    (fun _ => [.region (reg0 m), .region (reg1 m)])
    (fun c Q => by rw [main_segs adm (pdats m) () Variants.none L lv (reg0 m) (reg1 m) c])
    (fun _ => by simp only [Seg.pipes_host, Seg.pipes_region, Seg.pipes_nil]; decide) (O₀ := fun _ => 0)
    (hL := fun g h => by
      unfold L
      split
      · exact absurd ‹_› h
      · rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ rest c))
    (Tₙ := fun c => StableHlo.held (c : Thread nD τ) (Pipeline.ucRefs τ sig) (V₂ m c))
    (hch := fun c => ⟨pre0 m c, (post0 m c).trans (pre1 m c), (post1 m c).trans (sep_mono .rfl sep_elim_left)⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hg, -⟩, -⟩
      imodintro
      isplitl [Hh]; · iexact Hh
      isplitl [HO]; · iexists ∅; iexact HO
      isplitl [Hg]; · iexists _; iexact Hg
      iempintro)
    (QY := fun c s => ∀ b ∈ Pipeline.ucRefs τ sig, s.mem (c, b) = V₂ m c b)
    (hfin := fun c s' => by
      unfold StableHlo.held
      iintro ⟨Hh, HSI⟩
      ihave Hr := (pointsTo_read_all (Pipeline.ucRefs τ sig) (fun b => ((c : Thread nD τ).1, b)) (V₂ m c) s') $$ [Hh HSI]
      · isplitl [Hh] <;> iassumption
      icases Hr with ⟨%h, HSI⟩
      imodintro
      isplitr; · ipureintro; exact h
      iexact HSI)
    (hQ := fun _ h hz => ⟨h, funext fun g => hz g (.inr (regions_no_unscoped g.2))⟩)

/-- A reference that is no result of the forward call holds between the calls what it held at launch. -/
theorem V₁_keeps (c : Dev nD) (r : Ref sig .tc) (h : ∀ w, Pipeline.arrRef spec0 w = r → (cfg0.win w).isOut = false) :
    V₁ m c (Proc.devRef .tc r) = m ((c : Thread nD τ).loc r) :=
  Pipeline.afterRegion_keeps (Fwd.dat (V₀ m) c) (V₀ m c) launch0.win.arr_inj (fun _ => rfl) r h

/-- A reference that is no result of the backward call holds at the end what it held between the calls. -/
theorem V₂_keeps (c : Dev nD) (r : Ref sig .tc) (h : ∀ w, Pipeline.arrRef spec1 w = r → (cfg1.win w).isOut = false) :
    V₂ m c (Proc.devRef .tc r) = V₁ m c (Proc.devRef .tc r) :=
  Pipeline.afterRegion_keeps (Bwd.dat (V₁ m) c) (V₁ m c) launch1.win.arr_inj (fun _ => rfl) r h

/-- A result of the forward call holds between the calls what its window's write-backs leave. -/
theorem V₁_arr (c : Dev nD) (w : Fin cfg0.W) : V₁ m c (Proc.devRef .tc (Pipeline.arrRef spec0 w)) = (Fwd.dat (V₀ m) c).arrAt w cfg0.N :=
  Pipeline.afterRegion_arr (Fwd.dat (V₀ m) c) (V₀ m c) launch0.win.arr_inj w

/-- A result of the backward call holds at the end what its window's write-backs leave. -/
theorem V₂_arr (c : Dev nD) (w : Fin cfg1.W) : V₂ m c (Proc.devRef .tc (Pipeline.arrRef spec1 w)) = (Bwd.dat (V₁ m) c).arrAt w cfg1.N :=
  Pipeline.afterRegion_arr (Bwd.dat (V₁ m) c) (V₁ m c) launch1.win.arr_inj w

/-- An argument of the program ends as launched. -/
theorem V₂_arg (c : Dev nD) (r : Ref sig .tc) (h0 : ∀ w, Pipeline.arrRef spec0 w = r → (cfg0.win w).isOut = false)
    (h1 : ∀ w, Pipeline.arrRef spec1 w = r → (cfg1.win w).isOut = false) : V₂ m c (Proc.devRef .tc r) = m ((c : Thread nD τ).loc r) :=
  (V₂_keeps m c r h1).trans (V₁_keeps m c r h0)

theorem mem_uc (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by rw [h]; exact Bool.false_ne_true⟩

end Cert.KernelIdeal.Run

end

end
-- ==== Proof.Frames.lean ====
module

public import proofs.«01_k».proof.Defs
public import proofs.«01_k».proof.Proof.KernelRun
public import proofs.«01_k».proof.Proof.Gen.Kernel

@[expose] public section

set_option maxRecDepth 16384

noncomputable section
/-! # The kernel's two frames

The kernel's run ends with its arguments as launched and every semaphore at zero, over the machine's floats and over the
reals. The two programs have the same text, so one run serves both. -/

namespace Cert.Frames

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Run

variable {F : FTy → Type} [FloatOps F]

/-- Whatever the floats are, the kernel ends with its arguments as launched and every semaphore at zero. -/
theorem run_args (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run (defs (F := F)) _ _).mono
    (fun r h => ⟨fun c => ⟨
      (h.1 c _ (mem_uc main_arg0 rfl)).trans (V₂_arg m c main_arg0 (by decide) (by decide)),
      (h.1 c _ (mem_uc main_arg1 rfl)).trans (V₂_arg m c main_arg1 (by decide) (by decide)),
      (h.1 c _ (mem_uc main_arg2 rfl)).trans (V₂_arg m c main_arg2 (by decide) (by decide)),
      (h.1 c _ (mem_uc main_arg3 rfl)).trans (V₂_arg m c main_arg3 (by decide) (by decide)),
      (h.1 c _ (mem_uc main_arg4 rfl)).trans (V₂_arg m c main_arg4 (by decide) (by decide)),
      (h.1 c _ (mem_uc main_arg5 rfl)).trans (V₂_arg m c main_arg5 (by decide) (by decide)),
      (h.1 c _ (mem_uc main_arg6 rfl)).trans (V₂_arg m c main_arg6 (by decide) (by decide)),
      (h.1 c _ (mem_uc main_arg7 rfl)).trans (V₂_arg m c main_arg7 (by decide) (by decide)),
      (h.1 c _ (mem_uc main_arg8 rfl)).trans (V₂_arg m c main_arg8 (by decide) (by decide))⟩, h.2⟩)
    (run_main m ρ)

/-- The kernel over the reals ends with its arguments as launched. -/
theorem kernelIdeal : Cert.quiescent_KernelIdeal := fun m ρ _ => run_args (F := Ideal) m ρ

/-! ## The kernel over floats

Its text is the kernel's over the reals, name by name, so its run is that one. -/

set_option maxHeartbeats 4000000 in
set_option backward.isDefEq.respectTransparency.types false in
theorem bodies_eq : Cert.Kernel.defs₀ (F := F) = Cert.KernelIdeal.defs₀ (F := F) := by
  funext pr l a
  cases pr with
  | tc =>
    match l, a with
    | 0, (t, s) => exact rfl
    | 1, (t, s) => exact rfl
  | scScalar _ => exact rfl
  | scVector _ _ => exact rfl

set_option maxHeartbeats 4000000 in
set_option backward.isDefEq.respectTransparency.types false in
theorem defs_eq : Cert.Kernel.defs (F := F) = Cert.KernelIdeal.defs (F := F) := by
  show Pipeline.defs Cert.KernelIdeal.pcfgs (Cert.Kernel.defs₀ (F := F)) = Pipeline.defs Cert.KernelIdeal.pcfgs Cert.KernelIdeal.defs₀
  exact congrArg (Pipeline.defs Cert.KernelIdeal.pcfgs) bodies_eq

set_option maxHeartbeats 4000000 in
set_option backward.isDefEq.respectTransparency.types false in
/-- The kernel over floats ends with its arguments as launched. -/
theorem kernel : Cert.quiescent_Kernel := fun m ρ _ => by
  have h := run_args (F := Bits) m ρ
  rw [← defs_eq] at h
  exact h

end Cert.Frames

end

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4096

noncomputable section

/-! # The reference program as lists of operations

The reference is stretches of host operations around two counted loops of thirty-two trips: the scan of the forward pass
and the scan its gradient runs backwards. -/

namespace Cert.ReferenceIdeal.Ops

open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

/-! ## The operations of `main` and of the two loops, in order -/

/-- 44 host operations of @main, in order. -/
abbrev hostOps0 : List (HloOp τ sig (Elt F)) :=
  ( StableHlo.unary main_arg6 main_v0 ((extractStridedSlice S2048x512 ![0, 8192] · slices_S2048x9728_S2048x512_0_8192) : (⟨S2048x9728, .f32⟩ : BufTy).Contents (Elt F) → (⟨S2048x512, .f32⟩ : BufTy).Contents (Elt F))
  :: StableHlo.unary main_arg1 main_v1 ((extf .f32 · bitsLt_bf16_f32) : (⟨S2048x512, .bf16⟩ : BufTy).Contents (Elt F) → (⟨S2048x512, .f32⟩ : BufTy).Contents (Elt F))
  :: StableHlo.unary main_arg2 main_v2 ((extf .f32 · bitsLt_bf16_f32) : (⟨S2048x512, .bf16⟩ : BufTy).Contents (Elt F) → (⟨S2048x512, .f32⟩ : BufTy).Contents (Elt F))
  :: StableHlo.unary main_arg3 main_v3 ((extf .f32 · bitsLt_bf16_f32) : (⟨S2048x512, .bf16⟩ : BufTy).Contents (Elt F) → (⟨S2048x512, .f32⟩ : BufTy).Contents (Elt F))
  :: StableHlo.unary main_arg4 main_v4 ((extf .f32 · bitsLt_bf16_f32) : (⟨S2048x256, .bf16⟩ : BufTy).Contents (Elt F) → (⟨S2048x256, .f32⟩ : BufTy).Contents (Elt F))
  :: StableHlo.unary main_arg5 main_v5 ((extractStridedSlice S2048x4 ![0, 0] · slices_S2048x128_S2048x4_0_0) : (⟨S2048x128, .f32⟩ : BufTy).Contents (Elt F) → (⟨S2048x4, .f32⟩ : BufTy).Contents (Elt F))
  :: StableHlo.reshape main_v5 main_v6 (rfl : (.f32 : EltTy) = .f32) shapeCasts_S2048x4_S32x64x4
  :: StableHlo.unary main_v6 main_v7 ((transpose S32x4x64 [0, 2, 1] · transposes_S32x64x4_S32x4x64_0_2_1) : (⟨S32x64x4, .f32⟩ : BufTy).Contents (Elt F) → (⟨S32x4x64, .f32⟩ : BufTy).Contents (Elt F))
  :: StableHlo.unary main_v7 main_v8 ((extractStridedSlice S32x4x1 ![0, 0, 63] · slices_S32x4x64_S32x4x1_0_0_63) : (⟨S32x4x64, .f32⟩ : BufTy).Contents (Elt F) → (⟨S32x4x1, .f32⟩ : BufTy).Contents (Elt F))
  :: StableHlo.reshape main_v8 main_v9 (rfl : (.f32 : EltTy) = .f32) shapeCasts_S32x4x1_S32x4
  :: StableHlo.unary main_v9 main_v10 (Host.exp : (⟨S32x4, .f32⟩ : BufTy).Contents (Elt F) → (⟨S32x4, .f32⟩ : BufTy).Contents (Elt F))
  :: StableHlo.reshape main_arg0 main_v11 (rfl : (.f32 : EltTy) = .f32) shapeCasts_S2048x512_S32x64x4x128
  :: StableHlo.unary main_v11 main_v12 ((transpose S32x4x64x128 [0, 2, 1, 3] · transposes_S32x64x4x128_S32x4x64x128_0_2_1_3) : (⟨S32x64x4x128, .f32⟩ : BufTy).Contents (Elt F) → (⟨S32x4x64x128, .f32⟩ : BufTy).Contents (Elt F))
  :: StableHlo.reshape main_v1 main_v13 (rfl : (.f32 : EltTy) = .f32) shapeCasts_S2048x512_S32x64x4x128
  :: StableHlo.unary main_v13 main_v14 ((transpose S32x4x64x128 [0, 2, 1, 3] · transposes_S32x64x4x128_S32x4x64x128_0_2_1_3) : (⟨S32x64x4x128, .f32⟩ : BufTy).Contents (Elt F) → (⟨S32x4x64x128, .f32⟩ : BufTy).Contents (Elt F))
  :: StableHlo.reshape main_v2 main_v15 (rfl : (.f32 : EltTy) = .f32) shapeCasts_S2048x512_S32x64x4x128
  :: StableHlo.unary main_v15 main_v16 ((transpose S32x4x64x128 [0, 2, 1, 3] · transposes_S32x64x4x128_S32x4x64x128_0_2_1_3) : (⟨S32x64x4x128, .f32⟩ : BufTy).Contents (Elt F) → (⟨S32x4x64x128, .f32⟩ : BufTy).Contents (Elt F))
  :: StableHlo.reshape main_v3 main_v17 (rfl : (.f32 : EltTy) = .f32) shapeCasts_S2048x512_S32x64x4x128
  :: StableHlo.unary main_v17 main_v18 ((transpose S32x4x64x128 [0, 2, 1, 3] · transposes_S32x64x4x128_S32x4x64x128_0_2_1_3) : (⟨S32x64x4x128, .f32⟩ : BufTy).Contents (Elt F) → (⟨S32x4x64x128, .f32⟩ : BufTy).Contents (Elt F))
  :: StableHlo.reshape main_v4 main_v19 (rfl : (.f32 : EltTy) = .f32) shapeCasts_S2048x256_S32x64x4x64
  :: StableHlo.unary main_v19 main_v20 ((transpose S32x4x64x64 [0, 2, 1, 3] · transposes_S32x64x4x64_S32x4x64x64_0_2_1_3) : (⟨S32x64x4x64, .f32⟩ : BufTy).Contents (Elt F) → (⟨S32x4x64x64, .f32⟩ : BufTy).Contents (Elt F))
  :: StableHlo.nullary main_cst (constant S_ .f32 0x00000000#32)
  :: StableHlo.unary main_cst main_v21 (broadcastInDim S4x128x128 ![] bcast_S_S4x128x128 : (⟨S_, .f32⟩ : BufTy).Contents (Elt F) → (⟨S4x128x128, .f32⟩ : BufTy).Contents (Elt F))
  :: StableHlo.nullary main_cst_0 (constant S_ .f32 0x00000000#32)
  :: StableHlo.unary main_cst_0 main_v22 (broadcastInDim S32x4x64x128 ![] bcast_S_S32x4x64x128 : (⟨S_, .f32⟩ : BufTy).Contents (Elt F) → (⟨S32x4x64x128, .f32⟩ : BufTy).Contents (Elt F))
  :: StableHlo.nullary main_cst_1 (constant S_ .f32 0x00000000#32)
  :: StableHlo.unary main_cst_1 main_v23 (broadcastInDim S32x4x128x128 ![] bcast_S_S32x4x128x128 : (⟨S_, .f32⟩ : BufTy).Contents (Elt F) → (⟨S32x4x128x128, .f32⟩ : BufTy).Contents (Elt F))
  :: StableHlo.nullary main_cst_2 (constant S_ .f32 0x00000000#32)
  :: StableHlo.unary main_cst_2 main_v24 (broadcastInDim S32x4x64x128 ![] bcast_S_S32x4x64x128 : (⟨S_, .f32⟩ : BufTy).Contents (Elt F) → (⟨S32x4x64x128, .f32⟩ : BufTy).Contents (Elt F))
  :: StableHlo.nullary main_cst_3 (constant S_ .f32 0x00000000#32)
  :: StableHlo.unary main_cst_3 main_v25 (broadcastInDim S32x4x1x1 ![] bcast_S_S32x4x1x1 : (⟨S_, .f32⟩ : BufTy).Contents (Elt F) → (⟨S32x4x1x1, .f32⟩ : BufTy).Contents (Elt F))
  :: StableHlo.nullary main_c (constantI S_ 32 0#32)
  :: StableHlo.unary main_v12 main_v26_0 id
  :: StableHlo.unary main_v14 main_v26_1 id
  :: StableHlo.unary main_v16 main_v26_2 id
  :: StableHlo.unary main_v18 main_v26_3 id
  :: StableHlo.unary main_v20 main_v26_4 id
  :: StableHlo.unary main_v10 main_v26_5 id
  :: StableHlo.unary main_c main_v26_6 id
  :: StableHlo.unary main_v21 main_v26_7 id
  :: StableHlo.unary main_v22 main_v26_8 id
  :: StableHlo.unary main_v23 main_v26_9 id
  :: StableHlo.unary main_v24 main_v26_10 id
  :: StableHlo.unary main_v25 main_v26_11 id
  :: [] )
/-- Each of these operations touches TensorCore references only. -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 24 host operations of @main, in order. -/
abbrev hostOps0_1 : List (HloOp τ sig (Elt F)) :=
  [ StableHlo.unary main_v26_8 main_v27 ((transpose S32x64x4x128 [0, 2, 1, 3] · transposes_S32x4x64x128_S32x64x4x128_0_2_1_3) : (⟨S32x4x64x128, .f32⟩ : BufTy).Contents (Elt F) → (⟨S32x64x4x128, .f32⟩ : BufTy).Contents (Elt F)),
    StableHlo.reshape main_v27 main_v28 (rfl : (.f32 : EltTy) = .f32) shapeCasts_S32x64x4x128_S2048x4x128,
    StableHlo.reshape main_arg7 main_v29 (rfl : (.f32 : EltTy) = .f32) shapeCasts_S1x128_S128,
    StableHlo.binary main_v28 main_v28 main_v30 (mulf : (⟨S2048x4x128, .f32⟩ : BufTy).Contents (Elt F) → (⟨S2048x4x128, .f32⟩ : BufTy).Contents (Elt F) → (⟨S2048x4x128, .f32⟩ : BufTy).Contents (Elt F)),
    StableHlo.nullary main_cst_4 (constant S_ .f32 0x00000000#32),
    StableHlo.binary main_v30 main_cst_4 main_v31 ((fun x v => Host.reduceAdd x v reducesTo_S2048x4x128_S2048x4_d2 h_S_) : (⟨S2048x4x128, .f32⟩ : BufTy).Contents (Elt F) → (⟨S_, .f32⟩ : BufTy).Contents (Elt F) → (⟨S2048x4, .f32⟩ : BufTy).Contents (Elt F)),
    StableHlo.unary main_v31 main_v32 (broadcastInDim S2048x4x1 ![0, 1] bcast_S2048x4_S2048x4x1_0_1 : (⟨S2048x4, .f32⟩ : BufTy).Contents (Elt F) → (⟨S2048x4x1, .f32⟩ : BufTy).Contents (Elt F)),
    StableHlo.nullary main_cst_5 (constant S_ .f32 0x43000000#32),
    StableHlo.unary main_cst_5 main_v33 (broadcastInDim S2048x4x1 ![] bcast_S_S2048x4x1 : (⟨S_, .f32⟩ : BufTy).Contents (Elt F) → (⟨S2048x4x1, .f32⟩ : BufTy).Contents (Elt F)),
    StableHlo.binary main_v32 main_v33 main_v34 (Host.divf : (⟨S2048x4x1, .f32⟩ : BufTy).Contents (Elt F) → (⟨S2048x4x1, .f32⟩ : BufTy).Contents (Elt F) → (⟨S2048x4x1, .f32⟩ : BufTy).Contents (Elt F)),
    StableHlo.nullary main_cst_6 (constant S_ .f32 0x358637BD#32),
    StableHlo.unary main_cst_6 main_v35 (broadcastInDim S2048x4x1 ![] bcast_S_S2048x4x1 : (⟨S_, .f32⟩ : BufTy).Contents (Elt F) → (⟨S2048x4x1, .f32⟩ : BufTy).Contents (Elt F)),
    StableHlo.binary main_v34 main_v35 main_v36 (addf : (⟨S2048x4x1, .f32⟩ : BufTy).Contents (Elt F) → (⟨S2048x4x1, .f32⟩ : BufTy).Contents (Elt F) → (⟨S2048x4x1, .f32⟩ : BufTy).Contents (Elt F)),
    StableHlo.unary main_v36 main_v37 (Host.rsqrt : (⟨S2048x4x1, .f32⟩ : BufTy).Contents (Elt F) → (⟨S2048x4x1, .f32⟩ : BufTy).Contents (Elt F)),
    StableHlo.binary main_v37 main_v36 main_v38 (Host.divf : (⟨S2048x4x1, .f32⟩ : BufTy).Contents (Elt F) → (⟨S2048x4x1, .f32⟩ : BufTy).Contents (Elt F) → (⟨S2048x4x1, .f32⟩ : BufTy).Contents (Elt F)),
    StableHlo.nullary main_cst_7 (constant S_ .f32 0xBF000000#32),
    StableHlo.unary main_cst_7 main_v39 (broadcastInDim S2048x4x1 ![] bcast_S_S2048x4x1 : (⟨S_, .f32⟩ : BufTy).Contents (Elt F) → (⟨S2048x4x1, .f32⟩ : BufTy).Contents (Elt F)),
    StableHlo.binary main_v39 main_v38 main_v40 (mulf : (⟨S2048x4x1, .f32⟩ : BufTy).Contents (Elt F) → (⟨S2048x4x1, .f32⟩ : BufTy).Contents (Elt F) → (⟨S2048x4x1, .f32⟩ : BufTy).Contents (Elt F)),
    StableHlo.unary main_v37 main_v41 (broadcastInDim S2048x4x128 ![0, 1, 2] bcast_S2048x4x1_S2048x4x128_0_1_2 : (⟨S2048x4x1, .f32⟩ : BufTy).Contents (Elt F) → (⟨S2048x4x128, .f32⟩ : BufTy).Contents (Elt F)),
    StableHlo.binary main_v28 main_v41 main_v42 (mulf : (⟨S2048x4x128, .f32⟩ : BufTy).Contents (Elt F) → (⟨S2048x4x128, .f32⟩ : BufTy).Contents (Elt F) → (⟨S2048x4x128, .f32⟩ : BufTy).Contents (Elt F)),
    StableHlo.unary main_v29 main_v43 (broadcastInDim S1x1x128 ![2] bcast_S128_S1x1x128_2 : (⟨S128, .f32⟩ : BufTy).Contents (Elt F) → (⟨S1x1x128, .f32⟩ : BufTy).Contents (Elt F)),
    StableHlo.unary main_v43 main_v44 (broadcastInDim S2048x4x128 ![0, 1, 2] bcast_S1x1x128_S2048x4x128_0_1_2 : (⟨S1x1x128, .f32⟩ : BufTy).Contents (Elt F) → (⟨S2048x4x128, .f32⟩ : BufTy).Contents (Elt F)),
    StableHlo.binary main_v42 main_v44 main_v45 (mulf : (⟨S2048x4x128, .f32⟩ : BufTy).Contents (Elt F) → (⟨S2048x4x128, .f32⟩ : BufTy).Contents (Elt F) → (⟨S2048x4x128, .f32⟩ : BufTy).Contents (Elt F)),
    StableHlo.reshape main_v0 main_v46 (rfl : (.f32 : EltTy) = .f32) shapeCasts_S2048x512_S2048x4x128 ]
/-- Each of these operations touches TensorCore references only. -/
theorem hostOps0_1_sub : (hostOps0_1 : List (HloOp τ sig (Elt F))).Forall fun op => op.bufs ⊆ StableHlo.tcRefs τ sig :=
  ⟨StableHlo.unary_bufs_sub .., StableHlo.reshape_bufs_sub .., StableHlo.reshape_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.reshape_bufs_sub ..⟩
/-- 13 operations of @silu, in order. -/
abbrev hostOps0_2 : List (HloOp τ sig (Elt F)) :=
  [ StableHlo.TRef.unary (.of main_v46 : StableHlo.TRef sig ⟨S2048x4x128, .f32⟩) (.of main_call10_v0 : StableHlo.TRef sig ⟨S2048x4x128, .f32⟩) Host.negf,
    StableHlo.TRef.unary (.of main_call10_v0 : StableHlo.TRef sig ⟨S2048x4x128, .f32⟩) (.of main_call10_v1 : StableHlo.TRef sig ⟨S2048x4x128, .f32⟩) Host.exp,
    StableHlo.TRef.nullary (.of main_call10_cst : StableHlo.TRef sig ⟨S_, .f32⟩) (constant S_ .f32 0x3F800000#32),
    StableHlo.TRef.unary (.of main_call10_cst : StableHlo.TRef sig ⟨S_, .f32⟩) (.of main_call10_v2 : StableHlo.TRef sig ⟨S2048x4x128, .f32⟩) (broadcastInDim S2048x4x128 ![] bcast_S_S2048x4x128),
    StableHlo.TRef.binary (.of main_call10_v2 : StableHlo.TRef sig ⟨S2048x4x128, .f32⟩) (.of main_call10_v1 : StableHlo.TRef sig ⟨S2048x4x128, .f32⟩) (.of main_call10_v3 : StableHlo.TRef sig ⟨S2048x4x128, .f32⟩) addf,
    StableHlo.TRef.nullary (.of main_call10_cst_0 : StableHlo.TRef sig ⟨S_, .f32⟩) (constant S_ .f32 0x3F800000#32),
    StableHlo.TRef.unary (.of main_call10_cst_0 : StableHlo.TRef sig ⟨S_, .f32⟩) (.of main_call10_v4 : StableHlo.TRef sig ⟨S2048x4x128, .f32⟩) (broadcastInDim S2048x4x128 ![] bcast_S_S2048x4x128),
    StableHlo.TRef.binary (.of main_call10_v4 : StableHlo.TRef sig ⟨S2048x4x128, .f32⟩) (.of main_call10_v3 : StableHlo.TRef sig ⟨S2048x4x128, .f32⟩) (.of main_v47_2 : StableHlo.TRef sig ⟨S2048x4x128, .f32⟩) Host.divf,
    StableHlo.TRef.nullary (.of main_call10_cst_1 : StableHlo.TRef sig ⟨S_, .f32⟩) (constant S_ .f32 0x3F800000#32),
    StableHlo.TRef.unary (.of main_call10_cst_1 : StableHlo.TRef sig ⟨S_, .f32⟩) (.of main_call10_v6 : StableHlo.TRef sig ⟨S2048x4x128, .f32⟩) (broadcastInDim S2048x4x128 ![] bcast_S_S2048x4x128),
    StableHlo.TRef.binary (.of main_call10_v6 : StableHlo.TRef sig ⟨S2048x4x128, .f32⟩) (.of main_v47_2 : StableHlo.TRef sig ⟨S2048x4x128, .f32⟩) (.of main_call10_v7 : StableHlo.TRef sig ⟨S2048x4x128, .f32⟩) subf,
    StableHlo.TRef.binary (.of main_v47_2 : StableHlo.TRef sig ⟨S2048x4x128, .f32⟩) (.of main_call10_v7 : StableHlo.TRef sig ⟨S2048x4x128, .f32⟩) (.of main_v47_1 : StableHlo.TRef sig ⟨S2048x4x128, .f32⟩) mulf,
    StableHlo.TRef.binary (.of main_v46 : StableHlo.TRef sig ⟨S2048x4x128, .f32⟩) (.of main_v47_2 : StableHlo.TRef sig ⟨S2048x4x128, .f32⟩) (.of main_v47_0 : StableHlo.TRef sig ⟨S2048x4x128, .f32⟩) mulf ]
/-- Each of these operations touches TensorCore references only. -/
theorem hostOps0_2_sub : (hostOps0_2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
/-- 7 host operations of @main, in order. -/
abbrev hostOps0_3 : List (HloOp τ sig (Elt F)) :=
  [ StableHlo.binary main_v45 main_v47_0 main_v48 (mulf : (⟨S2048x4x128, .f32⟩ : BufTy).Contents (Elt F) → (⟨S2048x4x128, .f32⟩ : BufTy).Contents (Elt F) → (⟨S2048x4x128, .f32⟩ : BufTy).Contents (Elt F)),
    StableHlo.reshape main_v48 main_v49 (rfl : (.f32 : EltTy) = .f32) shapeCasts_S2048x4x128_S2048x512,
    StableHlo.nullary main_cst_8 (constant S_ .f32 0x00000000#32),
    StableHlo.unary main_cst_8 main_v50 (broadcastInDim S4x128x128 ![] bcast_S_S4x128x128 : (⟨S_, .f32⟩ : BufTy).Contents (Elt F) → (⟨S4x128x128, .f32⟩ : BufTy).Contents (Elt F)),
    StableHlo.reshape main_arg8 main_v51 (rfl : (.f32 : EltTy) = .f32) shapeCasts_S2048x512_S2048x4x128,
    StableHlo.binary main_v45 main_v51 main_v52 (mulf : (⟨S2048x4x128, .f32⟩ : BufTy).Contents (Elt F) → (⟨S2048x4x128, .f32⟩ : BufTy).Contents (Elt F) → (⟨S2048x4x128, .f32⟩ : BufTy).Contents (Elt F)),
    StableHlo.binary main_v51 main_v47_0 main_v53 (mulf : (⟨S2048x4x128, .f32⟩ : BufTy).Contents (Elt F) → (⟨S2048x4x128, .f32⟩ : BufTy).Contents (Elt F) → (⟨S2048x4x128, .f32⟩ : BufTy).Contents (Elt F)) ]
/-- Each of these operations touches TensorCore references only. -/
theorem hostOps0_3_sub : (hostOps0_3 : List (HloOp τ sig (Elt F))).Forall fun op => op.bufs ⊆ StableHlo.tcRefs τ sig :=
  ⟨StableHlo.binary_bufs_sub .., StableHlo.reshape_bufs_sub .., StableHlo.nullary_bufs_sub .., StableHlo.unary_bufs_sub .., StableHlo.reshape_bufs_sub .., StableHlo.binary_bufs_sub .., StableHlo.binary_bufs_sub ..⟩
/-- 4 operations of @silu_4, in order. -/
abbrev hostOps0_4 : List (HloOp τ sig (Elt F)) :=
  [ StableHlo.TRef.binary (.of main_v46 : StableHlo.TRef sig ⟨S2048x4x128, .f32⟩) (.of main_v52 : StableHlo.TRef sig ⟨S2048x4x128, .f32⟩) (.of main_call11_v0 : StableHlo.TRef sig ⟨S2048x4x128, .f32⟩) mulf,
    StableHlo.TRef.binary (.of main_v52 : StableHlo.TRef sig ⟨S2048x4x128, .f32⟩) (.of main_v47_2 : StableHlo.TRef sig ⟨S2048x4x128, .f32⟩) (.of main_call11_v1 : StableHlo.TRef sig ⟨S2048x4x128, .f32⟩) mulf,
    StableHlo.TRef.binary (.of main_call11_v0 : StableHlo.TRef sig ⟨S2048x4x128, .f32⟩) (.of main_v47_1 : StableHlo.TRef sig ⟨S2048x4x128, .f32⟩) (.of main_call11_v2 : StableHlo.TRef sig ⟨S2048x4x128, .f32⟩) mulf,
    StableHlo.TRef.binary (.of main_call11_v1 : StableHlo.TRef sig ⟨S2048x4x128, .f32⟩) (.of main_call11_v2 : StableHlo.TRef sig ⟨S2048x4x128, .f32⟩) (.of main_v54 : StableHlo.TRef sig ⟨S2048x4x128, .f32⟩) addf ]
/-- Each of these operations touches TensorCore references only. -/
theorem hostOps0_4_sub : (hostOps0_4 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub ..⟩
/-- 60 host operations of @main, in order. -/
abbrev hostOps0_5 : List (HloOp τ sig (Elt F)) :=
  ( StableHlo.reshape main_v54 main_v55 (rfl : (.f32 : EltTy) = .f32) shapeCasts_S2048x4x128_S2048x512
  :: StableHlo.binary main_v42 main_v53 main_v56 (mulf : (⟨S2048x4x128, .f32⟩ : BufTy).Contents (Elt F) → (⟨S2048x4x128, .f32⟩ : BufTy).Contents (Elt F) → (⟨S2048x4x128, .f32⟩ : BufTy).Contents (Elt F))
  :: StableHlo.nullary main_cst_9 (constant S_ .f32 0x00000000#32)
  :: StableHlo.binary main_v56 main_cst_9 main_v57 ((fun x v => Host.reduceAdd x v reducesTo_S2048x4x128_S128_d0_1 h_S_) : (⟨S2048x4x128, .f32⟩ : BufTy).Contents (Elt F) → (⟨S_, .f32⟩ : BufTy).Contents (Elt F) → (⟨S128, .f32⟩ : BufTy).Contents (Elt F))
  :: StableHlo.reshape main_v57 main_v58 (rfl : (.f32 : EltTy) = .f32) shapeCasts_S128_S1x1x128
  :: StableHlo.unary main_v43 main_v59 (broadcastInDim S2048x4x128 ![0, 1, 2] bcast_S1x1x128_S2048x4x128_0_1_2 : (⟨S1x1x128, .f32⟩ : BufTy).Contents (Elt F) → (⟨S2048x4x128, .f32⟩ : BufTy).Contents (Elt F))
  :: StableHlo.binary main_v53 main_v59 main_v60 (mulf : (⟨S2048x4x128, .f32⟩ : BufTy).Contents (Elt F) → (⟨S2048x4x128, .f32⟩ : BufTy).Contents (Elt F) → (⟨S2048x4x128, .f32⟩ : BufTy).Contents (Elt F))
  :: StableHlo.nullary main_cst_10 (constant S_ .f32 0x00000000#32)
  :: StableHlo.binary main_v58 main_cst_10 main_v61 ((fun x v => Host.reduceAdd x v reducesTo_S1x1x128_S128_d0_1 h_S_) : (⟨S1x1x128, .f32⟩ : BufTy).Contents (Elt F) → (⟨S_, .f32⟩ : BufTy).Contents (Elt F) → (⟨S128, .f32⟩ : BufTy).Contents (Elt F))
  :: StableHlo.binary main_v28 main_v60 main_v62 (mulf : (⟨S2048x4x128, .f32⟩ : BufTy).Contents (Elt F) → (⟨S2048x4x128, .f32⟩ : BufTy).Contents (Elt F) → (⟨S2048x4x128, .f32⟩ : BufTy).Contents (Elt F))
  :: StableHlo.nullary main_cst_11 (constant S_ .f32 0x00000000#32)
  :: StableHlo.binary main_v62 main_cst_11 main_v63 ((fun x v => Host.reduceAdd x v reducesTo_S2048x4x128_S2048x4_d2 h_S_) : (⟨S2048x4x128, .f32⟩ : BufTy).Contents (Elt F) → (⟨S_, .f32⟩ : BufTy).Contents (Elt F) → (⟨S2048x4, .f32⟩ : BufTy).Contents (Elt F))
  :: StableHlo.reshape main_v63 main_v64 (rfl : (.f32 : EltTy) = .f32) shapeCasts_S2048x4_S2048x4x1
  :: StableHlo.unary main_v37 main_v65 (broadcastInDim S2048x4x128 ![0, 1, 2] bcast_S2048x4x1_S2048x4x128_0_1_2 : (⟨S2048x4x1, .f32⟩ : BufTy).Contents (Elt F) → (⟨S2048x4x128, .f32⟩ : BufTy).Contents (Elt F))
  :: StableHlo.binary main_v60 main_v65 main_v66 (mulf : (⟨S2048x4x128, .f32⟩ : BufTy).Contents (Elt F) → (⟨S2048x4x128, .f32⟩ : BufTy).Contents (Elt F) → (⟨S2048x4x128, .f32⟩ : BufTy).Contents (Elt F))
  :: StableHlo.binary main_v64 main_v40 main_v67 (mulf : (⟨S2048x4x1, .f32⟩ : BufTy).Contents (Elt F) → (⟨S2048x4x1, .f32⟩ : BufTy).Contents (Elt F) → (⟨S2048x4x1, .f32⟩ : BufTy).Contents (Elt F))
  :: StableHlo.nullary main_cst_12 (constant S_ .f32 0x43000000#32)
  :: StableHlo.unary main_cst_12 main_v68 (broadcastInDim S2048x4x1 ![] bcast_S_S2048x4x1 : (⟨S_, .f32⟩ : BufTy).Contents (Elt F) → (⟨S2048x4x1, .f32⟩ : BufTy).Contents (Elt F))
  :: StableHlo.binary main_v67 main_v68 main_v69 (Host.divf : (⟨S2048x4x1, .f32⟩ : BufTy).Contents (Elt F) → (⟨S2048x4x1, .f32⟩ : BufTy).Contents (Elt F) → (⟨S2048x4x1, .f32⟩ : BufTy).Contents (Elt F))
  :: StableHlo.nullary main_cst_13 (constant S_ .f32 0x00000000#32)
  :: StableHlo.binary main_v69 main_cst_13 main_v70 ((fun x v => Host.reduceAdd x v reducesTo_S2048x4x1_S2048x4_d2 h_S_) : (⟨S2048x4x1, .f32⟩ : BufTy).Contents (Elt F) → (⟨S_, .f32⟩ : BufTy).Contents (Elt F) → (⟨S2048x4, .f32⟩ : BufTy).Contents (Elt F))
  :: StableHlo.unary main_v70 main_v71 (broadcastInDim S2048x4x128 ![0, 1] bcast_S2048x4_S2048x4x128_0_1 : (⟨S2048x4, .f32⟩ : BufTy).Contents (Elt F) → (⟨S2048x4x128, .f32⟩ : BufTy).Contents (Elt F))
  :: StableHlo.binary main_v28 main_v71 main_v72 (mulf : (⟨S2048x4x128, .f32⟩ : BufTy).Contents (Elt F) → (⟨S2048x4x128, .f32⟩ : BufTy).Contents (Elt F) → (⟨S2048x4x128, .f32⟩ : BufTy).Contents (Elt F))
  :: StableHlo.binary main_v66 main_v72 main_v73 (addf : (⟨S2048x4x128, .f32⟩ : BufTy).Contents (Elt F) → (⟨S2048x4x128, .f32⟩ : BufTy).Contents (Elt F) → (⟨S2048x4x128, .f32⟩ : BufTy).Contents (Elt F))
  :: StableHlo.binary main_v71 main_v28 main_v74 (mulf : (⟨S2048x4x128, .f32⟩ : BufTy).Contents (Elt F) → (⟨S2048x4x128, .f32⟩ : BufTy).Contents (Elt F) → (⟨S2048x4x128, .f32⟩ : BufTy).Contents (Elt F))
  :: StableHlo.binary main_v73 main_v74 main_v75 (addf : (⟨S2048x4x128, .f32⟩ : BufTy).Contents (Elt F) → (⟨S2048x4x128, .f32⟩ : BufTy).Contents (Elt F) → (⟨S2048x4x128, .f32⟩ : BufTy).Contents (Elt F))
  :: StableHlo.reshape main_v61 main_v76 (rfl : (.f32 : EltTy) = .f32) shapeCasts_S128_S1x128
  :: StableHlo.reshape main_v75 main_v77 (rfl : (.f32 : EltTy) = .f32) shapeCasts_S2048x4x128_S32x64x4x128
  :: StableHlo.unary main_v77 main_v78 ((transpose S32x4x64x128 [0, 2, 1, 3] · transposes_S32x64x4x128_S32x4x64x128_0_2_1_3) : (⟨S32x64x4x128, .f32⟩ : BufTy).Contents (Elt F) → (⟨S32x4x64x128, .f32⟩ : BufTy).Contents (Elt F))
  :: StableHlo.nullary main_cst_14 (constant S_ .f32 0x00000000#32)
  :: StableHlo.unary main_cst_14 main_v79 (broadcastInDim S4x128x128 ![] bcast_S_S4x128x128 : (⟨S_, .f32⟩ : BufTy).Contents (Elt F) → (⟨S4x128x128, .f32⟩ : BufTy).Contents (Elt F))
  :: StableHlo.nullary main_cst_15 (constant S_ .f32 0x00000000#32)
  :: StableHlo.unary main_cst_15 main_v80 (broadcastInDim S32x4x64x128 ![] bcast_S_S32x4x64x128 : (⟨S_, .f32⟩ : BufTy).Contents (Elt F) → (⟨S32x4x64x128, .f32⟩ : BufTy).Contents (Elt F))
  :: StableHlo.nullary main_cst_16 (constant S_ .f32 0x00000000#32)
  :: StableHlo.unary main_cst_16 main_v81 (broadcastInDim S32x4x64x128 ![] bcast_S_S32x4x64x128 : (⟨S_, .f32⟩ : BufTy).Contents (Elt F) → (⟨S32x4x64x128, .f32⟩ : BufTy).Contents (Elt F))
  :: StableHlo.nullary main_cst_17 (constant S_ .f32 0x00000000#32)
  :: StableHlo.unary main_cst_17 main_v82 (broadcastInDim S32x4x64x128 ![] bcast_S_S32x4x64x128 : (⟨S_, .f32⟩ : BufTy).Contents (Elt F) → (⟨S32x4x64x128, .f32⟩ : BufTy).Contents (Elt F))
  :: StableHlo.nullary main_cst_18 (constant S_ .f32 0x00000000#32)
  :: StableHlo.unary main_cst_18 main_v83 (broadcastInDim S32x4x64x128 ![] bcast_S_S32x4x64x128 : (⟨S_, .f32⟩ : BufTy).Contents (Elt F) → (⟨S32x4x64x128, .f32⟩ : BufTy).Contents (Elt F))
  :: StableHlo.nullary main_cst_19 (constant S_ .f32 0x00000000#32)
  :: StableHlo.unary main_cst_19 main_v84 (broadcastInDim S32x4x64x64 ![] bcast_S_S32x4x64x64 : (⟨S_, .f32⟩ : BufTy).Contents (Elt F) → (⟨S32x4x64x64, .f32⟩ : BufTy).Contents (Elt F))
  :: StableHlo.nullary main_cst_20 (constant S_ .f32 0x00000000#32)
  :: StableHlo.unary main_cst_20 main_v85 (broadcastInDim S32x4 ![] bcast_S_S32x4 : (⟨S_, .f32⟩ : BufTy).Contents (Elt F) → (⟨S32x4, .f32⟩ : BufTy).Contents (Elt F))
  :: StableHlo.nullary main_c_21 (constantI S_ 32 0#32)
  :: StableHlo.unary main_v78 main_v86_0 id
  :: StableHlo.unary main_v26_9 main_v86_1 id
  :: StableHlo.unary main_v14 main_v86_2 id
  :: StableHlo.unary main_v16 main_v86_3 id
  :: StableHlo.unary main_v26_10 main_v86_4 id
  :: StableHlo.unary main_v20 main_v86_5 id
  :: StableHlo.unary main_v26_11 main_v86_6 id
  :: StableHlo.unary main_v18 main_v86_7 id
  :: StableHlo.unary main_c_21 main_v86_8 id
  :: StableHlo.unary main_v79 main_v86_9 id
  :: StableHlo.unary main_v80 main_v86_10 id
  :: StableHlo.unary main_v81 main_v86_11 id
  :: StableHlo.unary main_v82 main_v86_12 id
  :: StableHlo.unary main_v83 main_v86_13 id
  :: StableHlo.unary main_v84 main_v86_14 id
  :: StableHlo.unary main_v85 main_v86_15 id
  :: [] )
/-- Each of these operations touches TensorCore references only. -/
theorem hostOps0_5_sub : (hostOps0_5 : List (HloOp τ sig (Elt F))).Forall fun op => op.bufs ⊆ StableHlo.tcRefs τ sig :=
  ⟨StableHlo.reshape_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub .., StableHlo.reshape_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 20 host operations of @main, in order. -/
abbrev hostOps0_6 : List (HloOp τ sig (Elt F)) :=
  [ StableHlo.unary main_v86_14 main_v87 ((transpose S32x64x4x64 [0, 2, 1, 3] · transposes_S32x4x64x64_S32x64x4x64_0_2_1_3) : (⟨S32x4x64x64, .f32⟩ : BufTy).Contents (Elt F) → (⟨S32x64x4x64, .f32⟩ : BufTy).Contents (Elt F)),
    StableHlo.reshape main_v87 main_v88 (rfl : (.f32 : EltTy) = .f32) shapeCasts_S32x64x4x64_S2048x256,
    StableHlo.unary main_v86_13 main_v89 ((transpose S32x64x4x128 [0, 2, 1, 3] · transposes_S32x4x64x128_S32x64x4x128_0_2_1_3) : (⟨S32x4x64x128, .f32⟩ : BufTy).Contents (Elt F) → (⟨S32x64x4x128, .f32⟩ : BufTy).Contents (Elt F)),
    StableHlo.reshape main_v89 main_v90 (rfl : (.f32 : EltTy) = .f32) shapeCasts_S32x64x4x128_S2048x512,
    StableHlo.unary main_v86_12 main_v91 ((transpose S32x64x4x128 [0, 2, 1, 3] · transposes_S32x4x64x128_S32x64x4x128_0_2_1_3) : (⟨S32x4x64x128, .f32⟩ : BufTy).Contents (Elt F) → (⟨S32x64x4x128, .f32⟩ : BufTy).Contents (Elt F)),
    StableHlo.reshape main_v91 main_v92 (rfl : (.f32 : EltTy) = .f32) shapeCasts_S32x64x4x128_S2048x512,
    StableHlo.unary main_v86_11 main_v93 ((transpose S32x64x4x128 [0, 2, 1, 3] · transposes_S32x4x64x128_S32x64x4x128_0_2_1_3) : (⟨S32x4x64x128, .f32⟩ : BufTy).Contents (Elt F) → (⟨S32x64x4x128, .f32⟩ : BufTy).Contents (Elt F)),
    StableHlo.reshape main_v93 main_v94 (rfl : (.f32 : EltTy) = .f32) shapeCasts_S32x64x4x128_S2048x512,
    StableHlo.unary main_v86_10 main_v95 ((transpose S32x64x4x128 [0, 2, 1, 3] · transposes_S32x4x64x128_S32x64x4x128_0_2_1_3) : (⟨S32x4x64x128, .f32⟩ : BufTy).Contents (Elt F) → (⟨S32x64x4x128, .f32⟩ : BufTy).Contents (Elt F)),
    StableHlo.reshape main_v95 main_v96 (rfl : (.f32 : EltTy) = .f32) shapeCasts_S32x64x4x128_S2048x512,
    StableHlo.binary main_v86_15 main_v10 main_v97 (mulf : (⟨S32x4, .f32⟩ : BufTy).Contents (Elt F) → (⟨S32x4, .f32⟩ : BufTy).Contents (Elt F) → (⟨S32x4, .f32⟩ : BufTy).Contents (Elt F)),
    StableHlo.unary main_v97 main_v98 (broadcastInDim S32x4x1 ![0, 1] bcast_S32x4_S32x4x1_0_1 : (⟨S32x4, .f32⟩ : BufTy).Contents (Elt F) → (⟨S32x4x1, .f32⟩ : BufTy).Contents (Elt F)),
    StableHlo.nullary main_cst_22 (constant S_ .f32 0x00000000#32),
    StableHlo.binary main_v98 main_cst_22 main_v99 ((fun x v => pad S32x4x64 ![0, 0, 63] ![0, 0, 0] ![0, 0, 0] x v pads_S32x4x1_S32x4x64_000_000_6300 h_S_) : (⟨S32x4x1, .f32⟩ : BufTy).Contents (Elt F) → (⟨S_, .f32⟩ : BufTy).Contents (Elt F) → (⟨S32x4x64, .f32⟩ : BufTy).Contents (Elt F)),
    StableHlo.unary main_v99 main_v100 ((transpose S32x64x4 [0, 2, 1] · transposes_S32x4x64_S32x64x4_0_2_1) : (⟨S32x4x64, .f32⟩ : BufTy).Contents (Elt F) → (⟨S32x64x4, .f32⟩ : BufTy).Contents (Elt F)),
    StableHlo.reshape main_v100 main_v101 (rfl : (.f32 : EltTy) = .f32) shapeCasts_S32x64x4_S2048x4,
    StableHlo.nullary main_cst_23 (constant S_ .f32 0x00000000#32),
    StableHlo.binary main_v101 main_cst_23 main_v102 ((fun x v => pad S2048x128 ![0, 0] ![0, 124] ![0, 0] x v pads_S2048x4_S2048x128_000_01240 h_S_) : (⟨S2048x4, .f32⟩ : BufTy).Contents (Elt F) → (⟨S_, .f32⟩ : BufTy).Contents (Elt F) → (⟨S2048x128, .f32⟩ : BufTy).Contents (Elt F)),
    StableHlo.unary main_v49 main_v103 ((truncf .bf16 · bitsLt_bf16_f32) : (⟨S2048x512, .f32⟩ : BufTy).Contents (Elt F) → (⟨S2048x512, .bf16⟩ : BufTy).Contents (Elt F)),
    StableHlo.unary main_v55 main_v104 ((truncf .bf16 · bitsLt_bf16_f32) : (⟨S2048x512, .f32⟩ : BufTy).Contents (Elt F) → (⟨S2048x512, .bf16⟩ : BufTy).Contents (Elt F)) ]
/-- Each of these operations touches TensorCore references only. -/
theorem hostOps0_6_sub : (hostOps0_6 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.nullary_bufs_sub .., StableHlo.binary_bufs_sub .., StableHlo.unary_bufs_sub .., StableHlo.reshape_bufs_sub .., StableHlo.nullary_bufs_sub .., StableHlo.binary_bufs_sub .., StableHlo.unary_bufs_sub .., StableHlo.unary_bufs_sub ..⟩
/-- 44 operations of @main, part 0 (statements 1 … 60), in order. -/
abbrev main_part0_ops0 : List (HloOp τ sig (Elt F)) :=
  ( StableHlo.unary main_arg6 main_v0 ((extractStridedSlice S2048x512 ![0, 8192] · slices_S2048x9728_S2048x512_0_8192) : (⟨S2048x9728, .f32⟩ : BufTy).Contents (Elt F) → (⟨S2048x512, .f32⟩ : BufTy).Contents (Elt F))
  :: StableHlo.unary main_arg1 main_v1 ((extf .f32 · bitsLt_bf16_f32) : (⟨S2048x512, .bf16⟩ : BufTy).Contents (Elt F) → (⟨S2048x512, .f32⟩ : BufTy).Contents (Elt F))
  :: StableHlo.unary main_arg2 main_v2 ((extf .f32 · bitsLt_bf16_f32) : (⟨S2048x512, .bf16⟩ : BufTy).Contents (Elt F) → (⟨S2048x512, .f32⟩ : BufTy).Contents (Elt F))
  :: StableHlo.unary main_arg3 main_v3 ((extf .f32 · bitsLt_bf16_f32) : (⟨S2048x512, .bf16⟩ : BufTy).Contents (Elt F) → (⟨S2048x512, .f32⟩ : BufTy).Contents (Elt F))
  :: StableHlo.unary main_arg4 main_v4 ((extf .f32 · bitsLt_bf16_f32) : (⟨S2048x256, .bf16⟩ : BufTy).Contents (Elt F) → (⟨S2048x256, .f32⟩ : BufTy).Contents (Elt F))
  :: StableHlo.unary main_arg5 main_v5 ((extractStridedSlice S2048x4 ![0, 0] · slices_S2048x128_S2048x4_0_0) : (⟨S2048x128, .f32⟩ : BufTy).Contents (Elt F) → (⟨S2048x4, .f32⟩ : BufTy).Contents (Elt F))
  :: StableHlo.reshape main_v5 main_v6 (rfl : (.f32 : EltTy) = .f32) shapeCasts_S2048x4_S32x64x4
  :: StableHlo.unary main_v6 main_v7 ((transpose S32x4x64 [0, 2, 1] · transposes_S32x64x4_S32x4x64_0_2_1) : (⟨S32x64x4, .f32⟩ : BufTy).Contents (Elt F) → (⟨S32x4x64, .f32⟩ : BufTy).Contents (Elt F))
  :: StableHlo.unary main_v7 main_v8 ((extractStridedSlice S32x4x1 ![0, 0, 63] · slices_S32x4x64_S32x4x1_0_0_63) : (⟨S32x4x64, .f32⟩ : BufTy).Contents (Elt F) → (⟨S32x4x1, .f32⟩ : BufTy).Contents (Elt F))
  :: StableHlo.reshape main_v8 main_v9 (rfl : (.f32 : EltTy) = .f32) shapeCasts_S32x4x1_S32x4
  :: StableHlo.unary main_v9 main_v10 (Host.exp : (⟨S32x4, .f32⟩ : BufTy).Contents (Elt F) → (⟨S32x4, .f32⟩ : BufTy).Contents (Elt F))
  :: StableHlo.reshape main_arg0 main_v11 (rfl : (.f32 : EltTy) = .f32) shapeCasts_S2048x512_S32x64x4x128
  :: StableHlo.unary main_v11 main_v12 ((transpose S32x4x64x128 [0, 2, 1, 3] · transposes_S32x64x4x128_S32x4x64x128_0_2_1_3) : (⟨S32x64x4x128, .f32⟩ : BufTy).Contents (Elt F) → (⟨S32x4x64x128, .f32⟩ : BufTy).Contents (Elt F))
  :: StableHlo.reshape main_v1 main_v13 (rfl : (.f32 : EltTy) = .f32) shapeCasts_S2048x512_S32x64x4x128
  :: StableHlo.unary main_v13 main_v14 ((transpose S32x4x64x128 [0, 2, 1, 3] · transposes_S32x64x4x128_S32x4x64x128_0_2_1_3) : (⟨S32x64x4x128, .f32⟩ : BufTy).Contents (Elt F) → (⟨S32x4x64x128, .f32⟩ : BufTy).Contents (Elt F))
  :: StableHlo.reshape main_v2 main_v15 (rfl : (.f32 : EltTy) = .f32) shapeCasts_S2048x512_S32x64x4x128
  :: StableHlo.unary main_v15 main_v16 ((transpose S32x4x64x128 [0, 2, 1, 3] · transposes_S32x64x4x128_S32x4x64x128_0_2_1_3) : (⟨S32x64x4x128, .f32⟩ : BufTy).Contents (Elt F) → (⟨S32x4x64x128, .f32⟩ : BufTy).Contents (Elt F))
  :: StableHlo.reshape main_v3 main_v17 (rfl : (.f32 : EltTy) = .f32) shapeCasts_S2048x512_S32x64x4x128
  :: StableHlo.unary main_v17 main_v18 ((transpose S32x4x64x128 [0, 2, 1, 3] · transposes_S32x64x4x128_S32x4x64x128_0_2_1_3) : (⟨S32x64x4x128, .f32⟩ : BufTy).Contents (Elt F) → (⟨S32x4x64x128, .f32⟩ : BufTy).Contents (Elt F))
  :: StableHlo.reshape main_v4 main_v19 (rfl : (.f32 : EltTy) = .f32) shapeCasts_S2048x256_S32x64x4x64
  :: StableHlo.unary main_v19 main_v20 ((transpose S32x4x64x64 [0, 2, 1, 3] · transposes_S32x64x4x64_S32x4x64x64_0_2_1_3) : (⟨S32x64x4x64, .f32⟩ : BufTy).Contents (Elt F) → (⟨S32x4x64x64, .f32⟩ : BufTy).Contents (Elt F))
  :: StableHlo.nullary main_cst (constant S_ .f32 0x00000000#32)
  :: StableHlo.unary main_cst main_v21 (broadcastInDim S4x128x128 ![] bcast_S_S4x128x128 : (⟨S_, .f32⟩ : BufTy).Contents (Elt F) → (⟨S4x128x128, .f32⟩ : BufTy).Contents (Elt F))
  :: StableHlo.nullary main_cst_0 (constant S_ .f32 0x00000000#32)
  :: StableHlo.unary main_cst_0 main_v22 (broadcastInDim S32x4x64x128 ![] bcast_S_S32x4x64x128 : (⟨S_, .f32⟩ : BufTy).Contents (Elt F) → (⟨S32x4x64x128, .f32⟩ : BufTy).Contents (Elt F))
  :: StableHlo.nullary main_cst_1 (constant S_ .f32 0x00000000#32)
  :: StableHlo.unary main_cst_1 main_v23 (broadcastInDim S32x4x128x128 ![] bcast_S_S32x4x128x128 : (⟨S_, .f32⟩ : BufTy).Contents (Elt F) → (⟨S32x4x128x128, .f32⟩ : BufTy).Contents (Elt F))
  :: StableHlo.nullary main_cst_2 (constant S_ .f32 0x00000000#32)
  :: StableHlo.unary main_cst_2 main_v24 (broadcastInDim S32x4x64x128 ![] bcast_S_S32x4x64x128 : (⟨S_, .f32⟩ : BufTy).Contents (Elt F) → (⟨S32x4x64x128, .f32⟩ : BufTy).Contents (Elt F))
  :: StableHlo.nullary main_cst_3 (constant S_ .f32 0x00000000#32)
  :: StableHlo.unary main_cst_3 main_v25 (broadcastInDim S32x4x1x1 ![] bcast_S_S32x4x1x1 : (⟨S_, .f32⟩ : BufTy).Contents (Elt F) → (⟨S32x4x1x1, .f32⟩ : BufTy).Contents (Elt F))
  :: StableHlo.nullary main_c (constantI S_ 32 0#32)
  :: StableHlo.unary main_v12 main_v26_0 id
  :: StableHlo.unary main_v14 main_v26_1 id
  :: StableHlo.unary main_v16 main_v26_2 id
  :: StableHlo.unary main_v18 main_v26_3 id
  :: StableHlo.unary main_v20 main_v26_4 id
  :: StableHlo.unary main_v10 main_v26_5 id
  :: StableHlo.unary main_c main_v26_6 id
  :: StableHlo.unary main_v21 main_v26_7 id
  :: StableHlo.unary main_v22 main_v26_8 id
  :: StableHlo.unary main_v23 main_v26_9 id
  :: StableHlo.unary main_v24 main_v26_10 id
  :: StableHlo.unary main_v25 main_v26_11 id
  :: [] )
/-- 15 operations of @main, part 0 (statements 1 … 60), in order. -/
abbrev main_part0_ops1 : List (HloOp τ sig (Elt F)) :=
  [ StableHlo.unary main_v26_8 main_v27 ((transpose S32x64x4x128 [0, 2, 1, 3] · transposes_S32x4x64x128_S32x64x4x128_0_2_1_3) : (⟨S32x4x64x128, .f32⟩ : BufTy).Contents (Elt F) → (⟨S32x64x4x128, .f32⟩ : BufTy).Contents (Elt F)),
    StableHlo.reshape main_v27 main_v28 (rfl : (.f32 : EltTy) = .f32) shapeCasts_S32x64x4x128_S2048x4x128,
    StableHlo.reshape main_arg7 main_v29 (rfl : (.f32 : EltTy) = .f32) shapeCasts_S1x128_S128,
    StableHlo.binary main_v28 main_v28 main_v30 (mulf : (⟨S2048x4x128, .f32⟩ : BufTy).Contents (Elt F) → (⟨S2048x4x128, .f32⟩ : BufTy).Contents (Elt F) → (⟨S2048x4x128, .f32⟩ : BufTy).Contents (Elt F)),
    StableHlo.nullary main_cst_4 (constant S_ .f32 0x00000000#32),
    StableHlo.binary main_v30 main_cst_4 main_v31 ((fun x v => Host.reduceAdd x v reducesTo_S2048x4x128_S2048x4_d2 h_S_) : (⟨S2048x4x128, .f32⟩ : BufTy).Contents (Elt F) → (⟨S_, .f32⟩ : BufTy).Contents (Elt F) → (⟨S2048x4, .f32⟩ : BufTy).Contents (Elt F)),
    StableHlo.unary main_v31 main_v32 (broadcastInDim S2048x4x1 ![0, 1] bcast_S2048x4_S2048x4x1_0_1 : (⟨S2048x4, .f32⟩ : BufTy).Contents (Elt F) → (⟨S2048x4x1, .f32⟩ : BufTy).Contents (Elt F)),
    StableHlo.nullary main_cst_5 (constant S_ .f32 0x43000000#32),
    StableHlo.unary main_cst_5 main_v33 (broadcastInDim S2048x4x1 ![] bcast_S_S2048x4x1 : (⟨S_, .f32⟩ : BufTy).Contents (Elt F) → (⟨S2048x4x1, .f32⟩ : BufTy).Contents (Elt F)),
    StableHlo.binary main_v32 main_v33 main_v34 (Host.divf : (⟨S2048x4x1, .f32⟩ : BufTy).Contents (Elt F) → (⟨S2048x4x1, .f32⟩ : BufTy).Contents (Elt F) → (⟨S2048x4x1, .f32⟩ : BufTy).Contents (Elt F)),
    StableHlo.nullary main_cst_6 (constant S_ .f32 0x358637BD#32),
    StableHlo.unary main_cst_6 main_v35 (broadcastInDim S2048x4x1 ![] bcast_S_S2048x4x1 : (⟨S_, .f32⟩ : BufTy).Contents (Elt F) → (⟨S2048x4x1, .f32⟩ : BufTy).Contents (Elt F)),
    StableHlo.binary main_v34 main_v35 main_v36 (addf : (⟨S2048x4x1, .f32⟩ : BufTy).Contents (Elt F) → (⟨S2048x4x1, .f32⟩ : BufTy).Contents (Elt F) → (⟨S2048x4x1, .f32⟩ : BufTy).Contents (Elt F)),
    StableHlo.unary main_v36 main_v37 (Host.rsqrt : (⟨S2048x4x1, .f32⟩ : BufTy).Contents (Elt F) → (⟨S2048x4x1, .f32⟩ : BufTy).Contents (Elt F)),
    StableHlo.binary main_v37 main_v36 main_v38 (Host.divf : (⟨S2048x4x1, .f32⟩ : BufTy).Contents (Elt F) → (⟨S2048x4x1, .f32⟩ : BufTy).Contents (Elt F) → (⟨S2048x4x1, .f32⟩ : BufTy).Contents (Elt F)) ]
/-- Part 0 of `main` is its items in order. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 9 operations of @main, part 1 (statements 61 … 120), in order. -/
abbrev main_part1_ops0 : List (HloOp τ sig (Elt F)) :=
  [ StableHlo.nullary main_cst_7 (constant S_ .f32 0xBF000000#32),
    StableHlo.unary main_cst_7 main_v39 (broadcastInDim S2048x4x1 ![] bcast_S_S2048x4x1 : (⟨S_, .f32⟩ : BufTy).Contents (Elt F) → (⟨S2048x4x1, .f32⟩ : BufTy).Contents (Elt F)),
    StableHlo.binary main_v39 main_v38 main_v40 (mulf : (⟨S2048x4x1, .f32⟩ : BufTy).Contents (Elt F) → (⟨S2048x4x1, .f32⟩ : BufTy).Contents (Elt F) → (⟨S2048x4x1, .f32⟩ : BufTy).Contents (Elt F)),
    StableHlo.unary main_v37 main_v41 (broadcastInDim S2048x4x128 ![0, 1, 2] bcast_S2048x4x1_S2048x4x128_0_1_2 : (⟨S2048x4x1, .f32⟩ : BufTy).Contents (Elt F) → (⟨S2048x4x128, .f32⟩ : BufTy).Contents (Elt F)),
    StableHlo.binary main_v28 main_v41 main_v42 (mulf : (⟨S2048x4x128, .f32⟩ : BufTy).Contents (Elt F) → (⟨S2048x4x128, .f32⟩ : BufTy).Contents (Elt F) → (⟨S2048x4x128, .f32⟩ : BufTy).Contents (Elt F)),
    StableHlo.unary main_v29 main_v43 (broadcastInDim S1x1x128 ![2] bcast_S128_S1x1x128_2 : (⟨S128, .f32⟩ : BufTy).Contents (Elt F) → (⟨S1x1x128, .f32⟩ : BufTy).Contents (Elt F)),
    StableHlo.unary main_v43 main_v44 (broadcastInDim S2048x4x128 ![0, 1, 2] bcast_S1x1x128_S2048x4x128_0_1_2 : (⟨S1x1x128, .f32⟩ : BufTy).Contents (Elt F) → (⟨S2048x4x128, .f32⟩ : BufTy).Contents (Elt F)),
    StableHlo.binary main_v42 main_v44 main_v45 (mulf : (⟨S2048x4x128, .f32⟩ : BufTy).Contents (Elt F) → (⟨S2048x4x128, .f32⟩ : BufTy).Contents (Elt F) → (⟨S2048x4x128, .f32⟩ : BufTy).Contents (Elt F)),
    StableHlo.reshape main_v0 main_v46 (rfl : (.f32 : EltTy) = .f32) shapeCasts_S2048x512_S2048x4x128 ]
/-- 13 operations of @silu, in order. -/
abbrev main_part1_ops1 : List (HloOp τ sig (Elt F)) :=
  [ StableHlo.TRef.unary (.of main_v46 : StableHlo.TRef sig ⟨S2048x4x128, .f32⟩) (.of main_call10_v0 : StableHlo.TRef sig ⟨S2048x4x128, .f32⟩) Host.negf,
    StableHlo.TRef.unary (.of main_call10_v0 : StableHlo.TRef sig ⟨S2048x4x128, .f32⟩) (.of main_call10_v1 : StableHlo.TRef sig ⟨S2048x4x128, .f32⟩) Host.exp,
    StableHlo.TRef.nullary (.of main_call10_cst : StableHlo.TRef sig ⟨S_, .f32⟩) (constant S_ .f32 0x3F800000#32),
    StableHlo.TRef.unary (.of main_call10_cst : StableHlo.TRef sig ⟨S_, .f32⟩) (.of main_call10_v2 : StableHlo.TRef sig ⟨S2048x4x128, .f32⟩) (broadcastInDim S2048x4x128 ![] bcast_S_S2048x4x128),
    StableHlo.TRef.binary (.of main_call10_v2 : StableHlo.TRef sig ⟨S2048x4x128, .f32⟩) (.of main_call10_v1 : StableHlo.TRef sig ⟨S2048x4x128, .f32⟩) (.of main_call10_v3 : StableHlo.TRef sig ⟨S2048x4x128, .f32⟩) addf,
    StableHlo.TRef.nullary (.of main_call10_cst_0 : StableHlo.TRef sig ⟨S_, .f32⟩) (constant S_ .f32 0x3F800000#32),
    StableHlo.TRef.unary (.of main_call10_cst_0 : StableHlo.TRef sig ⟨S_, .f32⟩) (.of main_call10_v4 : StableHlo.TRef sig ⟨S2048x4x128, .f32⟩) (broadcastInDim S2048x4x128 ![] bcast_S_S2048x4x128),
    StableHlo.TRef.binary (.of main_call10_v4 : StableHlo.TRef sig ⟨S2048x4x128, .f32⟩) (.of main_call10_v3 : StableHlo.TRef sig ⟨S2048x4x128, .f32⟩) (.of main_v47_2 : StableHlo.TRef sig ⟨S2048x4x128, .f32⟩) Host.divf,
    StableHlo.TRef.nullary (.of main_call10_cst_1 : StableHlo.TRef sig ⟨S_, .f32⟩) (constant S_ .f32 0x3F800000#32),
    StableHlo.TRef.unary (.of main_call10_cst_1 : StableHlo.TRef sig ⟨S_, .f32⟩) (.of main_call10_v6 : StableHlo.TRef sig ⟨S2048x4x128, .f32⟩) (broadcastInDim S2048x4x128 ![] bcast_S_S2048x4x128),
    StableHlo.TRef.binary (.of main_call10_v6 : StableHlo.TRef sig ⟨S2048x4x128, .f32⟩) (.of main_v47_2 : StableHlo.TRef sig ⟨S2048x4x128, .f32⟩) (.of main_call10_v7 : StableHlo.TRef sig ⟨S2048x4x128, .f32⟩) subf,
    StableHlo.TRef.binary (.of main_v47_2 : StableHlo.TRef sig ⟨S2048x4x128, .f32⟩) (.of main_call10_v7 : StableHlo.TRef sig ⟨S2048x4x128, .f32⟩) (.of main_v47_1 : StableHlo.TRef sig ⟨S2048x4x128, .f32⟩) mulf,
    StableHlo.TRef.binary (.of main_v46 : StableHlo.TRef sig ⟨S2048x4x128, .f32⟩) (.of main_v47_2 : StableHlo.TRef sig ⟨S2048x4x128, .f32⟩) (.of main_v47_0 : StableHlo.TRef sig ⟨S2048x4x128, .f32⟩) mulf ]
/-- 7 operations of @main, part 1 (statements 61 … 120), in order. -/
abbrev main_part1_ops2 : List (HloOp τ sig (Elt F)) :=
  [ StableHlo.binary main_v45 main_v47_0 main_v48 (mulf : (⟨S2048x4x128, .f32⟩ : BufTy).Contents (Elt F) → (⟨S2048x4x128, .f32⟩ : BufTy).Contents (Elt F) → (⟨S2048x4x128, .f32⟩ : BufTy).Contents (Elt F)),
    StableHlo.reshape main_v48 main_v49 (rfl : (.f32 : EltTy) = .f32) shapeCasts_S2048x4x128_S2048x512,
    StableHlo.nullary main_cst_8 (constant S_ .f32 0x00000000#32),
    StableHlo.unary main_cst_8 main_v50 (broadcastInDim S4x128x128 ![] bcast_S_S4x128x128 : (⟨S_, .f32⟩ : BufTy).Contents (Elt F) → (⟨S4x128x128, .f32⟩ : BufTy).Contents (Elt F)),
    StableHlo.reshape main_arg8 main_v51 (rfl : (.f32 : EltTy) = .f32) shapeCasts_S2048x512_S2048x4x128,
    StableHlo.binary main_v45 main_v51 main_v52 (mulf : (⟨S2048x4x128, .f32⟩ : BufTy).Contents (Elt F) → (⟨S2048x4x128, .f32⟩ : BufTy).Contents (Elt F) → (⟨S2048x4x128, .f32⟩ : BufTy).Contents (Elt F)),
    StableHlo.binary main_v51 main_v47_0 main_v53 (mulf : (⟨S2048x4x128, .f32⟩ : BufTy).Contents (Elt F) → (⟨S2048x4x128, .f32⟩ : BufTy).Contents (Elt F) → (⟨S2048x4x128, .f32⟩ : BufTy).Contents (Elt F)) ]
/-- 4 operations of @silu_4, in order. -/
abbrev main_part1_ops3 : List (HloOp τ sig (Elt F)) :=
  [ StableHlo.TRef.binary (.of main_v46 : StableHlo.TRef sig ⟨S2048x4x128, .f32⟩) (.of main_v52 : StableHlo.TRef sig ⟨S2048x4x128, .f32⟩) (.of main_call11_v0 : StableHlo.TRef sig ⟨S2048x4x128, .f32⟩) mulf,
    StableHlo.TRef.binary (.of main_v52 : StableHlo.TRef sig ⟨S2048x4x128, .f32⟩) (.of main_v47_2 : StableHlo.TRef sig ⟨S2048x4x128, .f32⟩) (.of main_call11_v1 : StableHlo.TRef sig ⟨S2048x4x128, .f32⟩) mulf,
    StableHlo.TRef.binary (.of main_call11_v0 : StableHlo.TRef sig ⟨S2048x4x128, .f32⟩) (.of main_v47_1 : StableHlo.TRef sig ⟨S2048x4x128, .f32⟩) (.of main_call11_v2 : StableHlo.TRef sig ⟨S2048x4x128, .f32⟩) mulf,
    StableHlo.TRef.binary (.of main_call11_v1 : StableHlo.TRef sig ⟨S2048x4x128, .f32⟩) (.of main_call11_v2 : StableHlo.TRef sig ⟨S2048x4x128, .f32⟩) (.of main_v54 : StableHlo.TRef sig ⟨S2048x4x128, .f32⟩) addf ]
/-- 42 operations of @main, part 1 (statements 61 … 120), in order. -/
abbrev main_part1_ops4 : List (HloOp τ sig (Elt F)) :=
  ( StableHlo.reshape main_v54 main_v55 (rfl : (.f32 : EltTy) = .f32) shapeCasts_S2048x4x128_S2048x512
  :: StableHlo.binary main_v42 main_v53 main_v56 (mulf : (⟨S2048x4x128, .f32⟩ : BufTy).Contents (Elt F) → (⟨S2048x4x128, .f32⟩ : BufTy).Contents (Elt F) → (⟨S2048x4x128, .f32⟩ : BufTy).Contents (Elt F))
  :: StableHlo.nullary main_cst_9 (constant S_ .f32 0x00000000#32)
  :: StableHlo.binary main_v56 main_cst_9 main_v57 ((fun x v => Host.reduceAdd x v reducesTo_S2048x4x128_S128_d0_1 h_S_) : (⟨S2048x4x128, .f32⟩ : BufTy).Contents (Elt F) → (⟨S_, .f32⟩ : BufTy).Contents (Elt F) → (⟨S128, .f32⟩ : BufTy).Contents (Elt F))
  :: StableHlo.reshape main_v57 main_v58 (rfl : (.f32 : EltTy) = .f32) shapeCasts_S128_S1x1x128
  :: StableHlo.unary main_v43 main_v59 (broadcastInDim S2048x4x128 ![0, 1, 2] bcast_S1x1x128_S2048x4x128_0_1_2 : (⟨S1x1x128, .f32⟩ : BufTy).Contents (Elt F) → (⟨S2048x4x128, .f32⟩ : BufTy).Contents (Elt F))
  :: StableHlo.binary main_v53 main_v59 main_v60 (mulf : (⟨S2048x4x128, .f32⟩ : BufTy).Contents (Elt F) → (⟨S2048x4x128, .f32⟩ : BufTy).Contents (Elt F) → (⟨S2048x4x128, .f32⟩ : BufTy).Contents (Elt F))
  :: StableHlo.nullary main_cst_10 (constant S_ .f32 0x00000000#32)
  :: StableHlo.binary main_v58 main_cst_10 main_v61 ((fun x v => Host.reduceAdd x v reducesTo_S1x1x128_S128_d0_1 h_S_) : (⟨S1x1x128, .f32⟩ : BufTy).Contents (Elt F) → (⟨S_, .f32⟩ : BufTy).Contents (Elt F) → (⟨S128, .f32⟩ : BufTy).Contents (Elt F))
  :: StableHlo.binary main_v28 main_v60 main_v62 (mulf : (⟨S2048x4x128, .f32⟩ : BufTy).Contents (Elt F) → (⟨S2048x4x128, .f32⟩ : BufTy).Contents (Elt F) → (⟨S2048x4x128, .f32⟩ : BufTy).Contents (Elt F))
  :: StableHlo.nullary main_cst_11 (constant S_ .f32 0x00000000#32)
  :: StableHlo.binary main_v62 main_cst_11 main_v63 ((fun x v => Host.reduceAdd x v reducesTo_S2048x4x128_S2048x4_d2 h_S_) : (⟨S2048x4x128, .f32⟩ : BufTy).Contents (Elt F) → (⟨S_, .f32⟩ : BufTy).Contents (Elt F) → (⟨S2048x4, .f32⟩ : BufTy).Contents (Elt F))
  :: StableHlo.reshape main_v63 main_v64 (rfl : (.f32 : EltTy) = .f32) shapeCasts_S2048x4_S2048x4x1
  :: StableHlo.unary main_v37 main_v65 (broadcastInDim S2048x4x128 ![0, 1, 2] bcast_S2048x4x1_S2048x4x128_0_1_2 : (⟨S2048x4x1, .f32⟩ : BufTy).Contents (Elt F) → (⟨S2048x4x128, .f32⟩ : BufTy).Contents (Elt F))
  :: StableHlo.binary main_v60 main_v65 main_v66 (mulf : (⟨S2048x4x128, .f32⟩ : BufTy).Contents (Elt F) → (⟨S2048x4x128, .f32⟩ : BufTy).Contents (Elt F) → (⟨S2048x4x128, .f32⟩ : BufTy).Contents (Elt F))
  :: StableHlo.binary main_v64 main_v40 main_v67 (mulf : (⟨S2048x4x1, .f32⟩ : BufTy).Contents (Elt F) → (⟨S2048x4x1, .f32⟩ : BufTy).Contents (Elt F) → (⟨S2048x4x1, .f32⟩ : BufTy).Contents (Elt F))
  :: StableHlo.nullary main_cst_12 (constant S_ .f32 0x43000000#32)
  :: StableHlo.unary main_cst_12 main_v68 (broadcastInDim S2048x4x1 ![] bcast_S_S2048x4x1 : (⟨S_, .f32⟩ : BufTy).Contents (Elt F) → (⟨S2048x4x1, .f32⟩ : BufTy).Contents (Elt F))
  :: StableHlo.binary main_v67 main_v68 main_v69 (Host.divf : (⟨S2048x4x1, .f32⟩ : BufTy).Contents (Elt F) → (⟨S2048x4x1, .f32⟩ : BufTy).Contents (Elt F) → (⟨S2048x4x1, .f32⟩ : BufTy).Contents (Elt F))
  :: StableHlo.nullary main_cst_13 (constant S_ .f32 0x00000000#32)
  :: StableHlo.binary main_v69 main_cst_13 main_v70 ((fun x v => Host.reduceAdd x v reducesTo_S2048x4x1_S2048x4_d2 h_S_) : (⟨S2048x4x1, .f32⟩ : BufTy).Contents (Elt F) → (⟨S_, .f32⟩ : BufTy).Contents (Elt F) → (⟨S2048x4, .f32⟩ : BufTy).Contents (Elt F))
  :: StableHlo.unary main_v70 main_v71 (broadcastInDim S2048x4x128 ![0, 1] bcast_S2048x4_S2048x4x128_0_1 : (⟨S2048x4, .f32⟩ : BufTy).Contents (Elt F) → (⟨S2048x4x128, .f32⟩ : BufTy).Contents (Elt F))
  :: StableHlo.binary main_v28 main_v71 main_v72 (mulf : (⟨S2048x4x128, .f32⟩ : BufTy).Contents (Elt F) → (⟨S2048x4x128, .f32⟩ : BufTy).Contents (Elt F) → (⟨S2048x4x128, .f32⟩ : BufTy).Contents (Elt F))
  :: StableHlo.binary main_v66 main_v72 main_v73 (addf : (⟨S2048x4x128, .f32⟩ : BufTy).Contents (Elt F) → (⟨S2048x4x128, .f32⟩ : BufTy).Contents (Elt F) → (⟨S2048x4x128, .f32⟩ : BufTy).Contents (Elt F))
  :: StableHlo.binary main_v71 main_v28 main_v74 (mulf : (⟨S2048x4x128, .f32⟩ : BufTy).Contents (Elt F) → (⟨S2048x4x128, .f32⟩ : BufTy).Contents (Elt F) → (⟨S2048x4x128, .f32⟩ : BufTy).Contents (Elt F))
  :: StableHlo.binary main_v73 main_v74 main_v75 (addf : (⟨S2048x4x128, .f32⟩ : BufTy).Contents (Elt F) → (⟨S2048x4x128, .f32⟩ : BufTy).Contents (Elt F) → (⟨S2048x4x128, .f32⟩ : BufTy).Contents (Elt F))
  :: StableHlo.reshape main_v61 main_v76 (rfl : (.f32 : EltTy) = .f32) shapeCasts_S128_S1x128
  :: StableHlo.reshape main_v75 main_v77 (rfl : (.f32 : EltTy) = .f32) shapeCasts_S2048x4x128_S32x64x4x128
  :: StableHlo.unary main_v77 main_v78 ((transpose S32x4x64x128 [0, 2, 1, 3] · transposes_S32x64x4x128_S32x4x64x128_0_2_1_3) : (⟨S32x64x4x128, .f32⟩ : BufTy).Contents (Elt F) → (⟨S32x4x64x128, .f32⟩ : BufTy).Contents (Elt F))
  :: StableHlo.nullary main_cst_14 (constant S_ .f32 0x00000000#32)
  :: StableHlo.unary main_cst_14 main_v79 (broadcastInDim S4x128x128 ![] bcast_S_S4x128x128 : (⟨S_, .f32⟩ : BufTy).Contents (Elt F) → (⟨S4x128x128, .f32⟩ : BufTy).Contents (Elt F))
  :: StableHlo.nullary main_cst_15 (constant S_ .f32 0x00000000#32)
  :: StableHlo.unary main_cst_15 main_v80 (broadcastInDim S32x4x64x128 ![] bcast_S_S32x4x64x128 : (⟨S_, .f32⟩ : BufTy).Contents (Elt F) → (⟨S32x4x64x128, .f32⟩ : BufTy).Contents (Elt F))
  :: StableHlo.nullary main_cst_16 (constant S_ .f32 0x00000000#32)
  :: StableHlo.unary main_cst_16 main_v81 (broadcastInDim S32x4x64x128 ![] bcast_S_S32x4x64x128 : (⟨S_, .f32⟩ : BufTy).Contents (Elt F) → (⟨S32x4x64x128, .f32⟩ : BufTy).Contents (Elt F))
  :: StableHlo.nullary main_cst_17 (constant S_ .f32 0x00000000#32)
  :: StableHlo.unary main_cst_17 main_v82 (broadcastInDim S32x4x64x128 ![] bcast_S_S32x4x64x128 : (⟨S_, .f32⟩ : BufTy).Contents (Elt F) → (⟨S32x4x64x128, .f32⟩ : BufTy).Contents (Elt F))
  :: StableHlo.nullary main_cst_18 (constant S_ .f32 0x00000000#32)
  :: StableHlo.unary main_cst_18 main_v83 (broadcastInDim S32x4x64x128 ![] bcast_S_S32x4x64x128 : (⟨S_, .f32⟩ : BufTy).Contents (Elt F) → (⟨S32x4x64x128, .f32⟩ : BufTy).Contents (Elt F))
  :: StableHlo.nullary main_cst_19 (constant S_ .f32 0x00000000#32)
  :: StableHlo.unary main_cst_19 main_v84 (broadcastInDim S32x4x64x64 ![] bcast_S_S32x4x64x64 : (⟨S_, .f32⟩ : BufTy).Contents (Elt F) → (⟨S32x4x64x64, .f32⟩ : BufTy).Contents (Elt F))
  :: StableHlo.nullary main_cst_20 (constant S_ .f32 0x00000000#32)
  :: [] )
/-- Part 1 of `main` is its items in order. -/
theorem main_part1_chain (c : Dev nD) : main_part1 (F := F) c = (Pipeline.chainK
  [ StableHlo.seq main_part1_ops0,
    StableHlo.seq main_part1_ops1,
    StableHlo.seq main_part1_ops2,
    StableHlo.seq main_part1_ops3 ]
  (StableHlo.seq main_part1_ops4) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

/-- 18 operations of @main, part 2 (statements 121 … 160), in order. -/
abbrev main_part2_ops0 : List (HloOp τ sig (Elt F)) :=
  [ StableHlo.unary main_cst_20 main_v85 (broadcastInDim S32x4 ![] bcast_S_S32x4 : (⟨S_, .f32⟩ : BufTy).Contents (Elt F) → (⟨S32x4, .f32⟩ : BufTy).Contents (Elt F)),
    StableHlo.nullary main_c_21 (constantI S_ 32 0#32),
    StableHlo.unary main_v78 main_v86_0 id,
    StableHlo.unary main_v26_9 main_v86_1 id,
    StableHlo.unary main_v14 main_v86_2 id,
    StableHlo.unary main_v16 main_v86_3 id,
    StableHlo.unary main_v26_10 main_v86_4 id,
    StableHlo.unary main_v20 main_v86_5 id,
    StableHlo.unary main_v26_11 main_v86_6 id,
    StableHlo.unary main_v18 main_v86_7 id,
    StableHlo.unary main_c_21 main_v86_8 id,
    StableHlo.unary main_v79 main_v86_9 id,
    StableHlo.unary main_v80 main_v86_10 id,
    StableHlo.unary main_v81 main_v86_11 id,
    StableHlo.unary main_v82 main_v86_12 id,
    StableHlo.unary main_v83 main_v86_13 id,
    StableHlo.unary main_v84 main_v86_14 id,
    StableHlo.unary main_v85 main_v86_15 id ]
/-- 20 operations of @main, part 2 (statements 121 … 160), in order. -/
abbrev main_part2_ops1 : List (HloOp τ sig (Elt F)) :=
  [ StableHlo.unary main_v86_14 main_v87 ((transpose S32x64x4x64 [0, 2, 1, 3] · transposes_S32x4x64x64_S32x64x4x64_0_2_1_3) : (⟨S32x4x64x64, .f32⟩ : BufTy).Contents (Elt F) → (⟨S32x64x4x64, .f32⟩ : BufTy).Contents (Elt F)),
    StableHlo.reshape main_v87 main_v88 (rfl : (.f32 : EltTy) = .f32) shapeCasts_S32x64x4x64_S2048x256,
    StableHlo.unary main_v86_13 main_v89 ((transpose S32x64x4x128 [0, 2, 1, 3] · transposes_S32x4x64x128_S32x64x4x128_0_2_1_3) : (⟨S32x4x64x128, .f32⟩ : BufTy).Contents (Elt F) → (⟨S32x64x4x128, .f32⟩ : BufTy).Contents (Elt F)),
    StableHlo.reshape main_v89 main_v90 (rfl : (.f32 : EltTy) = .f32) shapeCasts_S32x64x4x128_S2048x512,
    StableHlo.unary main_v86_12 main_v91 ((transpose S32x64x4x128 [0, 2, 1, 3] · transposes_S32x4x64x128_S32x64x4x128_0_2_1_3) : (⟨S32x4x64x128, .f32⟩ : BufTy).Contents (Elt F) → (⟨S32x64x4x128, .f32⟩ : BufTy).Contents (Elt F)),
    StableHlo.reshape main_v91 main_v92 (rfl : (.f32 : EltTy) = .f32) shapeCasts_S32x64x4x128_S2048x512,
    StableHlo.unary main_v86_11 main_v93 ((transpose S32x64x4x128 [0, 2, 1, 3] · transposes_S32x4x64x128_S32x64x4x128_0_2_1_3) : (⟨S32x4x64x128, .f32⟩ : BufTy).Contents (Elt F) → (⟨S32x64x4x128, .f32⟩ : BufTy).Contents (Elt F)),
    StableHlo.reshape main_v93 main_v94 (rfl : (.f32 : EltTy) = .f32) shapeCasts_S32x64x4x128_S2048x512,
    StableHlo.unary main_v86_10 main_v95 ((transpose S32x64x4x128 [0, 2, 1, 3] · transposes_S32x4x64x128_S32x64x4x128_0_2_1_3) : (⟨S32x4x64x128, .f32⟩ : BufTy).Contents (Elt F) → (⟨S32x64x4x128, .f32⟩ : BufTy).Contents (Elt F)),
    StableHlo.reshape main_v95 main_v96 (rfl : (.f32 : EltTy) = .f32) shapeCasts_S32x64x4x128_S2048x512,
    StableHlo.binary main_v86_15 main_v10 main_v97 (mulf : (⟨S32x4, .f32⟩ : BufTy).Contents (Elt F) → (⟨S32x4, .f32⟩ : BufTy).Contents (Elt F) → (⟨S32x4, .f32⟩ : BufTy).Contents (Elt F)),
    StableHlo.unary main_v97 main_v98 (broadcastInDim S32x4x1 ![0, 1] bcast_S32x4_S32x4x1_0_1 : (⟨S32x4, .f32⟩ : BufTy).Contents (Elt F) → (⟨S32x4x1, .f32⟩ : BufTy).Contents (Elt F)),
    StableHlo.nullary main_cst_22 (constant S_ .f32 0x00000000#32),
    StableHlo.binary main_v98 main_cst_22 main_v99 ((fun x v => pad S32x4x64 ![0, 0, 63] ![0, 0, 0] ![0, 0, 0] x v pads_S32x4x1_S32x4x64_000_000_6300 h_S_) : (⟨S32x4x1, .f32⟩ : BufTy).Contents (Elt F) → (⟨S_, .f32⟩ : BufTy).Contents (Elt F) → (⟨S32x4x64, .f32⟩ : BufTy).Contents (Elt F)),
    StableHlo.unary main_v99 main_v100 ((transpose S32x64x4 [0, 2, 1] · transposes_S32x4x64_S32x64x4_0_2_1) : (⟨S32x4x64, .f32⟩ : BufTy).Contents (Elt F) → (⟨S32x64x4, .f32⟩ : BufTy).Contents (Elt F)),
    StableHlo.reshape main_v100 main_v101 (rfl : (.f32 : EltTy) = .f32) shapeCasts_S32x64x4_S2048x4,
    StableHlo.nullary main_cst_23 (constant S_ .f32 0x00000000#32),
    StableHlo.binary main_v101 main_cst_23 main_v102 ((fun x v => pad S2048x128 ![0, 0] ![0, 124] ![0, 0] x v pads_S2048x4_S2048x128_000_01240 h_S_) : (⟨S2048x4, .f32⟩ : BufTy).Contents (Elt F) → (⟨S_, .f32⟩ : BufTy).Contents (Elt F) → (⟨S2048x128, .f32⟩ : BufTy).Contents (Elt F)),
    StableHlo.unary main_v49 main_v103 ((truncf .bf16 · bitsLt_bf16_f32) : (⟨S2048x512, .f32⟩ : BufTy).Contents (Elt F) → (⟨S2048x512, .bf16⟩ : BufTy).Contents (Elt F)),
    StableHlo.unary main_v55 main_v104 ((truncf .bf16 · bitsLt_bf16_f32) : (⟨S2048x512, .f32⟩ : BufTy).Contents (Elt F) → (⟨S2048x512, .bf16⟩ : BufTy).Contents (Elt F)) ]
/-- The last part of `main` is its items in order. -/
theorem main_part2_chain (c : Dev nD) : main_part2 (F := F) c = (Pipeline.chain
  [ StableHlo.seq main_part2_ops0,
    HostLoop.enter 1,
    StableHlo.seq main_part2_ops1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- `main` is the items of its parts in order. -/
theorem main_chain_windows (c : Dev nD) : main (F := F) c = (Pipeline.chain
  [ StableHlo.seq main_part0_ops0,
    HostLoop.enter 0,
    StableHlo.seq main_part0_ops1,
    StableHlo.seq main_part1_ops0,
    StableHlo.seq main_part1_ops1,
    StableHlo.seq main_part1_ops2,
    StableHlo.seq main_part1_ops3,
    StableHlo.seq main_part1_ops4,
    StableHlo.seq main_part2_ops0,
    HostLoop.enter 1,
    StableHlo.seq main_part2_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- `main`'s items, a stretch given by the pieces its parts cut it into. -/
abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1, main_part1_ops0],
    .ops [main_part1_ops1],
    .ops [main_part1_ops2],
    .ops [main_part1_ops3],
    .ops [main_part1_ops4, main_part2_ops0],
    .prog (HostLoop.enter 1),
    .ops [main_part2_ops1] ]

/-- The parts' items are the groups, cut. -/
theorem main_chain_cut (c : Dev nD) : (Pipeline.chain
  [ StableHlo.seq main_part0_ops0,
    HostLoop.enter 0,
    StableHlo.seq main_part0_ops1,
    StableHlo.seq main_part1_ops0,
    StableHlo.seq main_part1_ops1,
    StableHlo.seq main_part1_ops2,
    StableHlo.seq main_part1_ops3,
    StableHlo.seq main_part1_ops4,
    StableHlo.seq main_part2_ops0,
    HostLoop.enter 1,
    StableHlo.seq main_part2_ops1 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- The groups, joined, are `main`'s items. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    HostLoop.enter 1,
    StableHlo.seq hostOps0_6 ] : Prog (TpuEff nD τ sig (Elt F) (HostLoop.Sig (Pipeline.Sig Λ₀ (Fin 0) fun p => (pcfgs (F := F) p).Adm) 2) .tc) PUnit) := by
  chain_rfl

/-- `main` is its items in order: stretches of operations and the two loops. -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    HostLoop.enter 1,
    StableHlo.seq hostOps0_6 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- 5 operations of @dynamic_index_in_dim, in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v26_0 : StableHlo.TRef sig ⟨S32x4x64x128, .f32⟩) ![(.of main_v26_6 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while0b_call0_v0 : StableHlo.TRef sig ⟨S1x4x64x128, .f32⟩) (.of main_while0b_v105 : StableHlo.TRef sig ⟨S4x64x128, .f32⟩) (rfl : (.f32 : EltTy) = .f32) shapeCasts_S1x4x64x128_S4x64x128 ]
/-- Each of these operations touches TensorCore references only. -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 operations of @dynamic_index_in_dim, in order. -/
abbrev while0Ops0_1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v26_1 : StableHlo.TRef sig ⟨S32x4x64x128, .f32⟩) ![(.of main_v26_6 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while0b_call1_v0 : StableHlo.TRef sig ⟨S1x4x64x128, .f32⟩) (.of main_while0b_v106 : StableHlo.TRef sig ⟨S4x64x128, .f32⟩) (rfl : (.f32 : EltTy) = .f32) shapeCasts_S1x4x64x128_S4x64x128 ]
/-- Each of these operations touches TensorCore references only. -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 operations of @dynamic_index_in_dim, in order. -/
abbrev while0Ops0_2 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v26_2 : StableHlo.TRef sig ⟨S32x4x64x128, .f32⟩) ![(.of main_v26_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while0b_call2_v0 : StableHlo.TRef sig ⟨S1x4x64x128, .f32⟩) (.of main_while0b_v107 : StableHlo.TRef sig ⟨S4x64x128, .f32⟩) (rfl : (.f32 : EltTy) = .f32) shapeCasts_S1x4x64x128_S4x64x128 ]
/-- Each of these operations touches TensorCore references only. -/
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 operations of @dynamic_index_in_dim, in order. -/
abbrev while0Ops0_3 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v26_3 : StableHlo.TRef sig ⟨S32x4x64x128, .f32⟩) ![(.of main_v26_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while0b_call3_v0 : StableHlo.TRef sig ⟨S1x4x64x128, .f32⟩) (.of main_while0b_v108 : StableHlo.TRef sig ⟨S4x64x128, .f32⟩) (rfl : (.f32 : EltTy) = .f32) shapeCasts_S1x4x64x128_S4x64x128 ]
/-- Each of these operations touches TensorCore references only. -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 operations of @dynamic_index_in_dim_0, in order. -/
abbrev while0Ops0_4 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v26_4 : StableHlo.TRef sig ⟨S32x4x64x64, .f32⟩) ![(.of main_v26_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x4x64x64, .f32⟩) (fun x i => Host.dynamicSlice S1x4x64x64 x (fun k => (i k (Shape.Idx.first h_S_)).toInt) sliceFits_S32x4x64x64_S1x4x64x64),
    StableHlo.TRef.reshape (.of main_while0b_call4_v0 : StableHlo.TRef sig ⟨S1x4x64x64, .f32⟩) (.of main_while0b_v109 : StableHlo.TRef sig ⟨S4x64x64, .f32⟩) (rfl : (.f32 : EltTy) = .f32) shapeCasts_S1x4x64x64_S4x64x64 ]
/-- Each of these operations touches TensorCore references only. -/
theorem while0Ops0_4_sub : (while0Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 3 operations of @dynamic_index_in_dim_1, in order. -/
abbrev while0Ops0_5 : List (HloOp τ sig (Elt F)) :=
  [ StableHlo.TRef.nullary (.of main_while0b_call5_c : StableHlo.TRef sig ⟨S_, .i32⟩) (constantI S_ 32 0#32),
    StableHlo.TRef.unaryIndexed (.of main_v26_5 : StableHlo.TRef sig ⟨S32x4, .f32⟩) ![(.of main_v26_6 : StableHlo.TRef sig ⟨S_, .i32⟩), (.of main_while0b_call5_c : StableHlo.TRef sig ⟨S_, .i32⟩)] (.of main_while0b_call5_v0 : StableHlo.TRef sig ⟨S1x4, .f32⟩) (fun x i => Host.dynamicSlice S1x4 x (fun k => (i k (Shape.Idx.first h_S_)).toInt) sliceFits_S32x4_S1x4),
    StableHlo.TRef.reshape (.of main_while0b_call5_v0 : StableHlo.TRef sig ⟨S1x4, .f32⟩) (.of main_while0b_v110 : StableHlo.TRef sig ⟨S4, .f32⟩) (rfl : (.f32 : EltTy) = .f32) shapeCasts_S1x4_S4 ]
/-- Each of these operations touches TensorCore references only. -/
theorem while0Ops0_5_sub : (while0Ops0_5 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 10 host operations of host loop 0's body region, in order. -/
abbrev while0Ops0_6 : List (HloOp τ sig (Elt F)) :=
  [ StableHlo.binary main_while0b_v106 main_v26_7 main_while0b_v111 ((fun l r => Host.dotGeneral dot_S4x64x128_S4x128x128_S4x64x128_2_1_1_2_0_0 none l r) : (⟨S4x64x128, .f32⟩ : BufTy).Contents (Elt F) → (⟨S4x128x128, .f32⟩ : BufTy).Contents (Elt F) → (⟨S4x64x128, .f32⟩ : BufTy).Contents (Elt F)),
    StableHlo.binary main_while0b_v105 main_while0b_v111 main_while0b_v112 (subf : (⟨S4x64x128, .f32⟩ : BufTy).Contents (Elt F) → (⟨S4x64x128, .f32⟩ : BufTy).Contents (Elt F) → (⟨S4x64x128, .f32⟩ : BufTy).Contents (Elt F)),
    StableHlo.binary main_while0b_v107 main_v26_7 main_while0b_v113 ((fun l r => Host.dotGeneral dot_S4x64x128_S4x128x128_S4x64x128_2_1_1_2_0_0 none l r) : (⟨S4x64x128, .f32⟩ : BufTy).Contents (Elt F) → (⟨S4x128x128, .f32⟩ : BufTy).Contents (Elt F) → (⟨S4x64x128, .f32⟩ : BufTy).Contents (Elt F)),
    StableHlo.binary main_while0b_v109 main_while0b_v112 main_while0b_v114 ((fun l r => Host.dotGeneral dot_S4x64x64_S4x64x128_S4x64x128_2_1_1_2_0_0 none l r) : (⟨S4x64x64, .f32⟩ : BufTy).Contents (Elt F) → (⟨S4x64x128, .f32⟩ : BufTy).Contents (Elt F) → (⟨S4x64x128, .f32⟩ : BufTy).Contents (Elt F)),
    StableHlo.binary main_while0b_v113 main_while0b_v114 main_while0b_v115 (addf : (⟨S4x64x128, .f32⟩ : BufTy).Contents (Elt F) → (⟨S4x64x128, .f32⟩ : BufTy).Contents (Elt F) → (⟨S4x64x128, .f32⟩ : BufTy).Contents (Elt F)),
    StableHlo.unary main_while0b_v110 main_while0b_v116 (broadcastInDim S4x1x1 ![0] bcast_S4_S4x1x1_0 : (⟨S4, .f32⟩ : BufTy).Contents (Elt F) → (⟨S4x1x1, .f32⟩ : BufTy).Contents (Elt F)),
    StableHlo.unary main_while0b_v116 main_while0b_v117 (broadcastInDim S4x128x128 ![0, 1, 2] bcast_S4x1x1_S4x128x128_0_1_2 : (⟨S4x1x1, .f32⟩ : BufTy).Contents (Elt F) → (⟨S4x128x128, .f32⟩ : BufTy).Contents (Elt F)),
    StableHlo.binary main_v26_7 main_while0b_v117 main_while0b_v118 (mulf : (⟨S4x128x128, .f32⟩ : BufTy).Contents (Elt F) → (⟨S4x128x128, .f32⟩ : BufTy).Contents (Elt F) → (⟨S4x128x128, .f32⟩ : BufTy).Contents (Elt F)),
    StableHlo.binary main_while0b_v108 main_while0b_v112 main_while0b_v119 ((fun l r => Host.dotGeneral dot_S4x64x128_S4x64x128_S4x128x128_1_1_2_2_0_0 none l r) : (⟨S4x64x128, .f32⟩ : BufTy).Contents (Elt F) → (⟨S4x64x128, .f32⟩ : BufTy).Contents (Elt F) → (⟨S4x128x128, .f32⟩ : BufTy).Contents (Elt F)),
    StableHlo.binary main_while0b_v118 main_while0b_v119 main_while0b_v120 (addf : (⟨S4x128x128, .f32⟩ : BufTy).Contents (Elt F) → (⟨S4x128x128, .f32⟩ : BufTy).Contents (Elt F) → (⟨S4x128x128, .f32⟩ : BufTy).Contents (Elt F)) ]
/-- Each of these operations touches TensorCore references only. -/
theorem while0Ops0_6_sub : (while0Ops0_6 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩
/-- 5 operations of @dynamic_update_index_in_dim, in order. -/
abbrev while0Ops0_7 : List (HloOp τ sig (Elt F)) :=
  [ StableHlo.TRef.unary (.of main_while0b_v115 : StableHlo.TRef sig ⟨S4x64x128, .f32⟩) (.of main_while0b_call6_v0 : StableHlo.TRef sig ⟨S1x4x64x128, .f32⟩) (broadcastInDim S1x4x64x128 ![1, 2, 3] bcast_S4x64x128_S1x4x64x128_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v26_8 : StableHlo.TRef sig ⟨S32x4x64x128, .f32⟩) (.of main_while0b_call6_v0 : StableHlo.TRef sig ⟨S1x4x64x128, .f32⟩) ![(.of main_v26_6 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v121 : StableHlo.TRef sig ⟨S32x4x64x128, .f32⟩) (fun x u i => Host.dynamicUpdateSlice x u (fun k => (i k (Shape.Idx.first h_S_)).toInt) updateFits_S32x4x64x128_S1x4x64x128) ]
/-- Each of these operations touches TensorCore references only. -/
theorem while0Ops0_7_sub : (while0Ops0_7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 operations of @dynamic_update_index_in_dim_2, in order. -/
abbrev while0Ops0_8 : List (HloOp τ sig (Elt F)) :=
  [ StableHlo.TRef.unary (.of main_v26_7 : StableHlo.TRef sig ⟨S4x128x128, .f32⟩) (.of main_while0b_call7_v0 : StableHlo.TRef sig ⟨S1x4x128x128, .f32⟩) (broadcastInDim S1x4x128x128 ![1, 2, 3] bcast_S4x128x128_S1x4x128x128_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v26_9 : StableHlo.TRef sig ⟨S32x4x128x128, .f32⟩) (.of main_while0b_call7_v0 : StableHlo.TRef sig ⟨S1x4x128x128, .f32⟩) ![(.of main_v26_6 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v122 : StableHlo.TRef sig ⟨S32x4x128x128, .f32⟩) (fun x u i => Host.dynamicUpdateSlice x u (fun k => (i k (Shape.Idx.first h_S_)).toInt) updateFits_S32x4x128x128_S1x4x128x128) ]
/-- Each of these operations touches TensorCore references only. -/
theorem while0Ops0_8_sub : (while0Ops0_8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 operations of @dynamic_update_index_in_dim, in order. -/
abbrev while0Ops0_9 : List (HloOp τ sig (Elt F)) :=
  [ StableHlo.TRef.unary (.of main_while0b_v112 : StableHlo.TRef sig ⟨S4x64x128, .f32⟩) (.of main_while0b_call8_v0 : StableHlo.TRef sig ⟨S1x4x64x128, .f32⟩) (broadcastInDim S1x4x64x128 ![1, 2, 3] bcast_S4x64x128_S1x4x64x128_1_2_3),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.binaryIndexed (.of main_v26_10 : StableHlo.TRef sig ⟨S32x4x64x128, .f32⟩) (.of main_while0b_call8_v0 : StableHlo.TRef sig ⟨S1x4x64x128, .f32⟩) ![(.of main_v26_6 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩)] (.of main_while0b_v123 : StableHlo.TRef sig ⟨S32x4x64x128, .f32⟩) (fun x u i => Host.dynamicUpdateSlice x u (fun k => (i k (Shape.Idx.first h_S_)).toInt) updateFits_S32x4x64x128_S1x4x64x128) ]
/-- Each of these operations touches TensorCore references only. -/
theorem while0Ops0_9_sub : (while0Ops0_9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 operations of @dynamic_update_index_in_dim_3, in order. -/
abbrev while0Ops0_10 : List (HloOp τ sig (Elt F)) :=
  [ StableHlo.TRef.unary (.of main_while0b_v116 : StableHlo.TRef sig ⟨S4x1x1, .f32⟩) (.of main_while0b_call9_v0 : StableHlo.TRef sig ⟨S1x4x1x1, .f32⟩) (broadcastInDim S1x4x1x1 ![1, 2, 3] bcast_S4x1x1_S1x4x1x1_1_2_3),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.nullary (.of main_while0b_call9_c_1 : StableHlo.TRef sig ⟨S_, .i32⟩) (constantI S_ 32 0#32),
    StableHlo.TRef.binaryIndexed (.of main_v26_11 : StableHlo.TRef sig ⟨S32x4x1x1, .f32⟩) (.of main_while0b_call9_v0 : StableHlo.TRef sig ⟨S1x4x1x1, .f32⟩) ![(.of main_v26_6 : StableHlo.TRef sig ⟨S_, .i32⟩), (.of main_while0b_call9_c : StableHlo.TRef sig ⟨S_, .i32⟩), (.of main_while0b_call9_c_0 : StableHlo.TRef sig ⟨S_, .i32⟩), (.of main_while0b_call9_c_1 : StableHlo.TRef sig ⟨S_, .i32⟩)] (.of main_while0b_v124 : StableHlo.TRef sig ⟨S32x4x1x1, .f32⟩) (fun x u i => Host.dynamicUpdateSlice x u (fun k => (i k (Shape.Idx.first h_S_)).toInt) updateFits_S32x4x1x1_S1x4x1x1) ]
/-- Each of these operations touches TensorCore references only. -/
theorem while0Ops0_10_sub : (while0Ops0_10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 8 host operations of host loop 0's body region, in order. -/
abbrev while0Ops0_11 : List (HloOp τ sig (Elt F)) :=
  [ StableHlo.nullary main_while0b_c_35 (constantI S_ 32 1#32),
    StableHlo.binary main_v26_6 main_while0b_c_35 main_while0b_v125 (addi : (⟨S_, .i32⟩ : BufTy).Contents (Elt F) → (⟨S_, .i32⟩ : BufTy).Contents (Elt F) → (⟨S_, .i32⟩ : BufTy).Contents (Elt F)),
    StableHlo.unary main_while0b_v125 main_v26_6 id,
    StableHlo.unary main_while0b_v120 main_v26_7 id,
    StableHlo.unary main_while0b_v121 main_v26_8 id,
    StableHlo.unary main_while0b_v122 main_v26_9 id,
    StableHlo.unary main_while0b_v123 main_v26_10 id,
    StableHlo.unary main_while0b_v124 main_v26_11 id ]
/-- Each of these operations touches TensorCore references only. -/
theorem while0Ops0_11_sub : (while0Ops0_11 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- The body of loop 0 is its stretches in order. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

/-- 4 host operations of host loop 1's body region, in order. -/
abbrev while1Ops0 : List (HloOp τ sig (Elt F)) :=
  [ StableHlo.nullary main_while1b_c_39 (constantI S_ 32 32#32),
    StableHlo.binary main_while1b_c_39 main_v86_8 main_while1b_v105 (subi : (⟨S_, .i32⟩ : BufTy).Contents (Elt F) → (⟨S_, .i32⟩ : BufTy).Contents (Elt F) → (⟨S_, .i32⟩ : BufTy).Contents (Elt F)),
    StableHlo.nullary main_while1b_c_40 (constantI S_ 32 1#32),
    StableHlo.binary main_while1b_v105 main_while1b_c_40 main_while1b_v106 (subi : (⟨S_, .i32⟩ : BufTy).Contents (Elt F) → (⟨S_, .i32⟩ : BufTy).Contents (Elt F) → (⟨S_, .i32⟩ : BufTy).Contents (Elt F)) ]
/-- Each of these operations touches TensorCore references only. -/
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- 5 operations of @dynamic_index_in_dim, in order. -/
abbrev while1Ops0_1 : List (HloOp τ sig (Elt F)) :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.unaryIndexed (.of main_v86_0 : StableHlo.TRef sig ⟨S32x4x64x128, .f32⟩) ![(.of main_while1b_v106 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩)] (.of main_while1b_call12_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while1b_call12_v0 : StableHlo.TRef sig ⟨S1x4x64x128, .f32⟩) (.of main_while1b_v107 : StableHlo.TRef sig ⟨S4x64x128, .f32⟩) (rfl : (.f32 : EltTy) = .f32) shapeCasts_S1x4x64x128_S4x64x128 ]
/-- Each of these operations touches TensorCore references only. -/
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 operations of @dynamic_index_in_dim_5, in order. -/
abbrev while1Ops0_2 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.unaryIndexed (.of main_v86_1 : StableHlo.TRef sig ⟨S32x4x128x128, .f32⟩) ![(.of main_while1b_v106 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_call13_v0 : StableHlo.TRef sig ⟨S1x4x128x128, .f32⟩) (fun x i => Host.dynamicSlice S1x4x128x128 x (fun k => (i k (Shape.Idx.first h_S_)).toInt) sliceFits_S32x4x128x128_S1x4x128x128),
    StableHlo.TRef.reshape (.of main_while1b_call13_v0 : StableHlo.TRef sig ⟨S1x4x128x128, .f32⟩) (.of main_while1b_v108 : StableHlo.TRef sig ⟨S4x128x128, .f32⟩) (rfl : (.f32 : EltTy) = .f32) shapeCasts_S1x4x128x128_S4x128x128 ]
/-- Each of these operations touches TensorCore references only. -/
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 operations of @dynamic_index_in_dim, in order. -/
abbrev while1Ops0_3 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.unaryIndexed (.of main_v86_2 : StableHlo.TRef sig ⟨S32x4x64x128, .f32⟩) ![(.of main_while1b_v106 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_call14_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while1b_call14_v0 : StableHlo.TRef sig ⟨S1x4x64x128, .f32⟩) (.of main_while1b_v109 : StableHlo.TRef sig ⟨S4x64x128, .f32⟩) (rfl : (.f32 : EltTy) = .f32) shapeCasts_S1x4x64x128_S4x64x128 ]
/-- Each of these operations touches TensorCore references only. -/
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 operations of @dynamic_index_in_dim, in order. -/
abbrev while1Ops0_4 : List (HloOp τ sig (Elt F)) :=
  [ StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.unaryIndexed (.of main_v86_3 : StableHlo.TRef sig ⟨S32x4x64x128, .f32⟩) ![(.of main_while1b_v106 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_call15_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while1b_call15_v0 : StableHlo.TRef sig ⟨S1x4x64x128, .f32⟩) (.of main_while1b_v110 : StableHlo.TRef sig ⟨S4x64x128, .f32⟩) (rfl : (.f32 : EltTy) = .f32) shapeCasts_S1x4x64x128_S4x64x128 ]
/-- Each of these operations touches TensorCore references only. -/
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 operations of @dynamic_index_in_dim, in order. -/
abbrev while1Ops0_5 : List (HloOp τ sig (Elt F)) :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.unaryIndexed (.of main_v86_4 : StableHlo.TRef sig ⟨S32x4x64x128, .f32⟩) ![(.of main_while1b_v106 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_call16_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while1b_call16_v0 : StableHlo.TRef sig ⟨S1x4x64x128, .f32⟩) (.of main_while1b_v111 : StableHlo.TRef sig ⟨S4x64x128, .f32⟩) (rfl : (.f32 : EltTy) = .f32) shapeCasts_S1x4x64x128_S4x64x128 ]
/-- Each of these operations touches TensorCore references only. -/
theorem while1Ops0_5_sub : (while1Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 operations of @dynamic_index_in_dim_0, in order. -/
abbrev while1Ops0_6 : List (HloOp τ sig (Elt F)) :=
  [ StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.unaryIndexed (.of main_v86_5 : StableHlo.TRef sig ⟨S32x4x64x64, .f32⟩) ![(.of main_while1b_v106 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_call17_v0 : StableHlo.TRef sig ⟨S1x4x64x64, .f32⟩) (fun x i => Host.dynamicSlice S1x4x64x64 x (fun k => (i k (Shape.Idx.first h_S_)).toInt) sliceFits_S32x4x64x64_S1x4x64x64),
    StableHlo.TRef.reshape (.of main_while1b_call17_v0 : StableHlo.TRef sig ⟨S1x4x64x64, .f32⟩) (.of main_while1b_v112 : StableHlo.TRef sig ⟨S4x64x64, .f32⟩) (rfl : (.f32 : EltTy) = .f32) shapeCasts_S1x4x64x64_S4x64x64 ]
/-- Each of these operations touches TensorCore references only. -/
theorem while1Ops0_6_sub : (while1Ops0_6 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 operations of @dynamic_index_in_dim_6, in order. -/
abbrev while1Ops0_7 : List (HloOp τ sig (Elt F)) :=
  [ StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.unaryIndexed (.of main_v86_6 : StableHlo.TRef sig ⟨S32x4x1x1, .f32⟩) ![(.of main_while1b_v106 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩)] (.of main_while1b_call18_v0 : StableHlo.TRef sig ⟨S1x4x1x1, .f32⟩) (fun x i => Host.dynamicSlice S1x4x1x1 x (fun k => (i k (Shape.Idx.first h_S_)).toInt) sliceFits_S32x4x1x1_S1x4x1x1),
    StableHlo.TRef.reshape (.of main_while1b_call18_v0 : StableHlo.TRef sig ⟨S1x4x1x1, .f32⟩) (.of main_while1b_v113 : StableHlo.TRef sig ⟨S4x1x1, .f32⟩) (rfl : (.f32 : EltTy) = .f32) shapeCasts_S1x4x1x1_S4x1x1 ]
/-- Each of these operations touches TensorCore references only. -/
theorem while1Ops0_7_sub : (while1Ops0_7 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 operations of @dynamic_index_in_dim, in order. -/
abbrev while1Ops0_8 : List (HloOp τ sig (Elt F)) :=
  [ StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.unaryIndexed (.of main_v86_7 : StableHlo.TRef sig ⟨S32x4x64x128, .f32⟩) ![(.of main_while1b_v106 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩)] (.of main_while1b_call19_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while1b_call19_v0 : StableHlo.TRef sig ⟨S1x4x64x128, .f32⟩) (.of main_while1b_v114 : StableHlo.TRef sig ⟨S4x64x128, .f32⟩) (rfl : (.f32 : EltTy) = .f32) shapeCasts_S1x4x64x128_S4x64x128 ]
/-- Each of these operations touches TensorCore references only. -/
theorem while1Ops0_8_sub : (while1Ops0_8 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 25 host operations of host loop 1's body region, in order. -/
abbrev while1Ops0_9 : List (HloOp τ sig (Elt F)) :=
  [ StableHlo.binary main_v86_9 main_while1b_v114 main_while1b_v115 ((fun l r => Host.dotGeneral dot_S4x128x128_S4x64x128_S4x128x64_1_2_2_1_0_0 none l r) : (⟨S4x128x128, .f32⟩ : BufTy).Contents (Elt F) → (⟨S4x64x128, .f32⟩ : BufTy).Contents (Elt F) → (⟨S4x128x64, .f32⟩ : BufTy).Contents (Elt F)),
    StableHlo.unary main_while1b_v115 main_while1b_v116 ((transpose S4x64x128 [0, 2, 1] · transposes_S4x128x64_S4x64x128_0_2_1) : (⟨S4x128x64, .f32⟩ : BufTy).Contents (Elt F) → (⟨S4x64x128, .f32⟩ : BufTy).Contents (Elt F)),
    StableHlo.binary main_v86_9 main_while1b_v111 main_while1b_v117 ((fun l r => Host.dotGeneral dot_S4x128x128_S4x64x128_S4x128x64_2_2_1_1_0_0 none l r) : (⟨S4x128x128, .f32⟩ : BufTy).Contents (Elt F) → (⟨S4x64x128, .f32⟩ : BufTy).Contents (Elt F) → (⟨S4x128x64, .f32⟩ : BufTy).Contents (Elt F)),
    StableHlo.unary main_while1b_v117 main_while1b_v118 ((transpose S4x64x128 [0, 2, 1] · transposes_S4x128x64_S4x64x128_0_2_1) : (⟨S4x128x64, .f32⟩ : BufTy).Contents (Elt F) → (⟨S4x64x128, .f32⟩ : BufTy).Contents (Elt F)),
    StableHlo.binary main_while1b_v108 main_v86_9 main_while1b_v119 (mulf : (⟨S4x128x128, .f32⟩ : BufTy).Contents (Elt F) → (⟨S4x128x128, .f32⟩ : BufTy).Contents (Elt F) → (⟨S4x128x128, .f32⟩ : BufTy).Contents (Elt F)),
    StableHlo.nullary main_while1b_cst_41 (constant S_ .f32 0x00000000#32),
    StableHlo.binary main_while1b_v119 main_while1b_cst_41 main_while1b_v120 ((fun x v => Host.reduceAdd x v reducesTo_S4x128x128_S4_d1_2 h_S_) : (⟨S4x128x128, .f32⟩ : BufTy).Contents (Elt F) → (⟨S_, .f32⟩ : BufTy).Contents (Elt F) → (⟨S4, .f32⟩ : BufTy).Contents (Elt F)),
    StableHlo.reshape main_while1b_v120 main_while1b_v121 (rfl : (.f32 : EltTy) = .f32) shapeCasts_S4_S4x1x1,
    StableHlo.unary main_while1b_v113 main_while1b_v122 (broadcastInDim S4x128x128 ![0, 1, 2] bcast_S4x1x1_S4x128x128_0_1_2 : (⟨S4x1x1, .f32⟩ : BufTy).Contents (Elt F) → (⟨S4x128x128, .f32⟩ : BufTy).Contents (Elt F)),
    StableHlo.binary main_v86_9 main_while1b_v122 main_while1b_v123 (mulf : (⟨S4x128x128, .f32⟩ : BufTy).Contents (Elt F) → (⟨S4x128x128, .f32⟩ : BufTy).Contents (Elt F) → (⟨S4x128x128, .f32⟩ : BufTy).Contents (Elt F)),
    StableHlo.nullary main_while1b_cst_42 (constant S_ .f32 0x00000000#32),
    StableHlo.binary main_while1b_v121 main_while1b_cst_42 main_while1b_v124 ((fun x v => Host.reduceAdd x v reducesTo_S4x1x1_S4_d1_2 h_S_) : (⟨S4x1x1, .f32⟩ : BufTy).Contents (Elt F) → (⟨S_, .f32⟩ : BufTy).Contents (Elt F) → (⟨S4, .f32⟩ : BufTy).Contents (Elt F)),
    StableHlo.binary main_while1b_v107 main_while1b_v112 main_while1b_v125 ((fun l r => Host.dotGeneral dot_S4x64x128_S4x64x64_S4x128x64_1_1_2_2_0_0 none l r) : (⟨S4x64x128, .f32⟩ : BufTy).Contents (Elt F) → (⟨S4x64x64, .f32⟩ : BufTy).Contents (Elt F) → (⟨S4x128x64, .f32⟩ : BufTy).Contents (Elt F)),
    StableHlo.unary main_while1b_v125 main_while1b_v126 ((transpose S4x64x128 [0, 2, 1] · transposes_S4x128x64_S4x64x128_0_2_1) : (⟨S4x128x64, .f32⟩ : BufTy).Contents (Elt F) → (⟨S4x64x128, .f32⟩ : BufTy).Contents (Elt F)),
    StableHlo.binary main_while1b_v116 main_while1b_v126 main_while1b_v127 (addf : (⟨S4x64x128, .f32⟩ : BufTy).Contents (Elt F) → (⟨S4x64x128, .f32⟩ : BufTy).Contents (Elt F) → (⟨S4x64x128, .f32⟩ : BufTy).Contents (Elt F)),
    StableHlo.binary main_while1b_v107 main_while1b_v111 main_while1b_v128 ((fun l r => Host.dotGeneral dot_S4x64x128_S4x64x128_S4x64x64_2_2_1_1_0_0 none l r) : (⟨S4x64x128, .f32⟩ : BufTy).Contents (Elt F) → (⟨S4x64x128, .f32⟩ : BufTy).Contents (Elt F) → (⟨S4x64x64, .f32⟩ : BufTy).Contents (Elt F)),
    StableHlo.binary main_while1b_v107 main_while1b_v110 main_while1b_v129 ((fun l r => Host.dotGeneral dot_S4x64x128_S4x64x128_S4x128x128_1_1_2_2_0_0 none l r) : (⟨S4x64x128, .f32⟩ : BufTy).Contents (Elt F) → (⟨S4x64x128, .f32⟩ : BufTy).Contents (Elt F) → (⟨S4x128x128, .f32⟩ : BufTy).Contents (Elt F)),
    StableHlo.unary main_while1b_v129 main_while1b_v130 ((transpose S4x128x128 [0, 2, 1] · transposes_S4x128x128_S4x128x128_0_2_1) : (⟨S4x128x128, .f32⟩ : BufTy).Contents (Elt F) → (⟨S4x128x128, .f32⟩ : BufTy).Contents (Elt F)),
    StableHlo.binary main_while1b_v123 main_while1b_v130 main_while1b_v131 (addf : (⟨S4x128x128, .f32⟩ : BufTy).Contents (Elt F) → (⟨S4x128x128, .f32⟩ : BufTy).Contents (Elt F) → (⟨S4x128x128, .f32⟩ : BufTy).Contents (Elt F)),
    StableHlo.binary main_while1b_v107 main_while1b_v108 main_while1b_v132 ((fun l r => Host.dotGeneral dot_S4x64x128_S4x128x128_S4x64x128_2_2_1_1_0_0 none l r) : (⟨S4x64x128, .f32⟩ : BufTy).Contents (Elt F) → (⟨S4x128x128, .f32⟩ : BufTy).Contents (Elt F) → (⟨S4x64x128, .f32⟩ : BufTy).Contents (Elt F)),
    StableHlo.unary main_while1b_v127 main_while1b_v133 (Host.negf : (⟨S4x64x128, .f32⟩ : BufTy).Contents (Elt F) → (⟨S4x64x128, .f32⟩ : BufTy).Contents (Elt F)),
    StableHlo.binary main_while1b_v133 main_while1b_v109 main_while1b_v134 ((fun l r => Host.dotGeneral dot_S4x64x128_S4x64x128_S4x128x128_1_1_2_2_0_0 none l r) : (⟨S4x64x128, .f32⟩ : BufTy).Contents (Elt F) → (⟨S4x64x128, .f32⟩ : BufTy).Contents (Elt F) → (⟨S4x128x128, .f32⟩ : BufTy).Contents (Elt F)),
    StableHlo.unary main_while1b_v134 main_while1b_v135 ((transpose S4x128x128 [0, 2, 1] · transposes_S4x128x128_S4x128x128_0_2_1) : (⟨S4x128x128, .f32⟩ : BufTy).Contents (Elt F) → (⟨S4x128x128, .f32⟩ : BufTy).Contents (Elt F)),
    StableHlo.binary main_while1b_v131 main_while1b_v135 main_while1b_v136 (addf : (⟨S4x128x128, .f32⟩ : BufTy).Contents (Elt F) → (⟨S4x128x128, .f32⟩ : BufTy).Contents (Elt F) → (⟨S4x128x128, .f32⟩ : BufTy).Contents (Elt F)),
    StableHlo.binary main_while1b_v133 main_while1b_v108 main_while1b_v137 ((fun l r => Host.dotGeneral dot_S4x64x128_S4x128x128_S4x64x128_2_2_1_1_0_0 none l r) : (⟨S4x64x128, .f32⟩ : BufTy).Contents (Elt F) → (⟨S4x128x128, .f32⟩ : BufTy).Contents (Elt F) → (⟨S4x64x128, .f32⟩ : BufTy).Contents (Elt F)) ]
/-- Each of these operations touches TensorCore references only. -/
theorem while1Ops0_9_sub : (while1Ops0_9 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub ..⟩
/-- 5 operations of @dynamic_update_index_in_dim, in order. -/
abbrev while1Ops0_10 : List (HloOp τ sig (Elt F)) :=
  [ StableHlo.TRef.unary (.of main_while1b_v127 : StableHlo.TRef sig ⟨S4x64x128, .f32⟩) (.of main_while1b_call20_v0 : StableHlo.TRef sig ⟨S1x4x64x128, .f32⟩) (broadcastInDim S1x4x64x128 ![1, 2, 3] bcast_S4x64x128_S1x4x64x128_1_2_3),
    StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.binaryIndexed (.of main_v86_10 : StableHlo.TRef sig ⟨S32x4x64x128, .f32⟩) (.of main_while1b_call20_v0 : StableHlo.TRef sig ⟨S1x4x64x128, .f32⟩) ![(.of main_while1b_v106 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩)] (.of main_while1b_v138 : StableHlo.TRef sig ⟨S32x4x64x128, .f32⟩) (fun x u i => Host.dynamicUpdateSlice x u (fun k => (i k (Shape.Idx.first h_S_)).toInt) updateFits_S32x4x64x128_S1x4x64x128) ]
/-- Each of these operations touches TensorCore references only. -/
theorem while1Ops0_10_sub : (while1Ops0_10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 operations of @dynamic_update_index_in_dim, in order. -/
abbrev while1Ops0_11 : List (HloOp τ sig (Elt F)) :=
  [ StableHlo.TRef.unary (.of main_while1b_v137 : StableHlo.TRef sig ⟨S4x64x128, .f32⟩) (.of main_while1b_call21_v0 : StableHlo.TRef sig ⟨S1x4x64x128, .f32⟩) (broadcastInDim S1x4x64x128 ![1, 2, 3] bcast_S4x64x128_S1x4x64x128_1_2_3),
    StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.binaryIndexed (.of main_v86_11 : StableHlo.TRef sig ⟨S32x4x64x128, .f32⟩) (.of main_while1b_call21_v0 : StableHlo.TRef sig ⟨S1x4x64x128, .f32⟩) ![(.of main_while1b_v106 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩)] (.of main_while1b_v139 : StableHlo.TRef sig ⟨S32x4x64x128, .f32⟩) (fun x u i => Host.dynamicUpdateSlice x u (fun k => (i k (Shape.Idx.first h_S_)).toInt) updateFits_S32x4x64x128_S1x4x64x128) ]
/-- Each of these operations touches TensorCore references only. -/
theorem while1Ops0_11_sub : (while1Ops0_11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 operations of @dynamic_update_index_in_dim, in order. -/
abbrev while1Ops0_12 : List (HloOp τ sig (Elt F)) :=
  [ StableHlo.TRef.unary (.of main_while1b_v132 : StableHlo.TRef sig ⟨S4x64x128, .f32⟩) (.of main_while1b_call22_v0 : StableHlo.TRef sig ⟨S1x4x64x128, .f32⟩) (broadcastInDim S1x4x64x128 ![1, 2, 3] bcast_S4x64x128_S1x4x64x128_1_2_3),
    StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.binaryIndexed (.of main_v86_12 : StableHlo.TRef sig ⟨S32x4x64x128, .f32⟩) (.of main_while1b_call22_v0 : StableHlo.TRef sig ⟨S1x4x64x128, .f32⟩) ![(.of main_while1b_v106 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩)] (.of main_while1b_v140 : StableHlo.TRef sig ⟨S32x4x64x128, .f32⟩) (fun x u i => Host.dynamicUpdateSlice x u (fun k => (i k (Shape.Idx.first h_S_)).toInt) updateFits_S32x4x64x128_S1x4x64x128) ]
/-- Each of these operations touches TensorCore references only. -/
theorem while1Ops0_12_sub : (while1Ops0_12 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 operations of @dynamic_update_index_in_dim, in order. -/
abbrev while1Ops0_13 : List (HloOp τ sig (Elt F)) :=
  [ StableHlo.TRef.unary (.of main_while1b_v118 : StableHlo.TRef sig ⟨S4x64x128, .f32⟩) (.of main_while1b_call23_v0 : StableHlo.TRef sig ⟨S1x4x64x128, .f32⟩) (broadcastInDim S1x4x64x128 ![1, 2, 3] bcast_S4x64x128_S1x4x64x128_1_2_3),
    StableHlo.TRef.nullary (.of main_while1b_call23_c : StableHlo.TRef sig ⟨S_, .i32⟩) (constantI S_ 32 0#32),
    StableHlo.TRef.nullary (.of main_while1b_call23_c_0 : StableHlo.TRef sig ⟨S_, .i32⟩) (constantI S_ 32 0#32),
    StableHlo.TRef.nullary (.of main_while1b_call23_c_1 : StableHlo.TRef sig ⟨S_, .i32⟩) (constantI S_ 32 0#32),
    StableHlo.TRef.binaryIndexed (.of main_v86_13 : StableHlo.TRef sig ⟨S32x4x64x128, .f32⟩) (.of main_while1b_call23_v0 : StableHlo.TRef sig ⟨S1x4x64x128, .f32⟩) ![(.of main_while1b_v106 : StableHlo.TRef sig ⟨S_, .i32⟩), (.of main_while1b_call23_c : StableHlo.TRef sig ⟨S_, .i32⟩), (.of main_while1b_call23_c_0 : StableHlo.TRef sig ⟨S_, .i32⟩), (.of main_while1b_call23_c_1 : StableHlo.TRef sig ⟨S_, .i32⟩)] (.of main_while1b_v141 : StableHlo.TRef sig ⟨S32x4x64x128, .f32⟩) (fun x u i => Host.dynamicUpdateSlice x u (fun k => (i k (Shape.Idx.first h_S_)).toInt) updateFits_S32x4x64x128_S1x4x64x128) ]
/-- Each of these operations touches TensorCore references only. -/
theorem while1Ops0_13_sub : (while1Ops0_13 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 operations of @dynamic_update_index_in_dim_7, in order. -/
abbrev while1Ops0_14 : List (HloOp τ sig (Elt F)) :=
  [ StableHlo.TRef.unary (.of main_while1b_v128 : StableHlo.TRef sig ⟨S4x64x64, .f32⟩) (.of main_while1b_call24_v0 : StableHlo.TRef sig ⟨S1x4x64x64, .f32⟩) (broadcastInDim S1x4x64x64 ![1, 2, 3] bcast_S4x64x64_S1x4x64x64_1_2_3),
    StableHlo.TRef.nullary (.of main_while1b_call24_c : StableHlo.TRef sig ⟨S_, .i32⟩) (constantI S_ 32 0#32),
    StableHlo.TRef.nullary (.of main_while1b_call24_c_0 : StableHlo.TRef sig ⟨S_, .i32⟩) (constantI S_ 32 0#32),
    StableHlo.TRef.nullary (.of main_while1b_call24_c_1 : StableHlo.TRef sig ⟨S_, .i32⟩) (constantI S_ 32 0#32),
    StableHlo.TRef.binaryIndexed (.of main_v86_14 : StableHlo.TRef sig ⟨S32x4x64x64, .f32⟩) (.of main_while1b_call24_v0 : StableHlo.TRef sig ⟨S1x4x64x64, .f32⟩) ![(.of main_while1b_v106 : StableHlo.TRef sig ⟨S_, .i32⟩), (.of main_while1b_call24_c : StableHlo.TRef sig ⟨S_, .i32⟩), (.of main_while1b_call24_c_0 : StableHlo.TRef sig ⟨S_, .i32⟩), (.of main_while1b_call24_c_1 : StableHlo.TRef sig ⟨S_, .i32⟩)] (.of main_while1b_v142 : StableHlo.TRef sig ⟨S32x4x64x64, .f32⟩) (fun x u i => Host.dynamicUpdateSlice x u (fun k => (i k (Shape.Idx.first h_S_)).toInt) updateFits_S32x4x64x64_S1x4x64x64) ]
/-- Each of these operations touches TensorCore references only. -/
theorem while1Ops0_14_sub : (while1Ops0_14 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 3 operations of @dynamic_update_index_in_dim_8, in order. -/
abbrev while1Ops0_15 : List (HloOp τ sig (Elt F)) :=
  [ StableHlo.TRef.unary (.of main_while1b_v124 : StableHlo.TRef sig ⟨S4, .f32⟩) (.of main_while1b_call25_v0 : StableHlo.TRef sig ⟨S1x4, .f32⟩) (broadcastInDim S1x4 ![1] bcast_S4_S1x4_1),
    StableHlo.TRef.nullary (.of main_while1b_call25_c : StableHlo.TRef sig ⟨S_, .i32⟩) (constantI S_ 32 0#32),
    StableHlo.TRef.binaryIndexed (.of main_v86_15 : StableHlo.TRef sig ⟨S32x4, .f32⟩) (.of main_while1b_call25_v0 : StableHlo.TRef sig ⟨S1x4, .f32⟩) ![(.of main_while1b_v106 : StableHlo.TRef sig ⟨S_, .i32⟩), (.of main_while1b_call25_c : StableHlo.TRef sig ⟨S_, .i32⟩)] (.of main_while1b_v143 : StableHlo.TRef sig ⟨S32x4, .f32⟩) (fun x u i => Host.dynamicUpdateSlice x u (fun k => (i k (Shape.Idx.first h_S_)).toInt) updateFits_S32x4_S1x4) ]
/-- Each of these operations touches TensorCore references only. -/
theorem while1Ops0_15_sub : (while1Ops0_15 : List (HloOp τ sig (Elt F))).Forall fun op => op.bufs ⊆ StableHlo.tcRefs τ sig :=
  ⟨StableHlo.unary_bufs_sub .., StableHlo.nullary_bufs_sub .., StableHlo.binaryIndexed_bufs_sub ..⟩
/-- 10 host operations of host loop 1's body region, in order. -/
abbrev while1Ops0_16 : List (HloOp τ sig (Elt F)) :=
  [ StableHlo.nullary main_while1b_c_43 (constantI S_ 32 1#32),
    StableHlo.binary main_v86_8 main_while1b_c_43 main_while1b_v144 (addi : (⟨S_, .i32⟩ : BufTy).Contents (Elt F) → (⟨S_, .i32⟩ : BufTy).Contents (Elt F) → (⟨S_, .i32⟩ : BufTy).Contents (Elt F)),
    StableHlo.unary main_while1b_v144 main_v86_8 id,
    StableHlo.unary main_while1b_v136 main_v86_9 id,
    StableHlo.unary main_while1b_v138 main_v86_10 id,
    StableHlo.unary main_while1b_v139 main_v86_11 id,
    StableHlo.unary main_while1b_v140 main_v86_12 id,
    StableHlo.unary main_while1b_v141 main_v86_13 id,
    StableHlo.unary main_while1b_v142 main_v86_14 id,
    StableHlo.unary main_while1b_v143 main_v86_15 id ]
/-- Each of these operations touches TensorCore references only. -/
theorem while1Ops0_16_sub : (while1Ops0_16 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- The body of loop 1 is its stretches in order. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8,
    StableHlo.seq while1Ops0_9,
    StableHlo.seq while1Ops0_10,
    StableHlo.seq while1Ops0_11,
    StableHlo.seq while1Ops0_12,
    StableHlo.seq while1Ops0_13,
    StableHlo.seq while1Ops0_14,
    StableHlo.seq while1Ops0_15,
    StableHlo.seq while1Ops0_16 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

end Cert.ReferenceIdeal.Ops

end

end
-- ==== Proof.RefRun.lean ====
module

public import proofs.«01_k».proof.Proof.RefOps
public import Idealize.ShloMosaic.Lib.Pipeline.RegionsLoop

@[expose] public section

set_option maxRecDepth 4096

noncomputable section

/-! # The reference's run

The reference runs its first stretch, the forward scan's loop, the stretches between, the loop of the gradient, and its
last stretch. Every fair execution ends, each buffer holding what the operations compute in this order, every semaphore
at zero. -/

namespace Cert.ReferenceIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline
open Cert.ReferenceIdeal Cert.ReferenceIdeal.Gen Cert.ReferenceIdeal.Ops

variable {F : FTy → Type} [FloatOps F]

local notation "𝕄" => MT nD τ sig Unit (Elt F) ℕ (Option PUnit) ℕ

/-! ## Loop 0 -/

/-- What the condition of loop 0 runs: the bound, and the counter compared with it. -/
abbrev condOps0 : List (HloOp τ sig (Elt F)) :=
  [ StableHlo.nullary main_while0c_c_35 (constantI S_ 32 32#32), StableHlo.binary main_v26_6 main_while0c_c_35 main_while0c_v105 (cmpi .slt) ]

/-- The stretches of loop 0's body. -/
abbrev body0 : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11]

set_option maxHeartbeats 4000000 in
theorem plain_body0 : Plain (body0 (F := F)) := .cons while0Ops0_sub (.cons while0Ops0_1_sub (.cons while0Ops0_2_sub (.cons while0Ops0_3_sub (.cons while0Ops0_4_sub (.cons while0Ops0_5_sub (.cons while0Ops0_6_sub (.cons while0Ops0_7_sub (.cons while0Ops0_8_sub (.cons while0Ops0_9_sub (.cons while0Ops0_10_sub (.cons while0Ops0_11_sub (.nil))))))))))))

theorem ctr0_cond (V : Valuation τ sig (Elt F)) : after condOps0 V (Proc.devRef .tc main_v26_6) = V (Proc.devRef .tc main_v26_6) := by
  after_reads_simp

set_option maxHeartbeats 4000000 in
/-- One trip adds one to the counter. -/
theorem ctr0_body (V : Valuation τ sig (Elt F)) :
    afterL body0 V (Proc.devRef .tc main_v26_6) = addi (V (Proc.devRef .tc main_v26_6)) (constantI S_ 32 1#32) := by
  simp only [afterL_cons, afterL_nil]
  after_reads_simp
  rfl

/-- Before the `k`-th condition the counter is `k`. -/
theorem ctr0_at (W : Dev nD → Valuation τ sig (Elt F)) (c : Dev nD)
    (h : W c (Proc.devRef .tc main_v26_6) = fun _ => (0#32 : BitVec 32)) :
    ∀ k, atTrip condOps0 body0 W k c (Proc.devRef .tc main_v26_6) = fun _ => Scf.iv 0#32 1#32 k
  | 0 => by rw [atTrip_zero, h, Scf.iv_zero]
  | k + 1 => by
    rw [atTrip_succ, ctr0_body, ctr0_cond, ctr0_at W c h k, Scf.iv_succ]
    rfl

set_option backward.isDefEq.respectTransparency.types false in
/-- The condition of loop 0 holds exactly for thirty-two trips. -/
theorem cond0 (W : Dev nD → Valuation τ sig (Elt F))
    (h : ∀ c, W c (Proc.devRef .tc main_v26_6) = fun _ => (0#32 : BitVec 32)) (Rc : Dev nD → sProp 𝕄) :
    LoopCond (pcfgs (F := F)) defs₀ Variants.none loops Rc (main_while0_cond (F := F)) condOps0 body0 W 32 := by
  intro k hk c bd
  have hctr := ctr0_at W c (h c) k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps0 body0 W k c) main_v26_6 HostLoop.idx0)
        (HloOp.result _ (atTrip condOps0 body0 W k c) main_while0c_c_35 HostLoop.idx0) = 1#1) (k < 32)
    rw [StableHlo.nullary_result_ne _ _ _ _ (by decide), StableHlo.nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [StableHlo.after_cons, StableHlo.after_cons, StableHlo.after_nil]; iexact Hh
  iexact HR

/-! ## Loop 1 -/

/-- What the condition of loop 1 runs: the bound, and the counter compared with it. -/
abbrev condOps1 : List (HloOp τ sig (Elt F)) :=
  [ StableHlo.nullary main_while1c_c_39 (constantI S_ 32 32#32), StableHlo.binary main_v86_8 main_while1c_c_39 main_while1c_v105 (cmpi .slt) ]

/-- The stretches of loop 1's body. -/
abbrev body1 : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16]

set_option maxHeartbeats 4000000 in
theorem plain_body1 : Plain (body1 (F := F)) := .cons while1Ops0_sub (.cons while1Ops0_1_sub (.cons while1Ops0_2_sub (.cons while1Ops0_3_sub (.cons while1Ops0_4_sub (.cons while1Ops0_5_sub (.cons while1Ops0_6_sub (.cons while1Ops0_7_sub (.cons while1Ops0_8_sub (.cons while1Ops0_9_sub (.cons while1Ops0_10_sub (.cons while1Ops0_11_sub (.cons while1Ops0_12_sub (.cons while1Ops0_13_sub (.cons while1Ops0_14_sub (.cons while1Ops0_15_sub (.cons while1Ops0_16_sub (.nil)))))))))))))))))

theorem ctr1_cond (V : Valuation τ sig (Elt F)) : after condOps1 V (Proc.devRef .tc main_v86_8) = V (Proc.devRef .tc main_v86_8) := by
  after_reads_simp

set_option maxHeartbeats 4000000 in
/-- One trip adds one to the counter. -/
theorem ctr1_body (V : Valuation τ sig (Elt F)) :
    afterL body1 V (Proc.devRef .tc main_v86_8) = addi (V (Proc.devRef .tc main_v86_8)) (constantI S_ 32 1#32) := by
  simp only [afterL_cons, afterL_nil]
  after_reads_simp
  rfl

/-- Before the `k`-th condition the counter is `k`. -/
theorem ctr1_at (W : Dev nD → Valuation τ sig (Elt F)) (c : Dev nD)
    (h : W c (Proc.devRef .tc main_v86_8) = fun _ => (0#32 : BitVec 32)) :
    ∀ k, atTrip condOps1 body1 W k c (Proc.devRef .tc main_v86_8) = fun _ => Scf.iv 0#32 1#32 k
  | 0 => by rw [atTrip_zero, h, Scf.iv_zero]
  | k + 1 => by
    rw [atTrip_succ, ctr1_body, ctr1_cond, ctr1_at W c h k, Scf.iv_succ]
    rfl

set_option backward.isDefEq.respectTransparency.types false in
/-- The condition of loop 1 holds exactly for thirty-two trips. -/
theorem cond1 (W : Dev nD → Valuation τ sig (Elt F))
    (h : ∀ c, W c (Proc.devRef .tc main_v86_8) = fun _ => (0#32 : BitVec 32)) (Rc : Dev nD → sProp 𝕄) :
    LoopCond (pcfgs (F := F)) defs₀ Variants.none loops Rc (main_while1_cond (F := F)) condOps1 body1 W 32 := by
  intro k hk c bd
  have hctr := ctr1_at W c (h c) k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps1 body1 W k c) main_v86_8 HostLoop.idx0)
        (HloOp.result _ (atTrip condOps1 body1 W k c) main_while1c_c_39 HostLoop.idx0) = 1#1) (k < 32)
    rw [StableHlo.nullary_result_ne _ _ _ _ (by decide), StableHlo.nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [StableHlo.after_cons, StableHlo.after_cons, StableHlo.after_nil]; iexact Hh
  iexact HR

/-! ## The contents at each stage -/

/-- The stretch before the forward scan. -/
abbrev pre : List (List (HloOp τ sig (Elt F))) := [hostOps0]
/-- The stretches between the two loops. -/
abbrev mid : List (List (HloOp τ sig (Elt F))) := [hostOps0_1, hostOps0_2, hostOps0_3, hostOps0_4, hostOps0_5]
/-- The stretch after the gradient's loop. -/
abbrev post : List (List (HloOp τ sig (Elt F))) := [hostOps0_6]

set_option maxHeartbeats 4000000 in
theorem plain_pre : Plain (pre (F := F)) := .cons hostOps0_sub (.nil)
set_option maxHeartbeats 4000000 in
theorem plain_mid : Plain (mid (F := F)) :=
  .cons hostOps0_1_sub (.cons hostOps0_2_sub (.cons hostOps0_3_sub (.cons hostOps0_4_sub (.cons hostOps0_5_sub (.nil)))))
set_option maxHeartbeats 4000000 in
theorem plain_post : Plain (post (F := F)) := .cons hostOps0_6_sub (.nil)

variable (m : (ℓ : Loc nD τ sig) → Buf (Elt F) ℓ)

/-- Contents at the entry of the forward scan. -/
def X₀ (c : Dev nD) : Valuation τ sig (Elt F) := after hostOps0 (launchContents m c)
/-- Contents before the forward scan's `k`-th condition. -/
def trip0 (k : ℕ) (c : Dev nD) : Valuation τ sig (Elt F) := atTrip condOps0 body0 (X₀ m) k c
/-- Contents when the forward scan is left. -/
def X₁ (c : Dev nD) : Valuation τ sig (Elt F) := after condOps0 (trip0 m 32 c)
/-- Contents at the entry of the gradient's loop. -/
def X₂ (c : Dev nD) : Valuation τ sig (Elt F) := afterL mid (X₁ m c)
/-- Contents before the `k`-th condition of the gradient's loop. -/
def trip1 (k : ℕ) (c : Dev nD) : Valuation τ sig (Elt F) := atTrip condOps1 body1 (X₂ m) k c
/-- Contents when the gradient's loop is left. -/
def X₃ (c : Dev nD) : Valuation τ sig (Elt F) := after condOps1 (trip1 m 32 c)
/-- Contents at the end. -/
def X₄ (c : Dev nD) : Valuation τ sig (Elt F) := after hostOps0_6 (X₃ m c)

theorem ctr0_entry (c : Dev nD) : X₀ m c (Proc.devRef .tc main_v26_6) = fun _ => (0#32 : BitVec 32) := by
  unfold X₀
  after_reads_simp
  rfl

theorem ctr1_entry (c : Dev nD) : X₂ m c (Proc.devRef .tc main_v86_8) = fun _ => (0#32 : BitVec 32) := by
  unfold X₂
  simp only [afterL_cons, afterL_nil]
  after_reads_simp
  rfl

/-! ## The run -/

/-- No pipeline runs in the reference. -/
abbrev noAdm : (p : Fin 0) → (pcfgs (F := F) p).Adm := fun p => p.elim0
/-- The reference has no ticket. -/
abbrev noTk : Fin 0 → Ticket (Ix := Unit) (Name := ℕ) (U := Option PUnit) (Lvl := ℕ) (nD := nD) (τ := τ) (pcfgs (F := F)) noAdm :=
  fun j => j.elim0
/-- Nothing waits on a semaphore. -/
abbrev noIx : GSem nD τ sig → Finset Unit := fun _ => ∅
/-- Every wait's level. -/
abbrev noLv : GSem nD τ sig → Unit → ℕ := fun _ _ => 0
/-- What a segment carries unchanged beside the buffers. -/
abbrev Ro (c : Dev nD) : sProp 𝕄 := iprop(∃ W, owes (c : Thread nD τ) (0 : CellTallies nD τ sig Unit) W)

/-- The segments: a stretch, a loop, stretches, a loop, a stretch. -/
def segs : List (CSeg (Ix := Unit) (Name := ℕ) (U := Option PUnit) (Lvl := ℕ) (pcfgs (F := F)) noAdm defs₀ Variants.none noIx noLv loops noTk) :=
  segsOf _ _ _ _ _ _ _ _ Ro pre plain_pre (launchContents m)
    ++ loopSeg _ _ _ _ _ _ _ _ 0 main_while0_cond main_while0_body rfl condOps0 body0 plain_body0 while0_body_chain 32 (X₀ m) Ro
        (cond0 (X₀ m) (ctr0_entry m) Ro)
    :: (segsOf _ _ _ _ _ _ _ _ Ro mid plain_mid (X₁ m)
    ++ loopSeg _ _ _ _ _ _ _ _ 1 main_while1_cond main_while1_body rfl condOps1 body1 plain_body1 while1_body_chain 32 (X₂ m) Ro
        (cond1 (X₂ m) (ctr1_entry m) Ro)
    :: segsOf _ _ _ _ _ _ _ _ Ro post plain_post (X₃ m))

theorem segs_prog (c : Dev nD) : Pipeline.chain ((segs m).map CSeg.prog) = main (F := F) c := by
  rw [main_chain]
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Ro c)) (segs m)
    (fun c => iprop(iprop(held (c : Thread nD τ) (ucRefs τ sig) (X₄ m c)) ∗ ∃ W, owes (c : Thread nD τ) (0 : CellTallies nD τ sig Unit) W)) := by
  unfold segs
  exact CSeg.Chains.append (segsOf_chains _ _ _ _ _ _ _ _ Ro pre plain_pre _)
    ⟨fun _ => .rfl, CSeg.Chains.append (segsOf_chains _ _ _ _ _ _ _ _ Ro mid plain_mid _)
      ⟨fun _ => .rfl, segsOf_chains _ _ _ _ _ _ _ _ Ro post plain_post _⟩⟩

theorem segs_T : ∀ s ∈ segs m, s.T = ∅ := fun s _ => Finset.eq_empty_of_isEmpty s.T

/-- Every semaphore of the reference is scoped. -/
theorem no_unscoped (s : SemLoc sig) : s.isScoped .tc = true := by revert s; decide

set_option backward.isDefEq.respectTransparency.types false in
/-- **The reference's run.** Every fair execution from `m` ends with every buffer of the program at `X₄` and every semaphore
    at zero. -/
theorem run_main (ρ : Dev nD → PrngReg) :
    θ_run (defs (F := F)) (onTc (τ := τ) (main (F := F))) ⟨m, fun _ => 0, ρ⟩
      (fun r => (∀ c, ∀ b ∈ ucRefs τ sig, r.2.mem (c, b) = X₄ m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noIx noLv loops noTk m ρ main (segs m)
    (fun c Q => by
      rw [← segs_prog m c]
      exact .rfl)
    (CSeg.pairwise_disjoint_of_T_empty _ (segs_T m))
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by
          rw [BI.bigSep_emp_const])
        iempintro)
    (T₀ := fun c => iprop(held (c : Thread nD τ) (ucRefs τ sig) (launchContents m c) ∗ Ro c))
    (Tₙ := fun c => iprop(held (c : Thread nD τ) (ucRefs τ sig) (X₄ m c)))
    (hch := segs_chains m)
    (hinit := by
      refine Pipeline.initEach noIx noLv fun c => ?_
      rw [show unscopedBufs c (fun b => m ((c : Thread nD τ).loc b)) = held (c : Thread nD τ) (ucRefs τ sig) (launchContents m c)
        from unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = X₄ m c b)
    (hfin := fun c s' => by
      unfold held
      iintro ⟨Hh, HSI⟩
      ihave Hr := (pointsTo_read_all (ucRefs τ sig) (fun b => ((c : Dev nD), b)) (fun b => X₄ m c b) s') $$ [Hh HSI]
      · isplitl [Hh] <;> iassumption
      icases Hr with ⟨%h, HSI⟩
      imodintro
      isplitr; · ipureintro; exact h
      iexact HSI)
    (hQ := fun s h hs => ⟨fun c b hb => h c b hb, funext fun g => hs g (.inr (no_unscoped g.2))⟩)

end Cert.ReferenceIdeal.Run

end

end
-- ==== Proof.RefKeeps.lean ====
module

public import proofs.«01_k».proof.Proof.RefRun
public import proofs.«01_k».proof.Defs

@[expose] public section

set_option maxRecDepth 4096

noncomputable section

/-! # What the reference leaves unwritten

The buffers each stretch writes, and the reference's frame: its arguments are among those no stretch writes. -/

namespace Cert.ReferenceIdeal.Run

open Idealize.ShloMosaic Idealize.ShloMosaic.TcCoe
open Idealize.SL.Sem
open Idealize.ShloMosaic.StableHlo
open Cert.ReferenceIdeal Cert.ReferenceIdeal.Gen Cert.ReferenceIdeal.Ops

variable {F : FTy → Type} [FloatOps F]

/-- Stretches run in order are their concatenation. -/
theorem afterL_eq (ls : List (List (HloOp τ sig (Elt F)))) (V : Valuation τ sig (Elt F)) : afterL ls V = after ls.flatten V := by
  induction ls generalizing V with
  | nil => rw [afterL_nil, List.flatten_nil, after_nil]
  | cons l ls ih => rw [afterL_cons, ih, List.flatten_cons, after_append]

/-- A buffer neither the condition nor the body writes is before every condition what it was at entry. -/
theorem atTrip_keeps {cond : List (HloOp τ sig (Elt F))} {body : List (List (HloOp τ sig (Elt F)))} {b : DevRef τ sig}
    (hc : ∀ V, after cond V b = V b) (hb : ∀ V, afterL body V b = V b) (W : Dev nD → Valuation τ sig (Elt F)) (c : Dev nD) :
    ∀ k, atTrip cond body W k c b = W c b
  | 0 => by rw [atTrip_zero]
  | k + 1 => by rw [atTrip_succ, hb, hc, atTrip_keeps hc hb W c k]

/-- What the first stretch writes. -/
def preWrites : List (Ref sig .tc) := [main_v0, main_v1, main_v2, main_v3, main_v4, main_v5, main_v6, main_v7, main_v8, main_v9, main_v10, main_v11, main_v12, main_v13, main_v14, main_v15, main_v16, main_v17, main_v18, main_v19, main_v20, main_cst, main_v21, main_cst_0, main_v22, main_cst_1, main_v23, main_cst_2, main_v24, main_cst_3, main_v25, main_c, main_v26_0, main_v26_1, main_v26_2, main_v26_3, main_v26_4, main_v26_5, main_v26_6, main_v26_7, main_v26_8, main_v26_9, main_v26_10, main_v26_11]
theorem pre_keeps {r : Ref sig .tc} (h : r ∉ preWrites) (V : Valuation τ sig (Elt F)) :
    after hostOps0 V (Proc.devRef .tc r) = V (Proc.devRef .tc r) := by
  exact after_unwritten preWrites rfl h V

/-- What the last stretch writes. -/
def postWrites : List (Ref sig .tc) := [main_v87, main_v88, main_v89, main_v90, main_v91, main_v92, main_v93, main_v94, main_v95, main_v96, main_v97, main_v98, main_cst_22, main_v99, main_v100, main_v101, main_cst_23, main_v102, main_v103, main_v104]
theorem post_keeps {r : Ref sig .tc} (h : r ∉ postWrites) (V : Valuation τ sig (Elt F)) :
    after hostOps0_6 V (Proc.devRef .tc r) = V (Proc.devRef .tc r) := by
  exact after_unwritten postWrites rfl h V

/-- What the stretches between the loops write. -/
def midWrites : List (Ref sig .tc) := [main_v27, main_v28, main_v29, main_v30, main_cst_4, main_v31, main_v32, main_cst_5, main_v33, main_v34, main_cst_6, main_v35, main_v36, main_v37, main_v38, main_cst_7, main_v39, main_v40, main_v41, main_v42, main_v43, main_v44, main_v45, main_v46, main_call10_v0, main_call10_v1, main_call10_cst, main_call10_v2, main_call10_v3, main_call10_cst_0, main_call10_v4, main_v47_2, main_call10_cst_1, main_call10_v6, main_call10_v7, main_v47_1, main_v47_0, main_v48, main_v49, main_cst_8, main_v50, main_v51, main_v52, main_v53, main_call11_v0, main_call11_v1, main_call11_v2, main_v54, main_v55, main_v56, main_cst_9, main_v57, main_v58, main_v59, main_v60, main_cst_10, main_v61, main_v62, main_cst_11, main_v63, main_v64, main_v65, main_v66, main_v67, main_cst_12, main_v68, main_v69, main_cst_13, main_v70, main_v71, main_v72, main_v73, main_v74, main_v75, main_v76, main_v77, main_v78, main_cst_14, main_v79, main_cst_15, main_v80, main_cst_16, main_v81, main_cst_17, main_v82, main_cst_18, main_v83, main_cst_19, main_v84, main_cst_20, main_v85, main_c_21, main_v86_0, main_v86_1, main_v86_2, main_v86_3, main_v86_4, main_v86_5, main_v86_6, main_v86_7, main_v86_8, main_v86_9, main_v86_10, main_v86_11, main_v86_12, main_v86_13, main_v86_14, main_v86_15]
theorem mid_keeps {r : Ref sig .tc} (h : r ∉ midWrites) (V : Valuation τ sig (Elt F)) :
    afterL mid V (Proc.devRef .tc r) = V (Proc.devRef .tc r) := by
  rw [afterL_eq]; exact after_unwritten midWrites rfl h V

/-- What the body of loop 0 writes. -/
def body0Writes : List (Ref sig .tc) := [main_while0b_call0_c, main_while0b_call0_c_0, main_while0b_call0_c_1, main_while0b_call0_v0, main_while0b_v105, main_while0b_call1_c, main_while0b_call1_c_0, main_while0b_call1_c_1, main_while0b_call1_v0, main_while0b_v106, main_while0b_call2_c, main_while0b_call2_c_0, main_while0b_call2_c_1, main_while0b_call2_v0, main_while0b_v107, main_while0b_call3_c, main_while0b_call3_c_0, main_while0b_call3_c_1, main_while0b_call3_v0, main_while0b_v108, main_while0b_call4_c, main_while0b_call4_c_0, main_while0b_call4_c_1, main_while0b_call4_v0, main_while0b_v109, main_while0b_call5_c, main_while0b_call5_v0, main_while0b_v110, main_while0b_v111, main_while0b_v112, main_while0b_v113, main_while0b_v114, main_while0b_v115, main_while0b_v116, main_while0b_v117, main_while0b_v118, main_while0b_v119, main_while0b_v120, main_while0b_call6_v0, main_while0b_call6_c, main_while0b_call6_c_0, main_while0b_call6_c_1, main_while0b_v121, main_while0b_call7_v0, main_while0b_call7_c, main_while0b_call7_c_0, main_while0b_call7_c_1, main_while0b_v122, main_while0b_call8_v0, main_while0b_call8_c, main_while0b_call8_c_0, main_while0b_call8_c_1, main_while0b_v123, main_while0b_call9_v0, main_while0b_call9_c, main_while0b_call9_c_0, main_while0b_call9_c_1, main_while0b_v124, main_while0b_c_35, main_while0b_v125, main_v26_6, main_v26_7, main_v26_8, main_v26_9, main_v26_10, main_v26_11]
theorem body0_keeps {r : Ref sig .tc} (h : r ∉ body0Writes) (V : Valuation τ sig (Elt F)) :
    afterL body0 V (Proc.devRef .tc r) = V (Proc.devRef .tc r) := by
  rw [afterL_eq]; exact after_unwritten body0Writes rfl h V

/-- What the body of loop 1 writes. -/
def body1Writes : List (Ref sig .tc) := [main_while1b_c_39, main_while1b_v105, main_while1b_c_40, main_while1b_v106, main_while1b_call12_c, main_while1b_call12_c_0, main_while1b_call12_c_1, main_while1b_call12_v0, main_while1b_v107, main_while1b_call13_c, main_while1b_call13_c_0, main_while1b_call13_c_1, main_while1b_call13_v0, main_while1b_v108, main_while1b_call14_c, main_while1b_call14_c_0, main_while1b_call14_c_1, main_while1b_call14_v0, main_while1b_v109, main_while1b_call15_c, main_while1b_call15_c_0, main_while1b_call15_c_1, main_while1b_call15_v0, main_while1b_v110, main_while1b_call16_c, main_while1b_call16_c_0, main_while1b_call16_c_1, main_while1b_call16_v0, main_while1b_v111, main_while1b_call17_c, main_while1b_call17_c_0, main_while1b_call17_c_1, main_while1b_call17_v0, main_while1b_v112, main_while1b_call18_c, main_while1b_call18_c_0, main_while1b_call18_c_1, main_while1b_call18_v0, main_while1b_v113, main_while1b_call19_c, main_while1b_call19_c_0, main_while1b_call19_c_1, main_while1b_call19_v0, main_while1b_v114, main_while1b_v115, main_while1b_v116, main_while1b_v117, main_while1b_v118, main_while1b_v119, main_while1b_cst_41, main_while1b_v120, main_while1b_v121, main_while1b_v122, main_while1b_v123, main_while1b_cst_42, main_while1b_v124, main_while1b_v125, main_while1b_v126, main_while1b_v127, main_while1b_v128, main_while1b_v129, main_while1b_v130, main_while1b_v131, main_while1b_v132, main_while1b_v133, main_while1b_v134, main_while1b_v135, main_while1b_v136, main_while1b_v137, main_while1b_call20_v0, main_while1b_call20_c, main_while1b_call20_c_0, main_while1b_call20_c_1, main_while1b_v138, main_while1b_call21_v0, main_while1b_call21_c, main_while1b_call21_c_0, main_while1b_call21_c_1, main_while1b_v139, main_while1b_call22_v0, main_while1b_call22_c, main_while1b_call22_c_0, main_while1b_call22_c_1, main_while1b_v140, main_while1b_call23_v0, main_while1b_call23_c, main_while1b_call23_c_0, main_while1b_call23_c_1, main_while1b_v141, main_while1b_call24_v0, main_while1b_call24_c, main_while1b_call24_c_0, main_while1b_call24_c_1, main_while1b_v142, main_while1b_call25_v0, main_while1b_call25_c, main_while1b_v143, main_while1b_c_43, main_while1b_v144, main_v86_8, main_v86_9, main_v86_10, main_v86_11, main_v86_12, main_v86_13, main_v86_14, main_v86_15]
theorem body1_keeps {r : Ref sig .tc} (h : r ∉ body1Writes) (V : Valuation τ sig (Elt F)) :
    afterL body1 V (Proc.devRef .tc r) = V (Proc.devRef .tc r) := by
  rw [afterL_eq]; exact after_unwritten body1Writes rfl h V

/-- What the condition of loop 0 writes. -/
def cond0Writes : List (Ref sig .tc) := [main_while0c_c_35, main_while0c_v105]
theorem cond0_keeps {r : Ref sig .tc} (h : r ∉ cond0Writes) (V : Valuation τ sig (Elt F)) :
    after condOps0 V (Proc.devRef .tc r) = V (Proc.devRef .tc r) := by
  exact after_unwritten cond0Writes rfl h V
/-- What loop 0 does not write it keeps. -/
theorem trip0_keeps (W : Dev nD → Valuation τ sig (Elt F)) {r : Ref sig .tc} (hc : r ∉ cond0Writes) (hb : r ∉ body0Writes) (k : ℕ) (c : Dev nD) :
    atTrip condOps0 body0 W k c (Proc.devRef .tc r) = W c (Proc.devRef .tc r) :=
  atTrip_keeps (cond0_keeps hc) (body0_keeps hb) W c k

/-- What the condition of loop 1 writes. -/
def cond1Writes : List (Ref sig .tc) := [main_while1c_c_39, main_while1c_v105]
theorem cond1_keeps {r : Ref sig .tc} (h : r ∉ cond1Writes) (V : Valuation τ sig (Elt F)) :
    after condOps1 V (Proc.devRef .tc r) = V (Proc.devRef .tc r) := by
  exact after_unwritten cond1Writes rfl h V
/-- What loop 1 does not write it keeps. -/
theorem trip1_keeps (W : Dev nD → Valuation τ sig (Elt F)) {r : Ref sig .tc} (hc : r ∉ cond1Writes) (hb : r ∉ body1Writes) (k : ℕ) (c : Dev nD) :
    atTrip condOps1 body1 W k c (Proc.devRef .tc r) = W c (Proc.devRef .tc r) :=
  atTrip_keeps (cond1_keeps hc) (body1_keeps hb) W c k

variable (m : (ℓ : Loc nD τ sig) → Buf (Elt F) ℓ)

/-- What nothing writes is at the end as launched. -/
theorem X₄_keeps {r : Ref sig .tc} (h : r ∉ preWrites ++ cond0Writes ++ body0Writes ++ midWrites ++ cond1Writes ++ body1Writes ++ postWrites)
    (c : Dev nD) : X₄ m c (Proc.devRef .tc r) = m ((c.tc : Thread nD τ).loc r) := by
  simp only [List.mem_append, not_or] at h
  obtain ⟨⟨⟨⟨⟨⟨h0, h1⟩, h2⟩, h3⟩, h4⟩, h5⟩, h6⟩ := h
  unfold X₄ X₃ trip1 X₂ X₁ trip0 X₀
  rw [post_keeps h6, cond1_keeps h4, trip1_keeps _ h4 h5, mid_keeps h3, cond0_keeps h1, trip0_keeps _ h1 h2, pre_keeps h0]

/-- A buffer of the program is read off the run. -/
theorem mem_uc (r : Ref sig .tc) (h : (Proc.devRef .tc r : DevRef τ sig).isScoped = false) :
    (Proc.devRef .tc r : DevRef τ sig) ∈ Pipeline.ucRefs τ sig :=
  Finset.mem_filter.mpr ⟨devRef_mem_tcRefs r, by rw [h]; exact Bool.false_ne_true⟩

/-- The reference ends with its arguments as launched and every semaphore at zero. -/
theorem frame : Cert.quiescent_ReferenceIdeal := fun m ρ _ =>
  (θ_run Cert.ReferenceIdeal.defs _ _).mono
    (fun r h => ⟨fun c => ⟨
      (h.1 c _ (mem_uc main_arg0 rfl)).trans (X₄_keeps m (by decide +kernel) c),
      (h.1 c _ (mem_uc main_arg1 rfl)).trans (X₄_keeps m (by decide +kernel) c),
      (h.1 c _ (mem_uc main_arg2 rfl)).trans (X₄_keeps m (by decide +kernel) c),
      (h.1 c _ (mem_uc main_arg3 rfl)).trans (X₄_keeps m (by decide +kernel) c),
      (h.1 c _ (mem_uc main_arg4 rfl)).trans (X₄_keeps m (by decide +kernel) c),
      (h.1 c _ (mem_uc main_arg5 rfl)).trans (X₄_keeps m (by decide +kernel) c),
      (h.1 c _ (mem_uc main_arg6 rfl)).trans (X₄_keeps m (by decide +kernel) c),
      (h.1 c _ (mem_uc main_arg7 rfl)).trans (X₄_keeps m (by decide +kernel) c),
      (h.1 c _ (mem_uc main_arg8 rfl)).trans (X₄_keeps m (by decide +kernel) c)⟩, h.2⟩)
    (run_main (F := Ideal) m ρ)

end Cert.ReferenceIdeal.Run

end

end
-- ==== Proof.Head.lean ====
module

public import proofs.«01_k».proof.Proof.Point

@[expose] public section

set_option maxRecDepth 16384

noncomputable section

/-! # One head of one grid point

The two calls' bodies write the four heads out one after another. Here one head is written once, on its own slices, and
each result of a point is the four heads side by side. -/

namespace Cert.KernelIdeal.Head

open Idealize.ShloMosaic Cert.KernelIdeal Cert.KernelIdeal.Gen Cert.KernelIdeal.Point

variable {F : FTy → Type} [FloatOps F]

/-! ## The heads' slices -/

theorem sl_row (h : Fin 4) : S64x512.Slices ![0, 128 * h.val] S64x128 := by revert h; decide
theorem sl_att (h : Fin 4) : S64x256.Slices ![0, 64 * h.val] S64x64 := by revert h; decide
theorem sl_st (h : Fin 4) : S512x128.Slices ![128 * h.val, 0] S128x128 := by revert h; decide
theorem sl_g (h : Fin 4) : S64x128.Slices ![63, h.val] S1x1 := by revert h; decide

/-- Head `h`'s 128 columns. -/
def col {φ : FTy} (h : Fin 4) (x : FVec F S64x512 φ) : FVec F S64x128 φ := extractStridedSlice S64x128 ![0, 128 * h.val] x (sl_row h)
/-- Head `h`'s 64 columns of the attention. -/
def att {φ : FTy} (h : Fin 4) (x : FVec F S64x256 φ) : FVec F S64x64 φ := extractStridedSlice S64x64 ![0, 64 * h.val] x (sl_att h)
/-- Head `h`'s 128 rows of the states. -/
def st (h : Fin 4) (x : FVec F S512x128 .f32) : FVec F S128x128 .f32 := extractStridedSlice S128x128 ![128 * h.val, 0] x (sl_st h)
/-- Head `h`'s decay over the chunk: the exponential of the last row's entry. -/
def decay (h : Fin 4) (g : FVec F S64x128 .f32) : FVec F S1x1 .f32 := exp (extractStridedSlice S1x1 ![63, h.val] g (sl_g h))
/-- To bf16 and back to an operand of a product. -/
abbrev lo {s : Shape} (x : FVec F s .f32) : FVec F s .bf16 := truncf .bf16 x bitsLt_bf16_f32
/-- To f32. -/
abbrev hi {s : Shape} (x : FVec F s .bf16) : FVec F s .f32 := extf .f32 x bitsLt_bf16_f32

/-! ## Forward -/

/-- The corrected values: `u − w·S`. -/
def vnew (u w : FVec F S64x128 .f32) (S : FVec F S128x128 .f32) : FVec F S64x128 .f32 :=
  subf u (matmul dot_S64x128_S128x128_S64x128_1_0_0_1_n_n none (lo w) (lo S) (constant S64x128 .f32 0x00000000#32))
/-- The output before the norm: `q·S + a·v`. -/
def out (q : FVec F S64x128 .f32) (a : FVec F S64x64 .f32) (S : FVec F S128x128 .f32) (v : FVec F S64x128 .f32) : FVec F S64x128 .f32 :=
  addf (matmul dot_S64x128_S128x128_S64x128_1_0_0_1_n_n none (lo q) (lo S) (constant S64x128 .f32 0x00000000#32))
    (matmul dot_S64x64_S64x128_S64x128_1_0_0_1_n_n none (lo a) (lo v) (constant S64x128 .f32 0x00000000#32))
/-- The state after the chunk: `S·e + kᵀ·v`. -/
def next (k : FVec F S64x128 .f32) (e : FVec F S1x1 .f32) (S : FVec F S128x128 .f32) (v : FVec F S64x128 .f32) : FVec F S128x128 .f32 :=
  addf (mulf S (broadcastTo S128x128 e broadcasts_S1x1_S128x128))
    (matmul dot_S64x128_S64x128_S128x128_0_0_1_1_n_n none (lo k) (lo v) (constant S128x128 .f32 0x00000000#32))
/-- The rows' mean square plus the norm's epsilon. -/
def ms (x : FVec F S64x128 .f32) : FVec F S64x1 .f32 :=
  addf (divf (shapeCast S64x1 (multiReduction .add [1] S64 (mulf x x) 0x00000000#32 reduces_S64x128_S64 (.inl rfl) rfl) shapeCasts_S64_S64x1)
    (broadcast S64x1 (Scalar.ofBits .f32 0x43000000#32))) (broadcast S64x1 (Scalar.ofBits .f32 0x358637BD#32))
/-- The rows over their root mean square. -/
def unit (x : FVec F S64x128 .f32) : FVec F S64x128 .f32 := mulf x (broadcastTo S64x128 (rsqrt (ms x)) broadcasts_S64x1_S64x128)
/-- The norm: the unit rows times the weight. -/
def normed (n : FVec F S1x128 .f32) (x : FVec F S64x128 .f32) : FVec F S64x128 .f32 :=
  mulf (unit x) (broadcastTo S64x128 n broadcasts_S1x128_S64x128)
/-- The gate's silu. -/
def silu (h : FVec F S64x128 .f32) : FVec F S64x128 .f32 := mulf h (logistic h)
/-- The gated, normed output. -/
def gated (n : FVec F S1x128 .f32) (h x : FVec F S64x128 .f32) : FVec F S64x128 .f32 := mulf (normed n x) (silu h)

/-- The four heads of a forward point. -/
structure FIn (F : FTy → Type) [FloatOps F] where
  u : FVec F S64x512 .f32
  w : FVec F S64x512 .bf16
  q : FVec F S64x512 .bf16
  k : FVec F S64x512 .bf16
  a : FVec F S64x256 .bf16
  g : FVec F S64x128 .f32
  h : FVec F S64x512 .f32
  n : FVec F S1x128 .f32

/-- Head `j`'s corrected values. -/
def vj (x : FIn F) (S : FVec F S512x128 .f32) (j : Fin 4) : FVec F S64x128 .f32 := vnew (col j x.u) (col j (hi x.w)) (st j S)
/-- Head `j`'s output before the norm. -/
def oj (x : FIn F) (S : FVec F S512x128 .f32) (j : Fin 4) : FVec F S64x128 .f32 := out (col j (hi x.q)) (att j (hi x.a)) (st j S) (vj x S j)
/-- Head `j`'s result. -/
def yj (x : FIn F) (S : FVec F S512x128 .f32) (j : Fin 4) : FVec F S64x128 .f32 := gated x.n (col j x.h) (oj x S j)
/-- Head `j`'s next state. -/
def nj (x : FIn F) (S : FVec F S512x128 .f32) (j : Fin 4) : FVec F S128x128 .f32 := next (col j (hi x.k)) (decay j x.g) (st j S) (vj x S j)

/-- Four heads' columns side by side. -/
def beside (f : Fin 4 → FVec F S64x128 .f32) : FVec F S64x512 .f32 :=
  concatenate S64x512 1 [⟨S64x128, f 0⟩, ⟨S64x128, f 1⟩, ⟨S64x128, f 2⟩, ⟨S64x128, f 3⟩] concatenates_S64x128_S64x128_S64x128_S64x128_S64x512_d1
/-- Four heads' states one above another. -/
def stacked (f : Fin 4 → FVec F S128x128 .f32) : FVec F S512x128 .f32 :=
  concatenate S512x128 0 [⟨S128x128, f 0⟩, ⟨S128x128, f 1⟩, ⟨S128x128, f 2⟩, ⟨S128x128, f 3⟩] concatenates_S128x128_S128x128_S128x128_S128x128_S512x128_d0

theorem fwd_o (x : FIn F) (S : FVec F S512x128 .f32) :
    (fwd x.u x.w x.q x.k x.a x.g x.h x.n S).o = lo (beside (yj x S)) := rfl
theorem fwd_s (x : FIn F) (S : FVec F S512x128 .f32) :
    (fwd x.u x.w x.q x.k x.a x.g x.h x.n S).s = shapeCast S512x128 (stacked (nj x S)) shapeCasts_S512x128_S512x128 := rfl

end Cert.KernelIdeal.Head

end

end
-- ==== Proof.HeadB.lean ====
module

public import proofs.«01_k».proof.Proof.Head

@[expose] public section

set_option maxRecDepth 16384

noncomputable section

/-! # One head of one grid point, backward

The backward call recomputes the head's forward values from the saved state, then takes the output's cotangent back
through the gate, the norm and the recurrence. Each result is the sum of the four heads, every head set between zeros. -/

namespace Cert.KernelIdeal.Head

open Idealize.ShloMosaic Cert.KernelIdeal Cert.KernelIdeal.Gen Cert.KernelIdeal.Point

variable {F : FTy → Type} [FloatOps F]

/-! ## The gate and the norm -/

/-- The reciprocal root of the rows' mean square. -/
def rs (x : FVec F S64x128 .f32) : FVec F S64x1 .f32 := rsqrt (ms x)
/-- The derivative of the reciprocal root: `−½ · rs / ms`. -/
def slope (x : FVec F S64x128 .f32) : FVec F S64x1 .f32 :=
  mulf (broadcast S64x1 (Scalar.ofBits .f32 0xBF000000#32)) (divf (rs x) (ms x))
/-- The derivative of the logistic: `σ·(1 − σ)`. -/
def dlog (h : FVec F S64x128 .f32) : FVec F S64x128 .f32 :=
  mulf (logistic h) (subf (broadcast S64x128 (Scalar.ofBits .f32 0x3F800000#32)) (logistic h))
/-- The cotangent of the gate. -/
def dgate (n : FVec F S1x128 .f32) (h d x : FVec F S64x128 .f32) : FVec F S64x128 .f32 :=
  addf (mulf (mulf (normed n x) d) (logistic h)) (mulf (mulf h (mulf (normed n x) d)) (dlog h))
/-- The cotangent of the norm. -/
def dnormed (h d : FVec F S64x128 .f32) : FVec F S64x128 .f32 := mulf d (silu h)
/-- What the head's rows give to the norm weight. -/
def dweight (h d x : FVec F S64x128 .f32) : FVec F S1x128 .f32 :=
  shapeCast S1x128 (multiReduction .add [0] S128 (mulf (unit x) (dnormed h d)) 0x00000000#32 reduces_S64x128_S128 (.inl rfl) rfl) shapeCasts_S128_S1x128
/-- The cotangent of the unit rows. -/
def dunit (n : FVec F S1x128 .f32) (h d : FVec F S64x128 .f32) : FVec F S64x128 .f32 :=
  mulf (dnormed h d) (broadcastTo S64x128 n broadcasts_S1x128_S64x128)
/-- The rows' sums against `x`, times the slope, over the row length. -/
def pull (x e : FVec F S64x128 .f32) : FVec F S64x1 .f32 :=
  shapeCast S64x1 (multiReduction .add [1] S64
    (divf (mulf (shapeCast S64x1 (multiReduction .add [1] S64 (mulf x e) 0x00000000#32 reduces_S64x128_S64 (.inl rfl) rfl) shapeCasts_S64_S64x1) (slope x))
      (broadcast S64x1 (Scalar.ofBits .f32 0x43000000#32))) 0x00000000#32 reduces_S64x1_S64 (.inl rfl) rfl) shapeCasts_S64_S64x1
/-- The cotangent of the output before the norm. -/
def dout (x e : FVec F S64x128 .f32) : FVec F S64x128 .f32 :=
  addf (addf (mulf e (broadcastTo S64x128 (rs x) broadcasts_S64x1_S64x128)) (mulf x (broadcastTo S64x128 (pull x e) broadcasts_S64x1_S64x128)))
    (mulf (broadcastTo S64x128 (pull x e) broadcasts_S64x1_S64x128) x)

/-! ## The recurrence -/

/-- Rounded to bf16 and back. -/
abbrev rnd {s : Shape} (x : FVec F s .f32) : FVec F s .f32 := hi (lo x)

/-- The cotangent of the corrected values through the next state. -/
def dvk (k : FVec F S64x128 .f32) (D : FVec F S128x128 .f32) : FVec F S64x128 .f32 :=
  rnd (transpose S64x128 [1, 0] (matmul dot_S128x128_S64x128_S128x64_0_1_1_0_n_n none D (lo k) (constant S128x64 .f32 0x00000000#32)) transposes_S128x64_p1_0_S64x128)
/-- The cotangent of the keys. -/
def dkey (D : FVec F S128x128 .f32) (v : FVec F S64x128 .f32) : FVec F S64x128 .f32 :=
  rnd (transpose S64x128 [1, 0] (matmul dot_S128x128_S64x128_S128x64_1_1_0_0_n_n none D (lo v) (constant S128x64 .f32 0x00000000#32)) transposes_S128x64_p1_0_S64x128)
/-- The cotangent of the corrected values. -/
def dval (k : FVec F S64x128 .f32) (a : FVec F S64x64 .f32) (D : FVec F S128x128 .f32) (x : FVec F S64x128 .f32) : FVec F S64x128 .f32 :=
  addf (dvk k D) (rnd (transpose S64x128 [1, 0]
    (matmul dot_S64x128_S64x64_S128x64_0_0_1_1_n_n none x (lo a) (constant S128x64 .f32 0x00000000#32)) transposes_S128x64_p1_0_S64x128))
/-- The cotangent of the attention. -/
def datt (v x : FVec F S64x128 .f32) : FVec F S64x64 .f32 :=
  rnd (matmul dot_S64x128_S64x128_S64x64_1_1_0_0_n_n none x (lo v) (constant S64x64 .f32 0x00000000#32))
/-- The product of rows with the transposed state. -/
def back (S : FVec F S128x128 .f32) (x : FVec F S64x128 .f32) : FVec F S64x128 .f32 :=
  rnd (matmul dot_S64x128_S128x128_S64x128_1_1_0_0_n_n none x (lo S) (constant S64x128 .f32 0x00000000#32))
/-- The product of two rows' arrays over the rows, transposed. -/
def outer (q x : FVec F S64x128 .f32) : FVec F S128x128 .f32 :=
  rnd (transpose S128x128 [1, 0] (matmul dot_S64x128_S64x128_S128x128_0_0_1_1_n_n none x (lo q) (constant S128x128 .f32 0x00000000#32)) transposes_S128x128_p1_0_S128x128)
/-- `0 − x`. -/
def minus (x : FVec F S64x128 .f32) : FVec F S64x128 .f32 := subf (broadcast S64x128 (Scalar.ofBits .f32 0x00000000#32)) x
/-- The cotangent of the state before the chunk. -/
def prev (e : FVec F S1x1 .f32) (q w : FVec F S64x128 .f32) (D : FVec F S128x128 .f32) (x y : FVec F S64x128 .f32) : FVec F S128x128 .f32 :=
  addf (addf (mulf D (broadcastTo S128x128 e broadcasts_S1x1_S128x128)) (outer q x)) (outer w (minus y))
/-- The cotangent of the log decay. -/
def ddec (e : FVec F S1x1 .f32) (S D : FVec F S128x128 .f32) : FVec F S1x1 .f32 :=
  mulf (broadcast S1x1 (extractAt ![0, 0, 0] (shapeCast S1x1x1 (multiReduction .add [1, 2] S1 (shapeCast S1x128x128 (mulf S D) shapeCasts_S128x128_S1x128x128)
    0x00000000#32 reduces_S1x128x128_S1 (.inl rfl) rfl) shapeCasts_S1_S1x1x1) inpos_S1x1x1_p0_0_0)) e

/-! ## Four heads added up -/

/-- Zeros. -/
abbrev zr (s : Shape) : FVec F s .f32 := broadcast s (Scalar.ofBits .f32 0x00000000#32)

/-- Four heads' columns, each between zeros, added. -/
def spread (f : Fin 4 → FVec F S64x128 .f32) : FVec F S64x512 .f32 :=
  addf (addf (addf (concatenate S64x512 1 [⟨S64x384, zr S64x384⟩, ⟨S64x128, f 3⟩] concatenates_S64x384_S64x128_S64x512_d1)
    (concatenate S64x512 1 [⟨S64x384, concatenate S64x384 1 [⟨S64x256, zr S64x256⟩, ⟨S64x128, f 2⟩] concatenates_S64x256_S64x128_S64x384_d1⟩, ⟨S64x128, zr S64x128⟩]
      concatenates_S64x384_S64x128_S64x512_d1))
    (concatenate S64x512 1 [⟨S64x256, concatenate S64x256 1 [⟨S64x128, zr S64x128⟩, ⟨S64x128, f 1⟩] concatenates_S64x128_S64x128_S64x256_d1⟩, ⟨S64x256, zr S64x256⟩]
      concatenates_S64x256_S64x256_S64x512_d1))
    (concatenate S64x512 1 [⟨S64x128, f 0⟩, ⟨S64x384, zr S64x384⟩] concatenates_S64x128_S64x384_S64x512_d1)
/-- Four heads' attention columns, each between zeros, added. -/
def spreadA (f : Fin 4 → FVec F S64x64 .f32) : FVec F S64x256 .f32 :=
  addf (addf (addf (concatenate S64x256 1 [⟨S64x192, zr S64x192⟩, ⟨S64x64, f 3⟩] concatenates_S64x192_S64x64_S64x256_d1)
    (concatenate S64x256 1 [⟨S64x192, concatenate S64x192 1 [⟨S64x128, zr S64x128⟩, ⟨S64x64, f 2⟩] concatenates_S64x128_S64x64_S64x192_d1⟩, ⟨S64x64, zr S64x64⟩]
      concatenates_S64x192_S64x64_S64x256_d1))
    (concatenate S64x256 1 [⟨S64x128, concatenate S64x128 1 [⟨S64x64, zr S64x64⟩, ⟨S64x64, f 1⟩] concatenates_S64x64_S64x64_S64x128_d1⟩, ⟨S64x128, zr S64x128⟩]
      concatenates_S64x128_S64x128_S64x256_d1))
    (concatenate S64x256 1 [⟨S64x64, f 0⟩, ⟨S64x192, zr S64x192⟩] concatenates_S64x64_S64x192_S64x256_d1)
/-- Four heads' states, each between zeros, added. -/
def spreadS (f : Fin 4 → FVec F S128x128 .f32) : FVec F S512x128 .f32 :=
  addf (addf (addf (concatenate S512x128 0 [⟨S384x128, zr S384x128⟩, ⟨S128x128, f 3⟩] concatenates_S384x128_S128x128_S512x128_d0)
    (concatenate S512x128 0 [⟨S384x128, concatenate S384x128 0 [⟨S256x128, zr S256x128⟩, ⟨S128x128, f 2⟩] concatenates_S256x128_S128x128_S384x128_d0⟩, ⟨S128x128, zr S128x128⟩]
      concatenates_S384x128_S128x128_S512x128_d0))
    (concatenate S512x128 0 [⟨S256x128, concatenate S256x128 0 [⟨S128x128, zr S128x128⟩, ⟨S128x128, f 1⟩] concatenates_S128x128_S128x128_S256x128_d0⟩, ⟨S256x128, zr S256x128⟩]
      concatenates_S256x128_S256x128_S512x128_d0))
    (concatenate S512x128 0 [⟨S128x128, f 0⟩, ⟨S384x128, zr S384x128⟩] concatenates_S128x128_S384x128_S512x128_d0)
/-- One number at the last of 64 rows. -/
def last (x : FVec F S1x1 .f32) : FVec F S64x1 .f32 := concatenate S64x1 0 [⟨S63x1, zr S63x1⟩, ⟨S1x1, x⟩] concatenates_S63x1_S1x1_S64x1_d0
/-- Four heads' decay cotangents, each in its column of the last row, added. -/
def spreadG (f : Fin 4 → FVec F S1x1 .f32) : FVec F S64x128 .f32 :=
  addf (addf (addf
    (concatenate S64x128 1 [⟨S64x4, concatenate S64x4 1 [⟨S64x3, zr S64x3⟩, ⟨S64x1, last (f 3)⟩] concatenates_S64x3_S64x1_S64x4_d1⟩, ⟨S64x124, zr S64x124⟩] concatenates_S64x4_S64x124_S64x128_d1)
    (concatenate S64x128 1 [⟨S64x3, concatenate S64x3 1 [⟨S64x2, zr S64x2⟩, ⟨S64x1, last (f 2)⟩] concatenates_S64x2_S64x1_S64x3_d1⟩, ⟨S64x125, zr S64x125⟩] concatenates_S64x3_S64x125_S64x128_d1))
    (concatenate S64x128 1 [⟨S64x2, concatenate S64x2 1 [⟨S64x1, zr S64x1⟩, ⟨S64x1, last (f 1)⟩] concatenates_S64x1_S64x1_S64x2_d1⟩, ⟨S64x126, zr S64x126⟩] concatenates_S64x2_S64x126_S64x128_d1))
    (concatenate S64x128 1 [⟨S64x1, last (f 0)⟩, ⟨S64x127, zr S64x127⟩] concatenates_S64x1_S64x127_S64x128_d1)

/-! ## The four heads of a backward point

`x` the point's blocks, `d` the output's cotangent, `P` the four saved states, `D` the carried cotangent of the states
after the chunk. -/

def xj (x : FIn F) (P : FVec F S512x128 .f32) (j : Fin 4) : FVec F S64x128 .f32 := oj x P j
def ej (x : FIn F) (d : FVec F S64x512 .f32) (j : Fin 4) : FVec F S64x128 .f32 := dunit x.n (col j x.h) (col j d)
/-- Head `j`'s cotangent of the output before the norm. -/
def doj (x : FIn F) (d : FVec F S64x512 .f32) (P : FVec F S512x128 .f32) (j : Fin 4) : FVec F S64x128 .f32 := dout (xj x P j) (ej x d j)
/-- Head `j`'s cotangent of the gate. -/
def dhj (x : FIn F) (d : FVec F S64x512 .f32) (P : FVec F S512x128 .f32) (j : Fin 4) : FVec F S64x128 .f32 := dgate x.n (col j x.h) (col j d) (xj x P j)
/-- Head `j`'s share of the norm weight's cotangent. -/
def dnj (x : FIn F) (d : FVec F S64x512 .f32) (P : FVec F S512x128 .f32) (j : Fin 4) : FVec F S1x128 .f32 := dweight (col j x.h) (col j d) (xj x P j)
/-- Head `j`'s cotangent of the corrected values, which is that of `u`. -/
def duj (x : FIn F) (d : FVec F S64x512 .f32) (P D : FVec F S512x128 .f32) (j : Fin 4) : FVec F S64x128 .f32 :=
  dval (col j (hi x.k)) (att j (hi x.a)) (st j D) (doj x d P j)
/-- Head `j`'s cotangent of the keys. -/
def dkj (x : FIn F) (P D : FVec F S512x128 .f32) (j : Fin 4) : FVec F S64x128 .f32 := dkey (st j D) (vj x P j)
/-- Head `j`'s cotangent of the attention. -/
def daj (x : FIn F) (d : FVec F S64x512 .f32) (P : FVec F S512x128 .f32) (j : Fin 4) : FVec F S64x64 .f32 := datt (vj x P j) (doj x d P j)
/-- Head `j`'s cotangent of the queries. -/
def dqj (x : FIn F) (d : FVec F S64x512 .f32) (P : FVec F S512x128 .f32) (j : Fin 4) : FVec F S64x128 .f32 := back (st j P) (doj x d P j)
/-- Head `j`'s cotangent of `w`. -/
def dwj (x : FIn F) (d : FVec F S64x512 .f32) (P D : FVec F S512x128 .f32) (j : Fin 4) : FVec F S64x128 .f32 := back (st j P) (minus (duj x d P D j))
/-- Head `j`'s cotangent of the state before the chunk. -/
def dsj (x : FIn F) (d : FVec F S64x512 .f32) (P D : FVec F S512x128 .f32) (j : Fin 4) : FVec F S128x128 .f32 :=
  prev (decay j x.g) (col j (hi x.q)) (col j (hi x.w)) (st j D) (doj x d P j) (duj x d P D j)
/-- Head `j`'s cotangent of the log decay. -/
def dgj (x : FIn F) (P D : FVec F S512x128 .f32) (j : Fin 4) : FVec F S1x1 .f32 := ddec (decay j x.g) (st j P) (st j D)

section
variable (x : FIn F) (d : FVec F S64x512 .f32) (p : FVec F S1x512x128 .f32) (D : FVec F S512x128 .f32)

/-- The saved states as the call lays them out. -/
abbrev flat (p : FVec F S1x512x128 .f32) : FVec F S512x128 .f32 := shapeCast S512x128 p shapeCasts_S1x512x128_S512x128
/-- The point. -/
abbrev bwdOf : Bwd F := bwd x.u x.w x.q x.k x.a x.g x.h x.n d p D

theorem bwd_h : (bwdOf x d p D).h = lo (spread (dhj x d (flat p))) := rfl
theorem bwd_n : (bwdOf x d p D).n = addf (addf (addf (dnj x d (flat p) 3) (dnj x d (flat p) 2)) (dnj x d (flat p) 1)) (dnj x d (flat p) 0) := rfl
theorem bwd_u : (bwdOf x d p D).u = spread (duj x d (flat p) D) := rfl
theorem bwd_w : (bwdOf x d p D).w = spread (dwj x d (flat p) D) := rfl
theorem bwd_q : (bwdOf x d p D).q = spread (dqj x d (flat p)) := rfl
theorem bwd_k : (bwdOf x d p D).k = spread (dkj x (flat p) D) := rfl
theorem bwd_a : (bwdOf x d p D).a = spreadA (daj x d (flat p)) := rfl
theorem bwd_g : (bwdOf x d p D).g = spreadG (dgj x (flat p) D) := rfl
theorem bwd_s : (bwdOf x d p D).s = shapeCast S512x128 (spreadS (dsj x d (flat p) D)) shapeCasts_S512x128_S512x128 := rfl
end

end Cert.KernelIdeal.Head

end

end
-- ==== Proof.Model.lean ====
module

public import Idealize.ShloMosaic.Lib.Pointwise

@[expose] public section

noncomputable section

/-! # The recurrence over the extended reals

One head of the gated-DeltaNet scan on one chunk of 64 positions, and its gradient, as functions of entries. The chunk's
arrays are `Fin 64 → Fin 128 → EReal`, the state `Fin 128 → Fin 128 → EReal`. Both programs are read as these. -/

namespace Cert.Gdn

open Idealize.ShloMosaic

/-- An array of `a` rows and `b` columns. -/
abbrev M (a b : ℕ) := Fin a → Fin b → EReal

/-- The length of a row, 128, as both programs write it. -/
def len : EReal := Ideal.ofBits .f32 0x43000000#32
/-- The norm's epsilon. -/
def eps : EReal := Ideal.ofBits .f32 0x358637BD#32
/-- Minus one half. -/
def mhalf : EReal := Ideal.ofBits .f32 0xBF000000#32

/-! ## Forward -/

/-- The corrected values `u − w·S`. -/
def vn (u w : M 64 128) (S : M 128 128) : M 64 128 := fun r c => u r c - ∑ k, w r k * S k c
/-- The output before the norm, `q·S + a·v`. -/
def out (q : M 64 128) (a : M 64 64) (S : M 128 128) (v : M 64 128) : M 64 128 :=
  fun r c => ∑ k, q r k * S k c + ∑ k, a r k * v k c
/-- The state after the chunk, `S·e + kᵀ·v`. -/
def next (k : M 64 128) (e : EReal) (S : M 128 128) (v : M 64 128) : M 128 128 :=
  fun i c => S i c * e + ∑ r, k r i * v r c
/-- A row's mean square plus epsilon. -/
def ms (x : M 64 128) : Fin 64 → EReal := fun r => Ideal.div (∑ c, x r c * x r c) len + eps
/-- The row's reciprocal root mean square. -/
def rs (x : M 64 128) : Fin 64 → EReal := fun r => Ideal.rsqrt (ms x r)
/-- The normed row times the weight. -/
def normed (n : Fin 128 → EReal) (x : M 64 128) : M 64 128 := fun r c => x r c * rs x r * n c
/-- The gated, normed output. -/
def gated (n : Fin 128 → EReal) (h x : M 64 128) : M 64 128 := fun r c => normed n x r c * (h r c * Ideal.logistic (h r c))

/-! ## Backward through the gate and the norm -/

/-- The cotangent of the gate. -/
def dgate (n : Fin 128 → EReal) (h d x : M 64 128) : M 64 128 := fun r c =>
  normed n x r c * d r c * Ideal.logistic (h r c)
    + h r c * (normed n x r c * d r c) * (Ideal.logistic (h r c) * (1 - Ideal.logistic (h r c)))
/-- The cotangent of the normed output. -/
def dnormed (h d : M 64 128) : M 64 128 := fun r c => d r c * (h r c * Ideal.logistic (h r c))
/-- What the rows give to the norm weight. -/
def dweight (h d x : M 64 128) : Fin 128 → EReal := fun c => ∑ r, x r c * rs x r * dnormed h d r c
/-- The cotangent of the unit rows. -/
def dunit (n : Fin 128 → EReal) (h d : M 64 128) : M 64 128 := fun r c => dnormed h d r c * n c
/-- The norm's own term, per row. -/
def pull (x e : M 64 128) : Fin 64 → EReal := fun r =>
  Ideal.div ((∑ c, x r c * e r c) * (mhalf * Ideal.div (rs x r) (ms x r))) len
/-- The cotangent of the output before the norm. -/
def dout (x e : M 64 128) : M 64 128 := fun r c => e r c * rs x r + x r c * pull x e r + pull x e r * x r c

/-! ## Backward through the recurrence -/

/-- The cotangent of the corrected values. -/
def dval (k : M 64 128) (a : M 64 64) (D : M 128 128) (x : M 64 128) : M 64 128 :=
  fun r c => ∑ i, D i c * k r i + ∑ t, x t c * a t r
/-- The cotangent of the keys. -/
def dkey (D : M 128 128) (v : M 64 128) : M 64 128 := fun r i => ∑ c, D i c * v r c
/-- The cotangent of the attention. -/
def datt (v x : M 64 128) : M 64 64 := fun r t => ∑ c, x r c * v t c
/-- Rows times the transposed state. -/
def back (S : M 128 128) (x : M 64 128) : M 64 128 := fun r i => ∑ c, x r c * S i c
/-- The product over the rows, transposed. -/
def outer (q x : M 64 128) : M 128 128 := fun i c => ∑ r, x r c * q r i
/-- The opposite. -/
def neg (x : M 64 128) : M 64 128 := fun r c => -x r c
/-- The cotangent of the state before the chunk. -/
def prev (e : EReal) (q w : M 64 128) (D : M 128 128) (x y : M 64 128) : M 128 128 :=
  fun i c => D i c * e + outer q x i c + outer w (neg y) i c
/-- The cotangent of the decay. -/
def ddec (S D : M 128 128) : EReal := ∑ i, ∑ c, S i c * D i c

/-! ## One head on one chunk

`S` is the state before the chunk, `D` the cotangent of the state after it. -/

/-- What one head reads on one chunk: `e` the chunk's decay, `h` the gate, `d` the cotangent of the result, `n` the norm's
    weight. -/
structure In where
  u : M 64 128
  w : M 64 128
  q : M 64 128
  k : M 64 128
  a : M 64 64
  e : EReal
  h : M 64 128
  d : M 64 128
  n : Fin 128 → EReal

namespace In
variable (x : In) (S D : M 128 128)

def v : M 64 128 := vn x.u x.w S
def o : M 64 128 := Gdn.out x.q x.a S (x.v S)
/-- The result. -/
def y : M 64 128 := gated x.n x.h (x.o S)
/-- The state after the chunk. -/
def s' : M 128 128 := next x.k x.e S (x.v S)
/-- The cotangent of the output before the norm. -/
def c : M 64 128 := dout (x.o S) (dunit x.n x.h x.d)
/-- The cotangents of the gate, the norm weight, `u`, `w`, `q`, `k`, the attention, the decay, and the state before. -/
def dh : M 64 128 := dgate x.n x.h x.d (x.o S)
def dn : Fin 128 → EReal := dweight x.h x.d (x.o S)
def du : M 64 128 := dval x.k x.a D (x.c S)
def dw : M 64 128 := back S (neg (x.du S D))
def dq : M 64 128 := back S (x.c S)
def dk : M 64 128 := dkey D (x.v S)
def da : M 64 64 := datt (x.v S) (x.c S)
def de : EReal := ddec S D * x.e
def ds : M 128 128 := prev x.e x.q x.w D (x.c S) (x.du S D)
end In

/-! ## The scan of one head over 32 chunks -/

section
variable (X : Fin 32 → In)

/-- Chunk `n`. -/
def ch (n : ℕ) : Fin 32 := Fin.ofNat 32 n
theorem ch_val (t : Fin 32) : ch t.val = t := Fin.ext (Nat.mod_eq_of_lt t.isLt)

/-- The state before chunk `n`. -/
def S : ℕ → M 128 128
  | 0 => fun _ _ => 0
  | n + 1 => (X (ch n)).s' (S n)
theorem S_succ (t : Fin 32) : S X (t.val + 1) = (X t).s' (S X t.val) := by
  show (X (ch t.val)).s' _ = _
  rw [ch_val]

/-- The cotangent of the state after the chunk that has `j` chunks behind it. -/
def D : ℕ → M 128 128
  | 0 => fun _ _ => 0
  | j + 1 => (X (ch (31 - j))).ds (S X (31 - j)) (D j)
/-- The cotangent of the state after chunk `t`. -/
def Da (t : Fin 32) : M 128 128 := D X (31 - t.val)
theorem D_succ (t : Fin 32) : D X (t.val + 1) = (X t.rev).ds (S X t.rev.val) (Da X t.rev) := by
  have e : 31 - t.val = t.rev.val := by rw [Fin.val_rev]; omega
  show (X (ch (31 - t.val))).ds (S X (31 - t.val)) (D X t.val) = _
  rw [e, ch_val, Da, show 31 - t.rev.val = t.val by rw [Fin.val_rev]; omega]
end

/-! ## The arrays -/

/-- Position `r` of chunk `t`. -/
abbrev rw_ (t : Fin 32) (r : Fin 64) : Fin 2048 := ⟨64 * t.val + r.val, by omega⟩
/-- Column `c` of head `h`. -/
abbrev hc (h : Fin 4) (c : Fin 128) : Fin 512 := ⟨128 * h.val + c.val, by omega⟩
/-- Attention column `t` of head `h`. -/
abbrev ha (h : Fin 4) (t : Fin 64) : Fin 256 := ⟨64 * h.val + t.val, by omega⟩

/-- One head's chunks cut out of the whole arrays; the gate stands in columns 8192 to 8703 of its array, and the decay is
    the exponential of the chunk's last row. -/
def cut (u w q k : M 2048 512) (a : M 2048 256) (g : M 2048 128) (h : M 2048 9728) (n : Fin 128 → EReal) (d : M 2048 512)
    (j : Fin 4) (t : Fin 32) : In where
  u r c := u (rw_ t r) (hc j c)
  w r c := w (rw_ t r) (hc j c)
  q r c := q (rw_ t r) (hc j c)
  k r c := k (rw_ t r) (hc j c)
  a r i := a (rw_ t r) (ha j i)
  e := Ideal.exp (g (rw_ t 63) ⟨j.val, by omega⟩)
  h r c := h (rw_ t r) ⟨8192 + 128 * j.val + c.val, by omega⟩
  d r c := d (rw_ t r) (hc j c)
  n := n

/-- Four heads' chunks of `128` columns put together. -/
def glue (f : Fin 4 → Fin 32 → M 64 128) : M 2048 512 := fun R C =>
  f ⟨C.val / 128, by omega⟩ ⟨R.val / 64, by omega⟩ ⟨R.val % 64, by omega⟩ ⟨C.val % 128, by omega⟩
/-- Four heads' chunks of `64` columns put together. -/
def glueA (f : Fin 4 → Fin 32 → M 64 64) : M 2048 256 := fun R C =>
  f ⟨C.val / 64, by omega⟩ ⟨R.val / 64, by omega⟩ ⟨R.val % 64, by omega⟩ ⟨C.val % 64, by omega⟩
/-- Four heads' numbers per chunk, each in its column of the chunk's last row, zeros elsewhere. -/
def glueG (f : Fin 4 → Fin 32 → EReal) : M 2048 128 := fun R C =>
  if h : C.val < 4 ∧ R.val % 64 = 63 then f ⟨C.val, h.1⟩ ⟨R.val / 64, by omega⟩ else 0

theorem glue_at (f : Fin 4 → Fin 32 → M 64 128) {R : Fin 2048} {C : Fin 512} (j : Fin 4) (t : Fin 32) (r : Fin 64) (i : Fin 128)
    (hR : R.val = 64 * t.val + r.val) (hC : C.val = 128 * j.val + i.val) : glue f R C = f j t r i := by
  unfold glue
  congr 1 <;> first | (congr 1; first | (congr 1 <;> (ext; dsimp only; omega)) | (ext; dsimp only; omega)) | (ext; dsimp only; omega)
theorem glueA_at (f : Fin 4 → Fin 32 → M 64 64) {R : Fin 2048} {C : Fin 256} (j : Fin 4) (t : Fin 32) (r : Fin 64) (i : Fin 64)
    (hR : R.val = 64 * t.val + r.val) (hC : C.val = 64 * j.val + i.val) : glueA f R C = f j t r i := by
  unfold glueA
  congr 1 <;> first | (congr 1; first | (congr 1 <;> (ext; dsimp only; omega)) | (ext; dsimp only; omega)) | (ext; dsimp only; omega)
theorem glueG_at (f : Fin 4 → Fin 32 → EReal) {R : Fin 2048} {C : Fin 128} (t : Fin 32) (r : Fin 64) (hR : R.val = 64 * t.val + r.val) :
    glueG f R C = if h : C.val < 4 ∧ r.val = 63 then f ⟨C.val, h.1⟩ t else 0 := by
  unfold glueG
  by_cases h : C.val < 4 ∧ r.val = 63
  · rw [dif_pos h, dif_pos ⟨h.1, by omega⟩]
    congr 1; ext; dsimp only; omega
  · rw [dif_neg h, dif_neg (by omega)]

/-! ## The results, from the four heads' chunks -/
section
variable (X : Fin 4 → Fin 32 → In)
def resO : M 2048 512 := glue fun h t => (X h t).y (S (X h) t.val)
def resU : M 2048 512 := glue fun h t => (X h t).du (S (X h) t.val) (Da (X h) t)
def resW : M 2048 512 := glue fun h t => (X h t).dw (S (X h) t.val) (Da (X h) t)
def resQ : M 2048 512 := glue fun h t => (X h t).dq (S (X h) t.val)
def resK : M 2048 512 := glue fun h t => (X h t).dk (S (X h) t.val) (Da (X h) t)
def resA : M 2048 256 := glueA fun h t => (X h t).da (S (X h) t.val)
def resG : M 2048 128 := glueG fun h t => (X h t).de (S (X h) t.val) (Da (X h) t)
def resH : M 2048 512 := glue fun h t => (X h t).dh (S (X h) t.val)
def resN : Fin 128 → EReal := fun c => ∑ t, ∑ h, (X h t).dn (S (X h) t.val) c
end

end Cert.Gdn

end

end
-- ==== Proof.HeadPoint.lean ====
module

public import proofs.«01_k».proof.Proof.HeadB
public import proofs.«01_k».proof.Proof.Model

@[expose] public section

set_option maxRecDepth 16384

noncomputable section

/-! # One head at an entry

Over the extended reals each function of one head is the model's. -/

namespace Cert.KernelIdeal.Head

open Cert.Gdn (hc ha)
open Idealize.ShloMosaic Cert.KernelIdeal Cert.KernelIdeal.Gen Cert.KernelIdeal.Point

/-- A two-dimensional array by its entries. -/
abbrev md {φ : FTy} {a b : ℕ} (x : FVec Ideal ⟨2, ![a, b]⟩ φ) : Gdn.M a b := fun r c => x (ix2 r c)
/-- The single row of an array. -/
abbrev row {b : ℕ} (x : FVec Ideal ⟨2, ![1, b]⟩ .f32) : Fin b → EReal := fun c => x (ix2 0 c)

/-! ## The slices -/

theorem col_md {φ : FTy} (h : Fin 4) (x : FVec Ideal S64x512 φ) : md (col h x) = fun r c => x (ix2 r (hc h c)) := by
  funext r c
  pointwise [md, col]
theorem att_md {φ : FTy} (h : Fin 4) (x : FVec Ideal S64x256 φ) : md (att h x) = fun r t => x (ix2 r (ha h t)) := by
  funext r c
  pointwise [md, att]
theorem st_md (h : Fin 4) (x : FVec Ideal S512x128 .f32) : md (st h x) = fun i c => x (ix2 (hc h i) c) := by
  funext r c
  pointwise [md, st]
theorem decay_md (h : Fin 4) (g : FVec Ideal S64x128 .f32) (i j : Fin 1) :
    decay h g (ix2 i j) = Ideal.exp (g (ix2 63 ⟨h.val, by omega⟩)) := by
  pointwise [decay]

/-! ## Forward -/

theorem vnew_md (u w : FVec Ideal S64x128 .f32) (S : FVec Ideal S128x128 .f32) : md (vnew u w S) = Gdn.vn (md u) (md w) (md S) := by
  funext r c
  pointwise [md, vnew, Gdn.vn]
theorem out_md (q : FVec Ideal S64x128 .f32) (a : FVec Ideal S64x64 .f32) (S : FVec Ideal S128x128 .f32) (v : FVec Ideal S64x128 .f32) :
    md (out q a S v) = Gdn.out (md q) (md a) (md S) (md v) := by
  funext r c
  pointwise [md, out, Gdn.out]
theorem next_md (k : FVec Ideal S64x128 .f32) (e : FVec Ideal S1x1 .f32) (S : FVec Ideal S128x128 .f32) (v : FVec Ideal S64x128 .f32) :
    md (next k e S v) = Gdn.next (md k) (e (ix2 0 0)) (md S) (md v) := by
  funext r c
  pointwise [md, next, Gdn.next]
theorem gated_md (n : FVec Ideal S1x128 .f32) (h x : FVec Ideal S64x128 .f32) : md (gated n h x) = Gdn.gated (row n) (md h) (md x) := by
  funext r c
  pointwise [md, row, gated, normed, unit, ms, silu, Gdn.gated, Gdn.normed, Gdn.rs, Gdn.ms, Gdn.len, Gdn.eps]

/-! ## Backward -/

theorem dgate_md (n : FVec Ideal S1x128 .f32) (h d x : FVec Ideal S64x128 .f32) :
    md (dgate n h d x) = Gdn.dgate (row n) (md h) (md d) (md x) := by
  funext r c
  pointwise [md, row, dgate, dlog, normed, unit, ms, Gdn.dgate, Gdn.normed, Gdn.rs, Gdn.ms, Gdn.len, Gdn.eps]
theorem dweight_md (h d x : FVec Ideal S64x128 .f32) : row (dweight h d x) = Gdn.dweight (md h) (md d) (md x) := by
  funext c
  pointwise [md, row, dweight, dnormed, silu, unit, ms, Gdn.dweight, Gdn.dnormed, Gdn.rs, Gdn.ms, Gdn.len, Gdn.eps]
theorem dunit_md (n : FVec Ideal S1x128 .f32) (h d : FVec Ideal S64x128 .f32) : md (dunit n h d) = Gdn.dunit (row n) (md h) (md d) := by
  funext r c
  pointwise [md, row, dunit, dnormed, silu, Gdn.dunit, Gdn.dnormed]
theorem dout_md (x e : FVec Ideal S64x128 .f32) : md (dout x e) = Gdn.dout (md x) (md e) := by
  funext r c
  pointwise [md, dout, pull, slope, rs, ms, Gdn.dout, Gdn.pull, Gdn.rs, Gdn.ms, Gdn.len, Gdn.eps, Gdn.mhalf]
  simp only [Finset.sum_const, Finset.card_univ, Fintype.card_fin, one_smul]
theorem dval_md (k : FVec Ideal S64x128 .f32) (a : FVec Ideal S64x64 .f32) (D : FVec Ideal S128x128 .f32) (x : FVec Ideal S64x128 .f32) :
    md (dval k a D x) = Gdn.dval (md k) (md a) (md D) (md x) := by
  funext r c
  pointwise [md, dval, dvk, rnd, Gdn.dval]
theorem dkey_md (D : FVec Ideal S128x128 .f32) (v : FVec Ideal S64x128 .f32) : md (dkey D v) = Gdn.dkey (md D) (md v) := by
  funext r c
  pointwise [md, dkey, rnd, Gdn.dkey]
theorem datt_md (v x : FVec Ideal S64x128 .f32) : md (datt v x) = Gdn.datt (md v) (md x) := by
  funext r c
  pointwise [md, datt, rnd, Gdn.datt]
theorem back_md (S : FVec Ideal S128x128 .f32) (x : FVec Ideal S64x128 .f32) : md (back S x) = Gdn.back (md S) (md x) := by
  funext r c
  pointwise [md, back, rnd, Gdn.back]
theorem minus_md (x : FVec Ideal S64x128 .f32) : md (minus x) = Gdn.neg (md x) := by
  funext r c
  pointwise [md, minus, Gdn.neg]
  exact zero_sub _
theorem prev_md (e : FVec Ideal S1x1 .f32) (q w : FVec Ideal S64x128 .f32) (D : FVec Ideal S128x128 .f32) (x y : FVec Ideal S64x128 .f32) :
    md (prev e q w D x y) = Gdn.prev (e (ix2 0 0)) (md q) (md w) (md D) (md x) (md y) := by
  funext r c
  pointwise [md, prev, outer, minus, rnd, Gdn.prev, Gdn.outer, Gdn.neg]
  simp only [zero_sub]
theorem ddec_md (e : FVec Ideal S1x1 .f32) (S D : FVec Ideal S128x128 .f32) (i j : Fin 1) :
    ddec e S D (ix2 i j) = Gdn.ddec (md S) (md D) * e (ix2 i j) := by
  pointwise [md, ddec, Gdn.ddec]

/-! ## Four heads together -/

theorem beside_at (f : Fin 4 → FVec Ideal S64x128 .f32) (h : Fin 4) (r : Fin 64) (c : Fin 128) :
    beside f (ix2 r (hc h c)) = f h (ix2 r c) := by
  fin_cases h <;> pointwise [beside, hc] <;> split_ifs <;> first | omega | (simp only [zero_add, add_zero]; done) | (congr 2; ext; dsimp only; omega)
theorem stacked_at (f : Fin 4 → FVec Ideal S128x128 .f32) (h : Fin 4) (r : Fin 128) (c : Fin 128) :
    stacked f (ix2 (hc h r) c) = f h (ix2 r c) := by
  fin_cases h <;> pointwise [stacked, hc] <;> split_ifs <;> first | omega | (simp only [zero_add, add_zero]; done) | (congr 2; ext; dsimp only; omega)
theorem spread_at (f : Fin 4 → FVec Ideal S64x128 .f32) (h : Fin 4) (r : Fin 64) (c : Fin 128) :
    spread f (ix2 r (hc h c)) = f h (ix2 r c) := by
  fin_cases h <;> pointwise [spread, hc] <;> split_ifs <;> first | omega | (simp only [zero_add, add_zero]; done) | (congr 2; ext; dsimp only; omega)
theorem spreadA_at (f : Fin 4 → FVec Ideal S64x64 .f32) (h : Fin 4) (r : Fin 64) (c : Fin 64) :
    spreadA f (ix2 r (ha h c)) = f h (ix2 r c) := by
  fin_cases h <;> pointwise [spreadA, ha] <;> split_ifs <;> first | omega | (simp only [zero_add, add_zero]; done) | (congr 2; ext; dsimp only; omega)
theorem spreadS_at (f : Fin 4 → FVec Ideal S128x128 .f32) (h : Fin 4) (r : Fin 128) (c : Fin 128) :
    spreadS f (ix2 (hc h r) c) = f h (ix2 r c) := by
  fin_cases h <;> pointwise [spreadS, hc] <;> split_ifs <;> first | omega | (simp only [zero_add, add_zero]; done) | (congr 2; ext; dsimp only; omega)

theorem one_at (f : Fin 4 → FVec Ideal S1x1 .f32) {i j : Fin 4} (h : i.val = j.val) (a b a' b' : Fin 1) :
    f i (ix2 a b) = f j (ix2 a' b') := by
  obtain rfl := Fin.ext h
  rw [Subsingleton.elim a a', Subsingleton.elim b b']
theorem spreadG_at (f : Fin 4 → FVec Ideal S1x1 .f32) (r : Fin 64) (c : Fin 128) :
    spreadG f (ix2 r c) = if hh : c.val < 4 ∧ r.val = 63 then f ⟨c.val, hh.1⟩ (ix2 0 0) else 0 := by
  pointwise [spreadG, last]
  repeat' split
  all_goals first | omega | (simp only [zero_add, add_zero]; done) | (simp only [zero_add, add_zero]; refine one_at f ?_ _ _ _ _; change _ = c.val; omega)

/-! ## The heads of a point -/

/-- What head `j` of a point reads. -/
def inn (x : FIn Ideal) (d : FVec Ideal S64x512 .f32) (j : Fin 4) : Gdn.In where
  u := md (col j x.u)
  w := md (col j (hi x.w))
  q := md (col j (hi x.q))
  k := md (col j (hi x.k))
  a := md (att j (hi x.a))
  e := decay j x.g (ix2 0 0)
  h := md (col j x.h)
  d := md (col j d)
  n := row x.n

section
variable (x : FIn Ideal) (d : FVec Ideal S64x512 .f32) (P D : FVec Ideal S512x128 .f32) (j : Fin 4)

theorem vj_md : md (vj x P j) = (inn x d j).v (md (st j P)) := by
  simp only [vj, vnew_md]; rfl
theorem oj_md : md (oj x P j) = (inn x d j).o (md (st j P)) := by
  simp only [oj, out_md, vj_md x d]; rfl
theorem yj_md : md (yj x P j) = (inn x d j).y (md (st j P)) := by
  simp only [yj, gated_md, oj_md x d]; rfl
theorem nj_md : md (nj x P j) = (inn x d j).s' (md (st j P)) := by
  simp only [nj, next_md, vj_md x d]; rfl
theorem doj_md : md (doj x d P j) = (inn x d j).c (md (st j P)) := by
  simp only [doj, xj, ej, dout_md, dunit_md, oj_md x d]; rfl
theorem dhj_md : md (dhj x d P j) = (inn x d j).dh (md (st j P)) := by
  simp only [dhj, xj, dgate_md, oj_md x d]; rfl
theorem dnj_row : row (dnj x d P j) = (inn x d j).dn (md (st j P)) := by
  simp only [dnj, xj, dweight_md, oj_md x d]; rfl
theorem duj_md : md (duj x d P D j) = (inn x d j).du (md (st j P)) (md (st j D)) := by
  simp only [duj, dval_md, doj_md]; rfl
theorem dkj_md : md (dkj x P D j) = (inn x d j).dk (md (st j P)) (md (st j D)) := by
  simp only [dkj, dkey_md, vj_md x d]; rfl
theorem daj_md : md (daj x d P j) = (inn x d j).da (md (st j P)) := by
  simp only [daj, datt_md, vj_md x d, doj_md]; rfl
theorem dqj_md : md (dqj x d P j) = (inn x d j).dq (md (st j P)) := by
  simp only [dqj, back_md, doj_md]; rfl
theorem dwj_md : md (dwj x d P D j) = (inn x d j).dw (md (st j P)) (md (st j D)) := by
  simp only [dwj, back_md, minus_md, duj_md]; rfl
theorem dsj_md : md (dsj x d P D j) = (inn x d j).ds (md (st j P)) (md (st j D)) := by
  simp only [dsj, prev_md, doj_md, duj_md]; rfl
theorem dgj_at : dgj x P D j (ix2 0 0) = (inn x d j).de (md (st j P)) (md (st j D)) := by
  simp only [dgj, ddec_md]; rfl
end

end Cert.KernelIdeal.Head

end

end
-- ==== Proof.FwdVal.lean ====
module

public import proofs.«01_k».proof.Proof.HeadPoint
public import proofs.«01_k».proof.Proof.KernelRun
public import Idealize.ShloMosaic.Lib.Pipeline.ValueKit

@[expose] public section

set_option maxRecDepth 16384

noncomputable section

/-! # What the forward call leaves

Its blocks are read off the arguments, its carried state is the model's, and so are its result and the saved states. -/

namespace Cert.KernelIdeal.Val

open Idealize.ShloMosaic Idealize.ShloMosaic.TcCoe
open Cert.Gdn (hc ha rw_)
open Cert.KernelIdeal Cert.KernelIdeal.Gen Cert.KernelIdeal.Run Cert.KernelIdeal.Head
open Idealize.ShloMosaic.Pipeline (Dat)

variable (m : (ℓ : Loc nD τ sig) → Buf (Elt Ideal) ℓ) (c : Dev nD)

/-- An argument by its entries. -/
abbrev arg (b : Ref sig .tc) : Buf (Elt Ideal) ((c : Thread nD τ).loc b) := m ((c : Thread nD τ).loc b)

/-- The four heads' chunks of the arguments. -/
def X (j : Fin 4) (t : Fin 32) : Gdn.In :=
  Gdn.cut (fun R C => arg m c main_arg0 (ix2 R C)) (fun R C => arg m c main_arg1 (ix2 R C)) (fun R C => arg m c main_arg2 (ix2 R C))
    (fun R C => arg m c main_arg3 (ix2 R C)) (fun R C => arg m c main_arg4 (ix2 R C)) (fun R C => arg m c main_arg5 (ix2 R C))
    (fun R C => arg m c main_arg6 (ix2 R C)) (fun C => arg m c main_arg7 (ix2 0 C)) (fun R C => arg m c main_arg8 (ix2 R C)) j t

/-- A grid point as a chunk. -/
abbrev p0 (t : Fin cfg0.N) : Fin 32 := ⟨t.val, Nat.lt_of_lt_of_eq t.isLt N_0⟩

/-! ## The blocks -/

theorem index0_0 : ∀ t : Fin cfg0.N, win0_0.index t = ![t.val, 0] := by decide +kernel
theorem index0_1 : ∀ t : Fin cfg0.N, win0_1.index t = ![t.val, 0] := by decide +kernel
theorem index0_2 : ∀ t : Fin cfg0.N, win0_2.index t = ![t.val, 0] := by decide +kernel
theorem index0_3 : ∀ t : Fin cfg0.N, win0_3.index t = ![t.val, 0] := by decide +kernel
theorem index0_4 : ∀ t : Fin cfg0.N, win0_4.index t = ![t.val, 0] := by decide +kernel
theorem index0_5 : ∀ t : Fin cfg0.N, win0_5.index t = ![t.val, 0] := by decide +kernel
theorem index0_6 : ∀ t : Fin cfg0.N, win0_6.index t = ![t.val, 16] := by decide +kernel
theorem index0_7 : ∀ t : Fin cfg0.N, win0_7.index t = ![0, 0] := by decide +kernel
theorem index0_8 : ∀ t : Fin cfg0.N, win0_8.index t = ![t.val, 0] := by decide +kernel
theorem index0_9 : ∀ t : Fin cfg0.N, win0_9.index t = ![t.val, 0, 0] := by decide +kernel

variable (t : Fin cfg0.N)
theorem blk0_0 (r : Fin 64) (j : Fin 512) : Fwd.iblk (V₀ m) c 0 t (ix2 r j) = arg m c main_arg0 (ix2 (rw_ (p0 t) r) j) := by
  blk_ext! [Fwd.iblk, V₀, index0_0 t]
theorem blk0_1 (r : Fin 64) (j : Fin 512) : Fwd.iblk (V₀ m) c 1 t (ix2 r j) = arg m c main_arg1 (ix2 (rw_ (p0 t) r) j) := by
  blk_ext! [Fwd.iblk, V₀, index0_1 t]
theorem blk0_2 (r : Fin 64) (j : Fin 512) : Fwd.iblk (V₀ m) c 2 t (ix2 r j) = arg m c main_arg2 (ix2 (rw_ (p0 t) r) j) := by
  blk_ext! [Fwd.iblk, V₀, index0_2 t]
theorem blk0_3 (r : Fin 64) (j : Fin 512) : Fwd.iblk (V₀ m) c 3 t (ix2 r j) = arg m c main_arg3 (ix2 (rw_ (p0 t) r) j) := by
  blk_ext! [Fwd.iblk, V₀, index0_3 t]
theorem blk0_4 (r : Fin 64) (j : Fin 256) : Fwd.iblk (V₀ m) c 4 t (ix2 r j) = arg m c main_arg4 (ix2 (rw_ (p0 t) r) j) := by
  blk_ext! [Fwd.iblk, V₀, index0_4 t]
theorem blk0_5 (r : Fin 64) (j : Fin 128) : Fwd.iblk (V₀ m) c 5 t (ix2 r j) = arg m c main_arg5 (ix2 (rw_ (p0 t) r) j) := by
  blk_ext! [Fwd.iblk, V₀, index0_5 t]
theorem blk0_6 (r : Fin 64) (j : Fin 512) : Fwd.iblk (V₀ m) c 6 t (ix2 r j) = arg m c main_arg6 (ix2 (rw_ (p0 t) r) ⟨8192 + j.val, by omega⟩) := by
  blk_ext! [Fwd.iblk, V₀, index0_6 t]
theorem blk0_7 (r : Fin 1) (j : Fin 128) : Fwd.iblk (V₀ m) c 7 t (ix2 r j) = arg m c main_arg7 (ix2 (r) j) := by
  blk_ext! [Fwd.iblk, V₀, index0_7 t]

/-- What the forward call's point reads. -/
def fin0 : FIn Ideal := ⟨Fwd.iblk (V₀ m) c 0 t, Fwd.iblk (V₀ m) c 1 t, Fwd.iblk (V₀ m) c 2 t, Fwd.iblk (V₀ m) c 3 t,
  Fwd.iblk (V₀ m) c 4 t, Fwd.iblk (V₀ m) c 5 t, Fwd.iblk (V₀ m) c 6 t, Fwd.iblk (V₀ m) c 7 t⟩
/-- Chunk `t`'s rows of the result's cotangent. -/
def cot (t : Fin 32) : FVec Ideal S64x512 .f32 := fun y => arg m c main_arg8 (ix2 (rw_ t (y 0)) (y 1))

theorem inn0 (j : Fin 4) : inn (fin0 m c t) (cot m c (p0 t)) j = X m c j (p0 t) := by
  simp only [inn, X, Gdn.cut, fin0, col_md, att_md, decay_md, Gdn.In.mk.injEq]
  refine ⟨?_, ?_, ?_, ?_, ?_, ?_, ?_, ?_, ?_⟩
  · funext r i; exact blk0_0 m c t r (hc j i)
  · funext r i; exact blk0_1 m c t r (hc j i)
  · funext r i; exact blk0_2 m c t r (hc j i)
  · funext r i; exact blk0_3 m c t r (hc j i)
  · funext r i; exact blk0_4 m c t r (ha j i)
  · rw [blk0_5 m c t 63 ⟨j.val, by omega⟩]
  · funext r i; rw [blk0_6 m c t r (hc j i)]; congr 2; ext; dsimp only; omega
  · rfl
  · funext i; exact blk0_7 m c t 0 i

/-! ## The state and the result -/

theorem res0_o : (Fwd.res (V₀ m) c t).o = lo (beside (yj (fin0 m c t) (Fwd.state (V₀ m) c t.val))) := fwd_o (fin0 m c t) (Fwd.state (V₀ m) c t.val)
theorem res0_s : (Fwd.res (V₀ m) c t).s = shapeCast S512x128 (stacked (nj (fin0 m c t) (Fwd.state (V₀ m) c t.val))) shapeCasts_S512x128_S512x128 :=
  fwd_s (fin0 m c t) (Fwd.state (V₀ m) c t.val)

theorem st_at (h : Fin 4) (x : FVec Ideal S512x128 .f32) (i k : Fin 128) : md (st h x) i k = x (ix2 (hc h i) k) := by
  rw [st_md]
theorem st_stacked (h : Fin 4) (f : Fin 4 → FVec Ideal S128x128 .f32) :
    md (st h (shapeCast S512x128 (stacked f) shapeCasts_S512x128_S512x128)) = md (f h) := by
  funext i k
  rw [st_at]
  have e := stacked_at f h i k
  generalize stacked f = x at e ⊢
  pointwise
  exact e

/-- The carried state before a point, head by head. -/
theorem state0 (n : ℕ) (hn : n ≤ 32) (j : Fin 4) : md (st j (Fwd.state (V₀ m) c n)) = Gdn.S (X m c j) n := by
  induction n with
  | zero =>
    funext i k
    rw [st_at]
    show k0_pay7 (F := Ideal) _ = 0
    pointwise [k0_pay7]
  | succ n ih =>
    have hlt : n < cfg0.N := Nat.lt_of_lt_of_eq hn N_0.symm
    have e := Fwd.state_succ (V₀ m) c ⟨n, hlt⟩
    rw [e, res0_s, st_stacked, nj_md _ (cot m c (p0 ⟨n, hlt⟩)), inn0, ih (by omega)]
    exact (Gdn.S_succ (X m c j) ⟨n, hn⟩).symm

/-- An entry of a point's result. -/
theorem res0_at (j : Fin 4) (r : Fin 64) (i : Fin 128) :
    (Fwd.res (V₀ m) c t).o (ix2 r (hc j i)) = (X m c j (p0 t)).y (Gdn.S (X m c j) t.val) r i := by
  rw [res0_o]
  refine Eq.trans (b := beside (yj (fin0 m c t) (Fwd.state (V₀ m) c t.val)) (ix2 r (hc j i))) rfl ?_
  rw [beside_at]
  show md (yj (fin0 m c t) (Fwd.state (V₀ m) c t.val) j) r i = _
  rw [yj_md _ (cot m c (p0 t)), inn0, state0 m c t.val (le_of_lt (p0 t).isLt)]

/-- A block of four heads' columns, read in the array it is written to. -/
theorem in_glue {φ : FTy} (A : FVec Ideal S64x512 φ) (f : Fin 4 → Fin 32 → Gdn.M 64 128) (t : Fin 32)
    (hA : ∀ j r i, A (ix2 r (hc j i)) = f j t r i) (y : S64x512.Idx) (R : Fin 2048) (C : Fin 512)
    (hR : R.val = t.val * 64 + (y 0).val) (hC : C.val = (y 1).val) : A y = Gdn.glue f R C := by
  have h1 : (y 1).val < 512 := (y 1).isLt
  have ey : y = ix2 (y 0) (hc ⟨(y 1).val / 128, by omega⟩ ⟨(y 1).val % 128, by omega⟩) := by
    funext a
    fin_cases a
    · rfl
    · apply Fin.ext
      show (y 1).val = 128 * ((y 1).val / 128) + (y 1).val % 128
      omega
  rw [Gdn.glue_at f ⟨(y 1).val / 128, by omega⟩ t (y 0) ⟨(y 1).val % 128, by omega⟩ (by rw [hR]; omega) (by rw [hC]; dsimp only; omega)]
  exact (congrArg A ey).trans (hA _ _ _)

theorem o_arr : (Fwd.dat (V₀ m) c).arrAt 8 cfg0.N = fun i => Gdn.resO (X m c) (i 0) (i 1) := by
  refine (Fwd.dat (V₀ m) c).arrAt_eq_of_covers 8 _ (by decide +kernel) fun t hf y => ?_
  blk_simp
  rw [Fwd.after_8]
  exact in_glue (φ := .bf16) _ _ (p0 t) (res0_at m c t) y _ _ (by blk_simp [index0_8 t]) (by blk_simp [index0_8 t])

theorem pay8_at (x : FVec Ideal S512x128 .f32) (n : Fin 1) (i : Fin 512) (k : Fin 128) : k0_pay8 x (ix3 n i k) = x (ix2 i k) := by
  pointwise [k0_pay8]

/-- The saved states: at chunk `t`, the state carried into it. -/
theorem s_arr : (Fwd.dat (V₀ m) c).arrAt 9 cfg0.N = fun i => Fwd.state (V₀ m) c (i 0).val (ix2 (i 1) (i 2)) := by
  refine (Fwd.dat (V₀ m) c).arrAt_eq_of_covers 9 _ (by decide +kernel) fun t hf y => ?_
  rw [Fwd.after_9]
  have e0 : ((win0_9.blk t).view.emb y 0).val = t.val := by
    have : (y 0).val < 1 := (y 0).isLt
    blk_simp [index0_9 t]
  have e1 : ((win0_9.blk t).view.emb y 1).val = (y 1).val := by blk_simp [index0_9 t]
  have e2 : ((win0_9.blk t).view.emb y 2).val = (y 2).val := by blk_simp [index0_9 t]
  generalize (win0_9.blk t).view.emb y = Y at e0 e1 e2 ⊢
  blk_simp
  rw [e0, show Y 1 = y 1 from Fin.ext e1, show Y 2 = y 2 from Fin.ext e2]
  exact pay8_at (Fwd.state (V₀ m) c t.val) (y 0) (y 1) (y 2)

end Cert.KernelIdeal.Val

end

end
-- ==== Proof.BwdVal.lean ====
module

public import proofs.«01_k».proof.Proof.FwdVal

@[expose] public section

set_option maxRecDepth 16384

noncomputable section

/-! # What the backward call leaves

It walks the chunks from the last to the first: point `t` is chunk `31 − t`. -/

namespace Cert.KernelIdeal.Val

open Idealize.ShloMosaic Idealize.ShloMosaic.TcCoe
open Cert.Gdn (hc ha rw_)
open Cert.KernelIdeal Cert.KernelIdeal.Gen Cert.KernelIdeal.Run Cert.KernelIdeal.Head
open Idealize.ShloMosaic.Pipeline (Dat)

variable (m : (ℓ : Loc nD τ sig) → Buf (Elt Ideal) ℓ) (c : Dev nD)

/-- A grid point's chunk. -/
abbrev p1 (t : Fin cfg1.N) : Fin 32 := ⟨31 - t.val, by omega⟩
theorem lt1 (t : Fin cfg1.N) : t.val < 32 := Nat.lt_of_lt_of_eq t.isLt N_1

/-! ## The blocks -/

theorem index1_0 : ∀ t : Fin cfg1.N, win1_0.index t = ![31 - t.val, 0] := by decide +kernel
theorem index1_1 : ∀ t : Fin cfg1.N, win1_1.index t = ![31 - t.val, 0] := by decide +kernel
theorem index1_2 : ∀ t : Fin cfg1.N, win1_2.index t = ![31 - t.val, 0] := by decide +kernel
theorem index1_3 : ∀ t : Fin cfg1.N, win1_3.index t = ![31 - t.val, 0] := by decide +kernel
theorem index1_4 : ∀ t : Fin cfg1.N, win1_4.index t = ![31 - t.val, 0] := by decide +kernel
theorem index1_5 : ∀ t : Fin cfg1.N, win1_5.index t = ![31 - t.val, 0] := by decide +kernel
theorem index1_6 : ∀ t : Fin cfg1.N, win1_6.index t = ![31 - t.val, 16] := by decide +kernel
theorem index1_7 : ∀ t : Fin cfg1.N, win1_7.index t = ![0, 0] := by decide +kernel
theorem index1_8 : ∀ t : Fin cfg1.N, win1_8.index t = ![31 - t.val, 0] := by decide +kernel
theorem index1_9 : ∀ t : Fin cfg1.N, win1_9.index t = ![31 - t.val, 0, 0] := by decide +kernel
theorem index1_10 : ∀ t : Fin cfg1.N, win1_10.index t = ![31 - t.val, 0] := by decide +kernel
theorem index1_11 : ∀ t : Fin cfg1.N, win1_11.index t = ![31 - t.val, 0] := by decide +kernel
theorem index1_12 : ∀ t : Fin cfg1.N, win1_12.index t = ![31 - t.val, 0] := by decide +kernel
theorem index1_13 : ∀ t : Fin cfg1.N, win1_13.index t = ![31 - t.val, 0] := by decide +kernel
theorem index1_14 : ∀ t : Fin cfg1.N, win1_14.index t = ![31 - t.val, 0] := by decide +kernel
theorem index1_15 : ∀ t : Fin cfg1.N, win1_15.index t = ![31 - t.val, 0] := by decide +kernel
theorem index1_16 : ∀ t : Fin cfg1.N, win1_16.index t = ![31 - t.val, 0] := by decide +kernel
theorem index1_17 : ∀ t : Fin cfg1.N, win1_17.index t = ![0, 0] := by decide +kernel

variable (t : Fin cfg1.N)
theorem blk1_0 (r : Fin 64) (j : Fin 512) : Bwd.iblk (V₁ m) c 0 t (ix2 r j) = arg m c main_arg0 (ix2 (rw_ (p1 t) r) j) := by
  rw [← show V₁ m c (Proc.devRef .tc main_arg0) = arg m c main_arg0 from V₁_keeps m c main_arg0 (by decide)]
  blk_ext! [Bwd.iblk, index1_0 t]
theorem blk1_1 (r : Fin 64) (j : Fin 512) : Bwd.iblk (V₁ m) c 1 t (ix2 r j) = arg m c main_arg1 (ix2 (rw_ (p1 t) r) j) := by
  rw [← show V₁ m c (Proc.devRef .tc main_arg1) = arg m c main_arg1 from V₁_keeps m c main_arg1 (by decide)]
  blk_ext! [Bwd.iblk, index1_1 t]
theorem blk1_2 (r : Fin 64) (j : Fin 512) : Bwd.iblk (V₁ m) c 2 t (ix2 r j) = arg m c main_arg2 (ix2 (rw_ (p1 t) r) j) := by
  rw [← show V₁ m c (Proc.devRef .tc main_arg2) = arg m c main_arg2 from V₁_keeps m c main_arg2 (by decide)]
  blk_ext! [Bwd.iblk, index1_2 t]
theorem blk1_3 (r : Fin 64) (j : Fin 512) : Bwd.iblk (V₁ m) c 3 t (ix2 r j) = arg m c main_arg3 (ix2 (rw_ (p1 t) r) j) := by
  rw [← show V₁ m c (Proc.devRef .tc main_arg3) = arg m c main_arg3 from V₁_keeps m c main_arg3 (by decide)]
  blk_ext! [Bwd.iblk, index1_3 t]
theorem blk1_4 (r : Fin 64) (j : Fin 256) : Bwd.iblk (V₁ m) c 4 t (ix2 r j) = arg m c main_arg4 (ix2 (rw_ (p1 t) r) j) := by
  rw [← show V₁ m c (Proc.devRef .tc main_arg4) = arg m c main_arg4 from V₁_keeps m c main_arg4 (by decide)]
  blk_ext! [Bwd.iblk, index1_4 t]
theorem blk1_5 (r : Fin 64) (j : Fin 128) : Bwd.iblk (V₁ m) c 5 t (ix2 r j) = arg m c main_arg5 (ix2 (rw_ (p1 t) r) j) := by
  rw [← show V₁ m c (Proc.devRef .tc main_arg5) = arg m c main_arg5 from V₁_keeps m c main_arg5 (by decide)]
  blk_ext! [Bwd.iblk, index1_5 t]
theorem blk1_6 (r : Fin 64) (j : Fin 512) : Bwd.iblk (V₁ m) c 6 t (ix2 r j) = arg m c main_arg6 (ix2 (rw_ (p1 t) r) ⟨8192 + j.val, by omega⟩) := by
  rw [← show V₁ m c (Proc.devRef .tc main_arg6) = arg m c main_arg6 from V₁_keeps m c main_arg6 (by decide)]
  blk_ext! [Bwd.iblk, index1_6 t]
theorem blk1_7 (r : Fin 1) (j : Fin 128) : Bwd.iblk (V₁ m) c 7 t (ix2 r j) = arg m c main_arg7 (ix2 (r) j) := by
  rw [← show V₁ m c (Proc.devRef .tc main_arg7) = arg m c main_arg7 from V₁_keeps m c main_arg7 (by decide)]
  blk_ext! [Bwd.iblk, index1_7 t]
theorem blk1_8 (r : Fin 64) (j : Fin 512) : Bwd.iblk (V₁ m) c 8 t (ix2 r j) = arg m c main_arg8 (ix2 (rw_ (p1 t) r) j) := by
  rw [← show V₁ m c (Proc.devRef .tc main_arg8) = arg m c main_arg8 from V₁_keeps m c main_arg8 (by decide)]
  blk_ext! [Bwd.iblk, index1_8 t]
theorem blk1_9 (n : Fin 1) (i : Fin 512) (k : Fin 128) : Bwd.iblk (V₁ m) c 9 t (ix3 n i k) = Fwd.state (V₀ m) c (p1 t).val (ix2 i k) := by
  have e : V₁ m c (Proc.devRef .tc main_v0_1) = fun i => Fwd.state (V₀ m) c (i 0).val (ix2 (i 1) (i 2)) := (V₁_arr m c 9).trans (s_arr m c)
  have f : Bwd.iblk (V₁ m) c 9 t (ix3 n i k) = V₁ m c (Proc.devRef .tc main_v0_1) (ix3 (p1 t) i k) := by
    blk_ext! [Bwd.iblk, index1_9 t]
  rw [f, e]
  rfl

/-- What the backward call's point reads. -/
def fin1 : FIn Ideal := ⟨Bwd.iblk (V₁ m) c 0 t, Bwd.iblk (V₁ m) c 1 t, Bwd.iblk (V₁ m) c 2 t, Bwd.iblk (V₁ m) c 3 t,
  Bwd.iblk (V₁ m) c 4 t, Bwd.iblk (V₁ m) c 5 t, Bwd.iblk (V₁ m) c 6 t, Bwd.iblk (V₁ m) c 7 t⟩
/-- The result's cotangent at the point. -/
def d1 : FVec Ideal S64x512 .f32 := Bwd.iblk (V₁ m) c 8 t
/-- The saved states at the point. -/
def s1 : FVec Ideal S1x512x128 .f32 := Bwd.iblk (V₁ m) c 9 t

theorem inn1 (j : Fin 4) : inn (fin1 m c t) (d1 m c t) j = X m c j (p1 t) := by
  simp only [inn, X, Gdn.cut, fin1, d1, col_md, att_md, decay_md, Gdn.In.mk.injEq]
  refine ⟨?_, ?_, ?_, ?_, ?_, ?_, ?_, ?_, ?_⟩
  · funext r i; exact blk1_0 m c t r (hc j i)
  · funext r i; exact blk1_1 m c t r (hc j i)
  · funext r i; exact blk1_2 m c t r (hc j i)
  · funext r i; exact blk1_3 m c t r (hc j i)
  · funext r i; exact blk1_4 m c t r (ha j i)
  · rw [blk1_5 m c t 63 ⟨j.val, by omega⟩]
  · funext r i; rw [blk1_6 m c t r (hc j i)]; congr 2; ext; dsimp only; omega
  · funext r i; exact blk1_8 m c t r (hc j i)
  · funext i; exact blk1_7 m c t 0 i

theorem flat_at (p : FVec Ideal S1x512x128 .f32) (i : Fin 512) (k : Fin 128) : flat p (ix2 i k) = p (ix3 0 i k) := by
  pointwise [flat]

/-- The saved states at a point are the model's before its chunk. -/
theorem saved (j : Fin 4) : md (st j (flat (s1 m c t))) = Gdn.S (X m c j) (p1 t).val := by
  rw [← state0 m c (p1 t).val (le_of_lt (p1 t).isLt) j]
  funext i k
  rw [st_at, st_at, flat_at]
  exact blk1_9 m c t 0 (hc j i) k

/-! ## The carried cotangent -/

/-- What a point computes. -/
abbrev r1 : Point.Bwd Ideal := Bwd.res (V₁ m) c t
/-- The carried cotangent at a point. -/
abbrev D1 : FVec Ideal S512x128 .f32 := Bwd.state (V₁ m) c t.val

theorem r1_s : (r1 m c t).s = shapeCast S512x128 (spreadS (dsj (fin1 m c t) (d1 m c t) (flat (s1 m c t)) (D1 m c t))) shapeCasts_S512x128_S512x128 :=
  bwd_s (fin1 m c t) (d1 m c t) (s1 m c t) (D1 m c t)

theorem st_spreadS (h : Fin 4) (f : Fin 4 → FVec Ideal S128x128 .f32) :
    md (st h (shapeCast S512x128 (spreadS f) shapeCasts_S512x128_S512x128)) = md (f h) := by
  funext i k
  rw [st_at]
  have e := spreadS_at f h i k
  generalize spreadS f = x at e ⊢
  pointwise
  exact e

/-- The carried cotangent before a point, head by head. -/
theorem state1 (n : ℕ) (hn : n ≤ 32) (j : Fin 4) : md (st j (Bwd.state (V₁ m) c n)) = Gdn.D (X m c j) n := by
  induction n with
  | zero =>
    funext i k
    rw [st_at]
    show k1_pay4 (F := Ideal) _ = 0
    pointwise [k1_pay4]
  | succ n ih =>
    have hlt : n < cfg1.N := Nat.lt_of_lt_of_eq hn N_1.symm
    have er : (⟨n, hn⟩ : Fin 32).rev = p1 ⟨n, hlt⟩ := by
      ext; rw [Fin.val_rev]; dsimp only; omega
    have eD := Gdn.D_succ (X m c j) ⟨n, hn⟩
    rw [er, Gdn.Da, show 31 - (p1 ⟨n, hlt⟩).val = n by dsimp only; omega] at eD
    have e := Bwd.state_succ (V₁ m) c ⟨n, hlt⟩
    rw [e, r1_s, st_spreadS, dsj_md, inn1, saved, ih (by omega)]
    exact eD.symm

theorem state1_at (j : Fin 4) : md (st j (D1 m c t)) = Gdn.Da (X m c j) (p1 t) := by
  rw [D1, state1 m c t.val (le_of_lt (lt1 t)), Gdn.Da]
  have := lt1 t
  congr 1; dsimp only; omega

/-! ## The results of a point -/

theorem r1_u : (r1 m c t).u = spread (duj (fin1 m c t) (d1 m c t) (flat (s1 m c t)) (D1 m c t)) := bwd_u (fin1 m c t) (d1 m c t) (s1 m c t) (D1 m c t)
theorem r1_w : (r1 m c t).w = spread (dwj (fin1 m c t) (d1 m c t) (flat (s1 m c t)) (D1 m c t)) := bwd_w (fin1 m c t) (d1 m c t) (s1 m c t) (D1 m c t)
theorem r1_q : (r1 m c t).q = spread (dqj (fin1 m c t) (d1 m c t) (flat (s1 m c t))) := bwd_q (fin1 m c t) (d1 m c t) (s1 m c t) (D1 m c t)
theorem r1_k : (r1 m c t).k = spread (dkj (fin1 m c t) (flat (s1 m c t)) (D1 m c t)) := bwd_k (fin1 m c t) (d1 m c t) (s1 m c t) (D1 m c t)
theorem r1_a : (r1 m c t).a = spreadA (daj (fin1 m c t) (d1 m c t) (flat (s1 m c t))) := bwd_a (fin1 m c t) (d1 m c t) (s1 m c t) (D1 m c t)
theorem r1_g : (r1 m c t).g = spreadG (dgj (fin1 m c t) (flat (s1 m c t)) (D1 m c t)) := bwd_g (fin1 m c t) (d1 m c t) (s1 m c t) (D1 m c t)
theorem r1_h : (r1 m c t).h = lo (spread (dhj (fin1 m c t) (d1 m c t) (flat (s1 m c t)))) := bwd_h (fin1 m c t) (d1 m c t) (s1 m c t) (D1 m c t)
theorem r1_n : (r1 m c t).n = addf (addf (addf (dnj (fin1 m c t) (d1 m c t) (flat (s1 m c t)) 3) (dnj (fin1 m c t) (d1 m c t) (flat (s1 m c t)) 2))
    (dnj (fin1 m c t) (d1 m c t) (flat (s1 m c t)) 1)) (dnj (fin1 m c t) (d1 m c t) (flat (s1 m c t)) 0) :=
  bwd_n (fin1 m c t) (d1 m c t) (s1 m c t) (D1 m c t)

variable (j : Fin 4) (r : Fin 64) (i : Fin 128)

theorem r1_u_at : (r1 m c t).u (ix2 r (hc j i)) = (X m c j (p1 t)).du (Gdn.S (X m c j) (p1 t).val) (Gdn.Da (X m c j) (p1 t)) r i := by
  rw [r1_u]
  rw [spread_at]
  refine Eq.trans (congrFun (congrFun (duj_md _ _ _ _ j) r) i) ?_
  rw [inn1, saved, state1_at]
theorem r1_w_at : (r1 m c t).w (ix2 r (hc j i)) = (X m c j (p1 t)).dw (Gdn.S (X m c j) (p1 t).val) (Gdn.Da (X m c j) (p1 t)) r i := by
  rw [r1_w]
  rw [spread_at]
  refine Eq.trans (congrFun (congrFun (dwj_md _ _ _ _ j) r) i) ?_
  rw [inn1, saved, state1_at]
theorem r1_q_at : (r1 m c t).q (ix2 r (hc j i)) = (X m c j (p1 t)).dq (Gdn.S (X m c j) (p1 t).val) r i := by
  rw [r1_q]
  rw [spread_at]
  refine Eq.trans (congrFun (congrFun (dqj_md _ _ _ j) r) i) ?_
  rw [inn1, saved]
theorem r1_k_at : (r1 m c t).k (ix2 r (hc j i)) = (X m c j (p1 t)).dk (Gdn.S (X m c j) (p1 t).val) (Gdn.Da (X m c j) (p1 t)) r i := by
  rw [r1_k]
  rw [spread_at]
  refine Eq.trans (congrFun (congrFun (dkj_md _ (d1 m c t) _ _ j) r) i) ?_
  rw [inn1, saved, state1_at]
theorem r1_h_at : (r1 m c t).h (ix2 r (hc j i)) = (X m c j (p1 t)).dh (Gdn.S (X m c j) (p1 t).val) r i := by
  rw [r1_h]
  refine Eq.trans (b := spread (dhj (fin1 m c t) (d1 m c t) (flat (s1 m c t))) (ix2 r (hc j i))) rfl ?_
  rw [spread_at]
  refine Eq.trans (congrFun (congrFun (dhj_md _ _ _ j) r) i) ?_
  rw [inn1, saved]
theorem r1_a_at (i : Fin 64) : (r1 m c t).a (ix2 r (ha j i)) = (X m c j (p1 t)).da (Gdn.S (X m c j) (p1 t).val) r i := by
  rw [r1_a, spreadA_at]
  refine Eq.trans (congrFun (congrFun (daj_md _ _ _ j) r) i) ?_
  rw [inn1, saved]
theorem r1_g_at : (r1 m c t).g (ix2 r i) = if hh : i.val < 4 ∧ r.val = 63 then
    (X m c ⟨i.val, hh.1⟩ (p1 t)).de (Gdn.S (X m c ⟨i.val, hh.1⟩) (p1 t).val) (Gdn.Da (X m c ⟨i.val, hh.1⟩) (p1 t)) else 0 := by
  rw [r1_g, spreadG_at]
  simp only [dgj_at _ (d1 m c t), inn1, saved, state1_at]
theorem r1_n_at : (r1 m c t).n (ix2 0 i) = ∑ j, (X m c j (p1 t)).dn (Gdn.S (X m c j) (p1 t).val) i := by
  have e : ∀ j, dnj (fin1 m c t) (d1 m c t) (flat (s1 m c t)) j (ix2 0 i) = (X m c j (p1 t)).dn (Gdn.S (X m c j) (p1 t).val) i := fun j => by
    refine Eq.trans (congrFun (dnj_row _ _ _ j) i) ?_
    rw [inn1, saved]
  rw [r1_n, Fin.sum_univ_four]
  refine Eq.trans (b := dnj (fin1 m c t) (d1 m c t) (flat (s1 m c t)) 3 (ix2 0 i) + dnj (fin1 m c t) (d1 m c t) (flat (s1 m c t)) 2 (ix2 0 i)
    + dnj (fin1 m c t) (d1 m c t) (flat (s1 m c t)) 1 (ix2 0 i) + dnj (fin1 m c t) (d1 m c t) (flat (s1 m c t)) 0 (ix2 0 i)) rfl ?_
  rw [e, e, e, e]
  ac_rfl

/-! ## The arrays -/

/-- A block of four heads' attention columns, read in the array it is written to. -/
theorem in_glueA {φ : FTy} (A : FVec Ideal S64x256 φ) (f : Fin 4 → Fin 32 → Gdn.M 64 64) (t : Fin 32)
    (hA : ∀ j r i, A (ix2 r (ha j i)) = f j t r i) (y : S64x256.Idx) (R : Fin 2048) (C : Fin 256)
    (hR : R.val = t.val * 64 + (y 0).val) (hC : C.val = (y 1).val) : A y = Gdn.glueA f R C := by
  have h1 : (y 1).val < 256 := (y 1).isLt
  have ey : y = ix2 (y 0) (ha ⟨(y 1).val / 64, by omega⟩ ⟨(y 1).val % 64, by omega⟩) := by
    funext a
    fin_cases a
    · rfl
    · apply Fin.ext
      show (y 1).val = 64 * ((y 1).val / 64) + (y 1).val % 64
      omega
  rw [Gdn.glueA_at f ⟨(y 1).val / 64, by omega⟩ t (y 0) ⟨(y 1).val % 64, by omega⟩ (by rw [hR]; omega) (by rw [hC]; dsimp only; omega)]
  exact (congrArg A ey).trans (hA _ _ _)

theorem u_arr : (Bwd.dat (V₁ m) c).arrAt 10 cfg1.N = fun i => Gdn.resU (X m c) (i 0) (i 1) := by
  refine (Bwd.dat (V₁ m) c).arrAt_eq_of_covers 10 _ (by decide +kernel) fun t hf y => ?_
  blk_simp
  rw [Bwd.after_10]
  exact in_glue (φ := .f32) _ _ (p1 t) (r1_u_at m c t) y _ _ (by blk_simp [index1_10 t]) (by blk_simp [index1_10 t])
theorem w_arr : (Bwd.dat (V₁ m) c).arrAt 11 cfg1.N = fun i => Gdn.resW (X m c) (i 0) (i 1) := by
  refine (Bwd.dat (V₁ m) c).arrAt_eq_of_covers 11 _ (by decide +kernel) fun t hf y => ?_
  blk_simp
  rw [Bwd.after_11]
  exact in_glue (φ := .f32) _ _ (p1 t) (r1_w_at m c t) y _ _ (by blk_simp [index1_11 t]) (by blk_simp [index1_11 t])
theorem q_arr : (Bwd.dat (V₁ m) c).arrAt 12 cfg1.N = fun i => Gdn.resQ (X m c) (i 0) (i 1) := by
  refine (Bwd.dat (V₁ m) c).arrAt_eq_of_covers 12 _ (by decide +kernel) fun t hf y => ?_
  blk_simp
  rw [Bwd.after_12]
  exact in_glue (φ := .f32) _ _ (p1 t) (r1_q_at m c t) y _ _ (by blk_simp [index1_12 t]) (by blk_simp [index1_12 t])
theorem k_arr : (Bwd.dat (V₁ m) c).arrAt 13 cfg1.N = fun i => Gdn.resK (X m c) (i 0) (i 1) := by
  refine (Bwd.dat (V₁ m) c).arrAt_eq_of_covers 13 _ (by decide +kernel) fun t hf y => ?_
  blk_simp
  rw [Bwd.after_13]
  exact in_glue (φ := .f32) _ _ (p1 t) (r1_k_at m c t) y _ _ (by blk_simp [index1_13 t]) (by blk_simp [index1_13 t])
theorem h_arr : (Bwd.dat (V₁ m) c).arrAt 16 cfg1.N = fun i => Gdn.resH (X m c) (i 0) (i 1) := by
  refine (Bwd.dat (V₁ m) c).arrAt_eq_of_covers 16 _ (by decide +kernel) fun t hf y => ?_
  blk_simp
  rw [Bwd.after_16]
  exact in_glue (φ := .bf16) _ _ (p1 t) (r1_h_at m c t) y _ _ (by blk_simp [index1_16 t]) (by blk_simp [index1_16 t])
theorem a_arr : (Bwd.dat (V₁ m) c).arrAt 14 cfg1.N = fun i => Gdn.resA (X m c) (i 0) (i 1) := by
  refine (Bwd.dat (V₁ m) c).arrAt_eq_of_covers 14 _ (by decide +kernel) fun t hf y => ?_
  blk_simp
  rw [Bwd.after_14]
  exact in_glueA (φ := .f32) _ _ (p1 t) (r1_a_at m c t) y _ _ (by blk_simp [index1_14 t]) (by blk_simp [index1_14 t])
/-- A block with the decay's cotangents in its last row, read in the array it is written to. -/
theorem in_glueG (A : FVec Ideal S64x128 .f32) (f : Fin 4 → Fin 32 → EReal) (t : Fin 32)
    (hA : ∀ (r : Fin 64) (i : Fin 128), A (ix2 r i) = if hh : i.val < 4 ∧ r.val = 63 then f ⟨i.val, hh.1⟩ t else 0) (y : S64x128.Idx)
    (R : Fin 2048) (C : Fin 128) (hR : R.val = t.val * 64 + (y 0).val) (hC : C.val = (y 1).val) : A y = Gdn.glueG f R C := by
  obtain rfl : C = y 1 := Fin.ext hC
  refine (congrArg A (show y = ix2 (y 0) (y 1) by funext a; fin_cases a <;> rfl)).trans ((hA (y 0) (y 1)).trans ?_)
  exact (Gdn.glueG_at (C := y 1) f t (y 0) (by rw [hR]; omega)).symm
theorem g_arr : (Bwd.dat (V₁ m) c).arrAt 15 cfg1.N = fun i => Gdn.resG (X m c) (i 0) (i 1) := by
  refine (Bwd.dat (V₁ m) c).arrAt_eq_of_covers 15 _ (by decide +kernel) fun t hf y => ?_
  blk_simp
  rw [Bwd.after_15]
  exact in_glueG _ _ (p1 t) (r1_g_at m c t) y _ _ (by blk_simp [index1_15 t]) (by blk_simp [index1_15 t])

/-- The accumulated norm weight's cotangent before point `n`. -/
theorem accum_at (n : ℕ) (hn : n ≤ 32) (i : Fin 128) : Bwd.accum (V₁ m) c n (ix2 0 i)
    = ∑ k ∈ Finset.range n, ∑ j, (X m c j (Gdn.ch (31 - k))).dn (Gdn.S (X m c j) (31 - k)) i := by
  induction n with
  | zero =>
    show k1_pay3 (F := Ideal) _ = _
    pointwise [k1_pay3]
    rfl
  | succ n ih =>
    have hlt : n < cfg1.N := Nat.lt_of_lt_of_eq hn N_1.symm
    have e := Bwd.accum_succ (V₁ m) c ⟨n, hlt⟩
    have f : ∀ a b : FVec Ideal S1x128 .f32, k1_pay2 a b (ix2 0 i) = b (ix2 0 i) + a (ix2 0 i) := fun a b => by
      pointwise [k1_pay2]
    rw [e, f, Finset.sum_range_succ, ih (by omega)]
    congr 1
    have h := r1_n_at m c ⟨n, hlt⟩ i
    rw [show p1 ⟨n, hlt⟩ = Gdn.ch (31 - n) from (Gdn.ch_val (p1 ⟨n, hlt⟩)).symm] at h
    refine h.trans ?_
    rw [show (Gdn.ch (31 - n)).val = 31 - n from Nat.mod_eq_of_lt (by omega)]

theorem n_arr : (Bwd.dat (V₁ m) c).arrAt 17 cfg1.N = fun i => Gdn.resN (X m c) (i 1) := by
  refine (Bwd.dat (V₁ m) c).arrAt_eq_of_after_last 17 ⟨31, Nat.lt_of_lt_of_eq (by norm_num) N_1.symm⟩ (by decide +kernel) _ fun j => ?_
  blk_simp
  refine (congrFun (Bwd.after_17 (V₁ m) c ⟨31, Nat.lt_of_lt_of_eq (by norm_num) N_1.symm⟩) _).trans ?_
  refine (congrArg (Bwd.accum (V₁ m) c 32) (show _ = ix2 0 (j 1) from ?_)).trans ((accum_at m c 32 le_rfl (j 1)).trans ?_)
  · funext a
    fin_cases a
    · exact Subsingleton.elim (α := Fin 1) _ _
    · rfl
  · rw [Finset.sum_range]
    refine Eq.trans ?_ (Equiv.sum_comp Fin.revPerm (fun t => ∑ h, (X m c h t).dn (Gdn.S (X m c h) t.val) (j 1)))
    refine Finset.sum_congr rfl fun t _ => Finset.sum_congr rfl fun h _ => ?_
    have e : 31 - t.val = (Fin.revPerm t).val := by
      rw [Fin.revPerm_apply, Fin.val_rev]; omega
    rw [e, Gdn.ch_val]

end Cert.KernelIdeal.Val

end

end
-- ==== Proof.RefLoop.lean ====
module

public import proofs.«01_k».proof.Proof.RefRun
public import Idealize.ShloMosaic.Lib.Pointwise
import Idealize.ShloMosaic.Lib.StableHlo.RunRead

@[expose] public section

set_option maxRecDepth 16384

noncomputable section

/-! # One trip of each of the reference's loops

A trip reads the chunk at its counter out of every stacked array, computes on the four heads at once, and writes the
results back at that chunk. Each written buffer is given as a function of the buffers before the trip. -/

namespace Cert.ReferenceIdeal.Loop

open Idealize.ShloMosaic Idealize.ShloMosaic.Pipeline Idealize.ShloMosaic.StableHlo Cert.ReferenceIdeal Cert.ReferenceIdeal.Gen
open Cert.ReferenceIdeal.Ops Cert.ReferenceIdeal.Run

variable {F : FTy → Type} [FloatOps F]

/-! ## The chunk at a counter -/

/-- The start of chunk `i` in an array of rank four. -/
abbrev at4 (i : IVec S_ 32) : Fin 4 → Int := fun a =>
  ((![i, constantI S_ 32 0#32, constantI S_ 32 0#32, constantI S_ 32 0#32] : Fin 4 → IVec S_ 32) a (Shape.Idx.first h_S_)).toInt
/-- The start of chunk `i` in an array of rank two. -/
abbrev at2 (i : IVec S_ 32) : Fin 2 → Int := fun a =>
  ((![i, constantI S_ 32 0#32] : Fin 2 → IVec S_ 32) a (Shape.Idx.first h_S_)).toInt

theorem iv_toInt : ∀ k : Fin 32, (Scf.iv 0#32 1#32 k.val).toInt = (k.val : Int) := by decide +kernel

/-- Chunk `i` of the heads' rows. -/
def slab (i : IVec S_ 32) (x : FVec F S32x4x64x128 .f32) : FVec F S4x64x128 .f32 :=
  shapeCast S4x64x128 (Host.dynamicSlice S1x4x64x128 x (at4 i) sliceFits_S32x4x64x128_S1x4x64x128) shapeCasts_S1x4x64x128_S4x64x128

/-- Chunk `i` of the heads' rows replaced. -/
def put (i : IVec S_ 32) (x : FVec F S32x4x64x128 .f32) (y : FVec F S4x64x128 .f32) : FVec F S32x4x64x128 .f32 :=
  Host.dynamicUpdateSlice x (broadcastInDim S1x4x64x128 ![1, 2, 3] bcast_S4x64x128_S1x4x64x128_1_2_3 y) (at4 i) updateFits_S32x4x64x128_S1x4x64x128

/-- Chunk `i` of the heads' states. -/
def slabS (i : IVec S_ 32) (x : FVec F S32x4x128x128 .f32) : FVec F S4x128x128 .f32 :=
  shapeCast S4x128x128 (Host.dynamicSlice S1x4x128x128 x (at4 i) sliceFits_S32x4x128x128_S1x4x128x128) shapeCasts_S1x4x128x128_S4x128x128

/-- Chunk `i` of the heads' states replaced. -/
def putS (i : IVec S_ 32) (x : FVec F S32x4x128x128 .f32) (y : FVec F S4x128x128 .f32) : FVec F S32x4x128x128 .f32 :=
  Host.dynamicUpdateSlice x (broadcastInDim S1x4x128x128 ![1, 2, 3] bcast_S4x128x128_S1x4x128x128_1_2_3 y) (at4 i) updateFits_S32x4x128x128_S1x4x128x128

/-- Chunk `i` of the heads' attention. -/
def slabA (i : IVec S_ 32) (x : FVec F S32x4x64x64 .f32) : FVec F S4x64x64 .f32 :=
  shapeCast S4x64x64 (Host.dynamicSlice S1x4x64x64 x (at4 i) sliceFits_S32x4x64x64_S1x4x64x64) shapeCasts_S1x4x64x64_S4x64x64

/-- Chunk `i` of the heads' attention replaced. -/
def putA (i : IVec S_ 32) (x : FVec F S32x4x64x64 .f32) (y : FVec F S4x64x64 .f32) : FVec F S32x4x64x64 .f32 :=
  Host.dynamicUpdateSlice x (broadcastInDim S1x4x64x64 ![1, 2, 3] bcast_S4x64x64_S1x4x64x64_1_2_3 y) (at4 i) updateFits_S32x4x64x64_S1x4x64x64

/-- Chunk `i` of the heads' decays. -/
def slabE (i : IVec S_ 32) (x : FVec F S32x4x1x1 .f32) : FVec F S4x1x1 .f32 :=
  shapeCast S4x1x1 (Host.dynamicSlice S1x4x1x1 x (at4 i) sliceFits_S32x4x1x1_S1x4x1x1) shapeCasts_S1x4x1x1_S4x1x1

/-- Chunk `i` of the heads' decays replaced. -/
def putE (i : IVec S_ 32) (x : FVec F S32x4x1x1 .f32) (y : FVec F S4x1x1 .f32) : FVec F S32x4x1x1 .f32 :=
  Host.dynamicUpdateSlice x (broadcastInDim S1x4x1x1 ![1, 2, 3] bcast_S4x1x1_S1x4x1x1_1_2_3 y) (at4 i) updateFits_S32x4x1x1_S1x4x1x1

/-- Chunk `i` of the heads' numbers. -/
def slabG (i : IVec S_ 32) (x : FVec F S32x4 .f32) : FVec F S4 .f32 :=
  shapeCast S4 (Host.dynamicSlice S1x4 x (at2 i) sliceFits_S32x4_S1x4) shapeCasts_S1x4_S4
/-- Chunk `i` of the heads' numbers replaced. -/
def putG (i : IVec S_ 32) (x : FVec F S32x4 .f32) (y : FVec F S4 .f32) : FVec F S32x4 .f32 :=
  Host.dynamicUpdateSlice x (broadcastInDim S1x4 ![1] bcast_S4_S1x4_1 y) (at2 i) updateFits_S32x4_S1x4

section
variable (i : IVec S_ 32) (k : Fin 32) (hi : i = fun _ => Scf.iv 0#32 1#32 k.val)
include hi
theorem at4_0 : at4 i 0 = k.val := by subst hi; exact iv_toInt k
theorem at2_0 : at2 i 0 = k.val := by subst hi; exact iv_toInt k
end
theorem at4_1 (i : IVec S_ 32) : at4 i 1 = (0 : ℕ) := rfl
theorem at4_2 (i : IVec S_ 32) : at4 i 2 = (0 : ℕ) := rfl
theorem at4_3 (i : IVec S_ 32) : at4 i 3 = (0 : ℕ) := rfl
theorem at2_1 (i : IVec S_ 32) : at2 i 1 = (0 : ℕ) := rfl

theorem slab_apply (i : IVec S_ 32) (k : Fin 32) (hi : i = fun _ => Scf.iv 0#32 1#32 k.val) (x : FVec F S32x4x64x128 .f32)
    (h : Fin 4) (r : Fin 64) (c : Fin 128) : slab i x (ix3 h r c) = x (ix4 k h r c) := by
  have e0 : Host.clampedStart S32x4x64x128 S1x4x64x128 rfl (at4 i) 0 = k.val := Host.clampedStart_of_le (s := S32x4x64x128) (t := S1x4x64x128) rfl _ 0 k.val (at4_0 i k hi) (by exact k.isLt)
  have e1 : Host.clampedStart S32x4x64x128 S1x4x64x128 rfl (at4 i) 1 = 0 := Host.clampedStart_of_le (s := S32x4x64x128) (t := S1x4x64x128) rfl _ 1 0 (at4_1 i) (by decide)
  have e2 : Host.clampedStart S32x4x64x128 S1x4x64x128 rfl (at4 i) 2 = 0 := Host.clampedStart_of_le (s := S32x4x64x128) (t := S1x4x64x128) rfl _ 2 0 (at4_2 i) (by decide)
  have e3 : Host.clampedStart S32x4x64x128 S1x4x64x128 rfl (at4 i) 3 = 0 := Host.clampedStart_of_le (s := S32x4x64x128) (t := S1x4x64x128) rfl _ 3 0 (at4_3 i) (by decide)
  pointwise [slab]
  simp only [e0, e1, e2, e3, Nat.zero_add, Fin.eta]
theorem put_apply (i : IVec S_ 32) (k : Fin 32) (hi : i = fun _ => Scf.iv 0#32 1#32 k.val) (x : FVec F S32x4x64x128 .f32)
    (y : FVec F S4x64x128 .f32) (n : Fin 32) (h : Fin 4) (r : Fin 64) (c : Fin 128) :
    put i x y (ix4 n h r c) = if n = k then y (ix3 h r c) else x (ix4 n h r c) := by
  have e0 : Host.clampedStart S32x4x64x128 S1x4x64x128 rfl (at4 i) 0 = k.val := Host.clampedStart_of_le (s := S32x4x64x128) (t := S1x4x64x128) rfl _ 0 k.val (at4_0 i k hi) (by exact k.isLt)
  have e1 : Host.clampedStart S32x4x64x128 S1x4x64x128 rfl (at4 i) 1 = 0 := Host.clampedStart_of_le (s := S32x4x64x128) (t := S1x4x64x128) rfl _ 1 0 (at4_1 i) (by decide)
  have e2 : Host.clampedStart S32x4x64x128 S1x4x64x128 rfl (at4 i) 2 = 0 := Host.clampedStart_of_le (s := S32x4x64x128) (t := S1x4x64x128) rfl _ 2 0 (at4_2 i) (by decide)
  have e3 : Host.clampedStart S32x4x64x128 S1x4x64x128 rfl (at4 i) 3 = 0 := Host.clampedStart_of_le (s := S32x4x64x128) (t := S1x4x64x128) rfl _ 3 0 (at4_3 i) (by decide)
  pointwise [put]
  simp only [e0, e1, e2, e3, Nat.sub_zero, Fin.eta, Nat.zero_le, and_true]
  by_cases hn : n = k
  · subst hn; simp
  · rw [dif_neg (fun hc => hn (Fin.ext (by omega))), if_neg hn]

theorem slabS_apply (i : IVec S_ 32) (k : Fin 32) (hi : i = fun _ => Scf.iv 0#32 1#32 k.val) (x : FVec F S32x4x128x128 .f32)
    (h : Fin 4) (r : Fin 128) (c : Fin 128) : slabS i x (ix3 h r c) = x (ix4 k h r c) := by
  have e0 : Host.clampedStart S32x4x128x128 S1x4x128x128 rfl (at4 i) 0 = k.val := Host.clampedStart_of_le (s := S32x4x128x128) (t := S1x4x128x128) rfl _ 0 k.val (at4_0 i k hi) (by exact k.isLt)
  have e1 : Host.clampedStart S32x4x128x128 S1x4x128x128 rfl (at4 i) 1 = 0 := Host.clampedStart_of_le (s := S32x4x128x128) (t := S1x4x128x128) rfl _ 1 0 (at4_1 i) (by decide)
  have e2 : Host.clampedStart S32x4x128x128 S1x4x128x128 rfl (at4 i) 2 = 0 := Host.clampedStart_of_le (s := S32x4x128x128) (t := S1x4x128x128) rfl _ 2 0 (at4_2 i) (by decide)
  have e3 : Host.clampedStart S32x4x128x128 S1x4x128x128 rfl (at4 i) 3 = 0 := Host.clampedStart_of_le (s := S32x4x128x128) (t := S1x4x128x128) rfl _ 3 0 (at4_3 i) (by decide)
  pointwise [slabS]
  simp only [e0, e1, e2, e3, Nat.zero_add, Fin.eta]
theorem putS_apply (i : IVec S_ 32) (k : Fin 32) (hi : i = fun _ => Scf.iv 0#32 1#32 k.val) (x : FVec F S32x4x128x128 .f32)
    (y : FVec F S4x128x128 .f32) (n : Fin 32) (h : Fin 4) (r : Fin 128) (c : Fin 128) :
    putS i x y (ix4 n h r c) = if n = k then y (ix3 h r c) else x (ix4 n h r c) := by
  have e0 : Host.clampedStart S32x4x128x128 S1x4x128x128 rfl (at4 i) 0 = k.val := Host.clampedStart_of_le (s := S32x4x128x128) (t := S1x4x128x128) rfl _ 0 k.val (at4_0 i k hi) (by exact k.isLt)
  have e1 : Host.clampedStart S32x4x128x128 S1x4x128x128 rfl (at4 i) 1 = 0 := Host.clampedStart_of_le (s := S32x4x128x128) (t := S1x4x128x128) rfl _ 1 0 (at4_1 i) (by decide)
  have e2 : Host.clampedStart S32x4x128x128 S1x4x128x128 rfl (at4 i) 2 = 0 := Host.clampedStart_of_le (s := S32x4x128x128) (t := S1x4x128x128) rfl _ 2 0 (at4_2 i) (by decide)
  have e3 : Host.clampedStart S32x4x128x128 S1x4x128x128 rfl (at4 i) 3 = 0 := Host.clampedStart_of_le (s := S32x4x128x128) (t := S1x4x128x128) rfl _ 3 0 (at4_3 i) (by decide)
  pointwise [putS]
  simp only [e0, e1, e2, e3, Nat.sub_zero, Fin.eta, Nat.zero_le, and_true]
  by_cases hn : n = k
  · subst hn; simp
  · rw [dif_neg (fun hc => hn (Fin.ext (by omega))), if_neg hn]

theorem slabA_apply (i : IVec S_ 32) (k : Fin 32) (hi : i = fun _ => Scf.iv 0#32 1#32 k.val) (x : FVec F S32x4x64x64 .f32)
    (h : Fin 4) (r : Fin 64) (c : Fin 64) : slabA i x (ix3 h r c) = x (ix4 k h r c) := by
  have e0 : Host.clampedStart S32x4x64x64 S1x4x64x64 rfl (at4 i) 0 = k.val := Host.clampedStart_of_le (s := S32x4x64x64) (t := S1x4x64x64) rfl _ 0 k.val (at4_0 i k hi) (by exact k.isLt)
  have e1 : Host.clampedStart S32x4x64x64 S1x4x64x64 rfl (at4 i) 1 = 0 := Host.clampedStart_of_le (s := S32x4x64x64) (t := S1x4x64x64) rfl _ 1 0 (at4_1 i) (by decide)
  have e2 : Host.clampedStart S32x4x64x64 S1x4x64x64 rfl (at4 i) 2 = 0 := Host.clampedStart_of_le (s := S32x4x64x64) (t := S1x4x64x64) rfl _ 2 0 (at4_2 i) (by decide)
  have e3 : Host.clampedStart S32x4x64x64 S1x4x64x64 rfl (at4 i) 3 = 0 := Host.clampedStart_of_le (s := S32x4x64x64) (t := S1x4x64x64) rfl _ 3 0 (at4_3 i) (by decide)
  pointwise [slabA]
  simp only [e0, e1, e2, e3, Nat.zero_add, Fin.eta]
theorem putA_apply (i : IVec S_ 32) (k : Fin 32) (hi : i = fun _ => Scf.iv 0#32 1#32 k.val) (x : FVec F S32x4x64x64 .f32)
    (y : FVec F S4x64x64 .f32) (n : Fin 32) (h : Fin 4) (r : Fin 64) (c : Fin 64) :
    putA i x y (ix4 n h r c) = if n = k then y (ix3 h r c) else x (ix4 n h r c) := by
  have e0 : Host.clampedStart S32x4x64x64 S1x4x64x64 rfl (at4 i) 0 = k.val := Host.clampedStart_of_le (s := S32x4x64x64) (t := S1x4x64x64) rfl _ 0 k.val (at4_0 i k hi) (by exact k.isLt)
  have e1 : Host.clampedStart S32x4x64x64 S1x4x64x64 rfl (at4 i) 1 = 0 := Host.clampedStart_of_le (s := S32x4x64x64) (t := S1x4x64x64) rfl _ 1 0 (at4_1 i) (by decide)
  have e2 : Host.clampedStart S32x4x64x64 S1x4x64x64 rfl (at4 i) 2 = 0 := Host.clampedStart_of_le (s := S32x4x64x64) (t := S1x4x64x64) rfl _ 2 0 (at4_2 i) (by decide)
  have e3 : Host.clampedStart S32x4x64x64 S1x4x64x64 rfl (at4 i) 3 = 0 := Host.clampedStart_of_le (s := S32x4x64x64) (t := S1x4x64x64) rfl _ 3 0 (at4_3 i) (by decide)
  pointwise [putA]
  simp only [e0, e1, e2, e3, Nat.sub_zero, Fin.eta, Nat.zero_le, and_true]
  by_cases hn : n = k
  · subst hn; simp
  · rw [dif_neg (fun hc => hn (Fin.ext (by omega))), if_neg hn]

theorem slabE_apply (i : IVec S_ 32) (k : Fin 32) (hi : i = fun _ => Scf.iv 0#32 1#32 k.val) (x : FVec F S32x4x1x1 .f32)
    (h : Fin 4) (r : Fin 1) (c : Fin 1) : slabE i x (ix3 h r c) = x (ix4 k h r c) := by
  obtain rfl : r = 0 := Fin.eq_zero r
  obtain rfl : c = 0 := Fin.eq_zero c
  have e0 : Host.clampedStart S32x4x1x1 S1x4x1x1 rfl (at4 i) 0 = k.val := Host.clampedStart_of_le (s := S32x4x1x1) (t := S1x4x1x1) rfl _ 0 k.val (at4_0 i k hi) (by exact k.isLt)
  have e1 : Host.clampedStart S32x4x1x1 S1x4x1x1 rfl (at4 i) 1 = 0 := Host.clampedStart_of_le (s := S32x4x1x1) (t := S1x4x1x1) rfl _ 1 0 (at4_1 i) (by decide)
  have e2 : Host.clampedStart S32x4x1x1 S1x4x1x1 rfl (at4 i) 2 = 0 := Host.clampedStart_of_le (s := S32x4x1x1) (t := S1x4x1x1) rfl _ 2 0 (at4_2 i) (by decide)
  have e3 : Host.clampedStart S32x4x1x1 S1x4x1x1 rfl (at4 i) 3 = 0 := Host.clampedStart_of_le (s := S32x4x1x1) (t := S1x4x1x1) rfl _ 3 0 (at4_3 i) (by decide)
  pointwise [slabE]
  simp only [e0, e1, e2, e3, Nat.zero_add, Fin.eta]
  rfl
theorem putE_apply (i : IVec S_ 32) (k : Fin 32) (hi : i = fun _ => Scf.iv 0#32 1#32 k.val) (x : FVec F S32x4x1x1 .f32)
    (y : FVec F S4x1x1 .f32) (n : Fin 32) (h : Fin 4) (r : Fin 1) (c : Fin 1) :
    putE i x y (ix4 n h r c) = if n = k then y (ix3 h r c) else x (ix4 n h r c) := by
  obtain rfl : r = 0 := Fin.eq_zero r
  obtain rfl : c = 0 := Fin.eq_zero c
  have e0 : Host.clampedStart S32x4x1x1 S1x4x1x1 rfl (at4 i) 0 = k.val := Host.clampedStart_of_le (s := S32x4x1x1) (t := S1x4x1x1) rfl _ 0 k.val (at4_0 i k hi) (by exact k.isLt)
  have e1 : Host.clampedStart S32x4x1x1 S1x4x1x1 rfl (at4 i) 1 = 0 := Host.clampedStart_of_le (s := S32x4x1x1) (t := S1x4x1x1) rfl _ 1 0 (at4_1 i) (by decide)
  have e2 : Host.clampedStart S32x4x1x1 S1x4x1x1 rfl (at4 i) 2 = 0 := Host.clampedStart_of_le (s := S32x4x1x1) (t := S1x4x1x1) rfl _ 2 0 (at4_2 i) (by decide)
  have e3 : Host.clampedStart S32x4x1x1 S1x4x1x1 rfl (at4 i) 3 = 0 := Host.clampedStart_of_le (s := S32x4x1x1) (t := S1x4x1x1) rfl _ 3 0 (at4_3 i) (by decide)
  pointwise [putE]
  simp only [e0, e1, e2, e3, Nat.sub_zero, Fin.eta, Nat.zero_le, and_true]
  by_cases hn : n = k
  · subst hn; simp
  · rw [dif_neg (fun hc => hn (Fin.ext (by omega))), if_neg hn]

theorem slabG_apply (i : IVec S_ 32) (k : Fin 32) (hi : i = fun _ => Scf.iv 0#32 1#32 k.val) (x : FVec F S32x4 .f32)
    (h : Fin 4) : slabG i x (ix1 h) = x (ix2 k h) := by
  have e0 : Host.clampedStart S32x4 S1x4 rfl (at2 i) 0 = k.val := Host.clampedStart_of_le (s := S32x4) (t := S1x4) rfl _ 0 k.val (at2_0 i k hi) (by exact k.isLt)
  have e1 : Host.clampedStart S32x4 S1x4 rfl (at2 i) 1 = 0 := Host.clampedStart_of_le (s := S32x4) (t := S1x4) rfl _ 1 0 (at2_1 i) (by decide)
  pointwise [slabG]
  simp only [e0, e1, Nat.zero_add, Fin.eta]
theorem putG_apply (i : IVec S_ 32) (k : Fin 32) (hi : i = fun _ => Scf.iv 0#32 1#32 k.val) (x : FVec F S32x4 .f32)
    (y : FVec F S4 .f32) (n : Fin 32) (h : Fin 4) :
    putG i x y (ix2 n h) = if n = k then y (ix1 h) else x (ix2 n h) := by
  have e0 : Host.clampedStart S32x4 S1x4 rfl (at2 i) 0 = k.val := Host.clampedStart_of_le (s := S32x4) (t := S1x4) rfl _ 0 k.val (at2_0 i k hi) (by exact k.isLt)
  have e1 : Host.clampedStart S32x4 S1x4 rfl (at2 i) 1 = 0 := Host.clampedStart_of_le (s := S32x4) (t := S1x4) rfl _ 1 0 (at2_1 i) (by decide)
  pointwise [putG]
  simp only [e0, e1, Nat.sub_zero, Fin.eta, Nat.zero_le, and_true]
  by_cases hn : n = k
  · subst hn; simp
  · rw [dif_neg (fun hc => hn (Fin.ext (by omega))), if_neg hn]

/-! ## The forward trip -/

/-- `u − w·S` on the four heads. -/
def vnew (u w : FVec F S4x64x128 .f32) (S : FVec F S4x128x128 .f32) : FVec F S4x64x128 .f32 :=
  subf u (Host.dotGeneral dot_S4x64x128_S4x128x128_S4x64x128_2_1_1_2_0_0 none w S)
/-- `q·S + a·v` on the four heads. -/
def out (q : FVec F S4x64x128 .f32) (a : FVec F S4x64x64 .f32) (S : FVec F S4x128x128 .f32) (v : FVec F S4x64x128 .f32) : FVec F S4x64x128 .f32 :=
  addf (Host.dotGeneral dot_S4x64x128_S4x128x128_S4x64x128_2_1_1_2_0_0 none q S) (Host.dotGeneral dot_S4x64x64_S4x64x128_S4x64x128_2_1_1_2_0_0 none a v)
/-- The heads' decays under two unit axes. -/
def wide (e : FVec F S4 .f32) : FVec F S4x1x1 .f32 := broadcastInDim S4x1x1 ![0] bcast_S4_S4x1x1_0 e
/-- `S·e + kᵀ·v` on the four heads. -/
def next (k : FVec F S4x64x128 .f32) (e : FVec F S4x1x1 .f32) (S : FVec F S4x128x128 .f32) (v : FVec F S4x64x128 .f32) : FVec F S4x128x128 .f32 :=
  addf (mulf S (broadcastInDim S4x128x128 ![0, 1, 2] bcast_S4x1x1_S4x128x128_0_1_2 e))
    (Host.dotGeneral dot_S4x64x128_S4x64x128_S4x128x128_1_1_2_2_0_0 none k v)

section
variable (V : Valuation τ sig (Elt F))

/-- The corrected values that the trip computes. -/
abbrev fv (i : IVec S_ 32) : FVec F S4x64x128 .f32 :=
  vnew (slab i (V (Proc.devRef .tc main_v26_0))) (slab i (V (Proc.devRef .tc main_v26_1))) (V (Proc.devRef .tc main_v26_7))

set_option maxHeartbeats 4000000 in
/-- The state after the trip. -/
theorem fwd_state (i : IVec S_ 32) (hi : V (Proc.devRef .tc main_v26_6) = i) :
    afterL body0 V (Proc.devRef .tc main_v26_7) = next (slab i (V (Proc.devRef .tc main_v26_3))) (wide (slabG i (V (Proc.devRef .tc main_v26_5)))) (V (Proc.devRef .tc main_v26_7)) (fv V i) := by
  subst hi
  simp only [afterL_cons, afterL_nil]
  after_reads_simp [unaryIndexed_result_read, binaryIndexed_result_read, indexContents_tref_cons, indexContents_tref_empty, TRef.ofBuf_toBuf]
  rfl

set_option maxHeartbeats 4000000 in
/-- The stacked outputs after the trip. -/
theorem fwd_o (i : IVec S_ 32) (hi : V (Proc.devRef .tc main_v26_6) = i) :
    afterL body0 V (Proc.devRef .tc main_v26_8) = put i (V (Proc.devRef .tc main_v26_8)) (out (slab i (V (Proc.devRef .tc main_v26_2))) (slabA i (V (Proc.devRef .tc main_v26_4))) (V (Proc.devRef .tc main_v26_7)) (fv V i)) := by
  subst hi
  simp only [afterL_cons, afterL_nil]
  after_reads_simp [unaryIndexed_result_read, binaryIndexed_result_read, indexContents_tref_cons, indexContents_tref_empty, TRef.ofBuf_toBuf]
  rfl

set_option maxHeartbeats 4000000 in
/-- The stacked states after the trip. -/
theorem fwd_s (i : IVec S_ 32) (hi : V (Proc.devRef .tc main_v26_6) = i) :
    afterL body0 V (Proc.devRef .tc main_v26_9) = putS i (V (Proc.devRef .tc main_v26_9)) (V (Proc.devRef .tc main_v26_7)) := by
  subst hi
  simp only [afterL_cons, afterL_nil]
  after_reads_simp [unaryIndexed_result_read, binaryIndexed_result_read, indexContents_tref_cons, indexContents_tref_empty, TRef.ofBuf_toBuf]
  rfl

set_option maxHeartbeats 4000000 in
/-- The stacked corrected values after the trip. -/
theorem fwd_v (i : IVec S_ 32) (hi : V (Proc.devRef .tc main_v26_6) = i) :
    afterL body0 V (Proc.devRef .tc main_v26_10) = put i (V (Proc.devRef .tc main_v26_10)) (fv V i) := by
  subst hi
  simp only [afterL_cons, afterL_nil]
  after_reads_simp [unaryIndexed_result_read, binaryIndexed_result_read, indexContents_tref_cons, indexContents_tref_empty, TRef.ofBuf_toBuf]
  rfl

set_option maxHeartbeats 4000000 in
/-- The stacked decays after the trip. -/
theorem fwd_e (i : IVec S_ 32) (hi : V (Proc.devRef .tc main_v26_6) = i) :
    afterL body0 V (Proc.devRef .tc main_v26_11) = putE i (V (Proc.devRef .tc main_v26_11)) (wide (slabG i (V (Proc.devRef .tc main_v26_5)))) := by
  subst hi
  simp only [afterL_cons, afterL_nil]
  after_reads_simp [unaryIndexed_result_read, binaryIndexed_result_read, indexContents_tref_cons, indexContents_tref_empty, TRef.ofBuf_toBuf]
  rfl

end

/-! ## The backward trip

The cotangents, on the four heads: `x` of the output, `D` of the state after the chunk, `v` the corrected values, `S`
the state before the chunk. -/

/-- Of the corrected values. -/
def dval (k : FVec F S4x64x128 .f32) (a : FVec F S4x64x64 .f32) (D : FVec F S4x128x128 .f32) (x : FVec F S4x64x128 .f32) : FVec F S4x64x128 .f32 :=
  addf (transpose S4x64x128 [0, 2, 1] (Host.dotGeneral dot_S4x128x128_S4x64x128_S4x128x64_1_2_2_1_0_0 none D k) transposes_S4x128x64_S4x64x128_0_2_1)
    (transpose S4x64x128 [0, 2, 1] (Host.dotGeneral dot_S4x64x128_S4x64x64_S4x128x64_1_1_2_2_0_0 none x a) transposes_S4x128x64_S4x64x128_0_2_1)
/-- Of the keys. -/
def dkey (D : FVec F S4x128x128 .f32) (v : FVec F S4x64x128 .f32) : FVec F S4x64x128 .f32 :=
  transpose S4x64x128 [0, 2, 1] (Host.dotGeneral dot_S4x128x128_S4x64x128_S4x128x64_2_2_1_1_0_0 none D v) transposes_S4x128x64_S4x64x128_0_2_1
/-- Of the attention. -/
def datt (v x : FVec F S4x64x128 .f32) : FVec F S4x64x64 .f32 := Host.dotGeneral dot_S4x64x128_S4x64x128_S4x64x64_2_2_1_1_0_0 none x v
/-- Rows times the transposed state. -/
def back (S : FVec F S4x128x128 .f32) (x : FVec F S4x64x128 .f32) : FVec F S4x64x128 .f32 :=
  Host.dotGeneral dot_S4x64x128_S4x128x128_S4x64x128_2_2_1_1_0_0 none x S
/-- The product over the rows, transposed. -/
def outer (q x : FVec F S4x64x128 .f32) : FVec F S4x128x128 .f32 :=
  transpose S4x128x128 [0, 2, 1] (Host.dotGeneral dot_S4x64x128_S4x64x128_S4x128x128_1_1_2_2_0_0 none x q) transposes_S4x128x128_S4x128x128_0_2_1
/-- Of the state before the chunk. -/
def prev (e : FVec F S4x1x1 .f32) (q w : FVec F S4x64x128 .f32) (D : FVec F S4x128x128 .f32) (x y : FVec F S4x64x128 .f32) : FVec F S4x128x128 .f32 :=
  addf (addf (mulf D (broadcastInDim S4x128x128 ![0, 1, 2] bcast_S4x1x1_S4x128x128_0_1_2 e)) (outer q x)) (outer w (Host.negf y))
/-- Of the decay. -/
def ddec (S D : FVec F S4x128x128 .f32) : FVec F S4 .f32 :=
  Host.reduceAdd (shapeCast S4x1x1 (Host.reduceAdd (mulf S D) (constant S_ .f32 0x00000000#32) reducesTo_S4x128x128_S4_d1_2 h_S_) shapeCasts_S4_S4x1x1)
    (constant S_ .f32 0x00000000#32) reducesTo_S4x1x1_S4_d1_2 h_S_

section
variable (V : Valuation τ sig (Elt F))

/-- The corrected values' cotangent that the trip computes. -/
abbrev bv (i : IVec S_ 32) : FVec F S4x64x128 .f32 :=
  dval (slab i (V (Proc.devRef .tc main_v86_7))) (slabA i (V (Proc.devRef .tc main_v86_5))) (V (Proc.devRef .tc main_v86_9)) (slab i (V (Proc.devRef .tc main_v86_0)))

set_option maxHeartbeats 4000000 in
/-- The carried cotangent after the trip. -/
theorem bwd_state (i : IVec S_ 32) (hi : subi (subi (constantI S_ 32 32#32) (V (Proc.devRef .tc main_v86_8))) (constantI S_ 32 1#32) = i) :
    afterL body1 V (Proc.devRef .tc main_v86_9) = prev (slabE i (V (Proc.devRef .tc main_v86_6))) (slab i (V (Proc.devRef .tc main_v86_3))) (slab i (V (Proc.devRef .tc main_v86_2))) (V (Proc.devRef .tc main_v86_9)) (slab i (V (Proc.devRef .tc main_v86_0))) (bv V i) := by
  subst hi
  simp only [afterL_cons, afterL_nil]
  after_reads_simp [unaryIndexed_result_read, binaryIndexed_result_read, indexContents_tref_cons, indexContents_tref_empty, TRef.ofBuf_toBuf]
  rfl

set_option maxHeartbeats 4000000 in
/-- The stacked cotangents of `u` after the trip. -/
theorem bwd_u (i : IVec S_ 32) (hi : subi (subi (constantI S_ 32 32#32) (V (Proc.devRef .tc main_v86_8))) (constantI S_ 32 1#32) = i) :
    afterL body1 V (Proc.devRef .tc main_v86_10) = put i (V (Proc.devRef .tc main_v86_10)) (bv V i) := by
  subst hi
  simp only [afterL_cons, afterL_nil]
  after_reads_simp [unaryIndexed_result_read, binaryIndexed_result_read, indexContents_tref_cons, indexContents_tref_empty, TRef.ofBuf_toBuf]
  rfl

set_option maxHeartbeats 4000000 in
/-- The stacked cotangents of `w` after the trip. -/
theorem bwd_w (i : IVec S_ 32) (hi : subi (subi (constantI S_ 32 32#32) (V (Proc.devRef .tc main_v86_8))) (constantI S_ 32 1#32) = i) :
    afterL body1 V (Proc.devRef .tc main_v86_11) = put i (V (Proc.devRef .tc main_v86_11)) (back (slabS i (V (Proc.devRef .tc main_v86_1))) (Host.negf (bv V i))) := by
  subst hi
  simp only [afterL_cons, afterL_nil]
  after_reads_simp [unaryIndexed_result_read, binaryIndexed_result_read, indexContents_tref_cons, indexContents_tref_empty, TRef.ofBuf_toBuf]
  rfl

set_option maxHeartbeats 4000000 in
/-- The stacked cotangents of the queries after the trip. -/
theorem bwd_q (i : IVec S_ 32) (hi : subi (subi (constantI S_ 32 32#32) (V (Proc.devRef .tc main_v86_8))) (constantI S_ 32 1#32) = i) :
    afterL body1 V (Proc.devRef .tc main_v86_12) = put i (V (Proc.devRef .tc main_v86_12)) (back (slabS i (V (Proc.devRef .tc main_v86_1))) (slab i (V (Proc.devRef .tc main_v86_0)))) := by
  subst hi
  simp only [afterL_cons, afterL_nil]
  after_reads_simp [unaryIndexed_result_read, binaryIndexed_result_read, indexContents_tref_cons, indexContents_tref_empty, TRef.ofBuf_toBuf]
  rfl

set_option maxHeartbeats 4000000 in
/-- The stacked cotangents of the keys after the trip. -/
theorem bwd_k (i : IVec S_ 32) (hi : subi (subi (constantI S_ 32 32#32) (V (Proc.devRef .tc main_v86_8))) (constantI S_ 32 1#32) = i) :
    afterL body1 V (Proc.devRef .tc main_v86_13) = put i (V (Proc.devRef .tc main_v86_13)) (dkey (V (Proc.devRef .tc main_v86_9)) (slab i (V (Proc.devRef .tc main_v86_4)))) := by
  subst hi
  simp only [afterL_cons, afterL_nil]
  after_reads_simp [unaryIndexed_result_read, binaryIndexed_result_read, indexContents_tref_cons, indexContents_tref_empty, TRef.ofBuf_toBuf]
  rfl

set_option maxHeartbeats 4000000 in
/-- The stacked cotangents of the attention after the trip. -/
theorem bwd_a (i : IVec S_ 32) (hi : subi (subi (constantI S_ 32 32#32) (V (Proc.devRef .tc main_v86_8))) (constantI S_ 32 1#32) = i) :
    afterL body1 V (Proc.devRef .tc main_v86_14) = putA i (V (Proc.devRef .tc main_v86_14)) (datt (slab i (V (Proc.devRef .tc main_v86_4))) (slab i (V (Proc.devRef .tc main_v86_0)))) := by
  subst hi
  simp only [afterL_cons, afterL_nil]
  after_reads_simp [unaryIndexed_result_read, binaryIndexed_result_read, indexContents_tref_cons, indexContents_tref_empty, TRef.ofBuf_toBuf]
  rfl

set_option maxHeartbeats 4000000 in
/-- The stacked cotangents of the decays after the trip. -/
theorem bwd_g (i : IVec S_ 32) (hi : subi (subi (constantI S_ 32 32#32) (V (Proc.devRef .tc main_v86_8))) (constantI S_ 32 1#32) = i) :
    afterL body1 V (Proc.devRef .tc main_v86_15) = putG i (V (Proc.devRef .tc main_v86_15)) (ddec (slabS i (V (Proc.devRef .tc main_v86_1))) (V (Proc.devRef .tc main_v86_9))) := by
  subst hi
  simp only [afterL_cons, afterL_nil]
  after_reads_simp [unaryIndexed_result_read, binaryIndexed_result_read, indexContents_tref_cons, indexContents_tref_empty, TRef.ofBuf_toBuf]
  rfl

end

end Cert.ReferenceIdeal.Loop

end

end
-- ==== Proof.RefPoint.lean ====
module

public import proofs.«01_k».proof.Proof.RefLoop
public import proofs.«01_k».proof.Proof.Model

@[expose] public section

set_option maxRecDepth 16384

noncomputable section

/-! # The reference's trips at an entry

Over the extended reals each of a trip's functions on the four heads is, at head `h`, the model's function of that
head's arrays. -/

namespace Cert.ReferenceIdeal.Loop

open Idealize.ShloMosaic Cert.ReferenceIdeal Cert.ReferenceIdeal.Gen

/-- Head `h` of an array. -/
abbrev hd {a b : ℕ} (h : Fin 4) (x : FVec Ideal ⟨3, ![4, a, b]⟩ .f32) : Gdn.M a b := fun r c => x (ix3 h r c)

variable (h : Fin 4)

theorem vnew_hd (u w : FVec Ideal S4x64x128 .f32) (S : FVec Ideal S4x128x128 .f32) :
    hd h (vnew u w S) = Gdn.vn (hd h u) (hd h w) (hd h S) := by
  funext r c
  pointwise [hd, vnew, Gdn.vn]
theorem out_hd (q : FVec Ideal S4x64x128 .f32) (a : FVec Ideal S4x64x64 .f32) (S : FVec Ideal S4x128x128 .f32) (v : FVec Ideal S4x64x128 .f32) :
    hd h (out q a S v) = Gdn.out (hd h q) (hd h a) (hd h S) (hd h v) := by
  funext r c
  pointwise [hd, out, Gdn.out]
theorem next_hd (k : FVec Ideal S4x64x128 .f32) (e : FVec Ideal S4x1x1 .f32) (S : FVec Ideal S4x128x128 .f32) (v : FVec Ideal S4x64x128 .f32) :
    hd h (next k e S v) = Gdn.next (hd h k) (e (ix3 h 0 0)) (hd h S) (hd h v) := by
  funext r c
  pointwise [hd, next, Gdn.next]
theorem wide_hd (e : FVec Ideal S4 .f32) (i j : Fin 1) : wide e (ix3 h i j) = e (ix1 h) := by
  pointwise [wide]
theorem dval_hd (k : FVec Ideal S4x64x128 .f32) (a : FVec Ideal S4x64x64 .f32) (D : FVec Ideal S4x128x128 .f32) (x : FVec Ideal S4x64x128 .f32) :
    hd h (dval k a D x) = Gdn.dval (hd h k) (hd h a) (hd h D) (hd h x) := by
  funext r c
  pointwise [hd, dval, Gdn.dval]
theorem dkey_hd (D : FVec Ideal S4x128x128 .f32) (v : FVec Ideal S4x64x128 .f32) : hd h (dkey D v) = Gdn.dkey (hd h D) (hd h v) := by
  funext r c
  pointwise [hd, dkey, Gdn.dkey]
theorem datt_hd (v x : FVec Ideal S4x64x128 .f32) : hd h (datt v x) = Gdn.datt (hd h v) (hd h x) := by
  funext r c
  pointwise [hd, datt, Gdn.datt]
theorem back_hd (S : FVec Ideal S4x128x128 .f32) (x : FVec Ideal S4x64x128 .f32) : hd h (back S x) = Gdn.back (hd h S) (hd h x) := by
  funext r c
  pointwise [hd, back, Gdn.back]
theorem neg_hd (x : FVec Ideal S4x64x128 .f32) : hd h (Host.negf x) = Gdn.neg (hd h x) := by
  funext r c
  pointwise [hd, Gdn.neg]
theorem prev_hd (e : FVec Ideal S4x1x1 .f32) (q w : FVec Ideal S4x64x128 .f32) (D : FVec Ideal S4x128x128 .f32) (x y : FVec Ideal S4x64x128 .f32) :
    hd h (prev e q w D x y) = Gdn.prev (e (ix3 h 0 0)) (hd h q) (hd h w) (hd h D) (hd h x) (hd h y) := by
  funext r c
  pointwise [hd, prev, outer, Gdn.prev, Gdn.outer, Gdn.neg]
theorem ddec_hd (S D : FVec Ideal S4x128x128 .f32) : ddec S D (ix1 h) = Gdn.ddec (hd h S) (hd h D) := by
  pointwise [hd, ddec, Gdn.ddec]
  simp only [Finset.sum_const, Finset.card_univ, Fintype.card_fin, one_smul]

end Cert.ReferenceIdeal.Loop

end

end
-- ==== Proof.RefScan.lean ====
module

public import proofs.«01_k».proof.Proof.RefPoint
public import proofs.«01_k».proof.Proof.RefKeeps

@[expose] public section

set_option maxRecDepth 16384

noncomputable section

/-! # The reference's two loops

Entered with the four heads' chunks stacked, the first loop leaves the model's outputs and states, the second the model's
cotangents: after `k` trips those of the first, and of the last, `k` chunks. -/

namespace Cert.ReferenceIdeal.Loop

open Idealize.ShloMosaic Idealize.ShloMosaic.TcCoe Idealize.ShloMosaic.StableHlo Idealize.ShloMosaic.Pipeline
open Cert.ReferenceIdeal Cert.ReferenceIdeal.Gen Cert.ReferenceIdeal.Ops Cert.ReferenceIdeal.Run
open Cert.Gdn (In S D Da)

/-- Chunk `t` of head `h` in a stack. -/
abbrev sk {a b : ℕ} (x : FVec Ideal ⟨4, ![32, 4, a, b]⟩ .f32) (t : Fin 32) (h : Fin 4) : Gdn.M a b := fun r c => x (ix4 t h r c)

section
variable (i : IVec S_ 32) (k : Fin 32) (hi : i = fun _ => Scf.iv 0#32 1#32 k.val) (h : Fin 4)
include hi

theorem slab_sk (x : FVec Ideal S32x4x64x128 .f32) : hd h (slab i x) = sk x k h := by
  funext r c
  exact slab_apply i k hi x h r c
theorem put_sk (x : FVec Ideal S32x4x64x128 .f32) (y : FVec Ideal S4x64x128 .f32) (t : Fin 32) : sk (put i x y) t h = if t = k then hd h y else sk x t h := by
  funext r c
  refine (put_apply i k hi x y t h r c).trans ?_
  split <;> rfl
theorem slabS_sk (x : FVec Ideal S32x4x128x128 .f32) : hd h (slabS i x) = sk x k h := by
  funext r c
  exact slabS_apply i k hi x h r c
theorem putS_sk (x : FVec Ideal S32x4x128x128 .f32) (y : FVec Ideal S4x128x128 .f32) (t : Fin 32) : sk (putS i x y) t h = if t = k then hd h y else sk x t h := by
  funext r c
  refine (putS_apply i k hi x y t h r c).trans ?_
  split <;> rfl
theorem slabA_sk (x : FVec Ideal S32x4x64x64 .f32) : hd h (slabA i x) = sk x k h := by
  funext r c
  exact slabA_apply i k hi x h r c
theorem putA_sk (x : FVec Ideal S32x4x64x64 .f32) (y : FVec Ideal S4x64x64 .f32) (t : Fin 32) : sk (putA i x y) t h = if t = k then hd h y else sk x t h := by
  funext r c
  refine (putA_apply i k hi x y t h r c).trans ?_
  split <;> rfl
theorem slabE_sk (x : FVec Ideal S32x4x1x1 .f32) : hd h (slabE i x) = sk x k h := by
  funext r c
  exact slabE_apply i k hi x h r c
theorem putE_sk (x : FVec Ideal S32x4x1x1 .f32) (y : FVec Ideal S4x1x1 .f32) (t : Fin 32) : sk (putE i x y) t h = if t = k then hd h y else sk x t h := by
  funext r c
  refine (putE_apply i k hi x y t h r c).trans ?_
  split <;> rfl
end

abbrev Val := Valuation τ sig (Elt Ideal)

/-! ## The forward loop -/

/-- The loop's operands are the heads' chunks. -/
structure In0 (X : Fin 4 → Fin 32 → In) (V : Val) : Prop where
  u : ∀ t h, sk (V (Proc.devRef .tc main_v26_0)) t h = (X h t).u
  w : ∀ t h, sk (V (Proc.devRef .tc main_v26_1)) t h = (X h t).w
  q : ∀ t h, sk (V (Proc.devRef .tc main_v26_2)) t h = (X h t).q
  kd : ∀ t h, sk (V (Proc.devRef .tc main_v26_3)) t h = (X h t).k
  a : ∀ t h, sk (V (Proc.devRef .tc main_v26_4)) t h = (X h t).a
  e : ∀ (t : Fin 32) (h : Fin 4), V (Proc.devRef .tc main_v26_5) (ix2 t h) = (X h t).e

/-- After `k` trips: the state, and the first `k` chunks of what is stacked. -/
structure Inv0 (X : Fin 4 → Fin 32 → In) (V : Val) (k : ℕ) : Prop where
  s : ∀ h, hd h (V (Proc.devRef .tc main_v26_7)) = S (X h) k
  o : ∀ t h, t.val < k → sk (V (Proc.devRef .tc main_v26_8)) t h = (X h t).o (S (X h) t.val)
  p : ∀ t h, t.val < k → sk (V (Proc.devRef .tc main_v26_9)) t h = S (X h) t.val
  v : ∀ t h, t.val < k → sk (V (Proc.devRef .tc main_v26_10)) t h = (X h t).v (S (X h) t.val)
  e : ∀ t h, t.val < k → sk (V (Proc.devRef .tc main_v26_11)) t h = fun _ _ => (X h t).e

/-- The counter before trip `k`. -/
abbrev at0 (k : ℕ) : IVec S_ 32 := fun _ => Scf.iv 0#32 1#32 k

theorem lt_of_ne {t : Fin 32} {k : ℕ} (hk : k < 32) (h : t.val < k + 1) (n : ¬ t = ⟨k, hk⟩) : t.val < k := by
  have : t.val ≠ k := fun e => n (Fin.ext e)
  omega

section
variable (X : Fin 4 → Fin 32 → In) (V : Val) (k : ℕ) (hk : k < 32)
  (hi : V (Proc.devRef .tc main_v26_6) = at0 k) (I : In0 X V) (J : Inv0 X V k)
include hk hi I J

theorem fv_hd (h : Fin 4) : hd h (fv V (at0 k)) = (X h ⟨k, hk⟩).v (S (X h) k) := by
  rw [fv, vnew_hd, slab_sk (at0 k) ⟨k, hk⟩ rfl, slab_sk (at0 k) ⟨k, hk⟩ rfl, I.u, I.w, J.s]
  rfl
theorem wide_e (h : Fin 4) (r c : Fin 1) : (wide (slabG (at0 k) (V (Proc.devRef .tc main_v26_5))) : FVec Ideal S4x1x1 .f32) (ix3 h r c) = (X h ⟨k, hk⟩).e := by
  rw [wide_hd, slabG_apply (at0 k) ⟨k, hk⟩ rfl, I.e]

theorem step0 : Inv0 X (afterL body0 V) (k + 1) where
  s h := by
    rw [fwd_state V _ hi, next_hd, slab_sk (at0 k) ⟨k, hk⟩ rfl, I.kd, wide_e X V k hk hi I J, J.s, fv_hd X V k hk hi I J]
    exact (Gdn.S_succ (X h) ⟨k, hk⟩).symm
  o t h ht := by
    rw [fwd_o V _ hi, put_sk (at0 k) ⟨k, hk⟩ rfl]
    split
    · subst_vars
      rw [out_hd, slab_sk (at0 k) ⟨k, hk⟩ rfl, slabA_sk (at0 k) ⟨k, hk⟩ rfl, I.q, I.a, J.s, fv_hd X V k hk hi I J]
      rfl
    · exact J.o t h (lt_of_ne hk ht ‹_›)
  p t h ht := by
    rw [fwd_s V _ hi, putS_sk (at0 k) ⟨k, hk⟩ rfl]
    split
    · subst_vars; exact J.s h
    · exact J.p t h (lt_of_ne hk ht ‹_›)
  v t h ht := by
    rw [fwd_v V _ hi, put_sk (at0 k) ⟨k, hk⟩ rfl]
    split
    · subst_vars; exact fv_hd X V k hk hi I J h
    · exact J.v t h (lt_of_ne hk ht ‹_›)
  e t h ht := by
    rw [fwd_e V _ hi, putE_sk (at0 k) ⟨k, hk⟩ rfl]
    split
    · subst_vars; funext r c; exact wide_e X V k hk hi I J h r c
    · exact J.e t h (lt_of_ne hk ht ‹_›)
end

/-! ## The gradient's loop -/

/-- The loop's operands: the cotangent of the outputs, the saved states, and the chunks. -/
structure In1 (X : Fin 4 → Fin 32 → In) (V : Val) : Prop where
  c : ∀ t h, sk (V (Proc.devRef .tc main_v86_0)) t h = (X h t).c (S (X h) t.val)
  p : ∀ t h, sk (V (Proc.devRef .tc main_v86_1)) t h = S (X h) t.val
  w : ∀ t h, sk (V (Proc.devRef .tc main_v86_2)) t h = (X h t).w
  q : ∀ t h, sk (V (Proc.devRef .tc main_v86_3)) t h = (X h t).q
  v : ∀ t h, sk (V (Proc.devRef .tc main_v86_4)) t h = (X h t).v (S (X h) t.val)
  a : ∀ t h, sk (V (Proc.devRef .tc main_v86_5)) t h = (X h t).a
  e : ∀ t h, sk (V (Proc.devRef .tc main_v86_6)) t h = fun _ _ => (X h t).e
  kd : ∀ t h, sk (V (Proc.devRef .tc main_v86_7)) t h = (X h t).k

/-- After `k` trips: the carried cotangent, and the last `k` chunks of what is stacked. -/
structure Inv1 (X : Fin 4 → Fin 32 → In) (V : Val) (k : ℕ) : Prop where
  s : ∀ h, hd h (V (Proc.devRef .tc main_v86_9)) = D (X h) k
  u : ∀ t h, 32 ≤ t.val + k → sk (V (Proc.devRef .tc main_v86_10)) t h = (X h t).du (S (X h) t.val) (Da (X h) t)
  w : ∀ t h, 32 ≤ t.val + k → sk (V (Proc.devRef .tc main_v86_11)) t h = (X h t).dw (S (X h) t.val) (Da (X h) t)
  q : ∀ t h, 32 ≤ t.val + k → sk (V (Proc.devRef .tc main_v86_12)) t h = (X h t).dq (S (X h) t.val)
  kd : ∀ t h, 32 ≤ t.val + k → sk (V (Proc.devRef .tc main_v86_13)) t h = (X h t).dk (S (X h) t.val) (Da (X h) t)
  a : ∀ t h, 32 ≤ t.val + k → sk (V (Proc.devRef .tc main_v86_14)) t h = (X h t).da (S (X h) t.val)
  g : ∀ (t : Fin 32) (h : Fin 4), 32 ≤ t.val + k → V (Proc.devRef .tc main_v86_15) (ix2 t h) = Gdn.ddec (S (X h) t.val) (Da (X h) t)

/-- The trip's chunk. -/
abbrev K (k : ℕ) : Fin 32 := ⟨31 - k, by omega⟩
/-- The trip's position in the stacks. -/
abbrev pos (k : ℕ) : IVec S_ 32 := fun _ => Scf.iv 0#32 1#32 (K k).val

theorem le_of_ne (k : ℕ) (hk : k < 32) {t : Fin 32} (h : 32 ≤ t.val + (k + 1)) (n : ¬ t = K k) : 32 ≤ t.val + k := by
  have : t.val ≠ 31 - k := fun e => n (Fin.ext e)
  omega

theorem rev_ctr : ∀ k : Fin 32, IntOp.subi (IntOp.subi 32#32 (Scf.iv 0#32 1#32 k.val)) 1#32 = Scf.iv 0#32 1#32 (31 - k.val) := by
  decide +kernel

section
variable (X : Fin 4 → Fin 32 → In) (V : Val) (k : ℕ) (hk : k < 32)
  (hi : V (Proc.devRef .tc main_v86_8) = at0 k) (I : In1 X V) (J : Inv1 X V k)

include hk hi
theorem pos_eq : subi (subi (constantI S_ 32 32#32) (V (Proc.devRef .tc main_v86_8))) (constantI S_ 32 1#32) = pos k := by
  rw [hi]
  exact funext fun _ => rev_ctr ⟨k, hk⟩
include I J

theorem D_at (h : Fin 4) : hd h (V (Proc.devRef .tc main_v86_9)) = Da (X h) (K k) := by
  rw [J.s, Da]
  congr 1; dsimp only; omega
theorem bv_hd (h : Fin 4) : hd h (bv V (pos k)) = (X h (K k)).du (S (X h) (K k).val) (Da (X h) (K k)) := by
  rw [bv, dval_hd, slab_sk (pos k) (K k) rfl, slab_sk (pos k) (K k) rfl, slabA_sk (pos k) (K k) rfl, I.kd, I.a, I.c, D_at X V k hk hi I J]
  rfl

theorem step1 : Inv1 X (afterL body1 V) (k + 1) where
  s h := by
    have e : (⟨k, hk⟩ : Fin 32).rev = K k := by ext; rw [Fin.val_rev]; dsimp only; omega
    have eD := Gdn.D_succ (X h) ⟨k, hk⟩
    rw [e] at eD
    rw [bwd_state V _ (pos_eq V k hk hi), prev_hd, slab_sk (pos k) (K k) rfl, slab_sk (pos k) (K k) rfl, slab_sk (pos k) (K k) rfl, I.q, I.w, I.c,
      D_at X V k hk hi I J, bv_hd X V k hk hi I J]
    refine Eq.trans ?_ eD.symm
    rw [show (slabE (pos k) (V (Proc.devRef .tc main_v86_6)) : FVec Ideal S4x1x1 .f32) (ix3 h 0 0) = (X h (K k)).e from
      (congrFun (congrFun (slabE_sk (pos k) (K k) rfl h (V (Proc.devRef .tc main_v86_6))) 0) 0).trans (congrFun (congrFun (I.e (K k) h) 0) 0)]
    rfl
  u t h ht := by
    rw [bwd_u V _ (pos_eq V k hk hi), put_sk (pos k) (K k) rfl]
    split
    · subst_vars
      rw [bv_hd X V k hk hi I J]
    · exact J.u t h (le_of_ne k hk ht ‹_›)
  w t h ht := by
    rw [bwd_w V _ (pos_eq V k hk hi), put_sk (pos k) (K k) rfl]
    split
    · subst_vars
      rw [back_hd, neg_hd, slabS_sk (pos k) (K k) rfl, I.p, bv_hd X V k hk hi I J]
      rfl
    · exact J.w t h (le_of_ne k hk ht ‹_›)
  q t h ht := by
    rw [bwd_q V _ (pos_eq V k hk hi), put_sk (pos k) (K k) rfl]
    split
    · subst_vars
      rw [back_hd, slabS_sk (pos k) (K k) rfl, slab_sk (pos k) (K k) rfl, I.p, I.c]
      rfl
    · exact J.q t h (le_of_ne k hk ht ‹_›)
  kd t h ht := by
    rw [bwd_k V _ (pos_eq V k hk hi), put_sk (pos k) (K k) rfl]
    split
    · subst_vars
      rw [dkey_hd, slab_sk (pos k) (K k) rfl, I.v, D_at X V k hk hi I J]
      rfl
    · exact J.kd t h (le_of_ne k hk ht ‹_›)
  a t h ht := by
    rw [bwd_a V _ (pos_eq V k hk hi), putA_sk (pos k) (K k) rfl]
    split
    · subst_vars
      rw [datt_hd, slab_sk (pos k) (K k) rfl, slab_sk (pos k) (K k) rfl, I.v, I.c]
      rfl
    · exact J.a t h (le_of_ne k hk ht ‹_›)
  g t h ht := by
    rw [bwd_g V _ (pos_eq V k hk hi), putG_apply (pos k) (K k) rfl]
    split
    · subst_vars
      rw [ddec_hd, slabS_sk (pos k) (K k) rfl, I.p, D_at X V k hk hi I J]
    · exact J.g t h (le_of_ne k hk ht ‹_›)
end

/-! ## Thirty-two trips -/

variable (X : Fin 4 → Fin 32 → In) (W : Dev nD → Val) (c : Dev nD)

/-- A condition of the first loop changes nothing but its own two buffers. -/
theorem cond0_eq (V : Val) {r : Ref sig .tc} (h : r ∉ cond0Writes) : after condOps0 V (Proc.devRef .tc r) = V (Proc.devRef .tc r) := cond0_keeps h V
theorem cond1_eq (V : Val) {r : Ref sig .tc} (h : r ∉ cond1Writes) : after condOps1 V (Proc.devRef .tc r) = V (Proc.devRef .tc r) := cond1_keeps h V

theorem In0.of {V V' : Val} (I : In0 X V) (h : ∀ r ∈ [main_v26_0, main_v26_1, main_v26_2, main_v26_3, main_v26_4, main_v26_5],
    V' (Proc.devRef .tc r) = V (Proc.devRef .tc r)) : In0 X V' := by
  constructor
  · rw [h main_v26_0 (by decide)]; exact I.u
  · rw [h main_v26_1 (by decide)]; exact I.w
  · rw [h main_v26_2 (by decide)]; exact I.q
  · rw [h main_v26_3 (by decide)]; exact I.kd
  · rw [h main_v26_4 (by decide)]; exact I.a
  · rw [h main_v26_5 (by decide)]; exact I.e
theorem Inv0.of {V V' : Val} {k : ℕ} (J : Inv0 X V k) (h : ∀ r ∈ [main_v26_7, main_v26_8, main_v26_9, main_v26_10, main_v26_11],
    V' (Proc.devRef .tc r) = V (Proc.devRef .tc r)) : Inv0 X V' k := by
  constructor
  · rw [h main_v26_7 (by decide)]; exact J.s
  · rw [h main_v26_8 (by decide)]; exact J.o
  · rw [h main_v26_9 (by decide)]; exact J.p
  · rw [h main_v26_10 (by decide)]; exact J.v
  · rw [h main_v26_11 (by decide)]; exact J.e
theorem In1.of {V V' : Val} (I : In1 X V) (h : ∀ r ∈ [main_v86_0, main_v86_1, main_v86_2, main_v86_3, main_v86_4, main_v86_5, main_v86_6, main_v86_7],
    V' (Proc.devRef .tc r) = V (Proc.devRef .tc r)) : In1 X V' := by
  constructor
  · rw [h main_v86_0 (by decide)]; exact I.c
  · rw [h main_v86_1 (by decide)]; exact I.p
  · rw [h main_v86_2 (by decide)]; exact I.w
  · rw [h main_v86_3 (by decide)]; exact I.q
  · rw [h main_v86_4 (by decide)]; exact I.v
  · rw [h main_v86_5 (by decide)]; exact I.a
  · rw [h main_v86_6 (by decide)]; exact I.e
  · rw [h main_v86_7 (by decide)]; exact I.kd
theorem Inv1.of {V V' : Val} {k : ℕ} (J : Inv1 X V k) (h : ∀ r ∈ [main_v86_9, main_v86_10, main_v86_11, main_v86_12, main_v86_13, main_v86_14, main_v86_15],
    V' (Proc.devRef .tc r) = V (Proc.devRef .tc r)) : Inv1 X V' k := by
  constructor
  · rw [h main_v86_9 (by decide)]; exact J.s
  · rw [h main_v86_10 (by decide)]; exact J.u
  · rw [h main_v86_11 (by decide)]; exact J.w
  · rw [h main_v86_12 (by decide)]; exact J.q
  · rw [h main_v86_13 (by decide)]; exact J.kd
  · rw [h main_v86_14 (by decide)]; exact J.a
  · rw [h main_v86_15 (by decide)]; exact J.g

theorem keep0_in : ∀ r ∈ [main_v26_0, main_v26_1, main_v26_2, main_v26_3, main_v26_4, main_v26_5], r ∉ cond0Writes ∧ r ∉ body0Writes := by decide +kernel
theorem keep0_out : ∀ r ∈ [main_v26_7, main_v26_8, main_v26_9, main_v26_10, main_v26_11], r ∉ cond0Writes := by decide +kernel
theorem keep0_ctr : main_v26_6 ∉ cond0Writes := by decide +kernel

/-- Before the `k`-th condition. -/
theorem loop0 (I : In0 X (W c)) (h0 : W c (Proc.devRef .tc main_v26_6) = fun _ => (0#32 : BitVec 32)) (J : Inv0 X (W c) 0) :
    ∀ k ≤ 32, Inv0 X (atTrip condOps0 body0 W k c) k
  | 0, _ => by rw [atTrip_zero]; exact J
  | k + 1, hk => by
    rw [atTrip_succ]
    refine step0 X _ k hk ?_ ?_ ?_
    · exact (cond0_keeps keep0_ctr _).trans (ctr0_at W c h0 k)
    · exact I.of X fun r hr => (cond0_keeps (keep0_in r hr).1 _).trans (trip0_keeps W (keep0_in r hr).1 (keep0_in r hr).2 k c)
    · exact (loop0 I h0 J k (by omega)).of X fun r hr => cond0_keeps (keep0_out r hr) _

theorem keep1_in : ∀ r ∈ [main_v86_0, main_v86_1, main_v86_2, main_v86_3, main_v86_4, main_v86_5, main_v86_6, main_v86_7], r ∉ cond1Writes ∧ r ∉ body1Writes := by decide +kernel
theorem keep1_out : ∀ r ∈ [main_v86_9, main_v86_10, main_v86_11, main_v86_12, main_v86_13, main_v86_14, main_v86_15], r ∉ cond1Writes := by decide +kernel
theorem keep1_ctr : main_v86_8 ∉ cond1Writes := by decide +kernel

/-- Before the `k`-th condition. -/
theorem loop1 (I : In1 X (W c)) (h0 : W c (Proc.devRef .tc main_v86_8) = fun _ => (0#32 : BitVec 32)) (J : Inv1 X (W c) 0) :
    ∀ k ≤ 32, Inv1 X (atTrip condOps1 body1 W k c) k
  | 0, _ => by rw [atTrip_zero]; exact J
  | k + 1, hk => by
    rw [atTrip_succ]
    refine step1 X _ k hk ?_ ?_ ?_
    · exact (cond1_keeps keep1_ctr _).trans (ctr1_at W c h0 k)
    · exact I.of X fun r hr => (cond1_keeps (keep1_in r hr).1 _).trans (trip1_keeps W (keep1_in r hr).1 (keep1_in r hr).2 k c)
    · exact (loop1 I h0 J k (by omega)).of X fun r hr => cond1_keeps (keep1_out r hr) _

end Cert.ReferenceIdeal.Loop

end

end
-- ==== Proof.RefHost.lean ====
module

public import proofs.«01_k».proof.Proof.RefScan
public import Idealize.ShloMosaic.Lib.Pointwise
import Idealize.ShloMosaic.Lib.StableHlo.RunRead

@[expose] public section

set_option maxRecDepth 16384

noncomputable section

/-! # The reference outside its loops

The host operations before, between and after the loops, as functions: the arrays are cut into heads and chunks, the norm
and the gate are applied and differentiated position by position, and the gradients are laid out as the arguments are. -/

namespace Cert.ReferenceIdeal.Outer

open Idealize.ShloMosaic Idealize.ShloMosaic.TcCoe Idealize.ShloMosaic.StableHlo Idealize.ShloMosaic.Pipeline
open Cert.ReferenceIdeal Cert.ReferenceIdeal.Gen Cert.ReferenceIdeal.Ops Cert.ReferenceIdeal.Run

section
variable {F : FTy → Type} [FloatOps F]

/-! ## Layouts -/

/-- Chunks and heads of a row-major array. -/
def heads (x : FVec F S2048x512 .f32) : FVec F S32x4x64x128 .f32 :=
  transpose S32x4x64x128 [0, 2, 1, 3] (shapeCast S32x64x4x128 x shapeCasts_S2048x512_S32x64x4x128) transposes_S32x64x4x128_S32x4x64x128_0_2_1_3
/-- The same of the attention. -/
def headsA (x : FVec F S2048x256 .f32) : FVec F S32x4x64x64 .f32 :=
  transpose S32x4x64x64 [0, 2, 1, 3] (shapeCast S32x64x4x64 x shapeCasts_S2048x256_S32x64x4x64) transposes_S32x64x4x64_S32x4x64x64_0_2_1_3
/-- Back to a row-major array. -/
def unheads (x : FVec F S32x4x64x128 .f32) : FVec F S2048x512 .f32 :=
  shapeCast S2048x512 (transpose S32x64x4x128 [0, 2, 1, 3] x transposes_S32x4x64x128_S32x64x4x128_0_2_1_3) shapeCasts_S32x64x4x128_S2048x512
def unheadsA (x : FVec F S32x4x64x64 .f32) : FVec F S2048x256 .f32 :=
  shapeCast S2048x256 (transpose S32x64x4x64 [0, 2, 1, 3] x transposes_S32x4x64x64_S32x64x4x64_0_2_1_3) shapeCasts_S32x64x4x64_S2048x256
/-- Each chunk's decay: the exponential of its last position's entry. -/
def decays (g : FVec F S2048x128 .f32) : FVec F S32x4 .f32 :=
  Host.exp (shapeCast S32x4 (extractStridedSlice S32x4x1 ![0, 0, 63] (transpose S32x4x64 [0, 2, 1]
    (shapeCast S32x64x4 (extractStridedSlice S2048x4 ![0, 0] g slices_S2048x128_S2048x4_0_0) shapeCasts_S2048x4_S32x64x4)
    transposes_S32x64x4_S32x4x64_0_2_1) slices_S32x4x64_S32x4x1_0_0_63) shapeCasts_S32x4x1_S32x4)
/-- The decays' gradient, in the last position of each chunk. -/
def undecays (x : FVec F S32x4 .f32) : FVec F S2048x128 .f32 :=
  pad S2048x128 ![0, 0] ![0, 124] ![0, 0] (shapeCast S2048x4 (transpose S32x64x4 [0, 2, 1]
    (pad S32x4x64 ![0, 0, 63] ![0, 0, 0] ![0, 0, 0] (broadcastInDim S32x4x1 ![0, 1] bcast_S32x4_S32x4x1_0_1 x) (constant S_ .f32 0x00000000#32)
      pads_S32x4x1_S32x4x64_000_000_6300 h_S_) transposes_S32x4x64_S32x64x4_0_2_1) shapeCasts_S32x64x4_S2048x4) (constant S_ .f32 0x00000000#32)
    pads_S2048x4_S2048x128_000_01240 h_S_
/-- Positions by heads, out of the chunks. -/
def rows (x : FVec F S32x4x64x128 .f32) : FVec F S2048x4x128 .f32 :=
  shapeCast S2048x4x128 (transpose S32x64x4x128 [0, 2, 1, 3] x transposes_S32x4x64x128_S32x64x4x128_0_2_1_3) shapeCasts_S32x64x4x128_S2048x4x128
/-- Chunks, out of positions by heads. -/
def chunks (x : FVec F S2048x4x128 .f32) : FVec F S32x4x64x128 .f32 :=
  transpose S32x4x64x128 [0, 2, 1, 3] (shapeCast S32x64x4x128 x shapeCasts_S2048x4x128_S32x64x4x128) transposes_S32x64x4x128_S32x4x64x128_0_2_1_3
def split (x : FVec F S2048x512 .f32) : FVec F S2048x4x128 .f32 := shapeCast S2048x4x128 x shapeCasts_S2048x512_S2048x4x128
def join (x : FVec F S2048x4x128 .f32) : FVec F S2048x512 .f32 := shapeCast S2048x512 x shapeCasts_S2048x4x128_S2048x512

/-! ## The norm and the gate -/

/-- A number per position and head, along the columns. -/
def wide (x : FVec F S2048x4x1 .f32) : FVec F S2048x4x128 .f32 := broadcastInDim S2048x4x128 ![0, 1, 2] bcast_S2048x4x1_S2048x4x128_0_1_2 x
/-- A literal per position and head. -/
def lit (b : BitVec 32) : FVec F S2048x4x1 .f32 := broadcastInDim S2048x4x1 ![] bcast_S_S2048x4x1 (constant S_ .f32 b)
/-- One everywhere. -/
def one : FVec F S2048x4x128 .f32 := broadcastInDim S2048x4x128 ![] bcast_S_S2048x4x128 (constant S_ .f32 0x3F800000#32)
/-- The weight along positions and heads. -/
def weight (n : FVec F S1x128 .f32) : FVec F S2048x4x128 .f32 :=
  broadcastInDim S2048x4x128 ![0, 1, 2] bcast_S1x1x128_S2048x4x128_0_1_2 (broadcastInDim S1x1x128 ![2] bcast_S128_S1x1x128_2 (shapeCast S128 n shapeCasts_S1x128_S128))
/-- The sum of a row. -/
def total (x : FVec F S2048x4x128 .f32) : FVec F S2048x4 .f32 := Host.reduceAdd x (constant S_ .f32 0x00000000#32) reducesTo_S2048x4x128_S2048x4_d2 h_S_
/-- The mean square plus epsilon. -/
def ms (x : FVec F S2048x4x128 .f32) : FVec F S2048x4x1 .f32 :=
  addf (Host.divf (broadcastInDim S2048x4x1 ![0, 1] bcast_S2048x4_S2048x4x1_0_1 (total (mulf x x))) (lit 0x43000000#32)) (lit 0x358637BD#32)
def rs (x : FVec F S2048x4x128 .f32) : FVec F S2048x4x1 .f32 := Host.rsqrt (ms x)
/-- The slope of the reciprocal root. -/
def slope (x : FVec F S2048x4x128 .f32) : FVec F S2048x4x1 .f32 := mulf (lit 0xBF000000#32) (Host.divf (rs x) (ms x))
def unit (x : FVec F S2048x4x128 .f32) : FVec F S2048x4x128 .f32 := mulf x (wide (rs x))
def normed (n : FVec F S1x128 .f32) (x : FVec F S2048x4x128 .f32) : FVec F S2048x4x128 .f32 := mulf (unit x) (weight n)
/-- The logistic. -/
def sg (g : FVec F S2048x4x128 .f32) : FVec F S2048x4x128 .f32 := Host.divf one (addf one (Host.exp (Host.negf g)))
def dsg (g : FVec F S2048x4x128 .f32) : FVec F S2048x4x128 .f32 := mulf (sg g) (subf one (sg g))
def silu (g : FVec F S2048x4x128 .f32) : FVec F S2048x4x128 .f32 := mulf g (sg g)
/-- The gated, normed output. -/
def gated (n : FVec F S1x128 .f32) (g x : FVec F S2048x4x128 .f32) : FVec F S2048x4x128 .f32 := mulf (normed n x) (silu g)

/-! ## Their gradients -/

def dgate (n : FVec F S1x128 .f32) (g d x : FVec F S2048x4x128 .f32) : FVec F S2048x4x128 .f32 :=
  addf (mulf (mulf (normed n x) d) (sg g)) (mulf (mulf g (mulf (normed n x) d)) (dsg g))
def dnormed (g d : FVec F S2048x4x128 .f32) : FVec F S2048x4x128 .f32 := mulf d (silu g)
def dunit (n : FVec F S1x128 .f32) (g d : FVec F S2048x4x128 .f32) : FVec F S2048x4x128 .f32 := mulf (dnormed g d) (weight n)
/-- The norm's own term. -/
def pull (x e : FVec F S2048x4x128 .f32) : FVec F S2048x4x128 .f32 :=
  broadcastInDim S2048x4x128 ![0, 1] bcast_S2048x4_S2048x4x128_0_1 (Host.reduceAdd
    (Host.divf (mulf (shapeCast S2048x4x1 (total (mulf x e)) shapeCasts_S2048x4_S2048x4x1) (slope x)) (lit 0x43000000#32))
    (constant S_ .f32 0x00000000#32) reducesTo_S2048x4x1_S2048x4_d2 h_S_)
def dout (x e : FVec F S2048x4x128 .f32) : FVec F S2048x4x128 .f32 :=
  addf (addf (mulf e (wide (rs x))) (mulf x (pull x e))) (mulf (pull x e) x)
def dweight (g d x : FVec F S2048x4x128 .f32) : FVec F S1x128 .f32 :=
  shapeCast S1x128 (Host.reduceAdd (shapeCast S1x1x128 (Host.reduceAdd (mulf (unit x) (dnormed g d)) (constant S_ .f32 0x00000000#32)
    reducesTo_S2048x4x128_S128_d0_1 h_S_) shapeCasts_S128_S1x1x128) (constant S_ .f32 0x00000000#32) reducesTo_S1x1x128_S128_d0_1 h_S_) shapeCasts_S128_S1x128

/-! ## What the operations leave -/

variable (V : Valuation τ sig (Elt F))

theorem pre_u : after hostOps0 V (Proc.devRef .tc main_v26_0) = heads (V (Proc.devRef .tc main_arg0)) := by
  after_reads_simp
  rfl
theorem pre_w : after hostOps0 V (Proc.devRef .tc main_v26_1) = heads (extf .f32 (V (Proc.devRef .tc main_arg1)) bitsLt_bf16_f32) := by
  after_reads_simp
  rfl
theorem pre_q : after hostOps0 V (Proc.devRef .tc main_v26_2) = heads (extf .f32 (V (Proc.devRef .tc main_arg2)) bitsLt_bf16_f32) := by
  after_reads_simp
  rfl
theorem pre_k : after hostOps0 V (Proc.devRef .tc main_v26_3) = heads (extf .f32 (V (Proc.devRef .tc main_arg3)) bitsLt_bf16_f32) := by
  after_reads_simp
  rfl
theorem pre_a : after hostOps0 V (Proc.devRef .tc main_v26_4) = headsA (extf .f32 (V (Proc.devRef .tc main_arg4)) bitsLt_bf16_f32) := by
  after_reads_simp
  rfl
theorem pre_e : after hostOps0 V (Proc.devRef .tc main_v26_5) = decays (V (Proc.devRef .tc main_arg5)) := by
  after_reads_simp
  rfl
theorem pre_s : after hostOps0 V (Proc.devRef .tc main_v26_7) = broadcastInDim S4x128x128 ![] bcast_S_S4x128x128 (constant S_ .f32 0x00000000#32) := by
  after_reads_simp
  rfl
theorem pre_gate : after hostOps0 V (Proc.devRef .tc main_v0) = extractStridedSlice S2048x512 ![0, 8192] (V (Proc.devRef .tc main_arg6)) slices_S2048x9728_S2048x512_0_8192 := by
  after_reads_simp
theorem pre_w14 : after hostOps0 V (Proc.devRef .tc main_v14) = heads (extf .f32 (V (Proc.devRef .tc main_arg1)) bitsLt_bf16_f32) := by
  after_reads_simp
  rfl
theorem pre_q16 : after hostOps0 V (Proc.devRef .tc main_v16) = heads (extf .f32 (V (Proc.devRef .tc main_arg2)) bitsLt_bf16_f32) := by
  after_reads_simp
  rfl
theorem pre_k18 : after hostOps0 V (Proc.devRef .tc main_v18) = heads (extf .f32 (V (Proc.devRef .tc main_arg3)) bitsLt_bf16_f32) := by
  after_reads_simp
  rfl
theorem pre_a20 : after hostOps0 V (Proc.devRef .tc main_v20) = headsA (extf .f32 (V (Proc.devRef .tc main_arg4)) bitsLt_bf16_f32) := by
  after_reads_simp
  rfl
theorem pre_e10 : after hostOps0 V (Proc.devRef .tc main_v10) = decays (V (Proc.devRef .tc main_arg5)) := by
  after_reads_simp
  rfl

theorem post_u : after hostOps0_6 V (Proc.devRef .tc main_v96) = unheads (V (Proc.devRef .tc main_v86_10)) := by
  after_reads_simp
  rfl
theorem post_w : after hostOps0_6 V (Proc.devRef .tc main_v94) = unheads (V (Proc.devRef .tc main_v86_11)) := by
  after_reads_simp
  rfl
theorem post_q : after hostOps0_6 V (Proc.devRef .tc main_v92) = unheads (V (Proc.devRef .tc main_v86_12)) := by
  after_reads_simp
  rfl
theorem post_k : after hostOps0_6 V (Proc.devRef .tc main_v90) = unheads (V (Proc.devRef .tc main_v86_13)) := by
  after_reads_simp
  rfl
theorem post_a : after hostOps0_6 V (Proc.devRef .tc main_v88) = unheadsA (V (Proc.devRef .tc main_v86_14)) := by
  after_reads_simp
  rfl
theorem post_g : after hostOps0_6 V (Proc.devRef .tc main_v102) = undecays (mulf (V (Proc.devRef .tc main_v86_15)) (V (Proc.devRef .tc main_v10))) := by
  after_reads_simp
  rfl
theorem post_o : after hostOps0_6 V (Proc.devRef .tc main_v103) = truncf .bf16 (V (Proc.devRef .tc main_v49)) bitsLt_bf16_f32 := by
  after_reads_simp
theorem post_h : after hostOps0_6 V (Proc.devRef .tc main_v104) = truncf .bf16 (V (Proc.devRef .tc main_v55)) bitsLt_bf16_f32 := by
  after_reads_simp

theorem mid_o : afterL mid V (Proc.devRef .tc main_v49) = join (gated (V (Proc.devRef .tc main_arg7)) (split (V (Proc.devRef .tc main_v0))) (rows (V (Proc.devRef .tc main_v26_8)))) := by
  simp only [afterL_cons, afterL_nil]
  after_reads_simp
  rfl
theorem mid_h : afterL mid V (Proc.devRef .tc main_v55) = join (dgate (V (Proc.devRef .tc main_arg7)) (split (V (Proc.devRef .tc main_v0))) (split (V (Proc.devRef .tc main_arg8))) (rows (V (Proc.devRef .tc main_v26_8)))) := by
  simp only [afterL_cons, afterL_nil]
  after_reads_simp
  rfl
theorem mid_n : afterL mid V (Proc.devRef .tc main_v76) = dweight (split (V (Proc.devRef .tc main_v0))) (split (V (Proc.devRef .tc main_arg8))) (rows (V (Proc.devRef .tc main_v26_8))) := by
  simp only [afterL_cons, afterL_nil]
  after_reads_simp
  rfl
theorem mid_c : afterL mid V (Proc.devRef .tc main_v86_0) = chunks (dout (rows (V (Proc.devRef .tc main_v26_8))) (dunit (V (Proc.devRef .tc main_arg7)) (split (V (Proc.devRef .tc main_v0))) (split (V (Proc.devRef .tc main_arg8))))) := by
  simp only [afterL_cons, afterL_nil]
  after_reads_simp
  rfl
theorem mid_s : afterL mid V (Proc.devRef .tc main_v86_1) = V (Proc.devRef .tc main_v26_9) := by
  simp only [afterL_cons, afterL_nil]
  after_reads_simp
  rfl
theorem mid_w : afterL mid V (Proc.devRef .tc main_v86_2) = V (Proc.devRef .tc main_v14) := by
  simp only [afterL_cons, afterL_nil]
  after_reads_simp
  rfl
theorem mid_q : afterL mid V (Proc.devRef .tc main_v86_3) = V (Proc.devRef .tc main_v16) := by
  simp only [afterL_cons, afterL_nil]
  after_reads_simp
  rfl
theorem mid_v : afterL mid V (Proc.devRef .tc main_v86_4) = V (Proc.devRef .tc main_v26_10) := by
  simp only [afterL_cons, afterL_nil]
  after_reads_simp
  rfl
theorem mid_a : afterL mid V (Proc.devRef .tc main_v86_5) = V (Proc.devRef .tc main_v20) := by
  simp only [afterL_cons, afterL_nil]
  after_reads_simp
  rfl
theorem mid_e : afterL mid V (Proc.devRef .tc main_v86_6) = V (Proc.devRef .tc main_v26_11) := by
  simp only [afterL_cons, afterL_nil]
  after_reads_simp
  rfl
theorem mid_k : afterL mid V (Proc.devRef .tc main_v86_7) = V (Proc.devRef .tc main_v18) := by
  simp only [afterL_cons, afterL_nil]
  after_reads_simp
  rfl
theorem mid_d : afterL mid V (Proc.devRef .tc main_v86_9) = broadcastInDim S4x128x128 ![] bcast_S_S4x128x128 (constant S_ .f32 0x00000000#32) := by
  simp only [afterL_cons, afterL_nil]
  after_reads_simp
  rfl

end

end Cert.ReferenceIdeal.Outer

end

end
-- ==== Proof.RefOut.lean ====
module

public import proofs.«01_k».proof.Proof.RefHost

@[expose] public section

set_option maxRecDepth 16384

noncomputable section

/-! # The reference outside its loops, at an entry

Over the extended reals each function is, at a chunk and a head, the model's function of that chunk. -/

namespace Cert.ReferenceIdeal.Outer

open Cert.Gdn (hc ha rw_)
open Idealize.ShloMosaic Cert.ReferenceIdeal Cert.ReferenceIdeal.Gen
open Cert.ReferenceIdeal.Loop (sk)

/-- Chunk `t` of head `h` of an array over positions and heads. -/
abbrev rh (t : Fin 32) (h : Fin 4) (x : FVec Ideal S2048x4x128 .f32) : Gdn.M 64 128 := fun r c => x (ix3 (rw_ t r) h c)
/-- The norm's weight. -/
abbrev nw (n : FVec Ideal S1x128 .f32) : Fin 128 → EReal := fun c => n (ix2 0 c)

variable (t : Fin 32) (h : Fin 4)

/-! ## Layouts -/

theorem heads_sk (x : FVec Ideal S2048x512 .f32) : sk (heads x) t h = fun r c => x (ix2 (rw_ t r) (hc h c)) := by
  funext r c
  pointwise [sk, heads]
  exact congrArg₂ (fun a b => x (ix2 a b)) (Fin.ext (by dsimp only; omega)) (Fin.ext (by dsimp only; omega))
theorem headsA_sk (x : FVec Ideal S2048x256 .f32) : sk (headsA x) t h = fun r c => x (ix2 (rw_ t r) (ha h c)) := by
  funext r c
  pointwise [sk, headsA]
  exact congrArg₂ (fun a b => x (ix2 a b)) (Fin.ext (by dsimp only; omega)) (Fin.ext (by dsimp only; omega))
theorem decays_at (g : FVec Ideal S2048x128 .f32) : decays g (ix2 t h) = Ideal.exp (g (ix2 (rw_ t 63) ⟨h.val, by omega⟩)) := by
  pointwise [decays]
  exact congrArg (fun a => Ideal.exp (g (ix2 a _))) (Fin.ext (by dsimp only; omega))
theorem chunks_sk (x : FVec Ideal S2048x4x128 .f32) : sk (chunks x) t h = rh t h x := by
  funext r c
  pointwise [sk, rh, chunks]
  exact congrArg (fun a => x (ix3 a h c)) (Fin.ext (by dsimp only; omega))
theorem rows_rh (x : FVec Ideal S32x4x64x128 .f32) : rh t h (rows x) = sk x t h := by
  funext r c
  pointwise [sk, rh, rows]
  exact congrArg₂ (fun a b => x (ix4 a h b c)) (Fin.ext (by dsimp only; omega)) (Fin.ext (by dsimp only; omega))
theorem split_rh (x : FVec Ideal S2048x512 .f32) : rh t h (split x) = fun r c => x (ix2 (rw_ t r) (hc h c)) := by
  funext r c
  pointwise [rh, split]
  exact congrArg (fun a => x (ix2 (rw_ t r) a)) (Fin.ext (by dsimp only; omega))

/-! ## The norm and the gate -/

theorem sum_one (y : EReal) : ∑ _k : Fin 1, y = y := by
  simp only [Finset.sum_const, Finset.card_univ, Fintype.card_fin, one_smul]

theorem gated_rh (n : FVec Ideal S1x128 .f32) (g x : FVec Ideal S2048x4x128 .f32) :
    rh t h (gated n g x) = Gdn.gated (nw n) (rh t h g) (rh t h x) := by
  funext r c
  pointwise [rh, nw, gated, normed, unit, wide, rs, ms, total, lit, weight, silu, sg, one, Gdn.gated, Gdn.normed, Gdn.rs, Gdn.ms, Gdn.len, Gdn.eps, Ideal.logistic]
theorem dgate_rh (n : FVec Ideal S1x128 .f32) (g d x : FVec Ideal S2048x4x128 .f32) :
    rh t h (dgate n g d x) = Gdn.dgate (nw n) (rh t h g) (rh t h d) (rh t h x) := by
  funext r c
  pointwise [rh, nw, dgate, normed, unit, wide, rs, ms, total, lit, weight, sg, dsg, one, Gdn.dgate, Gdn.normed, Gdn.rs, Gdn.ms, Gdn.len, Gdn.eps, Ideal.logistic]
theorem dunit_rh (n : FVec Ideal S1x128 .f32) (g d : FVec Ideal S2048x4x128 .f32) :
    rh t h (dunit n g d) = Gdn.dunit (nw n) (rh t h g) (rh t h d) := by
  funext r c
  pointwise [rh, nw, dunit, dnormed, weight, silu, sg, one, Gdn.dunit, Gdn.dnormed, Ideal.logistic]
theorem dout_rh (x e : FVec Ideal S2048x4x128 .f32) : rh t h (dout x e) = Gdn.dout (rh t h x) (rh t h e) := by
  funext r c
  pointwise [rh, dout, wide, rs, ms, total, lit, pull, slope, Gdn.dout, Gdn.pull, Gdn.rs, Gdn.ms, Gdn.len, Gdn.eps, Gdn.mhalf]
  exact congrArg₂ (· + ·) (congrArg₂ (· + ·) rfl (congrArg (x (ix3 (rw_ t r) h c) * ·) (sum_one _))) (congrArg (· * x (ix3 (rw_ t r) h c)) (sum_one _))
/-- A sum over the first two axes. -/
theorem sum_two {n0 n1 n2 : ℕ} (H : (⟨3, ![n0, n1, n2]⟩ : Shape).ReducesTo [0, 1] ⟨1, ![n2]⟩) (v : (⟨3, ![n0, n1, n2]⟩ : Shape).Idx → EReal) (b : EReal) (c : Fin n2) :
    Ideal.hostReduceAdd H v b (ix1 c) = b + ∑ i : Fin n0, ∑ j : Fin n1, v (ix3 i j c) := by
  refine congrArg (b + ·) ((Finset.sum_filter_eq_sum_of_fiber _ (fun k : Fin n0 × Fin n1 => ix3 k.1 k.2 c)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext a; apply Fin.ext
      match a with
      | ⟨0, _⟩ => rfl
  · simp only [Fintype.sum_prod_type]
/-- Positions are chunks of 64. -/
theorem sum_rows (f : Fin 2048 → EReal) : ∑ R, f R = ∑ t : Fin 32, ∑ r : Fin 64, f (rw_ t r) := by
  refine ((finProdFinEquiv : Fin 32 × Fin 64 ≃ Fin 2048).sum_comp f).symm.trans ((Fintype.sum_prod_type _).trans ?_)
  refine Finset.sum_congr rfl fun t _ => Finset.sum_congr rfl fun r _ => congrArg f (Fin.ext ?_)
  show r.val + 64 * t.val = 64 * t.val + r.val
  omega
theorem dweight_at (g d x : FVec Ideal S2048x4x128 .f32) (c : Fin 128) :
    dweight g d x (ix2 0 c) = ∑ t : Fin 32, ∑ h : Fin 4, Gdn.dweight (rh t h g) (rh t h d) (rh t h x) c := by
  pointwise [rh, dweight, dnormed, unit, wide, rs, ms, total, lit, silu, sg, one, Gdn.dweight, Gdn.dnormed, Gdn.rs, Gdn.ms, Gdn.len, Gdn.eps, Ideal.logistic]
  rw [sum_two]
  pointwise
  simp only [sum_two, sum_rows]
  pointwise
  exact (sum_one _).trans ((sum_one _).trans (Finset.sum_congr rfl fun t _ => Finset.sum_comm))

/-! ## The results' layouts -/

theorem unheads_eq (x : FVec Ideal S32x4x64x128 .f32) : unheads x = fun i => Gdn.glue (fun h t => sk x t h) (i 0) (i 1) := by
  funext i
  obtain ⟨R, C, rfl⟩ : ∃ R C, i = ix2 R C := ⟨i 0, i 1, by ext a; fin_cases a <;> rfl⟩
  pointwise [sk, unheads, Gdn.glue]
theorem unheadsA_eq (x : FVec Ideal S32x4x64x64 .f32) : unheadsA x = fun i => Gdn.glueA (fun h t => sk x t h) (i 0) (i 1) := by
  funext i
  obtain ⟨R, C, rfl⟩ : ∃ R C, i = ix2 R C := ⟨i 0, i 1, by ext a; fin_cases a <;> rfl⟩
  pointwise [sk, unheadsA, Gdn.glueA]
theorem join_eq (x : FVec Ideal S2048x4x128 .f32) : join x = fun i => Gdn.glue (fun h t => rh t h x) (i 0) (i 1) := by
  funext i
  obtain ⟨R, C, rfl⟩ : ∃ R C, i = ix2 R C := ⟨i 0, i 1, by ext a; fin_cases a <;> rfl⟩
  have e : rw_ ⟨R.val / 64, by omega⟩ ⟨R.val % 64, by omega⟩ = R := by ext; dsimp only; omega
  pointwise [rh, join, Gdn.glue]
  rw [e]
theorem undecays_eq (x : FVec Ideal S32x4 .f32) : undecays x = fun i => Gdn.glueG (fun h t => x (ix2 t h)) (i 0) (i 1) := by
  funext i
  obtain ⟨R, C, rfl⟩ : ∃ R C, i = ix2 R C := ⟨i 0, i 1, by ext a; fin_cases a <;> rfl⟩
  pointwise [undecays, Gdn.glueG]
  repeat' split
  all_goals first | rfl | omega

end Cert.ReferenceIdeal.Outer

end

end
-- ==== Proof.RefVal.lean ====
module

public import proofs.«01_k».proof.Proof.RefOut

@[expose] public section

set_option maxRecDepth 16384

noncomputable section

/-! # What the reference leaves

Its arguments are cut into the model's chunks, its loops run the model's scan and the scan's gradient, and its results are
the model's. -/

namespace Cert.ReferenceIdeal.Val

open Idealize.ShloMosaic Idealize.ShloMosaic.TcCoe Idealize.ShloMosaic.StableHlo Idealize.ShloMosaic.Pipeline
open Cert.ReferenceIdeal Cert.ReferenceIdeal.Gen Cert.ReferenceIdeal.Ops Cert.ReferenceIdeal.Run
open Cert.ReferenceIdeal.Loop Cert.ReferenceIdeal.Outer

variable (m : (ℓ : Loc nD τ sig) → Buf (Elt Ideal) ℓ) (c : Dev nD)

/-- An argument. -/
abbrev arg (b : Ref sig .tc) : Buf (Elt Ideal) ((c : Thread nD τ).loc b) := m ((c : Thread nD τ).loc b)

/-- The four heads' chunks of the arguments. -/
def X (j : Fin 4) (t : Fin 32) : Gdn.In :=
  Gdn.cut (fun R C => arg m c main_arg0 (ix2 R C)) (fun R C => arg m c main_arg1 (ix2 R C)) (fun R C => arg m c main_arg2 (ix2 R C))
    (fun R C => arg m c main_arg3 (ix2 R C)) (fun R C => arg m c main_arg4 (ix2 R C)) (fun R C => arg m c main_arg5 (ix2 R C))
    (fun R C => arg m c main_arg6 (ix2 R C)) (fun C => arg m c main_arg7 (ix2 0 C)) (fun R C => arg m c main_arg8 (ix2 R C)) j t

/-! ## The forward loop -/

theorem in0 : In0 (X m c) (X₀ m c) where
  u t h := by
    rw [X₀, pre_u, heads_sk]
    rfl
  w t h := by
    rw [X₀, pre_w, heads_sk]
    rfl
  q t h := by
    rw [X₀, pre_q, heads_sk]
    rfl
  kd t h := by
    rw [X₀, pre_k, heads_sk]
    rfl
  a t h := by
    rw [X₀, pre_a, headsA_sk]
    rfl
  e t h := by
    rw [X₀, pre_e]
    exact decays_at t h _
theorem inv0 : Inv0 (X m c) (X₀ m c) 0 where
  s h := by
    rw [X₀, pre_s]
    funext r c
    pointwise [hd]
    rfl
  o t h ht := absurd ht (Nat.not_lt_zero _)
  p t h ht := absurd ht (Nat.not_lt_zero _)
  v t h ht := absurd ht (Nat.not_lt_zero _)
  e t h ht := absurd ht (Nat.not_lt_zero _)
theorem fin0 : Inv0 (X m c) (X₁ m c) 32 :=
  (loop0 (X m c) (X₀ m) c (in0 m c) (ctr0_entry m c) (inv0 m c) 32 le_rfl).of (X m c) fun r hr => cond0_keeps (keep0_out r hr) _

/-- What the forward loop does not write. -/
theorem X₁_keeps {r : Ref sig .tc} (hc : r ∉ cond0Writes) (hb : r ∉ body0Writes) : X₁ m c (Proc.devRef .tc r) = X₀ m c (Proc.devRef .tc r) :=
  (cond0_keeps hc _).trans (trip0_keeps (X₀ m) hc hb 32 c)
/-- What the gradient's loop does not write. -/
theorem X₃_keeps {r : Ref sig .tc} (hc : r ∉ cond1Writes) (hb : r ∉ body1Writes) : X₃ m c (Proc.devRef .tc r) = X₂ m c (Proc.devRef .tc r) :=
  (cond1_keeps hc _).trans (trip1_keeps (X₂ m) hc hb 32 c)

/-! ## Between the loops -/

theorem gate_at (t : Fin 32) (h : Fin 4) : rh t h (split (X₁ m c (Proc.devRef .tc main_v0))) = (X m c h t).h := by
  rw [X₁_keeps m c (by decide +kernel) (by decide +kernel), X₀, pre_gate, split_rh]
  funext r j
  pointwise
  exact congrArg (fun a => arg m c main_arg6 (ix2 _ a)) (Fin.ext (by dsimp only; omega))
theorem cot_at (t : Fin 32) (h : Fin 4) : rh t h (split (X₁ m c (Proc.devRef .tc main_arg8))) = (X m c h t).d := by
  rw [X₁_keeps m c (by decide +kernel) (by decide +kernel), X₀, show after hostOps0 (launchContents m c) (Proc.devRef .tc main_arg8) = arg m c main_arg8 from
    pre_keeps (by decide +kernel) _, split_rh]
  rfl
theorem weight_at (t : Fin 32) (h : Fin 4) : nw (X₁ m c (Proc.devRef .tc main_arg7)) = (X m c h t).n := by
  rw [X₁_keeps m c (by decide +kernel) (by decide +kernel), X₀, show after hostOps0 (launchContents m c) (Proc.devRef .tc main_arg7) = arg m c main_arg7 from
    pre_keeps (by decide +kernel) _]
  rfl
theorem out_at (t : Fin 32) (h : Fin 4) : rh t h (rows (X₁ m c (Proc.devRef .tc main_v26_8))) = (X m c h t).o (Gdn.S (X m c h) t.val) := by
  rw [rows_rh, (fin0 m c).o t h t.isLt]

/-! ## The gradient's loop -/

theorem in1 : In1 (X m c) (X₂ m c) where
  c t h := by
    rw [X₂, mid_c, chunks_sk, dout_rh, dunit_rh, gate_at, cot_at, out_at, weight_at m c t h]
    rfl
  p t h := by rw [X₂, mid_s, (fin0 m c).p t h t.isLt]
  w t h := by
    rw [X₂, mid_w, X₁_keeps m c (by decide +kernel) (by decide +kernel), X₀, pre_w14, heads_sk]
    rfl
  q t h := by
    rw [X₂, mid_q, X₁_keeps m c (by decide +kernel) (by decide +kernel), X₀, pre_q16, heads_sk]
    rfl
  v t h := by rw [X₂, mid_v, (fin0 m c).v t h t.isLt]
  a t h := by
    rw [X₂, mid_a, X₁_keeps m c (by decide +kernel) (by decide +kernel), X₀, pre_a20, headsA_sk]
    rfl
  e t h := by rw [X₂, mid_e, (fin0 m c).e t h t.isLt]
  kd t h := by
    rw [X₂, mid_k, X₁_keeps m c (by decide +kernel) (by decide +kernel), X₀, pre_k18, heads_sk]
    rfl
theorem inv1 : Inv1 (X m c) (X₂ m c) 0 where
  s h := by
    rw [X₂, mid_d]
    funext r c
    pointwise [hd]
    rfl
  u t h ht := absurd ht (by omega)
  w t h ht := absurd ht (by omega)
  q t h ht := absurd ht (by omega)
  kd t h ht := absurd ht (by omega)
  a t h ht := absurd ht (by omega)
  g t h ht := absurd ht (by omega)
theorem fin1 : Inv1 (X m c) (X₃ m c) 32 :=
  (loop1 (X m c) (X₂ m) c (in1 m c) (ctr1_entry m c) (inv1 m c) 32 le_rfl).of (X m c) fun r hr => cond1_keeps (keep1_out r hr) _

/-! ## The results -/

theorem u_val : X₄ m c (Proc.devRef .tc main_v96) = fun i => Gdn.resU (X m c) (i 0) (i 1) := by
  rw [X₄, post_u, unheads_eq, show (fun h t => sk (X₃ m c (Proc.devRef .tc main_v86_10)) t h) = _ from
    funext fun h => funext fun t => (fin1 m c).u t h (by omega)]
  rfl
theorem w_val : X₄ m c (Proc.devRef .tc main_v94) = fun i => Gdn.resW (X m c) (i 0) (i 1) := by
  rw [X₄, post_w, unheads_eq, show (fun h t => sk (X₃ m c (Proc.devRef .tc main_v86_11)) t h) = _ from
    funext fun h => funext fun t => (fin1 m c).w t h (by omega)]
  rfl
theorem q_val : X₄ m c (Proc.devRef .tc main_v92) = fun i => Gdn.resQ (X m c) (i 0) (i 1) := by
  rw [X₄, post_q, unheads_eq, show (fun h t => sk (X₃ m c (Proc.devRef .tc main_v86_12)) t h) = _ from
    funext fun h => funext fun t => (fin1 m c).q t h (by omega)]
  rfl
theorem k_val : X₄ m c (Proc.devRef .tc main_v90) = fun i => Gdn.resK (X m c) (i 0) (i 1) := by
  rw [X₄, post_k, unheads_eq, show (fun h t => sk (X₃ m c (Proc.devRef .tc main_v86_13)) t h) = _ from
    funext fun h => funext fun t => (fin1 m c).kd t h (by omega)]
  rfl
theorem a_val : X₄ m c (Proc.devRef .tc main_v88) = fun i => Gdn.resA (X m c) (i 0) (i 1) := by
  rw [X₄, post_a, unheadsA_eq, show (fun h t => sk (X₃ m c (Proc.devRef .tc main_v86_14)) t h) = _ from
    funext fun h => funext fun t => (fin1 m c).a t h (by omega)]
  rfl
theorem g_val : X₄ m c (Proc.devRef .tc main_v102) = fun i => Gdn.resG (X m c) (i 0) (i 1) := by
  have e : X₃ m c (Proc.devRef .tc main_v10) = (decays (arg m c main_arg5) : FVec Ideal S32x4 .f32) := by
    rw [X₃_keeps m c (by decide +kernel) (by decide +kernel), X₂, mid_keeps (by decide +kernel), X₁_keeps m c (by decide +kernel) (by decide +kernel), X₀, pre_e10]
  rw [X₄, post_g, undecays_eq, e]
  funext i
  refine congrArg (fun f => Gdn.glueG f (i 0) (i 1)) (funext fun h => funext fun t => ?_)
  exact congrArg₂ (fun a b : EReal => a * b) ((fin1 m c).g t h (by omega)) (decays_at t h (arg m c main_arg5))
theorem o_val : X₄ m c (Proc.devRef .tc main_v103) = fun i => Gdn.resO (X m c) (i 0) (i 1) := by
  have e : X₃ m c (Proc.devRef .tc main_v49) = fun i => Gdn.resO (X m c) (i 0) (i 1) := by
    rw [X₃_keeps m c (by decide +kernel) (by decide +kernel), X₂, mid_o, join_eq]
    funext i
    refine congrArg (fun f => Gdn.glue f (i 0) (i 1)) (funext fun h => funext fun t => ?_)
    rw [gated_rh, gate_at, out_at, weight_at m c t h]
    rfl
  rw [X₄, post_o, e]
  rfl
theorem h_val : X₄ m c (Proc.devRef .tc main_v104) = fun i => Gdn.resH (X m c) (i 0) (i 1) := by
  have e : X₃ m c (Proc.devRef .tc main_v55) = fun i => Gdn.resH (X m c) (i 0) (i 1) := by
    rw [X₃_keeps m c (by decide +kernel) (by decide +kernel), X₂, mid_h, join_eq]
    funext i
    refine congrArg (fun f => Gdn.glue f (i 0) (i 1)) (funext fun h => funext fun t => ?_)
    rw [dgate_rh, gate_at, cot_at, out_at, weight_at m c t h]
    rfl
  rw [X₄, post_h, e]
  rfl
theorem n_val : X₄ m c (Proc.devRef .tc main_v76) = fun i => Gdn.resN (X m c) (i 1) := by
  rw [X₄, post_keeps (by decide +kernel), X₃_keeps m c (by decide +kernel) (by decide +kernel), X₂, mid_n]
  funext i
  obtain ⟨C, rfl⟩ : ∃ C, i = ix2 0 C := ⟨i 1, by
    funext a
    fin_cases a
    · exact Subsingleton.elim (α := Fin 1) _ _
    · rfl⟩
  refine (dweight_at _ _ _ C).trans (Finset.sum_congr rfl fun t _ => Finset.sum_congr rfl fun h _ => ?_)
  rw [gate_at, cot_at, out_at]
  rfl

end Cert.ReferenceIdeal.Val

end

end
-- ==== Proof.Values.lean ====
module

public import proofs.«01_k».proof.Proof.BwdVal
public import proofs.«01_k».proof.Proof.RefVal
public import proofs.«01_k».proof.Defs

@[expose] public section

noncomputable section

/-! # The two calls compute the reference's results

Both programs' results are the model's, of the same chunks. -/

namespace Cert.Values

open Idealize.ShloMosaic Idealize.ShloMosaic.TcCoe

section
open Cert.KernelIdeal
/-- What the kernel's two calls leave in their results, and that its arguments stay. -/
theorem kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0_0) = (fun i => Gdn.resO (Cert.KernelIdeal.Val.X m c) (i 0) (i 1))
      ∧ r.2.mem ((c.tc : Thread Cert.KernelIdeal.nD Cert.KernelIdeal.τ).loc Cert.KernelIdeal.main_v1_0) = (fun i => Gdn.resU (Cert.KernelIdeal.Val.X m c) (i 0) (i 1))
      ∧ r.2.mem ((c.tc : Thread Cert.KernelIdeal.nD Cert.KernelIdeal.τ).loc Cert.KernelIdeal.main_v1_1) = (fun i => Gdn.resW (Cert.KernelIdeal.Val.X m c) (i 0) (i 1))
      ∧ r.2.mem ((c.tc : Thread Cert.KernelIdeal.nD Cert.KernelIdeal.τ).loc Cert.KernelIdeal.main_v1_2) = (fun i => Gdn.resQ (Cert.KernelIdeal.Val.X m c) (i 0) (i 1))
      ∧ r.2.mem ((c.tc : Thread Cert.KernelIdeal.nD Cert.KernelIdeal.τ).loc Cert.KernelIdeal.main_v1_3) = (fun i => Gdn.resK (Cert.KernelIdeal.Val.X m c) (i 0) (i 1))
      ∧ r.2.mem ((c.tc : Thread Cert.KernelIdeal.nD Cert.KernelIdeal.τ).loc Cert.KernelIdeal.main_v1_4) = (fun i => Gdn.resA (Cert.KernelIdeal.Val.X m c) (i 0) (i 1))
      ∧ r.2.mem ((c.tc : Thread Cert.KernelIdeal.nD Cert.KernelIdeal.τ).loc Cert.KernelIdeal.main_v1_5) = (fun i => Gdn.resG (Cert.KernelIdeal.Val.X m c) (i 0) (i 1))
      ∧ r.2.mem ((c.tc : Thread Cert.KernelIdeal.nD Cert.KernelIdeal.τ).loc Cert.KernelIdeal.main_v1_6) = (fun i => Gdn.resH (Cert.KernelIdeal.Val.X m c) (i 0) (i 1))
      ∧ r.2.mem ((c.tc : Thread Cert.KernelIdeal.nD Cert.KernelIdeal.τ).loc Cert.KernelIdeal.main_v1_7) = (fun i => Gdn.resN (Cert.KernelIdeal.Val.X m c) (i 1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono
    (fun r h c => ⟨
      (h.1 c _ (Run.mem_uc Cert.KernelIdeal.main_v0_0 rfl)).trans ((Run.V₂_keeps m c _ (by decide +kernel)).trans ((Run.V₁_arr m c 8).trans (Val.o_arr m c))),
      (h.1 c _ (Run.mem_uc Cert.KernelIdeal.main_v1_0 rfl)).trans ((Run.V₂_arr m c 10).trans (Val.u_arr m c)),
      (h.1 c _ (Run.mem_uc Cert.KernelIdeal.main_v1_1 rfl)).trans ((Run.V₂_arr m c 11).trans (Val.w_arr m c)),
      (h.1 c _ (Run.mem_uc Cert.KernelIdeal.main_v1_2 rfl)).trans ((Run.V₂_arr m c 12).trans (Val.q_arr m c)),
      (h.1 c _ (Run.mem_uc Cert.KernelIdeal.main_v1_3 rfl)).trans ((Run.V₂_arr m c 13).trans (Val.k_arr m c)),
      (h.1 c _ (Run.mem_uc Cert.KernelIdeal.main_v1_4 rfl)).trans ((Run.V₂_arr m c 14).trans (Val.a_arr m c)),
      (h.1 c _ (Run.mem_uc Cert.KernelIdeal.main_v1_5 rfl)).trans ((Run.V₂_arr m c 15).trans (Val.g_arr m c)),
      (h.1 c _ (Run.mem_uc Cert.KernelIdeal.main_v1_6 rfl)).trans ((Run.V₂_arr m c 16).trans (Val.h_arr m c)),
      (h.1 c _ (Run.mem_uc Cert.KernelIdeal.main_v1_7 rfl)).trans ((Run.V₂_arr m c 17).trans (Val.n_arr m c)),
      (h.1 c _ (Run.mem_uc Cert.KernelIdeal.main_arg0 rfl)).trans (Run.V₂_arg m c _ (by decide +kernel) (by decide +kernel)),
      (h.1 c _ (Run.mem_uc Cert.KernelIdeal.main_arg1 rfl)).trans (Run.V₂_arg m c _ (by decide +kernel) (by decide +kernel)),
      (h.1 c _ (Run.mem_uc Cert.KernelIdeal.main_arg2 rfl)).trans (Run.V₂_arg m c _ (by decide +kernel) (by decide +kernel)),
      (h.1 c _ (Run.mem_uc Cert.KernelIdeal.main_arg3 rfl)).trans (Run.V₂_arg m c _ (by decide +kernel) (by decide +kernel)),
      (h.1 c _ (Run.mem_uc Cert.KernelIdeal.main_arg4 rfl)).trans (Run.V₂_arg m c _ (by decide +kernel) (by decide +kernel)),
      (h.1 c _ (Run.mem_uc Cert.KernelIdeal.main_arg5 rfl)).trans (Run.V₂_arg m c _ (by decide +kernel) (by decide +kernel)),
      (h.1 c _ (Run.mem_uc Cert.KernelIdeal.main_arg6 rfl)).trans (Run.V₂_arg m c _ (by decide +kernel) (by decide +kernel)),
      (h.1 c _ (Run.mem_uc Cert.KernelIdeal.main_arg7 rfl)).trans (Run.V₂_arg m c _ (by decide +kernel) (by decide +kernel)),
      (h.1 c _ (Run.mem_uc Cert.KernelIdeal.main_arg8 rfl)).trans (Run.V₂_arg m c _ (by decide +kernel) (by decide +kernel))⟩)
    (Run.run_main (F := Ideal) m g)

end

section
open Cert.ReferenceIdeal
/-- What the reference leaves in its results, and that its arguments stay. -/
theorem reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v103) = (fun i => Gdn.resO (Cert.ReferenceIdeal.Val.X m c) (i 0) (i 1))
      ∧ r.2.mem ((c.tc : Thread Cert.ReferenceIdeal.nD Cert.ReferenceIdeal.τ).loc Cert.ReferenceIdeal.main_v96) = (fun i => Gdn.resU (Cert.ReferenceIdeal.Val.X m c) (i 0) (i 1))
      ∧ r.2.mem ((c.tc : Thread Cert.ReferenceIdeal.nD Cert.ReferenceIdeal.τ).loc Cert.ReferenceIdeal.main_v94) = (fun i => Gdn.resW (Cert.ReferenceIdeal.Val.X m c) (i 0) (i 1))
      ∧ r.2.mem ((c.tc : Thread Cert.ReferenceIdeal.nD Cert.ReferenceIdeal.τ).loc Cert.ReferenceIdeal.main_v92) = (fun i => Gdn.resQ (Cert.ReferenceIdeal.Val.X m c) (i 0) (i 1))
      ∧ r.2.mem ((c.tc : Thread Cert.ReferenceIdeal.nD Cert.ReferenceIdeal.τ).loc Cert.ReferenceIdeal.main_v90) = (fun i => Gdn.resK (Cert.ReferenceIdeal.Val.X m c) (i 0) (i 1))
      ∧ r.2.mem ((c.tc : Thread Cert.ReferenceIdeal.nD Cert.ReferenceIdeal.τ).loc Cert.ReferenceIdeal.main_v88) = (fun i => Gdn.resA (Cert.ReferenceIdeal.Val.X m c) (i 0) (i 1))
      ∧ r.2.mem ((c.tc : Thread Cert.ReferenceIdeal.nD Cert.ReferenceIdeal.τ).loc Cert.ReferenceIdeal.main_v102) = (fun i => Gdn.resG (Cert.ReferenceIdeal.Val.X m c) (i 0) (i 1))
      ∧ r.2.mem ((c.tc : Thread Cert.ReferenceIdeal.nD Cert.ReferenceIdeal.τ).loc Cert.ReferenceIdeal.main_v104) = (fun i => Gdn.resH (Cert.ReferenceIdeal.Val.X m c) (i 0) (i 1))
      ∧ r.2.mem ((c.tc : Thread Cert.ReferenceIdeal.nD Cert.ReferenceIdeal.τ).loc Cert.ReferenceIdeal.main_v76) = (fun i => Gdn.resN (Cert.ReferenceIdeal.Val.X m c) (i 1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run Cert.ReferenceIdeal.defs _ _).mono
    (fun r h c => ⟨
      (h.1 c _ (Run.mem_uc Cert.ReferenceIdeal.main_v103 rfl)).trans (Val.o_val m c),
      (h.1 c _ (Run.mem_uc Cert.ReferenceIdeal.main_v96 rfl)).trans (Val.u_val m c),
      (h.1 c _ (Run.mem_uc Cert.ReferenceIdeal.main_v94 rfl)).trans (Val.w_val m c),
      (h.1 c _ (Run.mem_uc Cert.ReferenceIdeal.main_v92 rfl)).trans (Val.q_val m c),
      (h.1 c _ (Run.mem_uc Cert.ReferenceIdeal.main_v90 rfl)).trans (Val.k_val m c),
      (h.1 c _ (Run.mem_uc Cert.ReferenceIdeal.main_v88 rfl)).trans (Val.a_val m c),
      (h.1 c _ (Run.mem_uc Cert.ReferenceIdeal.main_v102 rfl)).trans (Val.g_val m c),
      (h.1 c _ (Run.mem_uc Cert.ReferenceIdeal.main_v104 rfl)).trans (Val.h_val m c),
      (h.1 c _ (Run.mem_uc Cert.ReferenceIdeal.main_v76 rfl)).trans (Val.n_val m c),
      (h.1 c _ (Run.mem_uc Cert.ReferenceIdeal.main_arg0 rfl)).trans (Run.X₄_keeps m (by decide +kernel) c),
      (h.1 c _ (Run.mem_uc Cert.ReferenceIdeal.main_arg1 rfl)).trans (Run.X₄_keeps m (by decide +kernel) c),
      (h.1 c _ (Run.mem_uc Cert.ReferenceIdeal.main_arg2 rfl)).trans (Run.X₄_keeps m (by decide +kernel) c),
      (h.1 c _ (Run.mem_uc Cert.ReferenceIdeal.main_arg3 rfl)).trans (Run.X₄_keeps m (by decide +kernel) c),
      (h.1 c _ (Run.mem_uc Cert.ReferenceIdeal.main_arg4 rfl)).trans (Run.X₄_keeps m (by decide +kernel) c),
      (h.1 c _ (Run.mem_uc Cert.ReferenceIdeal.main_arg5 rfl)).trans (Run.X₄_keeps m (by decide +kernel) c),
      (h.1 c _ (Run.mem_uc Cert.ReferenceIdeal.main_arg6 rfl)).trans (Run.X₄_keeps m (by decide +kernel) c),
      (h.1 c _ (Run.mem_uc Cert.ReferenceIdeal.main_arg7 rfl)).trans (Run.X₄_keeps m (by decide +kernel) c),
      (h.1 c _ (Run.mem_uc Cert.ReferenceIdeal.main_arg8 rfl)).trans (Run.X₄_keeps m (by decide +kernel) c)⟩)
    (Run.run_main (F := Ideal) m g)
end

/-- Agreeing arguments are cut into the same chunks. -/
theorem chunks_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    : Cert.ReferenceIdeal.Val.X m' c = Cert.KernelIdeal.Val.X m c := by
  funext j t
  unfold Cert.ReferenceIdeal.Val.X Cert.KernelIdeal.Val.X
  rw [show Cert.ReferenceIdeal.Val.arg m' c Cert.ReferenceIdeal.main_arg0 = _ from h0]
  rw [show Cert.ReferenceIdeal.Val.arg m' c Cert.ReferenceIdeal.main_arg1 = _ from h1]
  rw [show Cert.ReferenceIdeal.Val.arg m' c Cert.ReferenceIdeal.main_arg2 = _ from h2]
  rw [show Cert.ReferenceIdeal.Val.arg m' c Cert.ReferenceIdeal.main_arg3 = _ from h3]
  rw [show Cert.ReferenceIdeal.Val.arg m' c Cert.ReferenceIdeal.main_arg4 = _ from h4]
  rw [show Cert.ReferenceIdeal.Val.arg m' c Cert.ReferenceIdeal.main_arg5 = _ from h5]
  rw [show Cert.ReferenceIdeal.Val.arg m' c Cert.ReferenceIdeal.main_arg6 = _ from h6]
  rw [show Cert.ReferenceIdeal.Val.arg m' c Cert.ReferenceIdeal.main_arg7 = _ from h7]
  rw [show Cert.ReferenceIdeal.Val.arg m' c Cert.ReferenceIdeal.main_arg8 = _ from h8]

theorem algebraic : Cert.algebraic_KernelIdeal_ReferenceIdeal := fun m g m' g' _ h =>
  ⟨fun c i => Gdn.resO (Cert.KernelIdeal.Val.X m c) (i 0) (i 1),
    fun c i => Gdn.resU (Cert.KernelIdeal.Val.X m c) (i 0) (i 1),
    fun c i => Gdn.resW (Cert.KernelIdeal.Val.X m c) (i 0) (i 1),
    fun c i => Gdn.resQ (Cert.KernelIdeal.Val.X m c) (i 0) (i 1),
    fun c i => Gdn.resK (Cert.KernelIdeal.Val.X m c) (i 0) (i 1),
    fun c i => Gdn.resA (Cert.KernelIdeal.Val.X m c) (i 0) (i 1),
    fun c i => Gdn.resG (Cert.KernelIdeal.Val.X m c) (i 0) (i 1),
    fun c i => Gdn.resH (Cert.KernelIdeal.Val.X m c) (i 0) (i 1),
    fun c i => Gdn.resN (Cert.KernelIdeal.Val.X m c) (i 1),
    kernel m g,
    (θ_run Cert.ReferenceIdeal.defs _ _).mono (fun r H c => by
      have H' := H c
      obtain ⟨h0, h1, h2, h3, h4, h5, h6, h7, h8⟩ := h c
      rw [chunks_eq m m' c h0 h1 h2 h3 h4 h5 h6 h7 h8] at H'
      exact H') (reference m' g')⟩

end Cert.Values

end

end
-- ==== Proof.Pads.lean ====
module

public import Idealize.ShloMosaic.Lib.Pointwise
public import Idealize.ShloMosaic.Lib.KernelVsHost

@[expose] public section

noncomputable section

/-! # Padded blocks

The feed-forward widths are kept in blocks of 352 which the kernel pads to 384: entry `i` of the width is entry
`i / 352 * 384 + i % 352` of the padded width. -/

namespace Cert.Pads

open Idealize.ShloMosaic

/-- The padded place of entry `i` of a feed-forward width. -/
def at384 (i : ℕ) : ℕ := i / 352 * 384 + i % 352

/-- A stack of `n` blocks of 352 rows padded to 384 rows, read at a row that the block has. -/
theorem rows_in {α : Type} {n d : ℕ} (x : (Shape.mk 3 ![n, 352, d]).Idx → α) {u : Shape} (v : u.Idx → α)
    (h : (Shape.mk 3 ![n, 352, d]).Pads ![0, 0, 0] ![0, 32, 0] ![0, 0, 0] ⟨3, ![n, 384, d]⟩) (hu : 0 < u.numel)
    (a : Fin n) (b : Fin 384) (k : Fin d) (b' : Fin 352) (e : b.val = b'.val) :
    pad ⟨3, ![n, 384, d]⟩ ![0, 0, 0] ![0, 32, 0] ![0, 0, 0] x v h hu (ix3 a b k) = x (ix3 a b' k) :=
  pad_apply_of_inside _ _ _ x v h hu _ _ fun i => by
    fin_cases i
    · show a.val = 0 + a.val * (0 + 1); omega
    · show b.val = 0 + b'.val * (0 + 1); omega
    · show k.val = 0 + k.val * (0 + 1); omega

/-- A stack of rows in `n` blocks of 352 columns padded to 384 columns, read at a column that the block has. -/
theorem cols_in {α : Type} {n d : ℕ} (x : (Shape.mk 3 ![d, n, 352]).Idx → α) {u : Shape} (v : u.Idx → α)
    (h : (Shape.mk 3 ![d, n, 352]).Pads ![0, 0, 0] ![0, 0, 32] ![0, 0, 0] ⟨3, ![d, n, 384]⟩) (hu : 0 < u.numel)
    (k : Fin d) (a : Fin n) (b : Fin 384) (b' : Fin 352) (e : b.val = b'.val) :
    pad ⟨3, ![d, n, 384]⟩ ![0, 0, 0] ![0, 0, 32] ![0, 0, 0] x v h hu (ix3 k a b) = x (ix3 k a b') :=
  pad_apply_of_inside _ _ _ x v h hu _ _ fun i => by
    fin_cases i
    · show k.val = 0 + k.val * (0 + 1); omega
    · show a.val = 0 + a.val * (0 + 1); omega
    · show b.val = 0 + b'.val * (0 + 1); omega

/-- The same at a column that the block has not: the padding value. -/
theorem cols_out {α : Type} {n d : ℕ} (x : (Shape.mk 3 ![d, n, 352]).Idx → α) {u : Shape} (v : u.Idx → α)
    (h : (Shape.mk 3 ![d, n, 352]).Pads ![0, 0, 0] ![0, 0, 32] ![0, 0, 0] ⟨3, ![d, n, 384]⟩) (hu : 0 < u.numel)
    (k : Fin d) (a : Fin n) (b : Fin 384) (e : 352 ≤ b.val) :
    pad ⟨3, ![d, n, 384]⟩ ![0, 0, 0] ![0, 0, 32] ![0, 0, 0] x v h hu (ix3 k a b) = v (Shape.Idx.first hu) :=
  pad_apply_of_not_inside _ _ _ x v h hu _ 2 fun i => by
    have := i.2.2
    change (b.val - 0) / (0 + 1) < 352 at this
    omega

/-- A sum over the padded width whose padding entries are zero is the sum over the width. -/
theorem sum_pad {n p : ℕ} (hn : n % 352 = 0) (hp : p = n / 352 * 384) (f : Fin n → EReal) (g : Fin p → EReal)
    (hz : ∀ j : Fin p, 352 ≤ j.val % 384 → g j = 0) (hfg : ∀ (i : Fin n) (j : Fin p), j.val = at384 i.val → g j = f i) :
    ∑ j, g j = ∑ i, f i := by
  have lt : ∀ i : Fin n, at384 i.val < p := fun i => by
    have := i.isLt; unfold at384; omega
  refine (Fintype.sum_of_injective (fun i : Fin n => (⟨at384 i.val, lt i⟩ : Fin p)) (fun i j e => ?_) f g
    (fun j hj => ?_) fun i => (hfg i _ rfl).symm).symm
  · have e := congrArg Fin.val e
    dsimp only [at384] at e
    exact Fin.ext (by omega)
  · by_cases h : 352 ≤ j.val % 384
    · exact hz j h
    · refine absurd ⟨(⟨j.val / 384 * 352 + j.val % 384, by have := j.isLt; omega⟩ : Fin n), Fin.ext ?_⟩ hj
      dsimp only [at384]
      omega

/-- The first `b` terms and the next `n` are the first `b + n`. -/
theorem sum_step (f : ℕ → EReal) (b n : ℕ) :
    ∑ k ∈ Finset.range b, f k + ∑ l : Fin n, f (b + l.val) = ∑ k ∈ Finset.range (b + n), f k := by
  rw [Finset.sum_range_add, ← Finset.sum_range fun l => f (b + l)]

end Cert.Pads

end

end
-- ==== Proof.OutProjDwVal.lean ====
module

public import proofs.«01_k».proof.Proof.Gen.OutProjDwIdeal.Value
public import proofs.«01_k».proof.Proof.Gen.OutProjDwRefIdeal.Run
public import proofs.«01_k».proof.Proof.Gen.OutProjDw.Frame
public import proofs.«01_k».proof.Defs
public import Idealize.ShloMosaic.Lib.Pipeline.ValueKit
public import proofs.«01_k».proof.Proof.Pads
import Idealize.ShloMosaic.Lib.StableHlo.RunRead

@[expose] public section

set_option maxRecDepth 16384

noncomputable section

/-! # The gradient of the out projection's weight -/

namespace Cert.OutProjDwIdeal.Val

open Idealize.ShloMosaic Idealize.ShloMosaic.TcCoe Idealize.SL.Sem
open Cert.OutProjDwIdeal Cert.OutProjDwIdeal.Gen
open Idealize.ShloMosaic.Pipeline (Dat)

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![0, t.val] := by decide +kernel
theorem index_2 : ∀ t : Fin cfg0.N, win0_2.index t = ![0, t.val] := by decide +kernel

/-- An entry of the projected array. -/
def A (t : Fin 2048) (k : Fin 1024) : EReal := m ((c : Thread nD τ).loc main_arg0) (ix2 t k)
/-- An entry of the cotangent. -/
def B (t : Fin 2048) (k : Fin 1024) : EReal := m ((c : Thread nD τ).loc main_arg1) (ix2 t k)

/-- The gradient, entry by entry: a sum over the positions. -/
def G (i : S1024x1024.Idx) : EReal := ∑ t : Fin 2048, A m c t (i 0) * B m c t (i 1)

/-- What the call leaves. -/
theorem out : (dats m 0 c).arrAt 2 cfg0.N = G m c := by
  refine (dats m 0 c).arrAt_eq_of_covers 2 _ (by decide +kernel) fun t hf y => ?_
  blk_simp
  rw [after0_2]
  unfold outsAt0
  frame_out
  pointwise [k0_pay1]
  unfold G
  refine Finset.sum_congr (M := EReal) rfl fun k _ => congrArg₂ (· * ·) ?_ ?_
  · unfold A
    blk_ext! [iblk, V, index_0 t, index_2 t]
  · unfold B
    blk_ext! [iblk, V, index_1 t, index_2 t]

/-- The call and its reference leave the same gradient. -/
theorem algebraic : Cert.algebraic_OutProjDwIdeal_OutProjDwRefIdeal := fun m g m' g' _ h =>
  ⟨fun c => G m c,
    (θ_run _ _ _).mono (fun r H c => ⟨(H c).1.trans (out m c), (H c).2⟩) (Value.run_blocks m g),
    (θ_run _ _ _).mono (fun r H c => ⟨(H c).1.trans (by
        rw [(h c).1, (h c).2]
        funext i
        show _ = G m c i
        unfold G A B
        pointwise
        exact Finset.sum_congr (M := EReal) rfl fun k _ => mul_comm (G := EReal) _ _), (H c).2⟩)
      (Cert.OutProjDwRefIdeal.Value.run m' g')⟩

theorem quiescent : Cert.quiescent_OutProjDw := fun m ρ _ => Cert.OutProjDw.Gen.frame m ρ

theorem quiescent_ideal : Cert.quiescent_OutProjDwIdeal := fun m ρ _ => Cert.OutProjDwIdeal.Gen.frame m ρ

theorem quiescent_ref : Cert.quiescent_OutProjDwRefIdeal := fun m ρ _ =>
  (θ_run Cert.OutProjDwRefIdeal.defs _ _).mono
    (fun r H => ⟨fun c => (H c).2, sem_eq_zero_of_no_sems (by decide) r.2⟩) (Cert.OutProjDwRefIdeal.Value.run m ρ)

end Cert.OutProjDwIdeal.Val

end

end
-- ==== Proof.OutProjDxVal.lean ====
module

public import proofs.«01_k».proof.Proof.Gen.OutProjDxIdeal.Value
public import proofs.«01_k».proof.Proof.Gen.OutProjDxRefIdeal.Run
public import proofs.«01_k».proof.Proof.Gen.OutProjDx.Frame
public import proofs.«01_k».proof.Defs
public import Idealize.ShloMosaic.Lib.Pipeline.ValueKit

@[expose] public section

set_option maxRecDepth 16384

noncomputable section

/-! # The gradient of the output projection's input

Each grid point leaves a block of columns; together they are the cotangent times the weight's transpose. -/

namespace Cert.OutProjDxIdeal.Val

open Idealize.ShloMosaic Idealize.ShloMosaic.TcCoe Idealize.SL.Sem
open Cert.OutProjDxIdeal Cert.OutProjDxIdeal.Gen
open Idealize.ShloMosaic.Pipeline (Dat)

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![t.val, 0] := by decide +kernel
theorem index_2 : ∀ t : Fin cfg0.N, win0_2.index t = ![0, t.val] := by decide +kernel

/-- An entry of the cotangent. -/
def A (r : Fin 2048) (k : Fin 1024) : EReal := m ((c : Thread nD τ).loc main_arg0) (ix2 r k)
/-- An entry of the weight. -/
def B (r : Fin 1024) (k : Fin 1024) : EReal := m ((c : Thread nD τ).loc main_arg1) (ix2 r k)
/-- The product, entry by entry. -/
def G (i : S2048x1024.Idx) : EReal := ∑ k : Fin 1024, A m c (i 0) k * B m c (i 1) k

theorem blk_0 (t : Fin cfg0.N) (r : Fin 2048) (k : Fin 1024) (R : Fin 2048) (h : R.val = r.val) :
    iblk m c 0 t (ix2 r k) = A m c R k := by
  unfold A
  blk_ext! [iblk, V, index_0 t]
theorem blk_1 (t : Fin cfg0.N) (r : Fin 512) (k : Fin 1024) (R : Fin 1024) (h : R.val = t.val * 512 + r.val) :
    iblk m c 1 t (ix2 r k) = B m c R k := by
  unfold B
  blk_ext! [iblk, V, index_1 t]

/-- What the call leaves. -/
theorem out : (dats m 0 c).arrAt 2 cfg0.N = G m c := by
  refine (dats m 0 c).arrAt_eq_of_covers 2 _ (by decide +kernel) fun t hf y => ?_
  blk_simp
  rw [after0_2]
  unfold outsAt0
  frame_out
  pointwise [k0_pay1]
  unfold G
  refine Finset.sum_congr (M := EReal) rfl fun k _ => congrArg₂ (· * ·) ?_ ?_
  · exact blk_0 m c t _ _ _ (by blk_simp [index_2 t])
  · exact blk_1 m c t _ _ _ (by blk_simp [index_2 t])

theorem algebraic : Cert.algebraic_OutProjDxIdeal_OutProjDxRefIdeal := fun m g m' g' _ h =>
  ⟨fun c => G m c,
    (θ_run _ _ _).mono (fun r H c => ⟨(H c).1.trans (out m c), (H c).2⟩) (Value.run_blocks m g),
    (θ_run _ _ _).mono (fun r H c => ⟨(H c).1.trans (by
      rw [(h c).1, (h c).2]
      funext i
      show _ = G m c i
      unfold G A B
      pointwise), (H c).2⟩) (Cert.OutProjDxRefIdeal.Value.run m' g')⟩

theorem quiescent : Cert.quiescent_OutProjDx := fun m ρ _ => Cert.OutProjDx.Gen.frame m ρ
theorem quiescent_ideal : Cert.quiescent_OutProjDxIdeal := fun m ρ _ => Cert.OutProjDxIdeal.Gen.frame m ρ
theorem quiescent_ref : Cert.quiescent_OutProjDxRefIdeal := fun m ρ _ =>
  (θ_run Cert.OutProjDxRefIdeal.defs _ _).mono (fun r H => ⟨fun c => (H c).2, sem_eq_zero_of_no_sems (by decide) r.2⟩)
    (Cert.OutProjDxRefIdeal.Value.run m ρ)

end Cert.OutProjDxIdeal.Val

end

end
-- ==== Proof.InProjPads.lean ====
module

public import Idealize.ShloMosaic.Lib.Pointwise
public import Idealize.ShloMosaic.Lib.KernelVsHost

@[expose] public section

set_option maxRecDepth 16384

noncomputable section

/-! # The padded width of the input projection

The kernel lays the 9256 columns of the input projection out in another order on 9728 columns, each part on a whole number
of lanes. `src` takes a padded place to its column, and to 9256 where there is none; `dst` takes a column to its padded
place. -/

namespace Cert.InProjPads

open Idealize.ShloMosaic

/-- The column at a padded place (9256 at padding). -/
def src (K : ℕ) : ℕ :=
  if K < 3072 then 6184 + K else if K < 4608 then 1024 + (K - 3072) else if K < 6144 then 2576 + (K - 4608)
  else if K < 7168 then K - 6144 else if K < 8192 then 4632 + (K - 7168) else if K < 8704 then 4120 + (K - 8192)
  else if K < 9216 then 5672 + (K - 8704) else if K < 9232 then 2560 + (K - 9216) else if K < 9344 then 9256
  else if K < 9352 then 4112 + (K - 9344) else if K < 9472 then 9256 else if K < 9488 then 5656 + (K - 9472) else 9256

/-- The padded place of a column. -/
def dst (i : ℕ) : ℕ :=
  if i < 1024 then 6144 + i else if i < 2560 then 3072 + (i - 1024) else if i < 2576 then 9216 + (i - 2560)
  else if i < 4112 then 4608 + (i - 2576) else if i < 4120 then 9344 + (i - 4112) else if i < 4632 then 8192 + (i - 4120)
  else if i < 5656 then 7168 + (i - 4632) else if i < 5672 then 9472 + (i - 5656) else if i < 6184 then 8704 + (i - 5672)
  else i - 6184

/-- A choice by its two cases. -/
theorem rung {p : Prop} [Decidable p] {a b d : ℕ} (e : (if p then a else b) = d) :
    (p ∧ d = a) ∨ (¬ p ∧ b = d) := by
  by_cases h : p
  · exact .inl ⟨h, by rw [← e, if_pos h]⟩
  · exact .inr ⟨h, by rw [← e, if_neg h]⟩

/-- `src` by its intervals. -/
theorem src_cases (K : ℕ) :
    (K < 3072 ∧ src K = 6184 + K) ∨ (¬ K < 3072 ∧ (
    (K < 4608 ∧ src K = 1024 + (K - 3072)) ∨ (¬ K < 4608 ∧ (
    (K < 6144 ∧ src K = 2576 + (K - 4608)) ∨ (¬ K < 6144 ∧ (
    (K < 7168 ∧ src K = K - 6144) ∨ (¬ K < 7168 ∧ (
    (K < 8192 ∧ src K = 4632 + (K - 7168)) ∨ (¬ K < 8192 ∧ (
    (K < 8704 ∧ src K = 4120 + (K - 8192)) ∨ (¬ K < 8704 ∧ (
    (K < 9216 ∧ src K = 5672 + (K - 8704)) ∨ (¬ K < 9216 ∧ (
    (K < 9232 ∧ src K = 2560 + (K - 9216)) ∨ (¬ K < 9232 ∧ (
    (K < 9344 ∧ src K = 9256) ∨ (¬ K < 9344 ∧ (
    (K < 9352 ∧ src K = 4112 + (K - 9344)) ∨ (¬ K < 9352 ∧ (
    (K < 9472 ∧ src K = 9256) ∨ (¬ K < 9472 ∧ (
    (K < 9488 ∧ src K = 5656 + (K - 9472)) ∨ (¬ K < 9488 ∧ (
    src K = 9256)))))))))))))))))))))))) := by
  have e : src K = src K := rfl
  conv at e => lhs; unfold src
  generalize src K = d at e ⊢
  iterate 12 refine (rung e).imp id (And.imp_right fun e => ?_)
  exact e.symm

/-- `dst` by its intervals. -/
theorem dst_cases (i : ℕ) :
    (i < 1024 ∧ dst i = 6144 + i) ∨ (¬ i < 1024 ∧ (
    (i < 2560 ∧ dst i = 3072 + (i - 1024)) ∨ (¬ i < 2560 ∧ (
    (i < 2576 ∧ dst i = 9216 + (i - 2560)) ∨ (¬ i < 2576 ∧ (
    (i < 4112 ∧ dst i = 4608 + (i - 2576)) ∨ (¬ i < 4112 ∧ (
    (i < 4120 ∧ dst i = 9344 + (i - 4112)) ∨ (¬ i < 4120 ∧ (
    (i < 4632 ∧ dst i = 8192 + (i - 4120)) ∨ (¬ i < 4632 ∧ (
    (i < 5656 ∧ dst i = 7168 + (i - 4632)) ∨ (¬ i < 5656 ∧ (
    (i < 5672 ∧ dst i = 9472 + (i - 5656)) ∨ (¬ i < 5672 ∧ (
    (i < 6184 ∧ dst i = 8704 + (i - 5672)) ∨ (¬ i < 6184 ∧ (
    dst i = i - 6184)))))))))))))))))) := by
  have e : dst i = dst i := rfl
  conv at e => lhs; unfold dst
  generalize dst i = d at e ⊢
  iterate 9 refine (rung e).imp id (And.imp_right fun e => ?_)
  exact e.symm

theorem dst_lt (i : ℕ) (h : i < 9256) : dst i < 9728 := by
  have := dst_cases i
  omega

theorem src_dst (i : ℕ) (h : i < 9256) : src (dst i) = i := by
  have := src_cases (dst i)
  have := dst_cases i
  omega

theorem dst_src (K : ℕ) (h : src K < 9256) (hK : K < 9728) : dst (src K) = K := by
  have := dst_cases (src K)
  have := src_cases K
  omega

/-- A choice is what both its branches are. -/
theorem peel {β : Type} {p : Prop} [Decidable p] {a : p → β} {b : ¬p → β} {c : β} (ha : ∀ h, a h = c) (hb : ∀ h, b h = c) :
    (if h : p then a h else b h) = c := by
  by_cases h : p
  · rw [dif_pos h, ha h]
  · rw [dif_neg h, hb h]

/-- A sum over the padded width whose padding entries are zero is the sum over the width. -/
theorem sum_pad (f : Fin 9256 → EReal) (g : Fin 9728 → EReal)
    (hz : ∀ j : Fin 9728, ¬src j.val < 9256 → g j = 0) (hfg : ∀ (j : Fin 9728) (h : src j.val < 9256), g j = f ⟨src j.val, h⟩) :
    ∑ j, g j = ∑ i, f i := by
  refine (Fintype.sum_of_injective (fun i : Fin 9256 => (⟨dst i.val, dst_lt _ i.isLt⟩ : Fin 9728)) (fun i j e => ?_) f g
    (fun j hj => hz j fun h => ?_) fun i => ?_).symm
  · have e := congrArg (fun a => src a.val) e
    dsimp only at e
    rw [src_dst _ i.isLt, src_dst _ j.isLt] at e
    exact Fin.ext e
  · exact hj ⟨⟨src j.val, h⟩, Fin.ext (dst_src _ h j.isLt)⟩
  · have e := src_dst _ i.isLt
    rw [hfg _ (by dsimp only; omega)]
    exact congrArg f (Fin.ext e.symm)

/-- Columns padded at the end, read at a place: the column there, or the padding value. -/
theorem pad_cols {α : Type} {d n p w : ℕ} (x : (Shape.mk 2 ![d, n]).Idx → α) {u : Shape} (v : u.Idx → α)
    (h : (Shape.mk 2 ![d, n]).Pads ![0, 0] ![0, p] ![0, 0] ⟨2, ![d, w]⟩) (hu : 0 < u.numel) (k : Fin d) (j : Fin w) :
    pad ⟨2, ![d, w]⟩ ![0, 0] ![0, p] ![0, 0] x v h hu (ix2 k j) =
      if e : j.val < n then x (ix2 k ⟨j.val, e⟩) else v (Shape.Idx.first hu) := by
  by_cases e : j.val < n
  · rw [dif_pos e]
    exact pad_apply_of_inside _ _ _ x v h hu _ _ fun i => by
      fin_cases i
      · show k.val = 0 + k.val * (0 + 1); omega
      · show j.val = 0 + j.val * (0 + 1); omega
  · rw [dif_neg e]
    exact pad_apply_of_not_inside _ _ _ x v h hu _ 1 fun i => by
      have := i.2.2
      change (j.val - 0) / (0 + 1) < n at this
      omega

section
variable {α : Type} (g : ℕ → α)

/-- The pieces of the padded cotangent laid side by side: the column at a padded place. -/
theorem cols (t : Fin 2048) (K : Fin 9728)
    (x0 : (Shape.mk 2 ![2048, 3072]).Idx → α) (x1 x2 : (Shape.mk 2 ![2048, 1536]).Idx → α)
    (x3 x4 : (Shape.mk 2 ![2048, 1024]).Idx → α) (x5 x6 : (Shape.mk 2 ![2048, 512]).Idx → α)
    (x7 x8 x9 x10 : (Shape.mk 2 ![2048, 128]).Idx → α) (h)
    (h0 : ∀ j : Fin 3072, x0 (ix2 t j) = g (6184 + j.val)) (h1 : ∀ j : Fin 1536, x1 (ix2 t j) = g (1024 + j.val))
    (h2 : ∀ j : Fin 1536, x2 (ix2 t j) = g (2576 + j.val)) (h3 : ∀ j : Fin 1024, x3 (ix2 t j) = g j.val)
    (h4 : ∀ j : Fin 1024, x4 (ix2 t j) = g (4632 + j.val)) (h5 : ∀ j : Fin 512, x5 (ix2 t j) = g (4120 + j.val))
    (h6 : ∀ j : Fin 512, x6 (ix2 t j) = g (5672 + j.val))
    (h7 : ∀ j : Fin 128, x7 (ix2 t j) = g (if j.val < 16 then 2560 + j.val else 9256))
    (h8 : ∀ j : Fin 128, x8 (ix2 t j) = g (if j.val < 8 then 4112 + j.val else 9256))
    (h9 : ∀ j : Fin 128, x9 (ix2 t j) = g (if j.val < 16 then 5656 + j.val else 9256))
    (h10 : ∀ j : Fin 128, x10 (ix2 t j) = g 9256) :
    concatenate ⟨2, ![2048, 9728]⟩ 1 [⟨_, x0⟩, ⟨_, x1⟩, ⟨_, x2⟩, ⟨_, x3⟩, ⟨_, x4⟩, ⟨_, x5⟩, ⟨_, x6⟩, ⟨_, x7⟩, ⟨_, x8⟩, ⟨_, x9⟩, ⟨_, x10⟩] h (ix2 t K) = g (src K.val) := by
  pointwise
  simp only [h0, h1, h2, h3, h4, h5, h6, h7, h8, h9, h10]
  have e := src_cases K.val
  iterate 7 refine peel (fun _ => congrArg g (by omega)) fun _ => ?_
  iterate 3 refine peel (fun _ => congrArg g (by split_ifs <;> omega)) fun _ => ?_
  exact congrArg g (by omega)

/-- One piece of arrays laid one below the other: the rows from `pre` on are its rows. -/
theorem piece {d w e : ℕ} (xs : List ((s : Shape) × (s.Idx → α)))
    (h : Shape.Concatenates (xs.map (·.1)) ⟨2, ![w, d]⟩ 0) (K : Fin w) (n : Fin d)
    (k : ℕ) (hk : k < xs.length) (x : (Shape.mk 2 ![e, d]).Idx → α) (hxk : xs[k] = ⟨⟨2, ![e, d]⟩, x⟩) (pre : ℕ)
    (hpre : (((xs.take k).map (·.1)).map fun s =>
      if h : s.rank = (Shape.mk 2 ![w, d]).rank then s.size ((0 : Fin 2).cast h.symm) else 0).sum = pre)
    (hl : pre ≤ K.val) (hu : K.val < pre + e) :
    concatenate ⟨2, ![w, d]⟩ 0 xs h (ix2 K n) = x (ix2 ⟨K.val - pre, by omega⟩ n) := by
  refine concatenate_apply_piece (t := ⟨2, ![w, d]⟩) 0 xs h (ix2 K n) k hk ⟨2, ![e, d]⟩ x hxk rfl pre hpre _ (fun b hb => ?_) ?_
  · fin_cases b
    · exact absurd rfl hb
    · rfl
  · show pre + (K.val - pre) = K.val
    omega

/-- The pieces of the padded transposed weight laid one below the other: the row at a padded place. -/
theorem rows (n : Fin 1024) (K : Fin 9728)
    (x0 : (Shape.mk 2 ![3072, 1024]).Idx → α) (x1 x2 : (Shape.mk 2 ![1536, 1024]).Idx → α)
    (x3 x4 : (Shape.mk 2 ![1024, 1024]).Idx → α) (x5 x6 : (Shape.mk 2 ![512, 1024]).Idx → α)
    (x7 : (Shape.mk 2 ![16, 1024]).Idx → α) (x8 : (Shape.mk 2 ![112, 1024]).Idx → α)
    (x9 x10 : (Shape.mk 2 ![4, 1024]).Idx → α) (x11 : (Shape.mk 2 ![120, 1024]).Idx → α)
    (x12 : (Shape.mk 2 ![16, 1024]).Idx → α) (x13 : (Shape.mk 2 ![240, 1024]).Idx → α) (h)
    (h0 : ∀ j : Fin 3072, x0 (ix2 j n) = g (6184 + j.val)) (h1 : ∀ j : Fin 1536, x1 (ix2 j n) = g (1024 + j.val))
    (h2 : ∀ j : Fin 1536, x2 (ix2 j n) = g (2576 + j.val)) (h3 : ∀ j : Fin 1024, x3 (ix2 j n) = g j.val)
    (h4 : ∀ j : Fin 1024, x4 (ix2 j n) = g (4632 + j.val)) (h5 : ∀ j : Fin 512, x5 (ix2 j n) = g (4120 + j.val))
    (h6 : ∀ j : Fin 512, x6 (ix2 j n) = g (5672 + j.val)) (h7 : ∀ j : Fin 16, x7 (ix2 j n) = g (2560 + j.val))
    (h8 : ∀ j : Fin 112, x8 (ix2 j n) = g 9256) (h9 : ∀ j : Fin 4, x9 (ix2 j n) = g (4112 + j.val))
    (h10 : ∀ j : Fin 4, x10 (ix2 j n) = g (4116 + j.val)) (h11 : ∀ j : Fin 120, x11 (ix2 j n) = g 9256)
    (h12 : ∀ j : Fin 16, x12 (ix2 j n) = g (5656 + j.val)) (h13 : ∀ j : Fin 240, x13 (ix2 j n) = g 9256) :
    concatenate ⟨2, ![9728, 1024]⟩ 0 [⟨_, x0⟩, ⟨_, x1⟩, ⟨_, x2⟩, ⟨_, x3⟩, ⟨_, x4⟩, ⟨_, x5⟩, ⟨_, x6⟩, ⟨_, x7⟩, ⟨_, x8⟩, ⟨_, x9⟩, ⟨_, x10⟩, ⟨_, x11⟩, ⟨_, x12⟩, ⟨_, x13⟩] h (ix2 K n) = g (src K.val) := by
  have hK := K.isLt
  have e := src_cases K.val
  obtain ⟨_, e⟩ | ⟨_, e⟩ := e
  · exact (piece _ h K n 0 (Nat.le_of_ble_eq_true rfl) x0 rfl 0 (by simp) (by omega) (by omega)).trans ((h0 _).trans (congrArg g (by dsimp only; omega)))
  obtain ⟨_, e⟩ | ⟨_, e⟩ := e
  · exact (piece _ h K n 1 (Nat.le_of_ble_eq_true rfl) x1 rfl 3072 (by simp) (by omega) (by omega)).trans ((h1 _).trans (congrArg g (by dsimp only; omega)))
  obtain ⟨_, e⟩ | ⟨_, e⟩ := e
  · exact (piece _ h K n 2 (Nat.le_of_ble_eq_true rfl) x2 rfl 4608 (by simp) (by omega) (by omega)).trans ((h2 _).trans (congrArg g (by dsimp only; omega)))
  obtain ⟨_, e⟩ | ⟨_, e⟩ := e
  · exact (piece _ h K n 3 (Nat.le_of_ble_eq_true rfl) x3 rfl 6144 (by simp) (by omega) (by omega)).trans ((h3 _).trans (congrArg g (by dsimp only; omega)))
  obtain ⟨_, e⟩ | ⟨_, e⟩ := e
  · exact (piece _ h K n 4 (Nat.le_of_ble_eq_true rfl) x4 rfl 7168 (by simp) (by omega) (by omega)).trans ((h4 _).trans (congrArg g (by dsimp only; omega)))
  obtain ⟨_, e⟩ | ⟨_, e⟩ := e
  · exact (piece _ h K n 5 (Nat.le_of_ble_eq_true rfl) x5 rfl 8192 (by simp) (by omega) (by omega)).trans ((h5 _).trans (congrArg g (by dsimp only; omega)))
  obtain ⟨_, e⟩ | ⟨_, e⟩ := e
  · exact (piece _ h K n 6 (Nat.le_of_ble_eq_true rfl) x6 rfl 8704 (by simp) (by omega) (by omega)).trans ((h6 _).trans (congrArg g (by dsimp only; omega)))
  obtain ⟨_, e⟩ | ⟨_, e⟩ := e
  · exact (piece _ h K n 7 (Nat.le_of_ble_eq_true rfl) x7 rfl 9216 (by simp) (by omega) (by omega)).trans ((h7 _).trans (congrArg g (by dsimp only; omega)))
  obtain ⟨_, e⟩ | ⟨_, e⟩ := e
  · exact (piece _ h K n 8 (Nat.le_of_ble_eq_true rfl) x8 rfl 9232 (by simp) (by omega) (by omega)).trans ((h8 _).trans (congrArg g (by omega)))
  obtain ⟨_, e⟩ | ⟨_, e⟩ := e
  · by_cases K.val < 9348
    · exact (piece _ h K n 9 (Nat.le_of_ble_eq_true rfl) x9 rfl 9344 (by simp) (by omega) (by omega)).trans ((h9 _).trans (congrArg g (by dsimp only; omega)))
    · exact (piece _ h K n 10 (Nat.le_of_ble_eq_true rfl) x10 rfl 9348 (by simp) (by omega) (by omega)).trans ((h10 _).trans (congrArg g (by dsimp only; omega)))
  obtain ⟨_, e⟩ | ⟨_, e⟩ := e
  · exact (piece _ h K n 11 (Nat.le_of_ble_eq_true rfl) x11 rfl 9352 (by simp) (by omega) (by omega)).trans ((h11 _).trans (congrArg g (by omega)))
  obtain ⟨_, e⟩ | ⟨_, e⟩ := e
  · exact (piece _ h K n 12 (Nat.le_of_ble_eq_true rfl) x12 rfl 9472 (by simp) (by omega) (by omega)).trans ((h12 _).trans (congrArg g (by dsimp only; omega)))
  exact (piece _ h K n 13 (Nat.le_of_ble_eq_true rfl) x13 rfl 9488 (by simp) (by omega) (by omega)).trans ((h13 _).trans (congrArg g (by omega)))

/-- The rows of the padded gradient put back in the projection's order. -/
theorem unpad_rows {d : ℕ} (n : Fin d) (i : Fin 9256)
    (x0 : (Shape.mk 2 ![1024, d]).Idx → α) (x1 : (Shape.mk 2 ![1536, d]).Idx → α) (x2 : (Shape.mk 2 ![16, d]).Idx → α)
    (x3 : (Shape.mk 2 ![1536, d]).Idx → α) (x4 x5 : (Shape.mk 2 ![4, d]).Idx → α) (x6 : (Shape.mk 2 ![512, d]).Idx → α)
    (x7 : (Shape.mk 2 ![1024, d]).Idx → α) (x8 : (Shape.mk 2 ![16, d]).Idx → α) (x9 : (Shape.mk 2 ![512, d]).Idx → α)
    (x10 : (Shape.mk 2 ![3072, d]).Idx → α) (h)
    (h0 : ∀ j : Fin 1024, x0 (ix2 j n) = g (6144 + j.val)) (h1 : ∀ j : Fin 1536, x1 (ix2 j n) = g (3072 + j.val))
    (h2 : ∀ j : Fin 16, x2 (ix2 j n) = g (9216 + j.val)) (h3 : ∀ j : Fin 1536, x3 (ix2 j n) = g (4608 + j.val))
    (h4 : ∀ j : Fin 4, x4 (ix2 j n) = g (9344 + j.val)) (h5 : ∀ j : Fin 4, x5 (ix2 j n) = g (9348 + j.val))
    (h6 : ∀ j : Fin 512, x6 (ix2 j n) = g (8192 + j.val)) (h7 : ∀ j : Fin 1024, x7 (ix2 j n) = g (7168 + j.val))
    (h8 : ∀ j : Fin 16, x8 (ix2 j n) = g (9472 + j.val)) (h9 : ∀ j : Fin 512, x9 (ix2 j n) = g (8704 + j.val))
    (h10 : ∀ j : Fin 3072, x10 (ix2 j n) = g j.val) :
    concatenate ⟨2, ![9256, d]⟩ 0 [⟨_, x0⟩, ⟨_, x1⟩, ⟨_, x2⟩, ⟨_, x3⟩, ⟨_, x4⟩, ⟨_, x5⟩, ⟨_, x6⟩, ⟨_, x7⟩, ⟨_, x8⟩, ⟨_, x9⟩, ⟨_, x10⟩] h (ix2 i n) = g (dst i.val) := by
  have e := dst_cases i.val
  have hi := i.isLt
  obtain ⟨_, e⟩ | ⟨_, e⟩ := e
  · exact (piece _ h i n 0 (Nat.le_of_ble_eq_true rfl) x0 rfl 0 (by simp) (by omega) (by omega)).trans ((h0 _).trans (congrArg g (by dsimp only; omega)))
  obtain ⟨_, e⟩ | ⟨_, e⟩ := e
  · exact (piece _ h i n 1 (Nat.le_of_ble_eq_true rfl) x1 rfl 1024 (by simp) (by omega) (by omega)).trans ((h1 _).trans (congrArg g (by dsimp only; omega)))
  obtain ⟨_, e⟩ | ⟨_, e⟩ := e
  · exact (piece _ h i n 2 (Nat.le_of_ble_eq_true rfl) x2 rfl 2560 (by simp) (by omega) (by omega)).trans ((h2 _).trans (congrArg g (by dsimp only; omega)))
  obtain ⟨_, e⟩ | ⟨_, e⟩ := e
  · exact (piece _ h i n 3 (Nat.le_of_ble_eq_true rfl) x3 rfl 2576 (by simp) (by omega) (by omega)).trans ((h3 _).trans (congrArg g (by dsimp only; omega)))
  obtain ⟨_, e⟩ | ⟨_, e⟩ := e
  · by_cases i.val < 4116
    · exact (piece _ h i n 4 (Nat.le_of_ble_eq_true rfl) x4 rfl 4112 (by simp) (by omega) (by omega)).trans ((h4 _).trans (congrArg g (by dsimp only; omega)))
    · exact (piece _ h i n 5 (Nat.le_of_ble_eq_true rfl) x5 rfl 4116 (by simp) (by omega) (by omega)).trans ((h5 _).trans (congrArg g (by dsimp only; omega)))
  obtain ⟨_, e⟩ | ⟨_, e⟩ := e
  · exact (piece _ h i n 6 (Nat.le_of_ble_eq_true rfl) x6 rfl 4120 (by simp) (by omega) (by omega)).trans ((h6 _).trans (congrArg g (by dsimp only; omega)))
  obtain ⟨_, e⟩ | ⟨_, e⟩ := e
  · exact (piece _ h i n 7 (Nat.le_of_ble_eq_true rfl) x7 rfl 4632 (by simp) (by omega) (by omega)).trans ((h7 _).trans (congrArg g (by dsimp only; omega)))
  obtain ⟨_, e⟩ | ⟨_, e⟩ := e
  · exact (piece _ h i n 8 (Nat.le_of_ble_eq_true rfl) x8 rfl 5656 (by simp) (by omega) (by omega)).trans ((h8 _).trans (congrArg g (by dsimp only; omega)))
  obtain ⟨_, e⟩ | ⟨_, e⟩ := e
  · exact (piece _ h i n 9 (Nat.le_of_ble_eq_true rfl) x9 rfl 5672 (by simp) (by omega) (by omega)).trans ((h9 _).trans (congrArg g (by dsimp only; omega)))
  exact (piece _ h i n 10 (Nat.le_of_ble_eq_true rfl) x10 rfl 6184 (by simp) (by omega) (by omega)).trans ((h10 _).trans (congrArg g (by dsimp only; omega)))

end

end Cert.InProjPads

end

end
-- ==== Proof.InProjDwVal.lean ====
module

public import proofs.«01_k».proof.Proof.Gen.InProjDwIdeal.Frame
public import proofs.«01_k».proof.Proof.Gen.InProjDwRefIdeal.Run
public import proofs.«01_k».proof.Proof.Gen.InProjDw.Frame
public import proofs.«01_k».proof.Defs
public import Idealize.ShloMosaic.Lib.Pipeline.ValueKit
public import proofs.«01_k».proof.Proof.InProjPads
import Idealize.ShloMosaic.Lib.StableHlo.RunRead

@[expose] public section

set_option maxRecDepth 16384

noncomputable section

/-! # The gradient of the input projection's weight -/

namespace Cert.InProjDwIdeal.Val

open Idealize.ShloMosaic Idealize.ShloMosaic.TcCoe Idealize.SL.Sem
open Cert.InProjDwIdeal Cert.InProjDwIdeal.Gen
open Idealize.ShloMosaic.Pipeline (Dat)

variable (m : (ℓ : Loc nD τ sig) → Buf (Elt Ideal) ℓ) (c : Dev nD)

theorem index_0 : ∀ t : Fin cfg0.N, win0_0.index t = ![0, t.val] := by decide +kernel
theorem index_1 : ∀ t : Fin cfg0.N, win0_1.index t = ![0, 0] := by decide +kernel
theorem index_2 : ∀ t : Fin cfg0.N, win0_2.index t = ![t.val, 0] := by decide +kernel

/-- An entry of the projection's input. -/
def A (t : Fin 2048) (k : Fin 1024) : EReal := m ((c : Thread nD τ).loc main_arg0) (ix2 t k)
/-- An entry of the cotangent. -/
def B (t : Fin 2048) (k : Fin 9256) : EReal := m ((c : Thread nD τ).loc main_arg1) (ix2 t k)
/-- The same with zeros behind the last column. -/
def B0 (t : Fin 2048) (k : ℕ) : EReal := if h : k < 9256 then B m c t ⟨k, h⟩ else 0
/-- An entry of the padded cotangent that the call reads. -/
def P (t : Fin 2048) (k : Fin 9728) : EReal := V m c main_v16 (ix2 t k)

/-- The padding value, the float of the word 0. -/
theorem zero_word : (((0#32).toInt : ℝ) : EReal) = 0 := by norm_num

theorem B0_at (t : Fin 2048) (k : ℕ) (h : k < 9256) :
    m ((c : Thread nD τ).loc main_arg1) (ix2 t ⟨k, h⟩) = B0 m c t k := by
  unfold B0 B
  rw [dif_pos h]

theorem B0_end (t : Fin 2048) : B0 m c t 9256 = 0 := by
  unfold B0
  rw [dif_neg (by omega)]

theorem P_eq (t : Fin 2048) (K : Fin 9728) : P m c t K = B0 m c t (InProjPads.src K.val) := by
  unfold P V V0
  after_reads_simp
  refine InProjPads.cols (B0 m c t) t K _ _ _ _ _ _ _ _ _ _ _ _ (fun j => ?_) (fun j => ?_) (fun j => ?_) (fun j => ?_)
    (fun j => ?_) (fun j => ?_) (fun j => ?_) (fun j => ?_) (fun j => ?_) (fun j => ?_) (fun j => ?_)
  iterate 7
    · pointwise
      after_reads_simp
      pointwise
      exact B0_at m c t _ _
  · pointwise
    after_reads_simp
    refine (InProjPads.pad_cols _ _ pads_S2048x16_S2048x128_000_01120 h_S_ t j).trans ?_
    split_ifs with e
    · change extractStridedSlice (s := S2048x9256) S2048x16 ![0, 2560] _ slices_S2048x9256_S2048x16_0_2560 (ix2 t (⟨j.val, e⟩ : Fin 16)) = _
      pointwise
      exact B0_at m c t _ _
    · exact (zero_word).trans (B0_end m c t).symm
  · pointwise
    after_reads_simp
    refine (InProjPads.pad_cols _ _ pads_S2048x8_S2048x128_000_01200 h_S_ t j).trans ?_
    split_ifs with e
    · change concatenate (α := EReal) S2048x8 1 [⟨S2048x4, _⟩, ⟨S2048x4, _⟩] concatenates_S2048x4_S2048x4_S2048x8_d1 (ix2 t (⟨j.val, e⟩ : Fin 8)) = _
      pointwise
      refine InProjPads.peel (fun h => ?_) fun h => ?_
      · after_reads_simp
        pointwise
        exact B0_at m c t _ _
      · after_reads_simp
        pointwise
        refine (B0_at m c t _ _).trans (congrArg (B0 m c t) ?_)
        omega
    · exact (zero_word).trans (B0_end m c t).symm
  · pointwise
    after_reads_simp
    refine (InProjPads.pad_cols _ _ pads_S2048x16_S2048x128_000_01120 h_S_ t j).trans ?_
    split_ifs with e
    · change extractStridedSlice (s := S2048x9256) S2048x16 ![0, 5656] _ slices_S2048x9256_S2048x16_0_5656 (ix2 t (⟨j.val, e⟩ : Fin 16)) = _
      pointwise
      exact B0_at m c t _ _
    · exact (zero_word).trans (B0_end m c t).symm
  · pointwise
    after_reads_simp
    pointwise
    exact (B0_end m c t).symm

theorem P_dst (t : Fin 2048) (i : Fin 9256) :
    P m c t ⟨InProjPads.dst i.val, InProjPads.dst_lt _ i.isLt⟩ = B m c t i := by
  rw [P_eq]
  unfold B0
  have e : InProjPads.src (InProjPads.dst i.val) = i.val := InProjPads.src_dst _ i.isLt
  rw [dif_pos (by dsimp only; omega)]
  exact congrArg (B m c t) (Fin.ext e)

/-- What the call leaves. -/
theorem out : (dats m 0 c).arrAt 2 cfg0.N = fun i => ∑ t : Fin 2048, P m c t (i 0) * A m c t (i 1) := by
  refine (dats m 0 c).arrAt_eq_of_covers 2 _ (by decide +kernel) fun t hf y => ?_
  blk_simp
  rw [after0_2]
  unfold outsAt0
  frame_out
  pointwise [k0_pay1]
  refine Finset.sum_congr (M := EReal) rfl fun k _ => congrArg₂ (· * ·) ?_ ?_
  · unfold P
    blk_ext! [iblk, V, index_0 t, index_2 t]
  · unfold A
    blk_ext! [iblk, V, index_1 t, index_2 t]

/-- The host lines after the call put the rows back in the projection's order and transpose. -/
theorem unpad (i : S1024x9256.Idx) (W : Valuation τ sig (Elt Ideal)) :
    StableHlo.after (List.flatten [hostOps1]) W (Proc.devRef .tc main_v31) i =
      W (Proc.devRef .tc main_v18) (ix2 ⟨InProjPads.dst (i 1).val, InProjPads.dst_lt _ (i 1).isLt⟩ (i 0)) := by
  after_reads_simp
  refine (transpose_apply _ _ _ i (ix2 (i 1) (i 0)) fun b => by fin_cases b <;> rfl).trans ?_
  refine InProjPads.unpad_rows (fun k => if h : k < 9728 then W (Proc.devRef .tc main_v18) (ix2 ⟨k, h⟩ (i 0)) else default)
    (i 0) (i 1) _ _ _ _ _ _ _ _ _ _ _ _ (fun j => ?_) (fun j => ?_) (fun j => ?_) (fun j => ?_)
    (fun j => ?_) (fun j => ?_) (fun j => ?_) (fun j => ?_) (fun j => ?_) (fun j => ?_) (fun j => ?_) |>.trans (dif_pos (InProjPads.dst_lt _ (i 1).isLt))
  all_goals
    rw [dif_pos (by omega)]
    pointwise
    after_reads_simp
    pointwise
/-- The gradient, entry by entry: a sum over the positions. -/
def G (i : S1024x9256.Idx) : EReal := ∑ t : Fin 2048, B m c t (i 1) * A m c t (i 0)

theorem result : Pipeline.afterTail₀ cfgs (dats m) 0 (V0 m) [hostOps1] c main_v31 = G m c := by
  unfold Pipeline.afterTail₀
  funext i
  refine (unpad i _).trans ?_
  refine (congrFun ((Pipeline.withArrays_arr spec0 (by decide) c (V0 m c) _ 2).trans (out m c)) _).trans ?_
  exact Finset.sum_congr (M := EReal) rfl fun k _ => congrArg₂ (· * ·) (P_dst m c _ _) rfl

/-- The call and its reference leave the same gradient. -/
theorem algebraic : Cert.algebraic_InProjDwIdeal_InProjDwRefIdeal := fun m g m' g' _ h =>
  ⟨fun c => G m c,
    (θ_run _ _ _).mono (fun r H c => ⟨((H.1 c).2 main_v31 (Pipeline.mem_restRefs_of main_v31 (by decide) (by decide))).trans (result m c), H.2 c⟩)
      (θ_run_and (run_main m g) (unchanged m g)),
    (θ_run _ _ _).mono (fun r H c => ⟨(H c).1.trans (by
        rw [(h c).1, (h c).2]
        funext i
        show _ = G m c i
        unfold G A B
        pointwise), (H c).2⟩)
      (Cert.InProjDwRefIdeal.Value.run m' g')⟩

theorem quiescent : Cert.quiescent_InProjDw := fun m ρ _ => Cert.InProjDw.Gen.frame m ρ

theorem quiescent_ideal : Cert.quiescent_InProjDwIdeal := fun m ρ _ => Cert.InProjDwIdeal.Gen.frame m ρ

theorem quiescent_ref : Cert.quiescent_InProjDwRefIdeal := fun m ρ _ =>
  (θ_run Cert.InProjDwRefIdeal.defs _ _).mono
    (fun r H => ⟨fun c => (H c).2, sem_eq_zero_of_no_sems (by decide) r.2⟩) (Cert.InProjDwRefIdeal.Value.run m ρ)

end Cert.InProjDwIdeal.Val

end

end
-- ==== Proof.InProjDxVal.lean ====
module

public import proofs.«01_k».proof.Proof.Gen.InProjDxIdeal.Value
public import proofs.«01_k».proof.Proof.Gen.InProjDxRefIdeal.Run
public import proofs.«01_k».proof.Proof.Gen.InProjDx.Frame
public import proofs.«01_k».proof.Defs
public import Idealize.ShloMosaic.Lib.Pipeline.ValueKit
public import proofs.«01_k».proof.Proof.Pads
public import proofs.«01_k».proof.Proof.InProjPads
import Idealize.ShloMosaic.Lib.StableHlo.RunRead

@[expose] public section

set_option maxRecDepth 16384

noncomputable section

/-! # The gradient of the input projection's input -/

namespace Cert.InProjDxIdeal.Val

open Idealize.ShloMosaic Idealize.ShloMosaic.TcCoe Idealize.SL.Sem
open Cert.InProjDxIdeal Cert.InProjDxIdeal.Gen
open Idealize.ShloMosaic.Pipeline (Dat)

variable (m : (ℓ : Loc nD τ sig) → Buf (Elt Ideal) ℓ) (c : Dev nD)

theorem index_0 : ∀ t : Fin cfg0.N, win0_0.index t = ![t.val / 4, t.val % 4] := by decide +kernel
theorem index_1 : ∀ t : Fin cfg0.N, win0_1.index t = ![t.val % 4, 0] := by decide +kernel
theorem index_2 : ∀ t : Fin cfg0.N, win0_2.index t = ![t.val / 4, 0] := by decide +kernel
theorem index_3 : ∀ t : Fin cfg0.N, win0_3.index t = ![t.val / 4, 0] := by decide +kernel

/-- An entry of the cotangent. -/
def A (t : Fin 2048) (k : Fin 9256) : EReal := m ((c : Thread nD τ).loc main_arg0) (ix2 t k)
/-- The same with zeros behind the last column. -/
def A0 (t : Fin 2048) (k : ℕ) : EReal := if h : k < 9256 then A m c t ⟨k, h⟩ else 0
/-- An entry of the weight. -/
def B (k : Fin 1024) (n : Fin 9256) : EReal := m ((c : Thread nD τ).loc main_arg1) (ix2 k n)
/-- The same with zeros behind the last column. -/
def B0 (k : Fin 1024) (n : ℕ) : EReal := if h : n < 9256 then B m c k ⟨n, h⟩ else 0
/-- An entry of the addend. -/
def D (t : Fin 2048) (k : Fin 1024) : EReal := m ((c : Thread nD τ).loc main_arg2) (ix2 t k)
/-- An entry of the padded cotangent that the call reads. -/
def P (t : Fin 2048) (k : Fin 9728) : EReal := V m c main_v16 (ix2 t k)
/-- An entry of the padded transposed weight that the call reads. -/
def Q (k : Fin 9728) (n : Fin 1024) : EReal := V m c main_v33 (ix2 k n)

/-- The padding value, the float of the word 0. -/
theorem zero_word : (((0#32).toInt : ℝ) : EReal) = 0 := by norm_num

theorem A0_at (t : Fin 2048) (k : ℕ) (h : k < 9256) :
    m ((c : Thread nD τ).loc main_arg0) (ix2 t ⟨k, h⟩) = A0 m c t k := by
  unfold A0 A
  rw [dif_pos h]

theorem A0_end (t : Fin 2048) : A0 m c t 9256 = 0 := by
  unfold A0
  rw [dif_neg (by omega)]

theorem B0_at (k : Fin 1024) (n : ℕ) (h : n < 9256) :
    m ((c : Thread nD τ).loc main_arg1) (ix2 k ⟨n, h⟩) = B0 m c k n := by
  unfold B0 B
  rw [dif_pos h]

theorem B0_end (k : Fin 1024) : B0 m c k 9256 = 0 := by
  unfold B0
  rw [dif_neg (by omega)]

theorem P_eq (t : Fin 2048) (K : Fin 9728) : P m c t K = A0 m c t (InProjPads.src K.val) := by
  unfold P V
  after_reads_simp
  refine InProjPads.cols (A0 m c t) t K _ _ _ _ _ _ _ _ _ _ _ _ (fun j => ?_) (fun j => ?_) (fun j => ?_) (fun j => ?_)
    (fun j => ?_) (fun j => ?_) (fun j => ?_) (fun j => ?_) (fun j => ?_) (fun j => ?_) (fun j => ?_)
  iterate 7
    · pointwise
      after_reads_simp
      pointwise
      exact A0_at m c t _ _
  · pointwise
    after_reads_simp
    refine (InProjPads.pad_cols _ _ pads_S2048x16_S2048x128_000_01120 h_S_ t j).trans ?_
    split_ifs with e
    · change extractStridedSlice (s := S2048x9256) S2048x16 ![0, 2560] _ slices_S2048x9256_S2048x16_0_2560 (ix2 t (⟨j.val, e⟩ : Fin 16)) = _
      pointwise
      exact A0_at m c t _ _
    · exact (zero_word).trans (A0_end m c t).symm
  · pointwise
    after_reads_simp
    refine (InProjPads.pad_cols _ _ pads_S2048x8_S2048x128_000_01200 h_S_ t j).trans ?_
    split_ifs with e
    · change concatenate (α := EReal) S2048x8 1 [⟨S2048x4, _⟩, ⟨S2048x4, _⟩] concatenates_S2048x4_S2048x4_S2048x8_d1 (ix2 t (⟨j.val, e⟩ : Fin 8)) = _
      pointwise
      refine InProjPads.peel (fun h => ?_) fun h => ?_
      · after_reads_simp
        pointwise
        exact A0_at m c t _ _
      · after_reads_simp
        pointwise
        refine (A0_at m c t _ _).trans (congrArg (A0 m c t) ?_)
        omega
    · exact (zero_word).trans (A0_end m c t).symm
  · pointwise
    after_reads_simp
    refine (InProjPads.pad_cols _ _ pads_S2048x16_S2048x128_000_01120 h_S_ t j).trans ?_
    split_ifs with e
    · change extractStridedSlice (s := S2048x9256) S2048x16 ![0, 5656] _ slices_S2048x9256_S2048x16_0_5656 (ix2 t (⟨j.val, e⟩ : Fin 16)) = _
      pointwise
      exact A0_at m c t _ _
    · exact (zero_word).trans (A0_end m c t).symm
  · pointwise
    after_reads_simp
    pointwise
    exact (A0_end m c t).symm

theorem Q_eq (K : Fin 9728) (n : Fin 1024) : Q m c K n = B0 m c n (InProjPads.src K.val) := by
  unfold Q V
  after_reads_simp
  refine InProjPads.rows (B0 m c n) n K _ _ _ _ _ _ _ _ _ _ _ _ _ _ _ (fun j => ?_) (fun j => ?_) (fun j => ?_) (fun j => ?_)
    (fun j => ?_) (fun j => ?_) (fun j => ?_) (fun j => ?_) (fun j => ?_) (fun j => ?_) (fun j => ?_) (fun j => ?_)
    (fun j => ?_) (fun j => ?_)
  all_goals
    pointwise
    after_reads_simp
    pointwise
    first
      | exact B0_at m c n _ _
      | exact (B0_end m c n).symm

/-- Term `k` of the padded sum of an entry of the product. -/
def f (t : Fin 2048) (n : Fin 1024) (k : ℕ) : EReal := if h : k < 9728 then P m c t ⟨k, h⟩ * Q m c ⟨k, h⟩ n else 0

/-- What one grid point multiplies: the next 2432 terms. -/
theorem part (t : Fin cfg0.N) (y : S1024x1024.Idx) (R : Fin 2048) (h : R.val = t.val / 4 * 1024 + (y 0).val) :
    k0_pay1 (iblk m c 0 t) (iblk m c 1 t) y = ∑ l : Fin 2432, f m c R (y 1) (t.val % 4 * 2432 + l.val) := by
  pointwise [k0_pay1]
  refine Finset.sum_congr (M := EReal) rfl fun l _ => ?_
  have hl : t.val % 4 * 2432 + l.val < 9728 := by omega
  unfold f
  rw [dif_pos hl]
  refine congrArg₂ (· * ·) ?_ ?_
  · unfold P
    blk_ext! [iblk, V, index_0 t]
  · unfold Q
    blk_ext! [iblk, V, index_1 t]

/-- The accumulator after the first `s + 1` of the four points of a block of rows. -/
theorem acc (q : ℕ) (y : S1024x1024.Idx) (R : Fin 2048) (hR : R.val = q * 1024 + (y 0).val) :
    ∀ s, s ≤ 2 → ∀ (t : Fin cfg0.N), t.val = 4 * q + s →
      (outsAt0 m c t.val t.isLt).2 y = ∑ k ∈ Finset.range ((s + 1) * 2432), f m c R (y 1) k
  | 0, _, t, h => by
    rw [outsAt0_A m c t (by omega) (by omega) (by omega)]
    frame_out
    unfold k0_pay2
    pointwise
    rw [part m c t y R (by omega), show t.val % 4 = 0 by omega]
    have e := Pads.sum_step (f m c R (y 1)) 0 2432
    rw [Finset.sum_range_zero, zero_add] at e
    exact e
  | s + 1, hs, t, h => by
    rw [outsAt0_B m c t (by omega) (by omega) (by omega)]
    frame_out
    unfold k0_pay3
    pointwise
    rw [part m c t y R (by omega), show t.val % 4 = s + 1 by omega]
    refine Eq.trans (congrArg₂ (· + ·) ?_ rfl) ((Pads.sum_step (f m c R (y 1)) ((s + 1) * 2432) 2432).trans
      (by rw [Nat.succ_mul (s + 1)]))
    refine Eq.trans ?_ (acc q y R hR s (by omega) ⟨t.val - 1, by omega⟩ (by dsimp only; omega))
    exact congrFun (Memref.IsWhole.read_unread _ _) _

/-- The padded sum is the sum. -/
theorem sum_all (R : Fin 2048) (n : Fin 1024) :
    ∑ k ∈ Finset.range 9728, f m c R n k = ∑ k : Fin 9256, A m c R k * B m c n k := by
  rw [Finset.sum_range]
  refine InProjPads.sum_pad (fun k : Fin 9256 => A m c R k * B m c n k)
    (fun k : Fin 9728 => f m c R n k.val) (fun j hj => ?_) (fun j hj => ?_)
  · unfold f
    rw [dif_pos j.isLt, P_eq m c R ⟨j.val, j.isLt⟩]
    unfold A0
    rw [dif_neg hj, zero_mul]
  · unfold f
    rw [dif_pos j.isLt, P_eq m c R ⟨j.val, j.isLt⟩, Q_eq m c ⟨j.val, j.isLt⟩ n]
    unfold A0 B0
    rw [dif_pos hj, dif_pos hj]

/-- The gradient, entry by entry. -/
def G (i : S2048x1024.Idx) : EReal := D m c (i 0) (i 1) + ∑ k : Fin 9256, A m c (i 0) k * B m c (i 1) k

/-- What the call leaves. -/
theorem out : (dats m 0 c).arrAt 3 cfg0.N = G m c := by
  refine (dats m 0 c).arrAt_eq_of_covers 3 _ (by decide +kernel) fun t hf y => ?_
  have h5 := (flush0_3 t).mp hf
  have ht : t.val < 8 := t.isLt
  have hy : (y 0).val < 1024 := (y 0).isLt
  blk_simp
  rw [after0_3, outsAt0_C m c t (by omega) (by omega) h5]
  frame_out
  unfold k0_pay4
  pointwise
  rw [part m c t y ⟨t.val / 4 * 1024 + (y 0).val, by omega⟩ rfl, h5]
  refine Eq.trans (congrArg₂ (· + ·) (Eq.trans (congrArg₂ (· + ·)
    ((congrFun (Memref.IsWhole.read_unread _ _) _).trans
      (acc m c (t.val / 4) y ⟨t.val / 4 * 1024 + (y 0).val, by omega⟩ rfl 2 le_rfl ⟨t.val - 1, by omega⟩ (by dsimp only; omega)))
    rfl) ((Pads.sum_step _ _ _).trans (sum_all m c _ _))) rfl) ?_
  unfold G
  rw [add_comm]
  refine congrArg₂ (· + ·) ?_ (Finset.sum_congr (M := EReal) rfl fun k _ => congrArg₂ (· * ·) ?_ ?_)
  · unfold D
    blk_ext! [iblk, V, index_2 t, index_3 t]
  · exact congrArg (fun a => A m c a k) (Fin.ext (by blk_simp [index_3 t]))
  · exact congrArg (fun a => B m c a k) (Fin.ext (by blk_simp [index_3 t]))

/-- The call and its reference leave the same gradient. -/
theorem algebraic : Cert.algebraic_InProjDxIdeal_InProjDxRefIdeal := fun m g m' g' _ h =>
  ⟨fun c => G m c,
    (θ_run _ _ _).mono (fun r H c => ⟨(H c).1.trans (out m c), (H c).2⟩) (Value.run_blocks m g),
    (θ_run _ _ _).mono (fun r H c => ⟨(H c).1.trans (by
        rw [(h c).1, (h c).2.1, (h c).2.2]
        funext i
        show _ = G m c i
        unfold G A B D
        pointwise), (H c).2⟩)
      (Cert.InProjDxRefIdeal.Value.run m' g')⟩

theorem quiescent : Cert.quiescent_InProjDx := fun m ρ _ => Cert.InProjDx.Gen.frame m ρ

theorem quiescent_ideal : Cert.quiescent_InProjDxIdeal := fun m ρ _ => Cert.InProjDxIdeal.Gen.frame m ρ

theorem quiescent_ref : Cert.quiescent_InProjDxRefIdeal := fun m ρ _ =>
  (θ_run Cert.InProjDxRefIdeal.defs _ _).mono
    (fun r H => ⟨fun c => (H c).2, sem_eq_zero_of_no_sems (by decide) r.2⟩) (Cert.InProjDxRefIdeal.Value.run m ρ)

end Cert.InProjDxIdeal.Val

end

end
-- ==== Proof.FfnUpDwVal.lean ====
module

public import proofs.«01_k».proof.Proof.Gen.FfnUpDwIdeal.Frame
public import proofs.«01_k».proof.Proof.Gen.FfnUpDwRefIdeal.Run
public import proofs.«01_k».proof.Proof.Gen.FfnUpDw.Frame
public import proofs.«01_k».proof.Defs
public import Idealize.ShloMosaic.Lib.Pipeline.ValueKit
public import proofs.«01_k».proof.Proof.Pads
import Idealize.ShloMosaic.Lib.StableHlo.RunRead

@[expose] public section

set_option maxRecDepth 16384

noncomputable section

/-! # The gradient of the up projection's weight -/

namespace Cert.FfnUpDwIdeal.Val

open Idealize.ShloMosaic Idealize.ShloMosaic.TcCoe Idealize.SL.Sem
open Cert.FfnUpDwIdeal Cert.FfnUpDwIdeal.Gen
open Idealize.ShloMosaic.Pipeline (Dat)

variable (m : (ℓ : Loc nD τ sig) → Buf (Elt Ideal) ℓ) (c : Dev nD)

theorem index_0 : ∀ t : Fin cfg0.N, win0_0.index t = ![0, t.val] := by decide +kernel
theorem index_1 : ∀ t : Fin cfg0.N, win0_1.index t = ![0, 0] := by decide +kernel
theorem index_2 : ∀ t : Fin cfg0.N, win0_2.index t = ![t.val, 0] := by decide +kernel

/-- An entry of the projection's input. -/
def A (t : Fin 2048) (k : Fin 1024) : EReal := m ((c : Thread nD τ).loc main_arg0) (ix2 t k)
/-- An entry of the cotangent. -/
def B (t : Fin 2048) (k : Fin 5632) : EReal := m ((c : Thread nD τ).loc main_arg1) (ix2 t k)
/-- An entry of the padded cotangent that the call reads. -/
def P (t : Fin 2048) (k : Fin 6144) : EReal := V m c main_v2 (ix2 t k)

theorem P_in (t : Fin 2048) (k : Fin 5632) (K : Fin 6144) (h : K.val = Pads.at384 k.val) : P m c t K = B m c t k := by
  unfold P B V V0
  unfold Pads.at384 at h
  after_reads_simp
  pointwise
  refine (Pads.cols_in _ _ pads_S2048x16x352_S2048x16x384_000_000_0320 h_S_ t _ _ (⟨k.val % 352, by omega⟩ : Fin 352)
    (by dsimp only; omega)).trans ?_
  exact congrArg (fun a => m ((c : Thread nD τ).loc main_arg1) (ix2 t a)) (Fin.ext (by dsimp only [ix3]; omega))

/-- What the call leaves. -/
theorem out : (dats m 0 c).arrAt 2 cfg0.N = fun i => ∑ t : Fin 2048, P m c t (i 0) * A m c t (i 1) := by
  refine (dats m 0 c).arrAt_eq_of_covers 2 _ (by decide +kernel) fun t hf y => ?_
  blk_simp
  rw [after0_2]
  unfold outsAt0
  frame_out
  pointwise [k0_pay1]
  refine Finset.sum_congr (M := EReal) rfl fun k _ => congrArg₂ (· * ·) ?_ ?_
  · unfold P
    blk_ext! [iblk, V, index_0 t, index_2 t]
  · unfold A
    blk_ext! [iblk, V, index_1 t, index_2 t]

/-- The host lines after the call drop the padding rows and transpose. -/
theorem unpad (i : S1024x5632.Idx) (W : Valuation τ sig (Elt Ideal)) :
    StableHlo.after (List.flatten [hostOps1]) W (Proc.devRef .tc main_v8) i =
      W (Proc.devRef .tc main_v4) (ix2 ⟨(i 1).val / 352 * 384 + (i 1).val % 352, by
        have := (i 1).isLt; change (i 1).val < 5632 at this; omega⟩ (i 0)) := by
  after_reads_simp
  pointwise

/-- The gradient, entry by entry: a sum over the positions. -/
def G (i : S1024x5632.Idx) : EReal := ∑ t : Fin 2048, B m c t (i 1) * A m c t (i 0)

theorem result : Pipeline.afterTail₀ cfgs (dats m) 0 (V0 m) [hostOps1] c main_v8 = G m c := by
  unfold Pipeline.afterTail₀
  funext i
  refine (unpad i _).trans ?_
  refine (congrFun ((Pipeline.withArrays_arr spec0 (by decide) c (V0 m c) _ 2).trans (out m c)) _).trans ?_
  exact Finset.sum_congr (M := EReal) rfl fun k _ => congrArg₂ (· * ·) (P_in m c _ _ _ rfl) rfl

/-- The call and its reference leave the same gradient. -/
theorem algebraic : Cert.algebraic_FfnUpDwIdeal_FfnUpDwRefIdeal := fun m g m' g' _ h =>
  ⟨fun c => G m c,
    (θ_run _ _ _).mono (fun r H c => ⟨((H.1 c).2 main_v8 (Pipeline.mem_restRefs_of main_v8 (by decide) (by decide))).trans (result m c), H.2 c⟩)
      (θ_run_and (run_main m g) (unchanged m g)),
    (θ_run _ _ _).mono (fun r H c => ⟨(H c).1.trans (by
        rw [(h c).1, (h c).2]
        funext i
        show _ = G m c i
        unfold G A B
        pointwise), (H c).2⟩)
      (Cert.FfnUpDwRefIdeal.Value.run m' g')⟩

theorem quiescent : Cert.quiescent_FfnUpDw := fun m ρ _ => Cert.FfnUpDw.Gen.frame m ρ

theorem quiescent_ideal : Cert.quiescent_FfnUpDwIdeal := fun m ρ _ => Cert.FfnUpDwIdeal.Gen.frame m ρ

theorem quiescent_ref : Cert.quiescent_FfnUpDwRefIdeal := fun m ρ _ =>
  (θ_run Cert.FfnUpDwRefIdeal.defs _ _).mono
    (fun r H => ⟨fun c => (H c).2, sem_eq_zero_of_no_sems (by decide) r.2⟩) (Cert.FfnUpDwRefIdeal.Value.run m ρ)

end Cert.FfnUpDwIdeal.Val

end

end
-- ==== Proof.FfnUpDxVal.lean ====
module

public import proofs.«01_k».proof.Proof.Gen.FfnUpDxIdeal.Value
public import proofs.«01_k».proof.Proof.Gen.FfnUpDxRefIdeal.Run
public import proofs.«01_k».proof.Proof.Gen.FfnUpDx.Frame
public import proofs.«01_k».proof.Defs
public import Idealize.ShloMosaic.Lib.Pipeline.ValueKit
public import proofs.«01_k».proof.Proof.Pads
import Idealize.ShloMosaic.Lib.StableHlo.RunRead

@[expose] public section

set_option maxRecDepth 16384

noncomputable section

/-! # The gradient of the up projection's input -/

namespace Cert.FfnUpDxIdeal.Val

open Idealize.ShloMosaic Idealize.ShloMosaic.TcCoe Idealize.SL.Sem
open Cert.FfnUpDxIdeal Cert.FfnUpDxIdeal.Gen
open Idealize.ShloMosaic.Pipeline (Dat)

variable (m : (ℓ : Loc nD τ sig) → Buf (Elt Ideal) ℓ) (c : Dev nD)

theorem index_0 : ∀ t : Fin cfg0.N, win0_0.index t = ![t.val / 6, t.val % 6] := by decide +kernel
theorem index_1 : ∀ t : Fin cfg0.N, win0_1.index t = ![t.val % 6, 0] := by decide +kernel
theorem index_2 : ∀ t : Fin cfg0.N, win0_2.index t = ![t.val / 6, 0] := by decide +kernel
theorem index_3 : ∀ t : Fin cfg0.N, win0_3.index t = ![t.val / 6, 0] := by decide +kernel

/-- An entry of the cotangent. -/
def A (t : Fin 2048) (k : Fin 5632) : EReal := m ((c : Thread nD τ).loc main_arg0) (ix2 t k)
/-- An entry of the weight. -/
def B (k : Fin 1024) (n : Fin 5632) : EReal := m ((c : Thread nD τ).loc main_arg1) (ix2 k n)
/-- An entry of the addend. -/
def D (t : Fin 2048) (k : Fin 1024) : EReal := m ((c : Thread nD τ).loc main_arg2) (ix2 t k)
/-- An entry of the padded cotangent that the call reads. -/
def P (t : Fin 2048) (k : Fin 6144) : EReal := V m c main_v2 (ix2 t k)
/-- An entry of the padded transposed weight that the call reads. -/
def Q (k : Fin 6144) (n : Fin 1024) : EReal := V m c main_v7 (ix2 k n)

theorem P_in (t : Fin 2048) (k : Fin 5632) (K : Fin 6144) (h : K.val = Pads.at384 k.val) : P m c t K = A m c t k := by
  unfold P A V
  unfold Pads.at384 at h
  after_reads_simp
  pointwise
  refine (Pads.cols_in _ _ pads_S2048x16x352_S2048x16x384_000_000_0320 h_S_ t _ _ (⟨k.val % 352, by omega⟩ : Fin 352)
    (by dsimp only; omega)).trans ?_
  exact congrArg (fun a => m ((c : Thread nD τ).loc main_arg0) (ix2 t a)) (Fin.ext (by dsimp only [ix3]; omega))

theorem P_out (t : Fin 2048) (K : Fin 6144) (h : 352 ≤ K.val % 384) : P m c t K = 0 := by
  unfold P V
  after_reads_simp
  pointwise
  refine (Pads.cols_out _ _ pads_S2048x16x352_S2048x16x384_000_000_0320 h_S_ t _ _ h).trans ?_
  show (((0#32).toInt : ℝ) : EReal) = 0
  norm_num

theorem Q_in (k : Fin 5632) (n : Fin 1024) (K : Fin 6144) (h : K.val = Pads.at384 k.val) : Q m c K n = B m c n k := by
  unfold Q B V
  unfold Pads.at384 at h
  after_reads_simp
  pointwise
  refine (Pads.rows_in _ _ pads_S16x352x1024_S16x384x1024_000_0320_000 h_S_ _ _ n (⟨k.val % 352, by omega⟩ : Fin 352)
    (by dsimp only; omega)).trans ?_
  exact congrArg (fun a => m ((c : Thread nD τ).loc main_arg1) (ix2 n a)) (Fin.ext (by dsimp only [ix3]; omega))

/-- Term `k` of the padded sum of an entry of the product. -/
def f (t : Fin 2048) (n : Fin 1024) (k : ℕ) : EReal := if h : k < 6144 then P m c t ⟨k, h⟩ * Q m c ⟨k, h⟩ n else 0

/-- What one grid point multiplies: the next 1024 terms. -/
theorem part (t : Fin cfg0.N) (y : S1024x1024.Idx) (R : Fin 2048) (h : R.val = t.val / 6 * 1024 + (y 0).val) :
    k0_pay1 (iblk m c 0 t) (iblk m c 1 t) y = ∑ l : Fin 1024, f m c R (y 1) (t.val % 6 * 1024 + l.val) := by
  pointwise [k0_pay1]
  refine Finset.sum_congr (M := EReal) rfl fun l _ => ?_
  have hl : t.val % 6 * 1024 + l.val < 6144 := by omega
  unfold f
  rw [dif_pos hl]
  refine congrArg₂ (· * ·) ?_ ?_
  · unfold P
    blk_ext! [iblk, V, index_0 t]
  · unfold Q
    blk_ext! [iblk, V, index_1 t]

/-- The accumulator after the first `s + 1` of the six points of a block of rows. -/
theorem acc (q : ℕ) (y : S1024x1024.Idx) (R : Fin 2048) (hR : R.val = q * 1024 + (y 0).val) :
    ∀ s, s ≤ 4 → ∀ (t : Fin cfg0.N), t.val = 6 * q + s →
      (outsAt0 m c t.val t.isLt).2 y = ∑ k ∈ Finset.range ((s + 1) * 1024), f m c R (y 1) k
  | 0, _, t, h => by
    rw [outsAt0_A m c t (by omega) (by omega) (by omega)]
    frame_out
    unfold k0_pay2
    pointwise
    rw [part m c t y R (by omega), show t.val % 6 = 0 by omega]
    have e := Pads.sum_step (f m c R (y 1)) 0 1024
    rw [Finset.sum_range_zero, zero_add] at e
    exact e
  | s + 1, hs, t, h => by
    rw [outsAt0_B m c t (by omega) (by omega) (by omega)]
    frame_out
    unfold k0_pay3
    pointwise
    rw [part m c t y R (by omega), show t.val % 6 = s + 1 by omega]
    refine Eq.trans (congrArg₂ (· + ·) ?_ rfl) ((Pads.sum_step (f m c R (y 1)) ((s + 1) * 1024) 1024).trans
      (by rw [Nat.succ_mul (s + 1)]))
    refine Eq.trans ?_ (acc q y R hR s (by omega) ⟨t.val - 1, by omega⟩ (by dsimp only; omega))
    exact congrFun (Memref.IsWhole.read_unread _ _) _

/-- The padded sum is the sum. -/
theorem sum_all (R : Fin 2048) (n : Fin 1024) :
    ∑ k ∈ Finset.range 6144, f m c R n k = ∑ k : Fin 5632, A m c R k * B m c n k := by
  rw [Finset.sum_range]
  refine Pads.sum_pad (by decide) (by decide) (fun k : Fin 5632 => A m c R k * B m c n k)
    (fun k : Fin 6144 => f m c R n k.val) (fun j hj => ?_) (fun i j e => ?_)
  · unfold f
    rw [dif_pos j.isLt, P_out m c R ⟨j.val, j.isLt⟩ hj, zero_mul]
  · unfold f
    rw [dif_pos j.isLt, P_in m c R i ⟨j.val, j.isLt⟩ e, Q_in m c i n ⟨j.val, j.isLt⟩ e]

/-- The gradient, entry by entry. -/
def G (i : S2048x1024.Idx) : EReal := D m c (i 0) (i 1) + ∑ k : Fin 5632, A m c (i 0) k * B m c (i 1) k

/-- What the call leaves. -/
theorem out : (dats m 0 c).arrAt 3 cfg0.N = G m c := by
  refine (dats m 0 c).arrAt_eq_of_covers 3 _ (by decide +kernel) fun t hf y => ?_
  have h5 := (flush0_3 t).mp hf
  have ht : t.val < 12 := t.isLt
  have hy : (y 0).val < 1024 := (y 0).isLt
  blk_simp
  rw [after0_3, outsAt0_C m c t (by omega) (by omega) h5]
  frame_out
  unfold k0_pay4
  pointwise
  rw [part m c t y ⟨t.val / 6 * 1024 + (y 0).val, by omega⟩ rfl, h5]
  refine Eq.trans (congrArg₂ (· + ·) (Eq.trans (congrArg₂ (· + ·)
    ((congrFun (Memref.IsWhole.read_unread _ _) _).trans
      (acc m c (t.val / 6) y ⟨t.val / 6 * 1024 + (y 0).val, by omega⟩ rfl 4 le_rfl ⟨t.val - 1, by omega⟩ (by dsimp only; omega)))
    rfl) ((Pads.sum_step _ _ _).trans (sum_all m c _ _))) rfl) ?_
  unfold G
  rw [add_comm]
  refine congrArg₂ (· + ·) ?_ (Finset.sum_congr (M := EReal) rfl fun k _ => congrArg₂ (· * ·) ?_ ?_)
  · unfold D
    blk_ext! [iblk, V, index_2 t, index_3 t]
  · exact congrArg (fun a => A m c a k) (Fin.ext (by blk_simp [index_3 t]))
  · exact congrArg (fun a => B m c a k) (Fin.ext (by blk_simp [index_3 t]))

/-- The call and its reference leave the same gradient. -/
theorem algebraic : Cert.algebraic_FfnUpDxIdeal_FfnUpDxRefIdeal := fun m g m' g' _ h =>
  ⟨fun c => G m c,
    (θ_run _ _ _).mono (fun r H c => ⟨(H c).1.trans (out m c), (H c).2⟩) (Value.run_blocks m g),
    (θ_run _ _ _).mono (fun r H c => ⟨(H c).1.trans (by
        rw [(h c).1, (h c).2.1, (h c).2.2]
        funext i
        show _ = G m c i
        unfold G A B D
        pointwise), (H c).2⟩)
      (Cert.FfnUpDxRefIdeal.Value.run m' g')⟩

theorem quiescent : Cert.quiescent_FfnUpDx := fun m ρ _ => Cert.FfnUpDx.Gen.frame m ρ

theorem quiescent_ideal : Cert.quiescent_FfnUpDxIdeal := fun m ρ _ => Cert.FfnUpDxIdeal.Gen.frame m ρ

theorem quiescent_ref : Cert.quiescent_FfnUpDxRefIdeal := fun m ρ _ =>
  (θ_run Cert.FfnUpDxRefIdeal.defs _ _).mono
    (fun r H => ⟨fun c => (H c).2, sem_eq_zero_of_no_sems (by decide) r.2⟩) (Cert.FfnUpDxRefIdeal.Value.run m ρ)

end Cert.FfnUpDxIdeal.Val

end

end
-- ==== Proof.FfnDownDwVal.lean ====
module

public import proofs.«01_k».proof.Proof.Gen.FfnDownDwIdeal.Frame
public import proofs.«01_k».proof.Proof.Gen.FfnDownDwRefIdeal.Run
public import proofs.«01_k».proof.Proof.Gen.FfnDownDw.Frame
public import proofs.«01_k».proof.Defs
public import Idealize.ShloMosaic.Lib.Pipeline.ValueKit
public import proofs.«01_k».proof.Proof.Pads
import Idealize.ShloMosaic.Lib.StableHlo.RunRead

@[expose] public section

set_option maxRecDepth 16384

noncomputable section

/-! # The gradient of the down projection's weight -/

namespace Cert.FfnDownDwIdeal.Val

open Idealize.ShloMosaic Idealize.ShloMosaic.TcCoe Idealize.SL.Sem
open Cert.FfnDownDwIdeal Cert.FfnDownDwIdeal.Gen
open Idealize.ShloMosaic.Pipeline (Dat)

variable (m : (ℓ : Loc nD τ sig) → Buf (Elt Ideal) ℓ) (c : Dev nD)

theorem index_0 : ∀ t : Fin cfg0.N, win0_0.index t = ![0, t.val] := by decide +kernel
theorem index_1 : ∀ t : Fin cfg0.N, win0_1.index t = ![0, 0] := by decide +kernel
theorem index_2 : ∀ t : Fin cfg0.N, win0_2.index t = ![t.val, 0] := by decide +kernel

/-- An entry of the activation. -/
def A (t : Fin 2048) (k : Fin 2816) : EReal := m ((c : Thread nD τ).loc main_arg0) (ix2 t k)
/-- An entry of the cotangent. -/
def B (t : Fin 2048) (k : Fin 1024) : EReal := m ((c : Thread nD τ).loc main_arg1) (ix2 t k)
/-- An entry of the padded activation that the call reads. -/
def P (t : Fin 2048) (k : Fin 3072) : EReal := V m c main_v2 (ix2 t k)

theorem P_in (t : Fin 2048) (k : Fin 2816) (K : Fin 3072) (h : K.val = Pads.at384 k.val) : P m c t K = A m c t k := by
  unfold P A V V0
  unfold Pads.at384 at h
  after_reads_simp
  pointwise
  refine (Pads.cols_in _ _ pads_S2048x8x352_S2048x8x384_000_000_0320 h_S_ t _ _ (⟨k.val % 352, by omega⟩ : Fin 352)
    (by dsimp only; omega)).trans ?_
  exact congrArg (fun a => m ((c : Thread nD τ).loc main_arg0) (ix2 t a)) (Fin.ext (by dsimp only [ix3]; omega))

/-- What the call leaves. -/
theorem out : (dats m 0 c).arrAt 2 cfg0.N = fun i => ∑ t : Fin 2048, P m c t (i 0) * B m c t (i 1) := by
  refine (dats m 0 c).arrAt_eq_of_covers 2 _ (by decide +kernel) fun t hf y => ?_
  blk_simp
  rw [after0_2]
  unfold outsAt0
  frame_out
  pointwise [k0_pay1]
  refine Finset.sum_congr (M := EReal) rfl fun k _ => congrArg₂ (· * ·) ?_ ?_
  · unfold P
    blk_ext! [iblk, V, index_0 t, index_2 t]
  · unfold B
    blk_ext! [iblk, V, index_1 t, index_2 t]

/-- The host lines after the call drop the padding rows. -/
theorem unpad (i : S2816x1024.Idx) (W : Valuation τ sig (Elt Ideal)) :
    StableHlo.after (List.flatten [hostOps1]) W (Proc.devRef .tc main_v6) i =
      W (Proc.devRef .tc main_v3) (ix2 ⟨(i 0).val / 352 * 384 + (i 0).val % 352, by
        have := (i 0).isLt; change (i 0).val < 2816 at this; omega⟩ (i 1)) := by
  after_reads_simp
  pointwise

/-- The gradient, entry by entry: a sum over the positions. -/
def G (i : S2816x1024.Idx) : EReal := ∑ t : Fin 2048, A m c t (i 0) * B m c t (i 1)

theorem result : Pipeline.afterTail₀ cfgs (dats m) 0 (V0 m) [hostOps1] c main_v6 = G m c := by
  unfold Pipeline.afterTail₀
  funext i
  refine (unpad i _).trans ?_
  refine (congrFun ((Pipeline.withArrays_arr spec0 (by decide) c (V0 m c) _ 2).trans (out m c)) _).trans ?_
  exact Finset.sum_congr (M := EReal) rfl fun k _ => congrArg₂ (· * ·) (P_in m c _ _ _ rfl) rfl

/-- The call and its reference leave the same gradient. -/
theorem algebraic : Cert.algebraic_FfnDownDwIdeal_FfnDownDwRefIdeal := fun m g m' g' _ h =>
  ⟨fun c => G m c,
    (θ_run _ _ _).mono (fun r H c => ⟨((H.1 c).2 main_v6 (Pipeline.mem_restRefs_of main_v6 (by decide) (by decide))).trans (result m c), H.2 c⟩)
      (θ_run_and (run_main m g) (unchanged m g)),
    (θ_run _ _ _).mono (fun r H c => ⟨(H c).1.trans (by
        rw [(h c).1, (h c).2]
        funext i
        show _ = G m c i
        unfold G A B
        pointwise
        exact Finset.sum_congr (M := EReal) rfl fun k _ => mul_comm (G := EReal) _ _), (H c).2⟩)
      (Cert.FfnDownDwRefIdeal.Value.run m' g')⟩

theorem quiescent : Cert.quiescent_FfnDownDw := fun m ρ _ => Cert.FfnDownDw.Gen.frame m ρ

theorem quiescent_ideal : Cert.quiescent_FfnDownDwIdeal := fun m ρ _ => Cert.FfnDownDwIdeal.Gen.frame m ρ

theorem quiescent_ref : Cert.quiescent_FfnDownDwRefIdeal := fun m ρ _ =>
  (θ_run Cert.FfnDownDwRefIdeal.defs _ _).mono
    (fun r H => ⟨fun c => (H c).2, sem_eq_zero_of_no_sems (by decide) r.2⟩) (Cert.FfnDownDwRefIdeal.Value.run m ρ)

end Cert.FfnDownDwIdeal.Val

end

end
-- ==== Proof.FfnDownDxVal.lean ====
module

public import proofs.«01_k».proof.Proof.Gen.FfnDownDxIdeal.Frame
public import proofs.«01_k».proof.Proof.Gen.FfnDownDxRefIdeal.Run
public import proofs.«01_k».proof.Proof.Gen.FfnDownDx.Frame
public import proofs.«01_k».proof.Defs
public import Idealize.ShloMosaic.Lib.Pipeline.ValueKit
public import proofs.«01_k».proof.Proof.Pads
import Idealize.ShloMosaic.Lib.StableHlo.RunRead

@[expose] public section

set_option maxRecDepth 16384

noncomputable section

/-! # The gradient of the down projection's input -/

namespace Cert.FfnDownDxIdeal.Val

open Idealize.ShloMosaic Idealize.ShloMosaic.TcCoe Idealize.SL.Sem
open Cert.FfnDownDxIdeal Cert.FfnDownDxIdeal.Gen
open Idealize.ShloMosaic.Pipeline (Dat)

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![t.val, 0] := by decide +kernel
theorem index_2 : ∀ t : Fin cfg0.N, win0_2.index t = ![0, t.val] := by decide +kernel

/-- An entry of the cotangent. -/
def A (r : Fin 2048) (k : Fin 1024) : EReal := m ((c : Thread nD τ).loc main_arg0) (ix2 r k)
/-- An entry of the weight. -/
def B (r : Fin 2816) (k : Fin 1024) : EReal := m ((c : Thread nD τ).loc main_arg1) (ix2 r k)
/-- An entry of the weight as the call reads it. -/
def P (r : Fin 3072) (k : Fin 1024) : EReal := V m c main_v3 (ix2 r k)

theorem P_in (r : Fin 2816) (k : Fin 1024) (R : Fin 3072) (h : R.val = r.val / 352 * 384 + r.val % 352) : P m c R k = B m c r k := by
  unfold P B V V0
  after_reads_simp
  pointwise
  refine (Pads.rows_in _ _ pads_S8x352x1024_S8x384x1024_000_0320_000 h_S_ _ _ k (⟨r.val % 352, by omega⟩ : Fin 352)
    (by dsimp only; omega)).trans ?_
  exact congrArg (fun a => m ((c : Thread nD τ).loc main_arg1) (ix2 a k)) (Fin.ext (by dsimp only [ix3]; omega))

/-- What the call leaves. -/
theorem out : (dats m 0 c).arrAt 2 cfg0.N = fun i => ∑ k : Fin 1024, A m c (i 0) k * P m c (i 1) k := by
  refine (dats m 0 c).arrAt_eq_of_covers 2 _ (by decide +kernel) fun t hf y => ?_
  blk_simp
  rw [after0_2]
  unfold outsAt0
  frame_out
  pointwise [k0_pay1]
  refine Finset.sum_congr (M := EReal) rfl fun k _ => congrArg₂ (· * ·) ?_ ?_
  · unfold A
    blk_ext! [iblk, V, index_0 t, index_2 t]
  · unfold P
    blk_ext! [iblk, V, index_1 t, index_2 t]

/-- The host lines after the call drop the padding columns. -/
theorem unpad (i : S2048x2816.Idx) (W : Valuation τ sig (Elt Ideal)) :
    StableHlo.after (List.flatten [hostOps1]) W (Proc.devRef .tc main_v7) i =
      W (Proc.devRef .tc main_v4) (ix2 (i 0) ⟨(i 1).val / 352 * 384 + (i 1).val % 352, by
        have := (i 1).isLt; change (i 1).val < 2816 at this; omega⟩) := by
  after_reads_simp
  pointwise

/-- The gradient, entry by entry. -/
def G (i : S2048x2816.Idx) : EReal := ∑ k : Fin 1024, A m c (i 0) k * B m c (i 1) k

theorem result : Pipeline.afterTail₀ cfgs (dats m) 0 (V0 m) [hostOps1] c main_v7 = G m c := by
  unfold Pipeline.afterTail₀
  funext i
  refine (unpad i _).trans ?_
  refine (congrFun ((Pipeline.withArrays_arr spec0 (by decide) c (V0 m c) _ 2).trans (out m c)) _).trans ?_
  exact Finset.sum_congr (M := EReal) rfl fun k _ => congrArg₂ (· * ·) rfl (P_in m c _ _ _ rfl)

/-- The call and its reference leave the same gradient. -/
theorem algebraic : Cert.algebraic_FfnDownDxIdeal_FfnDownDxRefIdeal := fun m g m' g' _ h =>
  ⟨fun c => G m c,
    (θ_run _ _ _).mono (fun r H c => ⟨((H.1 c).2 main_v7 (Pipeline.mem_restRefs_of main_v7 (by decide) (by decide))).trans (result m c), H.2 c⟩)
      (θ_run_and (run_main m g) (unchanged m g)),
    (θ_run _ _ _).mono (fun r H c => ⟨(H c).1.trans (by
        rw [(h c).1, (h c).2]
        funext i
        show _ = G m c i
        unfold G A B
        pointwise), (H c).2⟩)
      (Cert.FfnDownDxRefIdeal.Value.run m' g')⟩

theorem quiescent : Cert.quiescent_FfnDownDx := fun m ρ _ => Cert.FfnDownDx.Gen.frame m ρ

theorem quiescent_ideal : Cert.quiescent_FfnDownDxIdeal := fun m ρ _ => Cert.FfnDownDxIdeal.Gen.frame m ρ

theorem quiescent_ref : Cert.quiescent_FfnDownDxRefIdeal := fun m ρ _ =>
  (θ_run Cert.FfnDownDxRefIdeal.defs _ _).mono
    (fun r H => ⟨fun c => (H c).2, sem_eq_zero_of_no_sems (by decide) r.2⟩) (Cert.FfnDownDxRefIdeal.Value.run m ρ)

end Cert.FfnDownDxIdeal.Val

end

end
-- ==== Proof.BrVal.lean ====
module

public import proofs.«01_k».proof.Proof.Gen.BrIdeal.Value
public import proofs.«01_k».proof.Proof.Gen.BrRefIdeal.Run
public import proofs.«01_k».proof.Proof.Gen.Br.Frame
public import proofs.«01_k».proof.Defs
public import Idealize.ShloMosaic.Lib.Pipeline.ValueKit
public import proofs.«01_k».proof.Proof.Pads
import Idealize.ShloMosaic.Lib.StableHlo.RunRead

@[expose] public section

set_option maxRecDepth 16384

noncomputable section

/-! # A branch's projection into the layer's width -/

namespace Cert.BrIdeal.Val

open Idealize.ShloMosaic Idealize.ShloMosaic.TcCoe Idealize.SL.Sem
open Cert.BrIdeal Cert.BrIdeal.Gen
open Idealize.ShloMosaic.Pipeline (Dat)

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![t.val, 0] := by decide +kernel
theorem index_2 : ∀ t : Fin cfg0.N, win0_2.index t = ![0, t.val] := by decide +kernel

/-- An entry of the branch's output. -/
def A (t : Fin 2048) (k : Fin 512) : EReal := m ((c : Thread nD τ).loc main_arg0) (ix2 t k)
/-- An entry of the weight. -/
def B (k : Fin 512) (n : Fin 1024) : EReal := m ((c : Thread nD τ).loc main_arg1) (ix2 k n)

/-- The product, entry by entry. -/
def G (i : S2048x1024.Idx) : EReal := ∑ k : Fin 512, A m c (i 0) k * B m c k (i 1)

/-- An entry of the transposed weight that the call reads. -/
def P (n : Fin 1024) (k : Fin 512) : EReal := V m c main_v1 (ix2 n k)

theorem P_eq (n : Fin 1024) (k : Fin 512) : P m c n k = B m c k n := by
  unfold P B V
  after_reads_simp
  pointwise

/-- What the call leaves. -/
theorem out : (dats m 0 c).arrAt 2 cfg0.N = G m c := by
  refine (dats m 0 c).arrAt_eq_of_covers 2 _ (by decide +kernel) fun t hf y => ?_
  blk_simp
  rw [after0_2]
  unfold outsAt0
  frame_out
  pointwise [k0_pay1]
  unfold G
  refine Finset.sum_congr (M := EReal) rfl fun k _ => congrArg₂ (· * ·) ?_ (Eq.trans ?_ (P_eq m c _ k))
  · unfold A
    blk_ext! [iblk, V, index_0 t, index_2 t]
  · unfold P
    blk_ext! [iblk, V, index_1 t, index_2 t]

/-- The call and its reference leave the same array. -/
theorem algebraic : Cert.algebraic_BrIdeal_BrRefIdeal := fun m g m' g' _ h =>
  ⟨fun c => G m c,
    (θ_run _ _ _).mono (fun r H c => ⟨(H c).1.trans (out m c), (H c).2⟩) (Value.run_blocks m g),
    (θ_run _ _ _).mono (fun r H c => ⟨(H c).1.trans (by
        rw [(h c).1, (h c).2]
        funext i
        show _ = G m c i
        unfold G A B
        pointwise), (H c).2⟩)
      (Cert.BrRefIdeal.Value.run m' g')⟩

theorem quiescent : Cert.quiescent_Br := fun m ρ _ => Cert.Br.Gen.frame m ρ

theorem quiescent_ideal : Cert.quiescent_BrIdeal := fun m ρ _ => Cert.BrIdeal.Gen.frame m ρ

theorem quiescent_ref : Cert.quiescent_BrRefIdeal := fun m ρ _ =>
  (θ_run Cert.BrRefIdeal.defs _ _).mono
    (fun r H => ⟨fun c => (H c).2, sem_eq_zero_of_no_sems (by decide) r.2⟩) (Cert.BrRefIdeal.Value.run m ρ)

end Cert.BrIdeal.Val

end

end
-- ==== Proof.BrDwVal.lean ====
module

public import proofs.«01_k».proof.Proof.Gen.BrDwIdeal.Frame
public import proofs.«01_k».proof.Proof.Gen.BrDwRefIdeal.Run
public import proofs.«01_k».proof.Proof.Gen.BrDw.Frame
public import proofs.«01_k».proof.Defs
public import Idealize.ShloMosaic.Lib.Pipeline.ValueKit
public import proofs.«01_k».proof.Proof.Pads
import Idealize.ShloMosaic.Lib.StableHlo.RunRead

@[expose] public section

set_option maxRecDepth 16384

noncomputable section

/-! # The gradient of a branch's projection -/

namespace Cert.BrDwIdeal.Val

open Idealize.ShloMosaic Idealize.ShloMosaic.TcCoe Idealize.SL.Sem
open Cert.BrDwIdeal Cert.BrDwIdeal.Gen
open Idealize.ShloMosaic.Pipeline (Dat)

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel

/-- An entry of the branch's output. -/
def A (t : Fin 2048) (k : Fin 512) : EReal := m ((c : Thread nD τ).loc main_arg0) (ix2 t k)
/-- An entry of the cotangent. -/
def B (t : Fin 2048) (k : Fin 1024) : EReal := m ((c : Thread nD τ).loc main_arg1) (ix2 t k)

/-- What the call leaves. -/
theorem out : (dats m 0 c).arrAt 2 cfg0.N = fun i => ∑ t : Fin 2048, B m c t (i 0) * A m c t (i 1) := by
  refine (dats m 0 c).arrAt_eq_of_covers 2 _ (by decide +kernel) fun t hf y => ?_
  blk_simp
  rw [after0_2]
  unfold outsAt0
  frame_out
  pointwise [k0_pay1]
  refine Finset.sum_congr (M := EReal) rfl fun k _ => congrArg₂ (· * ·) ?_ ?_
  · unfold B
    blk_ext! [iblk, V, index_0 t, index_2 t]
  · unfold A
    blk_ext! [iblk, V, index_1 t, index_2 t]

/-- The host line after the call transposes. -/
theorem flip (i : S512x1024.Idx) (W : Valuation τ sig (Elt Ideal)) :
    StableHlo.after (List.flatten [hostOps1]) W (Proc.devRef .tc main_v1) i = W (Proc.devRef .tc main_v0) (ix2 (i 1) (i 0)) := by
  after_reads_simp
  pointwise

/-- The gradient, entry by entry: a sum over the positions. -/
def G (i : S512x1024.Idx) : EReal := ∑ t : Fin 2048, B m c t (i 1) * A m c t (i 0)

theorem result : Pipeline.afterTail₀ cfgs (dats m) 0 (V0 m) [hostOps1] c main_v1 = G m c := by
  unfold Pipeline.afterTail₀
  funext i
  refine (flip i _).trans ?_
  refine (congrFun ((Pipeline.withArrays_arr spec0 (by decide) c (V0 m c) _ 2).trans (out m c)) _).trans ?_
  rfl

/-- The call and its reference leave the same array. -/
theorem algebraic : Cert.algebraic_BrDwIdeal_BrDwRefIdeal := fun m g m' g' _ h =>
  ⟨fun c => G m c,
    (θ_run _ _ _).mono (fun r H c => ⟨((H.1 c).2 main_v1 (Pipeline.mem_restRefs_of main_v1 (by decide) (by decide))).trans (result m c), H.2 c⟩)
      (θ_run_and (run_main m g) (unchanged m g)),
    (θ_run _ _ _).mono (fun r H c => ⟨(H c).1.trans (by
        rw [(h c).1, (h c).2]
        funext i
        show _ = G m c i
        unfold G A B
        pointwise), (H c).2⟩)
      (Cert.BrDwRefIdeal.Value.run m' g')⟩

theorem quiescent : Cert.quiescent_BrDw := fun m ρ _ => Cert.BrDw.Gen.frame m ρ

theorem quiescent_ideal : Cert.quiescent_BrDwIdeal := fun m ρ _ => Cert.BrDwIdeal.Gen.frame m ρ

theorem quiescent_ref : Cert.quiescent_BrDwRefIdeal := fun m ρ _ =>
  (θ_run Cert.BrDwRefIdeal.defs _ _).mono
    (fun r H => ⟨fun c => (H c).2, sem_eq_zero_of_no_sems (by decide) r.2⟩) (Cert.BrDwRefIdeal.Value.run m ρ)

end Cert.BrDwIdeal.Val

end

end
-- ==== Proof.BrDxVal.lean ====
module

public import proofs.«01_k».proof.Proof.Gen.BrDxIdeal.Value
public import proofs.«01_k».proof.Proof.Gen.BrDxRefIdeal.Run
public import proofs.«01_k».proof.Proof.Gen.BrDx.Frame
public import proofs.«01_k».proof.Defs
public import Idealize.ShloMosaic.Lib.Pipeline.ValueKit
public import proofs.«01_k».proof.Proof.Pads
import Idealize.ShloMosaic.Lib.StableHlo.RunRead

@[expose] public section

set_option maxRecDepth 16384

noncomputable section

/-! # The gradient of a branch's output -/

namespace Cert.BrDxIdeal.Val

open Idealize.ShloMosaic Idealize.ShloMosaic.TcCoe Idealize.SL.Sem
open Cert.BrDxIdeal Cert.BrDxIdeal.Gen
open Idealize.ShloMosaic.Pipeline (Dat)

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel

/-- An entry of the cotangent. -/
def A (t : Fin 2048) (k : Fin 1024) : EReal := m ((c : Thread nD τ).loc main_arg0) (ix2 t k)
/-- An entry of the weight. -/
def B (k : Fin 512) (n : Fin 1024) : EReal := m ((c : Thread nD τ).loc main_arg1) (ix2 k n)

/-- The gradient, entry by entry. -/
def G (i : S2048x512.Idx) : EReal := ∑ k : Fin 1024, A m c (i 0) k * B m c (i 1) k

/-- An entry of the transposed weight that the call reads. -/
def P (n : Fin 1024) (k : Fin 512) : EReal := V m c main_v1 (ix2 n k)

theorem P_eq (n : Fin 1024) (k : Fin 512) : P m c n k = B m c k n := by
  unfold P B V
  after_reads_simp
  pointwise

/-- What the call leaves. -/
theorem out : (dats m 0 c).arrAt 2 cfg0.N = G m c := by
  refine (dats m 0 c).arrAt_eq_of_covers 2 _ (by decide +kernel) fun t hf y => ?_
  blk_simp
  rw [after0_2]
  unfold outsAt0
  frame_out
  pointwise [k0_pay1]
  unfold G
  refine Finset.sum_congr (M := EReal) rfl fun k _ => congrArg₂ (· * ·) ?_ (Eq.trans ?_ (P_eq m c k _))
  · unfold A
    blk_ext! [iblk, V, index_0 t, index_2 t]
  · unfold P
    blk_ext! [iblk, V, index_1 t, index_2 t]

/-- The call and its reference leave the same array. -/
theorem algebraic : Cert.algebraic_BrDxIdeal_BrDxRefIdeal := fun m g m' g' _ h =>
  ⟨fun c => G m c,
    (θ_run _ _ _).mono (fun r H c => ⟨(H c).1.trans (out m c), (H c).2⟩) (Value.run_blocks m g),
    (θ_run _ _ _).mono (fun r H c => ⟨(H c).1.trans (by
        rw [(h c).1, (h c).2]
        funext i
        show _ = G m c i
        unfold G A B
        pointwise), (H c).2⟩)
      (Cert.BrDxRefIdeal.Value.run m' g')⟩

theorem quiescent : Cert.quiescent_BrDx := fun m ρ _ => Cert.BrDx.Gen.frame m ρ

theorem quiescent_ideal : Cert.quiescent_BrDxIdeal := fun m ρ _ => Cert.BrDxIdeal.Gen.frame m ρ

theorem quiescent_ref : Cert.quiescent_BrDxRefIdeal := fun m ρ _ =>
  (θ_run Cert.BrDxRefIdeal.defs _ _).mono
    (fun r H => ⟨fun c => (H c).2, sem_eq_zero_of_no_sems (by decide) r.2⟩) (Cert.BrDxRefIdeal.Value.run m ρ)

end Cert.BrDxIdeal.Val

end

end
-- ==== Proof.OutProjVal.lean ====
module

public import proofs.«01_k».proof.Proof.Gen.OutProjIdeal.Value
public import proofs.«01_k».proof.Proof.Gen.OutProjRefIdeal.Run
public import proofs.«01_k».proof.Proof.Gen.OutProj.Frame
public import proofs.«01_k».proof.Defs
public import Idealize.ShloMosaic.Lib.Pipeline.ValueKit
public import proofs.«01_k».proof.Proof.Pads
import Idealize.ShloMosaic.Lib.StableHlo.RunRead

@[expose] public section

set_option maxRecDepth 16384

noncomputable section

/-! # The output projection -/

namespace Cert.OutProjIdeal.Val

open Idealize.ShloMosaic Idealize.ShloMosaic.TcCoe Idealize.SL.Sem
open Cert.OutProjIdeal Cert.OutProjIdeal.Gen
open Idealize.ShloMosaic.Pipeline (Dat)

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![0, t.val] := by decide +kernel
theorem index_2 : ∀ t : Fin cfg0.N, win0_2.index t = ![0, t.val] := by decide +kernel

/-- An entry of the projected array. -/
def A (t : Fin 2048) (k : Fin 1024) : EReal := m ((c : Thread nD τ).loc main_arg0) (ix2 t k)
/-- An entry of the weight. -/
def B (k : Fin 1024) (n : Fin 1024) : EReal := m ((c : Thread nD τ).loc main_arg1) (ix2 k n)

/-- The product, entry by entry. -/
def G (i : S2048x1024.Idx) : EReal := ∑ k : Fin 1024, A m c (i 0) k * B m c k (i 1)

/-- What the call leaves. -/
theorem out : (dats m 0 c).arrAt 2 cfg0.N = G m c := by
  refine (dats m 0 c).arrAt_eq_of_covers 2 _ (by decide +kernel) fun t hf y => ?_
  blk_simp
  rw [after0_2]
  unfold outsAt0
  frame_out
  pointwise [k0_pay1]
  unfold G
  refine Finset.sum_congr (M := EReal) rfl fun k _ => congrArg₂ (· * ·) ?_ ?_
  · unfold A
    blk_ext! [iblk, V, index_0 t, index_2 t]
  · unfold B
    blk_ext! [iblk, V, index_1 t, index_2 t]

/-- The call and its reference leave the same array. -/
theorem algebraic : Cert.algebraic_OutProjIdeal_OutProjRefIdeal := fun m g m' g' _ h =>
  ⟨fun c => G m c,
    (θ_run _ _ _).mono (fun r H c => ⟨(H c).1.trans (out m c), (H c).2⟩) (Value.run_blocks m g),
    (θ_run _ _ _).mono (fun r H c => ⟨(H c).1.trans (by
        rw [(h c).1, (h c).2]
        funext i
        show _ = G m c i
        unfold G A B
        pointwise), (H c).2⟩)
      (Cert.OutProjRefIdeal.Value.run m' g')⟩

theorem quiescent : Cert.quiescent_OutProj := fun m ρ _ => Cert.OutProj.Gen.frame m ρ

theorem quiescent_ideal : Cert.quiescent_OutProjIdeal := fun m ρ _ => Cert.OutProjIdeal.Gen.frame m ρ

theorem quiescent_ref : Cert.quiescent_OutProjRefIdeal := fun m ρ _ =>
  (θ_run Cert.OutProjRefIdeal.defs _ _).mono
    (fun r H => ⟨fun c => (H c).2, sem_eq_zero_of_no_sems (by decide) r.2⟩) (Cert.OutProjRefIdeal.Value.run m ρ)

end Cert.OutProjIdeal.Val

end

end
-- ==== Proof.InProjVal.lean ====
module

public import proofs.«01_k».proof.Proof.Gen.InProjIdeal.Frame
public import proofs.«01_k».proof.Proof.Gen.InProjRefIdeal.Run
public import proofs.«01_k».proof.Proof.Gen.InProj.Frame
public import proofs.«01_k».proof.Defs
public import Idealize.ShloMosaic.Lib.Pipeline.ValueKit
public import proofs.«01_k».proof.Proof.InProjPads
import Idealize.ShloMosaic.Lib.StableHlo.RunRead

@[expose] public section

set_option maxRecDepth 16384

noncomputable section

/-! # The input projection -/

namespace Cert.InProjIdeal.Val

open Idealize.ShloMosaic Idealize.ShloMosaic.TcCoe Idealize.SL.Sem
open Cert.InProjIdeal Cert.InProjIdeal.Gen
open Idealize.ShloMosaic.Pipeline (Dat)

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![t.val, 0] := by decide +kernel
theorem index_2 : ∀ t : Fin cfg0.N, win0_2.index t = ![0, t.val] := by decide +kernel

/-- An entry of the input. -/
def A (t : Fin 2048) (k : Fin 1024) : EReal := m ((c : Thread nD τ).loc main_arg0) (ix2 t k)
/-- An entry of the weight. -/
def B (k : Fin 1024) (n : Fin 9256) : EReal := m ((c : Thread nD τ).loc main_arg1) (ix2 k n)
/-- The same with zeros behind the last column. -/
def B0 (k : Fin 1024) (n : ℕ) : EReal := if h : n < 9256 then B m c k ⟨n, h⟩ else 0
/-- An entry of the padded transposed weight that the call reads. -/
def Q (k : Fin 9728) (n : Fin 1024) : EReal := V m c main_v17 (ix2 k n)

theorem B0_at (k : Fin 1024) (n : ℕ) (h : n < 9256) :
    m ((c : Thread nD τ).loc main_arg1) (ix2 k ⟨n, h⟩) = B0 m c k n := by
  unfold B0 B
  rw [dif_pos h]

theorem B0_end (k : Fin 1024) : B0 m c k 9256 = 0 := by
  unfold B0
  rw [dif_neg (by omega)]

theorem Q_eq (K : Fin 9728) (n : Fin 1024) : Q m c K n = B0 m c n (InProjPads.src K.val) := by
  unfold Q V V0
  after_reads_simp
  refine InProjPads.rows (B0 m c n) n K _ _ _ _ _ _ _ _ _ _ _ _ _ _ _ (fun j => ?_) (fun j => ?_) (fun j => ?_) (fun j => ?_)
    (fun j => ?_) (fun j => ?_) (fun j => ?_) (fun j => ?_) (fun j => ?_) (fun j => ?_) (fun j => ?_) (fun j => ?_)
    (fun j => ?_) (fun j => ?_)
  all_goals
    pointwise
    after_reads_simp
    pointwise
    first
      | exact B0_at m c n _ _
      | exact (B0_end m c n).symm

theorem Q_dst (i : Fin 9256) (n : Fin 1024) :
    Q m c ⟨InProjPads.dst i.val, InProjPads.dst_lt _ i.isLt⟩ n = B m c n i := by
  rw [Q_eq]
  unfold B0
  have e : InProjPads.src (InProjPads.dst i.val) = i.val := InProjPads.src_dst _ i.isLt
  rw [dif_pos (by dsimp only; omega)]
  exact congrArg (B m c n) (Fin.ext e)

/-- What the call leaves. -/
theorem out : (dats m 0 c).arrAt 2 cfg0.N = fun i => ∑ k : Fin 1024, A m c (i 0) k * Q m c (i 1) k := by
  refine (dats m 0 c).arrAt_eq_of_covers 2 _ (by decide +kernel) fun t hf y => ?_
  blk_simp
  rw [after0_2]
  unfold outsAt0
  frame_out
  pointwise [k0_pay1]
  refine Finset.sum_congr (M := EReal) rfl fun k _ => congrArg₂ (· * ·) ?_ ?_
  · unfold A
    blk_ext! [iblk, V, index_0 t, index_2 t]
  · unfold Q
    blk_ext! [iblk, V, index_1 t, index_2 t]

/-- The host lines after the call put the columns back in the projection's order. -/
theorem unpad (i : S2048x9256.Idx) (W : Valuation τ sig (Elt Ideal)) :
    StableHlo.after (List.flatten [hostOps1]) W (Proc.devRef .tc main_v32) i =
      W (Proc.devRef .tc main_v18) (ix2 (i 0) ⟨InProjPads.dst (i 1).val, InProjPads.dst_lt _ (i 1).isLt⟩) := by
  after_reads_simp
  refine (transpose_apply _ _ _ i (ix2 (i 1) (i 0)) fun b => by fin_cases b <;> rfl).trans ?_
  refine InProjPads.unpad_rows (fun k => if h : k < 9728 then W (Proc.devRef .tc main_v18) (ix2 (i 0) ⟨k, h⟩) else default)
    (i 0) (i 1) _ _ _ _ _ _ _ _ _ _ _ _ (fun j => ?_) (fun j => ?_) (fun j => ?_) (fun j => ?_)
    (fun j => ?_) (fun j => ?_) (fun j => ?_) (fun j => ?_) (fun j => ?_) (fun j => ?_) (fun j => ?_) |>.trans (dif_pos (InProjPads.dst_lt _ (i 1).isLt))
  all_goals
    rw [dif_pos (by omega)]
    pointwise
    after_reads_simp
    pointwise

/-- The product, entry by entry. -/
def G (i : S2048x9256.Idx) : EReal := ∑ k : Fin 1024, A m c (i 0) k * B m c k (i 1)

theorem result : Pipeline.afterTail₀ cfgs (dats m) 0 (V0 m) [hostOps1] c main_v32 = G m c := by
  unfold Pipeline.afterTail₀
  funext i
  refine (unpad i _).trans ?_
  refine (congrFun ((Pipeline.withArrays_arr spec0 (by decide) c (V0 m c) _ 2).trans (out m c)) _).trans ?_
  exact Finset.sum_congr (M := EReal) rfl fun k _ => congrArg₂ (· * ·) rfl (Q_dst m c _ k)

/-- The call and its reference leave the same array. -/
theorem algebraic : Cert.algebraic_InProjIdeal_InProjRefIdeal := fun m g m' g' _ h =>
  ⟨fun c => G m c,
    (θ_run _ _ _).mono (fun r H c => ⟨((H.1 c).2 main_v32 (Pipeline.mem_restRefs_of main_v32 (by decide) (by decide))).trans (result m c), H.2 c⟩)
      (θ_run_and (run_main m g) (unchanged m g)),
    (θ_run _ _ _).mono (fun r H c => ⟨(H c).1.trans (by
        rw [(h c).1, (h c).2]
        funext i
        show _ = G m c i
        unfold G A B
        pointwise), (H c).2⟩)
      (Cert.InProjRefIdeal.Value.run m' g')⟩

theorem quiescent : Cert.quiescent_InProj := fun m ρ _ => Cert.InProj.Gen.frame m ρ

theorem quiescent_ideal : Cert.quiescent_InProjIdeal := fun m ρ _ => Cert.InProjIdeal.Gen.frame m ρ

theorem quiescent_ref : Cert.quiescent_InProjRefIdeal := fun m ρ _ =>
  (θ_run Cert.InProjRefIdeal.defs _ _).mono
    (fun r H => ⟨fun c => (H c).2, sem_eq_zero_of_no_sems (by decide) r.2⟩) (Cert.InProjRefIdeal.Value.run m ρ)

end Cert.InProjIdeal.Val

end

end
-- ==== Proof.FfnUpVal.lean ====
module

public import proofs.«01_k».proof.Proof.Gen.FfnUpIdeal.Frame
public import proofs.«01_k».proof.Proof.Gen.FfnUpRefIdeal.Run
public import proofs.«01_k».proof.Proof.Gen.FfnUp.Frame
public import proofs.«01_k».proof.Defs
public import Idealize.ShloMosaic.Lib.Pipeline.ValueKit
public import proofs.«01_k».proof.Proof.Pads
import Idealize.ShloMosaic.Lib.StableHlo.RunRead

@[expose] public section

set_option maxRecDepth 16384

noncomputable section

/-! # The up projection -/

namespace Cert.FfnUpIdeal.Val

open Idealize.ShloMosaic Idealize.ShloMosaic.TcCoe Idealize.SL.Sem
open Cert.FfnUpIdeal Cert.FfnUpIdeal.Gen
open Idealize.ShloMosaic.Pipeline (Dat)

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![t.val, 0] := by decide +kernel
theorem index_2 : ∀ t : Fin cfg0.N, win0_2.index t = ![0, t.val] := by decide +kernel

/-- An entry of the input. -/
def A (t : Fin 2048) (k : Fin 1024) : EReal := m ((c : Thread nD τ).loc main_arg0) (ix2 t k)
/-- An entry of the weight. -/
def B (k : Fin 1024) (n : Fin 5632) : EReal := m ((c : Thread nD τ).loc main_arg1) (ix2 k n)
/-- An entry of the padded transposed weight that the call reads. -/
def P (n : Fin 6144) (k : Fin 1024) : EReal := V m c main_v5 (ix2 n k)

theorem P_in (n : Fin 5632) (k : Fin 1024) (N : Fin 6144) (h : N.val = Pads.at384 n.val) : P m c N k = B m c k n := by
  unfold P B V V0
  unfold Pads.at384 at h
  after_reads_simp
  pointwise
  refine (Pads.rows_in _ _ pads_S16x352x1024_S16x384x1024_000_0320_000 h_S_ _ _ k (⟨n.val % 352, by omega⟩ : Fin 352)
    (by dsimp only; omega)).trans ?_
  exact congrArg (fun a => m ((c : Thread nD τ).loc main_arg1) (ix2 k a)) (Fin.ext (by dsimp only [ix3]; omega))

/-- What the call leaves. -/
theorem out : (dats m 0 c).arrAt 2 cfg0.N = fun i => ∑ k : Fin 1024, A m c (i 0) k * P m c (i 1) k := by
  refine (dats m 0 c).arrAt_eq_of_covers 2 _ (by decide +kernel) fun t hf y => ?_
  blk_simp
  rw [after0_2]
  unfold outsAt0
  frame_out
  pointwise [k0_pay1]
  refine Finset.sum_congr (M := EReal) rfl fun k _ => congrArg₂ (· * ·) ?_ ?_
  · unfold A
    blk_ext! [iblk, V, index_0 t, index_2 t]
  · unfold P
    blk_ext! [iblk, V, index_1 t, index_2 t]

/-- The host lines after the call drop the padding columns. -/
theorem unpad (i : S2048x5632.Idx) (W : Valuation τ sig (Elt Ideal)) :
    StableHlo.after (List.flatten [hostOps1]) W (Proc.devRef .tc main_v9) i =
      W (Proc.devRef .tc main_v6) (ix2 (i 0) ⟨(i 1).val / 352 * 384 + (i 1).val % 352, by
        have := (i 1).isLt; change (i 1).val < 5632 at this; omega⟩) := by
  after_reads_simp
  pointwise

/-- The product, entry by entry. -/
def G (i : S2048x5632.Idx) : EReal := ∑ k : Fin 1024, A m c (i 0) k * B m c k (i 1)

theorem result : Pipeline.afterTail₀ cfgs (dats m) 0 (V0 m) [hostOps1] c main_v9 = G m c := by
  unfold Pipeline.afterTail₀
  funext i
  refine (unpad i _).trans ?_
  refine (congrFun ((Pipeline.withArrays_arr spec0 (by decide) c (V0 m c) _ 2).trans (out m c)) _).trans ?_
  exact Finset.sum_congr (M := EReal) rfl fun k _ => congrArg₂ (· * ·) rfl (P_in m c _ _ _ rfl)

/-- The call and its reference leave the same array. -/
theorem algebraic : Cert.algebraic_FfnUpIdeal_FfnUpRefIdeal := fun m g m' g' _ h =>
  ⟨fun c => G m c,
    (θ_run _ _ _).mono (fun r H c => ⟨((H.1 c).2 main_v9 (Pipeline.mem_restRefs_of main_v9 (by decide) (by decide))).trans (result m c), H.2 c⟩)
      (θ_run_and (run_main m g) (unchanged m g)),
    (θ_run _ _ _).mono (fun r H c => ⟨(H c).1.trans (by
        rw [(h c).1, (h c).2]
        funext i
        show _ = G m c i
        unfold G A B
        pointwise), (H c).2⟩)
      (Cert.FfnUpRefIdeal.Value.run m' g')⟩

theorem quiescent : Cert.quiescent_FfnUp := fun m ρ _ => Cert.FfnUp.Gen.frame m ρ

theorem quiescent_ideal : Cert.quiescent_FfnUpIdeal := fun m ρ _ => Cert.FfnUpIdeal.Gen.frame m ρ

theorem quiescent_ref : Cert.quiescent_FfnUpRefIdeal := fun m ρ _ =>
  (θ_run Cert.FfnUpRefIdeal.defs _ _).mono
    (fun r H => ⟨fun c => (H c).2, sem_eq_zero_of_no_sems (by decide) r.2⟩) (Cert.FfnUpRefIdeal.Value.run m ρ)

end Cert.FfnUpIdeal.Val

end

end
-- ==== Proof.FfnDownVal.lean ====
module

public import proofs.«01_k».proof.Proof.Gen.FfnDownIdeal.Value
public import proofs.«01_k».proof.Proof.Gen.FfnDownRefIdeal.Run
public import proofs.«01_k».proof.Proof.Gen.FfnDown.Frame
public import proofs.«01_k».proof.Defs
public import Idealize.ShloMosaic.Lib.Pipeline.ValueKit
public import proofs.«01_k».proof.Proof.Pads
import Idealize.ShloMosaic.Lib.StableHlo.RunRead

@[expose] public section

set_option maxRecDepth 16384

noncomputable section

/-! # The down projection -/

namespace Cert.FfnDownIdeal.Val

open Idealize.ShloMosaic Idealize.ShloMosaic.TcCoe Idealize.SL.Sem
open Cert.FfnDownIdeal Cert.FfnDownIdeal.Gen
open Idealize.ShloMosaic.Pipeline (Dat)

variable (m : (ℓ : Loc nD τ sig) → Buf (Elt Ideal) ℓ) (c : Dev nD)

theorem index_0 : ∀ t : Fin cfg0.N, win0_0.index t = ![0, t.val % 3] := by decide +kernel
theorem index_1 : ∀ t : Fin cfg0.N, win0_1.index t = ![t.val % 3, 0] := by decide +kernel
theorem index_2 : ∀ t : Fin cfg0.N, win0_2.index t = ![0, 0] := by decide +kernel

/-- An entry of the activations. -/
def A (t : Fin 2048) (k : Fin 2816) : EReal := m ((c : Thread nD τ).loc main_arg0) (ix2 t k)
/-- An entry of the weight. -/
def B (k : Fin 2816) (n : Fin 1024) : EReal := m ((c : Thread nD τ).loc main_arg1) (ix2 k n)
/-- An entry of the padded activations that the call reads. -/
def P (t : Fin 2048) (k : Fin 3072) : EReal := V m c main_v2 (ix2 t k)
/-- An entry of the padded weight that the call reads. -/
def Q (k : Fin 3072) (n : Fin 1024) : EReal := V m c main_v6 (ix2 k n)

theorem P_in (t : Fin 2048) (k : Fin 2816) (K : Fin 3072) (h : K.val = Pads.at384 k.val) : P m c t K = A m c t k := by
  unfold P A V
  unfold Pads.at384 at h
  after_reads_simp
  pointwise
  refine (Pads.cols_in _ _ pads_S2048x8x352_S2048x8x384_000_000_0320 h_S_ t _ _ (⟨k.val % 352, by omega⟩ : Fin 352)
    (by dsimp only; omega)).trans ?_
  exact congrArg (fun a => m ((c : Thread nD τ).loc main_arg0) (ix2 t a)) (Fin.ext (by dsimp only [ix3]; omega))

theorem P_out (t : Fin 2048) (K : Fin 3072) (h : 352 ≤ K.val % 384) : P m c t K = 0 := by
  unfold P V
  after_reads_simp
  pointwise
  refine (Pads.cols_out _ _ pads_S2048x8x352_S2048x8x384_000_000_0320 h_S_ t _ _ h).trans ?_
  show (((0#32).toInt : ℝ) : EReal) = 0
  norm_num

theorem Q_in (k : Fin 2816) (n : Fin 1024) (K : Fin 3072) (h : K.val = Pads.at384 k.val) : Q m c K n = B m c k n := by
  unfold Q B V
  unfold Pads.at384 at h
  after_reads_simp
  pointwise
  refine (Pads.rows_in _ _ pads_S8x352x1024_S8x384x1024_000_0320_000 h_S_ _ _ n (⟨k.val % 352, by omega⟩ : Fin 352)
    (by dsimp only; omega)).trans ?_
  exact congrArg (fun a => m ((c : Thread nD τ).loc main_arg1) (ix2 a n)) (Fin.ext (by dsimp only [ix3]; omega))

/-- Term `k` of the padded sum of an entry of the product. -/
def f (t : Fin 2048) (n : Fin 1024) (k : ℕ) : EReal := if h : k < 3072 then P m c t ⟨k, h⟩ * Q m c ⟨k, h⟩ n else 0

/-- What one grid point multiplies: the next 1024 terms. -/
theorem part (t : Fin cfg0.N) (y : S2048x1024.Idx) (R : Fin 2048) (h : R.val = (y 0).val) :
    k0_pay1 (iblk m c 0 t) (iblk m c 1 t) y = ∑ l : Fin 1024, f m c R (y 1) (t.val % 3 * 1024 + l.val) := by
  pointwise [k0_pay1]
  refine Finset.sum_congr (M := EReal) rfl fun l _ => ?_
  have hl : t.val % 3 * 1024 + l.val < 3072 := by omega
  unfold f
  rw [dif_pos hl]
  refine congrArg₂ (· * ·) ?_ ?_
  · unfold P
    blk_ext! [iblk, V, index_0 t]
  · unfold Q
    blk_ext! [iblk, V, index_1 t]

/-- The accumulator after the first two of the three points. -/
theorem acc (y : S2048x1024.Idx) (R : Fin 2048) (hR : R.val = (y 0).val) :
    ∀ s, s ≤ 1 → ∀ (t : Fin cfg0.N), t.val = s →
      (outsAt0 m c t.val t.isLt).2 y = ∑ k ∈ Finset.range ((s + 1) * 1024), f m c R (y 1) k
  | 0, _, t, h => by
    rw [outsAt0_A m c t (by omega) (by omega) (by omega)]
    frame_out
    unfold k0_pay2
    pointwise
    rw [part m c t y R hR, show t.val % 3 = 0 by omega]
    have e := Pads.sum_step (f m c R (y 1)) 0 1024
    rw [Finset.sum_range_zero, zero_add] at e
    exact e
  | s + 1, hs, t, h => by
    rw [outsAt0_B m c t (by omega) (by omega) (by omega)]
    frame_out
    unfold k0_pay3
    pointwise
    rw [part m c t y R hR, show t.val % 3 = s + 1 by omega]
    refine Eq.trans (congrArg₂ (· + ·) ?_ rfl) ((Pads.sum_step (f m c R (y 1)) ((s + 1) * 1024) 1024).trans
      (by rw [Nat.succ_mul (s + 1)]))
    refine Eq.trans ?_ (acc y R hR s (by omega) ⟨t.val - 1, by omega⟩ (by dsimp only; omega))
    exact congrFun (Memref.IsWhole.read_unread _ _) _

/-- The padded sum is the sum. -/
theorem sum_all (R : Fin 2048) (n : Fin 1024) :
    ∑ k ∈ Finset.range 3072, f m c R n k = ∑ k : Fin 2816, A m c R k * B m c k n := by
  rw [Finset.sum_range]
  refine Pads.sum_pad (by decide) (by decide) (fun k : Fin 2816 => A m c R k * B m c k n)
    (fun k : Fin 3072 => f m c R n k.val) (fun j hj => ?_) (fun i j e => ?_)
  · unfold f
    rw [dif_pos j.isLt, P_out m c R ⟨j.val, j.isLt⟩ hj, zero_mul]
  · unfold f
    rw [dif_pos j.isLt, P_in m c R i ⟨j.val, j.isLt⟩ e, Q_in m c i n ⟨j.val, j.isLt⟩ e]

/-- The product, entry by entry. -/
def G (i : S2048x1024.Idx) : EReal := ∑ k : Fin 2816, A m c (i 0) k * B m c k (i 1)

/-- What the call leaves. -/
theorem out : (dats m 0 c).arrAt 2 cfg0.N = G m c := by
  refine (dats m 0 c).arrAt_eq_of_covers 2 _ (by decide +kernel) fun t hf y => ?_
  have h5 := (flush0_2 t).mp hf
  have ht : t.val < 3 := t.isLt
  have h2 : t.val = 2 := by omega
  blk_simp
  rw [after0_2, outsAt0_C m c t (by omega) (by omega) (by omega)]
  frame_out
  unfold k0_pay4
  pointwise
  rw [part m c t y ⟨(y 0).val, (y 0).isLt⟩ rfl, show t.val % 3 = 2 by omega]
  refine Eq.trans (Eq.trans (congrArg₂ (· + ·)
    ((congrFun (Memref.IsWhole.read_unread _ _) _).trans (acc m c y ⟨(y 0).val, (y 0).isLt⟩ rfl 1 le_rfl ⟨t.val - 1, by omega⟩ (by dsimp only; omega)))
    rfl) ((Pads.sum_step _ _ _).trans (sum_all m c _ _))) ?_
  unfold G
  refine Finset.sum_congr (M := EReal) rfl fun k _ => congrArg₂ (· * ·) ?_ ?_
  · exact congrArg (fun a => A m c a k) (Fin.ext (by blk_simp [index_2 t]))
  · exact congrArg (fun a => B m c k a) (Fin.ext (by blk_simp [index_2 t]))

/-- The call and its reference leave the same array. -/
theorem algebraic : Cert.algebraic_FfnDownIdeal_FfnDownRefIdeal := fun m g m' g' _ h =>
  ⟨fun c => G m c,
    (θ_run _ _ _).mono (fun r H c => ⟨(H c).1.trans (out m c), (H c).2⟩) (Value.run_blocks m g),
    (θ_run _ _ _).mono (fun r H c => ⟨(H c).1.trans (by
        rw [(h c).1, (h c).2]
        funext i
        show _ = G m c i
        unfold G A B
        pointwise), (H c).2⟩)
      (Cert.FfnDownRefIdeal.Value.run m' g')⟩

theorem quiescent : Cert.quiescent_FfnDown := fun m ρ _ => Cert.FfnDown.Gen.frame m ρ

theorem quiescent_ideal : Cert.quiescent_FfnDownIdeal := fun m ρ _ => Cert.FfnDownIdeal.Gen.frame m ρ

theorem quiescent_ref : Cert.quiescent_FfnDownRefIdeal := fun m ρ _ =>
  (θ_run Cert.FfnDownRefIdeal.defs _ _).mono
    (fun r H => ⟨fun c => (H c).2, sem_eq_zero_of_no_sems (by decide) r.2⟩) (Cert.FfnDownRefIdeal.Value.run m ρ)

end Cert.FfnDownIdeal.Val

end

end
-- ==== Proof.MergeVal.lean ====
module

public import proofs.«01_k».proof.Proof.Gen.MergeIdeal.Value
public import proofs.«01_k».proof.Proof.Gen.MergeRefIdeal.Run
public import proofs.«01_k».proof.Proof.Gen.Merge.Frame
public import proofs.«01_k».proof.Defs
public import Idealize.ShloMosaic.Lib.Pipeline.ValueKit
import Idealize.ShloMosaic.Lib.StableHlo.RunRead

@[expose] public section

set_option maxRecDepth 16384

noncomputable section

/-! # The gated merge of the three branches -/

namespace Cert.MergeIdeal.Val

open Idealize.ShloMosaic Idealize.ShloMosaic.TcCoe Idealize.SL.Sem
open Cert.MergeIdeal Cert.MergeIdeal.Gen
open Idealize.ShloMosaic.Pipeline (Dat)

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel
theorem index_4 : ∀ t : Fin cfg0.N, win0_4.index t = ![t.val, 0] := by decide +kernel

/-- A gate of position `t`: the logistic of entry `k` of the projected row. -/
def gate (t : Fin 2048) (k : Fin 9728) : EReal := Ideal.logistic (m ((c : Thread nD τ).loc main_arg0) (ix2 t k))
/-- An entry of the first branch's output. -/
def Y1 (t : Fin 2048) (k : Fin 1024) : EReal := m ((c : Thread nD τ).loc main_arg1) (ix2 t k)
/-- An entry of the second branch's output. -/
def Y2 (t : Fin 2048) (k : Fin 1024) : EReal := m ((c : Thread nD τ).loc main_arg2) (ix2 t k)
/-- An entry of the third branch's output. -/
def Y3 (t : Fin 2048) (k : Fin 1024) : EReal := m ((c : Thread nD τ).loc main_arg3) (ix2 t k)

/-- An entry of the merge: the three outputs, each times its gate, added up. -/
def mix (t : Fin 2048) (k : Fin 1024) : EReal :=
  gate m c t ⟨k.val, by omega⟩ * Y1 m c t k + gate m c t ⟨1024 + k.val, by omega⟩ * Y2 m c t k
    + gate m c t ⟨2048 + k.val, by omega⟩ * Y3 m c t k

/-- The staged row of gates at a grid point is the row of the array that the grid point reaches. -/
theorem staged (t : Fin cfg0.N) (j : (cfg0.win 0).block.Idx) (r : Fin 2048) (k : Fin 9728)
    (hr : r.val = t.val * 256 + (j 0).val) (hk : k.val = (j 1).val) :
    X0_0 m c t j = m ((c : Thread nD τ).loc main_arg0) (ix2 r k) := by
  unfold X0_0 Pipeline.Window.fill
  rw [dif_pos (moved0_0 t j)]
  blk_ext! [iblk, V, index_0 t]
  all_goals simp_all
  all_goals omega

/-- What the call leaves. -/
theorem out : (dats m 0 c).arrAt 4 cfg0.N = fun i => mix m c (i 0) (i 1) := by
  refine (dats m 0 c).arrAt_eq_of_covers 4 _ (by decide +kernel) fun t hf y => ?_
  have e0 : ((win0_4.blk t).view.emb y 0).val = t.val * 256 + (y 0).val := by blk_simp [index_4 t]
  have e1 : ((win0_4.blk t).view.emb y 1).val = (y 1).val := by blk_simp [index_4 t]
  blk_simp
  rw [after0_4]
  unfold outsAt0
  frame_out
  pointwise [k0_pay1]
  unfold mix gate
  refine congrArg₂ (α := EReal) (· + ·) (congrArg₂ (· + ·) (congrArg₂ (· * ·) (congrArg Ideal.logistic ?_) ?_)
    (congrArg₂ (· * ·) (congrArg Ideal.logistic ?_) ?_)) (congrArg₂ (· * ·) (congrArg Ideal.logistic ?_) ?_)
  · exact staged m c t _ _ _ e0 e1
  · unfold Y1
    blk_ext! [iblk, V, index_1 t, index_4 t]
  · exact staged m c t _ _ _ e0 (congrArg (1024 + ·) e1)
  · unfold Y2
    blk_ext! [iblk, V, index_2 t, index_4 t]
  · exact staged m c t _ _ _ e0 (congrArg (2048 + ·) e1)
  · unfold Y3
    blk_ext! [iblk, V, index_3 t, index_4 t]

/-- The call and its reference leave the same array. -/
theorem algebraic : Cert.algebraic_MergeIdeal_MergeRefIdeal := fun m g m' g' _ h =>
  ⟨fun c => fun i => mix m c (i 0) (i 1),
    (θ_run _ _ _).mono (fun r H c => ⟨(H c).1.trans (out m c), (H c).2⟩) (Cert.MergeIdeal.Value.run_blocks m g),
    (θ_run _ _ _).mono (fun r H c => ⟨(H c).1.trans (by
        rw [(h c).1, (h c).2.1, (h c).2.2.1, (h c).2.2.2]
        funext i
        pointwise
        unfold mix gate Y1 Y2 Y3
        rw [← ix2_eta i]
        rfl), (H c).2⟩)
      (Cert.MergeRefIdeal.Value.run m' g')⟩

theorem quiescent : Cert.quiescent_Merge := fun m ρ _ => Cert.Merge.Gen.frame m ρ

theorem quiescent_ideal : Cert.quiescent_MergeIdeal := fun m ρ _ => Cert.MergeIdeal.Gen.frame m ρ

theorem quiescent_ref : Cert.quiescent_MergeRefIdeal := fun m ρ _ =>
  (θ_run Cert.MergeRefIdeal.defs _ _).mono
    (fun r H => ⟨fun c => (H c).2, sem_eq_zero_of_no_sems (by decide) r.2⟩) (Cert.MergeRefIdeal.Value.run m ρ)

end Cert.MergeIdeal.Val

end

end
-- ==== Proof.MergeBwdVal.lean ====
module

public import proofs.«01_k».proof.Proof.Gen.MergeBwdIdeal.Value
public import proofs.«01_k».proof.Proof.Gen.MergeBwdRefIdeal.Run
public import proofs.«01_k».proof.Proof.Gen.MergeBwd.Frame
public import proofs.«01_k».proof.Defs
public import Idealize.ShloMosaic.Lib.Pipeline.ValueKit
import Idealize.ShloMosaic.Lib.StableHlo.RunRead

@[expose] public section

set_option maxRecDepth 16384

noncomputable section

/-! # The gradients of the gated merge -/

namespace Cert.MergeBwdIdeal.Val

open Idealize.ShloMosaic Idealize.ShloMosaic.TcCoe Idealize.SL.Sem
open Cert.MergeBwdIdeal Cert.MergeBwdIdeal.Gen
open Idealize.ShloMosaic.Pipeline (Dat)

variable (m : (ℓ : Loc nD τ sig) → Buf (Elt Ideal) ℓ) (c : Dev nD)

theorem index_0 : ∀ t : Fin cfg0.N, win0_0.index t = ![7 - t.val, 0] := by decide +kernel
theorem index_1 : ∀ t : Fin cfg0.N, win0_1.index t = ![7 - t.val, 0] := by decide +kernel
theorem index_2 : ∀ t : Fin cfg0.N, win0_2.index t = ![7 - t.val, 0] := by decide +kernel
theorem index_3 : ∀ t : Fin cfg0.N, win0_3.index t = ![7 - t.val, 0] := by decide +kernel
theorem index_4 : ∀ t : Fin cfg0.N, win0_4.index t = ![7 - t.val, 0] := by decide +kernel
theorem index_5 : ∀ t : Fin cfg0.N, win0_5.index t = ![7 - t.val, 0] := by decide +kernel
theorem index_6 : ∀ t : Fin cfg0.N, win0_6.index t = ![7 - t.val, 0] := by decide +kernel
theorem index_7 : ∀ t : Fin cfg0.N, win0_7.index t = ![7 - t.val, 0] := by decide +kernel
theorem index_8 : ∀ t : Fin cfg0.N, win0_8.index t = ![7 - t.val, 0] := by decide +kernel

/-- A gate of position `t`: the logistic of entry `k` of the projected row. -/
def gate (t : Fin 2048) (k : Fin 9728) : EReal := Ideal.logistic (m ((c : Thread nD τ).loc main_arg0) (ix2 t k))
/-- An entry of the first branch's output. -/
def Y1 (t : Fin 2048) (k : Fin 1024) : EReal := m ((c : Thread nD τ).loc main_arg1) (ix2 t k)
/-- An entry of the second branch's output. -/
def Y2 (t : Fin 2048) (k : Fin 1024) : EReal := m ((c : Thread nD τ).loc main_arg2) (ix2 t k)
/-- An entry of the third branch's output. -/
def Y3 (t : Fin 2048) (k : Fin 1024) : EReal := m ((c : Thread nD τ).loc main_arg3) (ix2 t k)

/-- An entry of the cotangent. -/
def D (t : Fin 2048) (k : Fin 1024) : EReal := m ((c : Thread nD τ).loc main_arg4) (ix2 t k)

/-- The branch that gate `k` multiplies: the gates of the three branches lie side by side. -/
def Y (t : Fin 2048) (k : Fin 3072) : EReal :=
  if k.val < 1024 then Y1 m c t ⟨k.val % 1024, by omega⟩
  else if k.val < 2048 then Y2 m c t ⟨k.val % 1024, by omega⟩
  else Y3 m c t ⟨k.val % 1024, by omega⟩

/-- The gradient of a gate before the logistic: cotangent times branch, times the derivative of the logistic. -/
def dgate (t : Fin 2048) (k : Fin 3072) : EReal :=
  D m c t ⟨k.val % 1024, by omega⟩ * Y m c t k
    * (gate m c t ⟨k.val, by omega⟩ * (1 - gate m c t ⟨k.val, by omega⟩))

/-- The gradient of a branch: its gate times the cotangent, the gates of the branch starting at column `o`. -/
def dbranch (o : ℕ) (ho : o ≤ 2048) (t : Fin 2048) (k : Fin 1024) : EReal :=
  gate m c t ⟨o + k.val, by omega⟩ * D m c t k

/-- The staged row of gates at a grid point is the row of the array that the grid point reaches. -/
theorem staged (t : Fin cfg0.N) (j : (cfg0.win 0).block.Idx) (r : Fin 2048) (k : Fin 9728)
    (hr : r.val = (7 - t.val) * 256 + (j 0).val) (hk : (j 1).val = k.val) :
    Ideal.logistic (X0_0 m c t j) = gate m c r k := by
  unfold gate X0_0 Pipeline.Window.fill
  rw [dif_pos (moved0_0 t j)]
  refine congrArg Ideal.logistic ?_
  blk_ext! [iblk, V, index_0 t]
  all_goals simp_all
  all_goals omega

/-- The staged rows of the first branch's output. -/
theorem staged_1 (t : Fin cfg0.N) (j : ((cfg0.win 1).xblock (cfg0.grid.coords t)).Idx) (r : Fin 2048) (k : Fin 1024)
    (hr : r.val = (7 - t.val) * 256 + (j 0).val) (hk : (j 1).val = k.val) : iblk m c 1 t j = Y1 m c r k := by
  unfold Y1
  blk_ext! [iblk, V, index_1 t]
  all_goals simp_all
  all_goals omega

/-- The staged rows of the second branch's output. -/
theorem staged_2 (t : Fin cfg0.N) (j : ((cfg0.win 2).xblock (cfg0.grid.coords t)).Idx) (r : Fin 2048) (k : Fin 1024)
    (hr : r.val = (7 - t.val) * 256 + (j 0).val) (hk : (j 1).val = k.val) : iblk m c 2 t j = Y2 m c r k := by
  unfold Y2
  blk_ext! [iblk, V, index_2 t]
  all_goals simp_all
  all_goals omega

/-- The staged rows of the third branch's output. -/
theorem staged_3 (t : Fin cfg0.N) (j : ((cfg0.win 3).xblock (cfg0.grid.coords t)).Idx) (r : Fin 2048) (k : Fin 1024)
    (hr : r.val = (7 - t.val) * 256 + (j 0).val) (hk : (j 1).val = k.val) : iblk m c 3 t j = Y3 m c r k := by
  unfold Y3
  blk_ext! [iblk, V, index_3 t]
  all_goals simp_all
  all_goals omega

/-- The staged rows of the cotangent. -/
theorem staged_4 (t : Fin cfg0.N) (j : ((cfg0.win 4).xblock (cfg0.grid.coords t)).Idx) (r : Fin 2048) (k : Fin 1024)
    (hr : r.val = (7 - t.val) * 256 + (j 0).val) (hk : (j 1).val = k.val) : iblk m c 4 t j = D m c r k := by
  unfold D
  blk_ext! [iblk, V, index_4 t]
  all_goals simp_all
  all_goals omega

/-- The gradient of the gates that the call leaves. -/
theorem out5 : (dats m 0 c).arrAt 5 cfg0.N = fun i => dgate m c (i 0) (i 1) := by
  refine (dats m 0 c).arrAt_eq_of_covers 5 _ (by decide +kernel) fun t hf y => ?_
  have e0 : ((win0_5.blk t).view.emb y 0).val = (7 - t.val) * 256 + (y 0).val := by blk_simp [index_5 t]
  have e1 : ((win0_5.blk t).view.emb y 1).val = (y 1).val := by blk_simp [index_5 t]
  show _ = dgate m c ((win0_5.blk t).view.emb y 0) ((win0_5.blk t).view.emb y 1)
  generalize (win0_5.blk t).view.emb y 0 = R at e0 ⊢
  generalize (win0_5.blk t).view.emb y 1 = K at e1 ⊢
  blk_simp
  rw [after0_5]
  unfold outsAt0
  frame_out
  pointwise [k0_pay12, k0_pay4, k0_pay5, k0_pay6, k0_pay7, k0_pay8]
  unfold dgate Y
  have hK : K.val < 3072 := K.isLt
  rcases (by omega : K.val < 1024 ∨ (1024 ≤ K.val ∧ K.val < 2048) ∨ 2048 ≤ K.val) with h | h | h
  · simp only [dif_pos (show (y 1).val < 2048 by omega), dif_pos (show (y 1).val < 1024 by omega), if_pos h,
      add_zero, zero_add]
    refine congrArg₂ (α := EReal) (· * ·) (congrArg₂ (· * ·) (staged_4 m c t _ _ _ e0 ?_)
       (staged_1 m c t _ _ _ e0 ?_))
      (congrArg (fun x => x * (1 - x)) (staged m c t _ _ _ e0 ?_))
    all_goals show (y 1).val = _
    all_goals dsimp only
    all_goals omega
  · simp only [dif_pos (show (y 1).val < 2048 by omega), dif_neg (show ¬(y 1).val < 1024 by omega),
      if_neg (show ¬K.val < 1024 by omega), if_pos h.2, add_zero, zero_add]
    refine congrArg₂ (α := EReal) (· * ·) (congrArg₂ (· * ·) (staged_4 m c t _ _ _ e0 ?_)
       (staged_2 m c t _ _ _ e0 ?_))
      (congrArg (fun x => x * (1 - x)) (staged m c t _ _ _ e0 ?_))
    · show (y 1).val - 1024 = K.val % 1024
      omega
    · show (y 1).val - 1024 = K.val % 1024
      omega
    · show 1024 + ((y 1).val - 1024) = K.val
      omega
  · simp only [dif_neg (show ¬(y 1).val < 2048 by omega), dif_neg (show ¬(y 1).val < 1024 by omega),
      if_neg (show ¬K.val < 1024 by omega), if_neg (show ¬K.val < 2048 by omega), add_zero, zero_add]
    refine congrArg₂ (α := EReal) (· * ·) (congrArg₂ (· * ·) (staged_4 m c t _ _ _ e0 ?_)
       (staged_3 m c t _ _ _ e0 ?_))
      (congrArg (fun x => x * (1 - x)) (staged m c t _ _ _ e0 ?_))
    · show (y 1).val - 2048 = K.val % 1024
      omega
    · show (y 1).val - 2048 = K.val % 1024
      omega
    · show 2048 + ((y 1).val - 2048) = K.val
      omega

/-- The gradient of the first branch that the call leaves. -/
theorem out6 : (dats m 0 c).arrAt 6 cfg0.N = fun i => dbranch m c 0 (by decide) (i 0) (i 1) := by
  refine (dats m 0 c).arrAt_eq_of_covers 6 _ (by decide +kernel) fun t hf y => ?_
  have e0 : ((win0_6.blk t).view.emb y 0).val = (7 - t.val) * 256 + (y 0).val := by blk_simp [index_6 t]
  have e1 : ((win0_6.blk t).view.emb y 1).val = (y 1).val := by blk_simp [index_6 t]
  show _ = dbranch m c 0 (by decide) ((win0_6.blk t).view.emb y 0) ((win0_6.blk t).view.emb y 1)
  generalize (win0_6.blk t).view.emb y 0 = R at e0 ⊢
  generalize (win0_6.blk t).view.emb y 1 = K at e1 ⊢
  blk_simp
  rw [after0_6]
  unfold outsAt0
  frame_out
  pointwise [k0_pay1, k0_pay11, k0_pay4, k0_pay7]
  refine congrArg₂ (α := EReal) (· * ·) (staged m c t _ _ _ e0 ?_) (staged_4 m c t _ _ _ e0 e1.symm)
  show (y 1).val = 0 + K.val
  omega

/-- The gradient of the second branch that the call leaves. -/
theorem out7 : (dats m 0 c).arrAt 7 cfg0.N = fun i => dbranch m c 1024 (by decide) (i 0) (i 1) := by
  refine (dats m 0 c).arrAt_eq_of_covers 7 _ (by decide +kernel) fun t hf y => ?_
  have e0 : ((win0_7.blk t).view.emb y 0).val = (7 - t.val) * 256 + (y 0).val := by blk_simp [index_7 t]
  have e1 : ((win0_7.blk t).view.emb y 1).val = (y 1).val := by blk_simp [index_7 t]
  show _ = dbranch m c 1024 (by decide) ((win0_7.blk t).view.emb y 0) ((win0_7.blk t).view.emb y 1)
  generalize (win0_7.blk t).view.emb y 0 = R at e0 ⊢
  generalize (win0_7.blk t).view.emb y 1 = K at e1 ⊢
  blk_simp
  rw [after0_7]
  unfold outsAt0
  frame_out
  pointwise [k0_pay2, k0_pay10, k0_pay5, k0_pay7]
  refine congrArg₂ (α := EReal) (· * ·) (staged m c t _ _ _ e0 ?_) (staged_4 m c t _ _ _ e0 e1.symm)
  show 1024 + (y 1).val = 1024 + K.val
  omega

/-- The gradient of the third branch that the call leaves. -/
theorem out8 : (dats m 0 c).arrAt 8 cfg0.N = fun i => dbranch m c 2048 (by decide) (i 0) (i 1) := by
  refine (dats m 0 c).arrAt_eq_of_covers 8 _ (by decide +kernel) fun t hf y => ?_
  have e0 : ((win0_8.blk t).view.emb y 0).val = (7 - t.val) * 256 + (y 0).val := by blk_simp [index_8 t]
  have e1 : ((win0_8.blk t).view.emb y 1).val = (y 1).val := by blk_simp [index_8 t]
  show _ = dbranch m c 2048 (by decide) ((win0_8.blk t).view.emb y 0) ((win0_8.blk t).view.emb y 1)
  generalize (win0_8.blk t).view.emb y 0 = R at e0 ⊢
  generalize (win0_8.blk t).view.emb y 1 = K at e1 ⊢
  blk_simp
  rw [after0_8]
  unfold outsAt0
  frame_out
  pointwise [k0_pay3, k0_pay9, k0_pay6, k0_pay8]
  refine congrArg₂ (α := EReal) (· * ·) (staged m c t _ _ _ e0 ?_) (staged_4 m c t _ _ _ e0 e1.symm)
  show 2048 + (y 1).val = 2048 + K.val
  omega

/-- At one gate the sum of the three padded gradients is cotangent times branch: two of the three are zero there. -/
theorem padded (t : Fin 2048) (k : Fin 3072) :
    ((if h : (2 ≤ k.val / 1024 ∧ k.val / 1024 - 2 < 1) ∧ k.val % 1024 < 1024 then
        D m c t ⟨k.val % 1024, h.2⟩ * Y3 m c t ⟨k.val % 1024, h.2⟩ else 0)
      + (if h : (1 ≤ k.val / 1024 ∧ k.val / 1024 - 1 < 1) ∧ k.val % 1024 < 1024 then
        D m c t ⟨k.val % 1024, h.2⟩ * Y2 m c t ⟨k.val % 1024, h.2⟩ else 0))
      + (if h : k.val / 1024 < 1 ∧ k.val % 1024 < 1024 then
        D m c t ⟨k.val % 1024, h.2⟩ * Y1 m c t ⟨k.val % 1024, h.2⟩ else 0)
    = D m c t ⟨k.val % 1024, by omega⟩ * Y m c t k := by
  unfold Y
  have hK : k.val < 3072 := k.isLt
  rcases (by omega : k.val < 1024 ∨ (1024 ≤ k.val ∧ k.val < 2048) ∨ 2048 ≤ k.val) with h | h | h
  · rw [dif_neg (by omega), dif_neg (by omega), dif_pos (by omega), if_pos h, zero_add, zero_add]
  · rw [dif_neg (by omega), dif_pos (by omega), dif_neg (by omega), if_neg (by omega), if_pos h.2, zero_add, add_zero]
  · rw [dif_pos (by omega), dif_neg (by omega), dif_neg (by omega), if_neg (by omega), if_neg (by omega),
      add_zero, add_zero]

/-- The call and its reference leave the same arrays. -/
theorem algebraic : Cert.algebraic_MergeBwdIdeal_MergeBwdRefIdeal := fun m g m' g' _ h =>
  ⟨fun c => fun i => dgate m c (i 0) (i 1),
    fun c => fun i => dbranch m c 0 (by decide) (i 0) (i 1),
    fun c => fun i => dbranch m c 1024 (by decide) (i 0) (i 1),
    fun c => fun i => dbranch m c 2048 (by decide) (i 0) (i 1),
    (θ_run _ _ _).mono (fun r H c => ⟨(H c).1.trans (out5 m c), (H c).2.1.trans (out6 m c), (H c).2.2.1.trans (out7 m c),
      (H c).2.2.2.1.trans (out8 m c), (H c).2.2.2.2⟩) (Value.run_blocks m g),
    (θ_run _ _ _).mono (fun r H c => ⟨(H c).1.trans (by
        rw [(h c).1, (h c).2.1, (h c).2.2.1, (h c).2.2.2.1, (h c).2.2.2.2]
        funext i
        pointwise
        exact congrArg₂ (α := EReal) (· * ·) (padded m c (i 0) (i 1)) rfl),
      (H c).2.1.trans (by
        rw [(h c).1, (h c).2.2.2.2]
        funext i
        pointwise
        unfold dbranch gate D
        rw [← ix2_eta i]
        simp only [Nat.zero_add]
        rfl),
      (H c).2.2.1.trans (by
        rw [(h c).1, (h c).2.2.2.2]
        funext i
        pointwise
        unfold dbranch gate D
        rw [← ix2_eta i]
        rfl),
      (H c).2.2.2.1.trans (by
        rw [(h c).1, (h c).2.2.2.2]
        funext i
        pointwise
        unfold dbranch gate D
        rw [← ix2_eta i]
        rfl), (H c).2.2.2.2⟩)
      (Cert.MergeBwdRefIdeal.Value.run m' g')⟩

theorem quiescent : Cert.quiescent_MergeBwd := fun m ρ _ => Cert.MergeBwd.Gen.frame m ρ

theorem quiescent_ideal : Cert.quiescent_MergeBwdIdeal := fun m ρ _ => Cert.MergeBwdIdeal.Gen.frame m ρ

theorem quiescent_ref : Cert.quiescent_MergeBwdRefIdeal := fun m ρ _ =>
  (θ_run Cert.MergeBwdRefIdeal.defs _ _).mono
    (fun r H => ⟨fun c => (H c).2.2.2.2, sem_eq_zero_of_no_sems (by decide) r.2⟩) (Cert.MergeBwdRefIdeal.Value.run m ρ)

end Cert.MergeBwdIdeal.Val

end

end
-- ==== Proof.LnRow.lean ====
module

public import Idealize.ShloMosaic.Lib.Pipeline.ValueKit
public import Mathlib.Algebra.BigOperators.Fin

@[expose] public section

noncomputable section

/-! # One row of the layer norm of a residual sum, forward and backward

The row `x` times a constant plus the row `r` is normalised over its 1024 entries, then scaled by `g` and shifted by `b`.
Everything here is about one row; `d` is the row of the cotangent. -/

namespace Cert.LnRow

open Idealize.ShloMosaic

/-- The factor of the residual stream. -/
def scale : EReal := Ideal.ofBits .f32 0x3FB504F3#32
/-- The number of entries of a row. -/
def width : EReal := Ideal.ofBits .f32 0x44800000#32
/-- What is added to the variance. -/
def eps : EReal := Ideal.ofBits .f32 0x3727C5AC#32
/-- Two, the factor in the derivative of a square. -/
def two : EReal := Ideal.ofBits .f32 0x40000000#32
/-- Minus one half, the factor in the derivative of a reciprocal square root. -/
def minusHalf : EReal := Ideal.ofBits .f32 0xBF000000#32

variable (x r g b d : Fin 1024 → EReal)

/-- The residual sum. -/
def res (k : Fin 1024) : EReal := scale * x k + r k
/-- The mean of a row. -/
def mean (w : Fin 1024 → EReal) : EReal := Ideal.div (∑ k, w k) width
/-- The deviation of the residual sum from its mean. -/
def dev (k : Fin 1024) : EReal := res x r k - mean (res x r)
/-- The variance, with `eps` added. -/
def spread : EReal := mean (fun k => dev x r k * dev x r k) + eps
/-- The reciprocal of the standard deviation. -/
def inv : EReal := Ideal.rsqrt (spread x r)
/-- The normalised entry. -/
def norm (k : Fin 1024) : EReal := dev x r k * inv x r
/-- The layer norm. -/
def out (k : Fin 1024) : EReal := norm x r k * g k + b k

/-- The derivative of the reciprocal square root. -/
def slope : EReal := minusHalf * Ideal.div (inv x r) (spread x r)
/-- The cotangent of the normalised entry. -/
def up (k : Fin 1024) : EReal := d k * g k
/-- The part of the gradient that does not pass through the mean or the variance. -/
def direct (k : Fin 1024) : EReal := up g d k * inv x r
/-- The part of the gradient that passes through the variance. -/
def through (k : Fin 1024) : EReal :=
  Ideal.div ((∑ j, dev x r j * up g d j) * slope x r) width * (two * dev x r k)
/-- The part of the gradient that passes through the mean: the same for every entry of the row. -/
def back : EReal := Ideal.div ((∑ k, -direct x r g d k) + ∑ k, -through x r g d k) width
/-- The gradient of the residual sum. -/
def total (k : Fin 1024) : EReal := direct x r g d k + through x r g d k + back x r g d

end Cert.LnRow

end

end
-- ==== Proof.LnVal.lean ====
module

public import proofs.«01_k».proof.Proof.Gen.LnIdeal.Value
public import proofs.«01_k».proof.Proof.Gen.LnRefIdeal.Run
public import proofs.«01_k».proof.Proof.Gen.Ln.Frame
public import proofs.«01_k».proof.Defs
public import Idealize.ShloMosaic.Lib.Pipeline.ValueKit
public import proofs.«01_k».proof.Proof.LnRow
import Idealize.ShloMosaic.Lib.StableHlo.RunRead

@[expose] public section

set_option maxRecDepth 16384

noncomputable section

/-! # The layer norm of the residual sum -/

namespace Cert.LnIdeal.Val

open Idealize.ShloMosaic Idealize.ShloMosaic.TcCoe Idealize.SL.Sem
open Cert.LnIdeal Cert.LnIdeal.Gen
open Idealize.ShloMosaic.Pipeline (Dat)

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![t.val, 0] := by decide +kernel
theorem index_5 : ∀ t : Fin cfg0.N, win0_5.index t = ![t.val, 0] := by decide +kernel

/-- A row of the stream. -/
def X (t : Fin 2048) (k : Fin 1024) : EReal := m ((c : Thread nD τ).loc main_arg0) (ix2 t k)
/-- A row of the residual. -/
def R (t : Fin 2048) (k : Fin 1024) : EReal := m ((c : Thread nD τ).loc main_arg1) (ix2 t k)
/-- The scale. -/
def G (k : Fin 1024) : EReal := m ((c : Thread nD τ).loc main_arg2) (ix2 0 k)
/-- The shift. -/
def B (k : Fin 1024) : EReal := m ((c : Thread nD τ).loc main_arg3) (ix2 0 k)

/-- The staged rows of the stream. -/
theorem staged_0 (t : Fin cfg0.N) (j : ((cfg0.win 0).xblock (cfg0.grid.coords t)).Idx) (r : Fin 2048) (k : Fin 1024)
    (hr : r.val = t.val * 256 + (j 0).val) (hk : (j 1).val = k.val) : iblk m c 0 t j = X m c r k := by
  unfold X
  blk_ext! [iblk, V, index_0 t]
  all_goals simp_all

/-- The staged rows of the residual. -/
theorem staged_1 (t : Fin cfg0.N) (j : ((cfg0.win 1).xblock (cfg0.grid.coords t)).Idx) (r : Fin 2048) (k : Fin 1024)
    (hr : r.val = t.val * 256 + (j 0).val) (hk : (j 1).val = k.val) : iblk m c 1 t j = R m c r k := by
  unfold R
  blk_ext! [iblk, V, index_1 t]
  all_goals simp_all

/-- The staged scale. -/
theorem staged_2 (t : Fin cfg0.N) (j : ((cfg0.win 2).xblock (cfg0.grid.coords t)).Idx) (k : Fin 1024)
    (hk : (j 1).val = k.val) : iblk m c 2 t j = G m c k := by
  unfold G
  blk_ext! [iblk, V, index_2 t]
  all_goals simp_all

/-- The staged shift. -/
theorem staged_3 (t : Fin cfg0.N) (j : ((cfg0.win 3).xblock (cfg0.grid.coords t)).Idx) (k : Fin 1024)
    (hk : (j 1).val = k.val) : iblk m c 3 t j = B m c k := by
  unfold B
  blk_ext! [iblk, V, index_3 t]
  all_goals simp_all

/-- An entry of the layer norm of the residual sum. -/
def N (i : S2048x1024.Idx) : EReal := LnRow.out (X m c (i 0)) (R m c (i 0)) (G m c) (B m c) (i 1)

/-- What one grid point computes, for any blocks: the layer norm of their rows. -/
theorem body (x r : Vec Ideal S256x1024 .f32) (g b : Vec Ideal S1x1024 .f32) (y : S256x1024.Idx) :
    k0_pay1 x r g b y = LnRow.out (fun k => x (ix2 (y 0) k)) (fun k => r (ix2 (y 0) k)) (fun k => g (ix2 0 k))
      (fun k => b (ix2 0 k)) (y 1) := by
  pointwise [k0_pay1]
  rw [← ix2_eta y]
  rfl

/-- The layer norm of the staged rows at a grid point is that of the array's rows. -/
theorem point (t : Fin cfg0.N) (y : S256x1024.Idx) (i : S2048x1024.Idx)
    (e0 : (i 0).val = t.val * 256 + (y 0).val) (e1 : (i 1).val = (y 1).val) :
    k0_pay1 (iblk m c 0 t) (iblk m c 1 t) (iblk m c 2 t) (iblk m c 3 t) y = N m c i := by
  refine (body _ _ _ _ y).trans ?_
  rw [show (fun k => iblk m c 0 t (ix2 (y 0) k)) = X m c (i 0) from funext fun k => staged_0 m c t _ _ _ e0 rfl,
    show (fun k => iblk m c 1 t (ix2 (y 0) k)) = R m c (i 0) from funext fun k => staged_1 m c t _ _ _ e0 rfl,
    show (fun k => iblk m c 2 t (ix2 0 k)) = G m c from funext fun k => staged_2 m c t _ _ rfl,
    show (fun k => iblk m c 3 t (ix2 0 k)) = B m c from funext fun k => staged_3 m c t _ _ rfl]
  exact congrArg (LnRow.out (X m c (i 0)) (R m c (i 0)) (G m c) (B m c)) (Fin.ext e1.symm)

/-- What the call leaves in its first result. -/
theorem out4 : (dats m 0 c).arrAt 4 cfg0.N = N m c := by
  refine (dats m 0 c).arrAt_eq_of_covers 4 _ (by decide +kernel) fun t hf y => ?_
  have e0 : ((win0_4.blk t).view.emb y 0).val = t.val * 256 + (y 0).val := by blk_simp [index_4 t]
  have e1 : ((win0_4.blk t).view.emb y 1).val = (y 1).val := by blk_simp [index_4 t]
  show _ = N m c ((win0_4.blk t).view.emb y)
  generalize (win0_4.blk t).view.emb y = i at e0 e1 ⊢
  blk_simp
  rw [after0_4]
  frame_out
  exact point m c t y i e0 e1

/-- What the call leaves in its second result: the same numbers, in the narrow format. -/
theorem out5 : (dats m 0 c).arrAt 5 cfg0.N = N m c := by
  refine (dats m 0 c).arrAt_eq_of_covers 5 _ (by decide +kernel) fun t hf y => ?_
  have e0 : ((win0_5.blk t).view.emb y 0).val = t.val * 256 + (y 0).val := by blk_simp [index_5 t]
  have e1 : ((win0_5.blk t).view.emb y 1).val = (y 1).val := by blk_simp [index_5 t]
  show _ = N m c ((win0_5.blk t).view.emb y)
  generalize (win0_5.blk t).view.emb y = i at e0 e1 ⊢
  blk_simp
  rw [after0_5]
  frame_out
  unfold k0_pay2
  exact point m c t y i e0 e1

/-- An entry of the reference, once its arrays are read row by row. -/
theorem entry (x r : S2048x1024.Idx → EReal) (g b : S1x1024.Idx → EReal) (i : S2048x1024.Idx) :
    (LnRow.scale * x i + r i - LnRow.mean (LnRow.res (fun k => x (ix2 (i 0) k)) (fun k => r (ix2 (i 0) k))))
      * LnRow.inv (fun k => x (ix2 (i 0) k)) (fun k => r (ix2 (i 0) k)) * g (ix2 0 (i 1)) + b (ix2 0 (i 1))
    = LnRow.out (fun k => x (ix2 (i 0) k)) (fun k => r (ix2 (i 0) k)) (fun k => g (ix2 0 k)) (fun k => b (ix2 0 k)) (i 1) := by
  conv_lhs => rw [← ix2_eta i]
  rfl

set_option maxHeartbeats 1000000 in
/-- The call and its reference leave the same arrays. -/
theorem algebraic : Cert.algebraic_LnIdeal_LnRefIdeal := fun m g m' g' _ h =>
  ⟨fun c => N m c, fun c => N m c,
    (θ_run _ _ _).mono (fun r H c => ⟨(H c).1.trans (out4 m c), (H c).2.1.trans (out5 m c), (H c).2.2⟩)
      (Value.run_blocks m g),
    (θ_run _ _ _).mono (fun r H c => ⟨(H c).1.trans (by
        rw [(h c).1, (h c).2.1, (h c).2.2.1, (h c).2.2.2]
        funext i
        pointwise
        exact entry (m ((c : Thread nD τ).loc main_arg0)) (m ((c : Thread nD τ).loc main_arg1))
          (m ((c : Thread nD τ).loc main_arg2)) (m ((c : Thread nD τ).loc main_arg3)) i), (H c).2.1.trans (by
        rw [(h c).1, (h c).2.1, (h c).2.2.1, (h c).2.2.2]
        funext i
        pointwise
        exact entry (m ((c : Thread nD τ).loc main_arg0)) (m ((c : Thread nD τ).loc main_arg1))
          (m ((c : Thread nD τ).loc main_arg2)) (m ((c : Thread nD τ).loc main_arg3)) i), (H c).2.2⟩)
      (Cert.LnRefIdeal.Value.run m' g')⟩

theorem quiescent : Cert.quiescent_Ln := fun m ρ _ => Cert.Ln.Gen.frame m ρ

theorem quiescent_ideal : Cert.quiescent_LnIdeal := fun m ρ _ => Cert.LnIdeal.Gen.frame m ρ

theorem quiescent_ref : Cert.quiescent_LnRefIdeal := fun m ρ _ =>
  (θ_run Cert.LnRefIdeal.defs _ _).mono
    (fun r H => ⟨fun c => (H c).2.2, sem_eq_zero_of_no_sems (by decide) r.2⟩) (Cert.LnRefIdeal.Value.run m ρ)

end Cert.LnIdeal.Val

end

end
-- ==== Proof.LnBwdRef.lean ====
module

public import proofs.«01_k».proof.Proof.Gen.LnBwdRefIdeal.Run
public import Idealize.ShloMosaic.Lib.Pipeline.ValueKit
public import proofs.«01_k».proof.Proof.LnRow
import Idealize.ShloMosaic.Lib.StableHlo.RunRead

@[expose] public section

set_option maxRecDepth 16384

noncomputable section

/-! # The reference of the layer norm's gradients, read row by row

The reference computes whole arrays one after the other. Each array that several later ones use has a name here, and a
theorem says what one of its entries is in terms of the row it lies in. -/

namespace Cert.LnBwdRefIdeal.Rows

open Idealize.ShloMosaic Idealize.ShloMosaic.TcCoe
open Cert.LnBwdRefIdeal Cert.LnBwdRefIdeal.Gen

variable (x r d : FVec Ideal S2048x1024 .f32) (g : FVec Ideal S1x1024 .f32) (t : Fin 2048) (k : Fin 1024)

/-- A row of an array. -/
def row (x : FVec Ideal S2048x1024 .f32) (t : Fin 2048) : Fin 1024 → EReal := fun k => x (ix2 t k)

/-- One number per row, written to every entry of the row. -/
def spreadOut (v : FVec Ideal S2048x1 .f32) : FVec Ideal S2048x1024 .f32 :=
  broadcastInDim S2048x1024 ![0, 1] bcast_S2048x1_S2048x1024_0_1 v

/-- A constant, as an array of entries. -/
def entries (w : BitVec 32) : FVec Ideal S2048x1024 .f32 :=
  broadcastInDim S2048x1024 ![] bcast_S_S2048x1024 (constant S_ .f32 w)

/-- A constant, once per row. -/
def column (w : BitVec 32) : FVec Ideal S2048x1 .f32 := broadcastInDim S2048x1 ![] bcast_S_S2048x1 (constant S_ .f32 w)

/-- The sum of every row. -/
def rowSums (v : FVec Ideal S2048x1024 .f32) : FVec Ideal S2048 .f32 :=
  Host.reduceAdd v (constant S_ .f32 0x00000000#32) reducesTo_S2048x1024_S2048_d1 h_S_

/-- The residual sum. -/
def resA : FVec Ideal S2048x1024 .f32 := addf (mulf (entries 0x3FB504F3#32) x) r

/-- The mean of every row. -/
def meanA (v : FVec Ideal S2048x1024 .f32) : FVec Ideal S2048x1 .f32 :=
  Host.divf (broadcastInDim S2048x1 ![0] bcast_S2048_S2048x1_0 (rowSums v)) (column 0x44800000#32)

/-- The deviations. -/
def devA : FVec Ideal S2048x1024 .f32 := subf (resA x r) (spreadOut (meanA (resA x r)))

/-- The variances. -/
def spreadA : FVec Ideal S2048x1 .f32 := addf (meanA (mulf (devA x r) (devA x r))) (column 0x3727C5AC#32)

/-- The reciprocals of the standard deviations. -/
def invA : FVec Ideal S2048x1 .f32 := Host.rsqrt (spreadA x r)

/-- The derivatives of the reciprocal square roots. -/
def slopeA : FVec Ideal S2048x1 .f32 := mulf (column 0xBF000000#32) (Host.divf (invA x r) (spreadA x r))

/-- The normalised entries. -/
def normA : FVec Ideal S2048x1024 .f32 := mulf (devA x r) (spreadOut (invA x r))

/-- The cotangents of the normalised entries. -/
def upA : FVec Ideal S2048x1024 .f32 :=
  mulf (shapeCast _ d shapeCasts_S2048x1024_S2048x1024) (broadcastInDim S2048x1024 ![0, 1] bcast_S1x1024_S2048x1024_0_1
    (broadcastInDim S1x1024 ![1] bcast_S1024_S1x1024_1 (shapeCast _ g shapeCasts_S1x1024_S1024)))

/-- The part of the gradient that passes through neither mean nor variance. -/
def directA : FVec Ideal S2048x1024 .f32 := mulf (upA d g) (spreadOut (invA x r))

/-- The part of the gradient that passes through the variance. -/
def throughA : FVec Ideal S2048x1024 .f32 :=
  mulf (broadcastInDim S2048x1024 ![0] bcast_S2048_S2048x1024_0 (Host.reduceAdd
    (Host.divf (mulf (shapeCast _ (rowSums (mulf (devA x r) (upA d g))) shapeCasts_S2048_S2048x1) (slopeA x r))
      (column 0x44800000#32)) (constant S_ .f32 0x00000000#32) reducesTo_S2048x1_S2048_d1 h_S_))
    (mulf (entries 0x40000000#32) (devA x r))

/-- The part of the gradient that passes through the mean. -/
def backA : FVec Ideal S2048 .f32 :=
  Host.reduceAdd (Host.divf (addf (shapeCast _ (rowSums (Host.negf (directA x r d g))) shapeCasts_S2048_S2048x1)
    (shapeCast _ (rowSums (Host.negf (throughA x r d g))) shapeCasts_S2048_S2048x1)) (column 0x44800000#32))
    (constant S_ .f32 0x00000000#32) reducesTo_S2048x1_S2048_d1 h_S_

/-- The gradient of the residual sum. -/
def totalA : FVec Ideal S2048x1024 .f32 :=
  addf (addf (directA x r d g) (throughA x r d g)) (broadcastInDim S2048x1024 ![0] bcast_S2048_S2048x1024_0 (backA x r d g))

theorem spreadOut_apply (v : FVec Ideal S2048x1 .f32) : spreadOut v (ix2 t k) = v (ix2 t 0) := by
  unfold spreadOut
  pointwise

theorem entries_apply (w : BitVec 32) (i : S2048x1024.Idx) : entries w i = Ideal.ofBits .f32 w := by
  unfold entries
  pointwise

theorem column_apply (w : BitVec 32) (i : S2048x1.Idx) : column w i = Ideal.ofBits .f32 w := by
  unfold column
  pointwise

theorem rowSums_apply (v : FVec Ideal S2048x1024 .f32) (i : S2048.Idx) : rowSums v i = ∑ k, row v (i 0) k := by
  unfold rowSums
  pointwise
  rfl

theorem meanA_apply (v : FVec Ideal S2048x1024 .f32) (j : Fin 1) : meanA v (ix2 t j) = LnRow.mean (row v t) := by
  unfold meanA
  pointwise
  rw [rowSums_apply, column_apply]
  rfl

theorem resA_apply : resA x r (ix2 t k) = LnRow.res (row x t) (row r t) k := by
  unfold resA
  pointwise
  rw [entries_apply]
  rfl

theorem resA_row : row (resA x r) t = LnRow.res (row x t) (row r t) := funext fun k => resA_apply x r t k

theorem devA_apply : devA x r (ix2 t k) = LnRow.dev (row x t) (row r t) k := by
  unfold devA
  pointwise
  rw [resA_apply, spreadOut_apply, meanA_apply, resA_row]
  rfl

theorem spreadA_apply (j : Fin 1) : spreadA x r (ix2 t j) = LnRow.spread (row x t) (row r t) := by
  unfold spreadA
  pointwise
  rw [meanA_apply, column_apply, show row (mulf (devA x r) (devA x r)) t
    = fun k => LnRow.dev (row x t) (row r t) k * LnRow.dev (row x t) (row r t) k from funext fun k => by
      unfold row
      pointwise
      rw [devA_apply]
      rfl]
  rfl

theorem invA_apply (j : Fin 1) : invA x r (ix2 t j) = LnRow.inv (row x t) (row r t) := by
  unfold invA
  pointwise
  rw [spreadA_apply]
  rfl

theorem slopeA_apply (j : Fin 1) : slopeA x r (ix2 t j) = LnRow.slope (row x t) (row r t) := by
  unfold slopeA
  pointwise
  rw [spreadA_apply, invA_apply, column_apply]
  rfl

theorem normA_apply : normA x r (ix2 t k) = LnRow.norm (row x t) (row r t) k := by
  unfold normA
  pointwise
  rw [devA_apply, spreadOut_apply, invA_apply]
  rfl

theorem upA_apply : upA d g (ix2 t k) = LnRow.up (fun k => g (ix2 0 k)) (row d t) k := by
  unfold upA
  pointwise
  rfl

theorem directA_apply :
    directA x r d g (ix2 t k) = LnRow.direct (row x t) (row r t) (fun k => g (ix2 0 k)) (row d t) k := by
  unfold directA
  pointwise
  rw [upA_apply, spreadOut_apply, invA_apply]
  rfl

theorem throughA_apply :
    throughA x r d g (ix2 t k) = LnRow.through (row x t) (row r t) (fun k => g (ix2 0 k)) (row d t) k := by
  unfold throughA
  pointwise
  simp only [Finset.univ_unique, Finset.sum_singleton]
  rw [rowSums_apply, column_apply, entries_apply, devA_apply, slopeA_apply, show row (mulf (devA x r) (upA d g)) (ix1 t 0)
    = fun k => LnRow.dev (row x t) (row r t) k * LnRow.up (fun k => g (ix2 0 k)) (row d t) k from funext fun k => by
      unfold row
      pointwise
      rw [devA_apply, upA_apply]
      rfl]
  rfl

theorem backA_apply (i : S2048.Idx) :
    backA x r d g i = LnRow.back (row x (i 0)) (row r (i 0)) (fun k => g (ix2 0 k)) (row d (i 0)) := by
  unfold backA
  pointwise
  simp only [Finset.univ_unique, Finset.sum_singleton]
  rw [rowSums_apply, rowSums_apply, column_apply, show row (Host.negf (directA x r d g)) (i 0)
    = fun k => -LnRow.direct (row x (i 0)) (row r (i 0)) (fun k => g (ix2 0 k)) (row d (i 0)) k from funext fun k => by
      unfold row
      pointwise
      exact congrArg (- ·) (directA_apply x r d g (i 0) k), show row (Host.negf (throughA x r d g)) (i 0)
    = fun k => -LnRow.through (row x (i 0)) (row r (i 0)) (fun k => g (ix2 0 k)) (row d (i 0)) k from funext fun k => by
      unfold row
      pointwise
      exact congrArg (- ·) (throughA_apply x r d g (i 0) k)]
  rfl

theorem totalA_apply :
    totalA x r d g (ix2 t k) = LnRow.total (row x t) (row r t) (fun k => g (ix2 0 k)) (row d t) k := by
  unfold totalA
  pointwise
  rw [directA_apply, throughA_apply, backA_apply]
  rfl

/-- The sum over all rows, taken once more over the one device. -/
def colSums (v : FVec Ideal S2048x1024 .f32) : FVec Ideal S1x1024 .f32 :=
  shapeCast _ (Host.reduceAdd (shapeCast _ (Host.reduceAdd v (constant S_ .f32 0x00000000#32)
    reducesTo_S2048x1024_S1024_d0 h_S_) shapeCasts_S1024_S1x1024) (constant S_ .f32 0x00000000#32)
    reducesTo_S1x1024_S1024_d0 h_S_) shapeCasts_S1024_S1x1024

theorem colSums_apply (v : FVec Ideal S2048x1024 .f32) (i : S1x1024.Idx) : colSums v i = ∑ t, row v t (i 1) := by
  unfold colSums
  pointwise
  simp only [Finset.univ_unique, Finset.sum_singleton]
  exact Finset.sum_congr (M := EReal) rfl fun _ _ => rfl

/-- The products whose sums over the rows are the gradient of the scale. -/
theorem scaleA_apply : row (mulf (normA x r) (shapeCast _ d shapeCasts_S2048x1024_S2048x1024)) t k
    = LnRow.norm (row x t) (row r t) k * row d t k := by
  unfold row
  pointwise
  rw [normA_apply]
  rfl

/-- The reference's second result is the gradient of the residual sum. -/
theorem res1 (m : (ℓ : Loc nD τ sig) → Buf (Elt Ideal) ℓ) (c : Dev nD) :
    Value.res_out1 m c = totalA (m ((c.tc : Thread nD τ).loc main_arg0)) (m ((c.tc : Thread nD τ).loc main_arg1))
      (m ((c.tc : Thread nD τ).loc main_arg4)) (m ((c.tc : Thread nD τ).loc main_arg2)) := rfl

/-- The reference's first result is the same times the factor of the stream. -/
theorem res0 (m : (ℓ : Loc nD τ sig) → Buf (Elt Ideal) ℓ) (c : Dev nD) :
    Value.res_out0 m c = mulf (entries 0x3FB504F3#32) (totalA (m ((c.tc : Thread nD τ).loc main_arg0))
      (m ((c.tc : Thread nD τ).loc main_arg1)) (m ((c.tc : Thread nD τ).loc main_arg4))
      (m ((c.tc : Thread nD τ).loc main_arg2))) := rfl

end Cert.LnBwdRefIdeal.Rows

end

end
-- ==== Proof.LnBwdVal.lean ====
module

public import proofs.«01_k».proof.Proof.Gen.LnBwdIdeal.Value
public import proofs.«01_k».proof.Proof.Gen.LnBwdRefIdeal.Run
public import proofs.«01_k».proof.Proof.Gen.LnBwd.Frame
public import proofs.«01_k».proof.Defs
public import Idealize.ShloMosaic.Lib.Pipeline.ValueKit
public import proofs.«01_k».proof.Proof.Pads
public import proofs.«01_k».proof.Proof.LnRow
public import proofs.«01_k».proof.Proof.LnBwdRef
import Idealize.ShloMosaic.Lib.StableHlo.RunRead

@[expose] public section

set_option maxRecDepth 16384

noncomputable section

/-! # The gradients of the layer norm of the residual sum -/

namespace Cert.LnBwdIdeal.Val

open Idealize.ShloMosaic Idealize.ShloMosaic.TcCoe Idealize.SL.Sem
open Cert.LnBwdIdeal Cert.LnBwdIdeal.Gen
open Idealize.ShloMosaic.Pipeline (Dat)

variable (m : (ℓ : Loc nD τ sig) → Buf (Elt Ideal) ℓ) (c : Dev nD)

theorem index_0 : ∀ t : Fin cfg0.N, win0_0.index t = ![7 - t.val, 0] := by decide +kernel
theorem index_1 : ∀ t : Fin cfg0.N, win0_1.index t = ![7 - t.val, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![7 - t.val, 0] := by decide +kernel
theorem index_5 : ∀ t : Fin cfg0.N, win0_5.index t = ![7 - t.val, 0] := by decide +kernel
theorem index_6 : ∀ t : Fin cfg0.N, win0_6.index t = ![7 - t.val, 0] := by decide +kernel
theorem index_7 : ∀ t : Fin cfg0.N, win0_7.index t = ![0, 0] := by decide +kernel
theorem index_8 : ∀ t : Fin cfg0.N, win0_8.index t = ![0, 0] := by decide +kernel

/-! ## What one grid point computes, for any blocks -/

section Body

variable (x r d : Vec Ideal S256x1024 .f32) (g : Vec Ideal S1x1024 .f32) (a : Fin 256) (k : Fin 1024)

/-- A row of a block. -/
def row (x : Vec Ideal S256x1024 .f32) (a : Fin 256) : Fin 1024 → EReal := fun k => x (ix2 a k)

theorem dev_apply : k0_pay8 x r (ix2 a k) = LnRow.dev (row x a) (row r a) k := by
  pointwise [k0_pay8, k0_pay5, k0_pay4]
  rfl

theorem spread_apply (j : Fin 1) : k0_pay9 x r (ix2 a j) = LnRow.spread (row x a) (row r a) := by
  pointwise [k0_pay9, k0_pay6, k0_pay5, k0_pay4]
  rfl

theorem inv_apply (j : Fin 1) : k0_pay10 x r (ix2 a j) = LnRow.inv (row x a) (row r a) := by
  pointwise [k0_pay10]
  rw [spread_apply]
  rfl

theorem slope_apply (j : Fin 1) : k0_pay11 x r (ix2 a j) = LnRow.slope (row x a) (row r a) := by
  pointwise [k0_pay11]
  rw [inv_apply, spread_apply]
  rfl

theorem twice_apply : k0_pay7 x r (ix2 a k) = LnRow.two * LnRow.dev (row x a) (row r a) k := by
  pointwise [k0_pay7, k0_pay6, k0_pay5, k0_pay4]
  rfl

theorem same_apply (i : S256x1024.Idx) : k0_pay12 d i = d i := by
  pointwise [k0_pay12]

/-- The gradient of the residual sum. -/
theorem total_apply : k0_pay15 g (k0_pay7 x r) (k0_pay8 x r) (k0_pay10 x r) (k0_pay11 x r) (k0_pay12 d) (ix2 a k)
    = LnRow.total (row x a) (row r a) (fun k => g (ix2 0 k)) (row d a) k := by
  pointwise [k0_pay15]
  simp only [Finset.univ_unique, Finset.sum_singleton, dev_apply, inv_apply, slope_apply, twice_apply, same_apply, zero_sub]
  rfl

/-- The rows' part of the gradient of the shift. -/
theorem shift_apply (j : Fin 1) : k0_pay13 d (ix2 j k) = ∑ a : Fin 256, row d a k := by
  pointwise [k0_pay13]
  rfl

/-- The rows' part of the gradient of the scale. -/
theorem scale_apply (i : S1024.Idx) :
    k0_pay14 x r d i = ∑ a : Fin 256, LnRow.norm (row x a) (row r a) (i 0) * row d a (i 0) := by
  pointwise [k0_pay14]
  refine Finset.sum_congr (M := EReal) rfl fun a _ => congrArg₂ (· * ·) (congrArg₂ (· * ·) ?_ ?_) ?_
  · exact dev_apply x r a (i 0)
  · exact inv_apply x r a _
  · exact same_apply d _

end Body

/-! ## The arrays, row by row -/

/-- A row of the stream. -/
def X (t : Fin 2048) (k : Fin 1024) : EReal := m ((c : Thread nD τ).loc main_arg0) (ix2 t k)
/-- A row of the residual. -/
def R (t : Fin 2048) (k : Fin 1024) : EReal := m ((c : Thread nD τ).loc main_arg1) (ix2 t k)
/-- A row of the cotangent. -/
def D (t : Fin 2048) (k : Fin 1024) : EReal := m ((c : Thread nD τ).loc main_arg4) (ix2 t k)
/-- The scale. -/
def G (k : Fin 1024) : EReal := m ((c : Thread nD τ).loc main_arg2) (ix2 0 k)

/-- The staged rows of the stream: the grid takes the row blocks from the last to the first. -/
theorem staged_0 (t : Fin cfg0.N) (a : Fin 256) (r : Fin 2048) (h : r.val = (7 - t.val) * 256 + a.val) :
    row (iblk m c 0 t) a = X m c r := by
  funext k
  unfold row X
  blk_ext! [iblk, V, index_0 t]
  all_goals simp_all

/-- The staged rows of the residual: the grid takes the row blocks from the last to the first. -/
theorem staged_1 (t : Fin cfg0.N) (a : Fin 256) (r : Fin 2048) (h : r.val = (7 - t.val) * 256 + a.val) :
    row (iblk m c 1 t) a = R m c r := by
  funext k
  unfold row R
  blk_ext! [iblk, V, index_1 t]
  all_goals simp_all

/-- The staged rows of the cotangent: the grid takes the row blocks from the last to the first. -/
theorem staged_4 (t : Fin cfg0.N) (a : Fin 256) (r : Fin 2048) (h : r.val = (7 - t.val) * 256 + a.val) :
    row (iblk m c 4 t) a = D m c r := by
  funext k
  unfold row D
  blk_ext! [iblk, V, index_4 t]
  all_goals simp_all

/-- The staged scale. -/
theorem staged_2 (t : Fin cfg0.N) : (fun k => iblk m c 2 t (ix2 0 k)) = G m c := by
  funext k
  unfold G
  blk_ext! [iblk, V, index_2 t]

/-- The gradient of the residual sum, entry by entry. -/
def T (i : S2048x1024.Idx) : EReal := LnRow.total (X m c (i 0)) (R m c (i 0)) (G m c) (D m c (i 0)) (i 1)

/-- The gradient of the stream. -/
def dX (i : S2048x1024.Idx) : EReal := LnRow.scale * T m c i

/-- What one grid point computes is the gradient at the rows that it reaches. -/
theorem point (t : Fin cfg0.N) (y : S256x1024.Idx) (i : S2048x1024.Idx)
    (e0 : (i 0).val = (7 - t.val) * 256 + (y 0).val) (e1 : (i 1).val = (y 1).val) :
    k0_pay15 (iblk m c 2 t) (k0_pay7 (iblk m c 0 t) (iblk m c 1 t)) (k0_pay8 (iblk m c 0 t) (iblk m c 1 t))
      (k0_pay10 (iblk m c 0 t) (iblk m c 1 t)) (k0_pay11 (iblk m c 0 t) (iblk m c 1 t)) (k0_pay12 (iblk m c 4 t)) y
      = T m c i := by
  conv_lhs => rw [← ix2_eta y]
  refine (total_apply _ _ _ _ (y 0) (y 1)).trans ?_
  rw [staged_0 m c t (y 0) (i 0) e0, staged_1 m c t (y 0) (i 0) e0, staged_4 m c t (y 0) (i 0) e0, staged_2 m c t]
  exact congrArg (LnRow.total (X m c (i 0)) (R m c (i 0)) (G m c) (D m c (i 0))) (Fin.ext e1.symm)

/-- The gradient of the stream that the call leaves. -/
theorem out5 : (dats m 0 c).arrAt 5 cfg0.N = dX m c := by
  refine (dats m 0 c).arrAt_eq_of_covers 5 _ (by decide +kernel) fun t hf y => ?_
  have e0 : ((win0_5.blk t).view.emb y 0).val = (7 - t.val) * 256 + (y 0).val := by blk_simp [index_5 t]
  have e1 : ((win0_5.blk t).view.emb y 1).val = (y 1).val := by blk_simp [index_5 t]
  show _ = dX m c ((win0_5.blk t).view.emb y)
  generalize (win0_5.blk t).view.emb y = i at e0 e1 ⊢
  blk_simp
  rw [after0_5]
  unfold dX
  by_cases h0 : t.val % 8 = 0
  · rw [outsAt0_A m c t h0]
    frame_out
    pointwise [k0_pay16]
    exact congrArg (LnRow.scale * ·) (point m c t y i e0 e1)
  · rw [outsAt0_B m c t h0]
    frame_out
    pointwise [k0_pay16]
    exact congrArg (LnRow.scale * ·) (point m c t y i e0 e1)

/-- The gradient of the residual that the call leaves. -/
theorem out6 : (dats m 0 c).arrAt 6 cfg0.N = T m c := by
  refine (dats m 0 c).arrAt_eq_of_covers 6 _ (by decide +kernel) fun t hf y => ?_
  have e0 : ((win0_6.blk t).view.emb y 0).val = (7 - t.val) * 256 + (y 0).val := by blk_simp [index_6 t]
  have e1 : ((win0_6.blk t).view.emb y 1).val = (y 1).val := by blk_simp [index_6 t]
  show _ = T m c ((win0_6.blk t).view.emb y)
  generalize (win0_6.blk t).view.emb y = i at e0 e1 ⊢
  blk_simp
  rw [after0_6]
  by_cases h0 : t.val % 8 = 0
  · rw [outsAt0_A m c t h0]
    frame_out
    exact point m c t y i e0 e1
  · rw [outsAt0_B m c t h0]
    frame_out
    exact point m c t y i e0 e1

/-! ## The gradients that are summed over the rows -/

/-- The terms of block `7 - s` of the rows. -/
def block (f : Fin 2048 → EReal) (s : ℕ) : EReal := ∑ a : Fin 256, f ⟨(7 - s) * 256 + a.val, by omega⟩

/-- Blocks of 256 terms one after another are all the terms. -/
theorem tiles (F : ℕ → EReal) : ∀ n, ∑ j ∈ Finset.range n, ∑ a : Fin 256, F (j * 256 + a.val) = ∑ k ∈ Finset.range (n * 256), F k
  | 0 => by rw [Nat.zero_mul, Finset.sum_range_zero, Finset.sum_range_zero]
  | n + 1 => by rw [Finset.sum_range_succ, tiles F n, Pads.sum_step F (n * 256) 256, Nat.succ_mul]

/-- The eight blocks, last to first, are all the rows. -/
theorem blocks (f : Fin 2048 → EReal) : ∑ s ∈ Finset.range 8, block f s = ∑ t : Fin 2048, f t := by
  obtain ⟨F, hF⟩ : ∃ F : ℕ → EReal, ∀ t : Fin 2048, F t.val = f t :=
    ⟨fun n => if h : n < 2048 then f ⟨n, h⟩ else 0, fun t => dif_pos t.isLt⟩
  have e := (Finset.sum_range_reflect (fun s => ∑ a : Fin 256, F (s * 256 + a.val)) 8).trans (tiles F 8)
  unfold block
  refine Eq.trans (Finset.sum_congr rfl fun s hs => Finset.sum_congr rfl fun a _ => ?_)
    (e.trans ((Finset.sum_range F).trans (Finset.sum_congr rfl fun t _ => hF t)))
  exact (hF ⟨(7 - s) * 256 + a.val, by omega⟩).symm

/-- A row's term of the gradient of the scale. -/
def fS (k : Fin 1024) (t : Fin 2048) : EReal := LnRow.norm (X m c t) (R m c t) k * D m c t k
/-- A row's term of the gradient of the shift. -/
def fB (k : Fin 1024) (t : Fin 2048) : EReal := D m c t k

/-- One point's part of the gradient of the shift. -/
theorem part8 (t : Fin cfg0.N) (y : S1x1024.Idx) : k0_pay13 (iblk m c 4 t) y = block (fB m c (y 1)) t.val := by
  conv_lhs => rw [← ix2_eta y]
  refine (shift_apply _ (y 1) (y 0)).trans ?_
  unfold block fB
  exact Finset.sum_congr (M := EReal) rfl fun a _ => congrFun (staged_4 m c t a _ rfl) _

/-- One point's part of the gradient of the scale. -/
theorem part7 (t : Fin cfg0.N) (i : S1024.Idx) :
    k0_pay14 (iblk m c 0 t) (iblk m c 1 t) (iblk m c 4 t) i = block (fS m c (i 0)) t.val := by
  refine (scale_apply _ _ _ i).trans ?_
  unfold block fS
  refine Finset.sum_congr (M := EReal) rfl fun a _ => ?_
  rw [staged_0 m c t a ⟨(7 - t.val) * 256 + a.val, by omega⟩ rfl, staged_1 m c t a ⟨(7 - t.val) * 256 + a.val, by omega⟩ rfl,
    ← staged_4 m c t a ⟨(7 - t.val) * 256 + a.val, by omega⟩ rfl]

/-- The two accumulators after point `s`: the blocks that have been reached. -/
theorem acc (y : S1x1024.Idx) : ∀ s, s < 8 → ∀ (t : Fin cfg0.N), t.val = s →
      (outsAt0 m c t.val t.isLt).2.2.1 y = ∑ j ∈ Finset.range (s + 1), block (fS m c (y 1)) j
      ∧ (outsAt0 m c t.val t.isLt).2.2.2 y = ∑ j ∈ Finset.range (s + 1), block (fB m c (y 1)) j
  | 0, _, t, h => by
    rw [outsAt0_A m c t (by omega)]
    frame_out
    unfold k0_pay1 k0_pay2 k0_pay3 k0_pay18
    pointwise
    rw [part7, part8, h, Finset.sum_range_one, Finset.sum_range_one]
    exact ⟨rfl, rfl⟩
  | s + 1, hs, t, h => by
    have e := acc y s (by omega) ⟨t.val - 1, by omega⟩ (by dsimp only; omega)
    rw [outsAt0_B m c t (by omega)]
    frame_out
    unfold k0_pay1 k0_pay18
    pointwise
    rw [part7, part8, Finset.sum_range_succ _ (s + 1), Finset.sum_range_succ _ (s + 1)]
    exact ⟨congrArg₂ (· + ·) e.1 (congrArg (block _) h), congrArg₂ (· + ·) e.2 (congrArg (block _) h)⟩

/-- The gradient of the scale: a sum over all rows. -/
def dG (i : S1x1024.Idx) : EReal := ∑ t : Fin 2048, fS m c (i 1) t
/-- The gradient of the shift: a sum over all rows. -/
def dB (i : S1x1024.Idx) : EReal := ∑ t : Fin 2048, fB m c (i 1) t

/-- The gradient of the scale that the call leaves. -/
theorem out7 : (dats m 0 c).arrAt 7 cfg0.N = dG m c := by
  refine (dats m 0 c).arrAt_eq_of_covers 7 _ (by decide +kernel) fun t hf y => ?_
  have h7 := (flush0_7 t).mp hf
  have ht : t.val < 8 := t.isLt
  have e1 : ((win0_7.blk t).view.emb y 1).val = (y 1).val := by blk_simp [index_7 t]
  show _ = dG m c ((win0_7.blk t).view.emb y)
  generalize (win0_7.blk t).view.emb y = i at e1 ⊢
  blk_simp
  rw [after0_7]
  refine ((acc m c y 7 (by decide) t (by omega)).1.trans (blocks _)).trans ?_
  exact congrArg (fun k => ∑ t : Fin 2048, fS m c k t) (Fin.ext e1.symm)

/-- The gradient of the shift that the call leaves. -/
theorem out8 : (dats m 0 c).arrAt 8 cfg0.N = dB m c := by
  refine (dats m 0 c).arrAt_eq_of_covers 8 _ (by decide +kernel) fun t hf y => ?_
  have h7 := (flush0_8 t).mp hf
  have ht : t.val < 8 := t.isLt
  have e1 : ((win0_8.blk t).view.emb y 1).val = (y 1).val := by blk_simp [index_8 t]
  show _ = dB m c ((win0_8.blk t).view.emb y)
  generalize (win0_8.blk t).view.emb y = i at e1 ⊢
  blk_simp
  rw [after0_8]
  refine ((acc m c y 7 (by decide) t (by omega)).2.trans (blocks _)).trans ?_
  exact congrArg (fun k => ∑ t : Fin 2048, fB m c k t) (Fin.ext e1.symm)

open Cert.LnBwdRefIdeal.Rows in
/-- The call and its reference leave the same arrays. -/
theorem algebraic : Cert.algebraic_LnBwdIdeal_LnBwdRefIdeal := fun m g m' g' _ h =>
  ⟨fun c => dX m c, fun c => T m c, fun c => dG m c, fun c => dB m c,
    (θ_run _ _ _).mono (fun r H c => ⟨(H c).1.trans (out5 m c), (H c).2.1.trans (out6 m c), (H c).2.2.1.trans (out7 m c),
      (H c).2.2.2.1.trans (out8 m c), (H c).2.2.2.2⟩) (Value.run_blocks m g),
    (θ_run _ _ _).mono (fun r H c => ⟨(H c).1.trans ((res0 m' c).trans (by
        rw [(h c).1, (h c).2.1, (h c).2.2.1, (h c).2.2.2.2]
        funext i
        exact congrArg₂ (· * ·) (entries_apply _ i) ((congrArg _ (ix2_eta i).symm).trans
          (totalA_apply _ _ _ _ (i 0) (i 1))))), (H c).2.1.trans ((res1 m' c).trans (by
        rw [(h c).1, (h c).2.1, (h c).2.2.1, (h c).2.2.2.2]
        funext i
        exact (congrArg _ (ix2_eta i).symm).trans (totalA_apply _ _ _ _ (i 0) (i 1)))), (H c).2.2.1.trans (by
        rw [(h c).1, (h c).2.1, (h c).2.2.2.2]
        funext i
        refine (colSums_apply (mulf (normA _ _) (shapeCast _ _ _)) i).trans ?_
        exact Finset.sum_congr (M := EReal) rfl fun t _ => scaleA_apply _ _ _ t (i 1)), (H c).2.2.2.1.trans (by
        rw [(h c).2.2.2.2]
        funext i
        exact colSums_apply _ i), (H c).2.2.2.2⟩)
      (Cert.LnBwdRefIdeal.Value.run m' g')⟩

theorem quiescent : Cert.quiescent_LnBwd := fun m ρ _ => Cert.LnBwd.Gen.frame m ρ

theorem quiescent_ideal : Cert.quiescent_LnBwdIdeal := fun m ρ _ => Cert.LnBwdIdeal.Gen.frame m ρ

theorem quiescent_ref : Cert.quiescent_LnBwdRefIdeal := fun m ρ _ =>
  (θ_run Cert.LnBwdRefIdeal.defs _ _).mono
    (fun r H => ⟨fun c => (H c).2.2.2.2, sem_eq_zero_of_no_sems (by decide) r.2⟩) (Cert.LnBwdRefIdeal.Value.run m ρ)

end Cert.LnBwdIdeal.Val

end

end
-- ==== Proof.ConvRow.lean ====
module

public import Idealize.ShloMosaic.Lib.Pipeline.ValueKit

@[expose] public section

noncomputable section

/-! # A causal convolution along one column

`x` is a column of 2048 positions. The kernels rotate the column, which is right from row 16 on, and compute the first
sixteen rows again with a rotation of those rows alone and a mask. -/

namespace Cert.ConvRow

open Idealize.ShloMosaic

variable (x : Fin 2048 → EReal)

/-- The column `s` positions earlier, zero before its start. -/
def tap (s : ℕ) (t : Fin 2048) : EReal := if s ≤ t.val then x ⟨t.val - s, by omega⟩ else 0

/-- The convolution of width four. -/
def conv4 (w : Fin 4 → EReal) (t : Fin 2048) : EReal :=
  tap x 3 t * w 0 + tap x 2 t * w 1 + tap x 1 t * w 2 + x t * w 3

/-- The convolution of width three. -/
def conv3 (w : Fin 3 → EReal) (t : Fin 2048) : EReal := tap x 2 t * w 0 + tap x 1 t * w 1 + x t * w 2

/-- A number times its logistic. -/
def silu (z : EReal) : EReal := z * Ideal.logistic z

/-- The whole column rotated by `s` is the column `s` positions earlier, from row 16 on. -/
theorem rotated (s : ℕ) (t : Fin 2048) (h : 16 ≤ t.val) (hs : s ≤ 16) (hp : (t.val + 2048 - s) % 2048 < 2048) :
    x ⟨(t.val + 2048 - s) % 2048, hp⟩ = tap x s t := by
  unfold tap
  rw [if_pos (by omega)]
  exact congrArg x (Fin.ext (by dsimp only; omega))

/-- The mask of the first sixteen rows: the positions from `s` on. -/
theorem mask : ∀ (s : Fin 4) (t : Fin 16),
    IntOp.cmpi .sge (BitVec.ofNat 32 t.val) (BitVec.ofNat 32 s.val) = if s.val ≤ t.val then 1#1 else 0#1 := by
  decide +kernel

/-- The first sixteen rows rotated by `s` and masked are the column `s` positions earlier. -/
theorem masked (X : Fin 16 → EReal) (hX : ∀ (r : Fin 16) (q : Fin 2048), q.val = r.val → X r = x q) (s : Fin 4)
    (t : Fin 16) (r : Fin 2048) (hr : r.val = t.val) (v : EReal) (hp : (t.val + 16 - s.val) % 16 < 16) :
    Scalar.select (IntOp.cmpi .sge (BitVec.ofNat 32 t.val) (BitVec.ofNat 32 s.val))
      (X ⟨(t.val + 16 - s.val) % 16, hp⟩ * v) (0 : EReal) = tap x s.val r * v := by
  have ht := t.isLt
  unfold tap
  rw [mask]
  by_cases h : s.val ≤ t.val
  · rw [if_pos h, if_pos (by omega)]
    refine congrArg (· * v) (hX _ _ ?_)
    dsimp only
    omega
  · rw [if_neg h, if_neg (by omega), zero_mul]
    rfl

/-- The kernels take the latest position first. -/
theorem order4 (a b c d : EReal) : d + a + b + c = a + b + c + d := by
  rw [add_assoc, add_assoc, add_comm, add_assoc a b c]

/-- The kernels take the latest position first. -/
theorem order3 (a b d : EReal) : d + a + b = a + b + d := by rw [add_assoc, add_comm]

/-- The padding is the number zero. -/
theorem zero_word : (FloatOps.sitofp FTy.f32 0#32 : Ideal .f32) = (0 : EReal) := by
  show ((((0#32 : BitVec 32).toInt : ℤ) : ℝ) : EReal) = 0
  simp

/-- Four equal terms have equal sums, with the latest position moved to the end. -/
theorem sum4 {a b c d a' b' c' d' : EReal} (hd : d = d') (ha : a = a') (hb : b = b') (hc : c = c') :
    d + a + b + c = a' + b' + c' + d' := by rw [hd, ha, hb, hc, order4]

/-- Three equal terms have equal sums, with the latest position moved to the end. -/
theorem sum3 {a b d a' b' d' : EReal} (hd : d = d') (ha : a = a') (hb : b = b') :
    d + a + b = a' + b' + d' := by rw [hd, ha, hb, order3]

/-- The padded column, read `s` positions before position `t`. -/
theorem padded (z : EReal) (hz : z = 0) (s n : ℕ) (t : Fin 2048) (hs : s ≤ 3) (hn : n + s = t.val + 3) :
    (if h : 3 ≤ n ∧ n - 3 < 2048 then x ⟨n - 3, h.2⟩ else z) = tap x s t := by
  unfold tap
  by_cases hst : s ≤ t.val
  · rw [dif_pos ⟨by omega, by omega⟩, if_pos hst]
    exact congrArg x (Fin.ext (by dsimp only; omega))
  · rw [dif_neg (by omega), if_neg hst, hz]

/-- The column padded by two, read `s` positions before position `t`. -/
theorem padded2 (z : EReal) (hz : z = 0) (s n : ℕ) (t : Fin 2048) (hn : n + s = t.val + 2) :
    (if h : 2 ≤ n ∧ n - 2 < 2048 then x ⟨n - 2, h.2⟩ else z) = tap x s t := by
  unfold tap
  by_cases hst : s ≤ t.val
  · rw [dif_pos ⟨by omega, by omega⟩, if_pos hst]
    exact congrArg x (Fin.ext (by dsimp only; omega))
  · rw [dif_neg (by omega), if_neg hst, hz]

/-- A block written whole and then at its first sixteen rows again. -/
theorem written {Val : EltTy → Type} [∀ e, Nonempty (Val e)] {e : EltTy} {n : ℕ}
    (inb : ∀ a, (![0, 0] : Fin 2 → ℕ) a + (![16, n] : Fin 2 → ℕ) a ≤ (⟨2, ![2048, n]⟩ : Shape).size a)
    (inb' : ∀ a, (![0, 0] : Fin 2 → ℕ) a + (![2048, n] : Fin 2 → ℕ) a ≤ (⟨2, ![2048, n]⟩ : Shape).size a)
    (P : (⟨2, ![16, n]⟩ : Shape).Idx → Val e) (Q : (⟨2, ![2048, n]⟩ : Shape).Idx → Val e)
    (t : Fin 2048) (k : Fin n) :
    View.canon (s := (⟨2, ![2048, n]⟩ : Shape))
        [⟨Rect.unit ![0, 0] ![16, n] inb, P⟩, ⟨Rect.unit ![0, 0] ![2048, n] inb', Q⟩] (ix2 t k)
      = if h : t.val < 16 then P (ix2 ⟨t.val, h⟩ k) else Q (ix2 t k) := by
  split
  · rename_i h
    have e : (ix2 t k : (⟨2, ![2048, n]⟩ : Shape).Idx)
        = (Rect.unit (s := (⟨2, ![2048, n]⟩ : Shape)) ![0, 0] ![16, n] inb).emb (ix2 (⟨t.val, h⟩ : Fin 16) k) := by
      funext a
      fin_cases a <;> exact Fin.ext (by simp [Rect.emb, Rect.unit, ix2])
    rw [e]
    exact View.canon_cons_emb (Rect.unit (s := (⟨2, ![2048, n]⟩ : Shape)) ![0, 0] ![16, n] inb) P _ _
  · rename_i h
    rw [View.canon_cons_of_not_mem _ _ (by
      intro hm
      obtain ⟨j, hj, e⟩ := (LoadRect.mem_set _).1 hm (0 : Fin 2)
      simp [Rect.unit, ix2] at hj e
      omega)]
    exact congrFun (View.canon_unit_zero (by funext a; fin_cases a <;> rfl) inb' Q) _

end Cert.ConvRow

end

end
-- ==== Proof.SsdConvVal.lean ====
module

public import proofs.«01_k».proof.Proof.Gen.SsdConvIdeal.Value
public import proofs.«01_k».proof.Proof.Gen.SsdConvRefIdeal.Run
public import proofs.«01_k».proof.Proof.Gen.SsdConv.Frame
public import proofs.«01_k».proof.Defs
public import Idealize.ShloMosaic.Lib.Pipeline.ValueKit
public import proofs.«01_k».proof.Proof.ConvRow
import Idealize.ShloMosaic.Lib.StableHlo.RunRead

@[expose] public section

set_option maxRecDepth 16384

noncomputable section

/-! # The convolution of the state-space branch -/

namespace Cert.SsdConvIdeal.Val

open Idealize.ShloMosaic Idealize.ShloMosaic.TcCoe Idealize.SL.Sem
open Cert.SsdConvIdeal Cert.SsdConvIdeal.Gen
open Idealize.ShloMosaic.Pipeline (Dat)

variable (m : (ℓ : Loc nD τ sig) → Buf (Elt Ideal) ℓ) (c : Dev nD)

theorem index_0 : ∀ t : Fin cfg0.N, win0_0.index t = ![0, 12 + t.val] := by decide +kernel
theorem index_1 : ∀ t : Fin cfg0.N, win0_1.index t = ![0, t.val] := by decide +kernel
theorem index_2 : ∀ t : Fin cfg0.N, win0_2.index t = ![0, t.val] := by decide +kernel
theorem index_3 : ∀ t : Fin cfg0.N, win0_3.index t = ![0, t.val] := by decide +kernel

section Body

variable (x : Vec Ideal S2048x256 .f32) (w : Vec Ideal S4x256 .f32) (b : Vec Ideal S1x256 .f32) (k : Fin 256)

/-- The rotated block, from row 16 on. -/
theorem whole_apply (t : Fin 2048) (h : 16 ≤ t.val) : k0_pay2 b x w (ix2 t k)
    = ConvRow.silu (ConvRow.conv4 (fun r => x (ix2 r k)) (fun j => w (ix2 j k)) t + b (ix2 0 k)) := by
  pointwise [k0_pay2]
  have tap := fun s hs hp => congrArg (· * w (ix2 (3 - s) k)) (ConvRow.rotated (fun r => x (ix2 r k)) s.val t h hs hp)
  exact congrArg (fun z => ConvRow.silu (z + b (ix2 0 k))) (ConvRow.sum4 rfl
    (tap 3 (by decide) _) (tap 2 (by decide) _) (tap 1 (by decide) _))

/-- The first rows. -/
theorem head_apply (t : Fin 16) (r : Fin 2048) (hr : r.val = t.val) :
    k0_pay1 b (View.ld x (Rect.unit ![0, 0] ![16, 256] inb_S2048x256_S16x256_0_0)) w
      (k0_pay3 (View.ld x (Rect.unit ![0, 0] ![16, 256] inb_S2048x256_S16x256_0_0)) w)
      (k0_pay4 (View.ld x (Rect.unit ![0, 0] ![16, 256] inb_S2048x256_S16x256_0_0)) w) (ix2 t k)
    = ConvRow.silu (ConvRow.conv4 (fun r => x (ix2 r k)) (fun j => w (ix2 j k)) r + b (ix2 0 k)) := by
  generalize hx : View.ld x (Rect.unit ![0, 0] ![16, 256] inb_S2048x256_S16x256_0_0) = X
  pointwise [k0_pay1, k0_pay3, k0_pay4]
  have hX : ∀ (r : Fin 16) (q : Fin 2048), q.val = r.val → X (ix2 r k) = x (ix2 q k) := by
    intro r q h
    subst hx
    refine congrArg x ?_
    funext a
    fin_cases a <;> exact Fin.ext (by simp [Rect.emb, Rect.unit, ix2, h])
  have tap := ConvRow.masked (fun r => x (ix2 r k)) (fun r => X (ix2 r k)) hX
  exact congrArg (fun z => ConvRow.silu (z + b (ix2 0 k))) (ConvRow.sum4 (congrArg (· * w (ix2 3 k)) (hX t r hr))
    (tap 3 t r hr _ _) (tap 2 t r hr _ _) (tap 1 t r hr _ _))

end Body

/-- The column of the projection that the convolution's column reads. -/
def col (i : S2048x1536.Idx) : Fin 9728 := ⟨3072 + (i 1).val, by have := (i 1).isLt; simp at this; omega⟩

/-- The result. -/
def Y (i : S2048x1536.Idx) : EReal :=
  ConvRow.silu (ConvRow.conv4
    (fun r => m ((c : Thread nD τ).loc main_arg0) (ix2 r (col i)))
    (fun j => m ((c : Thread nD τ).loc main_arg1) (ix2 j (i 1))) (i 0) + m ((c : Thread nD τ).loc main_arg2) (ix2 0 (i 1)))

theorem staged_0 (t : Fin cfg0.N) (k : Fin 256) (q : Fin 9728) (h : q.val = 3072 + (t.val * 256 + k.val)) (r : Fin 2048) :
    iblk m c 0 t (ix2 r k) = m ((c : Thread nD τ).loc main_arg0) (ix2 r q) := by
  blk_ext! [iblk, V, index_0 t]
  all_goals (simp_all; try omega)

theorem staged_1 (t : Fin cfg0.N) (k : Fin 256) (q : Fin 1536) (h : q.val = t.val * 256 + k.val) (r : Fin 4) :
    iblk m c 1 t (ix2 r k) = m ((c : Thread nD τ).loc main_arg1) (ix2 r q) := by
  blk_ext! [iblk, V, index_1 t]
  all_goals simp_all

theorem staged_2 (t : Fin cfg0.N) (k : Fin 256) (q : Fin 1536) (h : q.val = t.val * 256 + k.val) (r : Fin 1) :
    iblk m c 2 t (ix2 r k) = m ((c : Thread nD τ).loc main_arg2) (ix2 r q) := by
  blk_ext! [iblk, V, index_2 t]
  all_goals simp_all

/-- What the call leaves. -/
theorem out : (dats m 0 c).arrAt 3 cfg0.N = Y m c := by
  refine (dats m 0 c).arrAt_eq_of_covers 3 _ (by decide +kernel) fun t hf y => ?_
  have e0 : ((win0_3.blk t).view.emb y 0).val = (y 0).val := by blk_simp [index_3 t]
  have e1 : ((win0_3.blk t).view.emb y 1).val = t.val * 256 + (y 1).val := by blk_simp [index_3 t]
  show _ = Y m c ((win0_3.blk t).view.emb y)
  generalize (win0_3.blk t).view.emb y = i at e0 e1 ⊢
  blk_simp
  rw [after0_3]
  unfold outsAt0
  frame_out
  have key : Y m c i = ConvRow.silu (ConvRow.conv4 (fun r => iblk m c 0 t (ix2 r (y 1)))
      (fun j => iblk m c 1 t (ix2 j (y 1))) (y 0) + iblk m c 2 t (ix2 0 (y 1))) := by
    unfold Y
    simp only [staged_0 m c t (y 1) (col i) (by unfold col; dsimp only; omega),
      staged_1 m c t (y 1) (i 1) e1, staged_2 m c t (y 1) (i 1) e1]
    rw [show (i 0 : Fin 2048) = y 0 from Fin.ext e0]
  rw [key]
  conv_lhs => rw [← ix2_eta y]
  refine (ConvRow.written _ _ _ _ (y 0) (y 1)).trans ?_
  split
  · exact head_apply _ _ _ (y 1) ⟨(y 0).val, by assumption⟩ (y 0) rfl
  · exact whole_apply _ _ _ (y 1) (y 0) (by omega)

/-- The reference's result. -/
theorem ref_out (m' : (ℓ : Loc Cert.SsdConvRefIdeal.nD Cert.SsdConvRefIdeal.τ Cert.SsdConvRefIdeal.sig) → Buf (Elt Ideal) ℓ)
    (h0 : m' ((c : Thread nD τ).loc Cert.SsdConvRefIdeal.main_arg0) = m ((c : Thread nD τ).loc main_arg0))
    (h1 : m' ((c : Thread nD τ).loc Cert.SsdConvRefIdeal.main_arg1) = m ((c : Thread nD τ).loc main_arg1))
    (h2 : m' ((c : Thread nD τ).loc Cert.SsdConvRefIdeal.main_arg2) = m ((c : Thread nD τ).loc main_arg2)) :
    Cert.SsdConvRefIdeal.Value.res_main_v33 m' c = Y m c := by
  unfold Cert.SsdConvRefIdeal.Value.res_main_v33
  rw [h0, h1, h2]
  funext i
  pointwise
  have tap := fun s n hs hn => congrArg (· * m ((c : Thread nD τ).loc main_arg1) (ix2 (3 - s) (i 1)))
    (ConvRow.padded (fun r => m ((c : Thread nD τ).loc main_arg0) (ix2 r (col i))) _ ConvRow.zero_word s.val n (i 0) hs hn)
  exact congrArg (fun z => ConvRow.silu (z + m ((c : Thread nD τ).loc main_arg2) (ix2 0 (i 1))))
    (congrArg₂ (α := EReal) (· + ·) (congrArg₂ (α := EReal) (· + ·) (congrArg₂ (α := EReal) (· + ·)
      (tap 3 (i 0).val (by decide) rfl) (tap 2 (1 + (i 0).val) (by decide) (by simp; omega)))
      (tap 1 (2 + (i 0).val) (by decide) (by simp; omega))) rfl)

/-- The call and its reference leave the same array. -/
theorem algebraic : Cert.algebraic_SsdConvIdeal_SsdConvRefIdeal := fun m g m' g' _ h =>
  ⟨fun c => Y m c,
    (θ_run _ _ _).mono (fun r H c => ⟨(H c).1.trans (out m c), (H c).2⟩) (Value.run_blocks m g),
    (θ_run _ _ _).mono (fun r H c => ⟨(H c).1.trans (ref_out m c m' (h c).1 (h c).2.1 (h c).2.2), (H c).2⟩)
      (Cert.SsdConvRefIdeal.Value.run m' g')⟩

theorem quiescent : Cert.quiescent_SsdConv := fun m ρ _ => Cert.SsdConv.Gen.frame m ρ

theorem quiescent_ideal : Cert.quiescent_SsdConvIdeal := fun m ρ _ => Cert.SsdConvIdeal.Gen.frame m ρ

theorem quiescent_ref : Cert.quiescent_SsdConvRefIdeal := fun m ρ _ =>
  (θ_run Cert.SsdConvRefIdeal.defs _ _).mono
    (fun r H => ⟨fun c => (H c).2, sem_eq_zero_of_no_sems (by decide) r.2⟩) (Cert.SsdConvRefIdeal.Value.run m ρ)

end Cert.SsdConvIdeal.Val

end

end
-- ==== Proof.GdnConvVal.lean ====
module

public import proofs.«01_k».proof.Proof.Gen.GdnConvIdeal.Value
public import proofs.«01_k».proof.Proof.Gen.GdnConvRefIdeal.Run
public import proofs.«01_k».proof.Proof.Gen.GdnConv.Frame
public import proofs.«01_k».proof.Defs
public import Idealize.ShloMosaic.Lib.Pipeline.ValueKit
public import proofs.«01_k».proof.Proof.ConvRow
import Idealize.ShloMosaic.Lib.StableHlo.RunRead

@[expose] public section

set_option maxRecDepth 16384

noncomputable section

/-! # The convolution of the delta-rule branch -/

namespace Cert.GdnConvIdeal.Val

open Idealize.ShloMosaic Idealize.ShloMosaic.TcCoe Idealize.SL.Sem
open Cert.GdnConvIdeal Cert.GdnConvIdeal.Gen
open Idealize.ShloMosaic.Pipeline (Dat)

variable (m : (ℓ : Loc nD τ sig) → Buf (Elt Ideal) ℓ) (c : Dev nD)

theorem index_0 : ∀ t : Fin cfg0.N, win0_0.index t = ![0, 18 + t.val] := by decide +kernel
theorem index_1 : ∀ t : Fin cfg0.N, win0_1.index t = ![0, t.val] := by decide +kernel
theorem index_2 : ∀ t : Fin cfg0.N, win0_2.index t = ![0, t.val] := by decide +kernel

section Body

variable (x : Vec Ideal S2048x256 .f32) (w : Vec Ideal S4x256 .f32) (k : Fin 256)

/-- The rotated block, from row 16 on. -/
theorem whole_apply (t : Fin 2048) (h : 16 ≤ t.val) : k0_pay2 x w (ix2 t k)
    = ConvRow.silu (ConvRow.conv4 (fun r => x (ix2 r k)) (fun j => w (ix2 j k)) t) := by
  pointwise [k0_pay2]
  have tap := fun s hs hp => congrArg (· * w (ix2 (3 - s) k)) (ConvRow.rotated (fun r => x (ix2 r k)) s.val t h hs hp)
  exact congrArg (fun z => ConvRow.silu (z)) (ConvRow.sum4 rfl
    (tap 3 (by decide) _) (tap 2 (by decide) _) (tap 1 (by decide) _))

/-- The first rows. -/
theorem head_apply (t : Fin 16) (r : Fin 2048) (hr : r.val = t.val) :
    k0_pay1 (View.ld x (Rect.unit ![0, 0] ![16, 256] inb_S2048x256_S16x256_0_0)) w
      (k0_pay3 (View.ld x (Rect.unit ![0, 0] ![16, 256] inb_S2048x256_S16x256_0_0)) w)
      k0_pay4 (ix2 t k)
    = ConvRow.silu (ConvRow.conv4 (fun r => x (ix2 r k)) (fun j => w (ix2 j k)) r) := by
  generalize hx : View.ld x (Rect.unit ![0, 0] ![16, 256] inb_S2048x256_S16x256_0_0) = X
  pointwise [k0_pay1, k0_pay3, k0_pay4]
  have hX : ∀ (r : Fin 16) (q : Fin 2048), q.val = r.val → X (ix2 r k) = x (ix2 q k) := by
    intro r q h
    subst hx
    refine congrArg x ?_
    funext a
    fin_cases a <;> exact Fin.ext (by simp [Rect.emb, Rect.unit, ix2, h])
  have tap := ConvRow.masked (fun r => x (ix2 r k)) (fun r => X (ix2 r k)) hX
  exact congrArg (fun z => ConvRow.silu (z)) (ConvRow.sum4 (congrArg (· * w (ix2 3 k)) (hX t r hr))
    (tap 3 t r hr _ _) (tap 2 t r hr _ _) (tap 1 t r hr _ _))

end Body

/-- The column of the projection that the convolution's column reads. -/
def col (i : S2048x1536.Idx) : Fin 9728 := ⟨4608 + (i 1).val, by have := (i 1).isLt; simp at this; omega⟩

/-- The result. -/
def Y (i : S2048x1536.Idx) : EReal :=
  ConvRow.silu (ConvRow.conv4
    (fun r => m ((c : Thread nD τ).loc main_arg0) (ix2 r (col i)))
    (fun j => m ((c : Thread nD τ).loc main_arg1) (ix2 j (i 1))) (i 0))

theorem staged_0 (t : Fin cfg0.N) (k : Fin 256) (q : Fin 9728) (h : q.val = 4608 + (t.val * 256 + k.val)) (r : Fin 2048) :
    iblk m c 0 t (ix2 r k) = m ((c : Thread nD τ).loc main_arg0) (ix2 r q) := by
  blk_ext! [iblk, V, index_0 t]
  all_goals (simp_all; try omega)

theorem staged_1 (t : Fin cfg0.N) (k : Fin 256) (q : Fin 1536) (h : q.val = t.val * 256 + k.val) (r : Fin 4) :
    iblk m c 1 t (ix2 r k) = m ((c : Thread nD τ).loc main_arg1) (ix2 r q) := by
  blk_ext! [iblk, V, index_1 t]
  all_goals simp_all

/-- What the call leaves. -/
theorem out : (dats m 0 c).arrAt 2 cfg0.N = Y m c := by
  refine (dats m 0 c).arrAt_eq_of_covers 2 _ (by decide +kernel) fun t hf y => ?_
  have e0 : ((win0_2.blk t).view.emb y 0).val = (y 0).val := by blk_simp [index_2 t]
  have e1 : ((win0_2.blk t).view.emb y 1).val = t.val * 256 + (y 1).val := by blk_simp [index_2 t]
  show _ = Y m c ((win0_2.blk t).view.emb y)
  generalize (win0_2.blk t).view.emb y = i at e0 e1 ⊢
  blk_simp
  rw [after0_2]
  unfold outsAt0
  frame_out
  have key : Y m c i = ConvRow.silu (ConvRow.conv4 (fun r => iblk m c 0 t (ix2 r (y 1)))
      (fun j => iblk m c 1 t (ix2 j (y 1))) (y 0)) := by
    unfold Y
    simp only [staged_0 m c t (y 1) (col i) (by unfold col; dsimp only; omega),
      staged_1 m c t (y 1) (i 1) e1]
    rw [show (i 0 : Fin 2048) = y 0 from Fin.ext e0]
  rw [key]
  conv_lhs => rw [← ix2_eta y]
  refine (ConvRow.written _ _ _ _ (y 0) (y 1)).trans ?_
  split
  · exact head_apply _ _ (y 1) ⟨(y 0).val, by assumption⟩ (y 0) rfl
  · exact whole_apply _ _ (y 1) (y 0) (by omega)

/-- The reference's result. -/
theorem ref_out (m' : (ℓ : Loc Cert.GdnConvRefIdeal.nD Cert.GdnConvRefIdeal.τ Cert.GdnConvRefIdeal.sig) → Buf (Elt Ideal) ℓ)
    (h0 : m' ((c : Thread nD τ).loc Cert.GdnConvRefIdeal.main_arg0) = m ((c : Thread nD τ).loc main_arg0))
    (h1 : m' ((c : Thread nD τ).loc Cert.GdnConvRefIdeal.main_arg1) = m ((c : Thread nD τ).loc main_arg1)) :
    Cert.GdnConvRefIdeal.Value.res_main_v29 m' c = Y m c := by
  unfold Cert.GdnConvRefIdeal.Value.res_main_v29
  rw [h0, h1]
  funext i
  pointwise
  have tap := fun s n hs hn => congrArg (· * m ((c : Thread nD τ).loc main_arg1) (ix2 (3 - s) (i 1)))
    (ConvRow.padded (fun r => m ((c : Thread nD τ).loc main_arg0) (ix2 r (col i))) _ ConvRow.zero_word s.val n (i 0) hs hn)
  exact congrArg (fun z => ConvRow.silu (z))
    (congrArg₂ (α := EReal) (· + ·) (congrArg₂ (α := EReal) (· + ·) (congrArg₂ (α := EReal) (· + ·)
      (tap 3 (i 0).val (by decide) rfl) (tap 2 (1 + (i 0).val) (by decide) (by simp; omega)))
      (tap 1 (2 + (i 0).val) (by decide) (by simp; omega))) rfl)

/-- The call and its reference leave the same array. -/
theorem algebraic : Cert.algebraic_GdnConvIdeal_GdnConvRefIdeal := fun m g m' g' _ h =>
  ⟨fun c => Y m c,
    (θ_run _ _ _).mono (fun r H c => ⟨(H c).1.trans (out m c), (H c).2⟩) (Value.run_blocks m g),
    (θ_run _ _ _).mono (fun r H c => ⟨(H c).1.trans (ref_out m c m' (h c).1 (h c).2), (H c).2⟩)
      (Cert.GdnConvRefIdeal.Value.run m' g')⟩

theorem quiescent : Cert.quiescent_GdnConv := fun m ρ _ => Cert.GdnConv.Gen.frame m ρ

theorem quiescent_ideal : Cert.quiescent_GdnConvIdeal := fun m ρ _ => Cert.GdnConvIdeal.Gen.frame m ρ

theorem quiescent_ref : Cert.quiescent_GdnConvRefIdeal := fun m ρ _ =>
  (θ_run Cert.GdnConvRefIdeal.defs _ _).mono
    (fun r H => ⟨fun c => (H c).2, sem_eq_zero_of_no_sems (by decide) r.2⟩) (Cert.GdnConvRefIdeal.Value.run m ρ)

end Cert.GdnConvIdeal.Val

end

end
-- ==== Proof.GluRef.lean ====
module

public import proofs.«01_k».proof.Proof.Gen.GluRefIdeal.Run
public import Idealize.ShloMosaic.Lib.Pipeline.ValueKit
public import proofs.«01_k».proof.Proof.ConvRow
import Idealize.ShloMosaic.Lib.StableHlo.RunRead

@[expose] public section

set_option maxRecDepth 16384

noncomputable section

/-! # The reference of the feed-forward gate, read entry by entry

The reference convolves the whole projection and uses its left half twice and its right half once. -/

namespace Cert.GluRefIdeal.Cols

open Idealize.ShloMosaic Idealize.ShloMosaic.TcCoe
open Cert.GluRefIdeal Cert.GluRefIdeal.Gen

variable (x : FVec Ideal S2048x5632 .f32) (w : FVec Ideal S3x5632 .f32) (b : FVec Ideal S1x5632 .f32)

/-- The projection below two rows of zeros. -/
def padded : FVec Ideal S2050x5632 .f32 :=
  pad S2050x5632 ![2, 0] ![0, 0] ![0, 0] x (sitofp .f32 (constantI S_ 32 0#32)) pads_S2048x5632_S2050x5632_200_000 h_S_

/-- One row of taps or bias, written to every row. -/
def spread (v : FVec Ideal S5632 .f32) : FVec Ideal S2048x5632 .f32 :=
  broadcastInDim S2048x5632 ![0, 1] bcast_S1x5632_S2048x5632_0_1 (broadcastInDim S1x5632 ![1] bcast_S5632_S1x5632_1 v)

/-- The convolution of the projection and its bias. -/
def preA : FVec Ideal S2048x5632 .f32 :=
  addf (addf (addf
    (mulf (extractStridedSlice S2048x5632 ![0, 0] (padded x) slices_S2050x5632_S2048x5632_0_0)
      (spread (shapeCast _ (extractStridedSlice S1x5632 ![0, 0] w slices_S3x5632_S1x5632_0_0) shapeCasts_S1x5632_S5632)))
    (mulf (extractStridedSlice S2048x5632 ![1, 0] (padded x) slices_S2050x5632_S2048x5632_1_0)
      (spread (shapeCast _ (extractStridedSlice S1x5632 ![1, 0] w slices_S3x5632_S1x5632_1_0) shapeCasts_S1x5632_S5632))))
    (mulf (extractStridedSlice S2048x5632 ![2, 0] (padded x) slices_S2050x5632_S2048x5632_2_0)
      (spread (shapeCast _ (extractStridedSlice S1x5632 ![2, 0] w slices_S3x5632_S1x5632_2_0) shapeCasts_S1x5632_S5632))))
    (spread (shapeCast _ b shapeCasts_S1x5632_S5632))

theorem preA_apply (t : Fin 2048) (n : Fin 5632) :
    preA x w b (ix2 t n) = ConvRow.conv3 (fun r => x (ix2 r n)) (fun j => w (ix2 j n)) t + b (ix2 0 n) := by
  unfold preA spread padded
  pointwise
  have tap := fun s q hn => congrArg (· * w (ix2 (2 - s) n))
    (ConvRow.padded2 (fun r => x (ix2 r n)) _ ConvRow.zero_word s.val q t hn)
  exact congrArg (fun z : EReal => z + b (ix2 0 n)) (congrArg₂ (α := EReal) (· + ·) (congrArg₂ (α := EReal) (· + ·)
    (tap 2 t.val rfl) (tap 1 (1 + t.val) (by simp; omega))) rfl)

/-- The gate: the left half times its logistic, times the right half. -/
def gateA (p : FVec Ideal S2048x5632 .f32) : FVec Ideal S2048x2816 .bf16 :=
  truncf .bf16 (mulf (mulf (extractStridedSlice S2048x2816 ![0, 0] p slices_S2048x5632_S2048x2816_0_0)
    (Host.divf (broadcastInDim S2048x2816 ![] bcast_S_S2048x2816 (constant S_ .f32 0x3F800000#32))
      (addf (broadcastInDim S2048x2816 ![] bcast_S_S2048x2816 (constant S_ .f32 0x3F800000#32))
        (Host.exp (Host.negf (extractStridedSlice S2048x2816 ![0, 0] p slices_S2048x5632_S2048x2816_0_0))))))
    (extractStridedSlice S2048x2816 ![0, 2816] p slices_S2048x5632_S2048x2816_0_2816)) bitsLt_bf16_f32

theorem gateA_apply (p : FVec Ideal S2048x5632 .f32) (t : Fin 2048) (k : Fin 2816) :
    gateA p (ix2 t k) = ConvRow.silu (p (ix2 t ⟨k.val, by omega⟩)) * p (ix2 t ⟨2816 + k.val, by omega⟩) := by
  unfold gateA
  pointwise
  rfl

/-- The reference's result. -/
theorem res (m : (ℓ : Loc nD τ sig) → Buf (Elt Ideal) ℓ) (c : Dev nD) :
    Value.res_out0 m c = gateA (preA (m ((c.tc : Thread nD τ).loc main_arg0)) (m ((c.tc : Thread nD τ).loc main_arg1))
      (m ((c.tc : Thread nD τ).loc main_arg2))) := rfl

end Cert.GluRefIdeal.Cols

end

end
-- ==== Proof.GluVal.lean ====
module

public import proofs.«01_k».proof.Proof.Gen.GluIdeal.Frame
public import proofs.«01_k».proof.Proof.Gen.GluRefIdeal.Run
public import proofs.«01_k».proof.Proof.Gen.Glu.Frame
public import proofs.«01_k».proof.Defs
public import Idealize.ShloMosaic.Lib.Pipeline.ValueKit
public import proofs.«01_k».proof.Proof.Pads
public import proofs.«01_k».proof.Proof.ConvRow
public import proofs.«01_k».proof.Proof.GluRef
import Idealize.ShloMosaic.Lib.StableHlo.RunRead

@[expose] public section

set_option maxRecDepth 16384

noncomputable section

/-! # The gate of the feed-forward network -/

namespace Cert.GluIdeal.Val

open Idealize.ShloMosaic Idealize.ShloMosaic.TcCoe Idealize.SL.Sem
open Cert.GluIdeal Cert.GluIdeal.Gen
open Idealize.ShloMosaic.Pipeline (Dat)

variable (m : (ℓ : Loc nD τ sig) → Buf (Elt Ideal) ℓ) (c : Dev nD)

theorem index_0 : ∀ t : Fin cfg0.N, win0_0.index t = ![0, t.val] := by decide +kernel
theorem index_1 : ∀ t : Fin cfg0.N, win0_1.index t = ![0, 12 + t.val] := by decide +kernel
theorem index_2 : ∀ t : Fin cfg0.N, win0_2.index t = ![0, t.val] := by decide +kernel
theorem index_3 : ∀ t : Fin cfg0.N, win0_3.index t = ![0, 12 + t.val] := by decide +kernel
theorem index_4 : ∀ t : Fin cfg0.N, win0_4.index t = ![0, t.val] := by decide +kernel
theorem index_5 : ∀ t : Fin cfg0.N, win0_5.index t = ![0, 12 + t.val] := by decide +kernel
theorem index_6 : ∀ t : Fin cfg0.N, win0_6.index t = ![0, t.val] := by decide +kernel

section Body

variable (x : Vec Ideal S2048x256 .f32) (w : Vec Ideal S3x256 .f32) (b : Vec Ideal S1x256 .f32) (k : Fin 256)

/-- The convolution of a block's column and its bias. -/
def pre (t : Fin 2048) : EReal := ConvRow.conv3 (fun r => x (ix2 r k)) (fun j => w (ix2 j k)) t + b (ix2 0 k)

/-- The rotated gate half. -/
theorem gate_apply (t : Fin 2048) (h : 16 ≤ t.val) : k0_pay2 x w b (ix2 t k) = pre x w b k t := by
  pointwise [k0_pay2]
  have tap := fun s hs hp => congrArg (· * w (ix2 (2 - s) k)) (ConvRow.rotated (fun r => x (ix2 r k)) s.val t h hs hp)
  exact congrArg (fun z : EReal => z + b (ix2 0 k)) (ConvRow.sum3 rfl (tap 2 (by decide) _) (tap 1 (by decide) _))

/-- The rotated up half. -/
theorem up_apply (t : Fin 2048) (h : 16 ≤ t.val) : k0_pay3 x w b (ix2 t k) = pre x w b k t := by
  pointwise [k0_pay3]
  have tap := fun s hs hp => congrArg (· * w (ix2 (2 - s) k)) (ConvRow.rotated (fun r => x (ix2 r k)) s.val t h hs hp)
  exact congrArg (fun z : EReal => z + b (ix2 0 k)) (ConvRow.sum3 rfl (tap 2 (by decide) _) (tap 1 (by decide) _))

variable (X : Vec Ideal S16x256 .f32) (hX : ∀ (r : Fin 16) (q : Fin 2048), q.val = r.val → X (ix2 r k) = x (ix2 q k))
include hX

/-- The first rows of the gate half. -/
theorem gate_head (t : Fin 16) (r : Fin 2048) (hr : r.val = t.val) : k0_pay6 X w b (ix2 t k) = pre x w b k r := by
  pointwise [k0_pay6]
  have tap := ConvRow.masked (fun r => x (ix2 r k)) (fun r => X (ix2 r k)) hX
  exact congrArg (fun z : EReal => z + b (ix2 0 k)) (ConvRow.sum3 (congrArg (· * w (ix2 2 k)) (hX t r hr))
    (tap 2 t r hr _ _) (tap 1 t r hr _ _))

/-- The first rows of the result. -/
theorem up_head (G : Vec Ideal S16x256 .f32) (t : Fin 16) (r : Fin 2048) (hr : r.val = t.val) :
    k0_pay1 G (k0_pay7 X) (k0_pay8 w) b (ix2 t k) = ConvRow.silu (G (ix2 t k)) * pre x w b k r := by
  pointwise [k0_pay1, k0_pay7, k0_pay8]
  have tap := ConvRow.masked (fun r => x (ix2 r k)) (fun r => X (ix2 r k)) hX
  exact congrArg (fun z : EReal => ConvRow.silu (G (ix2 t k)) * (z + b (ix2 0 k)))
    (ConvRow.sum3 (congrArg (· * w (ix2 2 k)) (hX t r hr)) (tap 2 t r hr _ _) (tap 1 t r hr _ _))

end Body

/-- The first rows of a block. -/
theorem ld_head (x : Vec Ideal S2048x256 .f32) (k : Fin 256) (r : Fin 16) (q : Fin 2048) (h : q.val = r.val) :
    View.ld x (Rect.unit ![0, 0] ![16, 256] inb_S2048x256_S16x256_0_0) (ix2 r k) = x (ix2 q k) := by
  refine congrArg x ?_
  funext a
  fin_cases a <;> exact Fin.ext (by simp [Rect.emb, Rect.unit, ix2, h])

/-! ## The arrays -/

/-- An entry of the padded projection. -/
def P0 (r : Fin 2048) (n : Fin 6144) : EReal := V m c main_v2 (ix2 r n)
/-- An entry of the padded taps. -/
def P1 (r : Fin 3) (n : Fin 6144) : EReal := V m c main_v5 (ix2 r n)
/-- An entry of the padded bias. -/
def P2 (n : Fin 6144) : EReal := V m c main_v8 (ix2 0 n)

/-- The convolution of the padded projection's column. -/
def padPre (n : Fin 6144) (t : Fin 2048) : EReal := ConvRow.conv3 (fun r => P0 m c r n) (fun j => P1 m c j n) t + P2 m c n

/-- The convolution of the projection's column. -/
def colPre (n : Fin 5632) (t : Fin 2048) : EReal :=
  ConvRow.conv3 (fun r => m ((c : Thread nD τ).loc main_arg0) (ix2 r n)) (fun j => m ((c : Thread nD τ).loc main_arg1) (ix2 j n)) t
    + m ((c : Thread nD τ).loc main_arg2) (ix2 0 n)

/-- Padding moves a column and keeps it. -/
theorem P0_in (r : Fin 2048) (n : Fin 5632) (N : Fin 6144) (h : N.val = Pads.at384 n.val) :
    P0 m c r N = m ((c : Thread nD τ).loc main_arg0) (ix2 r n) := by
  unfold P0 V V0
  unfold Pads.at384 at h
  after_reads_simp
  pointwise
  refine (Pads.cols_in _ _ pads_S2048x16x352_S2048x16x384_000_000_0320 h_S_ r _ _ (⟨n.val % 352, by omega⟩ : Fin 352)
    (by dsimp only; omega)).trans ?_
  exact congrArg (fun a => m ((c : Thread nD τ).loc main_arg0) (ix2 r a)) (Fin.ext (by dsimp only [ix3]; omega))

theorem P1_in (r : Fin 3) (n : Fin 5632) (N : Fin 6144) (h : N.val = Pads.at384 n.val) :
    P1 m c r N = m ((c : Thread nD τ).loc main_arg1) (ix2 r n) := by
  unfold P1 V V0
  unfold Pads.at384 at h
  after_reads_simp
  pointwise
  refine (Pads.cols_in _ _ pads_S3x16x352_S3x16x384_000_000_0320 h_S_ r _ _ (⟨n.val % 352, by omega⟩ : Fin 352)
    (by dsimp only; omega)).trans ?_
  exact congrArg (fun a => m ((c : Thread nD τ).loc main_arg1) (ix2 r a)) (Fin.ext (by dsimp only [ix3]; omega))

theorem P2_in (n : Fin 5632) (N : Fin 6144) (h : N.val = Pads.at384 n.val) :
    P2 m c N = m ((c : Thread nD τ).loc main_arg2) (ix2 0 n) := by
  unfold P2 V V0
  unfold Pads.at384 at h
  after_reads_simp
  pointwise
  refine (Pads.cols_in _ _ pads_S1x16x352_S1x16x384_000_000_0320 h_S_ 0 _ _ (⟨n.val % 352, by omega⟩ : Fin 352)
    (by dsimp only; omega)).trans ?_
  exact congrArg (fun a => m ((c : Thread nD τ).loc main_arg2) (ix2 0 a)) (Fin.ext (by dsimp only [ix3]; omega))

/-- So does the convolution. -/
theorem padPre_in (n : Fin 5632) (N : Fin 6144) (h : N.val = Pads.at384 n.val) (t : Fin 2048) :
    padPre m c N t = colPre m c n t := by
  unfold padPre colPre
  simp only [P0_in m c _ n N h, P1_in m c _ n N h, P2_in m c n N h]

/-- The staged gate half. -/
theorem staged_gate (t : Fin cfg0.N) (k : Fin 256) (n : Fin 6144) (h : n.val = t.val * 256 + k.val) (r : Fin 2048) :
    pre (iblk m c 0 t) (iblk m c 2 t) (iblk m c 4 t) k r = padPre m c n r := by
  have e0 : ∀ r, iblk m c 0 t (ix2 r k) = P0 m c r n := fun r => by
    unfold P0
    blk_ext! [iblk, V, index_0 t]
    all_goals simp_all
  have e1 : ∀ r, iblk m c 2 t (ix2 r k) = P1 m c r n := fun r => by
    unfold P1
    blk_ext! [iblk, V, index_2 t]
    all_goals simp_all
  have e2 : iblk m c 4 t (ix2 0 k) = P2 m c n := by
    unfold P2
    blk_ext! [iblk, V, index_4 t]
    all_goals simp_all
  unfold pre padPre
  simp only [e0, e1, e2]

/-- The staged up half. -/
theorem staged_up (t : Fin cfg0.N) (k : Fin 256) (n : Fin 6144) (h : n.val = 3072 + (t.val * 256 + k.val)) (r : Fin 2048) :
    pre (iblk m c 1 t) (iblk m c 3 t) (iblk m c 5 t) k r = padPre m c n r := by
  have e0 : ∀ r, iblk m c 1 t (ix2 r k) = P0 m c r n := fun r => by
    unfold P0
    blk_ext! [iblk, V, index_1 t]
    all_goals (simp_all; try omega)
  have e1 : ∀ r, iblk m c 3 t (ix2 r k) = P1 m c r n := fun r => by
    unfold P1
    blk_ext! [iblk, V, index_3 t]
    all_goals (simp_all; try omega)
  have e2 : iblk m c 5 t (ix2 0 k) = P2 m c n := by
    unfold P2
    blk_ext! [iblk, V, index_5 t]
    all_goals (simp_all; try omega)
  unfold pre padPre
  simp only [e0, e1, e2]

/-- The gate column of a column of the result. -/
def lo (n : Fin 3072) : Fin 6144 := ⟨n.val, by omega⟩
/-- The up column of a column of the result. -/
def hi (n : Fin 3072) : Fin 6144 := ⟨3072 + n.val, by omega⟩

/-- What the call leaves, over the padded width. -/
def Y (i : S2048x3072.Idx) : EReal := ConvRow.silu (padPre m c (lo (i 1)) (i 0)) * padPre m c (hi (i 1)) (i 0)

/-- What the call leaves. -/
theorem out : (dats m 0 c).arrAt 6 cfg0.N = Y m c := by
  refine (dats m 0 c).arrAt_eq_of_covers 6 _ (by decide +kernel) fun t hf y => ?_
  have e0 : ((win0_6.blk t).view.emb y 0).val = (y 0).val := by blk_simp [index_6 t]
  have e1 : ((win0_6.blk t).view.emb y 1).val = t.val * 256 + (y 1).val := by blk_simp [index_6 t]
  show _ = Y m c ((win0_6.blk t).view.emb y)
  generalize (win0_6.blk t).view.emb y = i at e0 e1 ⊢
  blk_simp
  rw [after0_6]
  unfold outsAt0
  frame_out
  have key : Y m c i = ConvRow.silu (pre (iblk m c 0 t) (iblk m c 2 t) (iblk m c 4 t) (y 1) (y 0))
      * pre (iblk m c 1 t) (iblk m c 3 t) (iblk m c 5 t) (y 1) (y 0) := by
    unfold Y
    have r0 : (i 0 : Fin 2048) = y 0 := Fin.ext e0
    exact congrArg₂ (fun a b : EReal => ConvRow.silu a * b)
      ((congrArg (padPre m c (lo (i 1))) r0).trans (staged_gate m c t (y 1) (lo (i 1)) e1 (y 0)).symm)
      ((congrArg (padPre m c (hi (i 1))) r0).trans (staged_up m c t (y 1) (hi (i 1)) (congrArg (3072 + ·) e1) (y 0)).symm)
  rw [key]
  conv_lhs => rw [← ix2_eta y]
  refine (ConvRow.written _ _ _ _ (y 0) (y 1)).trans ?_
  split
  · rename_i h
    refine (up_head _ _ _ (y 1) _ (ld_head _ (y 1)) _ ⟨(y 0).val, h⟩ (y 0) rfl).trans ?_
    rw [gate_head _ _ _ (y 1) _ (ld_head _ (y 1)) ⟨(y 0).val, h⟩ (y 0) rfl]
  · rename_i h
    have h : 16 ≤ (y 0).val := by omega
    pointwise [k0_pay5, k0_pay4]
    exact congrArg₂ (fun a b : EReal => ConvRow.silu a * b) (gate_apply _ _ _ (y 1) (y 0) h) (up_apply _ _ _ (y 1) (y 0) h)

/-- The host lines after the call drop the padding columns. -/
theorem unpad (i : S2048x2816.Idx) (W : Valuation τ sig (Elt Ideal)) :
    StableHlo.after (List.flatten [hostOps1]) W (Proc.devRef .tc main_v12) i =
      W (Proc.devRef .tc main_v9) (ix2 (i 0) ⟨(i 1).val / 352 * 384 + (i 1).val % 352, by
        have := (i 1).isLt; change (i 1).val < 2816 at this; omega⟩) := by
  after_reads_simp
  pointwise

/-- The gate column of the projection. -/
def gcol (n : Fin 2816) : Fin 5632 := ⟨n.val, by omega⟩
/-- The up column of the projection. -/
def ucol (n : Fin 2816) : Fin 5632 := ⟨2816 + n.val, by omega⟩

/-- The result, entry by entry. -/
def G (i : S2048x2816.Idx) : EReal := ConvRow.silu (colPre m c (gcol (i 1)) (i 0)) * colPre m c (ucol (i 1)) (i 0)

/-- The result after the host lines. -/
theorem result : Pipeline.afterTail₀ cfgs (dats m) 0 (V0 m) [hostOps1] c main_v12 = G m c := by
  unfold Pipeline.afterTail₀
  funext i
  have hi1 : (i 1).val < 2816 := (i 1).isLt
  refine (unpad i _).trans ?_
  refine (congrFun ((Pipeline.Dat.withArrays_arrAt (dats m 0 c) sharedIn0 (V0 m c) (A_eq m c) 6).trans (out m c)) _).trans ?_
  unfold Y G
  exact congrArg₂ (fun a b : EReal => ConvRow.silu a * b)
    (padPre_in m c (gcol (i 1)) (lo ⟨(i 1).val / 352 * 384 + (i 1).val % 352, by omega⟩) rfl (i 0))
    (padPre_in m c (ucol (i 1)) (hi ⟨(i 1).val / 352 * 384 + (i 1).val % 352, by omega⟩)
      (by unfold hi ucol Pads.at384; dsimp only; omega) (i 0))

/-- The reference's result. -/
theorem ref_out (m' : (ℓ : Loc Cert.GluRefIdeal.nD Cert.GluRefIdeal.τ Cert.GluRefIdeal.sig) → Buf (Elt Ideal) ℓ)
    (h0 : m' ((c : Thread nD τ).loc Cert.GluRefIdeal.main_arg0) = m ((c : Thread nD τ).loc main_arg0))
    (h1 : m' ((c : Thread nD τ).loc Cert.GluRefIdeal.main_arg1) = m ((c : Thread nD τ).loc main_arg1))
    (h2 : m' ((c : Thread nD τ).loc Cert.GluRefIdeal.main_arg2) = m ((c : Thread nD τ).loc main_arg2)) :
    Cert.GluRefIdeal.Value.res_main_v29 m' c = G m c := by
  refine (Cert.GluRefIdeal.Cols.res m' c).trans ?_
  rw [h0, h1, h2]
  funext i
  rw [← ix2_eta i]
  refine (Cert.GluRefIdeal.Cols.gateA_apply _ (i 0) (i 1)).trans ?_
  exact congrArg₂ (fun a b : EReal => ConvRow.silu a * b) (Cert.GluRefIdeal.Cols.preA_apply _ _ _ (i 0) (gcol (i 1)))
    (Cert.GluRefIdeal.Cols.preA_apply _ _ _ (i 0) (ucol (i 1)))

/-- The call and its reference leave the same array. -/
theorem algebraic : Cert.algebraic_GluIdeal_GluRefIdeal := fun m g m' g' _ h =>
  ⟨fun c => G m c,
    (θ_run _ _ _).mono (fun r H c => ⟨((H.1 c).2 main_v12 (Pipeline.mem_restRefs_of main_v12 (by decide) (by decide))).trans (result m c), H.2 c⟩)
      (θ_run_and (run_main m g) (unchanged m g)),
    (θ_run _ _ _).mono (fun r H c => ⟨(H c).1.trans (ref_out m c m' (h c).1 (h c).2.1 (h c).2.2), (H c).2⟩)
      (Cert.GluRefIdeal.Value.run m' g')⟩

theorem quiescent : Cert.quiescent_Glu := fun m ρ _ => Cert.Glu.Gen.frame m ρ

theorem quiescent_ideal : Cert.quiescent_GluIdeal := fun m ρ _ => Cert.GluIdeal.Gen.frame m ρ

theorem quiescent_ref : Cert.quiescent_GluRefIdeal := fun m ρ _ =>
  (θ_run Cert.GluRefIdeal.defs _ _).mono
    (fun r H => ⟨fun c => (H c).2, sem_eq_zero_of_no_sems (by decide) r.2⟩) (Cert.GluRefIdeal.Value.run m ρ)

end Cert.GluIdeal.Val

end

end
-- ==== Proof.lean ====
/- The claims about the recurrence's two calls, the dense products, the merge, the layer norm, the forward convolutions and
the feed-forward gate, each proved in its
own module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.OutProjDw
public import proofs.«01_k».proof.Proof.Gen.OutProjDw.Frame
public import proofs.«01_k».proof.Proof.Gen.OutProjDwIdeal
public import proofs.«01_k».proof.Proof.Gen.OutProjDwIdeal.Value
public import proofs.«01_k».proof.Proof.Gen.OutProjDwRefIdeal
public import proofs.«01_k».proof.Proof.Gen.OutProjDwRefIdeal.Run
public import proofs.«01_k».proof.Proof.Gen.OutProjDx
public import proofs.«01_k».proof.Proof.Gen.OutProjDx.Frame
public import proofs.«01_k».proof.Proof.Gen.OutProjDxIdeal
public import proofs.«01_k».proof.Proof.Gen.OutProjDxIdeal.Value
public import proofs.«01_k».proof.Proof.Gen.OutProjDxRefIdeal
public import proofs.«01_k».proof.Proof.Gen.OutProjDxRefIdeal.Run
public import proofs.«01_k».proof.Proof.Gen.InProjDw
public import proofs.«01_k».proof.Proof.Gen.InProjDw.Frame
public import proofs.«01_k».proof.Proof.Gen.InProjDwIdeal
public import proofs.«01_k».proof.Proof.Gen.InProjDwIdeal.Frame
public import proofs.«01_k».proof.Proof.Gen.InProjDwRefIdeal
public import proofs.«01_k».proof.Proof.Gen.InProjDwRefIdeal.Run
public import proofs.«01_k».proof.Proof.Gen.InProjDx
public import proofs.«01_k».proof.Proof.Gen.InProjDx.Frame
public import proofs.«01_k».proof.Proof.Gen.InProjDxIdeal
public import proofs.«01_k».proof.Proof.Gen.InProjDxIdeal.Value
public import proofs.«01_k».proof.Proof.Gen.InProjDxRefIdeal
public import proofs.«01_k».proof.Proof.Gen.InProjDxRefIdeal.Run
public import proofs.«01_k».proof.Proof.Gen.FfnUpDw
public import proofs.«01_k».proof.Proof.Gen.FfnUpDw.Frame
public import proofs.«01_k».proof.Proof.Gen.FfnUpDwIdeal
public import proofs.«01_k».proof.Proof.Gen.FfnUpDwIdeal.Frame
public import proofs.«01_k».proof.Proof.Gen.FfnUpDwRefIdeal
public import proofs.«01_k».proof.Proof.Gen.FfnUpDwRefIdeal.Run
public import proofs.«01_k».proof.Proof.Gen.FfnUpDx
public import proofs.«01_k».proof.Proof.Gen.FfnUpDx.Frame
public import proofs.«01_k».proof.Proof.Gen.FfnUpDxIdeal
public import proofs.«01_k».proof.Proof.Gen.FfnUpDxIdeal.Value
public import proofs.«01_k».proof.Proof.Gen.FfnUpDxRefIdeal
public import proofs.«01_k».proof.Proof.Gen.FfnUpDxRefIdeal.Run
public import proofs.«01_k».proof.Proof.Gen.FfnDownDw
public import proofs.«01_k».proof.Proof.Gen.FfnDownDw.Frame
public import proofs.«01_k».proof.Proof.Gen.FfnDownDwIdeal
public import proofs.«01_k».proof.Proof.Gen.FfnDownDwIdeal.Frame
public import proofs.«01_k».proof.Proof.Gen.FfnDownDwRefIdeal
public import proofs.«01_k».proof.Proof.Gen.FfnDownDwRefIdeal.Run
public import proofs.«01_k».proof.Proof.Gen.FfnDownDx
public import proofs.«01_k».proof.Proof.Gen.FfnDownDx.Frame
public import proofs.«01_k».proof.Proof.Gen.FfnDownDxIdeal
public import proofs.«01_k».proof.Proof.Gen.FfnDownDxIdeal.Frame
public import proofs.«01_k».proof.Proof.Gen.FfnDownDxRefIdeal
public import proofs.«01_k».proof.Proof.Gen.FfnDownDxRefIdeal.Run
public import proofs.«01_k».proof.Proof.Gen.Br
public import proofs.«01_k».proof.Proof.Gen.Br.Frame
public import proofs.«01_k».proof.Proof.Gen.BrIdeal
public import proofs.«01_k».proof.Proof.Gen.BrIdeal.Value
public import proofs.«01_k».proof.Proof.Gen.BrRefIdeal
public import proofs.«01_k».proof.Proof.Gen.BrRefIdeal.Run
public import proofs.«01_k».proof.Proof.Gen.BrDw
public import proofs.«01_k».proof.Proof.Gen.BrDw.Frame
public import proofs.«01_k».proof.Proof.Gen.BrDwIdeal
public import proofs.«01_k».proof.Proof.Gen.BrDwIdeal.Frame
public import proofs.«01_k».proof.Proof.Gen.BrDwRefIdeal
public import proofs.«01_k».proof.Proof.Gen.BrDwRefIdeal.Run
public import proofs.«01_k».proof.Proof.Gen.BrDx
public import proofs.«01_k».proof.Proof.Gen.BrDx.Frame
public import proofs.«01_k».proof.Proof.Gen.BrDxIdeal
public import proofs.«01_k».proof.Proof.Gen.BrDxIdeal.Value
public import proofs.«01_k».proof.Proof.Gen.BrDxRefIdeal
public import proofs.«01_k».proof.Proof.Gen.BrDxRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.Ln
public import proofs.«01_k».proof.Proof.Gen.Ln.Frame
public import proofs.«01_k».proof.Proof.Gen.LnIdeal
public import proofs.«01_k».proof.Proof.Gen.LnIdeal.Value
public import proofs.«01_k».proof.Proof.Gen.LnRefIdeal
public import proofs.«01_k».proof.Proof.Gen.LnRefIdeal.Run
public import proofs.«01_k».proof.Proof.Gen.LnBwd
public import proofs.«01_k».proof.Proof.Gen.LnBwd.Frame
public import proofs.«01_k».proof.Proof.Gen.LnBwdIdeal
public import proofs.«01_k».proof.Proof.Gen.LnBwdIdeal.Value
public import proofs.«01_k».proof.Proof.Gen.LnBwdRefIdeal
public import proofs.«01_k».proof.Proof.Gen.LnBwdRefIdeal.Run
public import proofs.«01_k».proof.Proof.Gen.SsdConv
public import proofs.«01_k».proof.Proof.Gen.SsdConv.Frame
public import proofs.«01_k».proof.Proof.Gen.SsdConvIdeal
public import proofs.«01_k».proof.Proof.Gen.SsdConvIdeal.Value
public import proofs.«01_k».proof.Proof.Gen.SsdConvRefIdeal
public import proofs.«01_k».proof.Proof.Gen.SsdConvRefIdeal.Run
public import proofs.«01_k».proof.Proof.Gen.GdnConv
public import proofs.«01_k».proof.Proof.Gen.GdnConv.Frame
public import proofs.«01_k».proof.Proof.Gen.GdnConvIdeal
public import proofs.«01_k».proof.Proof.Gen.GdnConvIdeal.Value
public import proofs.«01_k».proof.Proof.Gen.GdnConvRefIdeal
public import proofs.«01_k».proof.Proof.Gen.GdnConvRefIdeal.Run
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluRefIdeal
public import proofs.«01_k».proof.Proof.Gen.GluRefIdeal.Run
public import proofs.«01_k».proof.Proof.Frames
public import proofs.«01_k».proof.Proof.RefKeeps
public import proofs.«01_k».proof.Proof.Values
public import proofs.«01_k».proof.Proof.OutProjDwVal
public import proofs.«01_k».proof.Proof.OutProjDxVal
public import proofs.«01_k».proof.Proof.InProjDwVal
public import proofs.«01_k».proof.Proof.InProjDxVal
public import proofs.«01_k».proof.Proof.FfnUpDwVal
public import proofs.«01_k».proof.Proof.FfnUpDxVal
public import proofs.«01_k».proof.Proof.FfnDownDwVal
public import proofs.«01_k».proof.Proof.FfnDownDxVal
public import proofs.«01_k».proof.Proof.BrVal
public import proofs.«01_k».proof.Proof.BrDwVal
public import proofs.«01_k».proof.Proof.BrDxVal
public import proofs.«01_k».proof.Proof.OutProjVal
public import proofs.«01_k».proof.Proof.InProjVal
public import proofs.«01_k».proof.Proof.FfnUpVal
public import proofs.«01_k».proof.Proof.FfnDownVal
public import proofs.«01_k».proof.Proof.MergeVal
public import proofs.«01_k».proof.Proof.MergeBwdVal
public import proofs.«01_k».proof.Proof.LnVal
public import proofs.«01_k».proof.Proof.LnBwdVal
public import proofs.«01_k».proof.Proof.SsdConvVal
public import proofs.«01_k».proof.Proof.GdnConvVal
public import proofs.«01_k».proof.Proof.GluVal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.OutProjDw.Gen.facts, Cert.OutProjDwIdeal.Gen.facts, Cert.OutProjDwRefIdeal.Gen.facts, Cert.OutProjDx.Gen.facts,
  Cert.OutProjDxIdeal.Gen.facts, Cert.OutProjDxRefIdeal.Gen.facts, Cert.InProjDw.Gen.facts,
  Cert.InProjDwIdeal.Gen.facts, Cert.InProjDwRefIdeal.Gen.facts, Cert.InProjDx.Gen.facts, Cert.InProjDxIdeal.Gen.facts,
  Cert.InProjDxRefIdeal.Gen.facts, Cert.FfnUpDw.Gen.facts, Cert.FfnUpDwIdeal.Gen.facts, Cert.FfnUpDwRefIdeal.Gen.facts,
  Cert.FfnUpDx.Gen.facts, Cert.FfnUpDxIdeal.Gen.facts, Cert.FfnUpDxRefIdeal.Gen.facts, Cert.FfnDownDw.Gen.facts,
  Cert.FfnDownDwIdeal.Gen.facts, Cert.FfnDownDwRefIdeal.Gen.facts, Cert.FfnDownDx.Gen.facts,
  Cert.FfnDownDxIdeal.Gen.facts, Cert.FfnDownDxRefIdeal.Gen.facts, Cert.Br.Gen.facts, Cert.BrIdeal.Gen.facts,
  Cert.BrRefIdeal.Gen.facts, Cert.BrDw.Gen.facts, Cert.BrDwIdeal.Gen.facts, Cert.BrDwRefIdeal.Gen.facts,
  Cert.BrDx.Gen.facts, Cert.BrDxIdeal.Gen.facts, Cert.BrDxRefIdeal.Gen.facts, Cert.OutProj.Gen.facts,
  Cert.OutProjIdeal.Gen.facts, Cert.OutProjRefIdeal.Gen.facts, Cert.InProj.Gen.facts, Cert.InProjIdeal.Gen.facts,
  Cert.InProjRefIdeal.Gen.facts, Cert.FfnUp.Gen.facts, Cert.FfnUpIdeal.Gen.facts, Cert.FfnUpRefIdeal.Gen.facts,
  Cert.FfnDown.Gen.facts, Cert.FfnDownIdeal.Gen.facts, Cert.FfnDownRefIdeal.Gen.facts, Cert.Merge.Gen.facts,
  Cert.MergeIdeal.Gen.facts, Cert.MergeRefIdeal.Gen.facts, Cert.MergeBwd.Gen.facts, Cert.MergeBwdIdeal.Gen.facts,
  Cert.MergeBwdRefIdeal.Gen.facts, Cert.Ln.Gen.facts, Cert.LnIdeal.Gen.facts, Cert.LnRefIdeal.Gen.facts,
  Cert.LnBwd.Gen.facts, Cert.LnBwdIdeal.Gen.facts, Cert.LnBwdRefIdeal.Gen.facts, Cert.SsdConv.Gen.facts,
  Cert.SsdConvIdeal.Gen.facts, Cert.SsdConvRefIdeal.Gen.facts, Cert.GdnConv.Gen.facts, Cert.GdnConvIdeal.Gen.facts,
  Cert.GdnConvRefIdeal.Gen.facts, Cert.Glu.Gen.facts, Cert.GluIdeal.Gen.facts, Cert.GluRefIdeal.Gen.facts,
  Cert.Frames.kernel, Cert.Frames.kernelIdeal, Cert.ReferenceIdeal.Run.frame, Cert.OutProjDwIdeal.Val.quiescent,
  Cert.OutProjDwIdeal.Val.quiescent_ideal, Cert.OutProjDwIdeal.Val.quiescent_ref, Cert.OutProjDxIdeal.Val.quiescent,
  Cert.OutProjDxIdeal.Val.quiescent_ideal, Cert.OutProjDxIdeal.Val.quiescent_ref, Cert.InProjDwIdeal.Val.quiescent,
  Cert.InProjDwIdeal.Val.quiescent_ideal, Cert.InProjDwIdeal.Val.quiescent_ref, Cert.InProjDxIdeal.Val.quiescent,
  Cert.InProjDxIdeal.Val.quiescent_ideal, Cert.InProjDxIdeal.Val.quiescent_ref, Cert.FfnUpDwIdeal.Val.quiescent,
  Cert.FfnUpDwIdeal.Val.quiescent_ideal, Cert.FfnUpDwIdeal.Val.quiescent_ref, Cert.FfnUpDxIdeal.Val.quiescent,
  Cert.FfnUpDxIdeal.Val.quiescent_ideal, Cert.FfnUpDxIdeal.Val.quiescent_ref, Cert.FfnDownDwIdeal.Val.quiescent,
  Cert.FfnDownDwIdeal.Val.quiescent_ideal, Cert.FfnDownDwIdeal.Val.quiescent_ref, Cert.FfnDownDxIdeal.Val.quiescent,
  Cert.FfnDownDxIdeal.Val.quiescent_ideal, Cert.FfnDownDxIdeal.Val.quiescent_ref, Cert.BrIdeal.Val.quiescent,
  Cert.BrIdeal.Val.quiescent_ideal, Cert.BrIdeal.Val.quiescent_ref, Cert.BrDwIdeal.Val.quiescent,
  Cert.BrDwIdeal.Val.quiescent_ideal, Cert.BrDwIdeal.Val.quiescent_ref, Cert.BrDxIdeal.Val.quiescent,
  Cert.BrDxIdeal.Val.quiescent_ideal, Cert.BrDxIdeal.Val.quiescent_ref, Cert.OutProjIdeal.Val.quiescent,
  Cert.OutProjIdeal.Val.quiescent_ideal, Cert.OutProjIdeal.Val.quiescent_ref, Cert.InProjIdeal.Val.quiescent,
  Cert.InProjIdeal.Val.quiescent_ideal, Cert.InProjIdeal.Val.quiescent_ref, Cert.FfnUpIdeal.Val.quiescent,
  Cert.FfnUpIdeal.Val.quiescent_ideal, Cert.FfnUpIdeal.Val.quiescent_ref, Cert.FfnDownIdeal.Val.quiescent,
  Cert.FfnDownIdeal.Val.quiescent_ideal, Cert.FfnDownIdeal.Val.quiescent_ref, Cert.MergeIdeal.Val.quiescent,
  Cert.MergeIdeal.Val.quiescent_ideal, Cert.MergeIdeal.Val.quiescent_ref, Cert.MergeBwdIdeal.Val.quiescent,
  Cert.MergeBwdIdeal.Val.quiescent_ideal, Cert.MergeBwdIdeal.Val.quiescent_ref, Cert.LnIdeal.Val.quiescent,
  Cert.LnIdeal.Val.quiescent_ideal, Cert.LnIdeal.Val.quiescent_ref, Cert.LnBwdIdeal.Val.quiescent,
  Cert.LnBwdIdeal.Val.quiescent_ideal, Cert.LnBwdIdeal.Val.quiescent_ref, Cert.SsdConvIdeal.Val.quiescent,
  Cert.SsdConvIdeal.Val.quiescent_ideal, Cert.SsdConvIdeal.Val.quiescent_ref, Cert.GdnConvIdeal.Val.quiescent,
  Cert.GdnConvIdeal.Val.quiescent_ideal, Cert.GdnConvIdeal.Val.quiescent_ref, Cert.GluIdeal.Val.quiescent,
  Cert.GluIdeal.Val.quiescent_ideal, Cert.GluIdeal.Val.quiescent_ref, trivial, Cert.Values.algebraic, trivial,
  Cert.OutProjDwIdeal.Val.algebraic, trivial, Cert.OutProjDxIdeal.Val.algebraic, trivial,
  Cert.InProjDwIdeal.Val.algebraic, trivial, Cert.InProjDxIdeal.Val.algebraic, trivial, Cert.FfnUpDwIdeal.Val.algebraic,
  trivial, Cert.FfnUpDxIdeal.Val.algebraic, trivial, Cert.FfnDownDwIdeal.Val.algebraic, trivial,
  Cert.FfnDownDxIdeal.Val.algebraic, trivial, Cert.BrIdeal.Val.algebraic, trivial, Cert.BrDwIdeal.Val.algebraic,
  trivial, Cert.BrDxIdeal.Val.algebraic, trivial, Cert.OutProjIdeal.Val.algebraic, trivial,
  Cert.InProjIdeal.Val.algebraic, trivial, Cert.FfnUpIdeal.Val.algebraic, trivial, Cert.FfnDownIdeal.Val.algebraic,
  trivial, Cert.MergeIdeal.Val.algebraic, trivial, Cert.MergeBwdIdeal.Val.algebraic, trivial,
  Cert.LnIdeal.Val.algebraic, trivial, Cert.LnBwdIdeal.Val.algebraic, trivial, Cert.SsdConvIdeal.Val.algebraic, trivial,
  Cert.GdnConvIdeal.Val.algebraic, trivial, Cert.GluIdeal.Val.algebraic⟩

end Cert.Proof

end
